-- ==== Defs.lean ====
def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_GradFfnInKernel (m : (ℓ : Loc Cert.GradFfnInKernel.nD Cert.GradFfnInKernel.τ Cert.GradFfnInKernel.sig) → Buf (Elt Bits) ℓ) : Prop :=
  True

def Pre_GradFfnInKernelIdeal (m : (ℓ : Loc Cert.GradFfnInKernelIdeal.nD Cert.GradFfnInKernelIdeal.τ Cert.GradFfnInKernelIdeal.sig) → Buf (Elt Ideal) ℓ) : Prop :=
  True

def Pre_GradFfnInReferenceIdeal (m : (ℓ : Loc Cert.GradFfnInReferenceIdeal.nD Cert.GradFfnInReferenceIdeal.τ Cert.GradFfnInReferenceIdeal.sig) → Buf (Elt Ideal) ℓ) : Prop :=
  True

def Pre_GradFfnDownKernel (m : (ℓ : Loc Cert.GradFfnDownKernel.nD Cert.GradFfnDownKernel.τ Cert.GradFfnDownKernel.sig) → Buf (Elt Bits) ℓ) : Prop :=
  True

def Pre_GradFfnDownKernelIdeal (m : (ℓ : Loc Cert.GradFfnDownKernelIdeal.nD Cert.GradFfnDownKernelIdeal.τ Cert.GradFfnDownKernelIdeal.sig) → Buf (Elt Ideal) ℓ) : Prop :=
  True

def Pre_GradFfnDownReferenceIdeal (m : (ℓ : Loc Cert.GradFfnDownReferenceIdeal.nD Cert.GradFfnDownReferenceIdeal.τ Cert.GradFfnDownReferenceIdeal.sig) → Buf (Elt Ideal) ℓ) : Prop :=
  True

def Pre_GradOutKernel (m : (ℓ : Loc Cert.GradOutKernel.nD Cert.GradOutKernel.τ Cert.GradOutKernel.sig) → Buf (Elt Bits) ℓ) : Prop :=
  True

def Pre_GradOutKernelIdeal (m : (ℓ : Loc Cert.GradOutKernelIdeal.nD Cert.GradOutKernelIdeal.τ Cert.GradOutKernelIdeal.sig) → Buf (Elt Ideal) ℓ) : Prop :=
  True

def Pre_GradOutReferenceIdeal (m : (ℓ : Loc Cert.GradOutReferenceIdeal.nD Cert.GradOutReferenceIdeal.τ Cert.GradOutReferenceIdeal.sig) → Buf (Elt Ideal) ℓ) : Prop :=
  True

def Pre_GradBranchKernel (m : (ℓ : Loc Cert.GradBranchKernel.nD Cert.GradBranchKernel.τ Cert.GradBranchKernel.sig) → Buf (Elt Bits) ℓ) : Prop :=
  True

def Pre_GradBranchKernelIdeal (m : (ℓ : Loc Cert.GradBranchKernelIdeal.nD Cert.GradBranchKernelIdeal.τ Cert.GradBranchKernelIdeal.sig) → Buf (Elt Ideal) ℓ) : Prop :=
  True

def Pre_GradBranchReferenceIdeal (m : (ℓ : Loc Cert.GradBranchReferenceIdeal.nD Cert.GradBranchReferenceIdeal.τ Cert.GradBranchReferenceIdeal.sig) → Buf (Elt Ideal) ℓ) : Prop :=
  True

def Pre_GradInKernel (m : (ℓ : Loc Cert.GradInKernel.nD Cert.GradInKernel.τ Cert.GradInKernel.sig) → Buf (Elt Bits) ℓ) : Prop :=
  True

def Pre_GradInKernelIdeal (m : (ℓ : Loc Cert.GradInKernelIdeal.nD Cert.GradInKernelIdeal.τ Cert.GradInKernelIdeal.sig) → Buf (Elt Ideal) ℓ) : Prop :=
  True

def Pre_GradInReferenceIdeal (m : (ℓ : Loc Cert.GradInReferenceIdeal.nD Cert.GradInReferenceIdeal.τ Cert.GradInReferenceIdeal.sig) → Buf (Elt Ideal) ℓ) : Prop :=
  True

def Pre_FfnBwdKernel (m : (ℓ : Loc Cert.FfnBwdKernel.nD Cert.FfnBwdKernel.τ Cert.FfnBwdKernel.sig) → Buf (Elt Bits) ℓ) : Prop :=
  True

def Pre_FfnBwdKernelIdeal (m : (ℓ : Loc Cert.FfnBwdKernelIdeal.nD Cert.FfnBwdKernelIdeal.τ Cert.FfnBwdKernelIdeal.sig) → Buf (Elt Ideal) ℓ) : Prop :=
  True

def Pre_FfnBwdKernelIdeal_ffn_bwd_finite [hPre_ffn_bwd_finite : Cert.Pre_ffn_bwd_finite.Facts] (m : (ℓ : Loc Cert.FfnBwdKernelIdeal.nD Cert.FfnBwdKernelIdeal.τ Cert.FfnBwdKernelIdeal.sig) → Buf (Elt Ideal) ℓ) : Prop :=
  ∀ c : Dev Cert.FfnBwdKernelIdeal.nD,
    (Cert.Pre_ffn_bwd_finite.fn (F := Ideal) (m ((c.tc : Thread Cert.FfnBwdKernelIdeal.nD Cert.FfnBwdKernelIdeal.τ).loc Cert.FfnBwdKernelIdeal.main_arg0)) (m ((c.tc : Thread Cert.FfnBwdKernelIdeal.nD Cert.FfnBwdKernelIdeal.τ).loc Cert.FfnBwdKernelIdeal.main_arg1)) (m ((c.tc : Thread Cert.FfnBwdKernelIdeal.nD Cert.FfnBwdKernelIdeal.τ).loc Cert.FfnBwdKernelIdeal.main_arg2)) (m ((c.tc : Thread Cert.FfnBwdKernelIdeal.nD Cert.FfnBwdKernelIdeal.τ).loc Cert.FfnBwdKernelIdeal.main_arg3)) (m ((c.tc : Thread Cert.FfnBwdKernelIdeal.nD Cert.FfnBwdKernelIdeal.τ).loc Cert.FfnBwdKernelIdeal.main_arg4))).1 = (fun _ => 1#1)
    ∧ (Cert.Pre_ffn_bwd_finite.fn (F := Ideal) (m ((c.tc : Thread Cert.FfnBwdKernelIdeal.nD Cert.FfnBwdKernelIdeal.τ).loc Cert.FfnBwdKernelIdeal.main_arg0)) (m ((c.tc : Thread Cert.FfnBwdKernelIdeal.nD Cert.FfnBwdKernelIdeal.τ).loc Cert.FfnBwdKernelIdeal.main_arg1)) (m ((c.tc : Thread Cert.FfnBwdKernelIdeal.nD Cert.FfnBwdKernelIdeal.τ).loc Cert.FfnBwdKernelIdeal.main_arg2)) (m ((c.tc : Thread Cert.FfnBwdKernelIdeal.nD Cert.FfnBwdKernelIdeal.τ).loc Cert.FfnBwdKernelIdeal.main_arg3)) (m ((c.tc : Thread Cert.FfnBwdKernelIdeal.nD Cert.FfnBwdKernelIdeal.τ).loc Cert.FfnBwdKernelIdeal.main_arg4))).2.1 = (fun _ => 1#1)
    ∧ (Cert.Pre_ffn_bwd_finite.fn (F := Ideal) (m ((c.tc : Thread Cert.FfnBwdKernelIdeal.nD Cert.FfnBwdKernelIdeal.τ).loc Cert.FfnBwdKernelIdeal.main_arg0)) (m ((c.tc : Thread Cert.FfnBwdKernelIdeal.nD Cert.FfnBwdKernelIdeal.τ).loc Cert.FfnBwdKernelIdeal.main_arg1)) (m ((c.tc : Thread Cert.FfnBwdKernelIdeal.nD Cert.FfnBwdKernelIdeal.τ).loc Cert.FfnBwdKernelIdeal.main_arg2)) (m ((c.tc : Thread Cert.FfnBwdKernelIdeal.nD Cert.FfnBwdKernelIdeal.τ).loc Cert.FfnBwdKernelIdeal.main_arg3)) (m ((c.tc : Thread Cert.FfnBwdKernelIdeal.nD Cert.FfnBwdKernelIdeal.τ).loc Cert.FfnBwdKernelIdeal.main_arg4))).2.2.1 = (fun _ => 1#1)
    ∧ (Cert.Pre_ffn_bwd_finite.fn (F := Ideal) (m ((c.tc : Thread Cert.FfnBwdKernelIdeal.nD Cert.FfnBwdKernelIdeal.τ).loc Cert.FfnBwdKernelIdeal.main_arg0)) (m ((c.tc : Thread Cert.FfnBwdKernelIdeal.nD Cert.FfnBwdKernelIdeal.τ).loc Cert.FfnBwdKernelIdeal.main_arg1)) (m ((c.tc : Thread Cert.FfnBwdKernelIdeal.nD Cert.FfnBwdKernelIdeal.τ).loc Cert.FfnBwdKernelIdeal.main_arg2)) (m ((c.tc : Thread Cert.FfnBwdKernelIdeal.nD Cert.FfnBwdKernelIdeal.τ).loc Cert.FfnBwdKernelIdeal.main_arg3)) (m ((c.tc : Thread Cert.FfnBwdKernelIdeal.nD Cert.FfnBwdKernelIdeal.τ).loc Cert.FfnBwdKernelIdeal.main_arg4))).2.2.2.1 = (fun _ => 1#1)
    ∧ (Cert.Pre_ffn_bwd_finite.fn (F := Ideal) (m ((c.tc : Thread Cert.FfnBwdKernelIdeal.nD Cert.FfnBwdKernelIdeal.τ).loc Cert.FfnBwdKernelIdeal.main_arg0)) (m ((c.tc : Thread Cert.FfnBwdKernelIdeal.nD Cert.FfnBwdKernelIdeal.τ).loc Cert.FfnBwdKernelIdeal.main_arg1)) (m ((c.tc : Thread Cert.FfnBwdKernelIdeal.nD Cert.FfnBwdKernelIdeal.τ).loc Cert.FfnBwdKernelIdeal.main_arg2)) (m ((c.tc : Thread Cert.FfnBwdKernelIdeal.nD Cert.FfnBwdKernelIdeal.τ).loc Cert.FfnBwdKernelIdeal.main_arg3)) (m ((c.tc : Thread Cert.FfnBwdKernelIdeal.nD Cert.FfnBwdKernelIdeal.τ).loc Cert.FfnBwdKernelIdeal.main_arg4))).2.2.2.2 = (fun _ => 1#1)

def Pre_FfnBwdReferenceIdeal (m : (ℓ : Loc Cert.FfnBwdReferenceIdeal.nD Cert.FfnBwdReferenceIdeal.τ Cert.FfnBwdReferenceIdeal.sig) → Buf (Elt Ideal) ℓ) : Prop :=
  True

def Pre_FfnBwdReferenceIdeal_ffn_bwd_finite [hPre_ffn_bwd_finite : Cert.Pre_ffn_bwd_finite.Facts] (m : (ℓ : Loc Cert.FfnBwdReferenceIdeal.nD Cert.FfnBwdReferenceIdeal.τ Cert.FfnBwdReferenceIdeal.sig) → Buf (Elt Ideal) ℓ) : Prop :=
  ∀ c : Dev Cert.FfnBwdReferenceIdeal.nD,
    (Cert.Pre_ffn_bwd_finite.fn (F := Ideal) (m ((c.tc : Thread Cert.FfnBwdReferenceIdeal.nD Cert.FfnBwdReferenceIdeal.τ).loc Cert.FfnBwdReferenceIdeal.main_arg0)) (m ((c.tc : Thread Cert.FfnBwdReferenceIdeal.nD Cert.FfnBwdReferenceIdeal.τ).loc Cert.FfnBwdReferenceIdeal.main_arg1)) (m ((c.tc : Thread Cert.FfnBwdReferenceIdeal.nD Cert.FfnBwdReferenceIdeal.τ).loc Cert.FfnBwdReferenceIdeal.main_arg2)) (m ((c.tc : Thread Cert.FfnBwdReferenceIdeal.nD Cert.FfnBwdReferenceIdeal.τ).loc Cert.FfnBwdReferenceIdeal.main_arg3)) (m ((c.tc : Thread Cert.FfnBwdReferenceIdeal.nD Cert.FfnBwdReferenceIdeal.τ).loc Cert.FfnBwdReferenceIdeal.main_arg4))).1 = (fun _ => 1#1)
    ∧ (Cert.Pre_ffn_bwd_finite.fn (F := Ideal) (m ((c.tc : Thread Cert.FfnBwdReferenceIdeal.nD Cert.FfnBwdReferenceIdeal.τ).loc Cert.FfnBwdReferenceIdeal.main_arg0)) (m ((c.tc : Thread Cert.FfnBwdReferenceIdeal.nD Cert.FfnBwdReferenceIdeal.τ).loc Cert.FfnBwdReferenceIdeal.main_arg1)) (m ((c.tc : Thread Cert.FfnBwdReferenceIdeal.nD Cert.FfnBwdReferenceIdeal.τ).loc Cert.FfnBwdReferenceIdeal.main_arg2)) (m ((c.tc : Thread Cert.FfnBwdReferenceIdeal.nD Cert.FfnBwdReferenceIdeal.τ).loc Cert.FfnBwdReferenceIdeal.main_arg3)) (m ((c.tc : Thread Cert.FfnBwdReferenceIdeal.nD Cert.FfnBwdReferenceIdeal.τ).loc Cert.FfnBwdReferenceIdeal.main_arg4))).2.1 = (fun _ => 1#1)
    ∧ (Cert.Pre_ffn_bwd_finite.fn (F := Ideal) (m ((c.tc : Thread Cert.FfnBwdReferenceIdeal.nD Cert.FfnBwdReferenceIdeal.τ).loc Cert.FfnBwdReferenceIdeal.main_arg0)) (m ((c.tc : Thread Cert.FfnBwdReferenceIdeal.nD Cert.FfnBwdReferenceIdeal.τ).loc Cert.FfnBwdReferenceIdeal.main_arg1)) (m ((c.tc : Thread Cert.FfnBwdReferenceIdeal.nD Cert.FfnBwdReferenceIdeal.τ).loc Cert.FfnBwdReferenceIdeal.main_arg2)) (m ((c.tc : Thread Cert.FfnBwdReferenceIdeal.nD Cert.FfnBwdReferenceIdeal.τ).loc Cert.FfnBwdReferenceIdeal.main_arg3)) (m ((c.tc : Thread Cert.FfnBwdReferenceIdeal.nD Cert.FfnBwdReferenceIdeal.τ).loc Cert.FfnBwdReferenceIdeal.main_arg4))).2.2.1 = (fun _ => 1#1)
    ∧ (Cert.Pre_ffn_bwd_finite.fn (F := Ideal) (m ((c.tc : Thread Cert.FfnBwdReferenceIdeal.nD Cert.FfnBwdReferenceIdeal.τ).loc Cert.FfnBwdReferenceIdeal.main_arg0)) (m ((c.tc : Thread Cert.FfnBwdReferenceIdeal.nD Cert.FfnBwdReferenceIdeal.τ).loc Cert.FfnBwdReferenceIdeal.main_arg1)) (m ((c.tc : Thread Cert.FfnBwdReferenceIdeal.nD Cert.FfnBwdReferenceIdeal.τ).loc Cert.FfnBwdReferenceIdeal.main_arg2)) (m ((c.tc : Thread Cert.FfnBwdReferenceIdeal.nD Cert.FfnBwdReferenceIdeal.τ).loc Cert.FfnBwdReferenceIdeal.main_arg3)) (m ((c.tc : Thread Cert.FfnBwdReferenceIdeal.nD Cert.FfnBwdReferenceIdeal.τ).loc Cert.FfnBwdReferenceIdeal.main_arg4))).2.2.2.1 = (fun _ => 1#1)
    ∧ (Cert.Pre_ffn_bwd_finite.fn (F := Ideal) (m ((c.tc : Thread Cert.FfnBwdReferenceIdeal.nD Cert.FfnBwdReferenceIdeal.τ).loc Cert.FfnBwdReferenceIdeal.main_arg0)) (m ((c.tc : Thread Cert.FfnBwdReferenceIdeal.nD Cert.FfnBwdReferenceIdeal.τ).loc Cert.FfnBwdReferenceIdeal.main_arg1)) (m ((c.tc : Thread Cert.FfnBwdReferenceIdeal.nD Cert.FfnBwdReferenceIdeal.τ).loc Cert.FfnBwdReferenceIdeal.main_arg2)) (m ((c.tc : Thread Cert.FfnBwdReferenceIdeal.nD Cert.FfnBwdReferenceIdeal.τ).loc Cert.FfnBwdReferenceIdeal.main_arg3)) (m ((c.tc : Thread Cert.FfnBwdReferenceIdeal.nD Cert.FfnBwdReferenceIdeal.τ).loc Cert.FfnBwdReferenceIdeal.main_arg4))).2.2.2.2 = (fun _ => 1#1)

def Pre_InProjBwdKernel (m : (ℓ : Loc Cert.InProjBwdKernel.nD Cert.InProjBwdKernel.τ Cert.InProjBwdKernel.sig) → Buf (Elt Bits) ℓ) : Prop :=
  True

def Pre_InProjBwdKernelIdeal (m : (ℓ : Loc Cert.InProjBwdKernelIdeal.nD Cert.InProjBwdKernelIdeal.τ Cert.InProjBwdKernelIdeal.sig) → Buf (Elt Ideal) ℓ) : Prop :=
  True

def Pre_InProjBwdKernelIdeal_in_proj_bwd_finite [hPre_in_proj_bwd_finite : Cert.Pre_in_proj_bwd_finite.Facts] (m : (ℓ : Loc Cert.InProjBwdKernelIdeal.nD Cert.InProjBwdKernelIdeal.τ Cert.InProjBwdKernelIdeal.sig) → Buf (Elt Ideal) ℓ) : Prop :=
  ∀ c : Dev Cert.InProjBwdKernelIdeal.nD,
    (Cert.Pre_in_proj_bwd_finite.fn (F := Ideal) (m ((c.tc : Thread Cert.InProjBwdKernelIdeal.nD Cert.InProjBwdKernelIdeal.τ).loc Cert.InProjBwdKernelIdeal.main_arg0)) (m ((c.tc : Thread Cert.InProjBwdKernelIdeal.nD Cert.InProjBwdKernelIdeal.τ).loc Cert.InProjBwdKernelIdeal.main_arg1)) (m ((c.tc : Thread Cert.InProjBwdKernelIdeal.nD Cert.InProjBwdKernelIdeal.τ).loc Cert.InProjBwdKernelIdeal.main_arg2)) (m ((c.tc : Thread Cert.InProjBwdKernelIdeal.nD Cert.InProjBwdKernelIdeal.τ).loc Cert.InProjBwdKernelIdeal.main_arg3)) (m ((c.tc : Thread Cert.InProjBwdKernelIdeal.nD Cert.InProjBwdKernelIdeal.τ).loc Cert.InProjBwdKernelIdeal.main_arg4)) (m ((c.tc : Thread Cert.InProjBwdKernelIdeal.nD Cert.InProjBwdKernelIdeal.τ).loc Cert.InProjBwdKernelIdeal.main_arg5)) (m ((c.tc : Thread Cert.InProjBwdKernelIdeal.nD Cert.InProjBwdKernelIdeal.τ).loc Cert.InProjBwdKernelIdeal.main_arg6)) (m ((c.tc : Thread Cert.InProjBwdKernelIdeal.nD Cert.InProjBwdKernelIdeal.τ).loc Cert.InProjBwdKernelIdeal.main_arg7)) (m ((c.tc : Thread Cert.InProjBwdKernelIdeal.nD Cert.InProjBwdKernelIdeal.τ).loc Cert.InProjBwdKernelIdeal.main_arg8))).1 = (fun _ => 1#1)
    ∧ (Cert.Pre_in_proj_bwd_finite.fn (F := Ideal) (m ((c.tc : Thread Cert.InProjBwdKernelIdeal.nD Cert.InProjBwdKernelIdeal.τ).loc Cert.InProjBwdKernelIdeal.main_arg0)) (m ((c.tc : Thread Cert.InProjBwdKernelIdeal.nD Cert.InProjBwdKernelIdeal.τ).loc Cert.InProjBwdKernelIdeal.main_arg1)) (m ((c.tc : Thread Cert.InProjBwdKernelIdeal.nD Cert.InProjBwdKernelIdeal.τ).loc Cert.InProjBwdKernelIdeal.main_arg2)) (m ((c.tc : Thread Cert.InProjBwdKernelIdeal.nD Cert.InProjBwdKernelIdeal.τ).loc Cert.InProjBwdKernelIdeal.main_arg3)) (m ((c.tc : Thread Cert.InProjBwdKernelIdeal.nD Cert.InProjBwdKernelIdeal.τ).loc Cert.InProjBwdKernelIdeal.main_arg4)) (m ((c.tc : Thread Cert.InProjBwdKernelIdeal.nD Cert.InProjBwdKernelIdeal.τ).loc Cert.InProjBwdKernelIdeal.main_arg5)) (m ((c.tc : Thread Cert.InProjBwdKernelIdeal.nD Cert.InProjBwdKernelIdeal.τ).loc Cert.InProjBwdKernelIdeal.main_arg6)) (m ((c.tc : Thread Cert.InProjBwdKernelIdeal.nD Cert.InProjBwdKernelIdeal.τ).loc Cert.InProjBwdKernelIdeal.main_arg7)) (m ((c.tc : Thread Cert.InProjBwdKernelIdeal.nD Cert.InProjBwdKernelIdeal.τ).loc Cert.InProjBwdKernelIdeal.main_arg8))).2.1 = (fun _ => 1#1)
    ∧ (Cert.Pre_in_proj_bwd_finite.fn (F := Ideal) (m ((c.tc : Thread Cert.InProjBwdKernelIdeal.nD Cert.InProjBwdKernelIdeal.τ).loc Cert.InProjBwdKernelIdeal.main_arg0)) (m ((c.tc : Thread Cert.InProjBwdKernelIdeal.nD Cert.InProjBwdKernelIdeal.τ).loc Cert.InProjBwdKernelIdeal.main_arg1)) (m ((c.tc : Thread Cert.InProjBwdKernelIdeal.nD Cert.InProjBwdKernelIdeal.τ).loc Cert.InProjBwdKernelIdeal.main_arg2)) (m ((c.tc : Thread Cert.InProjBwdKernelIdeal.nD Cert.InProjBwdKernelIdeal.τ).loc Cert.InProjBwdKernelIdeal.main_arg3)) (m ((c.tc : Thread Cert.InProjBwdKernelIdeal.nD Cert.InProjBwdKernelIdeal.τ).loc Cert.InProjBwdKernelIdeal.main_arg4)) (m ((c.tc : Thread Cert.InProjBwdKernelIdeal.nD Cert.InProjBwdKernelIdeal.τ).loc Cert.InProjBwdKernelIdeal.main_arg5)) (m ((c.tc : Thread Cert.InProjBwdKernelIdeal.nD Cert.InProjBwdKernelIdeal.τ).loc Cert.InProjBwdKernelIdeal.main_arg6)) (m ((c.tc : Thread Cert.InProjBwdKernelIdeal.nD Cert.InProjBwdKernelIdeal.τ).loc Cert.InProjBwdKernelIdeal.main_arg7)) (m ((c.tc : Thread Cert.InProjBwdKernelIdeal.nD Cert.InProjBwdKernelIdeal.τ).loc Cert.InProjBwdKernelIdeal.main_arg8))).2.2.1 = (fun _ => 1#1)
    ∧ (Cert.Pre_in_proj_bwd_finite.fn (F := Ideal) (m ((c.tc : Thread Cert.InProjBwdKernelIdeal.nD Cert.InProjBwdKernelIdeal.τ).loc Cert.InProjBwdKernelIdeal.main_arg0)) (m ((c.tc : Thread Cert.InProjBwdKernelIdeal.nD Cert.InProjBwdKernelIdeal.τ).loc Cert.InProjBwdKernelIdeal.main_arg1)) (m ((c.tc : Thread Cert.InProjBwdKernelIdeal.nD Cert.InProjBwdKernelIdeal.τ).loc Cert.InProjBwdKernelIdeal.main_arg2)) (m ((c.tc : Thread Cert.InProjBwdKernelIdeal.nD Cert.InProjBwdKernelIdeal.τ).loc Cert.InProjBwdKernelIdeal.main_arg3)) (m ((c.tc : Thread Cert.InProjBwdKernelIdeal.nD Cert.InProjBwdKernelIdeal.τ).loc Cert.InProjBwdKernelIdeal.main_arg4)) (m ((c.tc : Thread Cert.InProjBwdKernelIdeal.nD Cert.InProjBwdKernelIdeal.τ).loc Cert.InProjBwdKernelIdeal.main_arg5)) (m ((c.tc : Thread Cert.InProjBwdKernelIdeal.nD Cert.InProjBwdKernelIdeal.τ).loc Cert.InProjBwdKernelIdeal.main_arg6)) (m ((c.tc : Thread Cert.InProjBwdKernelIdeal.nD Cert.InProjBwdKernelIdeal.τ).loc Cert.InProjBwdKernelIdeal.main_arg7)) (m ((c.tc : Thread Cert.InProjBwdKernelIdeal.nD Cert.InProjBwdKernelIdeal.τ).loc Cert.InProjBwdKernelIdeal.main_arg8))).2.2.2.1 = (fun _ => 1#1)
    ∧ (Cert.Pre_in_proj_bwd_finite.fn (F := Ideal) (m ((c.tc : Thread Cert.InProjBwdKernelIdeal.nD Cert.InProjBwdKernelIdeal.τ).loc Cert.InProjBwdKernelIdeal.main_arg0)) (m ((c.tc : Thread Cert.InProjBwdKernelIdeal.nD Cert.InProjBwdKernelIdeal.τ).loc Cert.InProjBwdKernelIdeal.main_arg1)) (m ((c.tc : Thread Cert.InProjBwdKernelIdeal.nD Cert.InProjBwdKernelIdeal.τ).loc Cert.InProjBwdKernelIdeal.main_arg2)) (m ((c.tc : Thread Cert.InProjBwdKernelIdeal.nD Cert.InProjBwdKernelIdeal.τ).loc Cert.InProjBwdKernelIdeal.main_arg3)) (m ((c.tc : Thread Cert.InProjBwdKernelIdeal.nD Cert.InProjBwdKernelIdeal.τ).loc Cert.InProjBwdKernelIdeal.main_arg4)) (m ((c.tc : Thread Cert.InProjBwdKernelIdeal.nD Cert.InProjBwdKernelIdeal.τ).loc Cert.InProjBwdKernelIdeal.main_arg5)) (m ((c.tc : Thread Cert.InProjBwdKernelIdeal.nD Cert.InProjBwdKernelIdeal.τ).loc Cert.InProjBwdKernelIdeal.main_arg6)) (m ((c.tc : Thread Cert.InProjBwdKernelIdeal.nD Cert.InProjBwdKernelIdeal.τ).loc Cert.InProjBwdKernelIdeal.main_arg7)) (m ((c.tc : Thread Cert.InProjBwdKernelIdeal.nD Cert.InProjBwdKernelIdeal.τ).loc Cert.InProjBwdKernelIdeal.main_arg8))).2.2.2.2.1 = (fun _ => 1#1)
    ∧ (Cert.Pre_in_proj_bwd_finite.fn (F := Ideal) (m ((c.tc : Thread Cert.InProjBwdKernelIdeal.nD Cert.InProjBwdKernelIdeal.τ).loc Cert.InProjBwdKernelIdeal.main_arg0)) (m ((c.tc : Thread Cert.InProjBwdKernelIdeal.nD Cert.InProjBwdKernelIdeal.τ).loc Cert.InProjBwdKernelIdeal.main_arg1)) (m ((c.tc : Thread Cert.InProjBwdKernelIdeal.nD Cert.InProjBwdKernelIdeal.τ).loc Cert.InProjBwdKernelIdeal.main_arg2)) (m ((c.tc : Thread Cert.InProjBwdKernelIdeal.nD Cert.InProjBwdKernelIdeal.τ).loc Cert.InProjBwdKernelIdeal.main_arg3)) (m ((c.tc : Thread Cert.InProjBwdKernelIdeal.nD Cert.InProjBwdKernelIdeal.τ).loc Cert.InProjBwdKernelIdeal.main_arg4)) (m ((c.tc : Thread Cert.InProjBwdKernelIdeal.nD Cert.InProjBwdKernelIdeal.τ).loc Cert.InProjBwdKernelIdeal.main_arg5)) (m ((c.tc : Thread Cert.InProjBwdKernelIdeal.nD Cert.InProjBwdKernelIdeal.τ).loc Cert.InProjBwdKernelIdeal.main_arg6)) (m ((c.tc : Thread Cert.InProjBwdKernelIdeal.nD Cert.InProjBwdKernelIdeal.τ).loc Cert.InProjBwdKernelIdeal.main_arg7)) (m ((c.tc : Thread Cert.InProjBwdKernelIdeal.nD Cert.InProjBwdKernelIdeal.τ).loc Cert.InProjBwdKernelIdeal.main_arg8))).2.2.2.2.2.1 = (fun _ => 1#1)
    ∧ (Cert.Pre_in_proj_bwd_finite.fn (F := Ideal) (m ((c.tc : Thread Cert.InProjBwdKernelIdeal.nD Cert.InProjBwdKernelIdeal.τ).loc Cert.InProjBwdKernelIdeal.main_arg0)) (m ((c.tc : Thread Cert.InProjBwdKernelIdeal.nD Cert.InProjBwdKernelIdeal.τ).loc Cert.InProjBwdKernelIdeal.main_arg1)) (m ((c.tc : Thread Cert.InProjBwdKernelIdeal.nD Cert.InProjBwdKernelIdeal.τ).loc Cert.InProjBwdKernelIdeal.main_arg2)) (m ((c.tc : Thread Cert.InProjBwdKernelIdeal.nD Cert.InProjBwdKernelIdeal.τ).loc Cert.InProjBwdKernelIdeal.main_arg3)) (m ((c.tc : Thread Cert.InProjBwdKernelIdeal.nD Cert.InProjBwdKernelIdeal.τ).loc Cert.InProjBwdKernelIdeal.main_arg4)) (m ((c.tc : Thread Cert.InProjBwdKernelIdeal.nD Cert.InProjBwdKernelIdeal.τ).loc Cert.InProjBwdKernelIdeal.main_arg5)) (m ((c.tc : Thread Cert.InProjBwdKernelIdeal.nD Cert.InProjBwdKernelIdeal.τ).loc Cert.InProjBwdKernelIdeal.main_arg6)) (m ((c.tc : Thread Cert.InProjBwdKernelIdeal.nD Cert.InProjBwdKernelIdeal.τ).loc Cert.InProjBwdKernelIdeal.main_arg7)) (m ((c.tc : Thread Cert.InProjBwdKernelIdeal.nD Cert.InProjBwdKernelIdeal.τ).loc Cert.InProjBwdKernelIdeal.main_arg8))).2.2.2.2.2.2 = (fun _ => 1#1)

def Pre_InProjBwdReferenceIdeal (m : (ℓ : Loc Cert.InProjBwdReferenceIdeal.nD Cert.InProjBwdReferenceIdeal.τ Cert.InProjBwdReferenceIdeal.sig) → Buf (Elt Ideal) ℓ) : Prop :=
  True

def Pre_InProjBwdReferenceIdeal_in_proj_bwd_finite [hPre_in_proj_bwd_finite : Cert.Pre_in_proj_bwd_finite.Facts] (m : (ℓ : Loc Cert.InProjBwdReferenceIdeal.nD Cert.InProjBwdReferenceIdeal.τ Cert.InProjBwdReferenceIdeal.sig) → Buf (Elt Ideal) ℓ) : Prop :=
  ∀ c : Dev Cert.InProjBwdReferenceIdeal.nD,
    (Cert.Pre_in_proj_bwd_finite.fn (F := Ideal) (m ((c.tc : Thread Cert.InProjBwdReferenceIdeal.nD Cert.InProjBwdReferenceIdeal.τ).loc Cert.InProjBwdReferenceIdeal.main_arg0)) (m ((c.tc : Thread Cert.InProjBwdReferenceIdeal.nD Cert.InProjBwdReferenceIdeal.τ).loc Cert.InProjBwdReferenceIdeal.main_arg1)) (m ((c.tc : Thread Cert.InProjBwdReferenceIdeal.nD Cert.InProjBwdReferenceIdeal.τ).loc Cert.InProjBwdReferenceIdeal.main_arg2)) (m ((c.tc : Thread Cert.InProjBwdReferenceIdeal.nD Cert.InProjBwdReferenceIdeal.τ).loc Cert.InProjBwdReferenceIdeal.main_arg3)) (m ((c.tc : Thread Cert.InProjBwdReferenceIdeal.nD Cert.InProjBwdReferenceIdeal.τ).loc Cert.InProjBwdReferenceIdeal.main_arg4)) (m ((c.tc : Thread Cert.InProjBwdReferenceIdeal.nD Cert.InProjBwdReferenceIdeal.τ).loc Cert.InProjBwdReferenceIdeal.main_arg5)) (m ((c.tc : Thread Cert.InProjBwdReferenceIdeal.nD Cert.InProjBwdReferenceIdeal.τ).loc Cert.InProjBwdReferenceIdeal.main_arg6)) (m ((c.tc : Thread Cert.InProjBwdReferenceIdeal.nD Cert.InProjBwdReferenceIdeal.τ).loc Cert.InProjBwdReferenceIdeal.main_arg7)) (m ((c.tc : Thread Cert.InProjBwdReferenceIdeal.nD Cert.InProjBwdReferenceIdeal.τ).loc Cert.InProjBwdReferenceIdeal.main_arg8))).1 = (fun _ => 1#1)
    ∧ (Cert.Pre_in_proj_bwd_finite.fn (F := Ideal) (m ((c.tc : Thread Cert.InProjBwdReferenceIdeal.nD Cert.InProjBwdReferenceIdeal.τ).loc Cert.InProjBwdReferenceIdeal.main_arg0)) (m ((c.tc : Thread Cert.InProjBwdReferenceIdeal.nD Cert.InProjBwdReferenceIdeal.τ).loc Cert.InProjBwdReferenceIdeal.main_arg1)) (m ((c.tc : Thread Cert.InProjBwdReferenceIdeal.nD Cert.InProjBwdReferenceIdeal.τ).loc Cert.InProjBwdReferenceIdeal.main_arg2)) (m ((c.tc : Thread Cert.InProjBwdReferenceIdeal.nD Cert.InProjBwdReferenceIdeal.τ).loc Cert.InProjBwdReferenceIdeal.main_arg3)) (m ((c.tc : Thread Cert.InProjBwdReferenceIdeal.nD Cert.InProjBwdReferenceIdeal.τ).loc Cert.InProjBwdReferenceIdeal.main_arg4)) (m ((c.tc : Thread Cert.InProjBwdReferenceIdeal.nD Cert.InProjBwdReferenceIdeal.τ).loc Cert.InProjBwdReferenceIdeal.main_arg5)) (m ((c.tc : Thread Cert.InProjBwdReferenceIdeal.nD Cert.InProjBwdReferenceIdeal.τ).loc Cert.InProjBwdReferenceIdeal.main_arg6)) (m ((c.tc : Thread Cert.InProjBwdReferenceIdeal.nD Cert.InProjBwdReferenceIdeal.τ).loc Cert.InProjBwdReferenceIdeal.main_arg7)) (m ((c.tc : Thread Cert.InProjBwdReferenceIdeal.nD Cert.InProjBwdReferenceIdeal.τ).loc Cert.InProjBwdReferenceIdeal.main_arg8))).2.1 = (fun _ => 1#1)
    ∧ (Cert.Pre_in_proj_bwd_finite.fn (F := Ideal) (m ((c.tc : Thread Cert.InProjBwdReferenceIdeal.nD Cert.InProjBwdReferenceIdeal.τ).loc Cert.InProjBwdReferenceIdeal.main_arg0)) (m ((c.tc : Thread Cert.InProjBwdReferenceIdeal.nD Cert.InProjBwdReferenceIdeal.τ).loc Cert.InProjBwdReferenceIdeal.main_arg1)) (m ((c.tc : Thread Cert.InProjBwdReferenceIdeal.nD Cert.InProjBwdReferenceIdeal.τ).loc Cert.InProjBwdReferenceIdeal.main_arg2)) (m ((c.tc : Thread Cert.InProjBwdReferenceIdeal.nD Cert.InProjBwdReferenceIdeal.τ).loc Cert.InProjBwdReferenceIdeal.main_arg3)) (m ((c.tc : Thread Cert.InProjBwdReferenceIdeal.nD Cert.InProjBwdReferenceIdeal.τ).loc Cert.InProjBwdReferenceIdeal.main_arg4)) (m ((c.tc : Thread Cert.InProjBwdReferenceIdeal.nD Cert.InProjBwdReferenceIdeal.τ).loc Cert.InProjBwdReferenceIdeal.main_arg5)) (m ((c.tc : Thread Cert.InProjBwdReferenceIdeal.nD Cert.InProjBwdReferenceIdeal.τ).loc Cert.InProjBwdReferenceIdeal.main_arg6)) (m ((c.tc : Thread Cert.InProjBwdReferenceIdeal.nD Cert.InProjBwdReferenceIdeal.τ).loc Cert.InProjBwdReferenceIdeal.main_arg7)) (m ((c.tc : Thread Cert.InProjBwdReferenceIdeal.nD Cert.InProjBwdReferenceIdeal.τ).loc Cert.InProjBwdReferenceIdeal.main_arg8))).2.2.1 = (fun _ => 1#1)
    ∧ (Cert.Pre_in_proj_bwd_finite.fn (F := Ideal) (m ((c.tc : Thread Cert.InProjBwdReferenceIdeal.nD Cert.InProjBwdReferenceIdeal.τ).loc Cert.InProjBwdReferenceIdeal.main_arg0)) (m ((c.tc : Thread Cert.InProjBwdReferenceIdeal.nD Cert.InProjBwdReferenceIdeal.τ).loc Cert.InProjBwdReferenceIdeal.main_arg1)) (m ((c.tc : Thread Cert.InProjBwdReferenceIdeal.nD Cert.InProjBwdReferenceIdeal.τ).loc Cert.InProjBwdReferenceIdeal.main_arg2)) (m ((c.tc : Thread Cert.InProjBwdReferenceIdeal.nD Cert.InProjBwdReferenceIdeal.τ).loc Cert.InProjBwdReferenceIdeal.main_arg3)) (m ((c.tc : Thread Cert.InProjBwdReferenceIdeal.nD Cert.InProjBwdReferenceIdeal.τ).loc Cert.InProjBwdReferenceIdeal.main_arg4)) (m ((c.tc : Thread Cert.InProjBwdReferenceIdeal.nD Cert.InProjBwdReferenceIdeal.τ).loc Cert.InProjBwdReferenceIdeal.main_arg5)) (m ((c.tc : Thread Cert.InProjBwdReferenceIdeal.nD Cert.InProjBwdReferenceIdeal.τ).loc Cert.InProjBwdReferenceIdeal.main_arg6)) (m ((c.tc : Thread Cert.InProjBwdReferenceIdeal.nD Cert.InProjBwdReferenceIdeal.τ).loc Cert.InProjBwdReferenceIdeal.main_arg7)) (m ((c.tc : Thread Cert.InProjBwdReferenceIdeal.nD Cert.InProjBwdReferenceIdeal.τ).loc Cert.InProjBwdReferenceIdeal.main_arg8))).2.2.2.1 = (fun _ => 1#1)
    ∧ (Cert.Pre_in_proj_bwd_finite.fn (F := Ideal) (m ((c.tc : Thread Cert.InProjBwdReferenceIdeal.nD Cert.InProjBwdReferenceIdeal.τ).loc Cert.InProjBwdReferenceIdeal.main_arg0)) (m ((c.tc : Thread Cert.InProjBwdReferenceIdeal.nD Cert.InProjBwdReferenceIdeal.τ).loc Cert.InProjBwdReferenceIdeal.main_arg1)) (m ((c.tc : Thread Cert.InProjBwdReferenceIdeal.nD Cert.InProjBwdReferenceIdeal.τ).loc Cert.InProjBwdReferenceIdeal.main_arg2)) (m ((c.tc : Thread Cert.InProjBwdReferenceIdeal.nD Cert.InProjBwdReferenceIdeal.τ).loc Cert.InProjBwdReferenceIdeal.main_arg3)) (m ((c.tc : Thread Cert.InProjBwdReferenceIdeal.nD Cert.InProjBwdReferenceIdeal.τ).loc Cert.InProjBwdReferenceIdeal.main_arg4)) (m ((c.tc : Thread Cert.InProjBwdReferenceIdeal.nD Cert.InProjBwdReferenceIdeal.τ).loc Cert.InProjBwdReferenceIdeal.main_arg5)) (m ((c.tc : Thread Cert.InProjBwdReferenceIdeal.nD Cert.InProjBwdReferenceIdeal.τ).loc Cert.InProjBwdReferenceIdeal.main_arg6)) (m ((c.tc : Thread Cert.InProjBwdReferenceIdeal.nD Cert.InProjBwdReferenceIdeal.τ).loc Cert.InProjBwdReferenceIdeal.main_arg7)) (m ((c.tc : Thread Cert.InProjBwdReferenceIdeal.nD Cert.InProjBwdReferenceIdeal.τ).loc Cert.InProjBwdReferenceIdeal.main_arg8))).2.2.2.2.1 = (fun _ => 1#1)
    ∧ (Cert.Pre_in_proj_bwd_finite.fn (F := Ideal) (m ((c.tc : Thread Cert.InProjBwdReferenceIdeal.nD Cert.InProjBwdReferenceIdeal.τ).loc Cert.InProjBwdReferenceIdeal.main_arg0)) (m ((c.tc : Thread Cert.InProjBwdReferenceIdeal.nD Cert.InProjBwdReferenceIdeal.τ).loc Cert.InProjBwdReferenceIdeal.main_arg1)) (m ((c.tc : Thread Cert.InProjBwdReferenceIdeal.nD Cert.InProjBwdReferenceIdeal.τ).loc Cert.InProjBwdReferenceIdeal.main_arg2)) (m ((c.tc : Thread Cert.InProjBwdReferenceIdeal.nD Cert.InProjBwdReferenceIdeal.τ).loc Cert.InProjBwdReferenceIdeal.main_arg3)) (m ((c.tc : Thread Cert.InProjBwdReferenceIdeal.nD Cert.InProjBwdReferenceIdeal.τ).loc Cert.InProjBwdReferenceIdeal.main_arg4)) (m ((c.tc : Thread Cert.InProjBwdReferenceIdeal.nD Cert.InProjBwdReferenceIdeal.τ).loc Cert.InProjBwdReferenceIdeal.main_arg5)) (m ((c.tc : Thread Cert.InProjBwdReferenceIdeal.nD Cert.InProjBwdReferenceIdeal.τ).loc Cert.InProjBwdReferenceIdeal.main_arg6)) (m ((c.tc : Thread Cert.InProjBwdReferenceIdeal.nD Cert.InProjBwdReferenceIdeal.τ).loc Cert.InProjBwdReferenceIdeal.main_arg7)) (m ((c.tc : Thread Cert.InProjBwdReferenceIdeal.nD Cert.InProjBwdReferenceIdeal.τ).loc Cert.InProjBwdReferenceIdeal.main_arg8))).2.2.2.2.2.1 = (fun _ => 1#1)
    ∧ (Cert.Pre_in_proj_bwd_finite.fn (F := Ideal) (m ((c.tc : Thread Cert.InProjBwdReferenceIdeal.nD Cert.InProjBwdReferenceIdeal.τ).loc Cert.InProjBwdReferenceIdeal.main_arg0)) (m ((c.tc : Thread Cert.InProjBwdReferenceIdeal.nD Cert.InProjBwdReferenceIdeal.τ).loc Cert.InProjBwdReferenceIdeal.main_arg1)) (m ((c.tc : Thread Cert.InProjBwdReferenceIdeal.nD Cert.InProjBwdReferenceIdeal.τ).loc Cert.InProjBwdReferenceIdeal.main_arg2)) (m ((c.tc : Thread Cert.InProjBwdReferenceIdeal.nD Cert.InProjBwdReferenceIdeal.τ).loc Cert.InProjBwdReferenceIdeal.main_arg3)) (m ((c.tc : Thread Cert.InProjBwdReferenceIdeal.nD Cert.InProjBwdReferenceIdeal.τ).loc Cert.InProjBwdReferenceIdeal.main_arg4)) (m ((c.tc : Thread Cert.InProjBwdReferenceIdeal.nD Cert.InProjBwdReferenceIdeal.τ).loc Cert.InProjBwdReferenceIdeal.main_arg5)) (m ((c.tc : Thread Cert.InProjBwdReferenceIdeal.nD Cert.InProjBwdReferenceIdeal.τ).loc Cert.InProjBwdReferenceIdeal.main_arg6)) (m ((c.tc : Thread Cert.InProjBwdReferenceIdeal.nD Cert.InProjBwdReferenceIdeal.τ).loc Cert.InProjBwdReferenceIdeal.main_arg7)) (m ((c.tc : Thread Cert.InProjBwdReferenceIdeal.nD Cert.InProjBwdReferenceIdeal.τ).loc Cert.InProjBwdReferenceIdeal.main_arg8))).2.2.2.2.2.2 = (fun _ => 1#1)

def Pre_FfnOutLossKernel (m : (ℓ : Loc Cert.FfnOutLossKernel.nD Cert.FfnOutLossKernel.τ Cert.FfnOutLossKernel.sig) → Buf (Elt Bits) ℓ) : Prop :=
  True

def Pre_FfnOutLossKernelIdeal (m : (ℓ : Loc Cert.FfnOutLossKernelIdeal.nD Cert.FfnOutLossKernelIdeal.τ Cert.FfnOutLossKernelIdeal.sig) → Buf (Elt Ideal) ℓ) : Prop :=
  True

def Pre_FfnOutLossKernelIdeal_ffn_out_loss_finite [hPre_ffn_out_loss_finite : Cert.Pre_ffn_out_loss_finite.Facts] (m : (ℓ : Loc Cert.FfnOutLossKernelIdeal.nD Cert.FfnOutLossKernelIdeal.τ Cert.FfnOutLossKernelIdeal.sig) → Buf (Elt Ideal) ℓ) : Prop :=
  ∀ c : Dev Cert.FfnOutLossKernelIdeal.nD,
    (Cert.Pre_ffn_out_loss_finite.fn (F := Ideal) (m ((c.tc : Thread Cert.FfnOutLossKernelIdeal.nD Cert.FfnOutLossKernelIdeal.τ).loc Cert.FfnOutLossKernelIdeal.main_arg0)) (m ((c.tc : Thread Cert.FfnOutLossKernelIdeal.nD Cert.FfnOutLossKernelIdeal.τ).loc Cert.FfnOutLossKernelIdeal.main_arg1)) (m ((c.tc : Thread Cert.FfnOutLossKernelIdeal.nD Cert.FfnOutLossKernelIdeal.τ).loc Cert.FfnOutLossKernelIdeal.main_arg2)) (m ((c.tc : Thread Cert.FfnOutLossKernelIdeal.nD Cert.FfnOutLossKernelIdeal.τ).loc Cert.FfnOutLossKernelIdeal.main_arg3)) (m ((c.tc : Thread Cert.FfnOutLossKernelIdeal.nD Cert.FfnOutLossKernelIdeal.τ).loc Cert.FfnOutLossKernelIdeal.main_arg4))).1 = (fun _ => 1#1)
    ∧ (Cert.Pre_ffn_out_loss_finite.fn (F := Ideal) (m ((c.tc : Thread Cert.FfnOutLossKernelIdeal.nD Cert.FfnOutLossKernelIdeal.τ).loc Cert.FfnOutLossKernelIdeal.main_arg0)) (m ((c.tc : Thread Cert.FfnOutLossKernelIdeal.nD Cert.FfnOutLossKernelIdeal.τ).loc Cert.FfnOutLossKernelIdeal.main_arg1)) (m ((c.tc : Thread Cert.FfnOutLossKernelIdeal.nD Cert.FfnOutLossKernelIdeal.τ).loc Cert.FfnOutLossKernelIdeal.main_arg2)) (m ((c.tc : Thread Cert.FfnOutLossKernelIdeal.nD Cert.FfnOutLossKernelIdeal.τ).loc Cert.FfnOutLossKernelIdeal.main_arg3)) (m ((c.tc : Thread Cert.FfnOutLossKernelIdeal.nD Cert.FfnOutLossKernelIdeal.τ).loc Cert.FfnOutLossKernelIdeal.main_arg4))).2.1 = (fun _ => 1#1)
    ∧ (Cert.Pre_ffn_out_loss_finite.fn (F := Ideal) (m ((c.tc : Thread Cert.FfnOutLossKernelIdeal.nD Cert.FfnOutLossKernelIdeal.τ).loc Cert.FfnOutLossKernelIdeal.main_arg0)) (m ((c.tc : Thread Cert.FfnOutLossKernelIdeal.nD Cert.FfnOutLossKernelIdeal.τ).loc Cert.FfnOutLossKernelIdeal.main_arg1)) (m ((c.tc : Thread Cert.FfnOutLossKernelIdeal.nD Cert.FfnOutLossKernelIdeal.τ).loc Cert.FfnOutLossKernelIdeal.main_arg2)) (m ((c.tc : Thread Cert.FfnOutLossKernelIdeal.nD Cert.FfnOutLossKernelIdeal.τ).loc Cert.FfnOutLossKernelIdeal.main_arg3)) (m ((c.tc : Thread Cert.FfnOutLossKernelIdeal.nD Cert.FfnOutLossKernelIdeal.τ).loc Cert.FfnOutLossKernelIdeal.main_arg4))).2.2.1 = (fun _ => 1#1)
    ∧ (Cert.Pre_ffn_out_loss_finite.fn (F := Ideal) (m ((c.tc : Thread Cert.FfnOutLossKernelIdeal.nD Cert.FfnOutLossKernelIdeal.τ).loc Cert.FfnOutLossKernelIdeal.main_arg0)) (m ((c.tc : Thread Cert.FfnOutLossKernelIdeal.nD Cert.FfnOutLossKernelIdeal.τ).loc Cert.FfnOutLossKernelIdeal.main_arg1)) (m ((c.tc : Thread Cert.FfnOutLossKernelIdeal.nD Cert.FfnOutLossKernelIdeal.τ).loc Cert.FfnOutLossKernelIdeal.main_arg2)) (m ((c.tc : Thread Cert.FfnOutLossKernelIdeal.nD Cert.FfnOutLossKernelIdeal.τ).loc Cert.FfnOutLossKernelIdeal.main_arg3)) (m ((c.tc : Thread Cert.FfnOutLossKernelIdeal.nD Cert.FfnOutLossKernelIdeal.τ).loc Cert.FfnOutLossKernelIdeal.main_arg4))).2.2.2.1 = (fun _ => 1#1)
    ∧ (Cert.Pre_ffn_out_loss_finite.fn (F := Ideal) (m ((c.tc : Thread Cert.FfnOutLossKernelIdeal.nD Cert.FfnOutLossKernelIdeal.τ).loc Cert.FfnOutLossKernelIdeal.main_arg0)) (m ((c.tc : Thread Cert.FfnOutLossKernelIdeal.nD Cert.FfnOutLossKernelIdeal.τ).loc Cert.FfnOutLossKernelIdeal.main_arg1)) (m ((c.tc : Thread Cert.FfnOutLossKernelIdeal.nD Cert.FfnOutLossKernelIdeal.τ).loc Cert.FfnOutLossKernelIdeal.main_arg2)) (m ((c.tc : Thread Cert.FfnOutLossKernelIdeal.nD Cert.FfnOutLossKernelIdeal.τ).loc Cert.FfnOutLossKernelIdeal.main_arg3)) (m ((c.tc : Thread Cert.FfnOutLossKernelIdeal.nD Cert.FfnOutLossKernelIdeal.τ).loc Cert.FfnOutLossKernelIdeal.main_arg4))).2.2.2.2 = (fun _ => 1#1)

def Pre_FfnOutLossReferenceIdeal (m : (ℓ : Loc Cert.FfnOutLossReferenceIdeal.nD Cert.FfnOutLossReferenceIdeal.τ Cert.FfnOutLossReferenceIdeal.sig) → Buf (Elt Ideal) ℓ) : Prop :=
  True

def Pre_FfnOutLossReferenceIdeal_ffn_out_loss_finite [hPre_ffn_out_loss_finite : Cert.Pre_ffn_out_loss_finite.Facts] (m : (ℓ : Loc Cert.FfnOutLossReferenceIdeal.nD Cert.FfnOutLossReferenceIdeal.τ Cert.FfnOutLossReferenceIdeal.sig) → Buf (Elt Ideal) ℓ) : Prop :=
  ∀ c : Dev Cert.FfnOutLossReferenceIdeal.nD,
    (Cert.Pre_ffn_out_loss_finite.fn (F := Ideal) (m ((c.tc : Thread Cert.FfnOutLossReferenceIdeal.nD Cert.FfnOutLossReferenceIdeal.τ).loc Cert.FfnOutLossReferenceIdeal.main_arg0)) (m ((c.tc : Thread Cert.FfnOutLossReferenceIdeal.nD Cert.FfnOutLossReferenceIdeal.τ).loc Cert.FfnOutLossReferenceIdeal.main_arg1)) (m ((c.tc : Thread Cert.FfnOutLossReferenceIdeal.nD Cert.FfnOutLossReferenceIdeal.τ).loc Cert.FfnOutLossReferenceIdeal.main_arg2)) (m ((c.tc : Thread Cert.FfnOutLossReferenceIdeal.nD Cert.FfnOutLossReferenceIdeal.τ).loc Cert.FfnOutLossReferenceIdeal.main_arg3)) (m ((c.tc : Thread Cert.FfnOutLossReferenceIdeal.nD Cert.FfnOutLossReferenceIdeal.τ).loc Cert.FfnOutLossReferenceIdeal.main_arg4))).1 = (fun _ => 1#1)
    ∧ (Cert.Pre_ffn_out_loss_finite.fn (F := Ideal) (m ((c.tc : Thread Cert.FfnOutLossReferenceIdeal.nD Cert.FfnOutLossReferenceIdeal.τ).loc Cert.FfnOutLossReferenceIdeal.main_arg0)) (m ((c.tc : Thread Cert.FfnOutLossReferenceIdeal.nD Cert.FfnOutLossReferenceIdeal.τ).loc Cert.FfnOutLossReferenceIdeal.main_arg1)) (m ((c.tc : Thread Cert.FfnOutLossReferenceIdeal.nD Cert.FfnOutLossReferenceIdeal.τ).loc Cert.FfnOutLossReferenceIdeal.main_arg2)) (m ((c.tc : Thread Cert.FfnOutLossReferenceIdeal.nD Cert.FfnOutLossReferenceIdeal.τ).loc Cert.FfnOutLossReferenceIdeal.main_arg3)) (m ((c.tc : Thread Cert.FfnOutLossReferenceIdeal.nD Cert.FfnOutLossReferenceIdeal.τ).loc Cert.FfnOutLossReferenceIdeal.main_arg4))).2.1 = (fun _ => 1#1)
    ∧ (Cert.Pre_ffn_out_loss_finite.fn (F := Ideal) (m ((c.tc : Thread Cert.FfnOutLossReferenceIdeal.nD Cert.FfnOutLossReferenceIdeal.τ).loc Cert.FfnOutLossReferenceIdeal.main_arg0)) (m ((c.tc : Thread Cert.FfnOutLossReferenceIdeal.nD Cert.FfnOutLossReferenceIdeal.τ).loc Cert.FfnOutLossReferenceIdeal.main_arg1)) (m ((c.tc : Thread Cert.FfnOutLossReferenceIdeal.nD Cert.FfnOutLossReferenceIdeal.τ).loc Cert.FfnOutLossReferenceIdeal.main_arg2)) (m ((c.tc : Thread Cert.FfnOutLossReferenceIdeal.nD Cert.FfnOutLossReferenceIdeal.τ).loc Cert.FfnOutLossReferenceIdeal.main_arg3)) (m ((c.tc : Thread Cert.FfnOutLossReferenceIdeal.nD Cert.FfnOutLossReferenceIdeal.τ).loc Cert.FfnOutLossReferenceIdeal.main_arg4))).2.2.1 = (fun _ => 1#1)
    ∧ (Cert.Pre_ffn_out_loss_finite.fn (F := Ideal) (m ((c.tc : Thread Cert.FfnOutLossReferenceIdeal.nD Cert.FfnOutLossReferenceIdeal.τ).loc Cert.FfnOutLossReferenceIdeal.main_arg0)) (m ((c.tc : Thread Cert.FfnOutLossReferenceIdeal.nD Cert.FfnOutLossReferenceIdeal.τ).loc Cert.FfnOutLossReferenceIdeal.main_arg1)) (m ((c.tc : Thread Cert.FfnOutLossReferenceIdeal.nD Cert.FfnOutLossReferenceIdeal.τ).loc Cert.FfnOutLossReferenceIdeal.main_arg2)) (m ((c.tc : Thread Cert.FfnOutLossReferenceIdeal.nD Cert.FfnOutLossReferenceIdeal.τ).loc Cert.FfnOutLossReferenceIdeal.main_arg3)) (m ((c.tc : Thread Cert.FfnOutLossReferenceIdeal.nD Cert.FfnOutLossReferenceIdeal.τ).loc Cert.FfnOutLossReferenceIdeal.main_arg4))).2.2.2.1 = (fun _ => 1#1)
    ∧ (Cert.Pre_ffn_out_loss_finite.fn (F := Ideal) (m ((c.tc : Thread Cert.FfnOutLossReferenceIdeal.nD Cert.FfnOutLossReferenceIdeal.τ).loc Cert.FfnOutLossReferenceIdeal.main_arg0)) (m ((c.tc : Thread Cert.FfnOutLossReferenceIdeal.nD Cert.FfnOutLossReferenceIdeal.τ).loc Cert.FfnOutLossReferenceIdeal.main_arg1)) (m ((c.tc : Thread Cert.FfnOutLossReferenceIdeal.nD Cert.FfnOutLossReferenceIdeal.τ).loc Cert.FfnOutLossReferenceIdeal.main_arg2)) (m ((c.tc : Thread Cert.FfnOutLossReferenceIdeal.nD Cert.FfnOutLossReferenceIdeal.τ).loc Cert.FfnOutLossReferenceIdeal.main_arg3)) (m ((c.tc : Thread Cert.FfnOutLossReferenceIdeal.nD Cert.FfnOutLossReferenceIdeal.τ).loc Cert.FfnOutLossReferenceIdeal.main_arg4))).2.2.2.2 = (fun _ => 1#1)

def Pre_InProjKernel (m : (ℓ : Loc Cert.InProjKernel.nD Cert.InProjKernel.τ Cert.InProjKernel.sig) → Buf (Elt Bits) ℓ) : Prop :=
  True

def Pre_InProjKernelIdeal (m : (ℓ : Loc Cert.InProjKernelIdeal.nD Cert.InProjKernelIdeal.τ Cert.InProjKernelIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_FfnInFirstKernel (m : (ℓ : Loc Cert.FfnInFirstKernel.nD Cert.FfnInFirstKernel.τ Cert.FfnInFirstKernel.sig) → Buf (Elt Bits) ℓ) : Prop :=
  True

def Pre_FfnInFirstKernelIdeal (m : (ℓ : Loc Cert.FfnInFirstKernelIdeal.nD Cert.FfnInFirstKernelIdeal.τ Cert.FfnInFirstKernelIdeal.sig) → Buf (Elt Ideal) ℓ) : Prop :=
  True

def Pre_FfnInFirstReferenceIdeal (m : (ℓ : Loc Cert.FfnInFirstReferenceIdeal.nD Cert.FfnInFirstReferenceIdeal.τ Cert.FfnInFirstReferenceIdeal.sig) → Buf (Elt Ideal) ℓ) : Prop :=
  True

def Pre_FfnInSecondKernel (m : (ℓ : Loc Cert.FfnInSecondKernel.nD Cert.FfnInSecondKernel.τ Cert.FfnInSecondKernel.sig) → Buf (Elt Bits) ℓ) : Prop :=
  True

def Pre_FfnInSecondKernelIdeal (m : (ℓ : Loc Cert.FfnInSecondKernelIdeal.nD Cert.FfnInSecondKernelIdeal.τ Cert.FfnInSecondKernelIdeal.sig) → Buf (Elt Ideal) ℓ) : Prop :=
  True

def Pre_FfnInSecondReferenceIdeal (m : (ℓ : Loc Cert.FfnInSecondReferenceIdeal.nD Cert.FfnInSecondReferenceIdeal.τ Cert.FfnInSecondReferenceIdeal.sig) → Buf (Elt Ideal) ℓ) : Prop :=
  True

def Pre_MixOutFirstKernel (m : (ℓ : Loc Cert.MixOutFirstKernel.nD Cert.MixOutFirstKernel.τ Cert.MixOutFirstKernel.sig) → Buf (Elt Bits) ℓ) : Prop :=
  True

def Pre_MixOutFirstKernelIdeal (m : (ℓ : Loc Cert.MixOutFirstKernelIdeal.nD Cert.MixOutFirstKernelIdeal.τ Cert.MixOutFirstKernelIdeal.sig) → Buf (Elt Ideal) ℓ) : Prop :=
  True

def Pre_MixOutFirstReferenceIdeal (m : (ℓ : Loc Cert.MixOutFirstReferenceIdeal.nD Cert.MixOutFirstReferenceIdeal.τ Cert.MixOutFirstReferenceIdeal.sig) → Buf (Elt Ideal) ℓ) : Prop :=
  True

def Pre_MixOutSecondKernel (m : (ℓ : Loc Cert.MixOutSecondKernel.nD Cert.MixOutSecondKernel.τ Cert.MixOutSecondKernel.sig) → Buf (Elt Bits) ℓ) : Prop :=
  True

def Pre_MixOutSecondKernelIdeal (m : (ℓ : Loc Cert.MixOutSecondKernelIdeal.nD Cert.MixOutSecondKernelIdeal.τ Cert.MixOutSecondKernelIdeal.sig) → Buf (Elt Ideal) ℓ) : Prop :=
  True

def Pre_MixOutSecondReferenceIdeal (m : (ℓ : Loc Cert.MixOutSecondReferenceIdeal.nD Cert.MixOutSecondReferenceIdeal.τ Cert.MixOutSecondReferenceIdeal.sig) → Buf (Elt Ideal) ℓ) : Prop :=
  True

def Pre_AttnFwdKernel (m : (ℓ : Loc Cert.AttnFwdKernel.nD Cert.AttnFwdKernel.τ Cert.AttnFwdKernel.sig) → Buf (Elt Bits) ℓ) : Prop :=
  True

def Pre_AttnFwdKernelIdeal (m : (ℓ : Loc Cert.AttnFwdKernelIdeal.nD Cert.AttnFwdKernelIdeal.τ Cert.AttnFwdKernelIdeal.sig) → Buf (Elt Ideal) ℓ) : Prop :=
  True

def Pre_AttnFwdKernelIdeal_attn_fwd_finite [hPre_attn_fwd_finite : Cert.Pre_attn_fwd_finite.Facts] (m : (ℓ : Loc Cert.AttnFwdKernelIdeal.nD Cert.AttnFwdKernelIdeal.τ Cert.AttnFwdKernelIdeal.sig) → Buf (Elt Ideal) ℓ) : Prop :=
  ∀ c : Dev Cert.AttnFwdKernelIdeal.nD,
    (Cert.Pre_attn_fwd_finite.fn (F := Ideal) (m ((c.tc : Thread Cert.AttnFwdKernelIdeal.nD Cert.AttnFwdKernelIdeal.τ).loc Cert.AttnFwdKernelIdeal.main_arg0)) (m ((c.tc : Thread Cert.AttnFwdKernelIdeal.nD Cert.AttnFwdKernelIdeal.τ).loc Cert.AttnFwdKernelIdeal.main_arg1))).1 = (fun _ => 1#1)
    ∧ (Cert.Pre_attn_fwd_finite.fn (F := Ideal) (m ((c.tc : Thread Cert.AttnFwdKernelIdeal.nD Cert.AttnFwdKernelIdeal.τ).loc Cert.AttnFwdKernelIdeal.main_arg0)) (m ((c.tc : Thread Cert.AttnFwdKernelIdeal.nD Cert.AttnFwdKernelIdeal.τ).loc Cert.AttnFwdKernelIdeal.main_arg1))).2 = (fun _ => 1#1)

def Pre_AttnFwdReferenceIdeal (m : (ℓ : Loc Cert.AttnFwdReferenceIdeal.nD Cert.AttnFwdReferenceIdeal.τ Cert.AttnFwdReferenceIdeal.sig) → Buf (Elt Ideal) ℓ) : Prop :=
  True

def Pre_AttnFwdReferenceIdeal_attn_fwd_finite [hPre_attn_fwd_finite : Cert.Pre_attn_fwd_finite.Facts] (m : (ℓ : Loc Cert.AttnFwdReferenceIdeal.nD Cert.AttnFwdReferenceIdeal.τ Cert.AttnFwdReferenceIdeal.sig) → Buf (Elt Ideal) ℓ) : Prop :=
  ∀ c : Dev Cert.AttnFwdReferenceIdeal.nD,
    (Cert.Pre_attn_fwd_finite.fn (F := Ideal) (m ((c.tc : Thread Cert.AttnFwdReferenceIdeal.nD Cert.AttnFwdReferenceIdeal.τ).loc Cert.AttnFwdReferenceIdeal.main_arg0)) (m ((c.tc : Thread Cert.AttnFwdReferenceIdeal.nD Cert.AttnFwdReferenceIdeal.τ).loc Cert.AttnFwdReferenceIdeal.main_arg1))).1 = (fun _ => 1#1)
    ∧ (Cert.Pre_attn_fwd_finite.fn (F := Ideal) (m ((c.tc : Thread Cert.AttnFwdReferenceIdeal.nD Cert.AttnFwdReferenceIdeal.τ).loc Cert.AttnFwdReferenceIdeal.main_arg0)) (m ((c.tc : Thread Cert.AttnFwdReferenceIdeal.nD Cert.AttnFwdReferenceIdeal.τ).loc Cert.AttnFwdReferenceIdeal.main_arg1))).2 = (fun _ => 1#1)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7))
      ∧ r.2.sem = fun _ => 0)

def quiescent_GradFfnInKernel [hGradFfnInKernel : Cert.GradFfnInKernel.Facts] : Prop :=
  ∀ (m : (ℓ : Loc Cert.GradFfnInKernel.nD Cert.GradFfnInKernel.τ Cert.GradFfnInKernel.sig) → Buf (Elt Bits) ℓ) (g : Dev Cert.GradFfnInKernel.nD → PrngReg), Pre_GradFfnInKernel m →
    θ_run (Cert.GradFfnInKernel.defs (F := Bits)) (onTc (τ := Cert.GradFfnInKernel.τ) (Cert.GradFfnInKernel.main (F := Bits))) ⟨m, fun _ => 0, g⟩ (fun r => (∀ c : Dev Cert.GradFfnInKernel.nD,
      r.2.mem ((c.tc : Thread Cert.GradFfnInKernel.nD Cert.GradFfnInKernel.τ).loc Cert.GradFfnInKernel.main_arg0) = m ((c.tc : Thread Cert.GradFfnInKernel.nD Cert.GradFfnInKernel.τ).loc Cert.GradFfnInKernel.main_arg0)
      ∧ r.2.mem ((c.tc : Thread Cert.GradFfnInKernel.nD Cert.GradFfnInKernel.τ).loc Cert.GradFfnInKernel.main_arg1) = m ((c.tc : Thread Cert.GradFfnInKernel.nD Cert.GradFfnInKernel.τ).loc Cert.GradFfnInKernel.main_arg1)
      ∧ r.2.mem ((c.tc : Thread Cert.GradFfnInKernel.nD Cert.GradFfnInKernel.τ).loc Cert.GradFfnInKernel.main_arg2) = m ((c.tc : Thread Cert.GradFfnInKernel.nD Cert.GradFfnInKernel.τ).loc Cert.GradFfnInKernel.main_arg2))
      ∧ r.2.sem = fun _ => 0)

def quiescent_GradFfnInKernelIdeal [hGradFfnInKernelIdeal : Cert.GradFfnInKernelIdeal.Facts] : Prop :=
  ∀ (m : (ℓ : Loc Cert.GradFfnInKernelIdeal.nD Cert.GradFfnInKernelIdeal.τ Cert.GradFfnInKernelIdeal.sig) → Buf (Elt Ideal) ℓ) (g : Dev Cert.GradFfnInKernelIdeal.nD → PrngReg), Pre_GradFfnInKernelIdeal m →
    θ_run (Cert.GradFfnInKernelIdeal.defs (F := Ideal)) (onTc (τ := Cert.GradFfnInKernelIdeal.τ) (Cert.GradFfnInKernelIdeal.main (F := Ideal))) ⟨m, fun _ => 0, g⟩ (fun r => (∀ c : Dev Cert.GradFfnInKernelIdeal.nD,
      r.2.mem ((c.tc : Thread Cert.GradFfnInKernelIdeal.nD Cert.GradFfnInKernelIdeal.τ).loc Cert.GradFfnInKernelIdeal.main_arg0) = m ((c.tc : Thread Cert.GradFfnInKernelIdeal.nD Cert.GradFfnInKernelIdeal.τ).loc Cert.GradFfnInKernelIdeal.main_arg0)
      ∧ r.2.mem ((c.tc : Thread Cert.GradFfnInKernelIdeal.nD Cert.GradFfnInKernelIdeal.τ).loc Cert.GradFfnInKernelIdeal.main_arg1) = m ((c.tc : Thread Cert.GradFfnInKernelIdeal.nD Cert.GradFfnInKernelIdeal.τ).loc Cert.GradFfnInKernelIdeal.main_arg1)
      ∧ r.2.mem ((c.tc : Thread Cert.GradFfnInKernelIdeal.nD Cert.GradFfnInKernelIdeal.τ).loc Cert.GradFfnInKernelIdeal.main_arg2) = m ((c.tc : Thread Cert.GradFfnInKernelIdeal.nD Cert.GradFfnInKernelIdeal.τ).loc Cert.GradFfnInKernelIdeal.main_arg2))
      ∧ r.2.sem = fun _ => 0)

def quiescent_GradFfnInReferenceIdeal [hGradFfnInReferenceIdeal : Cert.GradFfnInReferenceIdeal.Facts] : Prop :=
  ∀ (m : (ℓ : Loc Cert.GradFfnInReferenceIdeal.nD Cert.GradFfnInReferenceIdeal.τ Cert.GradFfnInReferenceIdeal.sig) → Buf (Elt Ideal) ℓ) (g : Dev Cert.GradFfnInReferenceIdeal.nD → PrngReg), Pre_GradFfnInReferenceIdeal m →
    θ_run (Cert.GradFfnInReferenceIdeal.defs (F := Ideal)) (onTc (τ := Cert.GradFfnInReferenceIdeal.τ) (Cert.GradFfnInReferenceIdeal.main (F := Ideal))) ⟨m, fun _ => 0, g⟩ (fun r => (∀ c : Dev Cert.GradFfnInReferenceIdeal.nD,
      r.2.mem ((c.tc : Thread Cert.GradFfnInReferenceIdeal.nD Cert.GradFfnInReferenceIdeal.τ).loc Cert.GradFfnInReferenceIdeal.main_arg0) = m ((c.tc : Thread Cert.GradFfnInReferenceIdeal.nD Cert.GradFfnInReferenceIdeal.τ).loc Cert.GradFfnInReferenceIdeal.main_arg0)
      ∧ r.2.mem ((c.tc : Thread Cert.GradFfnInReferenceIdeal.nD Cert.GradFfnInReferenceIdeal.τ).loc Cert.GradFfnInReferenceIdeal.main_arg1) = m ((c.tc : Thread Cert.GradFfnInReferenceIdeal.nD Cert.GradFfnInReferenceIdeal.τ).loc Cert.GradFfnInReferenceIdeal.main_arg1)
      ∧ r.2.mem ((c.tc : Thread Cert.GradFfnInReferenceIdeal.nD Cert.GradFfnInReferenceIdeal.τ).loc Cert.GradFfnInReferenceIdeal.main_arg2) = m ((c.tc : Thread Cert.GradFfnInReferenceIdeal.nD Cert.GradFfnInReferenceIdeal.τ).loc Cert.GradFfnInReferenceIdeal.main_arg2))
      ∧ r.2.sem = fun _ => 0)

def quiescent_GradFfnDownKernel [hGradFfnDownKernel : Cert.GradFfnDownKernel.Facts] : Prop :=
  ∀ (m : (ℓ : Loc Cert.GradFfnDownKernel.nD Cert.GradFfnDownKernel.τ Cert.GradFfnDownKernel.sig) → Buf (Elt Bits) ℓ) (g : Dev Cert.GradFfnDownKernel.nD → PrngReg), Pre_GradFfnDownKernel m →
    θ_run (Cert.GradFfnDownKernel.defs (F := Bits)) (onTc (τ := Cert.GradFfnDownKernel.τ) (Cert.GradFfnDownKernel.main (F := Bits))) ⟨m, fun _ => 0, g⟩ (fun r => (∀ c : Dev Cert.GradFfnDownKernel.nD,
      r.2.mem ((c.tc : Thread Cert.GradFfnDownKernel.nD Cert.GradFfnDownKernel.τ).loc Cert.GradFfnDownKernel.main_arg0) = m ((c.tc : Thread Cert.GradFfnDownKernel.nD Cert.GradFfnDownKernel.τ).loc Cert.GradFfnDownKernel.main_arg0)
      ∧ r.2.mem ((c.tc : Thread Cert.GradFfnDownKernel.nD Cert.GradFfnDownKernel.τ).loc Cert.GradFfnDownKernel.main_arg1) = m ((c.tc : Thread Cert.GradFfnDownKernel.nD Cert.GradFfnDownKernel.τ).loc Cert.GradFfnDownKernel.main_arg1))
      ∧ r.2.sem = fun _ => 0)

def quiescent_GradFfnDownKernelIdeal [hGradFfnDownKernelIdeal : Cert.GradFfnDownKernelIdeal.Facts] : Prop :=
  ∀ (m : (ℓ : Loc Cert.GradFfnDownKernelIdeal.nD Cert.GradFfnDownKernelIdeal.τ Cert.GradFfnDownKernelIdeal.sig) → Buf (Elt Ideal) ℓ) (g : Dev Cert.GradFfnDownKernelIdeal.nD → PrngReg), Pre_GradFfnDownKernelIdeal m →
    θ_run (Cert.GradFfnDownKernelIdeal.defs (F := Ideal)) (onTc (τ := Cert.GradFfnDownKernelIdeal.τ) (Cert.GradFfnDownKernelIdeal.main (F := Ideal))) ⟨m, fun _ => 0, g⟩ (fun r => (∀ c : Dev Cert.GradFfnDownKernelIdeal.nD,
      r.2.mem ((c.tc : Thread Cert.GradFfnDownKernelIdeal.nD Cert.GradFfnDownKernelIdeal.τ).loc Cert.GradFfnDownKernelIdeal.main_arg0) = m ((c.tc : Thread Cert.GradFfnDownKernelIdeal.nD Cert.GradFfnDownKernelIdeal.τ).loc Cert.GradFfnDownKernelIdeal.main_arg0)
      ∧ r.2.mem ((c.tc : Thread Cert.GradFfnDownKernelIdeal.nD Cert.GradFfnDownKernelIdeal.τ).loc Cert.GradFfnDownKernelIdeal.main_arg1) = m ((c.tc : Thread Cert.GradFfnDownKernelIdeal.nD Cert.GradFfnDownKernelIdeal.τ).loc Cert.GradFfnDownKernelIdeal.main_arg1))
      ∧ r.2.sem = fun _ => 0)

def quiescent_GradFfnDownReferenceIdeal [hGradFfnDownReferenceIdeal : Cert.GradFfnDownReferenceIdeal.Facts] : Prop :=
  ∀ (m : (ℓ : Loc Cert.GradFfnDownReferenceIdeal.nD Cert.GradFfnDownReferenceIdeal.τ Cert.GradFfnDownReferenceIdeal.sig) → Buf (Elt Ideal) ℓ) (g : Dev Cert.GradFfnDownReferenceIdeal.nD → PrngReg), Pre_GradFfnDownReferenceIdeal m →
    θ_run (Cert.GradFfnDownReferenceIdeal.defs (F := Ideal)) (onTc (τ := Cert.GradFfnDownReferenceIdeal.τ) (Cert.GradFfnDownReferenceIdeal.main (F := Ideal))) ⟨m, fun _ => 0, g⟩ (fun r => (∀ c : Dev Cert.GradFfnDownReferenceIdeal.nD,
      r.2.mem ((c.tc : Thread Cert.GradFfnDownReferenceIdeal.nD Cert.GradFfnDownReferenceIdeal.τ).loc Cert.GradFfnDownReferenceIdeal.main_arg0) = m ((c.tc : Thread Cert.GradFfnDownReferenceIdeal.nD Cert.GradFfnDownReferenceIdeal.τ).loc Cert.GradFfnDownReferenceIdeal.main_arg0)
      ∧ r.2.mem ((c.tc : Thread Cert.GradFfnDownReferenceIdeal.nD Cert.GradFfnDownReferenceIdeal.τ).loc Cert.GradFfnDownReferenceIdeal.main_arg1) = m ((c.tc : Thread Cert.GradFfnDownReferenceIdeal.nD Cert.GradFfnDownReferenceIdeal.τ).loc Cert.GradFfnDownReferenceIdeal.main_arg1))
      ∧ r.2.sem = fun _ => 0)

def quiescent_GradOutKernel [hGradOutKernel : Cert.GradOutKernel.Facts] : Prop :=
  ∀ (m : (ℓ : Loc Cert.GradOutKernel.nD Cert.GradOutKernel.τ Cert.GradOutKernel.sig) → Buf (Elt Bits) ℓ) (g : Dev Cert.GradOutKernel.nD → PrngReg), Pre_GradOutKernel m →
    θ_run (Cert.GradOutKernel.defs (F := Bits)) (onTc (τ := Cert.GradOutKernel.τ) (Cert.GradOutKernel.main (F := Bits))) ⟨m, fun _ => 0, g⟩ (fun r => (∀ c : Dev Cert.GradOutKernel.nD,
      r.2.mem ((c.tc : Thread Cert.GradOutKernel.nD Cert.GradOutKernel.τ).loc Cert.GradOutKernel.main_arg0) = m ((c.tc : Thread Cert.GradOutKernel.nD Cert.GradOutKernel.τ).loc Cert.GradOutKernel.main_arg0)
      ∧ r.2.mem ((c.tc : Thread Cert.GradOutKernel.nD Cert.GradOutKernel.τ).loc Cert.GradOutKernel.main_arg1) = m ((c.tc : Thread Cert.GradOutKernel.nD Cert.GradOutKernel.τ).loc Cert.GradOutKernel.main_arg1)
      ∧ r.2.mem ((c.tc : Thread Cert.GradOutKernel.nD Cert.GradOutKernel.τ).loc Cert.GradOutKernel.main_arg2) = m ((c.tc : Thread Cert.GradOutKernel.nD Cert.GradOutKernel.τ).loc Cert.GradOutKernel.main_arg2))
      ∧ r.2.sem = fun _ => 0)

def quiescent_GradOutKernelIdeal [hGradOutKernelIdeal : Cert.GradOutKernelIdeal.Facts] : Prop :=
  ∀ (m : (ℓ : Loc Cert.GradOutKernelIdeal.nD Cert.GradOutKernelIdeal.τ Cert.GradOutKernelIdeal.sig) → Buf (Elt Ideal) ℓ) (g : Dev Cert.GradOutKernelIdeal.nD → PrngReg), Pre_GradOutKernelIdeal m →
    θ_run (Cert.GradOutKernelIdeal.defs (F := Ideal)) (onTc (τ := Cert.GradOutKernelIdeal.τ) (Cert.GradOutKernelIdeal.main (F := Ideal))) ⟨m, fun _ => 0, g⟩ (fun r => (∀ c : Dev Cert.GradOutKernelIdeal.nD,
      r.2.mem ((c.tc : Thread Cert.GradOutKernelIdeal.nD Cert.GradOutKernelIdeal.τ).loc Cert.GradOutKernelIdeal.main_arg0) = m ((c.tc : Thread Cert.GradOutKernelIdeal.nD Cert.GradOutKernelIdeal.τ).loc Cert.GradOutKernelIdeal.main_arg0)
      ∧ r.2.mem ((c.tc : Thread Cert.GradOutKernelIdeal.nD Cert.GradOutKernelIdeal.τ).loc Cert.GradOutKernelIdeal.main_arg1) = m ((c.tc : Thread Cert.GradOutKernelIdeal.nD Cert.GradOutKernelIdeal.τ).loc Cert.GradOutKernelIdeal.main_arg1)
      ∧ r.2.mem ((c.tc : Thread Cert.GradOutKernelIdeal.nD Cert.GradOutKernelIdeal.τ).loc Cert.GradOutKernelIdeal.main_arg2) = m ((c.tc : Thread Cert.GradOutKernelIdeal.nD Cert.GradOutKernelIdeal.τ).loc Cert.GradOutKernelIdeal.main_arg2))
      ∧ r.2.sem = fun _ => 0)

def quiescent_GradOutReferenceIdeal [hGradOutReferenceIdeal : Cert.GradOutReferenceIdeal.Facts] : Prop :=
  ∀ (m : (ℓ : Loc Cert.GradOutReferenceIdeal.nD Cert.GradOutReferenceIdeal.τ Cert.GradOutReferenceIdeal.sig) → Buf (Elt Ideal) ℓ) (g : Dev Cert.GradOutReferenceIdeal.nD → PrngReg), Pre_GradOutReferenceIdeal m →
    θ_run (Cert.GradOutReferenceIdeal.defs (F := Ideal)) (onTc (τ := Cert.GradOutReferenceIdeal.τ) (Cert.GradOutReferenceIdeal.main (F := Ideal))) ⟨m, fun _ => 0, g⟩ (fun r => (∀ c : Dev Cert.GradOutReferenceIdeal.nD,
      r.2.mem ((c.tc : Thread Cert.GradOutReferenceIdeal.nD Cert.GradOutReferenceIdeal.τ).loc Cert.GradOutReferenceIdeal.main_arg0) = m ((c.tc : Thread Cert.GradOutReferenceIdeal.nD Cert.GradOutReferenceIdeal.τ).loc Cert.GradOutReferenceIdeal.main_arg0)
      ∧ r.2.mem ((c.tc : Thread Cert.GradOutReferenceIdeal.nD Cert.GradOutReferenceIdeal.τ).loc Cert.GradOutReferenceIdeal.main_arg1) = m ((c.tc : Thread Cert.GradOutReferenceIdeal.nD Cert.GradOutReferenceIdeal.τ).loc Cert.GradOutReferenceIdeal.main_arg1)
      ∧ r.2.mem ((c.tc : Thread Cert.GradOutReferenceIdeal.nD Cert.GradOutReferenceIdeal.τ).loc Cert.GradOutReferenceIdeal.main_arg2) = m ((c.tc : Thread Cert.GradOutReferenceIdeal.nD Cert.GradOutReferenceIdeal.τ).loc Cert.GradOutReferenceIdeal.main_arg2))
      ∧ r.2.sem = fun _ => 0)

def quiescent_GradBranchKernel [hGradBranchKernel : Cert.GradBranchKernel.Facts] : Prop :=
  ∀ (m : (ℓ : Loc Cert.GradBranchKernel.nD Cert.GradBranchKernel.τ Cert.GradBranchKernel.sig) → Buf (Elt Bits) ℓ) (g : Dev Cert.GradBranchKernel.nD → PrngReg), Pre_GradBranchKernel m →
    θ_run (Cert.GradBranchKernel.defs (F := Bits)) (onTc (τ := Cert.GradBranchKernel.τ) (Cert.GradBranchKernel.main (F := Bits))) ⟨m, fun _ => 0, g⟩ (fun r => (∀ c : Dev Cert.GradBranchKernel.nD,
      r.2.mem ((c.tc : Thread Cert.GradBranchKernel.nD Cert.GradBranchKernel.τ).loc Cert.GradBranchKernel.main_arg0) = m ((c.tc : Thread Cert.GradBranchKernel.nD Cert.GradBranchKernel.τ).loc Cert.GradBranchKernel.main_arg0)
      ∧ r.2.mem ((c.tc : Thread Cert.GradBranchKernel.nD Cert.GradBranchKernel.τ).loc Cert.GradBranchKernel.main_arg1) = m ((c.tc : Thread Cert.GradBranchKernel.nD Cert.GradBranchKernel.τ).loc Cert.GradBranchKernel.main_arg1)
      ∧ r.2.mem ((c.tc : Thread Cert.GradBranchKernel.nD Cert.GradBranchKernel.τ).loc Cert.GradBranchKernel.main_arg2) = m ((c.tc : Thread Cert.GradBranchKernel.nD Cert.GradBranchKernel.τ).loc Cert.GradBranchKernel.main_arg2))
      ∧ r.2.sem = fun _ => 0)

def quiescent_GradBranchKernelIdeal [hGradBranchKernelIdeal : Cert.GradBranchKernelIdeal.Facts] : Prop :=
  ∀ (m : (ℓ : Loc Cert.GradBranchKernelIdeal.nD Cert.GradBranchKernelIdeal.τ Cert.GradBranchKernelIdeal.sig) → Buf (Elt Ideal) ℓ) (g : Dev Cert.GradBranchKernelIdeal.nD → PrngReg), Pre_GradBranchKernelIdeal m →
    θ_run (Cert.GradBranchKernelIdeal.defs (F := Ideal)) (onTc (τ := Cert.GradBranchKernelIdeal.τ) (Cert.GradBranchKernelIdeal.main (F := Ideal))) ⟨m, fun _ => 0, g⟩ (fun r => (∀ c : Dev Cert.GradBranchKernelIdeal.nD,
      r.2.mem ((c.tc : Thread Cert.GradBranchKernelIdeal.nD Cert.GradBranchKernelIdeal.τ).loc Cert.GradBranchKernelIdeal.main_arg0) = m ((c.tc : Thread Cert.GradBranchKernelIdeal.nD Cert.GradBranchKernelIdeal.τ).loc Cert.GradBranchKernelIdeal.main_arg0)
      ∧ r.2.mem ((c.tc : Thread Cert.GradBranchKernelIdeal.nD Cert.GradBranchKernelIdeal.τ).loc Cert.GradBranchKernelIdeal.main_arg1) = m ((c.tc : Thread Cert.GradBranchKernelIdeal.nD Cert.GradBranchKernelIdeal.τ).loc Cert.GradBranchKernelIdeal.main_arg1)
      ∧ r.2.mem ((c.tc : Thread Cert.GradBranchKernelIdeal.nD Cert.GradBranchKernelIdeal.τ).loc Cert.GradBranchKernelIdeal.main_arg2) = m ((c.tc : Thread Cert.GradBranchKernelIdeal.nD Cert.GradBranchKernelIdeal.τ).loc Cert.GradBranchKernelIdeal.main_arg2))
      ∧ r.2.sem = fun _ => 0)

def quiescent_GradBranchReferenceIdeal [hGradBranchReferenceIdeal : Cert.GradBranchReferenceIdeal.Facts] : Prop :=
  ∀ (m : (ℓ : Loc Cert.GradBranchReferenceIdeal.nD Cert.GradBranchReferenceIdeal.τ Cert.GradBranchReferenceIdeal.sig) → Buf (Elt Ideal) ℓ) (g : Dev Cert.GradBranchReferenceIdeal.nD → PrngReg), Pre_GradBranchReferenceIdeal m →
    θ_run (Cert.GradBranchReferenceIdeal.defs (F := Ideal)) (onTc (τ := Cert.GradBranchReferenceIdeal.τ) (Cert.GradBranchReferenceIdeal.main (F := Ideal))) ⟨m, fun _ => 0, g⟩ (fun r => (∀ c : Dev Cert.GradBranchReferenceIdeal.nD,
      r.2.mem ((c.tc : Thread Cert.GradBranchReferenceIdeal.nD Cert.GradBranchReferenceIdeal.τ).loc Cert.GradBranchReferenceIdeal.main_arg0) = m ((c.tc : Thread Cert.GradBranchReferenceIdeal.nD Cert.GradBranchReferenceIdeal.τ).loc Cert.GradBranchReferenceIdeal.main_arg0)
      ∧ r.2.mem ((c.tc : Thread Cert.GradBranchReferenceIdeal.nD Cert.GradBranchReferenceIdeal.τ).loc Cert.GradBranchReferenceIdeal.main_arg1) = m ((c.tc : Thread Cert.GradBranchReferenceIdeal.nD Cert.GradBranchReferenceIdeal.τ).loc Cert.GradBranchReferenceIdeal.main_arg1)
      ∧ r.2.mem ((c.tc : Thread Cert.GradBranchReferenceIdeal.nD Cert.GradBranchReferenceIdeal.τ).loc Cert.GradBranchReferenceIdeal.main_arg2) = m ((c.tc : Thread Cert.GradBranchReferenceIdeal.nD Cert.GradBranchReferenceIdeal.τ).loc Cert.GradBranchReferenceIdeal.main_arg2))
      ∧ r.2.sem = fun _ => 0)

def quiescent_GradInKernel [hGradInKernel : Cert.GradInKernel.Facts] : Prop :=
  ∀ (m : (ℓ : Loc Cert.GradInKernel.nD Cert.GradInKernel.τ Cert.GradInKernel.sig) → Buf (Elt Bits) ℓ) (g : Dev Cert.GradInKernel.nD → PrngReg), Pre_GradInKernel m →
    θ_run (Cert.GradInKernel.defs (F := Bits)) (onTc (τ := Cert.GradInKernel.τ) (Cert.GradInKernel.main (F := Bits))) ⟨m, fun _ => 0, g⟩ (fun r => (∀ c : Dev Cert.GradInKernel.nD,
      r.2.mem ((c.tc : Thread Cert.GradInKernel.nD Cert.GradInKernel.τ).loc Cert.GradInKernel.main_arg0) = m ((c.tc : Thread Cert.GradInKernel.nD Cert.GradInKernel.τ).loc Cert.GradInKernel.main_arg0)
      ∧ r.2.mem ((c.tc : Thread Cert.GradInKernel.nD Cert.GradInKernel.τ).loc Cert.GradInKernel.main_arg1) = m ((c.tc : Thread Cert.GradInKernel.nD Cert.GradInKernel.τ).loc Cert.GradInKernel.main_arg1)
      ∧ r.2.mem ((c.tc : Thread Cert.GradInKernel.nD Cert.GradInKernel.τ).loc Cert.GradInKernel.main_arg2) = m ((c.tc : Thread Cert.GradInKernel.nD Cert.GradInKernel.τ).loc Cert.GradInKernel.main_arg2)
      ∧ r.2.mem ((c.tc : Thread Cert.GradInKernel.nD Cert.GradInKernel.τ).loc Cert.GradInKernel.main_arg3) = m ((c.tc : Thread Cert.GradInKernel.nD Cert.GradInKernel.τ).loc Cert.GradInKernel.main_arg3)
      ∧ r.2.mem ((c.tc : Thread Cert.GradInKernel.nD Cert.GradInKernel.τ).loc Cert.GradInKernel.main_arg4) = m ((c.tc : Thread Cert.GradInKernel.nD Cert.GradInKernel.τ).loc Cert.GradInKernel.main_arg4))
      ∧ r.2.sem = fun _ => 0)

def quiescent_GradInKernelIdeal [hGradInKernelIdeal : Cert.GradInKernelIdeal.Facts] : Prop :=
  ∀ (m : (ℓ : Loc Cert.GradInKernelIdeal.nD Cert.GradInKernelIdeal.τ Cert.GradInKernelIdeal.sig) → Buf (Elt Ideal) ℓ) (g : Dev Cert.GradInKernelIdeal.nD → PrngReg), Pre_GradInKernelIdeal m →
    θ_run (Cert.GradInKernelIdeal.defs (F := Ideal)) (onTc (τ := Cert.GradInKernelIdeal.τ) (Cert.GradInKernelIdeal.main (F := Ideal))) ⟨m, fun _ => 0, g⟩ (fun r => (∀ c : Dev Cert.GradInKernelIdeal.nD,
      r.2.mem ((c.tc : Thread Cert.GradInKernelIdeal.nD Cert.GradInKernelIdeal.τ).loc Cert.GradInKernelIdeal.main_arg0) = m ((c.tc : Thread Cert.GradInKernelIdeal.nD Cert.GradInKernelIdeal.τ).loc Cert.GradInKernelIdeal.main_arg0)
      ∧ r.2.mem ((c.tc : Thread Cert.GradInKernelIdeal.nD Cert.GradInKernelIdeal.τ).loc Cert.GradInKernelIdeal.main_arg1) = m ((c.tc : Thread Cert.GradInKernelIdeal.nD Cert.GradInKernelIdeal.τ).loc Cert.GradInKernelIdeal.main_arg1)
      ∧ r.2.mem ((c.tc : Thread Cert.GradInKernelIdeal.nD Cert.GradInKernelIdeal.τ).loc Cert.GradInKernelIdeal.main_arg2) = m ((c.tc : Thread Cert.GradInKernelIdeal.nD Cert.GradInKernelIdeal.τ).loc Cert.GradInKernelIdeal.main_arg2)
      ∧ r.2.mem ((c.tc : Thread Cert.GradInKernelIdeal.nD Cert.GradInKernelIdeal.τ).loc Cert.GradInKernelIdeal.main_arg3) = m ((c.tc : Thread Cert.GradInKernelIdeal.nD Cert.GradInKernelIdeal.τ).loc Cert.GradInKernelIdeal.main_arg3)
      ∧ r.2.mem ((c.tc : Thread Cert.GradInKernelIdeal.nD Cert.GradInKernelIdeal.τ).loc Cert.GradInKernelIdeal.main_arg4) = m ((c.tc : Thread Cert.GradInKernelIdeal.nD Cert.GradInKernelIdeal.τ).loc Cert.GradInKernelIdeal.main_arg4))
      ∧ r.2.sem = fun _ => 0)

def quiescent_GradInReferenceIdeal [hGradInReferenceIdeal : Cert.GradInReferenceIdeal.Facts] : Prop :=
  ∀ (m : (ℓ : Loc Cert.GradInReferenceIdeal.nD Cert.GradInReferenceIdeal.τ Cert.GradInReferenceIdeal.sig) → Buf (Elt Ideal) ℓ) (g : Dev Cert.GradInReferenceIdeal.nD → PrngReg), Pre_GradInReferenceIdeal m →
    θ_run (Cert.GradInReferenceIdeal.defs (F := Ideal)) (onTc (τ := Cert.GradInReferenceIdeal.τ) (Cert.GradInReferenceIdeal.main (F := Ideal))) ⟨m, fun _ => 0, g⟩ (fun r => (∀ c : Dev Cert.GradInReferenceIdeal.nD,
      r.2.mem ((c.tc : Thread Cert.GradInReferenceIdeal.nD Cert.GradInReferenceIdeal.τ).loc Cert.GradInReferenceIdeal.main_arg0) = m ((c.tc : Thread Cert.GradInReferenceIdeal.nD Cert.GradInReferenceIdeal.τ).loc Cert.GradInReferenceIdeal.main_arg0)
      ∧ r.2.mem ((c.tc : Thread Cert.GradInReferenceIdeal.nD Cert.GradInReferenceIdeal.τ).loc Cert.GradInReferenceIdeal.main_arg1) = m ((c.tc : Thread Cert.GradInReferenceIdeal.nD Cert.GradInReferenceIdeal.τ).loc Cert.GradInReferenceIdeal.main_arg1)
      ∧ r.2.mem ((c.tc : Thread Cert.GradInReferenceIdeal.nD Cert.GradInReferenceIdeal.τ).loc Cert.GradInReferenceIdeal.main_arg2) = m ((c.tc : Thread Cert.GradInReferenceIdeal.nD Cert.GradInReferenceIdeal.τ).loc Cert.GradInReferenceIdeal.main_arg2)
      ∧ r.2.mem ((c.tc : Thread Cert.GradInReferenceIdeal.nD Cert.GradInReferenceIdeal.τ).loc Cert.GradInReferenceIdeal.main_arg3) = m ((c.tc : Thread Cert.GradInReferenceIdeal.nD Cert.GradInReferenceIdeal.τ).loc Cert.GradInReferenceIdeal.main_arg3)
      ∧ r.2.mem ((c.tc : Thread Cert.GradInReferenceIdeal.nD Cert.GradInReferenceIdeal.τ).loc Cert.GradInReferenceIdeal.main_arg4) = m ((c.tc : Thread Cert.GradInReferenceIdeal.nD Cert.GradInReferenceIdeal.τ).loc Cert.GradInReferenceIdeal.main_arg4))
      ∧ r.2.sem = fun _ => 0)

def quiescent_FfnBwdKernel [hFfnBwdKernel : Cert.FfnBwdKernel.Facts] : Prop :=
  ∀ (m : (ℓ : Loc Cert.FfnBwdKernel.nD Cert.FfnBwdKernel.τ Cert.FfnBwdKernel.sig) → Buf (Elt Bits) ℓ) (g : Dev Cert.FfnBwdKernel.nD → PrngReg), Pre_FfnBwdKernel m →
    θ_run (Cert.FfnBwdKernel.defs (F := Bits)) (onTc (τ := Cert.FfnBwdKernel.τ) (Cert.FfnBwdKernel.main (F := Bits))) ⟨m, fun _ => 0, g⟩ (fun r => (∀ c : Dev Cert.FfnBwdKernel.nD,
      r.2.mem ((c.tc : Thread Cert.FfnBwdKernel.nD Cert.FfnBwdKernel.τ).loc Cert.FfnBwdKernel.main_arg0) = m ((c.tc : Thread Cert.FfnBwdKernel.nD Cert.FfnBwdKernel.τ).loc Cert.FfnBwdKernel.main_arg0)
      ∧ r.2.mem ((c.tc : Thread Cert.FfnBwdKernel.nD Cert.FfnBwdKernel.τ).loc Cert.FfnBwdKernel.main_arg1) = m ((c.tc : Thread Cert.FfnBwdKernel.nD Cert.FfnBwdKernel.τ).loc Cert.FfnBwdKernel.main_arg1)
      ∧ r.2.mem ((c.tc : Thread Cert.FfnBwdKernel.nD Cert.FfnBwdKernel.τ).loc Cert.FfnBwdKernel.main_arg2) = m ((c.tc : Thread Cert.FfnBwdKernel.nD Cert.FfnBwdKernel.τ).loc Cert.FfnBwdKernel.main_arg2)
      ∧ r.2.mem ((c.tc : Thread Cert.FfnBwdKernel.nD Cert.FfnBwdKernel.τ).loc Cert.FfnBwdKernel.main_arg3) = m ((c.tc : Thread Cert.FfnBwdKernel.nD Cert.FfnBwdKernel.τ).loc Cert.FfnBwdKernel.main_arg3)
      ∧ r.2.mem ((c.tc : Thread Cert.FfnBwdKernel.nD Cert.FfnBwdKernel.τ).loc Cert.FfnBwdKernel.main_arg4) = m ((c.tc : Thread Cert.FfnBwdKernel.nD Cert.FfnBwdKernel.τ).loc Cert.FfnBwdKernel.main_arg4))
      ∧ r.2.sem = fun _ => 0)

def quiescent_FfnBwdKernelIdeal [hFfnBwdKernelIdeal : Cert.FfnBwdKernelIdeal.Facts] : Prop :=
  ∀ (m : (ℓ : Loc Cert.FfnBwdKernelIdeal.nD Cert.FfnBwdKernelIdeal.τ Cert.FfnBwdKernelIdeal.sig) → Buf (Elt Ideal) ℓ) (g : Dev Cert.FfnBwdKernelIdeal.nD → PrngReg), Pre_FfnBwdKernelIdeal m →
    θ_run (Cert.FfnBwdKernelIdeal.defs (F := Ideal)) (onTc (τ := Cert.FfnBwdKernelIdeal.τ) (Cert.FfnBwdKernelIdeal.main (F := Ideal))) ⟨m, fun _ => 0, g⟩ (fun r => (∀ c : Dev Cert.FfnBwdKernelIdeal.nD,
      r.2.mem ((c.tc : Thread Cert.FfnBwdKernelIdeal.nD Cert.FfnBwdKernelIdeal.τ).loc Cert.FfnBwdKernelIdeal.main_arg0) = m ((c.tc : Thread Cert.FfnBwdKernelIdeal.nD Cert.FfnBwdKernelIdeal.τ).loc Cert.FfnBwdKernelIdeal.main_arg0)
      ∧ r.2.mem ((c.tc : Thread Cert.FfnBwdKernelIdeal.nD Cert.FfnBwdKernelIdeal.τ).loc Cert.FfnBwdKernelIdeal.main_arg1) = m ((c.tc : Thread Cert.FfnBwdKernelIdeal.nD Cert.FfnBwdKernelIdeal.τ).loc Cert.FfnBwdKernelIdeal.main_arg1)
      ∧ r.2.mem ((c.tc : Thread Cert.FfnBwdKernelIdeal.nD Cert.FfnBwdKernelIdeal.τ).loc Cert.FfnBwdKernelIdeal.main_arg2) = m ((c.tc : Thread Cert.FfnBwdKernelIdeal.nD Cert.FfnBwdKernelIdeal.τ).loc Cert.FfnBwdKernelIdeal.main_arg2)
      ∧ r.2.mem ((c.tc : Thread Cert.FfnBwdKernelIdeal.nD Cert.FfnBwdKernelIdeal.τ).loc Cert.FfnBwdKernelIdeal.main_arg3) = m ((c.tc : Thread Cert.FfnBwdKernelIdeal.nD Cert.FfnBwdKernelIdeal.τ).loc Cert.FfnBwdKernelIdeal.main_arg3)
      ∧ r.2.mem ((c.tc : Thread Cert.FfnBwdKernelIdeal.nD Cert.FfnBwdKernelIdeal.τ).loc Cert.FfnBwdKernelIdeal.main_arg4) = m ((c.tc : Thread Cert.FfnBwdKernelIdeal.nD Cert.FfnBwdKernelIdeal.τ).loc Cert.FfnBwdKernelIdeal.main_arg4))
      ∧ r.2.sem = fun _ => 0)

def quiescent_FfnBwdKernelIdeal_pre_ffn_bwd_finite [hFfnBwdKernelIdeal : Cert.FfnBwdKernelIdeal.Facts] [hPre_ffn_bwd_finite : Cert.Pre_ffn_bwd_finite.Facts] : Prop :=
  ∀ (m : (ℓ : Loc Cert.FfnBwdKernelIdeal.nD Cert.FfnBwdKernelIdeal.τ Cert.FfnBwdKernelIdeal.sig) → Buf (Elt Ideal) ℓ) (g : Dev Cert.FfnBwdKernelIdeal.nD → PrngReg), Pre_FfnBwdKernelIdeal_ffn_bwd_finite m →
    θ_run (Cert.FfnBwdKernelIdeal.defs (F := Ideal)) (onTc (τ := Cert.FfnBwdKernelIdeal.τ) (Cert.FfnBwdKernelIdeal.main (F := Ideal))) ⟨m, fun _ => 0, g⟩ (fun r => (∀ c : Dev Cert.FfnBwdKernelIdeal.nD,
      r.2.mem ((c.tc : Thread Cert.FfnBwdKernelIdeal.nD Cert.FfnBwdKernelIdeal.τ).loc Cert.FfnBwdKernelIdeal.main_arg0) = m ((c.tc : Thread Cert.FfnBwdKernelIdeal.nD Cert.FfnBwdKernelIdeal.τ).loc Cert.FfnBwdKernelIdeal.main_arg0)
      ∧ r.2.mem ((c.tc : Thread Cert.FfnBwdKernelIdeal.nD Cert.FfnBwdKernelIdeal.τ).loc Cert.FfnBwdKernelIdeal.main_arg1) = m ((c.tc : Thread Cert.FfnBwdKernelIdeal.nD Cert.FfnBwdKernelIdeal.τ).loc Cert.FfnBwdKernelIdeal.main_arg1)
      ∧ r.2.mem ((c.tc : Thread Cert.FfnBwdKernelIdeal.nD Cert.FfnBwdKernelIdeal.τ).loc Cert.FfnBwdKernelIdeal.main_arg2) = m ((c.tc : Thread Cert.FfnBwdKernelIdeal.nD Cert.FfnBwdKernelIdeal.τ).loc Cert.FfnBwdKernelIdeal.main_arg2)
      ∧ r.2.mem ((c.tc : Thread Cert.FfnBwdKernelIdeal.nD Cert.FfnBwdKernelIdeal.τ).loc Cert.FfnBwdKernelIdeal.main_arg3) = m ((c.tc : Thread Cert.FfnBwdKernelIdeal.nD Cert.FfnBwdKernelIdeal.τ).loc Cert.FfnBwdKernelIdeal.main_arg3)
      ∧ r.2.mem ((c.tc : Thread Cert.FfnBwdKernelIdeal.nD Cert.FfnBwdKernelIdeal.τ).loc Cert.FfnBwdKernelIdeal.main_arg4) = m ((c.tc : Thread Cert.FfnBwdKernelIdeal.nD Cert.FfnBwdKernelIdeal.τ).loc Cert.FfnBwdKernelIdeal.main_arg4))
      ∧ r.2.sem = fun _ => 0)

def quiescent_FfnBwdReferenceIdeal [hFfnBwdReferenceIdeal : Cert.FfnBwdReferenceIdeal.Facts] : Prop :=
  ∀ (m : (ℓ : Loc Cert.FfnBwdReferenceIdeal.nD Cert.FfnBwdReferenceIdeal.τ Cert.FfnBwdReferenceIdeal.sig) → Buf (Elt Ideal) ℓ) (g : Dev Cert.FfnBwdReferenceIdeal.nD → PrngReg), Pre_FfnBwdReferenceIdeal m →
    θ_run (Cert.FfnBwdReferenceIdeal.defs (F := Ideal)) (onTc (τ := Cert.FfnBwdReferenceIdeal.τ) (Cert.FfnBwdReferenceIdeal.main (F := Ideal))) ⟨m, fun _ => 0, g⟩ (fun r => (∀ c : Dev Cert.FfnBwdReferenceIdeal.nD,
      r.2.mem ((c.tc : Thread Cert.FfnBwdReferenceIdeal.nD Cert.FfnBwdReferenceIdeal.τ).loc Cert.FfnBwdReferenceIdeal.main_arg0) = m ((c.tc : Thread Cert.FfnBwdReferenceIdeal.nD Cert.FfnBwdReferenceIdeal.τ).loc Cert.FfnBwdReferenceIdeal.main_arg0)
      ∧ r.2.mem ((c.tc : Thread Cert.FfnBwdReferenceIdeal.nD Cert.FfnBwdReferenceIdeal.τ).loc Cert.FfnBwdReferenceIdeal.main_arg1) = m ((c.tc : Thread Cert.FfnBwdReferenceIdeal.nD Cert.FfnBwdReferenceIdeal.τ).loc Cert.FfnBwdReferenceIdeal.main_arg1)
      ∧ r.2.mem ((c.tc : Thread Cert.FfnBwdReferenceIdeal.nD Cert.FfnBwdReferenceIdeal.τ).loc Cert.FfnBwdReferenceIdeal.main_arg2) = m ((c.tc : Thread Cert.FfnBwdReferenceIdeal.nD Cert.FfnBwdReferenceIdeal.τ).loc Cert.FfnBwdReferenceIdeal.main_arg2)
      ∧ r.2.mem ((c.tc : Thread Cert.FfnBwdReferenceIdeal.nD Cert.FfnBwdReferenceIdeal.τ).loc Cert.FfnBwdReferenceIdeal.main_arg3) = m ((c.tc : Thread Cert.FfnBwdReferenceIdeal.nD Cert.FfnBwdReferenceIdeal.τ).loc Cert.FfnBwdReferenceIdeal.main_arg3)
      ∧ r.2.mem ((c.tc : Thread Cert.FfnBwdReferenceIdeal.nD Cert.FfnBwdReferenceIdeal.τ).loc Cert.FfnBwdReferenceIdeal.main_arg4) = m ((c.tc : Thread Cert.FfnBwdReferenceIdeal.nD Cert.FfnBwdReferenceIdeal.τ).loc Cert.FfnBwdReferenceIdeal.main_arg4))
      ∧ r.2.sem = fun _ => 0)

def quiescent_FfnBwdReferenceIdeal_pre_ffn_bwd_finite [hFfnBwdReferenceIdeal : Cert.FfnBwdReferenceIdeal.Facts] [hPre_ffn_bwd_finite : Cert.Pre_ffn_bwd_finite.Facts] : Prop :=
  ∀ (m : (ℓ : Loc Cert.FfnBwdReferenceIdeal.nD Cert.FfnBwdReferenceIdeal.τ Cert.FfnBwdReferenceIdeal.sig) → Buf (Elt Ideal) ℓ) (g : Dev Cert.FfnBwdReferenceIdeal.nD → PrngReg), Pre_FfnBwdReferenceIdeal_ffn_bwd_finite m →
    θ_run (Cert.FfnBwdReferenceIdeal.defs (F := Ideal)) (onTc (τ := Cert.FfnBwdReferenceIdeal.τ) (Cert.FfnBwdReferenceIdeal.main (F := Ideal))) ⟨m, fun _ => 0, g⟩ (fun r => (∀ c : Dev Cert.FfnBwdReferenceIdeal.nD,
      r.2.mem ((c.tc : Thread Cert.FfnBwdReferenceIdeal.nD Cert.FfnBwdReferenceIdeal.τ).loc Cert.FfnBwdReferenceIdeal.main_arg0) = m ((c.tc : Thread Cert.FfnBwdReferenceIdeal.nD Cert.FfnBwdReferenceIdeal.τ).loc Cert.FfnBwdReferenceIdeal.main_arg0)
      ∧ r.2.mem ((c.tc : Thread Cert.FfnBwdReferenceIdeal.nD Cert.FfnBwdReferenceIdeal.τ).loc Cert.FfnBwdReferenceIdeal.main_arg1) = m ((c.tc : Thread Cert.FfnBwdReferenceIdeal.nD Cert.FfnBwdReferenceIdeal.τ).loc Cert.FfnBwdReferenceIdeal.main_arg1)
      ∧ r.2.mem ((c.tc : Thread Cert.FfnBwdReferenceIdeal.nD Cert.FfnBwdReferenceIdeal.τ).loc Cert.FfnBwdReferenceIdeal.main_arg2) = m ((c.tc : Thread Cert.FfnBwdReferenceIdeal.nD Cert.FfnBwdReferenceIdeal.τ).loc Cert.FfnBwdReferenceIdeal.main_arg2)
      ∧ r.2.mem ((c.tc : Thread Cert.FfnBwdReferenceIdeal.nD Cert.FfnBwdReferenceIdeal.τ).loc Cert.FfnBwdReferenceIdeal.main_arg3) = m ((c.tc : Thread Cert.FfnBwdReferenceIdeal.nD Cert.FfnBwdReferenceIdeal.τ).loc Cert.FfnBwdReferenceIdeal.main_arg3)
      ∧ r.2.mem ((c.tc : Thread Cert.FfnBwdReferenceIdeal.nD Cert.FfnBwdReferenceIdeal.τ).loc Cert.FfnBwdReferenceIdeal.main_arg4) = m ((c.tc : Thread Cert.FfnBwdReferenceIdeal.nD Cert.FfnBwdReferenceIdeal.τ).loc Cert.FfnBwdReferenceIdeal.main_arg4))
      ∧ r.2.sem = fun _ => 0)

def quiescent_InProjBwdKernel [hInProjBwdKernel : Cert.InProjBwdKernel.Facts] : Prop :=
  ∀ (m : (ℓ : Loc Cert.InProjBwdKernel.nD Cert.InProjBwdKernel.τ Cert.InProjBwdKernel.sig) → Buf (Elt Bits) ℓ) (g : Dev Cert.InProjBwdKernel.nD → PrngReg), Pre_InProjBwdKernel m →
    θ_run (Cert.InProjBwdKernel.defs (F := Bits)) (onTc (τ := Cert.InProjBwdKernel.τ) (Cert.InProjBwdKernel.main (F := Bits))) ⟨m, fun _ => 0, g⟩ (fun r => (∀ c : Dev Cert.InProjBwdKernel.nD,
      r.2.mem ((c.tc : Thread Cert.InProjBwdKernel.nD Cert.InProjBwdKernel.τ).loc Cert.InProjBwdKernel.main_arg0) = m ((c.tc : Thread Cert.InProjBwdKernel.nD Cert.InProjBwdKernel.τ).loc Cert.InProjBwdKernel.main_arg0)
      ∧ r.2.mem ((c.tc : Thread Cert.InProjBwdKernel.nD Cert.InProjBwdKernel.τ).loc Cert.InProjBwdKernel.main_arg1) = m ((c.tc : Thread Cert.InProjBwdKernel.nD Cert.InProjBwdKernel.τ).loc Cert.InProjBwdKernel.main_arg1)
      ∧ r.2.mem ((c.tc : Thread Cert.InProjBwdKernel.nD Cert.InProjBwdKernel.τ).loc Cert.InProjBwdKernel.main_arg2) = m ((c.tc : Thread Cert.InProjBwdKernel.nD Cert.InProjBwdKernel.τ).loc Cert.InProjBwdKernel.main_arg2)
      ∧ r.2.mem ((c.tc : Thread Cert.InProjBwdKernel.nD Cert.InProjBwdKernel.τ).loc Cert.InProjBwdKernel.main_arg3) = m ((c.tc : Thread Cert.InProjBwdKernel.nD Cert.InProjBwdKernel.τ).loc Cert.InProjBwdKernel.main_arg3)
      ∧ r.2.mem ((c.tc : Thread Cert.InProjBwdKernel.nD Cert.InProjBwdKernel.τ).loc Cert.InProjBwdKernel.main_arg4) = m ((c.tc : Thread Cert.InProjBwdKernel.nD Cert.InProjBwdKernel.τ).loc Cert.InProjBwdKernel.main_arg4)
      ∧ r.2.mem ((c.tc : Thread Cert.InProjBwdKernel.nD Cert.InProjBwdKernel.τ).loc Cert.InProjBwdKernel.main_arg5) = m ((c.tc : Thread Cert.InProjBwdKernel.nD Cert.InProjBwdKernel.τ).loc Cert.InProjBwdKernel.main_arg5)
      ∧ r.2.mem ((c.tc : Thread Cert.InProjBwdKernel.nD Cert.InProjBwdKernel.τ).loc Cert.InProjBwdKernel.main_arg6) = m ((c.tc : Thread Cert.InProjBwdKernel.nD Cert.InProjBwdKernel.τ).loc Cert.InProjBwdKernel.main_arg6)
      ∧ r.2.mem ((c.tc : Thread Cert.InProjBwdKernel.nD Cert.InProjBwdKernel.τ).loc Cert.InProjBwdKernel.main_arg7) = m ((c.tc : Thread Cert.InProjBwdKernel.nD Cert.InProjBwdKernel.τ).loc Cert.InProjBwdKernel.main_arg7)
      ∧ r.2.mem ((c.tc : Thread Cert.InProjBwdKernel.nD Cert.InProjBwdKernel.τ).loc Cert.InProjBwdKernel.main_arg8) = m ((c.tc : Thread Cert.InProjBwdKernel.nD Cert.InProjBwdKernel.τ).loc Cert.InProjBwdKernel.main_arg8))
      ∧ r.2.sem = fun _ => 0)

def quiescent_InProjBwdKernelIdeal [hInProjBwdKernelIdeal : Cert.InProjBwdKernelIdeal.Facts] : Prop :=
  ∀ (m : (ℓ : Loc Cert.InProjBwdKernelIdeal.nD Cert.InProjBwdKernelIdeal.τ Cert.InProjBwdKernelIdeal.sig) → Buf (Elt Ideal) ℓ) (g : Dev Cert.InProjBwdKernelIdeal.nD → PrngReg), Pre_InProjBwdKernelIdeal m →
    θ_run (Cert.InProjBwdKernelIdeal.defs (F := Ideal)) (onTc (τ := Cert.InProjBwdKernelIdeal.τ) (Cert.InProjBwdKernelIdeal.main (F := Ideal))) ⟨m, fun _ => 0, g⟩ (fun r => (∀ c : Dev Cert.InProjBwdKernelIdeal.nD,
      r.2.mem ((c.tc : Thread Cert.InProjBwdKernelIdeal.nD Cert.InProjBwdKernelIdeal.τ).loc Cert.InProjBwdKernelIdeal.main_arg0) = m ((c.tc : Thread Cert.InProjBwdKernelIdeal.nD Cert.InProjBwdKernelIdeal.τ).loc Cert.InProjBwdKernelIdeal.main_arg0)
      ∧ r.2.mem ((c.tc : Thread Cert.InProjBwdKernelIdeal.nD Cert.InProjBwdKernelIdeal.τ).loc Cert.InProjBwdKernelIdeal.main_arg1) = m ((c.tc : Thread Cert.InProjBwdKernelIdeal.nD Cert.InProjBwdKernelIdeal.τ).loc Cert.InProjBwdKernelIdeal.main_arg1)
      ∧ r.2.mem ((c.tc : Thread Cert.InProjBwdKernelIdeal.nD Cert.InProjBwdKernelIdeal.τ).loc Cert.InProjBwdKernelIdeal.main_arg2) = m ((c.tc : Thread Cert.InProjBwdKernelIdeal.nD Cert.InProjBwdKernelIdeal.τ).loc Cert.InProjBwdKernelIdeal.main_arg2)
      ∧ r.2.mem ((c.tc : Thread Cert.InProjBwdKernelIdeal.nD Cert.InProjBwdKernelIdeal.τ).loc Cert.InProjBwdKernelIdeal.main_arg3) = m ((c.tc : Thread Cert.InProjBwdKernelIdeal.nD Cert.InProjBwdKernelIdeal.τ).loc Cert.InProjBwdKernelIdeal.main_arg3)
      ∧ r.2.mem ((c.tc : Thread Cert.InProjBwdKernelIdeal.nD Cert.InProjBwdKernelIdeal.τ).loc Cert.InProjBwdKernelIdeal.main_arg4) = m ((c.tc : Thread Cert.InProjBwdKernelIdeal.nD Cert.InProjBwdKernelIdeal.τ).loc Cert.InProjBwdKernelIdeal.main_arg4)
      ∧ r.2.mem ((c.tc : Thread Cert.InProjBwdKernelIdeal.nD Cert.InProjBwdKernelIdeal.τ).loc Cert.InProjBwdKernelIdeal.main_arg5) = m ((c.tc : Thread Cert.InProjBwdKernelIdeal.nD Cert.InProjBwdKernelIdeal.τ).loc Cert.InProjBwdKernelIdeal.main_arg5)
      ∧ r.2.mem ((c.tc : Thread Cert.InProjBwdKernelIdeal.nD Cert.InProjBwdKernelIdeal.τ).loc Cert.InProjBwdKernelIdeal.main_arg6) = m ((c.tc : Thread Cert.InProjBwdKernelIdeal.nD Cert.InProjBwdKernelIdeal.τ).loc Cert.InProjBwdKernelIdeal.main_arg6)
      ∧ r.2.mem ((c.tc : Thread Cert.InProjBwdKernelIdeal.nD Cert.InProjBwdKernelIdeal.τ).loc Cert.InProjBwdKernelIdeal.main_arg7) = m ((c.tc : Thread Cert.InProjBwdKernelIdeal.nD Cert.InProjBwdKernelIdeal.τ).loc Cert.InProjBwdKernelIdeal.main_arg7)
      ∧ r.2.mem ((c.tc : Thread Cert.InProjBwdKernelIdeal.nD Cert.InProjBwdKernelIdeal.τ).loc Cert.InProjBwdKernelIdeal.main_arg8) = m ((c.tc : Thread Cert.InProjBwdKernelIdeal.nD Cert.InProjBwdKernelIdeal.τ).loc Cert.InProjBwdKernelIdeal.main_arg8))
      ∧ r.2.sem = fun _ => 0)

def quiescent_InProjBwdKernelIdeal_pre_in_proj_bwd_finite [hInProjBwdKernelIdeal : Cert.InProjBwdKernelIdeal.Facts] [hPre_in_proj_bwd_finite : Cert.Pre_in_proj_bwd_finite.Facts] : Prop :=
  ∀ (m : (ℓ : Loc Cert.InProjBwdKernelIdeal.nD Cert.InProjBwdKernelIdeal.τ Cert.InProjBwdKernelIdeal.sig) → Buf (Elt Ideal) ℓ) (g : Dev Cert.InProjBwdKernelIdeal.nD → PrngReg), Pre_InProjBwdKernelIdeal_in_proj_bwd_finite m →
    θ_run (Cert.InProjBwdKernelIdeal.defs (F := Ideal)) (onTc (τ := Cert.InProjBwdKernelIdeal.τ) (Cert.InProjBwdKernelIdeal.main (F := Ideal))) ⟨m, fun _ => 0, g⟩ (fun r => (∀ c : Dev Cert.InProjBwdKernelIdeal.nD,
      r.2.mem ((c.tc : Thread Cert.InProjBwdKernelIdeal.nD Cert.InProjBwdKernelIdeal.τ).loc Cert.InProjBwdKernelIdeal.main_arg0) = m ((c.tc : Thread Cert.InProjBwdKernelIdeal.nD Cert.InProjBwdKernelIdeal.τ).loc Cert.InProjBwdKernelIdeal.main_arg0)
      ∧ r.2.mem ((c.tc : Thread Cert.InProjBwdKernelIdeal.nD Cert.InProjBwdKernelIdeal.τ).loc Cert.InProjBwdKernelIdeal.main_arg1) = m ((c.tc : Thread Cert.InProjBwdKernelIdeal.nD Cert.InProjBwdKernelIdeal.τ).loc Cert.InProjBwdKernelIdeal.main_arg1)
      ∧ r.2.mem ((c.tc : Thread Cert.InProjBwdKernelIdeal.nD Cert.InProjBwdKernelIdeal.τ).loc Cert.InProjBwdKernelIdeal.main_arg2) = m ((c.tc : Thread Cert.InProjBwdKernelIdeal.nD Cert.InProjBwdKernelIdeal.τ).loc Cert.InProjBwdKernelIdeal.main_arg2)
      ∧ r.2.mem ((c.tc : Thread Cert.InProjBwdKernelIdeal.nD Cert.InProjBwdKernelIdeal.τ).loc Cert.InProjBwdKernelIdeal.main_arg3) = m ((c.tc : Thread Cert.InProjBwdKernelIdeal.nD Cert.InProjBwdKernelIdeal.τ).loc Cert.InProjBwdKernelIdeal.main_arg3)
      ∧ r.2.mem ((c.tc : Thread Cert.InProjBwdKernelIdeal.nD Cert.InProjBwdKernelIdeal.τ).loc Cert.InProjBwdKernelIdeal.main_arg4) = m ((c.tc : Thread Cert.InProjBwdKernelIdeal.nD Cert.InProjBwdKernelIdeal.τ).loc Cert.InProjBwdKernelIdeal.main_arg4)
      ∧ r.2.mem ((c.tc : Thread Cert.InProjBwdKernelIdeal.nD Cert.InProjBwdKernelIdeal.τ).loc Cert.InProjBwdKernelIdeal.main_arg5) = m ((c.tc : Thread Cert.InProjBwdKernelIdeal.nD Cert.InProjBwdKernelIdeal.τ).loc Cert.InProjBwdKernelIdeal.main_arg5)
      ∧ r.2.mem ((c.tc : Thread Cert.InProjBwdKernelIdeal.nD Cert.InProjBwdKernelIdeal.τ).loc Cert.InProjBwdKernelIdeal.main_arg6) = m ((c.tc : Thread Cert.InProjBwdKernelIdeal.nD Cert.InProjBwdKernelIdeal.τ).loc Cert.InProjBwdKernelIdeal.main_arg6)
      ∧ r.2.mem ((c.tc : Thread Cert.InProjBwdKernelIdeal.nD Cert.InProjBwdKernelIdeal.τ).loc Cert.InProjBwdKernelIdeal.main_arg7) = m ((c.tc : Thread Cert.InProjBwdKernelIdeal.nD Cert.InProjBwdKernelIdeal.τ).loc Cert.InProjBwdKernelIdeal.main_arg7)
      ∧ r.2.mem ((c.tc : Thread Cert.InProjBwdKernelIdeal.nD Cert.InProjBwdKernelIdeal.τ).loc Cert.InProjBwdKernelIdeal.main_arg8) = m ((c.tc : Thread Cert.InProjBwdKernelIdeal.nD Cert.InProjBwdKernelIdeal.τ).loc Cert.InProjBwdKernelIdeal.main_arg8))
      ∧ r.2.sem = fun _ => 0)

def quiescent_InProjBwdReferenceIdeal [hInProjBwdReferenceIdeal : Cert.InProjBwdReferenceIdeal.Facts] : Prop :=
  ∀ (m : (ℓ : Loc Cert.InProjBwdReferenceIdeal.nD Cert.InProjBwdReferenceIdeal.τ Cert.InProjBwdReferenceIdeal.sig) → Buf (Elt Ideal) ℓ) (g : Dev Cert.InProjBwdReferenceIdeal.nD → PrngReg), Pre_InProjBwdReferenceIdeal m →
    θ_run (Cert.InProjBwdReferenceIdeal.defs (F := Ideal)) (onTc (τ := Cert.InProjBwdReferenceIdeal.τ) (Cert.InProjBwdReferenceIdeal.main (F := Ideal))) ⟨m, fun _ => 0, g⟩ (fun r => (∀ c : Dev Cert.InProjBwdReferenceIdeal.nD,
      r.2.mem ((c.tc : Thread Cert.InProjBwdReferenceIdeal.nD Cert.InProjBwdReferenceIdeal.τ).loc Cert.InProjBwdReferenceIdeal.main_arg0) = m ((c.tc : Thread Cert.InProjBwdReferenceIdeal.nD Cert.InProjBwdReferenceIdeal.τ).loc Cert.InProjBwdReferenceIdeal.main_arg0)
      ∧ r.2.mem ((c.tc : Thread Cert.InProjBwdReferenceIdeal.nD Cert.InProjBwdReferenceIdeal.τ).loc Cert.InProjBwdReferenceIdeal.main_arg1) = m ((c.tc : Thread Cert.InProjBwdReferenceIdeal.nD Cert.InProjBwdReferenceIdeal.τ).loc Cert.InProjBwdReferenceIdeal.main_arg1)
      ∧ r.2.mem ((c.tc : Thread Cert.InProjBwdReferenceIdeal.nD Cert.InProjBwdReferenceIdeal.τ).loc Cert.InProjBwdReferenceIdeal.main_arg2) = m ((c.tc : Thread Cert.InProjBwdReferenceIdeal.nD Cert.InProjBwdReferenceIdeal.τ).loc Cert.InProjBwdReferenceIdeal.main_arg2)
      ∧ r.2.mem ((c.tc : Thread Cert.InProjBwdReferenceIdeal.nD Cert.InProjBwdReferenceIdeal.τ).loc Cert.InProjBwdReferenceIdeal.main_arg3) = m ((c.tc : Thread Cert.InProjBwdReferenceIdeal.nD Cert.InProjBwdReferenceIdeal.τ).loc Cert.InProjBwdReferenceIdeal.main_arg3)
      ∧ r.2.mem ((c.tc : Thread Cert.InProjBwdReferenceIdeal.nD Cert.InProjBwdReferenceIdeal.τ).loc Cert.InProjBwdReferenceIdeal.main_arg4) = m ((c.tc : Thread Cert.InProjBwdReferenceIdeal.nD Cert.InProjBwdReferenceIdeal.τ).loc Cert.InProjBwdReferenceIdeal.main_arg4)
      ∧ r.2.mem ((c.tc : Thread Cert.InProjBwdReferenceIdeal.nD Cert.InProjBwdReferenceIdeal.τ).loc Cert.InProjBwdReferenceIdeal.main_arg5) = m ((c.tc : Thread Cert.InProjBwdReferenceIdeal.nD Cert.InProjBwdReferenceIdeal.τ).loc Cert.InProjBwdReferenceIdeal.main_arg5)
      ∧ r.2.mem ((c.tc : Thread Cert.InProjBwdReferenceIdeal.nD Cert.InProjBwdReferenceIdeal.τ).loc Cert.InProjBwdReferenceIdeal.main_arg6) = m ((c.tc : Thread Cert.InProjBwdReferenceIdeal.nD Cert.InProjBwdReferenceIdeal.τ).loc Cert.InProjBwdReferenceIdeal.main_arg6)
      ∧ r.2.mem ((c.tc : Thread Cert.InProjBwdReferenceIdeal.nD Cert.InProjBwdReferenceIdeal.τ).loc Cert.InProjBwdReferenceIdeal.main_arg7) = m ((c.tc : Thread Cert.InProjBwdReferenceIdeal.nD Cert.InProjBwdReferenceIdeal.τ).loc Cert.InProjBwdReferenceIdeal.main_arg7)
      ∧ r.2.mem ((c.tc : Thread Cert.InProjBwdReferenceIdeal.nD Cert.InProjBwdReferenceIdeal.τ).loc Cert.InProjBwdReferenceIdeal.main_arg8) = m ((c.tc : Thread Cert.InProjBwdReferenceIdeal.nD Cert.InProjBwdReferenceIdeal.τ).loc Cert.InProjBwdReferenceIdeal.main_arg8))
      ∧ r.2.sem = fun _ => 0)

def quiescent_InProjBwdReferenceIdeal_pre_in_proj_bwd_finite [hInProjBwdReferenceIdeal : Cert.InProjBwdReferenceIdeal.Facts] [hPre_in_proj_bwd_finite : Cert.Pre_in_proj_bwd_finite.Facts] : Prop :=
  ∀ (m : (ℓ : Loc Cert.InProjBwdReferenceIdeal.nD Cert.InProjBwdReferenceIdeal.τ Cert.InProjBwdReferenceIdeal.sig) → Buf (Elt Ideal) ℓ) (g : Dev Cert.InProjBwdReferenceIdeal.nD → PrngReg), Pre_InProjBwdReferenceIdeal_in_proj_bwd_finite m →
    θ_run (Cert.InProjBwdReferenceIdeal.defs (F := Ideal)) (onTc (τ := Cert.InProjBwdReferenceIdeal.τ) (Cert.InProjBwdReferenceIdeal.main (F := Ideal))) ⟨m, fun _ => 0, g⟩ (fun r => (∀ c : Dev Cert.InProjBwdReferenceIdeal.nD,
      r.2.mem ((c.tc : Thread Cert.InProjBwdReferenceIdeal.nD Cert.InProjBwdReferenceIdeal.τ).loc Cert.InProjBwdReferenceIdeal.main_arg0) = m ((c.tc : Thread Cert.InProjBwdReferenceIdeal.nD Cert.InProjBwdReferenceIdeal.τ).loc Cert.InProjBwdReferenceIdeal.main_arg0)
      ∧ r.2.mem ((c.tc : Thread Cert.InProjBwdReferenceIdeal.nD Cert.InProjBwdReferenceIdeal.τ).loc Cert.InProjBwdReferenceIdeal.main_arg1) = m ((c.tc : Thread Cert.InProjBwdReferenceIdeal.nD Cert.InProjBwdReferenceIdeal.τ).loc Cert.InProjBwdReferenceIdeal.main_arg1)
      ∧ r.2.mem ((c.tc : Thread Cert.InProjBwdReferenceIdeal.nD Cert.InProjBwdReferenceIdeal.τ).loc Cert.InProjBwdReferenceIdeal.main_arg2) = m ((c.tc : Thread Cert.InProjBwdReferenceIdeal.nD Cert.InProjBwdReferenceIdeal.τ).loc Cert.InProjBwdReferenceIdeal.main_arg2)
      ∧ r.2.mem ((c.tc : Thread Cert.InProjBwdReferenceIdeal.nD Cert.InProjBwdReferenceIdeal.τ).loc Cert.InProjBwdReferenceIdeal.main_arg3) = m ((c.tc : Thread Cert.InProjBwdReferenceIdeal.nD Cert.InProjBwdReferenceIdeal.τ).loc Cert.InProjBwdReferenceIdeal.main_arg3)
      ∧ r.2.mem ((c.tc : Thread Cert.InProjBwdReferenceIdeal.nD Cert.InProjBwdReferenceIdeal.τ).loc Cert.InProjBwdReferenceIdeal.main_arg4) = m ((c.tc : Thread Cert.InProjBwdReferenceIdeal.nD Cert.InProjBwdReferenceIdeal.τ).loc Cert.InProjBwdReferenceIdeal.main_arg4)
      ∧ r.2.mem ((c.tc : Thread Cert.InProjBwdReferenceIdeal.nD Cert.InProjBwdReferenceIdeal.τ).loc Cert.InProjBwdReferenceIdeal.main_arg5) = m ((c.tc : Thread Cert.InProjBwdReferenceIdeal.nD Cert.InProjBwdReferenceIdeal.τ).loc Cert.InProjBwdReferenceIdeal.main_arg5)
      ∧ r.2.mem ((c.tc : Thread Cert.InProjBwdReferenceIdeal.nD Cert.InProjBwdReferenceIdeal.τ).loc Cert.InProjBwdReferenceIdeal.main_arg6) = m ((c.tc : Thread Cert.InProjBwdReferenceIdeal.nD Cert.InProjBwdReferenceIdeal.τ).loc Cert.InProjBwdReferenceIdeal.main_arg6)
      ∧ r.2.mem ((c.tc : Thread Cert.InProjBwdReferenceIdeal.nD Cert.InProjBwdReferenceIdeal.τ).loc Cert.InProjBwdReferenceIdeal.main_arg7) = m ((c.tc : Thread Cert.InProjBwdReferenceIdeal.nD Cert.InProjBwdReferenceIdeal.τ).loc Cert.InProjBwdReferenceIdeal.main_arg7)
      ∧ r.2.mem ((c.tc : Thread Cert.InProjBwdReferenceIdeal.nD Cert.InProjBwdReferenceIdeal.τ).loc Cert.InProjBwdReferenceIdeal.main_arg8) = m ((c.tc : Thread Cert.InProjBwdReferenceIdeal.nD Cert.InProjBwdReferenceIdeal.τ).loc Cert.InProjBwdReferenceIdeal.main_arg8))
      ∧ r.2.sem = fun _ => 0)

def quiescent_FfnOutLossKernel [hFfnOutLossKernel : Cert.FfnOutLossKernel.Facts] : Prop :=
  ∀ (m : (ℓ : Loc Cert.FfnOutLossKernel.nD Cert.FfnOutLossKernel.τ Cert.FfnOutLossKernel.sig) → Buf (Elt Bits) ℓ) (g : Dev Cert.FfnOutLossKernel.nD → PrngReg), Pre_FfnOutLossKernel m →
    θ_run (Cert.FfnOutLossKernel.defs (F := Bits)) (onTc (τ := Cert.FfnOutLossKernel.τ) (Cert.FfnOutLossKernel.main (F := Bits))) ⟨m, fun _ => 0, g⟩ (fun r => (∀ c : Dev Cert.FfnOutLossKernel.nD,
      r.2.mem ((c.tc : Thread Cert.FfnOutLossKernel.nD Cert.FfnOutLossKernel.τ).loc Cert.FfnOutLossKernel.main_arg0) = m ((c.tc : Thread Cert.FfnOutLossKernel.nD Cert.FfnOutLossKernel.τ).loc Cert.FfnOutLossKernel.main_arg0)
      ∧ r.2.mem ((c.tc : Thread Cert.FfnOutLossKernel.nD Cert.FfnOutLossKernel.τ).loc Cert.FfnOutLossKernel.main_arg1) = m ((c.tc : Thread Cert.FfnOutLossKernel.nD Cert.FfnOutLossKernel.τ).loc Cert.FfnOutLossKernel.main_arg1)
      ∧ r.2.mem ((c.tc : Thread Cert.FfnOutLossKernel.nD Cert.FfnOutLossKernel.τ).loc Cert.FfnOutLossKernel.main_arg2) = m ((c.tc : Thread Cert.FfnOutLossKernel.nD Cert.FfnOutLossKernel.τ).loc Cert.FfnOutLossKernel.main_arg2)
      ∧ r.2.mem ((c.tc : Thread Cert.FfnOutLossKernel.nD Cert.FfnOutLossKernel.τ).loc Cert.FfnOutLossKernel.main_arg3) = m ((c.tc : Thread Cert.FfnOutLossKernel.nD Cert.FfnOutLossKernel.τ).loc Cert.FfnOutLossKernel.main_arg3)
      ∧ r.2.mem ((c.tc : Thread Cert.FfnOutLossKernel.nD Cert.FfnOutLossKernel.τ).loc Cert.FfnOutLossKernel.main_arg4) = m ((c.tc : Thread Cert.FfnOutLossKernel.nD Cert.FfnOutLossKernel.τ).loc Cert.FfnOutLossKernel.main_arg4))
      ∧ r.2.sem = fun _ => 0)

def quiescent_FfnOutLossKernelIdeal [hFfnOutLossKernelIdeal : Cert.FfnOutLossKernelIdeal.Facts] : Prop :=
  ∀ (m : (ℓ : Loc Cert.FfnOutLossKernelIdeal.nD Cert.FfnOutLossKernelIdeal.τ Cert.FfnOutLossKernelIdeal.sig) → Buf (Elt Ideal) ℓ) (g : Dev Cert.FfnOutLossKernelIdeal.nD → PrngReg), Pre_FfnOutLossKernelIdeal m →
    θ_run (Cert.FfnOutLossKernelIdeal.defs (F := Ideal)) (onTc (τ := Cert.FfnOutLossKernelIdeal.τ) (Cert.FfnOutLossKernelIdeal.main (F := Ideal))) ⟨m, fun _ => 0, g⟩ (fun r => (∀ c : Dev Cert.FfnOutLossKernelIdeal.nD,
      r.2.mem ((c.tc : Thread Cert.FfnOutLossKernelIdeal.nD Cert.FfnOutLossKernelIdeal.τ).loc Cert.FfnOutLossKernelIdeal.main_arg0) = m ((c.tc : Thread Cert.FfnOutLossKernelIdeal.nD Cert.FfnOutLossKernelIdeal.τ).loc Cert.FfnOutLossKernelIdeal.main_arg0)
      ∧ r.2.mem ((c.tc : Thread Cert.FfnOutLossKernelIdeal.nD Cert.FfnOutLossKernelIdeal.τ).loc Cert.FfnOutLossKernelIdeal.main_arg1) = m ((c.tc : Thread Cert.FfnOutLossKernelIdeal.nD Cert.FfnOutLossKernelIdeal.τ).loc Cert.FfnOutLossKernelIdeal.main_arg1)
      ∧ r.2.mem ((c.tc : Thread Cert.FfnOutLossKernelIdeal.nD Cert.FfnOutLossKernelIdeal.τ).loc Cert.FfnOutLossKernelIdeal.main_arg2) = m ((c.tc : Thread Cert.FfnOutLossKernelIdeal.nD Cert.FfnOutLossKernelIdeal.τ).loc Cert.FfnOutLossKernelIdeal.main_arg2)
      ∧ r.2.mem ((c.tc : Thread Cert.FfnOutLossKernelIdeal.nD Cert.FfnOutLossKernelIdeal.τ).loc Cert.FfnOutLossKernelIdeal.main_arg3) = m ((c.tc : Thread Cert.FfnOutLossKernelIdeal.nD Cert.FfnOutLossKernelIdeal.τ).loc Cert.FfnOutLossKernelIdeal.main_arg3)
      ∧ r.2.mem ((c.tc : Thread Cert.FfnOutLossKernelIdeal.nD Cert.FfnOutLossKernelIdeal.τ).loc Cert.FfnOutLossKernelIdeal.main_arg4) = m ((c.tc : Thread Cert.FfnOutLossKernelIdeal.nD Cert.FfnOutLossKernelIdeal.τ).loc Cert.FfnOutLossKernelIdeal.main_arg4))
      ∧ r.2.sem = fun _ => 0)

def quiescent_FfnOutLossKernelIdeal_pre_ffn_out_loss_finite [hFfnOutLossKernelIdeal : Cert.FfnOutLossKernelIdeal.Facts] [hPre_ffn_out_loss_finite : Cert.Pre_ffn_out_loss_finite.Facts] : Prop :=
  ∀ (m : (ℓ : Loc Cert.FfnOutLossKernelIdeal.nD Cert.FfnOutLossKernelIdeal.τ Cert.FfnOutLossKernelIdeal.sig) → Buf (Elt Ideal) ℓ) (g : Dev Cert.FfnOutLossKernelIdeal.nD → PrngReg), Pre_FfnOutLossKernelIdeal_ffn_out_loss_finite m →
    θ_run (Cert.FfnOutLossKernelIdeal.defs (F := Ideal)) (onTc (τ := Cert.FfnOutLossKernelIdeal.τ) (Cert.FfnOutLossKernelIdeal.main (F := Ideal))) ⟨m, fun _ => 0, g⟩ (fun r => (∀ c : Dev Cert.FfnOutLossKernelIdeal.nD,
      r.2.mem ((c.tc : Thread Cert.FfnOutLossKernelIdeal.nD Cert.FfnOutLossKernelIdeal.τ).loc Cert.FfnOutLossKernelIdeal.main_arg0) = m ((c.tc : Thread Cert.FfnOutLossKernelIdeal.nD Cert.FfnOutLossKernelIdeal.τ).loc Cert.FfnOutLossKernelIdeal.main_arg0)
      ∧ r.2.mem ((c.tc : Thread Cert.FfnOutLossKernelIdeal.nD Cert.FfnOutLossKernelIdeal.τ).loc Cert.FfnOutLossKernelIdeal.main_arg1) = m ((c.tc : Thread Cert.FfnOutLossKernelIdeal.nD Cert.FfnOutLossKernelIdeal.τ).loc Cert.FfnOutLossKernelIdeal.main_arg1)
      ∧ r.2.mem ((c.tc : Thread Cert.FfnOutLossKernelIdeal.nD Cert.FfnOutLossKernelIdeal.τ).loc Cert.FfnOutLossKernelIdeal.main_arg2) = m ((c.tc : Thread Cert.FfnOutLossKernelIdeal.nD Cert.FfnOutLossKernelIdeal.τ).loc Cert.FfnOutLossKernelIdeal.main_arg2)
      ∧ r.2.mem ((c.tc : Thread Cert.FfnOutLossKernelIdeal.nD Cert.FfnOutLossKernelIdeal.τ).loc Cert.FfnOutLossKernelIdeal.main_arg3) = m ((c.tc : Thread Cert.FfnOutLossKernelIdeal.nD Cert.FfnOutLossKernelIdeal.τ).loc Cert.FfnOutLossKernelIdeal.main_arg3)
      ∧ r.2.mem ((c.tc : Thread Cert.FfnOutLossKernelIdeal.nD Cert.FfnOutLossKernelIdeal.τ).loc Cert.FfnOutLossKernelIdeal.main_arg4) = m ((c.tc : Thread Cert.FfnOutLossKernelIdeal.nD Cert.FfnOutLossKernelIdeal.τ).loc Cert.FfnOutLossKernelIdeal.main_arg4))
      ∧ r.2.sem = fun _ => 0)

def quiescent_FfnOutLossReferenceIdeal [hFfnOutLossReferenceIdeal : Cert.FfnOutLossReferenceIdeal.Facts] : Prop :=
  ∀ (m : (ℓ : Loc Cert.FfnOutLossReferenceIdeal.nD Cert.FfnOutLossReferenceIdeal.τ Cert.FfnOutLossReferenceIdeal.sig) → Buf (Elt Ideal) ℓ) (g : Dev Cert.FfnOutLossReferenceIdeal.nD → PrngReg), Pre_FfnOutLossReferenceIdeal m →
    θ_run (Cert.FfnOutLossReferenceIdeal.defs (F := Ideal)) (onTc (τ := Cert.FfnOutLossReferenceIdeal.τ) (Cert.FfnOutLossReferenceIdeal.main (F := Ideal))) ⟨m, fun _ => 0, g⟩ (fun r => (∀ c : Dev Cert.FfnOutLossReferenceIdeal.nD,
      r.2.mem ((c.tc : Thread Cert.FfnOutLossReferenceIdeal.nD Cert.FfnOutLossReferenceIdeal.τ).loc Cert.FfnOutLossReferenceIdeal.main_arg0) = m ((c.tc : Thread Cert.FfnOutLossReferenceIdeal.nD Cert.FfnOutLossReferenceIdeal.τ).loc Cert.FfnOutLossReferenceIdeal.main_arg0)
      ∧ r.2.mem ((c.tc : Thread Cert.FfnOutLossReferenceIdeal.nD Cert.FfnOutLossReferenceIdeal.τ).loc Cert.FfnOutLossReferenceIdeal.main_arg1) = m ((c.tc : Thread Cert.FfnOutLossReferenceIdeal.nD Cert.FfnOutLossReferenceIdeal.τ).loc Cert.FfnOutLossReferenceIdeal.main_arg1)
      ∧ r.2.mem ((c.tc : Thread Cert.FfnOutLossReferenceIdeal.nD Cert.FfnOutLossReferenceIdeal.τ).loc Cert.FfnOutLossReferenceIdeal.main_arg2) = m ((c.tc : Thread Cert.FfnOutLossReferenceIdeal.nD Cert.FfnOutLossReferenceIdeal.τ).loc Cert.FfnOutLossReferenceIdeal.main_arg2)
      ∧ r.2.mem ((c.tc : Thread Cert.FfnOutLossReferenceIdeal.nD Cert.FfnOutLossReferenceIdeal.τ).loc Cert.FfnOutLossReferenceIdeal.main_arg3) = m ((c.tc : Thread Cert.FfnOutLossReferenceIdeal.nD Cert.FfnOutLossReferenceIdeal.τ).loc Cert.FfnOutLossReferenceIdeal.main_arg3)
      ∧ r.2.mem ((c.tc : Thread Cert.FfnOutLossReferenceIdeal.nD Cert.FfnOutLossReferenceIdeal.τ).loc Cert.FfnOutLossReferenceIdeal.main_arg4) = m ((c.tc : Thread Cert.FfnOutLossReferenceIdeal.nD Cert.FfnOutLossReferenceIdeal.τ).loc Cert.FfnOutLossReferenceIdeal.main_arg4))
      ∧ r.2.sem = fun _ => 0)

def quiescent_FfnOutLossReferenceIdeal_pre_ffn_out_loss_finite [hFfnOutLossReferenceIdeal : Cert.FfnOutLossReferenceIdeal.Facts] [hPre_ffn_out_loss_finite : Cert.Pre_ffn_out_loss_finite.Facts] : Prop :=
  ∀ (m : (ℓ : Loc Cert.FfnOutLossReferenceIdeal.nD Cert.FfnOutLossReferenceIdeal.τ Cert.FfnOutLossReferenceIdeal.sig) → Buf (Elt Ideal) ℓ) (g : Dev Cert.FfnOutLossReferenceIdeal.nD → PrngReg), Pre_FfnOutLossReferenceIdeal_ffn_out_loss_finite m →
    θ_run (Cert.FfnOutLossReferenceIdeal.defs (F := Ideal)) (onTc (τ := Cert.FfnOutLossReferenceIdeal.τ) (Cert.FfnOutLossReferenceIdeal.main (F := Ideal))) ⟨m, fun _ => 0, g⟩ (fun r => (∀ c : Dev Cert.FfnOutLossReferenceIdeal.nD,
      r.2.mem ((c.tc : Thread Cert.FfnOutLossReferenceIdeal.nD Cert.FfnOutLossReferenceIdeal.τ).loc Cert.FfnOutLossReferenceIdeal.main_arg0) = m ((c.tc : Thread Cert.FfnOutLossReferenceIdeal.nD Cert.FfnOutLossReferenceIdeal.τ).loc Cert.FfnOutLossReferenceIdeal.main_arg0)
      ∧ r.2.mem ((c.tc : Thread Cert.FfnOutLossReferenceIdeal.nD Cert.FfnOutLossReferenceIdeal.τ).loc Cert.FfnOutLossReferenceIdeal.main_arg1) = m ((c.tc : Thread Cert.FfnOutLossReferenceIdeal.nD Cert.FfnOutLossReferenceIdeal.τ).loc Cert.FfnOutLossReferenceIdeal.main_arg1)
      ∧ r.2.mem ((c.tc : Thread Cert.FfnOutLossReferenceIdeal.nD Cert.FfnOutLossReferenceIdeal.τ).loc Cert.FfnOutLossReferenceIdeal.main_arg2) = m ((c.tc : Thread Cert.FfnOutLossReferenceIdeal.nD Cert.FfnOutLossReferenceIdeal.τ).loc Cert.FfnOutLossReferenceIdeal.main_arg2)
      ∧ r.2.mem ((c.tc : Thread Cert.FfnOutLossReferenceIdeal.nD Cert.FfnOutLossReferenceIdeal.τ).loc Cert.FfnOutLossReferenceIdeal.main_arg3) = m ((c.tc : Thread Cert.FfnOutLossReferenceIdeal.nD Cert.FfnOutLossReferenceIdeal.τ).loc Cert.FfnOutLossReferenceIdeal.main_arg3)
      ∧ r.2.mem ((c.tc : Thread Cert.FfnOutLossReferenceIdeal.nD Cert.FfnOutLossReferenceIdeal.τ).loc Cert.FfnOutLossReferenceIdeal.main_arg4) = m ((c.tc : Thread Cert.FfnOutLossReferenceIdeal.nD Cert.FfnOutLossReferenceIdeal.τ).loc Cert.FfnOutLossReferenceIdeal.main_arg4))
      ∧ r.2.sem = fun _ => 0)

def quiescent_InProjKernel [hInProjKernel : Cert.InProjKernel.Facts] : Prop :=
  ∀ (m : (ℓ : Loc Cert.InProjKernel.nD Cert.InProjKernel.τ Cert.InProjKernel.sig) → Buf (Elt Bits) ℓ) (g : Dev Cert.InProjKernel.nD → PrngReg), Pre_InProjKernel m →
    θ_run (Cert.InProjKernel.defs (F := Bits)) (onTc (τ := Cert.InProjKernel.τ) (Cert.InProjKernel.main (F := Bits))) ⟨m, fun _ => 0, g⟩ (fun r => (∀ c : Dev Cert.InProjKernel.nD,
      r.2.mem ((c.tc : Thread Cert.InProjKernel.nD Cert.InProjKernel.τ).loc Cert.InProjKernel.main_arg0) = m ((c.tc : Thread Cert.InProjKernel.nD Cert.InProjKernel.τ).loc Cert.InProjKernel.main_arg0)
      ∧ r.2.mem ((c.tc : Thread Cert.InProjKernel.nD Cert.InProjKernel.τ).loc Cert.InProjKernel.main_arg1) = m ((c.tc : Thread Cert.InProjKernel.nD Cert.InProjKernel.τ).loc Cert.InProjKernel.main_arg1)
      ∧ r.2.mem ((c.tc : Thread Cert.InProjKernel.nD Cert.InProjKernel.τ).loc Cert.InProjKernel.main_arg2) = m ((c.tc : Thread Cert.InProjKernel.nD Cert.InProjKernel.τ).loc Cert.InProjKernel.main_arg2)
      ∧ r.2.mem ((c.tc : Thread Cert.InProjKernel.nD Cert.InProjKernel.τ).loc Cert.InProjKernel.main_arg3) = m ((c.tc : Thread Cert.InProjKernel.nD Cert.InProjKernel.τ).loc Cert.InProjKernel.main_arg3))
      ∧ r.2.sem = fun _ => 0)

def quiescent_InProjKernelIdeal [hInProjKernelIdeal : Cert.InProjKernelIdeal.Facts] : Prop :=
  ∀ (m : (ℓ : Loc Cert.InProjKernelIdeal.nD Cert.InProjKernelIdeal.τ Cert.InProjKernelIdeal.sig) → Buf (Elt Ideal) ℓ) (g : Dev Cert.InProjKernelIdeal.nD → PrngReg), Pre_InProjKernelIdeal m →
    θ_run (Cert.InProjKernelIdeal.defs (F := Ideal)) (onTc (τ := Cert.InProjKernelIdeal.τ) (Cert.InProjKernelIdeal.main (F := Ideal))) ⟨m, fun _ => 0, g⟩ (fun r => (∀ c : Dev Cert.InProjKernelIdeal.nD,
      r.2.mem ((c.tc : Thread Cert.InProjKernelIdeal.nD Cert.InProjKernelIdeal.τ).loc Cert.InProjKernelIdeal.main_arg0) = m ((c.tc : Thread Cert.InProjKernelIdeal.nD Cert.InProjKernelIdeal.τ).loc Cert.InProjKernelIdeal.main_arg0)
      ∧ r.2.mem ((c.tc : Thread Cert.InProjKernelIdeal.nD Cert.InProjKernelIdeal.τ).loc Cert.InProjKernelIdeal.main_arg1) = m ((c.tc : Thread Cert.InProjKernelIdeal.nD Cert.InProjKernelIdeal.τ).loc Cert.InProjKernelIdeal.main_arg1)
      ∧ r.2.mem ((c.tc : Thread Cert.InProjKernelIdeal.nD Cert.InProjKernelIdeal.τ).loc Cert.InProjKernelIdeal.main_arg2) = m ((c.tc : Thread Cert.InProjKernelIdeal.nD Cert.InProjKernelIdeal.τ).loc Cert.InProjKernelIdeal.main_arg2)
      ∧ r.2.mem ((c.tc : Thread Cert.InProjKernelIdeal.nD Cert.InProjKernelIdeal.τ).loc Cert.InProjKernelIdeal.main_arg3) = m ((c.tc : Thread Cert.InProjKernelIdeal.nD Cert.InProjKernelIdeal.τ).loc Cert.InProjKernelIdeal.main_arg3))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3))
      ∧ r.2.sem = fun _ => 0)

def quiescent_FfnInFirstKernel [hFfnInFirstKernel : Cert.FfnInFirstKernel.Facts] : Prop :=
  ∀ (m : (ℓ : Loc Cert.FfnInFirstKernel.nD Cert.FfnInFirstKernel.τ Cert.FfnInFirstKernel.sig) → Buf (Elt Bits) ℓ) (g : Dev Cert.FfnInFirstKernel.nD → PrngReg), Pre_FfnInFirstKernel m →
    θ_run (Cert.FfnInFirstKernel.defs (F := Bits)) (onTc (τ := Cert.FfnInFirstKernel.τ) (Cert.FfnInFirstKernel.main (F := Bits))) ⟨m, fun _ => 0, g⟩ (fun r => (∀ c : Dev Cert.FfnInFirstKernel.nD,
      r.2.mem ((c.tc : Thread Cert.FfnInFirstKernel.nD Cert.FfnInFirstKernel.τ).loc Cert.FfnInFirstKernel.main_arg0) = m ((c.tc : Thread Cert.FfnInFirstKernel.nD Cert.FfnInFirstKernel.τ).loc Cert.FfnInFirstKernel.main_arg0)
      ∧ r.2.mem ((c.tc : Thread Cert.FfnInFirstKernel.nD Cert.FfnInFirstKernel.τ).loc Cert.FfnInFirstKernel.main_arg1) = m ((c.tc : Thread Cert.FfnInFirstKernel.nD Cert.FfnInFirstKernel.τ).loc Cert.FfnInFirstKernel.main_arg1)
      ∧ r.2.mem ((c.tc : Thread Cert.FfnInFirstKernel.nD Cert.FfnInFirstKernel.τ).loc Cert.FfnInFirstKernel.main_arg2) = m ((c.tc : Thread Cert.FfnInFirstKernel.nD Cert.FfnInFirstKernel.τ).loc Cert.FfnInFirstKernel.main_arg2)
      ∧ r.2.mem ((c.tc : Thread Cert.FfnInFirstKernel.nD Cert.FfnInFirstKernel.τ).loc Cert.FfnInFirstKernel.main_arg3) = m ((c.tc : Thread Cert.FfnInFirstKernel.nD Cert.FfnInFirstKernel.τ).loc Cert.FfnInFirstKernel.main_arg3))
      ∧ r.2.sem = fun _ => 0)

def quiescent_FfnInFirstKernelIdeal [hFfnInFirstKernelIdeal : Cert.FfnInFirstKernelIdeal.Facts] : Prop :=
  ∀ (m : (ℓ : Loc Cert.FfnInFirstKernelIdeal.nD Cert.FfnInFirstKernelIdeal.τ Cert.FfnInFirstKernelIdeal.sig) → Buf (Elt Ideal) ℓ) (g : Dev Cert.FfnInFirstKernelIdeal.nD → PrngReg), Pre_FfnInFirstKernelIdeal m →
    θ_run (Cert.FfnInFirstKernelIdeal.defs (F := Ideal)) (onTc (τ := Cert.FfnInFirstKernelIdeal.τ) (Cert.FfnInFirstKernelIdeal.main (F := Ideal))) ⟨m, fun _ => 0, g⟩ (fun r => (∀ c : Dev Cert.FfnInFirstKernelIdeal.nD,
      r.2.mem ((c.tc : Thread Cert.FfnInFirstKernelIdeal.nD Cert.FfnInFirstKernelIdeal.τ).loc Cert.FfnInFirstKernelIdeal.main_arg0) = m ((c.tc : Thread Cert.FfnInFirstKernelIdeal.nD Cert.FfnInFirstKernelIdeal.τ).loc Cert.FfnInFirstKernelIdeal.main_arg0)
      ∧ r.2.mem ((c.tc : Thread Cert.FfnInFirstKernelIdeal.nD Cert.FfnInFirstKernelIdeal.τ).loc Cert.FfnInFirstKernelIdeal.main_arg1) = m ((c.tc : Thread Cert.FfnInFirstKernelIdeal.nD Cert.FfnInFirstKernelIdeal.τ).loc Cert.FfnInFirstKernelIdeal.main_arg1)
      ∧ r.2.mem ((c.tc : Thread Cert.FfnInFirstKernelIdeal.nD Cert.FfnInFirstKernelIdeal.τ).loc Cert.FfnInFirstKernelIdeal.main_arg2) = m ((c.tc : Thread Cert.FfnInFirstKernelIdeal.nD Cert.FfnInFirstKernelIdeal.τ).loc Cert.FfnInFirstKernelIdeal.main_arg2)
      ∧ r.2.mem ((c.tc : Thread Cert.FfnInFirstKernelIdeal.nD Cert.FfnInFirstKernelIdeal.τ).loc Cert.FfnInFirstKernelIdeal.main_arg3) = m ((c.tc : Thread Cert.FfnInFirstKernelIdeal.nD Cert.FfnInFirstKernelIdeal.τ).loc Cert.FfnInFirstKernelIdeal.main_arg3))
      ∧ r.2.sem = fun _ => 0)

def quiescent_FfnInFirstReferenceIdeal [hFfnInFirstReferenceIdeal : Cert.FfnInFirstReferenceIdeal.Facts] : Prop :=
  ∀ (m : (ℓ : Loc Cert.FfnInFirstReferenceIdeal.nD Cert.FfnInFirstReferenceIdeal.τ Cert.FfnInFirstReferenceIdeal.sig) → Buf (Elt Ideal) ℓ) (g : Dev Cert.FfnInFirstReferenceIdeal.nD → PrngReg), Pre_FfnInFirstReferenceIdeal m →
    θ_run (Cert.FfnInFirstReferenceIdeal.defs (F := Ideal)) (onTc (τ := Cert.FfnInFirstReferenceIdeal.τ) (Cert.FfnInFirstReferenceIdeal.main (F := Ideal))) ⟨m, fun _ => 0, g⟩ (fun r => (∀ c : Dev Cert.FfnInFirstReferenceIdeal.nD,
      r.2.mem ((c.tc : Thread Cert.FfnInFirstReferenceIdeal.nD Cert.FfnInFirstReferenceIdeal.τ).loc Cert.FfnInFirstReferenceIdeal.main_arg0) = m ((c.tc : Thread Cert.FfnInFirstReferenceIdeal.nD Cert.FfnInFirstReferenceIdeal.τ).loc Cert.FfnInFirstReferenceIdeal.main_arg0)
      ∧ r.2.mem ((c.tc : Thread Cert.FfnInFirstReferenceIdeal.nD Cert.FfnInFirstReferenceIdeal.τ).loc Cert.FfnInFirstReferenceIdeal.main_arg1) = m ((c.tc : Thread Cert.FfnInFirstReferenceIdeal.nD Cert.FfnInFirstReferenceIdeal.τ).loc Cert.FfnInFirstReferenceIdeal.main_arg1)
      ∧ r.2.mem ((c.tc : Thread Cert.FfnInFirstReferenceIdeal.nD Cert.FfnInFirstReferenceIdeal.τ).loc Cert.FfnInFirstReferenceIdeal.main_arg2) = m ((c.tc : Thread Cert.FfnInFirstReferenceIdeal.nD Cert.FfnInFirstReferenceIdeal.τ).loc Cert.FfnInFirstReferenceIdeal.main_arg2)
      ∧ r.2.mem ((c.tc : Thread Cert.FfnInFirstReferenceIdeal.nD Cert.FfnInFirstReferenceIdeal.τ).loc Cert.FfnInFirstReferenceIdeal.main_arg3) = m ((c.tc : Thread Cert.FfnInFirstReferenceIdeal.nD Cert.FfnInFirstReferenceIdeal.τ).loc Cert.FfnInFirstReferenceIdeal.main_arg3))
      ∧ r.2.sem = fun _ => 0)

def quiescent_FfnInSecondKernel [hFfnInSecondKernel : Cert.FfnInSecondKernel.Facts] : Prop :=
  ∀ (m : (ℓ : Loc Cert.FfnInSecondKernel.nD Cert.FfnInSecondKernel.τ Cert.FfnInSecondKernel.sig) → Buf (Elt Bits) ℓ) (g : Dev Cert.FfnInSecondKernel.nD → PrngReg), Pre_FfnInSecondKernel m →
    θ_run (Cert.FfnInSecondKernel.defs (F := Bits)) (onTc (τ := Cert.FfnInSecondKernel.τ) (Cert.FfnInSecondKernel.main (F := Bits))) ⟨m, fun _ => 0, g⟩ (fun r => (∀ c : Dev Cert.FfnInSecondKernel.nD,
      r.2.mem ((c.tc : Thread Cert.FfnInSecondKernel.nD Cert.FfnInSecondKernel.τ).loc Cert.FfnInSecondKernel.main_arg0) = m ((c.tc : Thread Cert.FfnInSecondKernel.nD Cert.FfnInSecondKernel.τ).loc Cert.FfnInSecondKernel.main_arg0)
      ∧ r.2.mem ((c.tc : Thread Cert.FfnInSecondKernel.nD Cert.FfnInSecondKernel.τ).loc Cert.FfnInSecondKernel.main_arg1) = m ((c.tc : Thread Cert.FfnInSecondKernel.nD Cert.FfnInSecondKernel.τ).loc Cert.FfnInSecondKernel.main_arg1)
      ∧ r.2.mem ((c.tc : Thread Cert.FfnInSecondKernel.nD Cert.FfnInSecondKernel.τ).loc Cert.FfnInSecondKernel.main_arg2) = m ((c.tc : Thread Cert.FfnInSecondKernel.nD Cert.FfnInSecondKernel.τ).loc Cert.FfnInSecondKernel.main_arg2)
      ∧ r.2.mem ((c.tc : Thread Cert.FfnInSecondKernel.nD Cert.FfnInSecondKernel.τ).loc Cert.FfnInSecondKernel.main_arg3) = m ((c.tc : Thread Cert.FfnInSecondKernel.nD Cert.FfnInSecondKernel.τ).loc Cert.FfnInSecondKernel.main_arg3)
      ∧ r.2.mem ((c.tc : Thread Cert.FfnInSecondKernel.nD Cert.FfnInSecondKernel.τ).loc Cert.FfnInSecondKernel.main_arg4) = m ((c.tc : Thread Cert.FfnInSecondKernel.nD Cert.FfnInSecondKernel.τ).loc Cert.FfnInSecondKernel.main_arg4))
      ∧ r.2.sem = fun _ => 0)

def quiescent_FfnInSecondKernelIdeal [hFfnInSecondKernelIdeal : Cert.FfnInSecondKernelIdeal.Facts] : Prop :=
  ∀ (m : (ℓ : Loc Cert.FfnInSecondKernelIdeal.nD Cert.FfnInSecondKernelIdeal.τ Cert.FfnInSecondKernelIdeal.sig) → Buf (Elt Ideal) ℓ) (g : Dev Cert.FfnInSecondKernelIdeal.nD → PrngReg), Pre_FfnInSecondKernelIdeal m →
    θ_run (Cert.FfnInSecondKernelIdeal.defs (F := Ideal)) (onTc (τ := Cert.FfnInSecondKernelIdeal.τ) (Cert.FfnInSecondKernelIdeal.main (F := Ideal))) ⟨m, fun _ => 0, g⟩ (fun r => (∀ c : Dev Cert.FfnInSecondKernelIdeal.nD,
      r.2.mem ((c.tc : Thread Cert.FfnInSecondKernelIdeal.nD Cert.FfnInSecondKernelIdeal.τ).loc Cert.FfnInSecondKernelIdeal.main_arg0) = m ((c.tc : Thread Cert.FfnInSecondKernelIdeal.nD Cert.FfnInSecondKernelIdeal.τ).loc Cert.FfnInSecondKernelIdeal.main_arg0)
      ∧ r.2.mem ((c.tc : Thread Cert.FfnInSecondKernelIdeal.nD Cert.FfnInSecondKernelIdeal.τ).loc Cert.FfnInSecondKernelIdeal.main_arg1) = m ((c.tc : Thread Cert.FfnInSecondKernelIdeal.nD Cert.FfnInSecondKernelIdeal.τ).loc Cert.FfnInSecondKernelIdeal.main_arg1)
      ∧ r.2.mem ((c.tc : Thread Cert.FfnInSecondKernelIdeal.nD Cert.FfnInSecondKernelIdeal.τ).loc Cert.FfnInSecondKernelIdeal.main_arg2) = m ((c.tc : Thread Cert.FfnInSecondKernelIdeal.nD Cert.FfnInSecondKernelIdeal.τ).loc Cert.FfnInSecondKernelIdeal.main_arg2)
      ∧ r.2.mem ((c.tc : Thread Cert.FfnInSecondKernelIdeal.nD Cert.FfnInSecondKernelIdeal.τ).loc Cert.FfnInSecondKernelIdeal.main_arg3) = m ((c.tc : Thread Cert.FfnInSecondKernelIdeal.nD Cert.FfnInSecondKernelIdeal.τ).loc Cert.FfnInSecondKernelIdeal.main_arg3)
      ∧ r.2.mem ((c.tc : Thread Cert.FfnInSecondKernelIdeal.nD Cert.FfnInSecondKernelIdeal.τ).loc Cert.FfnInSecondKernelIdeal.main_arg4) = m ((c.tc : Thread Cert.FfnInSecondKernelIdeal.nD Cert.FfnInSecondKernelIdeal.τ).loc Cert.FfnInSecondKernelIdeal.main_arg4))
      ∧ r.2.sem = fun _ => 0)

def quiescent_FfnInSecondReferenceIdeal [hFfnInSecondReferenceIdeal : Cert.FfnInSecondReferenceIdeal.Facts] : Prop :=
  ∀ (m : (ℓ : Loc Cert.FfnInSecondReferenceIdeal.nD Cert.FfnInSecondReferenceIdeal.τ Cert.FfnInSecondReferenceIdeal.sig) → Buf (Elt Ideal) ℓ) (g : Dev Cert.FfnInSecondReferenceIdeal.nD → PrngReg), Pre_FfnInSecondReferenceIdeal m →
    θ_run (Cert.FfnInSecondReferenceIdeal.defs (F := Ideal)) (onTc (τ := Cert.FfnInSecondReferenceIdeal.τ) (Cert.FfnInSecondReferenceIdeal.main (F := Ideal))) ⟨m, fun _ => 0, g⟩ (fun r => (∀ c : Dev Cert.FfnInSecondReferenceIdeal.nD,
      r.2.mem ((c.tc : Thread Cert.FfnInSecondReferenceIdeal.nD Cert.FfnInSecondReferenceIdeal.τ).loc Cert.FfnInSecondReferenceIdeal.main_arg0) = m ((c.tc : Thread Cert.FfnInSecondReferenceIdeal.nD Cert.FfnInSecondReferenceIdeal.τ).loc Cert.FfnInSecondReferenceIdeal.main_arg0)
      ∧ r.2.mem ((c.tc : Thread Cert.FfnInSecondReferenceIdeal.nD Cert.FfnInSecondReferenceIdeal.τ).loc Cert.FfnInSecondReferenceIdeal.main_arg1) = m ((c.tc : Thread Cert.FfnInSecondReferenceIdeal.nD Cert.FfnInSecondReferenceIdeal.τ).loc Cert.FfnInSecondReferenceIdeal.main_arg1)
      ∧ r.2.mem ((c.tc : Thread Cert.FfnInSecondReferenceIdeal.nD Cert.FfnInSecondReferenceIdeal.τ).loc Cert.FfnInSecondReferenceIdeal.main_arg2) = m ((c.tc : Thread Cert.FfnInSecondReferenceIdeal.nD Cert.FfnInSecondReferenceIdeal.τ).loc Cert.FfnInSecondReferenceIdeal.main_arg2)
      ∧ r.2.mem ((c.tc : Thread Cert.FfnInSecondReferenceIdeal.nD Cert.FfnInSecondReferenceIdeal.τ).loc Cert.FfnInSecondReferenceIdeal.main_arg3) = m ((c.tc : Thread Cert.FfnInSecondReferenceIdeal.nD Cert.FfnInSecondReferenceIdeal.τ).loc Cert.FfnInSecondReferenceIdeal.main_arg3)
      ∧ r.2.mem ((c.tc : Thread Cert.FfnInSecondReferenceIdeal.nD Cert.FfnInSecondReferenceIdeal.τ).loc Cert.FfnInSecondReferenceIdeal.main_arg4) = m ((c.tc : Thread Cert.FfnInSecondReferenceIdeal.nD Cert.FfnInSecondReferenceIdeal.τ).loc Cert.FfnInSecondReferenceIdeal.main_arg4))
      ∧ r.2.sem = fun _ => 0)

def quiescent_MixOutFirstKernel [hMixOutFirstKernel : Cert.MixOutFirstKernel.Facts] : Prop :=
  ∀ (m : (ℓ : Loc Cert.MixOutFirstKernel.nD Cert.MixOutFirstKernel.τ Cert.MixOutFirstKernel.sig) → Buf (Elt Bits) ℓ) (g : Dev Cert.MixOutFirstKernel.nD → PrngReg), Pre_MixOutFirstKernel m →
    θ_run (Cert.MixOutFirstKernel.defs (F := Bits)) (onTc (τ := Cert.MixOutFirstKernel.τ) (Cert.MixOutFirstKernel.main (F := Bits))) ⟨m, fun _ => 0, g⟩ (fun r => (∀ c : Dev Cert.MixOutFirstKernel.nD,
      r.2.mem ((c.tc : Thread Cert.MixOutFirstKernel.nD Cert.MixOutFirstKernel.τ).loc Cert.MixOutFirstKernel.main_arg0) = m ((c.tc : Thread Cert.MixOutFirstKernel.nD Cert.MixOutFirstKernel.τ).loc Cert.MixOutFirstKernel.main_arg0)
      ∧ r.2.mem ((c.tc : Thread Cert.MixOutFirstKernel.nD Cert.MixOutFirstKernel.τ).loc Cert.MixOutFirstKernel.main_arg1) = m ((c.tc : Thread Cert.MixOutFirstKernel.nD Cert.MixOutFirstKernel.τ).loc Cert.MixOutFirstKernel.main_arg1)
      ∧ r.2.mem ((c.tc : Thread Cert.MixOutFirstKernel.nD Cert.MixOutFirstKernel.τ).loc Cert.MixOutFirstKernel.main_arg2) = m ((c.tc : Thread Cert.MixOutFirstKernel.nD Cert.MixOutFirstKernel.τ).loc Cert.MixOutFirstKernel.main_arg2)
      ∧ r.2.mem ((c.tc : Thread Cert.MixOutFirstKernel.nD Cert.MixOutFirstKernel.τ).loc Cert.MixOutFirstKernel.main_arg3) = m ((c.tc : Thread Cert.MixOutFirstKernel.nD Cert.MixOutFirstKernel.τ).loc Cert.MixOutFirstKernel.main_arg3)
      ∧ r.2.mem ((c.tc : Thread Cert.MixOutFirstKernel.nD Cert.MixOutFirstKernel.τ).loc Cert.MixOutFirstKernel.main_arg4) = m ((c.tc : Thread Cert.MixOutFirstKernel.nD Cert.MixOutFirstKernel.τ).loc Cert.MixOutFirstKernel.main_arg4)
      ∧ r.2.mem ((c.tc : Thread Cert.MixOutFirstKernel.nD Cert.MixOutFirstKernel.τ).loc Cert.MixOutFirstKernel.main_arg5) = m ((c.tc : Thread Cert.MixOutFirstKernel.nD Cert.MixOutFirstKernel.τ).loc Cert.MixOutFirstKernel.main_arg5)
      ∧ r.2.mem ((c.tc : Thread Cert.MixOutFirstKernel.nD Cert.MixOutFirstKernel.τ).loc Cert.MixOutFirstKernel.main_arg6) = m ((c.tc : Thread Cert.MixOutFirstKernel.nD Cert.MixOutFirstKernel.τ).loc Cert.MixOutFirstKernel.main_arg6)
      ∧ r.2.mem ((c.tc : Thread Cert.MixOutFirstKernel.nD Cert.MixOutFirstKernel.τ).loc Cert.MixOutFirstKernel.main_arg7) = m ((c.tc : Thread Cert.MixOutFirstKernel.nD Cert.MixOutFirstKernel.τ).loc Cert.MixOutFirstKernel.main_arg7)
      ∧ r.2.mem ((c.tc : Thread Cert.MixOutFirstKernel.nD Cert.MixOutFirstKernel.τ).loc Cert.MixOutFirstKernel.main_arg8) = m ((c.tc : Thread Cert.MixOutFirstKernel.nD Cert.MixOutFirstKernel.τ).loc Cert.MixOutFirstKernel.main_arg8))
      ∧ r.2.sem = fun _ => 0)

def quiescent_MixOutFirstKernelIdeal [hMixOutFirstKernelIdeal : Cert.MixOutFirstKernelIdeal.Facts] : Prop :=
  ∀ (m : (ℓ : Loc Cert.MixOutFirstKernelIdeal.nD Cert.MixOutFirstKernelIdeal.τ Cert.MixOutFirstKernelIdeal.sig) → Buf (Elt Ideal) ℓ) (g : Dev Cert.MixOutFirstKernelIdeal.nD → PrngReg), Pre_MixOutFirstKernelIdeal m →
    θ_run (Cert.MixOutFirstKernelIdeal.defs (F := Ideal)) (onTc (τ := Cert.MixOutFirstKernelIdeal.τ) (Cert.MixOutFirstKernelIdeal.main (F := Ideal))) ⟨m, fun _ => 0, g⟩ (fun r => (∀ c : Dev Cert.MixOutFirstKernelIdeal.nD,
      r.2.mem ((c.tc : Thread Cert.MixOutFirstKernelIdeal.nD Cert.MixOutFirstKernelIdeal.τ).loc Cert.MixOutFirstKernelIdeal.main_arg0) = m ((c.tc : Thread Cert.MixOutFirstKernelIdeal.nD Cert.MixOutFirstKernelIdeal.τ).loc Cert.MixOutFirstKernelIdeal.main_arg0)
      ∧ r.2.mem ((c.tc : Thread Cert.MixOutFirstKernelIdeal.nD Cert.MixOutFirstKernelIdeal.τ).loc Cert.MixOutFirstKernelIdeal.main_arg1) = m ((c.tc : Thread Cert.MixOutFirstKernelIdeal.nD Cert.MixOutFirstKernelIdeal.τ).loc Cert.MixOutFirstKernelIdeal.main_arg1)
      ∧ r.2.mem ((c.tc : Thread Cert.MixOutFirstKernelIdeal.nD Cert.MixOutFirstKernelIdeal.τ).loc Cert.MixOutFirstKernelIdeal.main_arg2) = m ((c.tc : Thread Cert.MixOutFirstKernelIdeal.nD Cert.MixOutFirstKernelIdeal.τ).loc Cert.MixOutFirstKernelIdeal.main_arg2)
      ∧ r.2.mem ((c.tc : Thread Cert.MixOutFirstKernelIdeal.nD Cert.MixOutFirstKernelIdeal.τ).loc Cert.MixOutFirstKernelIdeal.main_arg3) = m ((c.tc : Thread Cert.MixOutFirstKernelIdeal.nD Cert.MixOutFirstKernelIdeal.τ).loc Cert.MixOutFirstKernelIdeal.main_arg3)
      ∧ r.2.mem ((c.tc : Thread Cert.MixOutFirstKernelIdeal.nD Cert.MixOutFirstKernelIdeal.τ).loc Cert.MixOutFirstKernelIdeal.main_arg4) = m ((c.tc : Thread Cert.MixOutFirstKernelIdeal.nD Cert.MixOutFirstKernelIdeal.τ).loc Cert.MixOutFirstKernelIdeal.main_arg4)
      ∧ r.2.mem ((c.tc : Thread Cert.MixOutFirstKernelIdeal.nD Cert.MixOutFirstKernelIdeal.τ).loc Cert.MixOutFirstKernelIdeal.main_arg5) = m ((c.tc : Thread Cert.MixOutFirstKernelIdeal.nD Cert.MixOutFirstKernelIdeal.τ).loc Cert.MixOutFirstKernelIdeal.main_arg5)
      ∧ r.2.mem ((c.tc : Thread Cert.MixOutFirstKernelIdeal.nD Cert.MixOutFirstKernelIdeal.τ).loc Cert.MixOutFirstKernelIdeal.main_arg6) = m ((c.tc : Thread Cert.MixOutFirstKernelIdeal.nD Cert.MixOutFirstKernelIdeal.τ).loc Cert.MixOutFirstKernelIdeal.main_arg6)
      ∧ r.2.mem ((c.tc : Thread Cert.MixOutFirstKernelIdeal.nD Cert.MixOutFirstKernelIdeal.τ).loc Cert.MixOutFirstKernelIdeal.main_arg7) = m ((c.tc : Thread Cert.MixOutFirstKernelIdeal.nD Cert.MixOutFirstKernelIdeal.τ).loc Cert.MixOutFirstKernelIdeal.main_arg7)
      ∧ r.2.mem ((c.tc : Thread Cert.MixOutFirstKernelIdeal.nD Cert.MixOutFirstKernelIdeal.τ).loc Cert.MixOutFirstKernelIdeal.main_arg8) = m ((c.tc : Thread Cert.MixOutFirstKernelIdeal.nD Cert.MixOutFirstKernelIdeal.τ).loc Cert.MixOutFirstKernelIdeal.main_arg8))
      ∧ r.2.sem = fun _ => 0)

def quiescent_MixOutFirstReferenceIdeal [hMixOutFirstReferenceIdeal : Cert.MixOutFirstReferenceIdeal.Facts] : Prop :=
  ∀ (m : (ℓ : Loc Cert.MixOutFirstReferenceIdeal.nD Cert.MixOutFirstReferenceIdeal.τ Cert.MixOutFirstReferenceIdeal.sig) → Buf (Elt Ideal) ℓ) (g : Dev Cert.MixOutFirstReferenceIdeal.nD → PrngReg), Pre_MixOutFirstReferenceIdeal m →
    θ_run (Cert.MixOutFirstReferenceIdeal.defs (F := Ideal)) (onTc (τ := Cert.MixOutFirstReferenceIdeal.τ) (Cert.MixOutFirstReferenceIdeal.main (F := Ideal))) ⟨m, fun _ => 0, g⟩ (fun r => (∀ c : Dev Cert.MixOutFirstReferenceIdeal.nD,
      r.2.mem ((c.tc : Thread Cert.MixOutFirstReferenceIdeal.nD Cert.MixOutFirstReferenceIdeal.τ).loc Cert.MixOutFirstReferenceIdeal.main_arg0) = m ((c.tc : Thread Cert.MixOutFirstReferenceIdeal.nD Cert.MixOutFirstReferenceIdeal.τ).loc Cert.MixOutFirstReferenceIdeal.main_arg0)
      ∧ r.2.mem ((c.tc : Thread Cert.MixOutFirstReferenceIdeal.nD Cert.MixOutFirstReferenceIdeal.τ).loc Cert.MixOutFirstReferenceIdeal.main_arg1) = m ((c.tc : Thread Cert.MixOutFirstReferenceIdeal.nD Cert.MixOutFirstReferenceIdeal.τ).loc Cert.MixOutFirstReferenceIdeal.main_arg1)
      ∧ r.2.mem ((c.tc : Thread Cert.MixOutFirstReferenceIdeal.nD Cert.MixOutFirstReferenceIdeal.τ).loc Cert.MixOutFirstReferenceIdeal.main_arg2) = m ((c.tc : Thread Cert.MixOutFirstReferenceIdeal.nD Cert.MixOutFirstReferenceIdeal.τ).loc Cert.MixOutFirstReferenceIdeal.main_arg2)
      ∧ r.2.mem ((c.tc : Thread Cert.MixOutFirstReferenceIdeal.nD Cert.MixOutFirstReferenceIdeal.τ).loc Cert.MixOutFirstReferenceIdeal.main_arg3) = m ((c.tc : Thread Cert.MixOutFirstReferenceIdeal.nD Cert.MixOutFirstReferenceIdeal.τ).loc Cert.MixOutFirstReferenceIdeal.main_arg3)
      ∧ r.2.mem ((c.tc : Thread Cert.MixOutFirstReferenceIdeal.nD Cert.MixOutFirstReferenceIdeal.τ).loc Cert.MixOutFirstReferenceIdeal.main_arg4) = m ((c.tc : Thread Cert.MixOutFirstReferenceIdeal.nD Cert.MixOutFirstReferenceIdeal.τ).loc Cert.MixOutFirstReferenceIdeal.main_arg4)
      ∧ r.2.mem ((c.tc : Thread Cert.MixOutFirstReferenceIdeal.nD Cert.MixOutFirstReferenceIdeal.τ).loc Cert.MixOutFirstReferenceIdeal.main_arg5) = m ((c.tc : Thread Cert.MixOutFirstReferenceIdeal.nD Cert.MixOutFirstReferenceIdeal.τ).loc Cert.MixOutFirstReferenceIdeal.main_arg5)
      ∧ r.2.mem ((c.tc : Thread Cert.MixOutFirstReferenceIdeal.nD Cert.MixOutFirstReferenceIdeal.τ).loc Cert.MixOutFirstReferenceIdeal.main_arg6) = m ((c.tc : Thread Cert.MixOutFirstReferenceIdeal.nD Cert.MixOutFirstReferenceIdeal.τ).loc Cert.MixOutFirstReferenceIdeal.main_arg6)
      ∧ r.2.mem ((c.tc : Thread Cert.MixOutFirstReferenceIdeal.nD Cert.MixOutFirstReferenceIdeal.τ).loc Cert.MixOutFirstReferenceIdeal.main_arg7) = m ((c.tc : Thread Cert.MixOutFirstReferenceIdeal.nD Cert.MixOutFirstReferenceIdeal.τ).loc Cert.MixOutFirstReferenceIdeal.main_arg7)
      ∧ r.2.mem ((c.tc : Thread Cert.MixOutFirstReferenceIdeal.nD Cert.MixOutFirstReferenceIdeal.τ).loc Cert.MixOutFirstReferenceIdeal.main_arg8) = m ((c.tc : Thread Cert.MixOutFirstReferenceIdeal.nD Cert.MixOutFirstReferenceIdeal.τ).loc Cert.MixOutFirstReferenceIdeal.main_arg8))
      ∧ r.2.sem = fun _ => 0)

def quiescent_MixOutSecondKernel [hMixOutSecondKernel : Cert.MixOutSecondKernel.Facts] : Prop :=
  ∀ (m : (ℓ : Loc Cert.MixOutSecondKernel.nD Cert.MixOutSecondKernel.τ Cert.MixOutSecondKernel.sig) → Buf (Elt Bits) ℓ) (g : Dev Cert.MixOutSecondKernel.nD → PrngReg), Pre_MixOutSecondKernel m →
    θ_run (Cert.MixOutSecondKernel.defs (F := Bits)) (onTc (τ := Cert.MixOutSecondKernel.τ) (Cert.MixOutSecondKernel.main (F := Bits))) ⟨m, fun _ => 0, g⟩ (fun r => (∀ c : Dev Cert.MixOutSecondKernel.nD,
      r.2.mem ((c.tc : Thread Cert.MixOutSecondKernel.nD Cert.MixOutSecondKernel.τ).loc Cert.MixOutSecondKernel.main_arg0) = m ((c.tc : Thread Cert.MixOutSecondKernel.nD Cert.MixOutSecondKernel.τ).loc Cert.MixOutSecondKernel.main_arg0)
      ∧ r.2.mem ((c.tc : Thread Cert.MixOutSecondKernel.nD Cert.MixOutSecondKernel.τ).loc Cert.MixOutSecondKernel.main_arg1) = m ((c.tc : Thread Cert.MixOutSecondKernel.nD Cert.MixOutSecondKernel.τ).loc Cert.MixOutSecondKernel.main_arg1)
      ∧ r.2.mem ((c.tc : Thread Cert.MixOutSecondKernel.nD Cert.MixOutSecondKernel.τ).loc Cert.MixOutSecondKernel.main_arg2) = m ((c.tc : Thread Cert.MixOutSecondKernel.nD Cert.MixOutSecondKernel.τ).loc Cert.MixOutSecondKernel.main_arg2)
      ∧ r.2.mem ((c.tc : Thread Cert.MixOutSecondKernel.nD Cert.MixOutSecondKernel.τ).loc Cert.MixOutSecondKernel.main_arg3) = m ((c.tc : Thread Cert.MixOutSecondKernel.nD Cert.MixOutSecondKernel.τ).loc Cert.MixOutSecondKernel.main_arg3)
      ∧ r.2.mem ((c.tc : Thread Cert.MixOutSecondKernel.nD Cert.MixOutSecondKernel.τ).loc Cert.MixOutSecondKernel.main_arg4) = m ((c.tc : Thread Cert.MixOutSecondKernel.nD Cert.MixOutSecondKernel.τ).loc Cert.MixOutSecondKernel.main_arg4)
      ∧ r.2.mem ((c.tc : Thread Cert.MixOutSecondKernel.nD Cert.MixOutSecondKernel.τ).loc Cert.MixOutSecondKernel.main_arg5) = m ((c.tc : Thread Cert.MixOutSecondKernel.nD Cert.MixOutSecondKernel.τ).loc Cert.MixOutSecondKernel.main_arg5)
      ∧ r.2.mem ((c.tc : Thread Cert.MixOutSecondKernel.nD Cert.MixOutSecondKernel.τ).loc Cert.MixOutSecondKernel.main_arg6) = m ((c.tc : Thread Cert.MixOutSecondKernel.nD Cert.MixOutSecondKernel.τ).loc Cert.MixOutSecondKernel.main_arg6)
      ∧ r.2.mem ((c.tc : Thread Cert.MixOutSecondKernel.nD Cert.MixOutSecondKernel.τ).loc Cert.MixOutSecondKernel.main_arg7) = m ((c.tc : Thread Cert.MixOutSecondKernel.nD Cert.MixOutSecondKernel.τ).loc Cert.MixOutSecondKernel.main_arg7)
      ∧ r.2.mem ((c.tc : Thread Cert.MixOutSecondKernel.nD Cert.MixOutSecondKernel.τ).loc Cert.MixOutSecondKernel.main_arg8) = m ((c.tc : Thread Cert.MixOutSecondKernel.nD Cert.MixOutSecondKernel.τ).loc Cert.MixOutSecondKernel.main_arg8)
      ∧ r.2.mem ((c.tc : Thread Cert.MixOutSecondKernel.nD Cert.MixOutSecondKernel.τ).loc Cert.MixOutSecondKernel.main_arg9) = m ((c.tc : Thread Cert.MixOutSecondKernel.nD Cert.MixOutSecondKernel.τ).loc Cert.MixOutSecondKernel.main_arg9)
      ∧ r.2.mem ((c.tc : Thread Cert.MixOutSecondKernel.nD Cert.MixOutSecondKernel.τ).loc Cert.MixOutSecondKernel.main_arg10) = m ((c.tc : Thread Cert.MixOutSecondKernel.nD Cert.MixOutSecondKernel.τ).loc Cert.MixOutSecondKernel.main_arg10)
      ∧ r.2.mem ((c.tc : Thread Cert.MixOutSecondKernel.nD Cert.MixOutSecondKernel.τ).loc Cert.MixOutSecondKernel.main_arg11) = m ((c.tc : Thread Cert.MixOutSecondKernel.nD Cert.MixOutSecondKernel.τ).loc Cert.MixOutSecondKernel.main_arg11)
      ∧ r.2.mem ((c.tc : Thread Cert.MixOutSecondKernel.nD Cert.MixOutSecondKernel.τ).loc Cert.MixOutSecondKernel.main_arg12) = m ((c.tc : Thread Cert.MixOutSecondKernel.nD Cert.MixOutSecondKernel.τ).loc Cert.MixOutSecondKernel.main_arg12))
      ∧ r.2.sem = fun _ => 0)

def quiescent_MixOutSecondKernelIdeal [hMixOutSecondKernelIdeal : Cert.MixOutSecondKernelIdeal.Facts] : Prop :=
  ∀ (m : (ℓ : Loc Cert.MixOutSecondKernelIdeal.nD Cert.MixOutSecondKernelIdeal.τ Cert.MixOutSecondKernelIdeal.sig) → Buf (Elt Ideal) ℓ) (g : Dev Cert.MixOutSecondKernelIdeal.nD → PrngReg), Pre_MixOutSecondKernelIdeal m →
    θ_run (Cert.MixOutSecondKernelIdeal.defs (F := Ideal)) (onTc (τ := Cert.MixOutSecondKernelIdeal.τ) (Cert.MixOutSecondKernelIdeal.main (F := Ideal))) ⟨m, fun _ => 0, g⟩ (fun r => (∀ c : Dev Cert.MixOutSecondKernelIdeal.nD,
      r.2.mem ((c.tc : Thread Cert.MixOutSecondKernelIdeal.nD Cert.MixOutSecondKernelIdeal.τ).loc Cert.MixOutSecondKernelIdeal.main_arg0) = m ((c.tc : Thread Cert.MixOutSecondKernelIdeal.nD Cert.MixOutSecondKernelIdeal.τ).loc Cert.MixOutSecondKernelIdeal.main_arg0)
      ∧ r.2.mem ((c.tc : Thread Cert.MixOutSecondKernelIdeal.nD Cert.MixOutSecondKernelIdeal.τ).loc Cert.MixOutSecondKernelIdeal.main_arg1) = m ((c.tc : Thread Cert.MixOutSecondKernelIdeal.nD Cert.MixOutSecondKernelIdeal.τ).loc Cert.MixOutSecondKernelIdeal.main_arg1)
      ∧ r.2.mem ((c.tc : Thread Cert.MixOutSecondKernelIdeal.nD Cert.MixOutSecondKernelIdeal.τ).loc Cert.MixOutSecondKernelIdeal.main_arg2) = m ((c.tc : Thread Cert.MixOutSecondKernelIdeal.nD Cert.MixOutSecondKernelIdeal.τ).loc Cert.MixOutSecondKernelIdeal.main_arg2)
      ∧ r.2.mem ((c.tc : Thread Cert.MixOutSecondKernelIdeal.nD Cert.MixOutSecondKernelIdeal.τ).loc Cert.MixOutSecondKernelIdeal.main_arg3) = m ((c.tc : Thread Cert.MixOutSecondKernelIdeal.nD Cert.MixOutSecondKernelIdeal.τ).loc Cert.MixOutSecondKernelIdeal.main_arg3)
      ∧ r.2.mem ((c.tc : Thread Cert.MixOutSecondKernelIdeal.nD Cert.MixOutSecondKernelIdeal.τ).loc Cert.MixOutSecondKernelIdeal.main_arg4) = m ((c.tc : Thread Cert.MixOutSecondKernelIdeal.nD Cert.MixOutSecondKernelIdeal.τ).loc Cert.MixOutSecondKernelIdeal.main_arg4)
      ∧ r.2.mem ((c.tc : Thread Cert.MixOutSecondKernelIdeal.nD Cert.MixOutSecondKernelIdeal.τ).loc Cert.MixOutSecondKernelIdeal.main_arg5) = m ((c.tc : Thread Cert.MixOutSecondKernelIdeal.nD Cert.MixOutSecondKernelIdeal.τ).loc Cert.MixOutSecondKernelIdeal.main_arg5)
      ∧ r.2.mem ((c.tc : Thread Cert.MixOutSecondKernelIdeal.nD Cert.MixOutSecondKernelIdeal.τ).loc Cert.MixOutSecondKernelIdeal.main_arg6) = m ((c.tc : Thread Cert.MixOutSecondKernelIdeal.nD Cert.MixOutSecondKernelIdeal.τ).loc Cert.MixOutSecondKernelIdeal.main_arg6)
      ∧ r.2.mem ((c.tc : Thread Cert.MixOutSecondKernelIdeal.nD Cert.MixOutSecondKernelIdeal.τ).loc Cert.MixOutSecondKernelIdeal.main_arg7) = m ((c.tc : Thread Cert.MixOutSecondKernelIdeal.nD Cert.MixOutSecondKernelIdeal.τ).loc Cert.MixOutSecondKernelIdeal.main_arg7)
      ∧ r.2.mem ((c.tc : Thread Cert.MixOutSecondKernelIdeal.nD Cert.MixOutSecondKernelIdeal.τ).loc Cert.MixOutSecondKernelIdeal.main_arg8) = m ((c.tc : Thread Cert.MixOutSecondKernelIdeal.nD Cert.MixOutSecondKernelIdeal.τ).loc Cert.MixOutSecondKernelIdeal.main_arg8)
      ∧ r.2.mem ((c.tc : Thread Cert.MixOutSecondKernelIdeal.nD Cert.MixOutSecondKernelIdeal.τ).loc Cert.MixOutSecondKernelIdeal.main_arg9) = m ((c.tc : Thread Cert.MixOutSecondKernelIdeal.nD Cert.MixOutSecondKernelIdeal.τ).loc Cert.MixOutSecondKernelIdeal.main_arg9)
      ∧ r.2.mem ((c.tc : Thread Cert.MixOutSecondKernelIdeal.nD Cert.MixOutSecondKernelIdeal.τ).loc Cert.MixOutSecondKernelIdeal.main_arg10) = m ((c.tc : Thread Cert.MixOutSecondKernelIdeal.nD Cert.MixOutSecondKernelIdeal.τ).loc Cert.MixOutSecondKernelIdeal.main_arg10)
      ∧ r.2.mem ((c.tc : Thread Cert.MixOutSecondKernelIdeal.nD Cert.MixOutSecondKernelIdeal.τ).loc Cert.MixOutSecondKernelIdeal.main_arg11) = m ((c.tc : Thread Cert.MixOutSecondKernelIdeal.nD Cert.MixOutSecondKernelIdeal.τ).loc Cert.MixOutSecondKernelIdeal.main_arg11)
      ∧ r.2.mem ((c.tc : Thread Cert.MixOutSecondKernelIdeal.nD Cert.MixOutSecondKernelIdeal.τ).loc Cert.MixOutSecondKernelIdeal.main_arg12) = m ((c.tc : Thread Cert.MixOutSecondKernelIdeal.nD Cert.MixOutSecondKernelIdeal.τ).loc Cert.MixOutSecondKernelIdeal.main_arg12))
      ∧ r.2.sem = fun _ => 0)

def quiescent_MixOutSecondReferenceIdeal [hMixOutSecondReferenceIdeal : Cert.MixOutSecondReferenceIdeal.Facts] : Prop :=
  ∀ (m : (ℓ : Loc Cert.MixOutSecondReferenceIdeal.nD Cert.MixOutSecondReferenceIdeal.τ Cert.MixOutSecondReferenceIdeal.sig) → Buf (Elt Ideal) ℓ) (g : Dev Cert.MixOutSecondReferenceIdeal.nD → PrngReg), Pre_MixOutSecondReferenceIdeal m →
    θ_run (Cert.MixOutSecondReferenceIdeal.defs (F := Ideal)) (onTc (τ := Cert.MixOutSecondReferenceIdeal.τ) (Cert.MixOutSecondReferenceIdeal.main (F := Ideal))) ⟨m, fun _ => 0, g⟩ (fun r => (∀ c : Dev Cert.MixOutSecondReferenceIdeal.nD,
      r.2.mem ((c.tc : Thread Cert.MixOutSecondReferenceIdeal.nD Cert.MixOutSecondReferenceIdeal.τ).loc Cert.MixOutSecondReferenceIdeal.main_arg0) = m ((c.tc : Thread Cert.MixOutSecondReferenceIdeal.nD Cert.MixOutSecondReferenceIdeal.τ).loc Cert.MixOutSecondReferenceIdeal.main_arg0)
      ∧ r.2.mem ((c.tc : Thread Cert.MixOutSecondReferenceIdeal.nD Cert.MixOutSecondReferenceIdeal.τ).loc Cert.MixOutSecondReferenceIdeal.main_arg1) = m ((c.tc : Thread Cert.MixOutSecondReferenceIdeal.nD Cert.MixOutSecondReferenceIdeal.τ).loc Cert.MixOutSecondReferenceIdeal.main_arg1)
      ∧ r.2.mem ((c.tc : Thread Cert.MixOutSecondReferenceIdeal.nD Cert.MixOutSecondReferenceIdeal.τ).loc Cert.MixOutSecondReferenceIdeal.main_arg2) = m ((c.tc : Thread Cert.MixOutSecondReferenceIdeal.nD Cert.MixOutSecondReferenceIdeal.τ).loc Cert.MixOutSecondReferenceIdeal.main_arg2)
      ∧ r.2.mem ((c.tc : Thread Cert.MixOutSecondReferenceIdeal.nD Cert.MixOutSecondReferenceIdeal.τ).loc Cert.MixOutSecondReferenceIdeal.main_arg3) = m ((c.tc : Thread Cert.MixOutSecondReferenceIdeal.nD Cert.MixOutSecondReferenceIdeal.τ).loc Cert.MixOutSecondReferenceIdeal.main_arg3)
      ∧ r.2.mem ((c.tc : Thread Cert.MixOutSecondReferenceIdeal.nD Cert.MixOutSecondReferenceIdeal.τ).loc Cert.MixOutSecondReferenceIdeal.main_arg4) = m ((c.tc : Thread Cert.MixOutSecondReferenceIdeal.nD Cert.MixOutSecondReferenceIdeal.τ).loc Cert.MixOutSecondReferenceIdeal.main_arg4)
      ∧ r.2.mem ((c.tc : Thread Cert.MixOutSecondReferenceIdeal.nD Cert.MixOutSecondReferenceIdeal.τ).loc Cert.MixOutSecondReferenceIdeal.main_arg5) = m ((c.tc : Thread Cert.MixOutSecondReferenceIdeal.nD Cert.MixOutSecondReferenceIdeal.τ).loc Cert.MixOutSecondReferenceIdeal.main_arg5)
      ∧ r.2.mem ((c.tc : Thread Cert.MixOutSecondReferenceIdeal.nD Cert.MixOutSecondReferenceIdeal.τ).loc Cert.MixOutSecondReferenceIdeal.main_arg6) = m ((c.tc : Thread Cert.MixOutSecondReferenceIdeal.nD Cert.MixOutSecondReferenceIdeal.τ).loc Cert.MixOutSecondReferenceIdeal.main_arg6)
      ∧ r.2.mem ((c.tc : Thread Cert.MixOutSecondReferenceIdeal.nD Cert.MixOutSecondReferenceIdeal.τ).loc Cert.MixOutSecondReferenceIdeal.main_arg7) = m ((c.tc : Thread Cert.MixOutSecondReferenceIdeal.nD Cert.MixOutSecondReferenceIdeal.τ).loc Cert.MixOutSecondReferenceIdeal.main_arg7)
      ∧ r.2.mem ((c.tc : Thread Cert.MixOutSecondReferenceIdeal.nD Cert.MixOutSecondReferenceIdeal.τ).loc Cert.MixOutSecondReferenceIdeal.main_arg8) = m ((c.tc : Thread Cert.MixOutSecondReferenceIdeal.nD Cert.MixOutSecondReferenceIdeal.τ).loc Cert.MixOutSecondReferenceIdeal.main_arg8)
      ∧ r.2.mem ((c.tc : Thread Cert.MixOutSecondReferenceIdeal.nD Cert.MixOutSecondReferenceIdeal.τ).loc Cert.MixOutSecondReferenceIdeal.main_arg9) = m ((c.tc : Thread Cert.MixOutSecondReferenceIdeal.nD Cert.MixOutSecondReferenceIdeal.τ).loc Cert.MixOutSecondReferenceIdeal.main_arg9)
      ∧ r.2.mem ((c.tc : Thread Cert.MixOutSecondReferenceIdeal.nD Cert.MixOutSecondReferenceIdeal.τ).loc Cert.MixOutSecondReferenceIdeal.main_arg10) = m ((c.tc : Thread Cert.MixOutSecondReferenceIdeal.nD Cert.MixOutSecondReferenceIdeal.τ).loc Cert.MixOutSecondReferenceIdeal.main_arg10)
      ∧ r.2.mem ((c.tc : Thread Cert.MixOutSecondReferenceIdeal.nD Cert.MixOutSecondReferenceIdeal.τ).loc Cert.MixOutSecondReferenceIdeal.main_arg11) = m ((c.tc : Thread Cert.MixOutSecondReferenceIdeal.nD Cert.MixOutSecondReferenceIdeal.τ).loc Cert.MixOutSecondReferenceIdeal.main_arg11)
      ∧ r.2.mem ((c.tc : Thread Cert.MixOutSecondReferenceIdeal.nD Cert.MixOutSecondReferenceIdeal.τ).loc Cert.MixOutSecondReferenceIdeal.main_arg12) = m ((c.tc : Thread Cert.MixOutSecondReferenceIdeal.nD Cert.MixOutSecondReferenceIdeal.τ).loc Cert.MixOutSecondReferenceIdeal.main_arg12))
      ∧ r.2.sem = fun _ => 0)

def quiescent_AttnFwdKernel [hAttnFwdKernel : Cert.AttnFwdKernel.Facts] : Prop :=
  ∀ (m : (ℓ : Loc Cert.AttnFwdKernel.nD Cert.AttnFwdKernel.τ Cert.AttnFwdKernel.sig) → Buf (Elt Bits) ℓ) (g : Dev Cert.AttnFwdKernel.nD → PrngReg), Pre_AttnFwdKernel m →
    θ_run (Cert.AttnFwdKernel.defs (F := Bits)) (onTc (τ := Cert.AttnFwdKernel.τ) (Cert.AttnFwdKernel.main (F := Bits))) ⟨m, fun _ => 0, g⟩ (fun r => (∀ c : Dev Cert.AttnFwdKernel.nD,
      r.2.mem ((c.tc : Thread Cert.AttnFwdKernel.nD Cert.AttnFwdKernel.τ).loc Cert.AttnFwdKernel.main_arg0) = m ((c.tc : Thread Cert.AttnFwdKernel.nD Cert.AttnFwdKernel.τ).loc Cert.AttnFwdKernel.main_arg0)
      ∧ r.2.mem ((c.tc : Thread Cert.AttnFwdKernel.nD Cert.AttnFwdKernel.τ).loc Cert.AttnFwdKernel.main_arg1) = m ((c.tc : Thread Cert.AttnFwdKernel.nD Cert.AttnFwdKernel.τ).loc Cert.AttnFwdKernel.main_arg1))
      ∧ r.2.sem = fun _ => 0)

def quiescent_AttnFwdKernelIdeal [hAttnFwdKernelIdeal : Cert.AttnFwdKernelIdeal.Facts] : Prop :=
  ∀ (m : (ℓ : Loc Cert.AttnFwdKernelIdeal.nD Cert.AttnFwdKernelIdeal.τ Cert.AttnFwdKernelIdeal.sig) → Buf (Elt Ideal) ℓ) (g : Dev Cert.AttnFwdKernelIdeal.nD → PrngReg), Pre_AttnFwdKernelIdeal m →
    θ_run (Cert.AttnFwdKernelIdeal.defs (F := Ideal)) (onTc (τ := Cert.AttnFwdKernelIdeal.τ) (Cert.AttnFwdKernelIdeal.main (F := Ideal))) ⟨m, fun _ => 0, g⟩ (fun r => (∀ c : Dev Cert.AttnFwdKernelIdeal.nD,
      r.2.mem ((c.tc : Thread Cert.AttnFwdKernelIdeal.nD Cert.AttnFwdKernelIdeal.τ).loc Cert.AttnFwdKernelIdeal.main_arg0) = m ((c.tc : Thread Cert.AttnFwdKernelIdeal.nD Cert.AttnFwdKernelIdeal.τ).loc Cert.AttnFwdKernelIdeal.main_arg0)
      ∧ r.2.mem ((c.tc : Thread Cert.AttnFwdKernelIdeal.nD Cert.AttnFwdKernelIdeal.τ).loc Cert.AttnFwdKernelIdeal.main_arg1) = m ((c.tc : Thread Cert.AttnFwdKernelIdeal.nD Cert.AttnFwdKernelIdeal.τ).loc Cert.AttnFwdKernelIdeal.main_arg1))
      ∧ r.2.sem = fun _ => 0)

def quiescent_AttnFwdKernelIdeal_pre_attn_fwd_finite [hAttnFwdKernelIdeal : Cert.AttnFwdKernelIdeal.Facts] [hPre_attn_fwd_finite : Cert.Pre_attn_fwd_finite.Facts] : Prop :=
  ∀ (m : (ℓ : Loc Cert.AttnFwdKernelIdeal.nD Cert.AttnFwdKernelIdeal.τ Cert.AttnFwdKernelIdeal.sig) → Buf (Elt Ideal) ℓ) (g : Dev Cert.AttnFwdKernelIdeal.nD → PrngReg), Pre_AttnFwdKernelIdeal_attn_fwd_finite m →
    θ_run (Cert.AttnFwdKernelIdeal.defs (F := Ideal)) (onTc (τ := Cert.AttnFwdKernelIdeal.τ) (Cert.AttnFwdKernelIdeal.main (F := Ideal))) ⟨m, fun _ => 0, g⟩ (fun r => (∀ c : Dev Cert.AttnFwdKernelIdeal.nD,
      r.2.mem ((c.tc : Thread Cert.AttnFwdKernelIdeal.nD Cert.AttnFwdKernelIdeal.τ).loc Cert.AttnFwdKernelIdeal.main_arg0) = m ((c.tc : Thread Cert.AttnFwdKernelIdeal.nD Cert.AttnFwdKernelIdeal.τ).loc Cert.AttnFwdKernelIdeal.main_arg0)
      ∧ r.2.mem ((c.tc : Thread Cert.AttnFwdKernelIdeal.nD Cert.AttnFwdKernelIdeal.τ).loc Cert.AttnFwdKernelIdeal.main_arg1) = m ((c.tc : Thread Cert.AttnFwdKernelIdeal.nD Cert.AttnFwdKernelIdeal.τ).loc Cert.AttnFwdKernelIdeal.main_arg1))
      ∧ r.2.sem = fun _ => 0)

def quiescent_AttnFwdReferenceIdeal [hAttnFwdReferenceIdeal : Cert.AttnFwdReferenceIdeal.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0)
      ∧ r.2.mem ((c.tc : Thread Cert.AttnFwdReferenceIdeal.nD Cert.AttnFwdReferenceIdeal.τ).loc Cert.AttnFwdReferenceIdeal.main_arg1) = m ((c.tc : Thread Cert.AttnFwdReferenceIdeal.nD Cert.AttnFwdReferenceIdeal.τ).loc Cert.AttnFwdReferenceIdeal.main_arg1))
      ∧ r.2.sem = fun _ => 0)

def quiescent_AttnFwdReferenceIdeal_pre_attn_fwd_finite [hAttnFwdReferenceIdeal : Cert.AttnFwdReferenceIdeal.Facts] [hPre_attn_fwd_finite : Cert.Pre_attn_fwd_finite.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal_attn_fwd_finite m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0)
      ∧ r.2.mem ((c.tc : Thread Cert.AttnFwdReferenceIdeal.nD Cert.AttnFwdReferenceIdeal.τ).loc Cert.AttnFwdReferenceIdeal.main_arg1) = m ((c.tc : Thread Cert.AttnFwdReferenceIdeal.nD Cert.AttnFwdReferenceIdeal.τ).loc Cert.AttnFwdReferenceIdeal.main_arg1))
      ∧ r.2.sem = fun _ => 0)

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)) →
    ∃ (v0 : (c : Dev Cert.MixKernelIdeal.nD) → Buf (Elt Ideal) ((c.tc : Thread Cert.MixKernelIdeal.nD Cert.MixKernelIdeal.τ).loc Cert.MixKernelIdeal.main_v18_0)) (v1 : (c : Dev Cert.MixKernelIdeal.nD) → Buf (Elt Ideal) ((c.tc : Thread Cert.MixKernelIdeal.nD Cert.MixKernelIdeal.τ).loc Cert.MixKernelIdeal.main_v18_1)) (v2 : (c : Dev Cert.MixKernelIdeal.nD) → Buf (Elt Ideal) ((c.tc : Thread Cert.MixKernelIdeal.nD Cert.MixKernelIdeal.τ).loc Cert.MixKernelIdeal.main_v18_2)) (v3 : (c : Dev Cert.MixKernelIdeal.nD) → Buf (Elt Ideal) ((c.tc : Thread Cert.MixKernelIdeal.nD Cert.MixKernelIdeal.τ).loc Cert.MixKernelIdeal.main_v18_3)) (v4 : (c : Dev Cert.MixKernelIdeal.nD) → Buf (Elt Ideal) ((c.tc : Thread Cert.MixKernelIdeal.nD Cert.MixKernelIdeal.τ).loc Cert.MixKernelIdeal.main_v18_4)) (v5 : (c : Dev Cert.MixKernelIdeal.nD) → Buf (Elt Ideal) ((c.tc : Thread Cert.MixKernelIdeal.nD Cert.MixKernelIdeal.τ).loc Cert.MixKernelIdeal.main_v18_5)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v18_0) = v0 c
          ∧ r.2.mem ((c.tc : Thread Cert.MixKernelIdeal.nD Cert.MixKernelIdeal.τ).loc Cert.MixKernelIdeal.main_v18_1) = v1 c
          ∧ r.2.mem ((c.tc : Thread Cert.MixKernelIdeal.nD Cert.MixKernelIdeal.τ).loc Cert.MixKernelIdeal.main_v18_2) = v2 c
          ∧ r.2.mem ((c.tc : Thread Cert.MixKernelIdeal.nD Cert.MixKernelIdeal.τ).loc Cert.MixKernelIdeal.main_v18_3) = v3 c
          ∧ r.2.mem ((c.tc : Thread Cert.MixKernelIdeal.nD Cert.MixKernelIdeal.τ).loc Cert.MixKernelIdeal.main_v18_4) = v4 c
          ∧ r.2.mem ((c.tc : Thread Cert.MixKernelIdeal.nD Cert.MixKernelIdeal.τ).loc Cert.MixKernelIdeal.main_v18_5) = v5 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v46) = v0 c
          ∧ r.2.mem ((c.tc : Thread Cert.MixReferenceIdeal.nD Cert.MixReferenceIdeal.τ).loc Cert.MixReferenceIdeal.main_v47) = v1 c
          ∧ r.2.mem ((c.tc : Thread Cert.MixReferenceIdeal.nD Cert.MixReferenceIdeal.τ).loc Cert.MixReferenceIdeal.main_v48) = v2 c
          ∧ r.2.mem ((c.tc : Thread Cert.MixReferenceIdeal.nD Cert.MixReferenceIdeal.τ).loc Cert.MixReferenceIdeal.main_v49) = v3 c
          ∧ r.2.mem ((c.tc : Thread Cert.MixReferenceIdeal.nD Cert.MixReferenceIdeal.τ).loc Cert.MixReferenceIdeal.main_v50) = v4 c
          ∧ r.2.mem ((c.tc : Thread Cert.MixReferenceIdeal.nD Cert.MixReferenceIdeal.τ).loc Cert.MixReferenceIdeal.main_v43) = v5 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7))

def preserves_GradFfnInKernel_GradFfnInKernelIdeal : Prop :=
  True

def algebraic_GradFfnInKernelIdeal_GradFfnInReferenceIdeal [hGradFfnInKernelIdeal : Cert.GradFfnInKernelIdeal.Facts] [hGradFfnInReferenceIdeal : Cert.GradFfnInReferenceIdeal.Facts] : Prop :=
  ∀ (m : (ℓ : Loc Cert.GradFfnInKernelIdeal.nD Cert.GradFfnInKernelIdeal.τ Cert.GradFfnInKernelIdeal.sig) → Buf (Elt Ideal) ℓ) (g : Dev Cert.GradFfnInKernelIdeal.nD → PrngReg)
    (m' : (ℓ : Loc Cert.GradFfnInReferenceIdeal.nD Cert.GradFfnInReferenceIdeal.τ Cert.GradFfnInReferenceIdeal.sig) → Buf (Elt Ideal) ℓ) (g' : Dev Cert.GradFfnInReferenceIdeal.nD → PrngReg), Pre_GradFfnInKernelIdeal m →
    (∀ c : Dev Cert.GradFfnInKernelIdeal.nD,
      m' ((c.tc : Thread Cert.GradFfnInReferenceIdeal.nD Cert.GradFfnInReferenceIdeal.τ).loc Cert.GradFfnInReferenceIdeal.main_arg0) = m ((c.tc : Thread Cert.GradFfnInKernelIdeal.nD Cert.GradFfnInKernelIdeal.τ).loc Cert.GradFfnInKernelIdeal.main_arg0)
      ∧ m' ((c.tc : Thread Cert.GradFfnInReferenceIdeal.nD Cert.GradFfnInReferenceIdeal.τ).loc Cert.GradFfnInReferenceIdeal.main_arg1) = m ((c.tc : Thread Cert.GradFfnInKernelIdeal.nD Cert.GradFfnInKernelIdeal.τ).loc Cert.GradFfnInKernelIdeal.main_arg1)
      ∧ m' ((c.tc : Thread Cert.GradFfnInReferenceIdeal.nD Cert.GradFfnInReferenceIdeal.τ).loc Cert.GradFfnInReferenceIdeal.main_arg2) = m ((c.tc : Thread Cert.GradFfnInKernelIdeal.nD Cert.GradFfnInKernelIdeal.τ).loc Cert.GradFfnInKernelIdeal.main_arg2)) →
    ∃ (v0 : (c : Dev Cert.GradFfnInKernelIdeal.nD) → Buf (Elt Ideal) ((c.tc : Thread Cert.GradFfnInKernelIdeal.nD Cert.GradFfnInKernelIdeal.τ).loc Cert.GradFfnInKernelIdeal.main_v0)),
      θ_run (Cert.GradFfnInKernelIdeal.defs (F := Ideal)) (onTc (τ := Cert.GradFfnInKernelIdeal.τ) (Cert.GradFfnInKernelIdeal.main (F := Ideal))) ⟨m, fun _ => 0, g⟩ (fun r => ∀ c : Dev Cert.GradFfnInKernelIdeal.nD,
          r.2.mem ((c.tc : Thread Cert.GradFfnInKernelIdeal.nD Cert.GradFfnInKernelIdeal.τ).loc Cert.GradFfnInKernelIdeal.main_v0) = v0 c
          ∧ r.2.mem ((c.tc : Thread Cert.GradFfnInKernelIdeal.nD Cert.GradFfnInKernelIdeal.τ).loc Cert.GradFfnInKernelIdeal.main_arg0) = m ((c.tc : Thread Cert.GradFfnInKernelIdeal.nD Cert.GradFfnInKernelIdeal.τ).loc Cert.GradFfnInKernelIdeal.main_arg0)
          ∧ r.2.mem ((c.tc : Thread Cert.GradFfnInKernelIdeal.nD Cert.GradFfnInKernelIdeal.τ).loc Cert.GradFfnInKernelIdeal.main_arg1) = m ((c.tc : Thread Cert.GradFfnInKernelIdeal.nD Cert.GradFfnInKernelIdeal.τ).loc Cert.GradFfnInKernelIdeal.main_arg1)
          ∧ r.2.mem ((c.tc : Thread Cert.GradFfnInKernelIdeal.nD Cert.GradFfnInKernelIdeal.τ).loc Cert.GradFfnInKernelIdeal.main_arg2) = m ((c.tc : Thread Cert.GradFfnInKernelIdeal.nD Cert.GradFfnInKernelIdeal.τ).loc Cert.GradFfnInKernelIdeal.main_arg2))
      ∧ θ_run (Cert.GradFfnInReferenceIdeal.defs (F := Ideal)) (onTc (τ := Cert.GradFfnInReferenceIdeal.τ) (Cert.GradFfnInReferenceIdeal.main (F := Ideal))) ⟨m', fun _ => 0, g'⟩ (fun r => ∀ c : Dev Cert.GradFfnInReferenceIdeal.nD,
          r.2.mem ((c.tc : Thread Cert.GradFfnInReferenceIdeal.nD Cert.GradFfnInReferenceIdeal.τ).loc Cert.GradFfnInReferenceIdeal.main_v15) = v0 c
          ∧ r.2.mem ((c.tc : Thread Cert.GradFfnInReferenceIdeal.nD Cert.GradFfnInReferenceIdeal.τ).loc Cert.GradFfnInReferenceIdeal.main_arg0) = m' ((c.tc : Thread Cert.GradFfnInReferenceIdeal.nD Cert.GradFfnInReferenceIdeal.τ).loc Cert.GradFfnInReferenceIdeal.main_arg0)
          ∧ r.2.mem ((c.tc : Thread Cert.GradFfnInReferenceIdeal.nD Cert.GradFfnInReferenceIdeal.τ).loc Cert.GradFfnInReferenceIdeal.main_arg1) = m' ((c.tc : Thread Cert.GradFfnInReferenceIdeal.nD Cert.GradFfnInReferenceIdeal.τ).loc Cert.GradFfnInReferenceIdeal.main_arg1)
          ∧ r.2.mem ((c.tc : Thread Cert.GradFfnInReferenceIdeal.nD Cert.GradFfnInReferenceIdeal.τ).loc Cert.GradFfnInReferenceIdeal.main_arg2) = m' ((c.tc : Thread Cert.GradFfnInReferenceIdeal.nD Cert.GradFfnInReferenceIdeal.τ).loc Cert.GradFfnInReferenceIdeal.main_arg2))

def preserves_GradFfnDownKernel_GradFfnDownKernelIdeal : Prop :=
  True

def algebraic_GradFfnDownKernelIdeal_GradFfnDownReferenceIdeal [hGradFfnDownKernelIdeal : Cert.GradFfnDownKernelIdeal.Facts] [hGradFfnDownReferenceIdeal : Cert.GradFfnDownReferenceIdeal.Facts] : Prop :=
  ∀ (m : (ℓ : Loc Cert.GradFfnDownKernelIdeal.nD Cert.GradFfnDownKernelIdeal.τ Cert.GradFfnDownKernelIdeal.sig) → Buf (Elt Ideal) ℓ) (g : Dev Cert.GradFfnDownKernelIdeal.nD → PrngReg)
    (m' : (ℓ : Loc Cert.GradFfnDownReferenceIdeal.nD Cert.GradFfnDownReferenceIdeal.τ Cert.GradFfnDownReferenceIdeal.sig) → Buf (Elt Ideal) ℓ) (g' : Dev Cert.GradFfnDownReferenceIdeal.nD → PrngReg), Pre_GradFfnDownKernelIdeal m →
    (∀ c : Dev Cert.GradFfnDownKernelIdeal.nD,
      m' ((c.tc : Thread Cert.GradFfnDownReferenceIdeal.nD Cert.GradFfnDownReferenceIdeal.τ).loc Cert.GradFfnDownReferenceIdeal.main_arg0) = m ((c.tc : Thread Cert.GradFfnDownKernelIdeal.nD Cert.GradFfnDownKernelIdeal.τ).loc Cert.GradFfnDownKernelIdeal.main_arg0)
      ∧ m' ((c.tc : Thread Cert.GradFfnDownReferenceIdeal.nD Cert.GradFfnDownReferenceIdeal.τ).loc Cert.GradFfnDownReferenceIdeal.main_arg1) = m ((c.tc : Thread Cert.GradFfnDownKernelIdeal.nD Cert.GradFfnDownKernelIdeal.τ).loc Cert.GradFfnDownKernelIdeal.main_arg1)) →
    ∃ (v0 : (c : Dev Cert.GradFfnDownKernelIdeal.nD) → Buf (Elt Ideal) ((c.tc : Thread Cert.GradFfnDownKernelIdeal.nD Cert.GradFfnDownKernelIdeal.τ).loc Cert.GradFfnDownKernelIdeal.main_v0)),
      θ_run (Cert.GradFfnDownKernelIdeal.defs (F := Ideal)) (onTc (τ := Cert.GradFfnDownKernelIdeal.τ) (Cert.GradFfnDownKernelIdeal.main (F := Ideal))) ⟨m, fun _ => 0, g⟩ (fun r => ∀ c : Dev Cert.GradFfnDownKernelIdeal.nD,
          r.2.mem ((c.tc : Thread Cert.GradFfnDownKernelIdeal.nD Cert.GradFfnDownKernelIdeal.τ).loc Cert.GradFfnDownKernelIdeal.main_v0) = v0 c
          ∧ r.2.mem ((c.tc : Thread Cert.GradFfnDownKernelIdeal.nD Cert.GradFfnDownKernelIdeal.τ).loc Cert.GradFfnDownKernelIdeal.main_arg0) = m ((c.tc : Thread Cert.GradFfnDownKernelIdeal.nD Cert.GradFfnDownKernelIdeal.τ).loc Cert.GradFfnDownKernelIdeal.main_arg0)
          ∧ r.2.mem ((c.tc : Thread Cert.GradFfnDownKernelIdeal.nD Cert.GradFfnDownKernelIdeal.τ).loc Cert.GradFfnDownKernelIdeal.main_arg1) = m ((c.tc : Thread Cert.GradFfnDownKernelIdeal.nD Cert.GradFfnDownKernelIdeal.τ).loc Cert.GradFfnDownKernelIdeal.main_arg1))
      ∧ θ_run (Cert.GradFfnDownReferenceIdeal.defs (F := Ideal)) (onTc (τ := Cert.GradFfnDownReferenceIdeal.τ) (Cert.GradFfnDownReferenceIdeal.main (F := Ideal))) ⟨m', fun _ => 0, g'⟩ (fun r => ∀ c : Dev Cert.GradFfnDownReferenceIdeal.nD,
          r.2.mem ((c.tc : Thread Cert.GradFfnDownReferenceIdeal.nD Cert.GradFfnDownReferenceIdeal.τ).loc Cert.GradFfnDownReferenceIdeal.main_v7) = v0 c
          ∧ r.2.mem ((c.tc : Thread Cert.GradFfnDownReferenceIdeal.nD Cert.GradFfnDownReferenceIdeal.τ).loc Cert.GradFfnDownReferenceIdeal.main_arg0) = m' ((c.tc : Thread Cert.GradFfnDownReferenceIdeal.nD Cert.GradFfnDownReferenceIdeal.τ).loc Cert.GradFfnDownReferenceIdeal.main_arg0)
          ∧ r.2.mem ((c.tc : Thread Cert.GradFfnDownReferenceIdeal.nD Cert.GradFfnDownReferenceIdeal.τ).loc Cert.GradFfnDownReferenceIdeal.main_arg1) = m' ((c.tc : Thread Cert.GradFfnDownReferenceIdeal.nD Cert.GradFfnDownReferenceIdeal.τ).loc Cert.GradFfnDownReferenceIdeal.main_arg1))

def preserves_GradOutKernel_GradOutKernelIdeal : Prop :=
  True

def algebraic_GradOutKernelIdeal_GradOutReferenceIdeal [hGradOutKernelIdeal : Cert.GradOutKernelIdeal.Facts] [hGradOutReferenceIdeal : Cert.GradOutReferenceIdeal.Facts] : Prop :=
  ∀ (m : (ℓ : Loc Cert.GradOutKernelIdeal.nD Cert.GradOutKernelIdeal.τ Cert.GradOutKernelIdeal.sig) → Buf (Elt Ideal) ℓ) (g : Dev Cert.GradOutKernelIdeal.nD → PrngReg)
    (m' : (ℓ : Loc Cert.GradOutReferenceIdeal.nD Cert.GradOutReferenceIdeal.τ Cert.GradOutReferenceIdeal.sig) → Buf (Elt Ideal) ℓ) (g' : Dev Cert.GradOutReferenceIdeal.nD → PrngReg), Pre_GradOutKernelIdeal m →
    (∀ c : Dev Cert.GradOutKernelIdeal.nD,
      m' ((c.tc : Thread Cert.GradOutReferenceIdeal.nD Cert.GradOutReferenceIdeal.τ).loc Cert.GradOutReferenceIdeal.main_arg0) = m ((c.tc : Thread Cert.GradOutKernelIdeal.nD Cert.GradOutKernelIdeal.τ).loc Cert.GradOutKernelIdeal.main_arg0)
      ∧ m' ((c.tc : Thread Cert.GradOutReferenceIdeal.nD Cert.GradOutReferenceIdeal.τ).loc Cert.GradOutReferenceIdeal.main_arg1) = m ((c.tc : Thread Cert.GradOutKernelIdeal.nD Cert.GradOutKernelIdeal.τ).loc Cert.GradOutKernelIdeal.main_arg1)
      ∧ m' ((c.tc : Thread Cert.GradOutReferenceIdeal.nD Cert.GradOutReferenceIdeal.τ).loc Cert.GradOutReferenceIdeal.main_arg2) = m ((c.tc : Thread Cert.GradOutKernelIdeal.nD Cert.GradOutKernelIdeal.τ).loc Cert.GradOutKernelIdeal.main_arg2)) →
    ∃ (v0 : (c : Dev Cert.GradOutKernelIdeal.nD) → Buf (Elt Ideal) ((c.tc : Thread Cert.GradOutKernelIdeal.nD Cert.GradOutKernelIdeal.τ).loc Cert.GradOutKernelIdeal.main_v0)),
      θ_run (Cert.GradOutKernelIdeal.defs (F := Ideal)) (onTc (τ := Cert.GradOutKernelIdeal.τ) (Cert.GradOutKernelIdeal.main (F := Ideal))) ⟨m, fun _ => 0, g⟩ (fun r => ∀ c : Dev Cert.GradOutKernelIdeal.nD,
          r.2.mem ((c.tc : Thread Cert.GradOutKernelIdeal.nD Cert.GradOutKernelIdeal.τ).loc Cert.GradOutKernelIdeal.main_v0) = v0 c
          ∧ r.2.mem ((c.tc : Thread Cert.GradOutKernelIdeal.nD Cert.GradOutKernelIdeal.τ).loc Cert.GradOutKernelIdeal.main_arg0) = m ((c.tc : Thread Cert.GradOutKernelIdeal.nD Cert.GradOutKernelIdeal.τ).loc Cert.GradOutKernelIdeal.main_arg0)
          ∧ r.2.mem ((c.tc : Thread Cert.GradOutKernelIdeal.nD Cert.GradOutKernelIdeal.τ).loc Cert.GradOutKernelIdeal.main_arg1) = m ((c.tc : Thread Cert.GradOutKernelIdeal.nD Cert.GradOutKernelIdeal.τ).loc Cert.GradOutKernelIdeal.main_arg1)
          ∧ r.2.mem ((c.tc : Thread Cert.GradOutKernelIdeal.nD Cert.GradOutKernelIdeal.τ).loc Cert.GradOutKernelIdeal.main_arg2) = m ((c.tc : Thread Cert.GradOutKernelIdeal.nD Cert.GradOutKernelIdeal.τ).loc Cert.GradOutKernelIdeal.main_arg2))
      ∧ θ_run (Cert.GradOutReferenceIdeal.defs (F := Ideal)) (onTc (τ := Cert.GradOutReferenceIdeal.τ) (Cert.GradOutReferenceIdeal.main (F := Ideal))) ⟨m', fun _ => 0, g'⟩ (fun r => ∀ c : Dev Cert.GradOutReferenceIdeal.nD,
          r.2.mem ((c.tc : Thread Cert.GradOutReferenceIdeal.nD Cert.GradOutReferenceIdeal.τ).loc Cert.GradOutReferenceIdeal.main_v7) = v0 c
          ∧ r.2.mem ((c.tc : Thread Cert.GradOutReferenceIdeal.nD Cert.GradOutReferenceIdeal.τ).loc Cert.GradOutReferenceIdeal.main_arg0) = m' ((c.tc : Thread Cert.GradOutReferenceIdeal.nD Cert.GradOutReferenceIdeal.τ).loc Cert.GradOutReferenceIdeal.main_arg0)
          ∧ r.2.mem ((c.tc : Thread Cert.GradOutReferenceIdeal.nD Cert.GradOutReferenceIdeal.τ).loc Cert.GradOutReferenceIdeal.main_arg1) = m' ((c.tc : Thread Cert.GradOutReferenceIdeal.nD Cert.GradOutReferenceIdeal.τ).loc Cert.GradOutReferenceIdeal.main_arg1)
          ∧ r.2.mem ((c.tc : Thread Cert.GradOutReferenceIdeal.nD Cert.GradOutReferenceIdeal.τ).loc Cert.GradOutReferenceIdeal.main_arg2) = m' ((c.tc : Thread Cert.GradOutReferenceIdeal.nD Cert.GradOutReferenceIdeal.τ).loc Cert.GradOutReferenceIdeal.main_arg2))

def preserves_GradBranchKernel_GradBranchKernelIdeal : Prop :=
  True

def algebraic_GradBranchKernelIdeal_GradBranchReferenceIdeal [hGradBranchKernelIdeal : Cert.GradBranchKernelIdeal.Facts] [hGradBranchReferenceIdeal : Cert.GradBranchReferenceIdeal.Facts] : Prop :=
  ∀ (m : (ℓ : Loc Cert.GradBranchKernelIdeal.nD Cert.GradBranchKernelIdeal.τ Cert.GradBranchKernelIdeal.sig) → Buf (Elt Ideal) ℓ) (g : Dev Cert.GradBranchKernelIdeal.nD → PrngReg)
    (m' : (ℓ : Loc Cert.GradBranchReferenceIdeal.nD Cert.GradBranchReferenceIdeal.τ Cert.GradBranchReferenceIdeal.sig) → Buf (Elt Ideal) ℓ) (g' : Dev Cert.GradBranchReferenceIdeal.nD → PrngReg), Pre_GradBranchKernelIdeal m →
    (∀ c : Dev Cert.GradBranchKernelIdeal.nD,
      m' ((c.tc : Thread Cert.GradBranchReferenceIdeal.nD Cert.GradBranchReferenceIdeal.τ).loc Cert.GradBranchReferenceIdeal.main_arg0) = m ((c.tc : Thread Cert.GradBranchKernelIdeal.nD Cert.GradBranchKernelIdeal.τ).loc Cert.GradBranchKernelIdeal.main_arg0)
      ∧ m' ((c.tc : Thread Cert.GradBranchReferenceIdeal.nD Cert.GradBranchReferenceIdeal.τ).loc Cert.GradBranchReferenceIdeal.main_arg1) = m ((c.tc : Thread Cert.GradBranchKernelIdeal.nD Cert.GradBranchKernelIdeal.τ).loc Cert.GradBranchKernelIdeal.main_arg1)
      ∧ m' ((c.tc : Thread Cert.GradBranchReferenceIdeal.nD Cert.GradBranchReferenceIdeal.τ).loc Cert.GradBranchReferenceIdeal.main_arg2) = m ((c.tc : Thread Cert.GradBranchKernelIdeal.nD Cert.GradBranchKernelIdeal.τ).loc Cert.GradBranchKernelIdeal.main_arg2)) →
    ∃ (v0 : (c : Dev Cert.GradBranchKernelIdeal.nD) → Buf (Elt Ideal) ((c.tc : Thread Cert.GradBranchKernelIdeal.nD Cert.GradBranchKernelIdeal.τ).loc Cert.GradBranchKernelIdeal.main_v0)),
      θ_run (Cert.GradBranchKernelIdeal.defs (F := Ideal)) (onTc (τ := Cert.GradBranchKernelIdeal.τ) (Cert.GradBranchKernelIdeal.main (F := Ideal))) ⟨m, fun _ => 0, g⟩ (fun r => ∀ c : Dev Cert.GradBranchKernelIdeal.nD,
          r.2.mem ((c.tc : Thread Cert.GradBranchKernelIdeal.nD Cert.GradBranchKernelIdeal.τ).loc Cert.GradBranchKernelIdeal.main_v0) = v0 c
          ∧ r.2.mem ((c.tc : Thread Cert.GradBranchKernelIdeal.nD Cert.GradBranchKernelIdeal.τ).loc Cert.GradBranchKernelIdeal.main_arg0) = m ((c.tc : Thread Cert.GradBranchKernelIdeal.nD Cert.GradBranchKernelIdeal.τ).loc Cert.GradBranchKernelIdeal.main_arg0)
          ∧ r.2.mem ((c.tc : Thread Cert.GradBranchKernelIdeal.nD Cert.GradBranchKernelIdeal.τ).loc Cert.GradBranchKernelIdeal.main_arg1) = m ((c.tc : Thread Cert.GradBranchKernelIdeal.nD Cert.GradBranchKernelIdeal.τ).loc Cert.GradBranchKernelIdeal.main_arg1)
          ∧ r.2.mem ((c.tc : Thread Cert.GradBranchKernelIdeal.nD Cert.GradBranchKernelIdeal.τ).loc Cert.GradBranchKernelIdeal.main_arg2) = m ((c.tc : Thread Cert.GradBranchKernelIdeal.nD Cert.GradBranchKernelIdeal.τ).loc Cert.GradBranchKernelIdeal.main_arg2))
      ∧ θ_run (Cert.GradBranchReferenceIdeal.defs (F := Ideal)) (onTc (τ := Cert.GradBranchReferenceIdeal.τ) (Cert.GradBranchReferenceIdeal.main (F := Ideal))) ⟨m', fun _ => 0, g'⟩ (fun r => ∀ c : Dev Cert.GradBranchReferenceIdeal.nD,
          r.2.mem ((c.tc : Thread Cert.GradBranchReferenceIdeal.nD Cert.GradBranchReferenceIdeal.τ).loc Cert.GradBranchReferenceIdeal.main_v15) = v0 c
          ∧ r.2.mem ((c.tc : Thread Cert.GradBranchReferenceIdeal.nD Cert.GradBranchReferenceIdeal.τ).loc Cert.GradBranchReferenceIdeal.main_arg0) = m' ((c.tc : Thread Cert.GradBranchReferenceIdeal.nD Cert.GradBranchReferenceIdeal.τ).loc Cert.GradBranchReferenceIdeal.main_arg0)
          ∧ r.2.mem ((c.tc : Thread Cert.GradBranchReferenceIdeal.nD Cert.GradBranchReferenceIdeal.τ).loc Cert.GradBranchReferenceIdeal.main_arg1) = m' ((c.tc : Thread Cert.GradBranchReferenceIdeal.nD Cert.GradBranchReferenceIdeal.τ).loc Cert.GradBranchReferenceIdeal.main_arg1)
          ∧ r.2.mem ((c.tc : Thread Cert.GradBranchReferenceIdeal.nD Cert.GradBranchReferenceIdeal.τ).loc Cert.GradBranchReferenceIdeal.main_arg2) = m' ((c.tc : Thread Cert.GradBranchReferenceIdeal.nD Cert.GradBranchReferenceIdeal.τ).loc Cert.GradBranchReferenceIdeal.main_arg2))

def preserves_GradInKernel_GradInKernelIdeal : Prop :=
  True

def algebraic_GradInKernelIdeal_GradInReferenceIdeal [hGradInKernelIdeal : Cert.GradInKernelIdeal.Facts] [hGradInReferenceIdeal : Cert.GradInReferenceIdeal.Facts] : Prop :=
  ∀ (m : (ℓ : Loc Cert.GradInKernelIdeal.nD Cert.GradInKernelIdeal.τ Cert.GradInKernelIdeal.sig) → Buf (Elt Ideal) ℓ) (g : Dev Cert.GradInKernelIdeal.nD → PrngReg)
    (m' : (ℓ : Loc Cert.GradInReferenceIdeal.nD Cert.GradInReferenceIdeal.τ Cert.GradInReferenceIdeal.sig) → Buf (Elt Ideal) ℓ) (g' : Dev Cert.GradInReferenceIdeal.nD → PrngReg), Pre_GradInKernelIdeal m →
    (∀ c : Dev Cert.GradInKernelIdeal.nD,
      m' ((c.tc : Thread Cert.GradInReferenceIdeal.nD Cert.GradInReferenceIdeal.τ).loc Cert.GradInReferenceIdeal.main_arg0) = m ((c.tc : Thread Cert.GradInKernelIdeal.nD Cert.GradInKernelIdeal.τ).loc Cert.GradInKernelIdeal.main_arg0)
      ∧ m' ((c.tc : Thread Cert.GradInReferenceIdeal.nD Cert.GradInReferenceIdeal.τ).loc Cert.GradInReferenceIdeal.main_arg1) = m ((c.tc : Thread Cert.GradInKernelIdeal.nD Cert.GradInKernelIdeal.τ).loc Cert.GradInKernelIdeal.main_arg1)
      ∧ m' ((c.tc : Thread Cert.GradInReferenceIdeal.nD Cert.GradInReferenceIdeal.τ).loc Cert.GradInReferenceIdeal.main_arg2) = m ((c.tc : Thread Cert.GradInKernelIdeal.nD Cert.GradInKernelIdeal.τ).loc Cert.GradInKernelIdeal.main_arg2)
      ∧ m' ((c.tc : Thread Cert.GradInReferenceIdeal.nD Cert.GradInReferenceIdeal.τ).loc Cert.GradInReferenceIdeal.main_arg3) = m ((c.tc : Thread Cert.GradInKernelIdeal.nD Cert.GradInKernelIdeal.τ).loc Cert.GradInKernelIdeal.main_arg3)
      ∧ m' ((c.tc : Thread Cert.GradInReferenceIdeal.nD Cert.GradInReferenceIdeal.τ).loc Cert.GradInReferenceIdeal.main_arg4) = m ((c.tc : Thread Cert.GradInKernelIdeal.nD Cert.GradInKernelIdeal.τ).loc Cert.GradInKernelIdeal.main_arg4)) →
    ∃ (v0 : (c : Dev Cert.GradInKernelIdeal.nD) → Buf (Elt Ideal) ((c.tc : Thread Cert.GradInKernelIdeal.nD Cert.GradInKernelIdeal.τ).loc Cert.GradInKernelIdeal.main_v0)),
      θ_run (Cert.GradInKernelIdeal.defs (F := Ideal)) (onTc (τ := Cert.GradInKernelIdeal.τ) (Cert.GradInKernelIdeal.main (F := Ideal))) ⟨m, fun _ => 0, g⟩ (fun r => ∀ c : Dev Cert.GradInKernelIdeal.nD,
          r.2.mem ((c.tc : Thread Cert.GradInKernelIdeal.nD Cert.GradInKernelIdeal.τ).loc Cert.GradInKernelIdeal.main_v0) = v0 c
          ∧ r.2.mem ((c.tc : Thread Cert.GradInKernelIdeal.nD Cert.GradInKernelIdeal.τ).loc Cert.GradInKernelIdeal.main_arg0) = m ((c.tc : Thread Cert.GradInKernelIdeal.nD Cert.GradInKernelIdeal.τ).loc Cert.GradInKernelIdeal.main_arg0)
          ∧ r.2.mem ((c.tc : Thread Cert.GradInKernelIdeal.nD Cert.GradInKernelIdeal.τ).loc Cert.GradInKernelIdeal.main_arg1) = m ((c.tc : Thread Cert.GradInKernelIdeal.nD Cert.GradInKernelIdeal.τ).loc Cert.GradInKernelIdeal.main_arg1)
          ∧ r.2.mem ((c.tc : Thread Cert.GradInKernelIdeal.nD Cert.GradInKernelIdeal.τ).loc Cert.GradInKernelIdeal.main_arg2) = m ((c.tc : Thread Cert.GradInKernelIdeal.nD Cert.GradInKernelIdeal.τ).loc Cert.GradInKernelIdeal.main_arg2)
          ∧ r.2.mem ((c.tc : Thread Cert.GradInKernelIdeal.nD Cert.GradInKernelIdeal.τ).loc Cert.GradInKernelIdeal.main_arg3) = m ((c.tc : Thread Cert.GradInKernelIdeal.nD Cert.GradInKernelIdeal.τ).loc Cert.GradInKernelIdeal.main_arg3)
          ∧ r.2.mem ((c.tc : Thread Cert.GradInKernelIdeal.nD Cert.GradInKernelIdeal.τ).loc Cert.GradInKernelIdeal.main_arg4) = m ((c.tc : Thread Cert.GradInKernelIdeal.nD Cert.GradInKernelIdeal.τ).loc Cert.GradInKernelIdeal.main_arg4))
      ∧ θ_run (Cert.GradInReferenceIdeal.defs (F := Ideal)) (onTc (τ := Cert.GradInReferenceIdeal.τ) (Cert.GradInReferenceIdeal.main (F := Ideal))) ⟨m', fun _ => 0, g'⟩ (fun r => ∀ c : Dev Cert.GradInReferenceIdeal.nD,
          r.2.mem ((c.tc : Thread Cert.GradInReferenceIdeal.nD Cert.GradInReferenceIdeal.τ).loc Cert.GradInReferenceIdeal.main_v10) = v0 c
          ∧ r.2.mem ((c.tc : Thread Cert.GradInReferenceIdeal.nD Cert.GradInReferenceIdeal.τ).loc Cert.GradInReferenceIdeal.main_arg0) = m' ((c.tc : Thread Cert.GradInReferenceIdeal.nD Cert.GradInReferenceIdeal.τ).loc Cert.GradInReferenceIdeal.main_arg0)
          ∧ r.2.mem ((c.tc : Thread Cert.GradInReferenceIdeal.nD Cert.GradInReferenceIdeal.τ).loc Cert.GradInReferenceIdeal.main_arg1) = m' ((c.tc : Thread Cert.GradInReferenceIdeal.nD Cert.GradInReferenceIdeal.τ).loc Cert.GradInReferenceIdeal.main_arg1)
          ∧ r.2.mem ((c.tc : Thread Cert.GradInReferenceIdeal.nD Cert.GradInReferenceIdeal.τ).loc Cert.GradInReferenceIdeal.main_arg2) = m' ((c.tc : Thread Cert.GradInReferenceIdeal.nD Cert.GradInReferenceIdeal.τ).loc Cert.GradInReferenceIdeal.main_arg2)
          ∧ r.2.mem ((c.tc : Thread Cert.GradInReferenceIdeal.nD Cert.GradInReferenceIdeal.τ).loc Cert.GradInReferenceIdeal.main_arg3) = m' ((c.tc : Thread Cert.GradInReferenceIdeal.nD Cert.GradInReferenceIdeal.τ).loc Cert.GradInReferenceIdeal.main_arg3)
          ∧ r.2.mem ((c.tc : Thread Cert.GradInReferenceIdeal.nD Cert.GradInReferenceIdeal.τ).loc Cert.GradInReferenceIdeal.main_arg4) = m' ((c.tc : Thread Cert.GradInReferenceIdeal.nD Cert.GradInReferenceIdeal.τ).loc Cert.GradInReferenceIdeal.main_arg4))

def preserves_FfnBwdKernel_FfnBwdKernelIdeal : Prop :=
  True

def algebraic_FfnBwdKernelIdeal_FfnBwdReferenceIdeal_pre_ffn_bwd_finite [hFfnBwdKernelIdeal : Cert.FfnBwdKernelIdeal.Facts] [hFfnBwdReferenceIdeal : Cert.FfnBwdReferenceIdeal.Facts] [hPre_ffn_bwd_finite : Cert.Pre_ffn_bwd_finite.Facts] : Prop :=
  ∀ (m : (ℓ : Loc Cert.FfnBwdKernelIdeal.nD Cert.FfnBwdKernelIdeal.τ Cert.FfnBwdKernelIdeal.sig) → Buf (Elt Ideal) ℓ) (g : Dev Cert.FfnBwdKernelIdeal.nD → PrngReg)
    (m' : (ℓ : Loc Cert.FfnBwdReferenceIdeal.nD Cert.FfnBwdReferenceIdeal.τ Cert.FfnBwdReferenceIdeal.sig) → Buf (Elt Ideal) ℓ) (g' : Dev Cert.FfnBwdReferenceIdeal.nD → PrngReg), Pre_FfnBwdKernelIdeal_ffn_bwd_finite m →
    (∀ c : Dev Cert.FfnBwdKernelIdeal.nD,
      m' ((c.tc : Thread Cert.FfnBwdReferenceIdeal.nD Cert.FfnBwdReferenceIdeal.τ).loc Cert.FfnBwdReferenceIdeal.main_arg0) = m ((c.tc : Thread Cert.FfnBwdKernelIdeal.nD Cert.FfnBwdKernelIdeal.τ).loc Cert.FfnBwdKernelIdeal.main_arg0)
      ∧ m' ((c.tc : Thread Cert.FfnBwdReferenceIdeal.nD Cert.FfnBwdReferenceIdeal.τ).loc Cert.FfnBwdReferenceIdeal.main_arg1) = m ((c.tc : Thread Cert.FfnBwdKernelIdeal.nD Cert.FfnBwdKernelIdeal.τ).loc Cert.FfnBwdKernelIdeal.main_arg1)
      ∧ m' ((c.tc : Thread Cert.FfnBwdReferenceIdeal.nD Cert.FfnBwdReferenceIdeal.τ).loc Cert.FfnBwdReferenceIdeal.main_arg2) = m ((c.tc : Thread Cert.FfnBwdKernelIdeal.nD Cert.FfnBwdKernelIdeal.τ).loc Cert.FfnBwdKernelIdeal.main_arg2)
      ∧ m' ((c.tc : Thread Cert.FfnBwdReferenceIdeal.nD Cert.FfnBwdReferenceIdeal.τ).loc Cert.FfnBwdReferenceIdeal.main_arg3) = m ((c.tc : Thread Cert.FfnBwdKernelIdeal.nD Cert.FfnBwdKernelIdeal.τ).loc Cert.FfnBwdKernelIdeal.main_arg3)
      ∧ m' ((c.tc : Thread Cert.FfnBwdReferenceIdeal.nD Cert.FfnBwdReferenceIdeal.τ).loc Cert.FfnBwdReferenceIdeal.main_arg4) = m ((c.tc : Thread Cert.FfnBwdKernelIdeal.nD Cert.FfnBwdKernelIdeal.τ).loc Cert.FfnBwdKernelIdeal.main_arg4)) →
    ∃ (v0 : (c : Dev Cert.FfnBwdKernelIdeal.nD) → Buf (Elt Ideal) ((c.tc : Thread Cert.FfnBwdKernelIdeal.nD Cert.FfnBwdKernelIdeal.τ).loc Cert.FfnBwdKernelIdeal.main_v22_0)) (v1 : (c : Dev Cert.FfnBwdKernelIdeal.nD) → Buf (Elt Ideal) ((c.tc : Thread Cert.FfnBwdKernelIdeal.nD Cert.FfnBwdKernelIdeal.τ).loc Cert.FfnBwdKernelIdeal.main_v22_1)) (v2 : (c : Dev Cert.FfnBwdKernelIdeal.nD) → Buf (Elt Ideal) ((c.tc : Thread Cert.FfnBwdKernelIdeal.nD Cert.FfnBwdKernelIdeal.τ).loc Cert.FfnBwdKernelIdeal.main_v22_2)) (v3 : (c : Dev Cert.FfnBwdKernelIdeal.nD) → Buf (Elt Ideal) ((c.tc : Thread Cert.FfnBwdKernelIdeal.nD Cert.FfnBwdKernelIdeal.τ).loc Cert.FfnBwdKernelIdeal.main_v22_3)),
      θ_run (Cert.FfnBwdKernelIdeal.defs (F := Ideal)) (onTc (τ := Cert.FfnBwdKernelIdeal.τ) (Cert.FfnBwdKernelIdeal.main (F := Ideal))) ⟨m, fun _ => 0, g⟩ (fun r => ∀ c : Dev Cert.FfnBwdKernelIdeal.nD,
          r.2.mem ((c.tc : Thread Cert.FfnBwdKernelIdeal.nD Cert.FfnBwdKernelIdeal.τ).loc Cert.FfnBwdKernelIdeal.main_v22_0) = v0 c
          ∧ r.2.mem ((c.tc : Thread Cert.FfnBwdKernelIdeal.nD Cert.FfnBwdKernelIdeal.τ).loc Cert.FfnBwdKernelIdeal.main_v22_1) = v1 c
          ∧ r.2.mem ((c.tc : Thread Cert.FfnBwdKernelIdeal.nD Cert.FfnBwdKernelIdeal.τ).loc Cert.FfnBwdKernelIdeal.main_v22_2) = v2 c
          ∧ r.2.mem ((c.tc : Thread Cert.FfnBwdKernelIdeal.nD Cert.FfnBwdKernelIdeal.τ).loc Cert.FfnBwdKernelIdeal.main_v22_3) = v3 c
          ∧ r.2.mem ((c.tc : Thread Cert.FfnBwdKernelIdeal.nD Cert.FfnBwdKernelIdeal.τ).loc Cert.FfnBwdKernelIdeal.main_arg0) = m ((c.tc : Thread Cert.FfnBwdKernelIdeal.nD Cert.FfnBwdKernelIdeal.τ).loc Cert.FfnBwdKernelIdeal.main_arg0)
          ∧ r.2.mem ((c.tc : Thread Cert.FfnBwdKernelIdeal.nD Cert.FfnBwdKernelIdeal.τ).loc Cert.FfnBwdKernelIdeal.main_arg1) = m ((c.tc : Thread Cert.FfnBwdKernelIdeal.nD Cert.FfnBwdKernelIdeal.τ).loc Cert.FfnBwdKernelIdeal.main_arg1)
          ∧ r.2.mem ((c.tc : Thread Cert.FfnBwdKernelIdeal.nD Cert.FfnBwdKernelIdeal.τ).loc Cert.FfnBwdKernelIdeal.main_arg2) = m ((c.tc : Thread Cert.FfnBwdKernelIdeal.nD Cert.FfnBwdKernelIdeal.τ).loc Cert.FfnBwdKernelIdeal.main_arg2)
          ∧ r.2.mem ((c.tc : Thread Cert.FfnBwdKernelIdeal.nD Cert.FfnBwdKernelIdeal.τ).loc Cert.FfnBwdKernelIdeal.main_arg3) = m ((c.tc : Thread Cert.FfnBwdKernelIdeal.nD Cert.FfnBwdKernelIdeal.τ).loc Cert.FfnBwdKernelIdeal.main_arg3)
          ∧ r.2.mem ((c.tc : Thread Cert.FfnBwdKernelIdeal.nD Cert.FfnBwdKernelIdeal.τ).loc Cert.FfnBwdKernelIdeal.main_arg4) = m ((c.tc : Thread Cert.FfnBwdKernelIdeal.nD Cert.FfnBwdKernelIdeal.τ).loc Cert.FfnBwdKernelIdeal.main_arg4))
      ∧ θ_run (Cert.FfnBwdReferenceIdeal.defs (F := Ideal)) (onTc (τ := Cert.FfnBwdReferenceIdeal.τ) (Cert.FfnBwdReferenceIdeal.main (F := Ideal))) ⟨m', fun _ => 0, g'⟩ (fun r => ∀ c : Dev Cert.FfnBwdReferenceIdeal.nD,
          r.2.mem ((c.tc : Thread Cert.FfnBwdReferenceIdeal.nD Cert.FfnBwdReferenceIdeal.τ).loc Cert.FfnBwdReferenceIdeal.main_v49) = v0 c
          ∧ r.2.mem ((c.tc : Thread Cert.FfnBwdReferenceIdeal.nD Cert.FfnBwdReferenceIdeal.τ).loc Cert.FfnBwdReferenceIdeal.main_v48) = v1 c
          ∧ r.2.mem ((c.tc : Thread Cert.FfnBwdReferenceIdeal.nD Cert.FfnBwdReferenceIdeal.τ).loc Cert.FfnBwdReferenceIdeal.main_v50) = v2 c
          ∧ r.2.mem ((c.tc : Thread Cert.FfnBwdReferenceIdeal.nD Cert.FfnBwdReferenceIdeal.τ).loc Cert.FfnBwdReferenceIdeal.main_v31) = v3 c
          ∧ r.2.mem ((c.tc : Thread Cert.FfnBwdReferenceIdeal.nD Cert.FfnBwdReferenceIdeal.τ).loc Cert.FfnBwdReferenceIdeal.main_arg0) = m' ((c.tc : Thread Cert.FfnBwdReferenceIdeal.nD Cert.FfnBwdReferenceIdeal.τ).loc Cert.FfnBwdReferenceIdeal.main_arg0)
          ∧ r.2.mem ((c.tc : Thread Cert.FfnBwdReferenceIdeal.nD Cert.FfnBwdReferenceIdeal.τ).loc Cert.FfnBwdReferenceIdeal.main_arg1) = m' ((c.tc : Thread Cert.FfnBwdReferenceIdeal.nD Cert.FfnBwdReferenceIdeal.τ).loc Cert.FfnBwdReferenceIdeal.main_arg1)
          ∧ r.2.mem ((c.tc : Thread Cert.FfnBwdReferenceIdeal.nD Cert.FfnBwdReferenceIdeal.τ).loc Cert.FfnBwdReferenceIdeal.main_arg2) = m' ((c.tc : Thread Cert.FfnBwdReferenceIdeal.nD Cert.FfnBwdReferenceIdeal.τ).loc Cert.FfnBwdReferenceIdeal.main_arg2)
          ∧ r.2.mem ((c.tc : Thread Cert.FfnBwdReferenceIdeal.nD Cert.FfnBwdReferenceIdeal.τ).loc Cert.FfnBwdReferenceIdeal.main_arg3) = m' ((c.tc : Thread Cert.FfnBwdReferenceIdeal.nD Cert.FfnBwdReferenceIdeal.τ).loc Cert.FfnBwdReferenceIdeal.main_arg3)
          ∧ r.2.mem ((c.tc : Thread Cert.FfnBwdReferenceIdeal.nD Cert.FfnBwdReferenceIdeal.τ).loc Cert.FfnBwdReferenceIdeal.main_arg4) = m' ((c.tc : Thread Cert.FfnBwdReferenceIdeal.nD Cert.FfnBwdReferenceIdeal.τ).loc Cert.FfnBwdReferenceIdeal.main_arg4))

def preserves_InProjBwdKernel_InProjBwdKernelIdeal : Prop :=
  True

def algebraic_InProjBwdKernelIdeal_InProjBwdReferenceIdeal_pre_in_proj_bwd_finite [hInProjBwdKernelIdeal : Cert.InProjBwdKernelIdeal.Facts] [hInProjBwdReferenceIdeal : Cert.InProjBwdReferenceIdeal.Facts] [hPre_in_proj_bwd_finite : Cert.Pre_in_proj_bwd_finite.Facts] : Prop :=
  ∀ (m : (ℓ : Loc Cert.InProjBwdKernelIdeal.nD Cert.InProjBwdKernelIdeal.τ Cert.InProjBwdKernelIdeal.sig) → Buf (Elt Ideal) ℓ) (g : Dev Cert.InProjBwdKernelIdeal.nD → PrngReg)
    (m' : (ℓ : Loc Cert.InProjBwdReferenceIdeal.nD Cert.InProjBwdReferenceIdeal.τ Cert.InProjBwdReferenceIdeal.sig) → Buf (Elt Ideal) ℓ) (g' : Dev Cert.InProjBwdReferenceIdeal.nD → PrngReg), Pre_InProjBwdKernelIdeal_in_proj_bwd_finite m →
    (∀ c : Dev Cert.InProjBwdKernelIdeal.nD,
      m' ((c.tc : Thread Cert.InProjBwdReferenceIdeal.nD Cert.InProjBwdReferenceIdeal.τ).loc Cert.InProjBwdReferenceIdeal.main_arg0) = m ((c.tc : Thread Cert.InProjBwdKernelIdeal.nD Cert.InProjBwdKernelIdeal.τ).loc Cert.InProjBwdKernelIdeal.main_arg0)
      ∧ m' ((c.tc : Thread Cert.InProjBwdReferenceIdeal.nD Cert.InProjBwdReferenceIdeal.τ).loc Cert.InProjBwdReferenceIdeal.main_arg1) = m ((c.tc : Thread Cert.InProjBwdKernelIdeal.nD Cert.InProjBwdKernelIdeal.τ).loc Cert.InProjBwdKernelIdeal.main_arg1)
      ∧ m' ((c.tc : Thread Cert.InProjBwdReferenceIdeal.nD Cert.InProjBwdReferenceIdeal.τ).loc Cert.InProjBwdReferenceIdeal.main_arg2) = m ((c.tc : Thread Cert.InProjBwdKernelIdeal.nD Cert.InProjBwdKernelIdeal.τ).loc Cert.InProjBwdKernelIdeal.main_arg2)
      ∧ m' ((c.tc : Thread Cert.InProjBwdReferenceIdeal.nD Cert.InProjBwdReferenceIdeal.τ).loc Cert.InProjBwdReferenceIdeal.main_arg3) = m ((c.tc : Thread Cert.InProjBwdKernelIdeal.nD Cert.InProjBwdKernelIdeal.τ).loc Cert.InProjBwdKernelIdeal.main_arg3)
      ∧ m' ((c.tc : Thread Cert.InProjBwdReferenceIdeal.nD Cert.InProjBwdReferenceIdeal.τ).loc Cert.InProjBwdReferenceIdeal.main_arg4) = m ((c.tc : Thread Cert.InProjBwdKernelIdeal.nD Cert.InProjBwdKernelIdeal.τ).loc Cert.InProjBwdKernelIdeal.main_arg4)
      ∧ m' ((c.tc : Thread Cert.InProjBwdReferenceIdeal.nD Cert.InProjBwdReferenceIdeal.τ).loc Cert.InProjBwdReferenceIdeal.main_arg5) = m ((c.tc : Thread Cert.InProjBwdKernelIdeal.nD Cert.InProjBwdKernelIdeal.τ).loc Cert.InProjBwdKernelIdeal.main_arg5)
      ∧ m' ((c.tc : Thread Cert.InProjBwdReferenceIdeal.nD Cert.InProjBwdReferenceIdeal.τ).loc Cert.InProjBwdReferenceIdeal.main_arg6) = m ((c.tc : Thread Cert.InProjBwdKernelIdeal.nD Cert.InProjBwdKernelIdeal.τ).loc Cert.InProjBwdKernelIdeal.main_arg6)
      ∧ m' ((c.tc : Thread Cert.InProjBwdReferenceIdeal.nD Cert.InProjBwdReferenceIdeal.τ).loc Cert.InProjBwdReferenceIdeal.main_arg7) = m ((c.tc : Thread Cert.InProjBwdKernelIdeal.nD Cert.InProjBwdKernelIdeal.τ).loc Cert.InProjBwdKernelIdeal.main_arg7)
      ∧ m' ((c.tc : Thread Cert.InProjBwdReferenceIdeal.nD Cert.InProjBwdReferenceIdeal.τ).loc Cert.InProjBwdReferenceIdeal.main_arg8) = m ((c.tc : Thread Cert.InProjBwdKernelIdeal.nD Cert.InProjBwdKernelIdeal.τ).loc Cert.InProjBwdKernelIdeal.main_arg8)) →
    ∃ (v0 : (c : Dev Cert.InProjBwdKernelIdeal.nD) → Buf (Elt Ideal) ((c.tc : Thread Cert.InProjBwdKernelIdeal.nD Cert.InProjBwdKernelIdeal.τ).loc Cert.InProjBwdKernelIdeal.main_v2_0)) (v1 : (c : Dev Cert.InProjBwdKernelIdeal.nD) → Buf (Elt Ideal) ((c.tc : Thread Cert.InProjBwdKernelIdeal.nD Cert.InProjBwdKernelIdeal.τ).loc Cert.InProjBwdKernelIdeal.main_v2_1)) (v2 : (c : Dev Cert.InProjBwdKernelIdeal.nD) → Buf (Elt Ideal) ((c.tc : Thread Cert.InProjBwdKernelIdeal.nD Cert.InProjBwdKernelIdeal.τ).loc Cert.InProjBwdKernelIdeal.main_v2_2)),
      θ_run (Cert.InProjBwdKernelIdeal.defs (F := Ideal)) (onTc (τ := Cert.InProjBwdKernelIdeal.τ) (Cert.InProjBwdKernelIdeal.main (F := Ideal))) ⟨m, fun _ => 0, g⟩ (fun r => ∀ c : Dev Cert.InProjBwdKernelIdeal.nD,
          r.2.mem ((c.tc : Thread Cert.InProjBwdKernelIdeal.nD Cert.InProjBwdKernelIdeal.τ).loc Cert.InProjBwdKernelIdeal.main_v2_0) = v0 c
          ∧ r.2.mem ((c.tc : Thread Cert.InProjBwdKernelIdeal.nD Cert.InProjBwdKernelIdeal.τ).loc Cert.InProjBwdKernelIdeal.main_v2_1) = v1 c
          ∧ r.2.mem ((c.tc : Thread Cert.InProjBwdKernelIdeal.nD Cert.InProjBwdKernelIdeal.τ).loc Cert.InProjBwdKernelIdeal.main_v2_2) = v2 c
          ∧ r.2.mem ((c.tc : Thread Cert.InProjBwdKernelIdeal.nD Cert.InProjBwdKernelIdeal.τ).loc Cert.InProjBwdKernelIdeal.main_arg0) = m ((c.tc : Thread Cert.InProjBwdKernelIdeal.nD Cert.InProjBwdKernelIdeal.τ).loc Cert.InProjBwdKernelIdeal.main_arg0)
          ∧ r.2.mem ((c.tc : Thread Cert.InProjBwdKernelIdeal.nD Cert.InProjBwdKernelIdeal.τ).loc Cert.InProjBwdKernelIdeal.main_arg1) = m ((c.tc : Thread Cert.InProjBwdKernelIdeal.nD Cert.InProjBwdKernelIdeal.τ).loc Cert.InProjBwdKernelIdeal.main_arg1)
          ∧ r.2.mem ((c.tc : Thread Cert.InProjBwdKernelIdeal.nD Cert.InProjBwdKernelIdeal.τ).loc Cert.InProjBwdKernelIdeal.main_arg2) = m ((c.tc : Thread Cert.InProjBwdKernelIdeal.nD Cert.InProjBwdKernelIdeal.τ).loc Cert.InProjBwdKernelIdeal.main_arg2)
          ∧ r.2.mem ((c.tc : Thread Cert.InProjBwdKernelIdeal.nD Cert.InProjBwdKernelIdeal.τ).loc Cert.InProjBwdKernelIdeal.main_arg3) = m ((c.tc : Thread Cert.InProjBwdKernelIdeal.nD Cert.InProjBwdKernelIdeal.τ).loc Cert.InProjBwdKernelIdeal.main_arg3)
          ∧ r.2.mem ((c.tc : Thread Cert.InProjBwdKernelIdeal.nD Cert.InProjBwdKernelIdeal.τ).loc Cert.InProjBwdKernelIdeal.main_arg4) = m ((c.tc : Thread Cert.InProjBwdKernelIdeal.nD Cert.InProjBwdKernelIdeal.τ).loc Cert.InProjBwdKernelIdeal.main_arg4)
          ∧ r.2.mem ((c.tc : Thread Cert.InProjBwdKernelIdeal.nD Cert.InProjBwdKernelIdeal.τ).loc Cert.InProjBwdKernelIdeal.main_arg5) = m ((c.tc : Thread Cert.InProjBwdKernelIdeal.nD Cert.InProjBwdKernelIdeal.τ).loc Cert.InProjBwdKernelIdeal.main_arg5)
          ∧ r.2.mem ((c.tc : Thread Cert.InProjBwdKernelIdeal.nD Cert.InProjBwdKernelIdeal.τ).loc Cert.InProjBwdKernelIdeal.main_arg6) = m ((c.tc : Thread Cert.InProjBwdKernelIdeal.nD Cert.InProjBwdKernelIdeal.τ).loc Cert.InProjBwdKernelIdeal.main_arg6)
          ∧ r.2.mem ((c.tc : Thread Cert.InProjBwdKernelIdeal.nD Cert.InProjBwdKernelIdeal.τ).loc Cert.InProjBwdKernelIdeal.main_arg7) = m ((c.tc : Thread Cert.InProjBwdKernelIdeal.nD Cert.InProjBwdKernelIdeal.τ).loc Cert.InProjBwdKernelIdeal.main_arg7)
          ∧ r.2.mem ((c.tc : Thread Cert.InProjBwdKernelIdeal.nD Cert.InProjBwdKernelIdeal.τ).loc Cert.InProjBwdKernelIdeal.main_arg8) = m ((c.tc : Thread Cert.InProjBwdKernelIdeal.nD Cert.InProjBwdKernelIdeal.τ).loc Cert.InProjBwdKernelIdeal.main_arg8))
      ∧ θ_run (Cert.InProjBwdReferenceIdeal.defs (F := Ideal)) (onTc (τ := Cert.InProjBwdReferenceIdeal.τ) (Cert.InProjBwdReferenceIdeal.main (F := Ideal))) ⟨m', fun _ => 0, g'⟩ (fun r => ∀ c : Dev Cert.InProjBwdReferenceIdeal.nD,
          r.2.mem ((c.tc : Thread Cert.InProjBwdReferenceIdeal.nD Cert.InProjBwdReferenceIdeal.τ).loc Cert.InProjBwdReferenceIdeal.main_v45) = v0 c
          ∧ r.2.mem ((c.tc : Thread Cert.InProjBwdReferenceIdeal.nD Cert.InProjBwdReferenceIdeal.τ).loc Cert.InProjBwdReferenceIdeal.main_v28) = v1 c
          ∧ r.2.mem ((c.tc : Thread Cert.InProjBwdReferenceIdeal.nD Cert.InProjBwdReferenceIdeal.τ).loc Cert.InProjBwdReferenceIdeal.main_v24) = v2 c
          ∧ r.2.mem ((c.tc : Thread Cert.InProjBwdReferenceIdeal.nD Cert.InProjBwdReferenceIdeal.τ).loc Cert.InProjBwdReferenceIdeal.main_arg0) = m' ((c.tc : Thread Cert.InProjBwdReferenceIdeal.nD Cert.InProjBwdReferenceIdeal.τ).loc Cert.InProjBwdReferenceIdeal.main_arg0)
          ∧ r.2.mem ((c.tc : Thread Cert.InProjBwdReferenceIdeal.nD Cert.InProjBwdReferenceIdeal.τ).loc Cert.InProjBwdReferenceIdeal.main_arg1) = m' ((c.tc : Thread Cert.InProjBwdReferenceIdeal.nD Cert.InProjBwdReferenceIdeal.τ).loc Cert.InProjBwdReferenceIdeal.main_arg1)
          ∧ r.2.mem ((c.tc : Thread Cert.InProjBwdReferenceIdeal.nD Cert.InProjBwdReferenceIdeal.τ).loc Cert.InProjBwdReferenceIdeal.main_arg2) = m' ((c.tc : Thread Cert.InProjBwdReferenceIdeal.nD Cert.InProjBwdReferenceIdeal.τ).loc Cert.InProjBwdReferenceIdeal.main_arg2)
          ∧ r.2.mem ((c.tc : Thread Cert.InProjBwdReferenceIdeal.nD Cert.InProjBwdReferenceIdeal.τ).loc Cert.InProjBwdReferenceIdeal.main_arg3) = m' ((c.tc : Thread Cert.InProjBwdReferenceIdeal.nD Cert.InProjBwdReferenceIdeal.τ).loc Cert.InProjBwdReferenceIdeal.main_arg3)
          ∧ r.2.mem ((c.tc : Thread Cert.InProjBwdReferenceIdeal.nD Cert.InProjBwdReferenceIdeal.τ).loc Cert.InProjBwdReferenceIdeal.main_arg4) = m' ((c.tc : Thread Cert.InProjBwdReferenceIdeal.nD Cert.InProjBwdReferenceIdeal.τ).loc Cert.InProjBwdReferenceIdeal.main_arg4)
          ∧ r.2.mem ((c.tc : Thread Cert.InProjBwdReferenceIdeal.nD Cert.InProjBwdReferenceIdeal.τ).loc Cert.InProjBwdReferenceIdeal.main_arg5) = m' ((c.tc : Thread Cert.InProjBwdReferenceIdeal.nD Cert.InProjBwdReferenceIdeal.τ).loc Cert.InProjBwdReferenceIdeal.main_arg5)
          ∧ r.2.mem ((c.tc : Thread Cert.InProjBwdReferenceIdeal.nD Cert.InProjBwdReferenceIdeal.τ).loc Cert.InProjBwdReferenceIdeal.main_arg6) = m' ((c.tc : Thread Cert.InProjBwdReferenceIdeal.nD Cert.InProjBwdReferenceIdeal.τ).loc Cert.InProjBwdReferenceIdeal.main_arg6)
          ∧ r.2.mem ((c.tc : Thread Cert.InProjBwdReferenceIdeal.nD Cert.InProjBwdReferenceIdeal.τ).loc Cert.InProjBwdReferenceIdeal.main_arg7) = m' ((c.tc : Thread Cert.InProjBwdReferenceIdeal.nD Cert.InProjBwdReferenceIdeal.τ).loc Cert.InProjBwdReferenceIdeal.main_arg7)
          ∧ r.2.mem ((c.tc : Thread Cert.InProjBwdReferenceIdeal.nD Cert.InProjBwdReferenceIdeal.τ).loc Cert.InProjBwdReferenceIdeal.main_arg8) = m' ((c.tc : Thread Cert.InProjBwdReferenceIdeal.nD Cert.InProjBwdReferenceIdeal.τ).loc Cert.InProjBwdReferenceIdeal.main_arg8))

def preserves_FfnOutLossKernel_FfnOutLossKernelIdeal : Prop :=
  True

def algebraic_FfnOutLossKernelIdeal_FfnOutLossReferenceIdeal_pre_ffn_out_loss_finite [hFfnOutLossKernelIdeal : Cert.FfnOutLossKernelIdeal.Facts] [hFfnOutLossReferenceIdeal : Cert.FfnOutLossReferenceIdeal.Facts] [hPre_ffn_out_loss_finite : Cert.Pre_ffn_out_loss_finite.Facts] : Prop :=
  ∀ (m : (ℓ : Loc Cert.FfnOutLossKernelIdeal.nD Cert.FfnOutLossKernelIdeal.τ Cert.FfnOutLossKernelIdeal.sig) → Buf (Elt Ideal) ℓ) (g : Dev Cert.FfnOutLossKernelIdeal.nD → PrngReg)
    (m' : (ℓ : Loc Cert.FfnOutLossReferenceIdeal.nD Cert.FfnOutLossReferenceIdeal.τ Cert.FfnOutLossReferenceIdeal.sig) → Buf (Elt Ideal) ℓ) (g' : Dev Cert.FfnOutLossReferenceIdeal.nD → PrngReg), Pre_FfnOutLossKernelIdeal_ffn_out_loss_finite m →
    (∀ c : Dev Cert.FfnOutLossKernelIdeal.nD,
      m' ((c.tc : Thread Cert.FfnOutLossReferenceIdeal.nD Cert.FfnOutLossReferenceIdeal.τ).loc Cert.FfnOutLossReferenceIdeal.main_arg0) = m ((c.tc : Thread Cert.FfnOutLossKernelIdeal.nD Cert.FfnOutLossKernelIdeal.τ).loc Cert.FfnOutLossKernelIdeal.main_arg0)
      ∧ m' ((c.tc : Thread Cert.FfnOutLossReferenceIdeal.nD Cert.FfnOutLossReferenceIdeal.τ).loc Cert.FfnOutLossReferenceIdeal.main_arg1) = m ((c.tc : Thread Cert.FfnOutLossKernelIdeal.nD Cert.FfnOutLossKernelIdeal.τ).loc Cert.FfnOutLossKernelIdeal.main_arg1)
      ∧ m' ((c.tc : Thread Cert.FfnOutLossReferenceIdeal.nD Cert.FfnOutLossReferenceIdeal.τ).loc Cert.FfnOutLossReferenceIdeal.main_arg2) = m ((c.tc : Thread Cert.FfnOutLossKernelIdeal.nD Cert.FfnOutLossKernelIdeal.τ).loc Cert.FfnOutLossKernelIdeal.main_arg2)
      ∧ m' ((c.tc : Thread Cert.FfnOutLossReferenceIdeal.nD Cert.FfnOutLossReferenceIdeal.τ).loc Cert.FfnOutLossReferenceIdeal.main_arg3) = m ((c.tc : Thread Cert.FfnOutLossKernelIdeal.nD Cert.FfnOutLossKernelIdeal.τ).loc Cert.FfnOutLossKernelIdeal.main_arg3)
      ∧ m' ((c.tc : Thread Cert.FfnOutLossReferenceIdeal.nD Cert.FfnOutLossReferenceIdeal.τ).loc Cert.FfnOutLossReferenceIdeal.main_arg4) = m ((c.tc : Thread Cert.FfnOutLossKernelIdeal.nD Cert.FfnOutLossKernelIdeal.τ).loc Cert.FfnOutLossKernelIdeal.main_arg4)) →
    ∃ (v0 : (c : Dev Cert.FfnOutLossKernelIdeal.nD) → Buf (Elt Ideal) ((c.tc : Thread Cert.FfnOutLossKernelIdeal.nD Cert.FfnOutLossKernelIdeal.τ).loc Cert.FfnOutLossKernelIdeal.main_v1_0)) (v1 : (c : Dev Cert.FfnOutLossKernelIdeal.nD) → Buf (Elt Ideal) ((c.tc : Thread Cert.FfnOutLossKernelIdeal.nD Cert.FfnOutLossKernelIdeal.τ).loc Cert.FfnOutLossKernelIdeal.main_v1_1)) (v2 : (c : Dev Cert.FfnOutLossKernelIdeal.nD) → Buf (Elt Ideal) ((c.tc : Thread Cert.FfnOutLossKernelIdeal.nD Cert.FfnOutLossKernelIdeal.τ).loc Cert.FfnOutLossKernelIdeal.main_v1_2)) (v3 : (c : Dev Cert.FfnOutLossKernelIdeal.nD) → Buf (Elt Ideal) ((c.tc : Thread Cert.FfnOutLossKernelIdeal.nD Cert.FfnOutLossKernelIdeal.τ).loc Cert.FfnOutLossKernelIdeal.main_v1_3)),
      θ_run (Cert.FfnOutLossKernelIdeal.defs (F := Ideal)) (onTc (τ := Cert.FfnOutLossKernelIdeal.τ) (Cert.FfnOutLossKernelIdeal.main (F := Ideal))) ⟨m, fun _ => 0, g⟩ (fun r => ∀ c : Dev Cert.FfnOutLossKernelIdeal.nD,
          r.2.mem ((c.tc : Thread Cert.FfnOutLossKernelIdeal.nD Cert.FfnOutLossKernelIdeal.τ).loc Cert.FfnOutLossKernelIdeal.main_v1_0) = v0 c
          ∧ r.2.mem ((c.tc : Thread Cert.FfnOutLossKernelIdeal.nD Cert.FfnOutLossKernelIdeal.τ).loc Cert.FfnOutLossKernelIdeal.main_v1_1) = v1 c
          ∧ r.2.mem ((c.tc : Thread Cert.FfnOutLossKernelIdeal.nD Cert.FfnOutLossKernelIdeal.τ).loc Cert.FfnOutLossKernelIdeal.main_v1_2) = v2 c
          ∧ r.2.mem ((c.tc : Thread Cert.FfnOutLossKernelIdeal.nD Cert.FfnOutLossKernelIdeal.τ).loc Cert.FfnOutLossKernelIdeal.main_v1_3) = v3 c
          ∧ r.2.mem ((c.tc : Thread Cert.FfnOutLossKernelIdeal.nD Cert.FfnOutLossKernelIdeal.τ).loc Cert.FfnOutLossKernelIdeal.main_arg0) = m ((c.tc : Thread Cert.FfnOutLossKernelIdeal.nD Cert.FfnOutLossKernelIdeal.τ).loc Cert.FfnOutLossKernelIdeal.main_arg0)
          ∧ r.2.mem ((c.tc : Thread Cert.FfnOutLossKernelIdeal.nD Cert.FfnOutLossKernelIdeal.τ).loc Cert.FfnOutLossKernelIdeal.main_arg1) = m ((c.tc : Thread Cert.FfnOutLossKernelIdeal.nD Cert.FfnOutLossKernelIdeal.τ).loc Cert.FfnOutLossKernelIdeal.main_arg1)
          ∧ r.2.mem ((c.tc : Thread Cert.FfnOutLossKernelIdeal.nD Cert.FfnOutLossKernelIdeal.τ).loc Cert.FfnOutLossKernelIdeal.main_arg2) = m ((c.tc : Thread Cert.FfnOutLossKernelIdeal.nD Cert.FfnOutLossKernelIdeal.τ).loc Cert.FfnOutLossKernelIdeal.main_arg2)
          ∧ r.2.mem ((c.tc : Thread Cert.FfnOutLossKernelIdeal.nD Cert.FfnOutLossKernelIdeal.τ).loc Cert.FfnOutLossKernelIdeal.main_arg3) = m ((c.tc : Thread Cert.FfnOutLossKernelIdeal.nD Cert.FfnOutLossKernelIdeal.τ).loc Cert.FfnOutLossKernelIdeal.main_arg3)
          ∧ r.2.mem ((c.tc : Thread Cert.FfnOutLossKernelIdeal.nD Cert.FfnOutLossKernelIdeal.τ).loc Cert.FfnOutLossKernelIdeal.main_arg4) = m ((c.tc : Thread Cert.FfnOutLossKernelIdeal.nD Cert.FfnOutLossKernelIdeal.τ).loc Cert.FfnOutLossKernelIdeal.main_arg4))
      ∧ θ_run (Cert.FfnOutLossReferenceIdeal.defs (F := Ideal)) (onTc (τ := Cert.FfnOutLossReferenceIdeal.τ) (Cert.FfnOutLossReferenceIdeal.main (F := Ideal))) ⟨m', fun _ => 0, g'⟩ (fun r => ∀ c : Dev Cert.FfnOutLossReferenceIdeal.nD,
          r.2.mem ((c.tc : Thread Cert.FfnOutLossReferenceIdeal.nD Cert.FfnOutLossReferenceIdeal.τ).loc Cert.FfnOutLossReferenceIdeal.main_v51) = v0 c
          ∧ r.2.mem ((c.tc : Thread Cert.FfnOutLossReferenceIdeal.nD Cert.FfnOutLossReferenceIdeal.τ).loc Cert.FfnOutLossReferenceIdeal.main_v52) = v1 c
          ∧ r.2.mem ((c.tc : Thread Cert.FfnOutLossReferenceIdeal.nD Cert.FfnOutLossReferenceIdeal.τ).loc Cert.FfnOutLossReferenceIdeal.main_v35) = v2 c
          ∧ r.2.mem ((c.tc : Thread Cert.FfnOutLossReferenceIdeal.nD Cert.FfnOutLossReferenceIdeal.τ).loc Cert.FfnOutLossReferenceIdeal.main_v53) = v3 c
          ∧ r.2.mem ((c.tc : Thread Cert.FfnOutLossReferenceIdeal.nD Cert.FfnOutLossReferenceIdeal.τ).loc Cert.FfnOutLossReferenceIdeal.main_arg0) = m' ((c.tc : Thread Cert.FfnOutLossReferenceIdeal.nD Cert.FfnOutLossReferenceIdeal.τ).loc Cert.FfnOutLossReferenceIdeal.main_arg0)
          ∧ r.2.mem ((c.tc : Thread Cert.FfnOutLossReferenceIdeal.nD Cert.FfnOutLossReferenceIdeal.τ).loc Cert.FfnOutLossReferenceIdeal.main_arg1) = m' ((c.tc : Thread Cert.FfnOutLossReferenceIdeal.nD Cert.FfnOutLossReferenceIdeal.τ).loc Cert.FfnOutLossReferenceIdeal.main_arg1)
          ∧ r.2.mem ((c.tc : Thread Cert.FfnOutLossReferenceIdeal.nD Cert.FfnOutLossReferenceIdeal.τ).loc Cert.FfnOutLossReferenceIdeal.main_arg2) = m' ((c.tc : Thread Cert.FfnOutLossReferenceIdeal.nD Cert.FfnOutLossReferenceIdeal.τ).loc Cert.FfnOutLossReferenceIdeal.main_arg2)
          ∧ r.2.mem ((c.tc : Thread Cert.FfnOutLossReferenceIdeal.nD Cert.FfnOutLossReferenceIdeal.τ).loc Cert.FfnOutLossReferenceIdeal.main_arg3) = m' ((c.tc : Thread Cert.FfnOutLossReferenceIdeal.nD Cert.FfnOutLossReferenceIdeal.τ).loc Cert.FfnOutLossReferenceIdeal.main_arg3)
          ∧ r.2.mem ((c.tc : Thread Cert.FfnOutLossReferenceIdeal.nD Cert.FfnOutLossReferenceIdeal.τ).loc Cert.FfnOutLossReferenceIdeal.main_arg4) = m' ((c.tc : Thread Cert.FfnOutLossReferenceIdeal.nD Cert.FfnOutLossReferenceIdeal.τ).loc Cert.FfnOutLossReferenceIdeal.main_arg4))

def preserves_InProjKernel_InProjKernelIdeal : Prop :=
  True

def algebraic_InProjKernelIdeal_InProjReferenceIdeal [hInProjKernelIdeal : Cert.InProjKernelIdeal.Facts] [hInProjReferenceIdeal : Cert.InProjReferenceIdeal.Facts] : Prop :=
  ∀ (m : (ℓ : Loc Cert.InProjKernelIdeal.nD Cert.InProjKernelIdeal.τ Cert.InProjKernelIdeal.sig) → Buf (Elt Ideal) ℓ) (g : Dev Cert.InProjKernelIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjKernelIdeal m →
    (∀ c : Dev Cert.InProjKernelIdeal.nD,
      m' ((c.tc : Thread Cert.InProjReferenceIdeal.nD Cert.InProjReferenceIdeal.τ).loc Cert.InProjReferenceIdeal.main_arg0) = m ((c.tc : Thread Cert.InProjKernelIdeal.nD Cert.InProjKernelIdeal.τ).loc Cert.InProjKernelIdeal.main_arg0)
      ∧ m' ((c.tc : Thread Cert.InProjReferenceIdeal.nD Cert.InProjReferenceIdeal.τ).loc Cert.InProjReferenceIdeal.main_arg1) = m ((c.tc : Thread Cert.InProjKernelIdeal.nD Cert.InProjKernelIdeal.τ).loc Cert.InProjKernelIdeal.main_arg1)
      ∧ m' ((c.tc : Thread Cert.InProjReferenceIdeal.nD Cert.InProjReferenceIdeal.τ).loc Cert.InProjReferenceIdeal.main_arg2) = m ((c.tc : Thread Cert.InProjKernelIdeal.nD Cert.InProjKernelIdeal.τ).loc Cert.InProjKernelIdeal.main_arg2)
      ∧ m' ((c.tc : Thread Cert.InProjReferenceIdeal.nD Cert.InProjReferenceIdeal.τ).loc Cert.InProjReferenceIdeal.main_arg3) = m ((c.tc : Thread Cert.InProjKernelIdeal.nD Cert.InProjKernelIdeal.τ).loc Cert.InProjKernelIdeal.main_arg3)) →
    ∃ (v0 : (c : Dev Cert.InProjKernelIdeal.nD) → Buf (Elt Ideal) ((c.tc : Thread Cert.InProjKernelIdeal.nD Cert.InProjKernelIdeal.τ).loc Cert.InProjKernelIdeal.main_v2_0)) (v1 : (c : Dev Cert.InProjKernelIdeal.nD) → Buf (Elt Ideal) ((c.tc : Thread Cert.InProjKernelIdeal.nD Cert.InProjKernelIdeal.τ).loc Cert.InProjKernelIdeal.main_v2_1)) (v2 : (c : Dev Cert.InProjKernelIdeal.nD) → Buf (Elt Ideal) ((c.tc : Thread Cert.InProjKernelIdeal.nD Cert.InProjKernelIdeal.τ).loc Cert.InProjKernelIdeal.main_v2_2)) (v3 : (c : Dev Cert.InProjKernelIdeal.nD) → Buf (Elt Ideal) ((c.tc : Thread Cert.InProjKernelIdeal.nD Cert.InProjKernelIdeal.τ).loc Cert.InProjKernelIdeal.main_v2_3)),
      θ_run (Cert.InProjKernelIdeal.defs (F := Ideal)) (onTc (τ := Cert.InProjKernelIdeal.τ) (Cert.InProjKernelIdeal.main (F := Ideal))) ⟨m, fun _ => 0, g⟩ (fun r => ∀ c : Dev Cert.InProjKernelIdeal.nD,
          r.2.mem ((c.tc : Thread Cert.InProjKernelIdeal.nD Cert.InProjKernelIdeal.τ).loc Cert.InProjKernelIdeal.main_v2_0) = v0 c
          ∧ r.2.mem ((c.tc : Thread Cert.InProjKernelIdeal.nD Cert.InProjKernelIdeal.τ).loc Cert.InProjKernelIdeal.main_v2_1) = v1 c
          ∧ r.2.mem ((c.tc : Thread Cert.InProjKernelIdeal.nD Cert.InProjKernelIdeal.τ).loc Cert.InProjKernelIdeal.main_v2_2) = v2 c
          ∧ r.2.mem ((c.tc : Thread Cert.InProjKernelIdeal.nD Cert.InProjKernelIdeal.τ).loc Cert.InProjKernelIdeal.main_v2_3) = v3 c
          ∧ r.2.mem ((c.tc : Thread Cert.InProjKernelIdeal.nD Cert.InProjKernelIdeal.τ).loc Cert.InProjKernelIdeal.main_arg0) = m ((c.tc : Thread Cert.InProjKernelIdeal.nD Cert.InProjKernelIdeal.τ).loc Cert.InProjKernelIdeal.main_arg0)
          ∧ r.2.mem ((c.tc : Thread Cert.InProjKernelIdeal.nD Cert.InProjKernelIdeal.τ).loc Cert.InProjKernelIdeal.main_arg1) = m ((c.tc : Thread Cert.InProjKernelIdeal.nD Cert.InProjKernelIdeal.τ).loc Cert.InProjKernelIdeal.main_arg1)
          ∧ r.2.mem ((c.tc : Thread Cert.InProjKernelIdeal.nD Cert.InProjKernelIdeal.τ).loc Cert.InProjKernelIdeal.main_arg2) = m ((c.tc : Thread Cert.InProjKernelIdeal.nD Cert.InProjKernelIdeal.τ).loc Cert.InProjKernelIdeal.main_arg2)
          ∧ r.2.mem ((c.tc : Thread Cert.InProjKernelIdeal.nD Cert.InProjKernelIdeal.τ).loc Cert.InProjKernelIdeal.main_arg3) = m ((c.tc : Thread Cert.InProjKernelIdeal.nD Cert.InProjKernelIdeal.τ).loc Cert.InProjKernelIdeal.main_arg3))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v28) = v0 c
          ∧ r.2.mem ((c.tc : Thread Cert.InProjReferenceIdeal.nD Cert.InProjReferenceIdeal.τ).loc Cert.InProjReferenceIdeal.main_v29) = v1 c
          ∧ r.2.mem ((c.tc : Thread Cert.InProjReferenceIdeal.nD Cert.InProjReferenceIdeal.τ).loc Cert.InProjReferenceIdeal.main_v30) = v2 c
          ∧ r.2.mem ((c.tc : Thread Cert.InProjReferenceIdeal.nD Cert.InProjReferenceIdeal.τ).loc Cert.InProjReferenceIdeal.main_v31) = v3 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3))

def preserves_FfnInFirstKernel_FfnInFirstKernelIdeal : Prop :=
  True

def algebraic_FfnInFirstKernelIdeal_FfnInFirstReferenceIdeal [hFfnInFirstKernelIdeal : Cert.FfnInFirstKernelIdeal.Facts] [hFfnInFirstReferenceIdeal : Cert.FfnInFirstReferenceIdeal.Facts] : Prop :=
  ∀ (m : (ℓ : Loc Cert.FfnInFirstKernelIdeal.nD Cert.FfnInFirstKernelIdeal.τ Cert.FfnInFirstKernelIdeal.sig) → Buf (Elt Ideal) ℓ) (g : Dev Cert.FfnInFirstKernelIdeal.nD → PrngReg)
    (m' : (ℓ : Loc Cert.FfnInFirstReferenceIdeal.nD Cert.FfnInFirstReferenceIdeal.τ Cert.FfnInFirstReferenceIdeal.sig) → Buf (Elt Ideal) ℓ) (g' : Dev Cert.FfnInFirstReferenceIdeal.nD → PrngReg), Pre_FfnInFirstKernelIdeal m →
    (∀ c : Dev Cert.FfnInFirstKernelIdeal.nD,
      m' ((c.tc : Thread Cert.FfnInFirstReferenceIdeal.nD Cert.FfnInFirstReferenceIdeal.τ).loc Cert.FfnInFirstReferenceIdeal.main_arg0) = m ((c.tc : Thread Cert.FfnInFirstKernelIdeal.nD Cert.FfnInFirstKernelIdeal.τ).loc Cert.FfnInFirstKernelIdeal.main_arg0)
      ∧ m' ((c.tc : Thread Cert.FfnInFirstReferenceIdeal.nD Cert.FfnInFirstReferenceIdeal.τ).loc Cert.FfnInFirstReferenceIdeal.main_arg1) = m ((c.tc : Thread Cert.FfnInFirstKernelIdeal.nD Cert.FfnInFirstKernelIdeal.τ).loc Cert.FfnInFirstKernelIdeal.main_arg1)
      ∧ m' ((c.tc : Thread Cert.FfnInFirstReferenceIdeal.nD Cert.FfnInFirstReferenceIdeal.τ).loc Cert.FfnInFirstReferenceIdeal.main_arg2) = m ((c.tc : Thread Cert.FfnInFirstKernelIdeal.nD Cert.FfnInFirstKernelIdeal.τ).loc Cert.FfnInFirstKernelIdeal.main_arg2)
      ∧ m' ((c.tc : Thread Cert.FfnInFirstReferenceIdeal.nD Cert.FfnInFirstReferenceIdeal.τ).loc Cert.FfnInFirstReferenceIdeal.main_arg3) = m ((c.tc : Thread Cert.FfnInFirstKernelIdeal.nD Cert.FfnInFirstKernelIdeal.τ).loc Cert.FfnInFirstKernelIdeal.main_arg3)) →
    ∃ (v0 : (c : Dev Cert.FfnInFirstKernelIdeal.nD) → Buf (Elt Ideal) ((c.tc : Thread Cert.FfnInFirstKernelIdeal.nD Cert.FfnInFirstKernelIdeal.τ).loc Cert.FfnInFirstKernelIdeal.main_v3_0)) (v1 : (c : Dev Cert.FfnInFirstKernelIdeal.nD) → Buf (Elt Ideal) ((c.tc : Thread Cert.FfnInFirstKernelIdeal.nD Cert.FfnInFirstKernelIdeal.τ).loc Cert.FfnInFirstKernelIdeal.main_v4)) (v2 : (c : Dev Cert.FfnInFirstKernelIdeal.nD) → Buf (Elt Ideal) ((c.tc : Thread Cert.FfnInFirstKernelIdeal.nD Cert.FfnInFirstKernelIdeal.τ).loc Cert.FfnInFirstKernelIdeal.main_v5)),
      θ_run (Cert.FfnInFirstKernelIdeal.defs (F := Ideal)) (onTc (τ := Cert.FfnInFirstKernelIdeal.τ) (Cert.FfnInFirstKernelIdeal.main (F := Ideal))) ⟨m, fun _ => 0, g⟩ (fun r => ∀ c : Dev Cert.FfnInFirstKernelIdeal.nD,
          r.2.mem ((c.tc : Thread Cert.FfnInFirstKernelIdeal.nD Cert.FfnInFirstKernelIdeal.τ).loc Cert.FfnInFirstKernelIdeal.main_v3_0) = v0 c
          ∧ r.2.mem ((c.tc : Thread Cert.FfnInFirstKernelIdeal.nD Cert.FfnInFirstKernelIdeal.τ).loc Cert.FfnInFirstKernelIdeal.main_v4) = v1 c
          ∧ r.2.mem ((c.tc : Thread Cert.FfnInFirstKernelIdeal.nD Cert.FfnInFirstKernelIdeal.τ).loc Cert.FfnInFirstKernelIdeal.main_v5) = v2 c
          ∧ r.2.mem ((c.tc : Thread Cert.FfnInFirstKernelIdeal.nD Cert.FfnInFirstKernelIdeal.τ).loc Cert.FfnInFirstKernelIdeal.main_arg0) = m ((c.tc : Thread Cert.FfnInFirstKernelIdeal.nD Cert.FfnInFirstKernelIdeal.τ).loc Cert.FfnInFirstKernelIdeal.main_arg0)
          ∧ r.2.mem ((c.tc : Thread Cert.FfnInFirstKernelIdeal.nD Cert.FfnInFirstKernelIdeal.τ).loc Cert.FfnInFirstKernelIdeal.main_arg1) = m ((c.tc : Thread Cert.FfnInFirstKernelIdeal.nD Cert.FfnInFirstKernelIdeal.τ).loc Cert.FfnInFirstKernelIdeal.main_arg1)
          ∧ r.2.mem ((c.tc : Thread Cert.FfnInFirstKernelIdeal.nD Cert.FfnInFirstKernelIdeal.τ).loc Cert.FfnInFirstKernelIdeal.main_arg2) = m ((c.tc : Thread Cert.FfnInFirstKernelIdeal.nD Cert.FfnInFirstKernelIdeal.τ).loc Cert.FfnInFirstKernelIdeal.main_arg2)
          ∧ r.2.mem ((c.tc : Thread Cert.FfnInFirstKernelIdeal.nD Cert.FfnInFirstKernelIdeal.τ).loc Cert.FfnInFirstKernelIdeal.main_arg3) = m ((c.tc : Thread Cert.FfnInFirstKernelIdeal.nD Cert.FfnInFirstKernelIdeal.τ).loc Cert.FfnInFirstKernelIdeal.main_arg3))
      ∧ θ_run (Cert.FfnInFirstReferenceIdeal.defs (F := Ideal)) (onTc (τ := Cert.FfnInFirstReferenceIdeal.τ) (Cert.FfnInFirstReferenceIdeal.main (F := Ideal))) ⟨m', fun _ => 0, g'⟩ (fun r => ∀ c : Dev Cert.FfnInFirstReferenceIdeal.nD,
          r.2.mem ((c.tc : Thread Cert.FfnInFirstReferenceIdeal.nD Cert.FfnInFirstReferenceIdeal.τ).loc Cert.FfnInFirstReferenceIdeal.main_v15) = v0 c
          ∧ r.2.mem ((c.tc : Thread Cert.FfnInFirstReferenceIdeal.nD Cert.FfnInFirstReferenceIdeal.τ).loc Cert.FfnInFirstReferenceIdeal.main_v19) = v1 c
          ∧ r.2.mem ((c.tc : Thread Cert.FfnInFirstReferenceIdeal.nD Cert.FfnInFirstReferenceIdeal.τ).loc Cert.FfnInFirstReferenceIdeal.main_v25) = v2 c
          ∧ r.2.mem ((c.tc : Thread Cert.FfnInFirstReferenceIdeal.nD Cert.FfnInFirstReferenceIdeal.τ).loc Cert.FfnInFirstReferenceIdeal.main_arg0) = m' ((c.tc : Thread Cert.FfnInFirstReferenceIdeal.nD Cert.FfnInFirstReferenceIdeal.τ).loc Cert.FfnInFirstReferenceIdeal.main_arg0)
          ∧ r.2.mem ((c.tc : Thread Cert.FfnInFirstReferenceIdeal.nD Cert.FfnInFirstReferenceIdeal.τ).loc Cert.FfnInFirstReferenceIdeal.main_arg1) = m' ((c.tc : Thread Cert.FfnInFirstReferenceIdeal.nD Cert.FfnInFirstReferenceIdeal.τ).loc Cert.FfnInFirstReferenceIdeal.main_arg1)
          ∧ r.2.mem ((c.tc : Thread Cert.FfnInFirstReferenceIdeal.nD Cert.FfnInFirstReferenceIdeal.τ).loc Cert.FfnInFirstReferenceIdeal.main_arg2) = m' ((c.tc : Thread Cert.FfnInFirstReferenceIdeal.nD Cert.FfnInFirstReferenceIdeal.τ).loc Cert.FfnInFirstReferenceIdeal.main_arg2)
          ∧ r.2.mem ((c.tc : Thread Cert.FfnInFirstReferenceIdeal.nD Cert.FfnInFirstReferenceIdeal.τ).loc Cert.FfnInFirstReferenceIdeal.main_arg3) = m' ((c.tc : Thread Cert.FfnInFirstReferenceIdeal.nD Cert.FfnInFirstReferenceIdeal.τ).loc Cert.FfnInFirstReferenceIdeal.main_arg3))

def preserves_FfnInSecondKernel_FfnInSecondKernelIdeal : Prop :=
  True

def algebraic_FfnInSecondKernelIdeal_FfnInSecondReferenceIdeal [hFfnInSecondKernelIdeal : Cert.FfnInSecondKernelIdeal.Facts] [hFfnInSecondReferenceIdeal : Cert.FfnInSecondReferenceIdeal.Facts] : Prop :=
  ∀ (m : (ℓ : Loc Cert.FfnInSecondKernelIdeal.nD Cert.FfnInSecondKernelIdeal.τ Cert.FfnInSecondKernelIdeal.sig) → Buf (Elt Ideal) ℓ) (g : Dev Cert.FfnInSecondKernelIdeal.nD → PrngReg)
    (m' : (ℓ : Loc Cert.FfnInSecondReferenceIdeal.nD Cert.FfnInSecondReferenceIdeal.τ Cert.FfnInSecondReferenceIdeal.sig) → Buf (Elt Ideal) ℓ) (g' : Dev Cert.FfnInSecondReferenceIdeal.nD → PrngReg), Pre_FfnInSecondKernelIdeal m →
    (∀ c : Dev Cert.FfnInSecondKernelIdeal.nD,
      m' ((c.tc : Thread Cert.FfnInSecondReferenceIdeal.nD Cert.FfnInSecondReferenceIdeal.τ).loc Cert.FfnInSecondReferenceIdeal.main_arg0) = m ((c.tc : Thread Cert.FfnInSecondKernelIdeal.nD Cert.FfnInSecondKernelIdeal.τ).loc Cert.FfnInSecondKernelIdeal.main_arg0)
      ∧ m' ((c.tc : Thread Cert.FfnInSecondReferenceIdeal.nD Cert.FfnInSecondReferenceIdeal.τ).loc Cert.FfnInSecondReferenceIdeal.main_arg1) = m ((c.tc : Thread Cert.FfnInSecondKernelIdeal.nD Cert.FfnInSecondKernelIdeal.τ).loc Cert.FfnInSecondKernelIdeal.main_arg1)
      ∧ m' ((c.tc : Thread Cert.FfnInSecondReferenceIdeal.nD Cert.FfnInSecondReferenceIdeal.τ).loc Cert.FfnInSecondReferenceIdeal.main_arg2) = m ((c.tc : Thread Cert.FfnInSecondKernelIdeal.nD Cert.FfnInSecondKernelIdeal.τ).loc Cert.FfnInSecondKernelIdeal.main_arg2)
      ∧ m' ((c.tc : Thread Cert.FfnInSecondReferenceIdeal.nD Cert.FfnInSecondReferenceIdeal.τ).loc Cert.FfnInSecondReferenceIdeal.main_arg3) = m ((c.tc : Thread Cert.FfnInSecondKernelIdeal.nD Cert.FfnInSecondKernelIdeal.τ).loc Cert.FfnInSecondKernelIdeal.main_arg3)
      ∧ m' ((c.tc : Thread Cert.FfnInSecondReferenceIdeal.nD Cert.FfnInSecondReferenceIdeal.τ).loc Cert.FfnInSecondReferenceIdeal.main_arg4) = m ((c.tc : Thread Cert.FfnInSecondKernelIdeal.nD Cert.FfnInSecondKernelIdeal.τ).loc Cert.FfnInSecondKernelIdeal.main_arg4)) →
    ∃ (v0 : (c : Dev Cert.FfnInSecondKernelIdeal.nD) → Buf (Elt Ideal) ((c.tc : Thread Cert.FfnInSecondKernelIdeal.nD Cert.FfnInSecondKernelIdeal.τ).loc Cert.FfnInSecondKernelIdeal.main_v3_0)) (v1 : (c : Dev Cert.FfnInSecondKernelIdeal.nD) → Buf (Elt Ideal) ((c.tc : Thread Cert.FfnInSecondKernelIdeal.nD Cert.FfnInSecondKernelIdeal.τ).loc Cert.FfnInSecondKernelIdeal.main_v3_1)),
      θ_run (Cert.FfnInSecondKernelIdeal.defs (F := Ideal)) (onTc (τ := Cert.FfnInSecondKernelIdeal.τ) (Cert.FfnInSecondKernelIdeal.main (F := Ideal))) ⟨m, fun _ => 0, g⟩ (fun r => ∀ c : Dev Cert.FfnInSecondKernelIdeal.nD,
          r.2.mem ((c.tc : Thread Cert.FfnInSecondKernelIdeal.nD Cert.FfnInSecondKernelIdeal.τ).loc Cert.FfnInSecondKernelIdeal.main_v3_0) = v0 c
          ∧ r.2.mem ((c.tc : Thread Cert.FfnInSecondKernelIdeal.nD Cert.FfnInSecondKernelIdeal.τ).loc Cert.FfnInSecondKernelIdeal.main_v3_1) = v1 c
          ∧ r.2.mem ((c.tc : Thread Cert.FfnInSecondKernelIdeal.nD Cert.FfnInSecondKernelIdeal.τ).loc Cert.FfnInSecondKernelIdeal.main_arg0) = m ((c.tc : Thread Cert.FfnInSecondKernelIdeal.nD Cert.FfnInSecondKernelIdeal.τ).loc Cert.FfnInSecondKernelIdeal.main_arg0)
          ∧ r.2.mem ((c.tc : Thread Cert.FfnInSecondKernelIdeal.nD Cert.FfnInSecondKernelIdeal.τ).loc Cert.FfnInSecondKernelIdeal.main_arg1) = m ((c.tc : Thread Cert.FfnInSecondKernelIdeal.nD Cert.FfnInSecondKernelIdeal.τ).loc Cert.FfnInSecondKernelIdeal.main_arg1)
          ∧ r.2.mem ((c.tc : Thread Cert.FfnInSecondKernelIdeal.nD Cert.FfnInSecondKernelIdeal.τ).loc Cert.FfnInSecondKernelIdeal.main_arg2) = m ((c.tc : Thread Cert.FfnInSecondKernelIdeal.nD Cert.FfnInSecondKernelIdeal.τ).loc Cert.FfnInSecondKernelIdeal.main_arg2)
          ∧ r.2.mem ((c.tc : Thread Cert.FfnInSecondKernelIdeal.nD Cert.FfnInSecondKernelIdeal.τ).loc Cert.FfnInSecondKernelIdeal.main_arg3) = m ((c.tc : Thread Cert.FfnInSecondKernelIdeal.nD Cert.FfnInSecondKernelIdeal.τ).loc Cert.FfnInSecondKernelIdeal.main_arg3)
          ∧ r.2.mem ((c.tc : Thread Cert.FfnInSecondKernelIdeal.nD Cert.FfnInSecondKernelIdeal.τ).loc Cert.FfnInSecondKernelIdeal.main_arg4) = m ((c.tc : Thread Cert.FfnInSecondKernelIdeal.nD Cert.FfnInSecondKernelIdeal.τ).loc Cert.FfnInSecondKernelIdeal.main_arg4))
      ∧ θ_run (Cert.FfnInSecondReferenceIdeal.defs (F := Ideal)) (onTc (τ := Cert.FfnInSecondReferenceIdeal.τ) (Cert.FfnInSecondReferenceIdeal.main (F := Ideal))) ⟨m', fun _ => 0, g'⟩ (fun r => ∀ c : Dev Cert.FfnInSecondReferenceIdeal.nD,
          r.2.mem ((c.tc : Thread Cert.FfnInSecondReferenceIdeal.nD Cert.FfnInSecondReferenceIdeal.τ).loc Cert.FfnInSecondReferenceIdeal.main_v9) = v0 c
          ∧ r.2.mem ((c.tc : Thread Cert.FfnInSecondReferenceIdeal.nD Cert.FfnInSecondReferenceIdeal.τ).loc Cert.FfnInSecondReferenceIdeal.main_v17) = v1 c
          ∧ r.2.mem ((c.tc : Thread Cert.FfnInSecondReferenceIdeal.nD Cert.FfnInSecondReferenceIdeal.τ).loc Cert.FfnInSecondReferenceIdeal.main_arg0) = m' ((c.tc : Thread Cert.FfnInSecondReferenceIdeal.nD Cert.FfnInSecondReferenceIdeal.τ).loc Cert.FfnInSecondReferenceIdeal.main_arg0)
          ∧ r.2.mem ((c.tc : Thread Cert.FfnInSecondReferenceIdeal.nD Cert.FfnInSecondReferenceIdeal.τ).loc Cert.FfnInSecondReferenceIdeal.main_arg1) = m' ((c.tc : Thread Cert.FfnInSecondReferenceIdeal.nD Cert.FfnInSecondReferenceIdeal.τ).loc Cert.FfnInSecondReferenceIdeal.main_arg1)
          ∧ r.2.mem ((c.tc : Thread Cert.FfnInSecondReferenceIdeal.nD Cert.FfnInSecondReferenceIdeal.τ).loc Cert.FfnInSecondReferenceIdeal.main_arg2) = m' ((c.tc : Thread Cert.FfnInSecondReferenceIdeal.nD Cert.FfnInSecondReferenceIdeal.τ).loc Cert.FfnInSecondReferenceIdeal.main_arg2)
          ∧ r.2.mem ((c.tc : Thread Cert.FfnInSecondReferenceIdeal.nD Cert.FfnInSecondReferenceIdeal.τ).loc Cert.FfnInSecondReferenceIdeal.main_arg3) = m' ((c.tc : Thread Cert.FfnInSecondReferenceIdeal.nD Cert.FfnInSecondReferenceIdeal.τ).loc Cert.FfnInSecondReferenceIdeal.main_arg3)
          ∧ r.2.mem ((c.tc : Thread Cert.FfnInSecondReferenceIdeal.nD Cert.FfnInSecondReferenceIdeal.τ).loc Cert.FfnInSecondReferenceIdeal.main_arg4) = m' ((c.tc : Thread Cert.FfnInSecondReferenceIdeal.nD Cert.FfnInSecondReferenceIdeal.τ).loc Cert.FfnInSecondReferenceIdeal.main_arg4))

def preserves_MixOutFirstKernel_MixOutFirstKernelIdeal : Prop :=
  True

def algebraic_MixOutFirstKernelIdeal_MixOutFirstReferenceIdeal [hMixOutFirstKernelIdeal : Cert.MixOutFirstKernelIdeal.Facts] [hMixOutFirstReferenceIdeal : Cert.MixOutFirstReferenceIdeal.Facts] : Prop :=
  ∀ (m : (ℓ : Loc Cert.MixOutFirstKernelIdeal.nD Cert.MixOutFirstKernelIdeal.τ Cert.MixOutFirstKernelIdeal.sig) → Buf (Elt Ideal) ℓ) (g : Dev Cert.MixOutFirstKernelIdeal.nD → PrngReg)
    (m' : (ℓ : Loc Cert.MixOutFirstReferenceIdeal.nD Cert.MixOutFirstReferenceIdeal.τ Cert.MixOutFirstReferenceIdeal.sig) → Buf (Elt Ideal) ℓ) (g' : Dev Cert.MixOutFirstReferenceIdeal.nD → PrngReg), Pre_MixOutFirstKernelIdeal m →
    (∀ c : Dev Cert.MixOutFirstKernelIdeal.nD,
      m' ((c.tc : Thread Cert.MixOutFirstReferenceIdeal.nD Cert.MixOutFirstReferenceIdeal.τ).loc Cert.MixOutFirstReferenceIdeal.main_arg0) = m ((c.tc : Thread Cert.MixOutFirstKernelIdeal.nD Cert.MixOutFirstKernelIdeal.τ).loc Cert.MixOutFirstKernelIdeal.main_arg0)
      ∧ m' ((c.tc : Thread Cert.MixOutFirstReferenceIdeal.nD Cert.MixOutFirstReferenceIdeal.τ).loc Cert.MixOutFirstReferenceIdeal.main_arg1) = m ((c.tc : Thread Cert.MixOutFirstKernelIdeal.nD Cert.MixOutFirstKernelIdeal.τ).loc Cert.MixOutFirstKernelIdeal.main_arg1)
      ∧ m' ((c.tc : Thread Cert.MixOutFirstReferenceIdeal.nD Cert.MixOutFirstReferenceIdeal.τ).loc Cert.MixOutFirstReferenceIdeal.main_arg2) = m ((c.tc : Thread Cert.MixOutFirstKernelIdeal.nD Cert.MixOutFirstKernelIdeal.τ).loc Cert.MixOutFirstKernelIdeal.main_arg2)
      ∧ m' ((c.tc : Thread Cert.MixOutFirstReferenceIdeal.nD Cert.MixOutFirstReferenceIdeal.τ).loc Cert.MixOutFirstReferenceIdeal.main_arg3) = m ((c.tc : Thread Cert.MixOutFirstKernelIdeal.nD Cert.MixOutFirstKernelIdeal.τ).loc Cert.MixOutFirstKernelIdeal.main_arg3)
      ∧ m' ((c.tc : Thread Cert.MixOutFirstReferenceIdeal.nD Cert.MixOutFirstReferenceIdeal.τ).loc Cert.MixOutFirstReferenceIdeal.main_arg4) = m ((c.tc : Thread Cert.MixOutFirstKernelIdeal.nD Cert.MixOutFirstKernelIdeal.τ).loc Cert.MixOutFirstKernelIdeal.main_arg4)
      ∧ m' ((c.tc : Thread Cert.MixOutFirstReferenceIdeal.nD Cert.MixOutFirstReferenceIdeal.τ).loc Cert.MixOutFirstReferenceIdeal.main_arg5) = m ((c.tc : Thread Cert.MixOutFirstKernelIdeal.nD Cert.MixOutFirstKernelIdeal.τ).loc Cert.MixOutFirstKernelIdeal.main_arg5)
      ∧ m' ((c.tc : Thread Cert.MixOutFirstReferenceIdeal.nD Cert.MixOutFirstReferenceIdeal.τ).loc Cert.MixOutFirstReferenceIdeal.main_arg6) = m ((c.tc : Thread Cert.MixOutFirstKernelIdeal.nD Cert.MixOutFirstKernelIdeal.τ).loc Cert.MixOutFirstKernelIdeal.main_arg6)
      ∧ m' ((c.tc : Thread Cert.MixOutFirstReferenceIdeal.nD Cert.MixOutFirstReferenceIdeal.τ).loc Cert.MixOutFirstReferenceIdeal.main_arg7) = m ((c.tc : Thread Cert.MixOutFirstKernelIdeal.nD Cert.MixOutFirstKernelIdeal.τ).loc Cert.MixOutFirstKernelIdeal.main_arg7)
      ∧ m' ((c.tc : Thread Cert.MixOutFirstReferenceIdeal.nD Cert.MixOutFirstReferenceIdeal.τ).loc Cert.MixOutFirstReferenceIdeal.main_arg8) = m ((c.tc : Thread Cert.MixOutFirstKernelIdeal.nD Cert.MixOutFirstKernelIdeal.τ).loc Cert.MixOutFirstKernelIdeal.main_arg8)) →
    ∃ (v0 : (c : Dev Cert.MixOutFirstKernelIdeal.nD) → Buf (Elt Ideal) ((c.tc : Thread Cert.MixOutFirstKernelIdeal.nD Cert.MixOutFirstKernelIdeal.τ).loc Cert.MixOutFirstKernelIdeal.main_v8)) (v1 : (c : Dev Cert.MixOutFirstKernelIdeal.nD) → Buf (Elt Ideal) ((c.tc : Thread Cert.MixOutFirstKernelIdeal.nD Cert.MixOutFirstKernelIdeal.τ).loc Cert.MixOutFirstKernelIdeal.main_v9)) (v2 : (c : Dev Cert.MixOutFirstKernelIdeal.nD) → Buf (Elt Ideal) ((c.tc : Thread Cert.MixOutFirstKernelIdeal.nD Cert.MixOutFirstKernelIdeal.τ).loc Cert.MixOutFirstKernelIdeal.main_v10)) (v3 : (c : Dev Cert.MixOutFirstKernelIdeal.nD) → Buf (Elt Ideal) ((c.tc : Thread Cert.MixOutFirstKernelIdeal.nD Cert.MixOutFirstKernelIdeal.τ).loc Cert.MixOutFirstKernelIdeal.main_v11)),
      θ_run (Cert.MixOutFirstKernelIdeal.defs (F := Ideal)) (onTc (τ := Cert.MixOutFirstKernelIdeal.τ) (Cert.MixOutFirstKernelIdeal.main (F := Ideal))) ⟨m, fun _ => 0, g⟩ (fun r => ∀ c : Dev Cert.MixOutFirstKernelIdeal.nD,
          r.2.mem ((c.tc : Thread Cert.MixOutFirstKernelIdeal.nD Cert.MixOutFirstKernelIdeal.τ).loc Cert.MixOutFirstKernelIdeal.main_v8) = v0 c
          ∧ r.2.mem ((c.tc : Thread Cert.MixOutFirstKernelIdeal.nD Cert.MixOutFirstKernelIdeal.τ).loc Cert.MixOutFirstKernelIdeal.main_v9) = v1 c
          ∧ r.2.mem ((c.tc : Thread Cert.MixOutFirstKernelIdeal.nD Cert.MixOutFirstKernelIdeal.τ).loc Cert.MixOutFirstKernelIdeal.main_v10) = v2 c
          ∧ r.2.mem ((c.tc : Thread Cert.MixOutFirstKernelIdeal.nD Cert.MixOutFirstKernelIdeal.τ).loc Cert.MixOutFirstKernelIdeal.main_v11) = v3 c
          ∧ r.2.mem ((c.tc : Thread Cert.MixOutFirstKernelIdeal.nD Cert.MixOutFirstKernelIdeal.τ).loc Cert.MixOutFirstKernelIdeal.main_arg0) = m ((c.tc : Thread Cert.MixOutFirstKernelIdeal.nD Cert.MixOutFirstKernelIdeal.τ).loc Cert.MixOutFirstKernelIdeal.main_arg0)
          ∧ r.2.mem ((c.tc : Thread Cert.MixOutFirstKernelIdeal.nD Cert.MixOutFirstKernelIdeal.τ).loc Cert.MixOutFirstKernelIdeal.main_arg1) = m ((c.tc : Thread Cert.MixOutFirstKernelIdeal.nD Cert.MixOutFirstKernelIdeal.τ).loc Cert.MixOutFirstKernelIdeal.main_arg1)
          ∧ r.2.mem ((c.tc : Thread Cert.MixOutFirstKernelIdeal.nD Cert.MixOutFirstKernelIdeal.τ).loc Cert.MixOutFirstKernelIdeal.main_arg2) = m ((c.tc : Thread Cert.MixOutFirstKernelIdeal.nD Cert.MixOutFirstKernelIdeal.τ).loc Cert.MixOutFirstKernelIdeal.main_arg2)
          ∧ r.2.mem ((c.tc : Thread Cert.MixOutFirstKernelIdeal.nD Cert.MixOutFirstKernelIdeal.τ).loc Cert.MixOutFirstKernelIdeal.main_arg3) = m ((c.tc : Thread Cert.MixOutFirstKernelIdeal.nD Cert.MixOutFirstKernelIdeal.τ).loc Cert.MixOutFirstKernelIdeal.main_arg3)
          ∧ r.2.mem ((c.tc : Thread Cert.MixOutFirstKernelIdeal.nD Cert.MixOutFirstKernelIdeal.τ).loc Cert.MixOutFirstKernelIdeal.main_arg4) = m ((c.tc : Thread Cert.MixOutFirstKernelIdeal.nD Cert.MixOutFirstKernelIdeal.τ).loc Cert.MixOutFirstKernelIdeal.main_arg4)
          ∧ r.2.mem ((c.tc : Thread Cert.MixOutFirstKernelIdeal.nD Cert.MixOutFirstKernelIdeal.τ).loc Cert.MixOutFirstKernelIdeal.main_arg5) = m ((c.tc : Thread Cert.MixOutFirstKernelIdeal.nD Cert.MixOutFirstKernelIdeal.τ).loc Cert.MixOutFirstKernelIdeal.main_arg5)
          ∧ r.2.mem ((c.tc : Thread Cert.MixOutFirstKernelIdeal.nD Cert.MixOutFirstKernelIdeal.τ).loc Cert.MixOutFirstKernelIdeal.main_arg6) = m ((c.tc : Thread Cert.MixOutFirstKernelIdeal.nD Cert.MixOutFirstKernelIdeal.τ).loc Cert.MixOutFirstKernelIdeal.main_arg6)
          ∧ r.2.mem ((c.tc : Thread Cert.MixOutFirstKernelIdeal.nD Cert.MixOutFirstKernelIdeal.τ).loc Cert.MixOutFirstKernelIdeal.main_arg7) = m ((c.tc : Thread Cert.MixOutFirstKernelIdeal.nD Cert.MixOutFirstKernelIdeal.τ).loc Cert.MixOutFirstKernelIdeal.main_arg7)
          ∧ r.2.mem ((c.tc : Thread Cert.MixOutFirstKernelIdeal.nD Cert.MixOutFirstKernelIdeal.τ).loc Cert.MixOutFirstKernelIdeal.main_arg8) = m ((c.tc : Thread Cert.MixOutFirstKernelIdeal.nD Cert.MixOutFirstKernelIdeal.τ).loc Cert.MixOutFirstKernelIdeal.main_arg8))
      ∧ θ_run (Cert.MixOutFirstReferenceIdeal.defs (F := Ideal)) (onTc (τ := Cert.MixOutFirstReferenceIdeal.τ) (Cert.MixOutFirstReferenceIdeal.main (F := Ideal))) ⟨m', fun _ => 0, g'⟩ (fun r => ∀ c : Dev Cert.MixOutFirstReferenceIdeal.nD,
          r.2.mem ((c.tc : Thread Cert.MixOutFirstReferenceIdeal.nD Cert.MixOutFirstReferenceIdeal.τ).loc Cert.MixOutFirstReferenceIdeal.main_v28) = v0 c
          ∧ r.2.mem ((c.tc : Thread Cert.MixOutFirstReferenceIdeal.nD Cert.MixOutFirstReferenceIdeal.τ).loc Cert.MixOutFirstReferenceIdeal.main_v29) = v1 c
          ∧ r.2.mem ((c.tc : Thread Cert.MixOutFirstReferenceIdeal.nD Cert.MixOutFirstReferenceIdeal.τ).loc Cert.MixOutFirstReferenceIdeal.main_v30) = v2 c
          ∧ r.2.mem ((c.tc : Thread Cert.MixOutFirstReferenceIdeal.nD Cert.MixOutFirstReferenceIdeal.τ).loc Cert.MixOutFirstReferenceIdeal.main_v31) = v3 c
          ∧ r.2.mem ((c.tc : Thread Cert.MixOutFirstReferenceIdeal.nD Cert.MixOutFirstReferenceIdeal.τ).loc Cert.MixOutFirstReferenceIdeal.main_arg0) = m' ((c.tc : Thread Cert.MixOutFirstReferenceIdeal.nD Cert.MixOutFirstReferenceIdeal.τ).loc Cert.MixOutFirstReferenceIdeal.main_arg0)
          ∧ r.2.mem ((c.tc : Thread Cert.MixOutFirstReferenceIdeal.nD Cert.MixOutFirstReferenceIdeal.τ).loc Cert.MixOutFirstReferenceIdeal.main_arg1) = m' ((c.tc : Thread Cert.MixOutFirstReferenceIdeal.nD Cert.MixOutFirstReferenceIdeal.τ).loc Cert.MixOutFirstReferenceIdeal.main_arg1)
          ∧ r.2.mem ((c.tc : Thread Cert.MixOutFirstReferenceIdeal.nD Cert.MixOutFirstReferenceIdeal.τ).loc Cert.MixOutFirstReferenceIdeal.main_arg2) = m' ((c.tc : Thread Cert.MixOutFirstReferenceIdeal.nD Cert.MixOutFirstReferenceIdeal.τ).loc Cert.MixOutFirstReferenceIdeal.main_arg2)
          ∧ r.2.mem ((c.tc : Thread Cert.MixOutFirstReferenceIdeal.nD Cert.MixOutFirstReferenceIdeal.τ).loc Cert.MixOutFirstReferenceIdeal.main_arg3) = m' ((c.tc : Thread Cert.MixOutFirstReferenceIdeal.nD Cert.MixOutFirstReferenceIdeal.τ).loc Cert.MixOutFirstReferenceIdeal.main_arg3)
          ∧ r.2.mem ((c.tc : Thread Cert.MixOutFirstReferenceIdeal.nD Cert.MixOutFirstReferenceIdeal.τ).loc Cert.MixOutFirstReferenceIdeal.main_arg4) = m' ((c.tc : Thread Cert.MixOutFirstReferenceIdeal.nD Cert.MixOutFirstReferenceIdeal.τ).loc Cert.MixOutFirstReferenceIdeal.main_arg4)
          ∧ r.2.mem ((c.tc : Thread Cert.MixOutFirstReferenceIdeal.nD Cert.MixOutFirstReferenceIdeal.τ).loc Cert.MixOutFirstReferenceIdeal.main_arg5) = m' ((c.tc : Thread Cert.MixOutFirstReferenceIdeal.nD Cert.MixOutFirstReferenceIdeal.τ).loc Cert.MixOutFirstReferenceIdeal.main_arg5)
          ∧ r.2.mem ((c.tc : Thread Cert.MixOutFirstReferenceIdeal.nD Cert.MixOutFirstReferenceIdeal.τ).loc Cert.MixOutFirstReferenceIdeal.main_arg6) = m' ((c.tc : Thread Cert.MixOutFirstReferenceIdeal.nD Cert.MixOutFirstReferenceIdeal.τ).loc Cert.MixOutFirstReferenceIdeal.main_arg6)
          ∧ r.2.mem ((c.tc : Thread Cert.MixOutFirstReferenceIdeal.nD Cert.MixOutFirstReferenceIdeal.τ).loc Cert.MixOutFirstReferenceIdeal.main_arg7) = m' ((c.tc : Thread Cert.MixOutFirstReferenceIdeal.nD Cert.MixOutFirstReferenceIdeal.τ).loc Cert.MixOutFirstReferenceIdeal.main_arg7)
          ∧ r.2.mem ((c.tc : Thread Cert.MixOutFirstReferenceIdeal.nD Cert.MixOutFirstReferenceIdeal.τ).loc Cert.MixOutFirstReferenceIdeal.main_arg8) = m' ((c.tc : Thread Cert.MixOutFirstReferenceIdeal.nD Cert.MixOutFirstReferenceIdeal.τ).loc Cert.MixOutFirstReferenceIdeal.main_arg8))

def preserves_MixOutSecondKernel_MixOutSecondKernelIdeal : Prop :=
  True

def algebraic_MixOutSecondKernelIdeal_MixOutSecondReferenceIdeal [hMixOutSecondKernelIdeal : Cert.MixOutSecondKernelIdeal.Facts] [hMixOutSecondReferenceIdeal : Cert.MixOutSecondReferenceIdeal.Facts] : Prop :=
  ∀ (m : (ℓ : Loc Cert.MixOutSecondKernelIdeal.nD Cert.MixOutSecondKernelIdeal.τ Cert.MixOutSecondKernelIdeal.sig) → Buf (Elt Ideal) ℓ) (g : Dev Cert.MixOutSecondKernelIdeal.nD → PrngReg)
    (m' : (ℓ : Loc Cert.MixOutSecondReferenceIdeal.nD Cert.MixOutSecondReferenceIdeal.τ Cert.MixOutSecondReferenceIdeal.sig) → Buf (Elt Ideal) ℓ) (g' : Dev Cert.MixOutSecondReferenceIdeal.nD → PrngReg), Pre_MixOutSecondKernelIdeal m →
    (∀ c : Dev Cert.MixOutSecondKernelIdeal.nD,
      m' ((c.tc : Thread Cert.MixOutSecondReferenceIdeal.nD Cert.MixOutSecondReferenceIdeal.τ).loc Cert.MixOutSecondReferenceIdeal.main_arg0) = m ((c.tc : Thread Cert.MixOutSecondKernelIdeal.nD Cert.MixOutSecondKernelIdeal.τ).loc Cert.MixOutSecondKernelIdeal.main_arg0)
      ∧ m' ((c.tc : Thread Cert.MixOutSecondReferenceIdeal.nD Cert.MixOutSecondReferenceIdeal.τ).loc Cert.MixOutSecondReferenceIdeal.main_arg1) = m ((c.tc : Thread Cert.MixOutSecondKernelIdeal.nD Cert.MixOutSecondKernelIdeal.τ).loc Cert.MixOutSecondKernelIdeal.main_arg1)
      ∧ m' ((c.tc : Thread Cert.MixOutSecondReferenceIdeal.nD Cert.MixOutSecondReferenceIdeal.τ).loc Cert.MixOutSecondReferenceIdeal.main_arg2) = m ((c.tc : Thread Cert.MixOutSecondKernelIdeal.nD Cert.MixOutSecondKernelIdeal.τ).loc Cert.MixOutSecondKernelIdeal.main_arg2)
      ∧ m' ((c.tc : Thread Cert.MixOutSecondReferenceIdeal.nD Cert.MixOutSecondReferenceIdeal.τ).loc Cert.MixOutSecondReferenceIdeal.main_arg3) = m ((c.tc : Thread Cert.MixOutSecondKernelIdeal.nD Cert.MixOutSecondKernelIdeal.τ).loc Cert.MixOutSecondKernelIdeal.main_arg3)
      ∧ m' ((c.tc : Thread Cert.MixOutSecondReferenceIdeal.nD Cert.MixOutSecondReferenceIdeal.τ).loc Cert.MixOutSecondReferenceIdeal.main_arg4) = m ((c.tc : Thread Cert.MixOutSecondKernelIdeal.nD Cert.MixOutSecondKernelIdeal.τ).loc Cert.MixOutSecondKernelIdeal.main_arg4)
      ∧ m' ((c.tc : Thread Cert.MixOutSecondReferenceIdeal.nD Cert.MixOutSecondReferenceIdeal.τ).loc Cert.MixOutSecondReferenceIdeal.main_arg5) = m ((c.tc : Thread Cert.MixOutSecondKernelIdeal.nD Cert.MixOutSecondKernelIdeal.τ).loc Cert.MixOutSecondKernelIdeal.main_arg5)
      ∧ m' ((c.tc : Thread Cert.MixOutSecondReferenceIdeal.nD Cert.MixOutSecondReferenceIdeal.τ).loc Cert.MixOutSecondReferenceIdeal.main_arg6) = m ((c.tc : Thread Cert.MixOutSecondKernelIdeal.nD Cert.MixOutSecondKernelIdeal.τ).loc Cert.MixOutSecondKernelIdeal.main_arg6)
      ∧ m' ((c.tc : Thread Cert.MixOutSecondReferenceIdeal.nD Cert.MixOutSecondReferenceIdeal.τ).loc Cert.MixOutSecondReferenceIdeal.main_arg7) = m ((c.tc : Thread Cert.MixOutSecondKernelIdeal.nD Cert.MixOutSecondKernelIdeal.τ).loc Cert.MixOutSecondKernelIdeal.main_arg7)
      ∧ m' ((c.tc : Thread Cert.MixOutSecondReferenceIdeal.nD Cert.MixOutSecondReferenceIdeal.τ).loc Cert.MixOutSecondReferenceIdeal.main_arg8) = m ((c.tc : Thread Cert.MixOutSecondKernelIdeal.nD Cert.MixOutSecondKernelIdeal.τ).loc Cert.MixOutSecondKernelIdeal.main_arg8)
      ∧ m' ((c.tc : Thread Cert.MixOutSecondReferenceIdeal.nD Cert.MixOutSecondReferenceIdeal.τ).loc Cert.MixOutSecondReferenceIdeal.main_arg9) = m ((c.tc : Thread Cert.MixOutSecondKernelIdeal.nD Cert.MixOutSecondKernelIdeal.τ).loc Cert.MixOutSecondKernelIdeal.main_arg9)
      ∧ m' ((c.tc : Thread Cert.MixOutSecondReferenceIdeal.nD Cert.MixOutSecondReferenceIdeal.τ).loc Cert.MixOutSecondReferenceIdeal.main_arg10) = m ((c.tc : Thread Cert.MixOutSecondKernelIdeal.nD Cert.MixOutSecondKernelIdeal.τ).loc Cert.MixOutSecondKernelIdeal.main_arg10)
      ∧ m' ((c.tc : Thread Cert.MixOutSecondReferenceIdeal.nD Cert.MixOutSecondReferenceIdeal.τ).loc Cert.MixOutSecondReferenceIdeal.main_arg11) = m ((c.tc : Thread Cert.MixOutSecondKernelIdeal.nD Cert.MixOutSecondKernelIdeal.τ).loc Cert.MixOutSecondKernelIdeal.main_arg11)
      ∧ m' ((c.tc : Thread Cert.MixOutSecondReferenceIdeal.nD Cert.MixOutSecondReferenceIdeal.τ).loc Cert.MixOutSecondReferenceIdeal.main_arg12) = m ((c.tc : Thread Cert.MixOutSecondKernelIdeal.nD Cert.MixOutSecondKernelIdeal.τ).loc Cert.MixOutSecondKernelIdeal.main_arg12)) →
    ∃ (v0 : (c : Dev Cert.MixOutSecondKernelIdeal.nD) → Buf (Elt Ideal) ((c.tc : Thread Cert.MixOutSecondKernelIdeal.nD Cert.MixOutSecondKernelIdeal.τ).loc Cert.MixOutSecondKernelIdeal.main_v7_0)) (v1 : (c : Dev Cert.MixOutSecondKernelIdeal.nD) → Buf (Elt Ideal) ((c.tc : Thread Cert.MixOutSecondKernelIdeal.nD Cert.MixOutSecondKernelIdeal.τ).loc Cert.MixOutSecondKernelIdeal.main_v7_1)) (v2 : (c : Dev Cert.MixOutSecondKernelIdeal.nD) → Buf (Elt Ideal) ((c.tc : Thread Cert.MixOutSecondKernelIdeal.nD Cert.MixOutSecondKernelIdeal.τ).loc Cert.MixOutSecondKernelIdeal.main_v7_2)) (v3 : (c : Dev Cert.MixOutSecondKernelIdeal.nD) → Buf (Elt Ideal) ((c.tc : Thread Cert.MixOutSecondKernelIdeal.nD Cert.MixOutSecondKernelIdeal.τ).loc Cert.MixOutSecondKernelIdeal.main_v7_3)),
      θ_run (Cert.MixOutSecondKernelIdeal.defs (F := Ideal)) (onTc (τ := Cert.MixOutSecondKernelIdeal.τ) (Cert.MixOutSecondKernelIdeal.main (F := Ideal))) ⟨m, fun _ => 0, g⟩ (fun r => ∀ c : Dev Cert.MixOutSecondKernelIdeal.nD,
          r.2.mem ((c.tc : Thread Cert.MixOutSecondKernelIdeal.nD Cert.MixOutSecondKernelIdeal.τ).loc Cert.MixOutSecondKernelIdeal.main_v7_0) = v0 c
          ∧ r.2.mem ((c.tc : Thread Cert.MixOutSecondKernelIdeal.nD Cert.MixOutSecondKernelIdeal.τ).loc Cert.MixOutSecondKernelIdeal.main_v7_1) = v1 c
          ∧ r.2.mem ((c.tc : Thread Cert.MixOutSecondKernelIdeal.nD Cert.MixOutSecondKernelIdeal.τ).loc Cert.MixOutSecondKernelIdeal.main_v7_2) = v2 c
          ∧ r.2.mem ((c.tc : Thread Cert.MixOutSecondKernelIdeal.nD Cert.MixOutSecondKernelIdeal.τ).loc Cert.MixOutSecondKernelIdeal.main_v7_3) = v3 c
          ∧ r.2.mem ((c.tc : Thread Cert.MixOutSecondKernelIdeal.nD Cert.MixOutSecondKernelIdeal.τ).loc Cert.MixOutSecondKernelIdeal.main_arg0) = m ((c.tc : Thread Cert.MixOutSecondKernelIdeal.nD Cert.MixOutSecondKernelIdeal.τ).loc Cert.MixOutSecondKernelIdeal.main_arg0)
          ∧ r.2.mem ((c.tc : Thread Cert.MixOutSecondKernelIdeal.nD Cert.MixOutSecondKernelIdeal.τ).loc Cert.MixOutSecondKernelIdeal.main_arg1) = m ((c.tc : Thread Cert.MixOutSecondKernelIdeal.nD Cert.MixOutSecondKernelIdeal.τ).loc Cert.MixOutSecondKernelIdeal.main_arg1)
          ∧ r.2.mem ((c.tc : Thread Cert.MixOutSecondKernelIdeal.nD Cert.MixOutSecondKernelIdeal.τ).loc Cert.MixOutSecondKernelIdeal.main_arg2) = m ((c.tc : Thread Cert.MixOutSecondKernelIdeal.nD Cert.MixOutSecondKernelIdeal.τ).loc Cert.MixOutSecondKernelIdeal.main_arg2)
          ∧ r.2.mem ((c.tc : Thread Cert.MixOutSecondKernelIdeal.nD Cert.MixOutSecondKernelIdeal.τ).loc Cert.MixOutSecondKernelIdeal.main_arg3) = m ((c.tc : Thread Cert.MixOutSecondKernelIdeal.nD Cert.MixOutSecondKernelIdeal.τ).loc Cert.MixOutSecondKernelIdeal.main_arg3)
          ∧ r.2.mem ((c.tc : Thread Cert.MixOutSecondKernelIdeal.nD Cert.MixOutSecondKernelIdeal.τ).loc Cert.MixOutSecondKernelIdeal.main_arg4) = m ((c.tc : Thread Cert.MixOutSecondKernelIdeal.nD Cert.MixOutSecondKernelIdeal.τ).loc Cert.MixOutSecondKernelIdeal.main_arg4)
          ∧ r.2.mem ((c.tc : Thread Cert.MixOutSecondKernelIdeal.nD Cert.MixOutSecondKernelIdeal.τ).loc Cert.MixOutSecondKernelIdeal.main_arg5) = m ((c.tc : Thread Cert.MixOutSecondKernelIdeal.nD Cert.MixOutSecondKernelIdeal.τ).loc Cert.MixOutSecondKernelIdeal.main_arg5)
          ∧ r.2.mem ((c.tc : Thread Cert.MixOutSecondKernelIdeal.nD Cert.MixOutSecondKernelIdeal.τ).loc Cert.MixOutSecondKernelIdeal.main_arg6) = m ((c.tc : Thread Cert.MixOutSecondKernelIdeal.nD Cert.MixOutSecondKernelIdeal.τ).loc Cert.MixOutSecondKernelIdeal.main_arg6)
          ∧ r.2.mem ((c.tc : Thread Cert.MixOutSecondKernelIdeal.nD Cert.MixOutSecondKernelIdeal.τ).loc Cert.MixOutSecondKernelIdeal.main_arg7) = m ((c.tc : Thread Cert.MixOutSecondKernelIdeal.nD Cert.MixOutSecondKernelIdeal.τ).loc Cert.MixOutSecondKernelIdeal.main_arg7)
          ∧ r.2.mem ((c.tc : Thread Cert.MixOutSecondKernelIdeal.nD Cert.MixOutSecondKernelIdeal.τ).loc Cert.MixOutSecondKernelIdeal.main_arg8) = m ((c.tc : Thread Cert.MixOutSecondKernelIdeal.nD Cert.MixOutSecondKernelIdeal.τ).loc Cert.MixOutSecondKernelIdeal.main_arg8)
          ∧ r.2.mem ((c.tc : Thread Cert.MixOutSecondKernelIdeal.nD Cert.MixOutSecondKernelIdeal.τ).loc Cert.MixOutSecondKernelIdeal.main_arg9) = m ((c.tc : Thread Cert.MixOutSecondKernelIdeal.nD Cert.MixOutSecondKernelIdeal.τ).loc Cert.MixOutSecondKernelIdeal.main_arg9)
          ∧ r.2.mem ((c.tc : Thread Cert.MixOutSecondKernelIdeal.nD Cert.MixOutSecondKernelIdeal.τ).loc Cert.MixOutSecondKernelIdeal.main_arg10) = m ((c.tc : Thread Cert.MixOutSecondKernelIdeal.nD Cert.MixOutSecondKernelIdeal.τ).loc Cert.MixOutSecondKernelIdeal.main_arg10)
          ∧ r.2.mem ((c.tc : Thread Cert.MixOutSecondKernelIdeal.nD Cert.MixOutSecondKernelIdeal.τ).loc Cert.MixOutSecondKernelIdeal.main_arg11) = m ((c.tc : Thread Cert.MixOutSecondKernelIdeal.nD Cert.MixOutSecondKernelIdeal.τ).loc Cert.MixOutSecondKernelIdeal.main_arg11)
          ∧ r.2.mem ((c.tc : Thread Cert.MixOutSecondKernelIdeal.nD Cert.MixOutSecondKernelIdeal.τ).loc Cert.MixOutSecondKernelIdeal.main_arg12) = m ((c.tc : Thread Cert.MixOutSecondKernelIdeal.nD Cert.MixOutSecondKernelIdeal.τ).loc Cert.MixOutSecondKernelIdeal.main_arg12))
      ∧ θ_run (Cert.MixOutSecondReferenceIdeal.defs (F := Ideal)) (onTc (τ := Cert.MixOutSecondReferenceIdeal.τ) (Cert.MixOutSecondReferenceIdeal.main (F := Ideal))) ⟨m', fun _ => 0, g'⟩ (fun r => ∀ c : Dev Cert.MixOutSecondReferenceIdeal.nD,
          r.2.mem ((c.tc : Thread Cert.MixOutSecondReferenceIdeal.nD Cert.MixOutSecondReferenceIdeal.τ).loc Cert.MixOutSecondReferenceIdeal.main_v30) = v0 c
          ∧ r.2.mem ((c.tc : Thread Cert.MixOutSecondReferenceIdeal.nD Cert.MixOutSecondReferenceIdeal.τ).loc Cert.MixOutSecondReferenceIdeal.main_v33) = v1 c
          ∧ r.2.mem ((c.tc : Thread Cert.MixOutSecondReferenceIdeal.nD Cert.MixOutSecondReferenceIdeal.τ).loc Cert.MixOutSecondReferenceIdeal.main_v36) = v2 c
          ∧ r.2.mem ((c.tc : Thread Cert.MixOutSecondReferenceIdeal.nD Cert.MixOutSecondReferenceIdeal.τ).loc Cert.MixOutSecondReferenceIdeal.main_v39) = v3 c
          ∧ r.2.mem ((c.tc : Thread Cert.MixOutSecondReferenceIdeal.nD Cert.MixOutSecondReferenceIdeal.τ).loc Cert.MixOutSecondReferenceIdeal.main_arg0) = m' ((c.tc : Thread Cert.MixOutSecondReferenceIdeal.nD Cert.MixOutSecondReferenceIdeal.τ).loc Cert.MixOutSecondReferenceIdeal.main_arg0)
          ∧ r.2.mem ((c.tc : Thread Cert.MixOutSecondReferenceIdeal.nD Cert.MixOutSecondReferenceIdeal.τ).loc Cert.MixOutSecondReferenceIdeal.main_arg1) = m' ((c.tc : Thread Cert.MixOutSecondReferenceIdeal.nD Cert.MixOutSecondReferenceIdeal.τ).loc Cert.MixOutSecondReferenceIdeal.main_arg1)
          ∧ r.2.mem ((c.tc : Thread Cert.MixOutSecondReferenceIdeal.nD Cert.MixOutSecondReferenceIdeal.τ).loc Cert.MixOutSecondReferenceIdeal.main_arg2) = m' ((c.tc : Thread Cert.MixOutSecondReferenceIdeal.nD Cert.MixOutSecondReferenceIdeal.τ).loc Cert.MixOutSecondReferenceIdeal.main_arg2)
          ∧ r.2.mem ((c.tc : Thread Cert.MixOutSecondReferenceIdeal.nD Cert.MixOutSecondReferenceIdeal.τ).loc Cert.MixOutSecondReferenceIdeal.main_arg3) = m' ((c.tc : Thread Cert.MixOutSecondReferenceIdeal.nD Cert.MixOutSecondReferenceIdeal.τ).loc Cert.MixOutSecondReferenceIdeal.main_arg3)
          ∧ r.2.mem ((c.tc : Thread Cert.MixOutSecondReferenceIdeal.nD Cert.MixOutSecondReferenceIdeal.τ).loc Cert.MixOutSecondReferenceIdeal.main_arg4) = m' ((c.tc : Thread Cert.MixOutSecondReferenceIdeal.nD Cert.MixOutSecondReferenceIdeal.τ).loc Cert.MixOutSecondReferenceIdeal.main_arg4)
          ∧ r.2.mem ((c.tc : Thread Cert.MixOutSecondReferenceIdeal.nD Cert.MixOutSecondReferenceIdeal.τ).loc Cert.MixOutSecondReferenceIdeal.main_arg5) = m' ((c.tc : Thread Cert.MixOutSecondReferenceIdeal.nD Cert.MixOutSecondReferenceIdeal.τ).loc Cert.MixOutSecondReferenceIdeal.main_arg5)
          ∧ r.2.mem ((c.tc : Thread Cert.MixOutSecondReferenceIdeal.nD Cert.MixOutSecondReferenceIdeal.τ).loc Cert.MixOutSecondReferenceIdeal.main_arg6) = m' ((c.tc : Thread Cert.MixOutSecondReferenceIdeal.nD Cert.MixOutSecondReferenceIdeal.τ).loc Cert.MixOutSecondReferenceIdeal.main_arg6)
          ∧ r.2.mem ((c.tc : Thread Cert.MixOutSecondReferenceIdeal.nD Cert.MixOutSecondReferenceIdeal.τ).loc Cert.MixOutSecondReferenceIdeal.main_arg7) = m' ((c.tc : Thread Cert.MixOutSecondReferenceIdeal.nD Cert.MixOutSecondReferenceIdeal.τ).loc Cert.MixOutSecondReferenceIdeal.main_arg7)
          ∧ r.2.mem ((c.tc : Thread Cert.MixOutSecondReferenceIdeal.nD Cert.MixOutSecondReferenceIdeal.τ).loc Cert.MixOutSecondReferenceIdeal.main_arg8) = m' ((c.tc : Thread Cert.MixOutSecondReferenceIdeal.nD Cert.MixOutSecondReferenceIdeal.τ).loc Cert.MixOutSecondReferenceIdeal.main_arg8)
          ∧ r.2.mem ((c.tc : Thread Cert.MixOutSecondReferenceIdeal.nD Cert.MixOutSecondReferenceIdeal.τ).loc Cert.MixOutSecondReferenceIdeal.main_arg9) = m' ((c.tc : Thread Cert.MixOutSecondReferenceIdeal.nD Cert.MixOutSecondReferenceIdeal.τ).loc Cert.MixOutSecondReferenceIdeal.main_arg9)
          ∧ r.2.mem ((c.tc : Thread Cert.MixOutSecondReferenceIdeal.nD Cert.MixOutSecondReferenceIdeal.τ).loc Cert.MixOutSecondReferenceIdeal.main_arg10) = m' ((c.tc : Thread Cert.MixOutSecondReferenceIdeal.nD Cert.MixOutSecondReferenceIdeal.τ).loc Cert.MixOutSecondReferenceIdeal.main_arg10)
          ∧ r.2.mem ((c.tc : Thread Cert.MixOutSecondReferenceIdeal.nD Cert.MixOutSecondReferenceIdeal.τ).loc Cert.MixOutSecondReferenceIdeal.main_arg11) = m' ((c.tc : Thread Cert.MixOutSecondReferenceIdeal.nD Cert.MixOutSecondReferenceIdeal.τ).loc Cert.MixOutSecondReferenceIdeal.main_arg11)
          ∧ r.2.mem ((c.tc : Thread Cert.MixOutSecondReferenceIdeal.nD Cert.MixOutSecondReferenceIdeal.τ).loc Cert.MixOutSecondReferenceIdeal.main_arg12) = m' ((c.tc : Thread Cert.MixOutSecondReferenceIdeal.nD Cert.MixOutSecondReferenceIdeal.τ).loc Cert.MixOutSecondReferenceIdeal.main_arg12))

def preserves_AttnFwdKernel_AttnFwdKernelIdeal : Prop :=
  IdealRules.named_const.Statement Cert.AttnFwdKernelIdeal.κ "mask" .f32 0xF149F2CA#32 ⊥

def algebraic_AttnFwdKernelIdeal_AttnFwdReferenceIdeal_pre_attn_fwd_finite [hAttnFwdKernelIdeal : Cert.AttnFwdKernelIdeal.Facts] [hAttnFwdReferenceIdeal : Cert.AttnFwdReferenceIdeal.Facts] [hPre_attn_fwd_finite : Cert.Pre_attn_fwd_finite.Facts] : Prop :=
  ∀ (m : (ℓ : Loc Cert.AttnFwdKernelIdeal.nD Cert.AttnFwdKernelIdeal.τ Cert.AttnFwdKernelIdeal.sig) → Buf (Elt Ideal) ℓ) (g : Dev Cert.AttnFwdKernelIdeal.nD → PrngReg)
    (m' : (ℓ : Loc Cert.AttnFwdReferenceIdeal.nD Cert.AttnFwdReferenceIdeal.τ Cert.AttnFwdReferenceIdeal.sig) → Buf (Elt Ideal) ℓ) (g' : Dev Cert.AttnFwdReferenceIdeal.nD → PrngReg), Pre_AttnFwdKernelIdeal_attn_fwd_finite m →
    (∀ c : Dev Cert.AttnFwdKernelIdeal.nD,
      m' ((c.tc : Thread Cert.AttnFwdReferenceIdeal.nD Cert.AttnFwdReferenceIdeal.τ).loc Cert.AttnFwdReferenceIdeal.main_arg0) = m ((c.tc : Thread Cert.AttnFwdKernelIdeal.nD Cert.AttnFwdKernelIdeal.τ).loc Cert.AttnFwdKernelIdeal.main_arg0)
      ∧ m' ((c.tc : Thread Cert.AttnFwdReferenceIdeal.nD Cert.AttnFwdReferenceIdeal.τ).loc Cert.AttnFwdReferenceIdeal.main_arg1) = m ((c.tc : Thread Cert.AttnFwdKernelIdeal.nD Cert.AttnFwdKernelIdeal.τ).loc Cert.AttnFwdKernelIdeal.main_arg1)) →
    ∃ (v0 : (c : Dev Cert.AttnFwdKernelIdeal.nD) → Buf (Elt Ideal) ((c.tc : Thread Cert.AttnFwdKernelIdeal.nD Cert.AttnFwdKernelIdeal.τ).loc Cert.AttnFwdKernelIdeal.main_v0_0)),
      θ_run (Cert.AttnFwdKernelIdeal.defs (F := Ideal)) (onTc (τ := Cert.AttnFwdKernelIdeal.τ) (Cert.AttnFwdKernelIdeal.main (F := Ideal))) ⟨m, fun _ => 0, g⟩ (fun r => ∀ c : Dev Cert.AttnFwdKernelIdeal.nD,
          r.2.mem ((c.tc : Thread Cert.AttnFwdKernelIdeal.nD Cert.AttnFwdKernelIdeal.τ).loc Cert.AttnFwdKernelIdeal.main_v0_0) = v0 c
          ∧ r.2.mem ((c.tc : Thread Cert.AttnFwdKernelIdeal.nD Cert.AttnFwdKernelIdeal.τ).loc Cert.AttnFwdKernelIdeal.main_arg0) = m ((c.tc : Thread Cert.AttnFwdKernelIdeal.nD Cert.AttnFwdKernelIdeal.τ).loc Cert.AttnFwdKernelIdeal.main_arg0)
          ∧ r.2.mem ((c.tc : Thread Cert.AttnFwdKernelIdeal.nD Cert.AttnFwdKernelIdeal.τ).loc Cert.AttnFwdKernelIdeal.main_arg1) = m ((c.tc : Thread Cert.AttnFwdKernelIdeal.nD Cert.AttnFwdKernelIdeal.τ).loc Cert.AttnFwdKernelIdeal.main_arg1))
      ∧ θ_run (Cert.AttnFwdReferenceIdeal.defs (F := Ideal)) (onTc (τ := Cert.AttnFwdReferenceIdeal.τ) (Cert.AttnFwdReferenceIdeal.main (F := Ideal))) ⟨m', fun _ => 0, g'⟩ (fun r => ∀ c : Dev Cert.AttnFwdReferenceIdeal.nD,
          r.2.mem ((c.tc : Thread Cert.AttnFwdReferenceIdeal.nD Cert.AttnFwdReferenceIdeal.τ).loc Cert.AttnFwdReferenceIdeal.main_v76) = v0 c
          ∧ r.2.mem ((c.tc : Thread Cert.AttnFwdReferenceIdeal.nD Cert.AttnFwdReferenceIdeal.τ).loc Cert.AttnFwdReferenceIdeal.main_arg0) = m' ((c.tc : Thread Cert.AttnFwdReferenceIdeal.nD Cert.AttnFwdReferenceIdeal.τ).loc Cert.AttnFwdReferenceIdeal.main_arg0)
          ∧ r.2.mem ((c.tc : Thread Cert.AttnFwdReferenceIdeal.nD Cert.AttnFwdReferenceIdeal.τ).loc Cert.AttnFwdReferenceIdeal.main_arg1) = m' ((c.tc : Thread Cert.AttnFwdReferenceIdeal.nD Cert.AttnFwdReferenceIdeal.τ).loc Cert.AttnFwdReferenceIdeal.main_arg1))

def Claim : Prop :=
  ∃ (hMixKernel : Cert.MixKernel.Facts) (hMixKernelIdeal : Cert.MixKernelIdeal.Facts) (hMixReferenceIdeal : Cert.MixReferenceIdeal.Facts) (hGradFfnInKernel : Cert.GradFfnInKernel.Facts) (hGradFfnInKernelIdeal : Cert.GradFfnInKernelIdeal.Facts) (hGradFfnInReferenceIdeal : Cert.GradFfnInReferenceIdeal.Facts) (hGradFfnDownKernel : Cert.GradFfnDownKernel.Facts) (hGradFfnDownKernelIdeal : Cert.GradFfnDownKernelIdeal.Facts) (hGradFfnDownReferenceIdeal : Cert.GradFfnDownReferenceIdeal.Facts) (hGradOutKernel : Cert.GradOutKernel.Facts) (hGradOutKernelIdeal : Cert.GradOutKernelIdeal.Facts) (hGradOutReferenceIdeal : Cert.GradOutReferenceIdeal.Facts) (hGradBranchKernel : Cert.GradBranchKernel.Facts) (hGradBranchKernelIdeal : Cert.GradBranchKernelIdeal.Facts) (hGradBranchReferenceIdeal : Cert.GradBranchReferenceIdeal.Facts) (hGradInKernel : Cert.GradInKernel.Facts) (hGradInKernelIdeal : Cert.GradInKernelIdeal.Facts) (hGradInReferenceIdeal : Cert.GradInReferenceIdeal.Facts) (hFfnBwdKernel : Cert.FfnBwdKernel.Facts) (hFfnBwdKernelIdeal : Cert.FfnBwdKernelIdeal.Facts) (hFfnBwdReferenceIdeal : Cert.FfnBwdReferenceIdeal.Facts) (hInProjBwdKernel : Cert.InProjBwdKernel.Facts) (hInProjBwdKernelIdeal : Cert.InProjBwdKernelIdeal.Facts) (hInProjBwdReferenceIdeal : Cert.InProjBwdReferenceIdeal.Facts) (hFfnOutLossKernel : Cert.FfnOutLossKernel.Facts) (hFfnOutLossKernelIdeal : Cert.FfnOutLossKernelIdeal.Facts) (hFfnOutLossReferenceIdeal : Cert.FfnOutLossReferenceIdeal.Facts) (hInProjKernel : Cert.InProjKernel.Facts) (hInProjKernelIdeal : Cert.InProjKernelIdeal.Facts) (hInProjReferenceIdeal : Cert.InProjReferenceIdeal.Facts) (hFfnInFirstKernel : Cert.FfnInFirstKernel.Facts) (hFfnInFirstKernelIdeal : Cert.FfnInFirstKernelIdeal.Facts) (hFfnInFirstReferenceIdeal : Cert.FfnInFirstReferenceIdeal.Facts) (hFfnInSecondKernel : Cert.FfnInSecondKernel.Facts) (hFfnInSecondKernelIdeal : Cert.FfnInSecondKernelIdeal.Facts) (hFfnInSecondReferenceIdeal : Cert.FfnInSecondReferenceIdeal.Facts) (hMixOutFirstKernel : Cert.MixOutFirstKernel.Facts) (hMixOutFirstKernelIdeal : Cert.MixOutFirstKernelIdeal.Facts) (hMixOutFirstReferenceIdeal : Cert.MixOutFirstReferenceIdeal.Facts) (hMixOutSecondKernel : Cert.MixOutSecondKernel.Facts) (hMixOutSecondKernelIdeal : Cert.MixOutSecondKernelIdeal.Facts) (hMixOutSecondReferenceIdeal : Cert.MixOutSecondReferenceIdeal.Facts) (hAttnFwdKernel : Cert.AttnFwdKernel.Facts) (hAttnFwdKernelIdeal : Cert.AttnFwdKernelIdeal.Facts) (hAttnFwdReferenceIdeal : Cert.AttnFwdReferenceIdeal.Facts) (hPre_ffn_bwd_finite : Cert.Pre_ffn_bwd_finite.Facts) (hPre_in_proj_bwd_finite : Cert.Pre_in_proj_bwd_finite.Facts) (hPre_ffn_out_loss_finite : Cert.Pre_ffn_out_loss_finite.Facts) (hPre_attn_fwd_finite : Cert.Pre_attn_fwd_finite.Facts),
    quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_GradFfnInKernel (hGradFfnInKernel := hGradFfnInKernel)
    ∧ quiescent_GradFfnInKernelIdeal (hGradFfnInKernelIdeal := hGradFfnInKernelIdeal)
    ∧ quiescent_GradFfnInReferenceIdeal (hGradFfnInReferenceIdeal := hGradFfnInReferenceIdeal)
    ∧ quiescent_GradFfnDownKernel (hGradFfnDownKernel := hGradFfnDownKernel)
    ∧ quiescent_GradFfnDownKernelIdeal (hGradFfnDownKernelIdeal := hGradFfnDownKernelIdeal)
    ∧ quiescent_GradFfnDownReferenceIdeal (hGradFfnDownReferenceIdeal := hGradFfnDownReferenceIdeal)
    ∧ quiescent_GradOutKernel (hGradOutKernel := hGradOutKernel)
    ∧ quiescent_GradOutKernelIdeal (hGradOutKernelIdeal := hGradOutKernelIdeal)
    ∧ quiescent_GradOutReferenceIdeal (hGradOutReferenceIdeal := hGradOutReferenceIdeal)
    ∧ quiescent_GradBranchKernel (hGradBranchKernel := hGradBranchKernel)
    ∧ quiescent_GradBranchKernelIdeal (hGradBranchKernelIdeal := hGradBranchKernelIdeal)
    ∧ quiescent_GradBranchReferenceIdeal (hGradBranchReferenceIdeal := hGradBranchReferenceIdeal)
    ∧ quiescent_GradInKernel (hGradInKernel := hGradInKernel)
    ∧ quiescent_GradInKernelIdeal (hGradInKernelIdeal := hGradInKernelIdeal)
    ∧ quiescent_GradInReferenceIdeal (hGradInReferenceIdeal := hGradInReferenceIdeal)
    ∧ quiescent_FfnBwdKernel (hFfnBwdKernel := hFfnBwdKernel)
    ∧ quiescent_FfnBwdKernelIdeal (hFfnBwdKernelIdeal := hFfnBwdKernelIdeal)
    ∧ quiescent_FfnBwdKernelIdeal_pre_ffn_bwd_finite (hFfnBwdKernelIdeal := hFfnBwdKernelIdeal) (hPre_ffn_bwd_finite := hPre_ffn_bwd_finite)
    ∧ quiescent_FfnBwdReferenceIdeal (hFfnBwdReferenceIdeal := hFfnBwdReferenceIdeal)
    ∧ quiescent_FfnBwdReferenceIdeal_pre_ffn_bwd_finite (hFfnBwdReferenceIdeal := hFfnBwdReferenceIdeal) (hPre_ffn_bwd_finite := hPre_ffn_bwd_finite)
    ∧ quiescent_InProjBwdKernel (hInProjBwdKernel := hInProjBwdKernel)
    ∧ quiescent_InProjBwdKernelIdeal (hInProjBwdKernelIdeal := hInProjBwdKernelIdeal)
    ∧ quiescent_InProjBwdKernelIdeal_pre_in_proj_bwd_finite (hInProjBwdKernelIdeal := hInProjBwdKernelIdeal) (hPre_in_proj_bwd_finite := hPre_in_proj_bwd_finite)
    ∧ quiescent_InProjBwdReferenceIdeal (hInProjBwdReferenceIdeal := hInProjBwdReferenceIdeal)
    ∧ quiescent_InProjBwdReferenceIdeal_pre_in_proj_bwd_finite (hInProjBwdReferenceIdeal := hInProjBwdReferenceIdeal) (hPre_in_proj_bwd_finite := hPre_in_proj_bwd_finite)
    ∧ quiescent_FfnOutLossKernel (hFfnOutLossKernel := hFfnOutLossKernel)
    ∧ quiescent_FfnOutLossKernelIdeal (hFfnOutLossKernelIdeal := hFfnOutLossKernelIdeal)
    ∧ quiescent_FfnOutLossKernelIdeal_pre_ffn_out_loss_finite (hFfnOutLossKernelIdeal := hFfnOutLossKernelIdeal) (hPre_ffn_out_loss_finite := hPre_ffn_out_loss_finite)
    ∧ quiescent_FfnOutLossReferenceIdeal (hFfnOutLossReferenceIdeal := hFfnOutLossReferenceIdeal)
    ∧ quiescent_FfnOutLossReferenceIdeal_pre_ffn_out_loss_finite (hFfnOutLossReferenceIdeal := hFfnOutLossReferenceIdeal) (hPre_ffn_out_loss_finite := hPre_ffn_out_loss_finite)
    ∧ quiescent_InProjKernel (hInProjKernel := hInProjKernel)
    ∧ quiescent_InProjKernelIdeal (hInProjKernelIdeal := hInProjKernelIdeal)
    ∧ quiescent_InProjReferenceIdeal (hInProjReferenceIdeal := hInProjReferenceIdeal)
    ∧ quiescent_FfnInFirstKernel (hFfnInFirstKernel := hFfnInFirstKernel)
    ∧ quiescent_FfnInFirstKernelIdeal (hFfnInFirstKernelIdeal := hFfnInFirstKernelIdeal)
    ∧ quiescent_FfnInFirstReferenceIdeal (hFfnInFirstReferenceIdeal := hFfnInFirstReferenceIdeal)
    ∧ quiescent_FfnInSecondKernel (hFfnInSecondKernel := hFfnInSecondKernel)
    ∧ quiescent_FfnInSecondKernelIdeal (hFfnInSecondKernelIdeal := hFfnInSecondKernelIdeal)
    ∧ quiescent_FfnInSecondReferenceIdeal (hFfnInSecondReferenceIdeal := hFfnInSecondReferenceIdeal)
    ∧ quiescent_MixOutFirstKernel (hMixOutFirstKernel := hMixOutFirstKernel)
    ∧ quiescent_MixOutFirstKernelIdeal (hMixOutFirstKernelIdeal := hMixOutFirstKernelIdeal)
    ∧ quiescent_MixOutFirstReferenceIdeal (hMixOutFirstReferenceIdeal := hMixOutFirstReferenceIdeal)
    ∧ quiescent_MixOutSecondKernel (hMixOutSecondKernel := hMixOutSecondKernel)
    ∧ quiescent_MixOutSecondKernelIdeal (hMixOutSecondKernelIdeal := hMixOutSecondKernelIdeal)
    ∧ quiescent_MixOutSecondReferenceIdeal (hMixOutSecondReferenceIdeal := hMixOutSecondReferenceIdeal)
    ∧ quiescent_AttnFwdKernel (hAttnFwdKernel := hAttnFwdKernel)
    ∧ quiescent_AttnFwdKernelIdeal (hAttnFwdKernelIdeal := hAttnFwdKernelIdeal)
    ∧ quiescent_AttnFwdKernelIdeal_pre_attn_fwd_finite (hAttnFwdKernelIdeal := hAttnFwdKernelIdeal) (hPre_attn_fwd_finite := hPre_attn_fwd_finite)
    ∧ quiescent_AttnFwdReferenceIdeal (hAttnFwdReferenceIdeal := hAttnFwdReferenceIdeal)
    ∧ quiescent_AttnFwdReferenceIdeal_pre_attn_fwd_finite (hAttnFwdReferenceIdeal := hAttnFwdReferenceIdeal) (hPre_attn_fwd_finite := hPre_attn_fwd_finite)
    ∧ preserves_MixKernel_MixKernelIdeal
    ∧ algebraic_MixKernelIdeal_MixReferenceIdeal (hMixKernelIdeal := hMixKernelIdeal) (hMixReferenceIdeal := hMixReferenceIdeal)
    ∧ preserves_GradFfnInKernel_GradFfnInKernelIdeal
    ∧ algebraic_GradFfnInKernelIdeal_GradFfnInReferenceIdeal (hGradFfnInKernelIdeal := hGradFfnInKernelIdeal) (hGradFfnInReferenceIdeal := hGradFfnInReferenceIdeal)
    ∧ preserves_GradFfnDownKernel_GradFfnDownKernelIdeal
    ∧ algebraic_GradFfnDownKernelIdeal_GradFfnDownReferenceIdeal (hGradFfnDownKernelIdeal := hGradFfnDownKernelIdeal) (hGradFfnDownReferenceIdeal := hGradFfnDownReferenceIdeal)
    ∧ preserves_GradOutKernel_GradOutKernelIdeal
    ∧ algebraic_GradOutKernelIdeal_GradOutReferenceIdeal (hGradOutKernelIdeal := hGradOutKernelIdeal) (hGradOutReferenceIdeal := hGradOutReferenceIdeal)
    ∧ preserves_GradBranchKernel_GradBranchKernelIdeal
    ∧ algebraic_GradBranchKernelIdeal_GradBranchReferenceIdeal (hGradBranchKernelIdeal := hGradBranchKernelIdeal) (hGradBranchReferenceIdeal := hGradBranchReferenceIdeal)
    ∧ preserves_GradInKernel_GradInKernelIdeal
    ∧ algebraic_GradInKernelIdeal_GradInReferenceIdeal (hGradInKernelIdeal := hGradInKernelIdeal) (hGradInReferenceIdeal := hGradInReferenceIdeal)
    ∧ preserves_FfnBwdKernel_FfnBwdKernelIdeal
    ∧ algebraic_FfnBwdKernelIdeal_FfnBwdReferenceIdeal_pre_ffn_bwd_finite (hFfnBwdKernelIdeal := hFfnBwdKernelIdeal) (hFfnBwdReferenceIdeal := hFfnBwdReferenceIdeal) (hPre_ffn_bwd_finite := hPre_ffn_bwd_finite)
    ∧ preserves_InProjBwdKernel_InProjBwdKernelIdeal
    ∧ algebraic_InProjBwdKernelIdeal_InProjBwdReferenceIdeal_pre_in_proj_bwd_finite (hInProjBwdKernelIdeal := hInProjBwdKernelIdeal) (hInProjBwdReferenceIdeal := hInProjBwdReferenceIdeal) (hPre_in_proj_bwd_finite := hPre_in_proj_bwd_finite)
    ∧ preserves_FfnOutLossKernel_FfnOutLossKernelIdeal
    ∧ algebraic_FfnOutLossKernelIdeal_FfnOutLossReferenceIdeal_pre_ffn_out_loss_finite (hFfnOutLossKernelIdeal := hFfnOutLossKernelIdeal) (hFfnOutLossReferenceIdeal := hFfnOutLossReferenceIdeal) (hPre_ffn_out_loss_finite := hPre_ffn_out_loss_finite)
    ∧ preserves_InProjKernel_InProjKernelIdeal
    ∧ algebraic_InProjKernelIdeal_InProjReferenceIdeal (hInProjKernelIdeal := hInProjKernelIdeal) (hInProjReferenceIdeal := hInProjReferenceIdeal)
    ∧ preserves_FfnInFirstKernel_FfnInFirstKernelIdeal
    ∧ algebraic_FfnInFirstKernelIdeal_FfnInFirstReferenceIdeal (hFfnInFirstKernelIdeal := hFfnInFirstKernelIdeal) (hFfnInFirstReferenceIdeal := hFfnInFirstReferenceIdeal)
    ∧ preserves_FfnInSecondKernel_FfnInSecondKernelIdeal
    ∧ algebraic_FfnInSecondKernelIdeal_FfnInSecondReferenceIdeal (hFfnInSecondKernelIdeal := hFfnInSecondKernelIdeal) (hFfnInSecondReferenceIdeal := hFfnInSecondReferenceIdeal)
    ∧ preserves_MixOutFirstKernel_MixOutFirstKernelIdeal
    ∧ algebraic_MixOutFirstKernelIdeal_MixOutFirstReferenceIdeal (hMixOutFirstKernelIdeal := hMixOutFirstKernelIdeal) (hMixOutFirstReferenceIdeal := hMixOutFirstReferenceIdeal)
    ∧ preserves_MixOutSecondKernel_MixOutSecondKernelIdeal
    ∧ algebraic_MixOutSecondKernelIdeal_MixOutSecondReferenceIdeal (hMixOutSecondKernelIdeal := hMixOutSecondKernelIdeal) (hMixOutSecondReferenceIdeal := hMixOutSecondReferenceIdeal)
    ∧ preserves_AttnFwdKernel_AttnFwdKernelIdeal
    ∧ algebraic_AttnFwdKernelIdeal_AttnFwdReferenceIdeal_pre_attn_fwd_finite (hAttnFwdKernelIdeal := hAttnFwdKernelIdeal) (hAttnFwdReferenceIdeal := hAttnFwdReferenceIdeal) (hPre_attn_fwd_finite := hPre_attn_fwd_finite)
-- ==== Pre_attn_fwd_finite.lean ====
abbrev S2048x768 : Shape := ⟨2, ![2048, 768]⟩
abbrev S1x8 : Shape := ⟨2, ![1, 8]⟩
abbrev S_ : Shape := ⟨0, ![]⟩

class Facts : Prop where
  bitsLt_bf16_f32 : FTy.bits .bf16 < FTy.bits .f32
  bcast_S_S2048x768 : S_.BroadcastsInDim S2048x768 (![] : Fin 0 → Fin S2048x768.rank)
  bcast_S_S1x8 : S_.BroadcastsInDim S1x8 (![] : Fin 0 → Fin S1x8.rank)

variable [Facts]

def fn {F : FTy → Type} [FloatOps F] (main_arg0 : FVec F S2048x768 .bf16) (main_arg1 : FVec F S1x8 .f32) : IVec S2048x768 1 × IVec S1x8 1 :=
  let main_v0 : FVec F S2048x768 .f32 := (extf .f32 · bitsLt_bf16_f32) main_arg0
  let main_v1 : FVec F S2048x768 .f32 := Host.absf main_v0
  let main_cst : FVec F S_ .f32 := constant S_ .f32 0x7F800000#32
  let main_v2 : FVec F S2048x768 .f32 := broadcastInDim S2048x768 ![] bcast_S_S2048x768 main_cst
  let main_v3 : IVec S2048x768 1 := cmpf .olt main_v1 main_v2
  let main_v4 : FVec F S1x8 .f32 := Host.absf main_arg1
  let main_cst_0 : FVec F S_ .f32 := constant S_ .f32 0x7F800000#32
  let main_v5 : FVec F S1x8 .f32 := broadcastInDim S1x8 ![] bcast_S_S1x8 main_cst_0
  let main_v6 : IVec S1x8 1 := cmpf .olt main_v4 main_v5
  (main_v3, main_v6)
-- ==== Pre_ffn_bwd_finite.lean ====
abbrev S2048x1024 : Shape := ⟨2, ![2048, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S2048x1024 .f32) (main_arg1 : FVec F S2048x1024 .f32) (main_arg2 : FVec F S1x1024 .f32) (main_arg3 : FVec F S1024x5632 .f32) (main_arg4 : FVec F S2816x1024 .f32) : IVec S2048x1024 1 × IVec S2048x1024 1 × IVec S1x1024 1 × IVec S1024x5632 1 × IVec S2816x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  (main_v2, main_v5, main_v8, main_v11, main_v14)
-- ==== Pre_ffn_out_loss_finite.lean ====
abbrev S2048x1024 : Shape := ⟨2, ![2048, 1024]⟩
abbrev S2048x2816 : Shape := ⟨2, ![2048, 2816]⟩
abbrev S2816x1024 : Shape := ⟨2, ![2816, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  bitsLt_bf16_f32 : FTy.bits .bf16 < FTy.bits .f32
  bcast_S_S2048x2816 : S_.BroadcastsInDim S2048x2816 (![] : Fin 0 → Fin S2048x2816.rank)
  bcast_S_S2816x1024 : S_.BroadcastsInDim S2816x1024 (![] : Fin 0 → Fin S2816x1024.rank)
  bcast_S_S1x1024 : S_.BroadcastsInDim S1x1024 (![] : Fin 0 → Fin S1x1024.rank)

variable [Facts]

def fn {F : FTy → Type} [FloatOps F] (main_arg0 : FVec F S2048x1024 .f32) (main_arg1 : FVec F S2048x2816 .bf16) (main_arg2 : FVec F S2816x1024 .f32) (main_arg3 : FVec F S1x1024 .f32) (main_arg4 : FVec F S2048x1024 .f32) : IVec S2048x1024 1 × IVec S2048x2816 1 × IVec S2816x1024 1 × IVec S1x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x2816 .f32 := (extf .f32 · bitsLt_bf16_f32) main_arg1
  let main_v4 : FVec F S2048x2816 .f32 := Host.absf main_v3
  let main_cst_0 : FVec F S_ .f32 := constant S_ .f32 0x7F800000#32
  let main_v5 : FVec F S2048x2816 .f32 := broadcastInDim S2048x2816 ![] bcast_S_S2048x2816 main_cst_0
  let main_v6 : IVec S2048x2816 1 := cmpf .olt main_v4 main_v5
  let main_v7 : FVec F S2816x1024 .f32 := Host.absf main_arg2
  let main_cst_1 : FVec F S_ .f32 := constant S_ .f32 0x7F800000#32
  let main_v8 : FVec F S2816x1024 .f32 := broadcastInDim S2816x1024 ![] bcast_S_S2816x1024 main_cst_1
  let main_v9 : IVec S2816x1024 1 := cmpf .olt main_v7 main_v8
  let main_v10 : FVec F S1x1024 .f32 := Host.absf main_arg3
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_v13 : FVec F S2048x1024 .f32 := Host.absf main_arg4
  let main_cst_3 : FVec F S_ .f32 := constant S_ .f32 0x7F800000#32
  let main_v14 : FVec F S2048x1024 .f32 := broadcastInDim S2048x1024 ![] bcast_S_S2048x1024 main_cst_3
  let main_v15 : IVec S2048x1024 1 := cmpf .olt main_v13 main_v14
  (main_v2, main_v6, main_v9, main_v12, main_v15)
-- ==== Pre_in_proj_bwd_finite.lean ====
abbrev S2048x512 : Shape := ⟨2, ![2048, 512]⟩
abbrev S2048x256 : Shape := ⟨2, ![2048, 256]⟩
abbrev S2048x1024 : Shape := ⟨2, ![2048, 1024]⟩
abbrev S2048x2048 : Shape := ⟨2, ![2048, 2048]⟩
abbrev S1x1024 : Shape := ⟨2, ![1, 1024]⟩
abbrev S1024x3840 : Shape := ⟨2, ![1024, 3840]⟩
abbrev S8x128 : Shape := ⟨2, ![8, 128]⟩
abbrev S_ : Shape := ⟨0, ![]⟩

class Facts : Prop where
  bitsLt_bf16_f32 : FTy.bits .bf16 < FTy.bits .f32
  bcast_S_S2048x512 : S_.BroadcastsInDim S2048x512 (![] : Fin 0 → Fin S2048x512.rank)
  bcast_S_S2048x256 : S_.BroadcastsInDim S2048x256 (![] : Fin 0 → Fin S2048x256.rank)
  bcast_S_S2048x1024 : S_.BroadcastsInDim S2048x1024 (![] : Fin 0 → Fin S2048x1024.rank)
  bcast_S_S2048x2048 : S_.BroadcastsInDim S2048x2048 (![] : Fin 0 → Fin S2048x2048.rank)
  bcast_S_S1x1024 : S_.BroadcastsInDim S1x1024 (![] : Fin 0 → Fin S1x1024.rank)
  bcast_S_S1024x3840 : S_.BroadcastsInDim S1024x3840 (![] : Fin 0 → Fin S1024x3840.rank)

variable [Facts]

def fn_part1 {F : FTy → Type} [FloatOps F] (main_arg7 : FVec F S1024x3840 .f32) (main_v3 : IVec S2048x512 1) (main_v6 : IVec S2048x256 1) (main_v10 : IVec S2048x1024 1) (main_v14 : IVec S2048x2048 1) (main_v17 : IVec S2048x1024 1) (main_v18 : FVec F S1x1024 .f32) : IVec S2048x512 1 × IVec S2048x256 1 × IVec S2048x1024 1 × IVec S2048x2048 1 × IVec S2048x1024 1 × IVec S1x1024 1 × IVec S1024x3840 1 :=
  let main_cst_4 : FVec F S_ .f32 := constant S_ .f32 0x7F800000#32
  let main_v19 : FVec F S1x1024 .f32 := broadcastInDim S1x1024 ![] bcast_S_S1x1024 main_cst_4
  let main_v20 : IVec S1x1024 1 := cmpf .olt main_v18 main_v19
  let main_v21 : FVec F S1024x3840 .f32 := Host.absf main_arg7
  let main_cst_5 : FVec F S_ .f32 := constant S_ .f32 0x7F800000#32
  let main_v22 : FVec F S1024x3840 .f32 := broadcastInDim S1024x3840 ![] bcast_S_S1024x3840 main_cst_5
  let main_v23 : IVec S1024x3840 1 := cmpf .olt main_v21 main_v22
  (main_v3, main_v6, main_v10, main_v14, main_v17, main_v20, main_v23)

def fn {F : FTy → Type} [FloatOps F] (main_arg0 : FVec F S2048x512 .bf16) (main_arg1 : FVec F S2048x256 .f32) (main_arg2 : FVec F S2048x1024 .bf16) (main_arg3 : FVec F S2048x2048 .bf16) (main_arg4 : FVec F S2048x1024 .f32) (main_arg5 : FVec F S2048x1024 .f32) (main_arg6 : FVec F S1x1024 .f32) (main_arg7 : FVec F S1024x3840 .f32) (main_arg8 : FVec F S8x128 .f32) : IVec S2048x512 1 × IVec S2048x256 1 × IVec S2048x1024 1 × IVec S2048x2048 1 × IVec S2048x1024 1 × IVec S1x1024 1 × IVec S1024x3840 1 :=
  let main_v0 : FVec F S2048x512 .f32 := (extf .f32 · bitsLt_bf16_f32) main_arg0
  let main_v1 : FVec F S2048x512 .f32 := Host.absf main_v0
  let main_cst : FVec F S_ .f32 := constant S_ .f32 0x7F800000#32
  let main_v2 : FVec F S2048x512 .f32 := broadcastInDim S2048x512 ![] bcast_S_S2048x512 main_cst
  let main_v3 : IVec S2048x512 1 := cmpf .olt main_v1 main_v2
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_v7 : FVec F S2048x1024 .f32 := (extf .f32 · bitsLt_bf16_f32) main_arg2
  let main_v8 : FVec F S2048x1024 .f32 := Host.absf main_v7
  let main_cst_1 : FVec F S_ .f32 := constant S_ .f32 0x7F800000#32
  let main_v9 : FVec F S2048x1024 .f32 := broadcastInDim S2048x1024 ![] bcast_S_S2048x1024 main_cst_1
  let main_v10 : IVec S2048x1024 1 := cmpf .olt main_v8 main_v9
  let main_v11 : FVec F S2048x2048 .f32 := (extf .f32 · bitsLt_bf16_f32) main_arg3
  let main_v12 : FVec F S2048x2048 .f32 := Host.absf main_v11
  let main_cst_2 : FVec F S_ .f32 := constant S_ .f32 0x7F800000#32
  let main_v13 : FVec F S2048x2048 .f32 := broadcastInDim S2048x2048 ![] bcast_S_S2048x2048 main_cst_2
  let main_v14 : IVec S2048x2048 1 := cmpf .olt main_v12 main_v13
  let main_v15 : FVec F S2048x1024 .f32 := Host.absf main_arg4
  let main_cst_3 : FVec F S_ .f32 := constant S_ .f32 0x7F800000#32
  let main_v16 : FVec F S2048x1024 .f32 := broadcastInDim S2048x1024 ![] bcast_S_S2048x1024 main_cst_3
  let main_v17 : IVec S2048x1024 1 := cmpf .olt main_v15 main_v16
  let main_v18 : FVec F S1x1024 .f32 := Host.absf main_arg6
  fn_part1 (F := F) main_arg7 main_v3 main_v6 main_v10 main_v14 main_v17 main_v18
-- ==== MixKernel.lean ====
abbrev S2048x1024 : Shape := ⟨2, ![2048, 1024]⟩
abbrev S2048x2048 : Shape := ⟨2, ![2048, 2048]⟩
abbrev S2048x512 : Shape := ⟨2, ![2048, 512]⟩
abbrev S512x1024 : Shape := ⟨2, ![512, 1024]⟩
abbrev S1x1024 : Shape := ⟨2, ![1, 1024]⟩
abbrev S1024x1024 : Shape := ⟨2, ![1024, 1024]⟩
abbrev S1024 : Shape := ⟨1, ![1024]⟩
abbrev S512x4x256 : Shape := ⟨3, ![512, 4, 256]⟩
abbrev S4x512x256 : Shape := ⟨3, ![4, 512, 256]⟩
abbrev S_ : Shape := ⟨0, ![]⟩
abbrev S8x128 : Shape := ⟨2, ![8, 128]⟩
abbrev S512x2048 : Shape := ⟨2, ![512, 2048]⟩
abbrev S512x512 : Shape := ⟨2, ![512, 512]⟩
abbrev S512x256 : Shape := ⟨2, ![512, 256]⟩
abbrev S1x512x256 : Shape := ⟨3, ![1, 512, 256]⟩

abbrev nBuf : Space → Nat
  | .hbm => 33
  | .vmem => 23
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S2048x512, .bf16⟩
  | .hbm, ⟨3, _⟩ => ⟨S2048x512, .bf16⟩
  | .hbm, ⟨4, _⟩ => ⟨S512x1024, .f32⟩
  | .hbm, ⟨5, _⟩ => ⟨S512x1024, .f32⟩
  | .hbm, ⟨6, _⟩ => ⟨S1x1024, .f32⟩
  | .hbm, ⟨7, _⟩ => ⟨S1024x1024, .f32⟩
  | .hbm, ⟨8, _⟩ => ⟨S2048x512, .f32⟩
  | .hbm, ⟨9, _⟩ => ⟨S2048x1024, .f32⟩
  | .hbm, ⟨10, _⟩ => ⟨S2048x512, .f32⟩
  | .hbm, ⟨11, _⟩ => ⟨S2048x1024, .f32⟩
  | .hbm, ⟨12, _⟩ => ⟨S1024, .f32⟩
  | .hbm, ⟨13, _⟩ => ⟨S1x1024, .f32⟩
  | .hbm, ⟨14, _⟩ => ⟨S2048x1024, .f32⟩
  | .hbm, ⟨15, _⟩ => ⟨S2048x1024, .f32⟩
  | .hbm, ⟨16, _⟩ => ⟨S2048x1024, .bf16⟩
  | .hbm, ⟨17, _⟩ => ⟨S2048x1024, .bf16⟩
  | .hbm, ⟨18, _⟩ => ⟨S1024x1024, .bf16⟩
  | .hbm, ⟨19, _⟩ => ⟨S512x1024, .bf16⟩
  | .hbm, ⟨20, _⟩ => ⟨S512x4x256, .bf16⟩
  | .hbm, ⟨21, _⟩ => ⟨S4x512x256, .bf16⟩
  | .hbm, ⟨22, _⟩ => ⟨S512x1024, .bf16⟩
  | .hbm, ⟨23, _⟩ => ⟨S512x4x256, .bf16⟩
  | .hbm, ⟨24, _⟩ => ⟨S4x512x256, .bf16⟩
  | .hbm, ⟨25, _⟩ => ⟨S_, .f32⟩
  | .hbm, ⟨26, _⟩ => ⟨S8x128, .f32⟩
  | .hbm, ⟨27, _⟩ => ⟨S2048x1024, .bf16⟩
  | .hbm, ⟨28, _⟩ => ⟨S2048x1024, .bf16⟩
  | .hbm, ⟨29, _⟩ => ⟨S2048x2048, .bf16⟩
  | .hbm, ⟨30, _⟩ => ⟨S2048x512, .bf16⟩
  | .hbm, ⟨31, _⟩ => ⟨S2048x512, .bf16⟩
  | .hbm, ⟨32, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S4x512x256, .bf16⟩
  | .local _ .vmem, ⟨10, _⟩ => ⟨S4x512x256, .bf16⟩
  | .local _ .vmem, ⟨11, _⟩ => ⟨S8x128, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x2048, .bf16⟩
  | .local _ .vmem, ⟨17, _⟩ => ⟨S512x2048, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S1x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev main_v18_4 : Ref sig .tc := ⟨.hbm, 31, rfl⟩
abbrev main_v18_5 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MixReferenceIdeal.lean ====
abbrev S2048x1024 : Shape := ⟨2, ![2048, 1024]⟩
abbrev S2048x2048 : Shape := ⟨2, ![2048, 2048]⟩
abbrev S2048x512 : Shape := ⟨2, ![2048, 512]⟩
abbrev S512x1024 : Shape := ⟨2, ![512, 1024]⟩
abbrev S1x1024 : Shape := ⟨2, ![1, 1024]⟩
abbrev S1024x1024 : Shape := ⟨2, ![1024, 1024]⟩
abbrev S1024 : Shape := ⟨1, ![1024]⟩
abbrev S2048x2x1024 : Shape := ⟨3, ![2048, 2, 1024]⟩
abbrev S_ : Shape := ⟨0, ![]⟩
abbrev S2048x1x1024 : Shape := ⟨3, ![2048, 1, 1024]⟩

abbrev nBuf : Space → Nat
  | .hbm => 66
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S2048x512, .bf16⟩
  | .hbm, ⟨3, _⟩ => ⟨S2048x512, .bf16⟩
  | .hbm, ⟨4, _⟩ => ⟨S512x1024, .f32⟩
  | .hbm, ⟨5, _⟩ => ⟨S512x1024, .f32⟩
  | .hbm, ⟨6, _⟩ => ⟨S1x1024, .f32⟩
  | .hbm, ⟨7, _⟩ => ⟨S1024x1024, .f32⟩
  | .hbm, ⟨8, _⟩ => ⟨S2048x512, .f32⟩
  | .hbm, ⟨9, _⟩ => ⟨S2048x512, .f32⟩
  | .hbm, ⟨10, _⟩ => ⟨S2048x1024, .f32⟩
  | .hbm, ⟨11, _⟩ => ⟨S2048x1024, .f32⟩
  | .hbm, ⟨12, _⟩ => ⟨S1024, .f32⟩
  | .hbm, ⟨13, _⟩ => ⟨S1x1024, .f32⟩
  | .hbm, ⟨14, _⟩ => ⟨S2048x1024, .f32⟩
  | .hbm, ⟨15, _⟩ => ⟨S2048x1024, .f32⟩
  | .hbm, ⟨16, _⟩ => ⟨S2048x2048, .f32⟩
  | .hbm, ⟨17, _⟩ => ⟨S2048x2x1024, .f32⟩
  | .hbm, ⟨18, _⟩ => ⟨S2048x2x1024, .f32⟩
  | .hbm, ⟨19, _⟩ => ⟨S2048x2x1024, .f32⟩
  | .hbm, ⟨20, _⟩ => ⟨S_, .f32⟩
  | .hbm, ⟨21, _⟩ => ⟨S2048x2x1024, .f32⟩
  | .hbm, ⟨22, _⟩ => ⟨S2048x2x1024, .f32⟩
  | .hbm, ⟨23, _⟩ => ⟨S_, .f32⟩
  | .hbm, ⟨24, _⟩ => ⟨S2048x2x1024, .f32⟩
  | .hbm, ⟨25, _⟩ => ⟨S2048x2x1024, .f32⟩
  | .hbm, ⟨26, _⟩ => ⟨S_, .f32⟩
  | .hbm, ⟨27, _⟩ => ⟨S2048x2x1024, .f32⟩
  | .hbm, ⟨28, _⟩ => ⟨S2048x2x1024, .f32⟩
  | .hbm, ⟨29, _⟩ => ⟨S2048x2x1024, .f32⟩
  | .hbm, ⟨30, _⟩ => ⟨S2048x1x1024, .f32⟩
  | .hbm, ⟨31, _⟩ => ⟨S2048x1024, .f32⟩
  | .hbm, ⟨32, _⟩ => ⟨S2048x1024, .f32⟩
  | .hbm, ⟨33, _⟩ => ⟨S2048x1x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1x1024, .f32⟩
  | .hbm, ⟨43, _⟩ => ⟨S_, .f32⟩
  | .hbm, ⟨44, _⟩ => ⟨S2048x2x1024, .f32⟩
  | .hbm, ⟨45, _⟩ => ⟨S2048x1024, .f32⟩
  | .hbm, ⟨46, _⟩ => ⟨S2048x1024, .f32⟩
  | .hbm, ⟨47, _⟩ => ⟨S2048x1x1024, .f32⟩
  | .hbm, ⟨48, _⟩ => ⟨S_, .f32⟩
  | .hbm, ⟨49, _⟩ => ⟨S2048x2x1024, .f32⟩
  | .hbm, ⟨50, _⟩ => ⟨S2048x2x1024, .f32⟩
  | .hbm, ⟨51, _⟩ => ⟨S2048x2x1024, .f32⟩
  | .hbm, ⟨52, _⟩ => ⟨S2048x2048, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S2048x512, .f32⟩
  | .hbm, ⟨60, _⟩ => ⟨S2048x512, .f32⟩
  | .hbm, ⟨61, _⟩ => ⟨S2048x1024, .bf16⟩
  | .hbm, ⟨62, _⟩ => ⟨S2048x1024, .bf16⟩
  | .hbm, ⟨63, _⟩ => ⟨S2048x2048, .bf16⟩
  | .hbm, ⟨64, _⟩ => ⟨S2048x512, .bf16⟩
  | .hbm, ⟨65, _⟩ => ⟨S2048x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== GradFfnInKernel.lean ====
abbrev S2048x1024 : Shape := ⟨2, ![2048, 1024]⟩
abbrev S2048x5632 : Shape := ⟨2, ![2048, 5632]⟩
abbrev S8x128 : Shape := ⟨2, ![8, 128]⟩
abbrev S4x1024x1408 : Shape := ⟨3, ![4, 1024, 1408]⟩
abbrev S2048x512 : Shape := ⟨2, ![2048, 512]⟩
abbrev S2048x1408 : Shape := ⟨2, ![2048, 1408]⟩
abbrev S1x512x1408 : Shape := ⟨3, ![1, 512, 1408]⟩
abbrev S512x2048 : Shape := ⟨2, ![512, 2048]⟩
abbrev S512x1408 : Shape := ⟨2, ![512, 1408]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x5632, .bf16⟩
  | .hbm, ⟨2, _⟩ => ⟨S8x128, .f32⟩
  | .hbm, ⟨3, _⟩ => ⟨S4x1024x1408, .bf16⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S512x2048, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GradFfnInReferenceIdeal.lean ====
abbrev S2048x1024 : Shape := ⟨2, ![2048, 1024]⟩
abbrev S2048x5632 : Shape := ⟨2, ![2048, 5632]⟩
abbrev S8x128 : Shape := ⟨2, ![8, 128]⟩
abbrev S_ : Shape := ⟨0, ![]⟩
abbrev S1024x5632 : Shape := ⟨2, ![1024, 5632]⟩
abbrev S5632x1024 : Shape := ⟨2, ![5632, 1024]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x5632, .bf16⟩
  | .hbm, ⟨2, _⟩ => ⟨S8x128, .f32⟩
  | .hbm, ⟨3, _⟩ => ⟨S_, .f32⟩
  | .hbm, ⟨4, _⟩ => ⟨S1024x5632, .f32⟩
  | .hbm, ⟨5, _⟩ => ⟨S2048x1024, .f32⟩
  | .hbm, ⟨6, _⟩ => ⟨S2048x5632, .f32⟩
  | .hbm, ⟨7, _⟩ => ⟨S2048x5632, .f32⟩
  | .hbm, ⟨8, _⟩ => ⟨S5632x1024, .f32⟩
  | .hbm, ⟨9, _⟩ => ⟨S1024x5632, .f32⟩
  | .hbm, ⟨10, _⟩ => ⟨S1024x5632, .bf16⟩
  | .hbm, ⟨11, _⟩ => ⟨S1024x1408, .bf16⟩
  | .hbm, ⟨12, _⟩ => ⟨S1024x1408, .bf16⟩
  | .hbm, ⟨13, _⟩ => ⟨S1024x1408, .bf16⟩
  | .hbm, ⟨14, _⟩ => ⟨S1024x1408, .bf16⟩
  | .hbm, ⟨15, _⟩ => ⟨S1x1024x1408, .bf16⟩
  | .hbm, ⟨16, _⟩ => ⟨S1x1024x1408, .bf16⟩
  | .hbm, ⟨17, _⟩ => ⟨S1x1024x1408, .bf16⟩
  | .hbm, ⟨18, _⟩ => ⟨S1x1024x1408, .bf16⟩
  | .hbm, ⟨19, _⟩ => ⟨S4x1024x1408, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== GradFfnDownKernel.lean ====
abbrev S2048x2816 : Shape := ⟨2, ![2048, 2816]⟩
abbrev S2048x1024 : Shape := ⟨2, ![2048, 1024]⟩
abbrev S1x2816x1024 : Shape := ⟨3, ![1, 2816, 1024]⟩
abbrev S2048x256 : Shape := ⟨2, ![2048, 256]⟩
abbrev S1x256x1024 : Shape := ⟨3, ![1, 256, 1024]⟩
abbrev S256x2048 : Shape := ⟨2, ![256, 2048]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S1x2816x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S256x2048, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GradFfnDownReferenceIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S_, .f32⟩
  | .hbm, ⟨3, _⟩ => ⟨S2816x1024, .f32⟩
  | .hbm, ⟨4, _⟩ => ⟨S2048x2816, .f32⟩
  | .hbm, ⟨5, _⟩ => ⟨S2048x1024, .f32⟩
  | .hbm, ⟨6, _⟩ => ⟨S2048x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S1x2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GradOutKernel.lean ====
abbrev S2048x1024 : Shape := ⟨2, ![2048, 1024]⟩
abbrev S8x128 : Shape := ⟨2, ![8, 128]⟩
abbrev S1x1024x1024 : Shape := ⟨3, ![1, 1024, 1024]⟩
abbrev S2048x512 : Shape := ⟨2, ![2048, 512]⟩
abbrev S1x512x1024 : Shape := ⟨3, ![1, 512, 1024]⟩
abbrev S512x2048 : Shape := ⟨2, ![512, 2048]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S8x128, .f32⟩
  | .hbm, ⟨3, _⟩ => ⟨S1x1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S512x2048, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GradOutReferenceIdeal.lean ====
abbrev S2048x1024 : Shape := ⟨2, ![2048, 1024]⟩
abbrev S8x128 : Shape := ⟨2, ![8, 128]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S8x128, .f32⟩
  | .hbm, ⟨3, _⟩ => ⟨S_, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S1x1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== GradBranchKernel.lean ====
abbrev S2048x512 : Shape := ⟨2, ![2048, 512]⟩
abbrev S2048x1024 : Shape := ⟨2, ![2048, 1024]⟩
abbrev S8x128 : Shape := ⟨2, ![8, 128]⟩
abbrev S4x512x256 : Shape := ⟨3, ![4, 512, 256]⟩
abbrev S512x2048 : Shape := ⟨2, ![512, 2048]⟩
abbrev S512x1024 : Shape := ⟨2, ![512, 1024]⟩
abbrev S512x256 : Shape := ⟨2, ![512, 256]⟩
abbrev S1x512x256 : Shape := ⟨3, ![1, 512, 256]⟩

abbrev nBuf : Space → Nat
  | .hbm => 4
  | .vmem => 4
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S8x128, .f32⟩
  | .hbm, ⟨3, _⟩ => ⟨S4x512x256, .bf16⟩
  | .local _ .vmem, ⟨0, _⟩ => ⟨S2048x512, .bf16⟩
  | .local _ .vmem, ⟨1, _⟩ => ⟨S2048x1024, .bf16⟩
  | .local _ .vmem, ⟨2, _⟩ => ⟨S4x512x256, .bf16⟩
  | .local _ .vmem, ⟨3, _⟩ => ⟨S512x2048, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S4x512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GradBranchReferenceIdeal.lean ====
abbrev S2048x512 : Shape := ⟨2, ![2048, 512]⟩
abbrev S2048x1024 : Shape := ⟨2, ![2048, 1024]⟩
abbrev S8x128 : Shape := ⟨2, ![8, 128]⟩
abbrev S_ : Shape := ⟨0, ![]⟩
abbrev S512x1024 : Shape := ⟨2, ![512, 1024]⟩
abbrev S1024x512 : Shape := ⟨2, ![1024, 512]⟩
abbrev S512x256 : Shape := ⟨2, ![512, 256]⟩
abbrev S1x512x256 : Shape := ⟨3, ![1, 512, 256]⟩
abbrev S4x512x256 : Shape := ⟨3, ![4, 512, 256]⟩

abbrev nBuf : Space → Nat
  | .hbm => 20
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S8x128, .f32⟩
  | .hbm, ⟨3, _⟩ => ⟨S_, .f32⟩
  | .hbm, ⟨4, _⟩ => ⟨S512x1024, .f32⟩
  | .hbm, ⟨5, _⟩ => ⟨S2048x512, .f32⟩
  | .hbm, ⟨6, _⟩ => ⟨S2048x1024, .f32⟩
  | .hbm, ⟨7, _⟩ => ⟨S2048x1024, .f32⟩
  | .hbm, ⟨8, _⟩ => ⟨S1024x512, .f32⟩
  | .hbm, ⟨9, _⟩ => ⟨S512x1024, .f32⟩
  | .hbm, ⟨10, _⟩ => ⟨S512x1024, .bf16⟩
  | .hbm, ⟨11, _⟩ => ⟨S512x256, .bf16⟩
  | .hbm, ⟨12, _⟩ => ⟨S512x256, .bf16⟩
  | .hbm, ⟨13, _⟩ => ⟨S512x256, .bf16⟩
  | .hbm, ⟨14, _⟩ => ⟨S512x256, .bf16⟩
  | .hbm, ⟨15, _⟩ => ⟨S1x512x256, .bf16⟩
  | .hbm, ⟨16, _⟩ => ⟨S1x512x256, .bf16⟩
  | .hbm, ⟨17, _⟩ => ⟨S1x512x256, .bf16⟩
  | .hbm, ⟨18, _⟩ => ⟨S1x512x256, .bf16⟩
  | .hbm, ⟨19, _⟩ => ⟨S4x512x256, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== GradInKernel.lean ====
abbrev S2048x1024 : Shape := ⟨2, ![2048, 1024]⟩
abbrev S2048x512 : Shape := ⟨2, ![2048, 512]⟩
abbrev S2048x256 : Shape := ⟨2, ![2048, 256]⟩
abbrev S2048x2048 : Shape := ⟨2, ![2048, 2048]⟩
abbrev S3840x1024 : Shape := ⟨2, ![3840, 1024]⟩
abbrev S3840x512 : Shape := ⟨2, ![3840, 512]⟩
abbrev S256x512 : Shape := ⟨2, ![256, 512]⟩

abbrev nBuf : Space → Nat
  | .hbm => 6
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S2048x256, .f32⟩
  | .hbm, ⟨3, _⟩ => ⟨S2048x1024, .bf16⟩
  | .hbm, ⟨4, _⟩ => ⟨S2048x2048, .bf16⟩
  | .hbm, ⟨5, _⟩ => ⟨S3840x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x256, .f32⟩
  | .local _ .vmem, ⟨4, _⟩ => ⟨S2048x1024, .bf16⟩
  | .local _ .vmem, ⟨5, _⟩ => ⟨S2048x2048, .bf16⟩
  | .local _ .vmem, ⟨6, _⟩ => ⟨S3840x512, .bf16⟩
  | .local _ .vmem, ⟨7, _⟩ => ⟨S3840x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3840x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GradInReferenceIdeal.lean ====
abbrev S2048x1024 : Shape := ⟨2, ![2048, 1024]⟩
abbrev S2048x512 : Shape := ⟨2, ![2048, 512]⟩
abbrev S2048x256 : Shape := ⟨2, ![2048, 256]⟩
abbrev S2048x2048 : Shape := ⟨2, ![2048, 2048]⟩
abbrev S2048x3840 : Shape := ⟨2, ![2048, 3840]⟩
abbrev S_ : Shape := ⟨0, ![]⟩
abbrev S1024x3840 : Shape := ⟨2, ![1024, 3840]⟩
abbrev S3840x1024 : Shape := ⟨2, ![3840, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S2048x256, .f32⟩
  | .hbm, ⟨3, _⟩ => ⟨S2048x1024, .bf16⟩
  | .hbm, ⟨4, _⟩ => ⟨S2048x2048, .bf16⟩
  | .hbm, ⟨5, _⟩ => ⟨S2048x512, .f32⟩
  | .hbm, ⟨6, _⟩ => ⟨S2048x1024, .f32⟩
  | .hbm, ⟨7, _⟩ => ⟨S2048x2048, .f32⟩
  | .hbm, ⟨8, _⟩ => ⟨S2048x3840, .f32⟩
  | .hbm, ⟨9, _⟩ => ⟨S_, .f32⟩
  | .hbm, ⟨10, _⟩ => ⟨S1024x3840, .f32⟩
  | .hbm, ⟨11, _⟩ => ⟨S2048x1024, .f32⟩
  | .hbm, ⟨12, _⟩ => ⟨S2048x3840, .f32⟩
  | .hbm, ⟨13, _⟩ => ⟨S3840x1024, .f32⟩
  | .hbm, ⟨14, _⟩ => ⟨S1024x3840, .f32⟩
  | .hbm, ⟨15, _⟩ => ⟨S1024x3840, .bf16⟩
  | .hbm, ⟨16, _⟩ => ⟨S3840x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== FfnBwdKernel.lean ====
abbrev S2048x1024 : Shape := ⟨2, ![2048, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S2048x2x2x1408 : Shape := ⟨4, ![2048, 2, 2, 1408]⟩
abbrev S1024x4x1408 : Shape := ⟨3, ![1024, 4, 1408]⟩
abbrev S4x1024x1408 : Shape := ⟨3, ![4, 1024, 1408]⟩
abbrev S256x1024 : Shape := ⟨2, ![256, 1024]⟩
abbrev S256x5632 : Shape := ⟨2, ![256, 5632]⟩
abbrev S1408x1024 : Shape := ⟨2, ![1408, 1024]⟩
abbrev S256x1408 : Shape := ⟨2, ![256, 1408]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩
abbrev S1024 : Shape := ⟨1, ![1024]⟩

abbrev nBuf : Space → Nat
  | .hbm => 34
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x5632, .f32⟩
  | .hbm, ⟨21, _⟩ => ⟨S2048x2x2x1408, .f32⟩
  | .hbm, ⟨22, _⟩ => ⟨S2048x2x2x1408, .f32⟩
  | .hbm, ⟨23, _⟩ => ⟨S2048x5632, .f32⟩
  | .hbm, ⟨24, _⟩ => ⟨S2048x1024, .bf16⟩
  | .hbm, ⟨25, _⟩ => ⟨S2048x5632, .bf16⟩
  | .hbm, ⟨26, _⟩ => ⟨S2816x1024, .bf16⟩
  | .hbm, ⟨27, _⟩ => ⟨S1024x5632, .bf16⟩
  | .hbm, ⟨28, _⟩ => ⟨S1024x4x1408, .bf16⟩
  | .hbm, ⟨29, _⟩ => ⟨S4x1024x1408, .bf16⟩
  | .hbm, ⟨30, _⟩ => ⟨S2048x5632, .bf16⟩
  | .hbm, ⟨31, _⟩ => ⟨S2048x1024, .f32⟩
  | .hbm, ⟨32, _⟩ => ⟨S2048x1024, .bf16⟩
  | .hbm, ⟨33, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x5632, .bf16⟩
  | .local _ .vmem, ⟨5, _⟩ => ⟨S256x5632, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S2816x1024, .bf16⟩
  | .local _ .vmem, ⟨10, _⟩ => ⟨S4x1024x1408, .bf16⟩
  | .local _ .vmem, ⟨11, _⟩ => ⟨S256x5632, .bf16⟩
  | .local _ .vmem, ⟨12, _⟩ => ⟨S256x5632, .bf16⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev main_v22_2 : Ref sig .tc := ⟨.hbm, 32, rfl⟩
abbrev main_v22_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x1408 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnBwdReferenceIdeal.lean ====
abbrev S2048x1024 : Shape := ⟨2, ![2048, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S2048x2816 : Shape := ⟨2, ![2048, 2816]⟩
abbrev S1024 : Shape := ⟨1, ![1024]⟩

abbrev nBuf : Space → Nat
  | .hbm => 81
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1024x5632, .f32⟩
  | .hbm, ⟨4, _⟩ => ⟨S2816x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x5632, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S_, .f32⟩
  | .hbm, ⟨30, _⟩ => ⟨S2048x2816, .f32⟩
  | .hbm, ⟨31, _⟩ => ⟨S2048x2816, .f32⟩
  | .hbm, ⟨32, _⟩ => ⟨S_, .f32⟩
  | .hbm, ⟨33, _⟩ => ⟨S2048x2816, .f32⟩
  | .hbm, ⟨34, _⟩ => ⟨S2048x2816, .f32⟩
  | .hbm, ⟨35, _⟩ => ⟨S_, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S2048x1024, .f32⟩
  | .hbm, ⟨42, _⟩ => ⟨S2048x2816, .f32⟩
  | .hbm, ⟨43, _⟩ => ⟨S2048x2816, .f32⟩
  | .hbm, ⟨44, _⟩ => ⟨S2048x2816, .f32⟩
  | .hbm, ⟨45, _⟩ => ⟨S2048x2816, .f32⟩
  | .hbm, ⟨46, _⟩ => ⟨S2048x2816, .f32⟩
  | .hbm, ⟨47, _⟩ => ⟨S2048x2816, .f32⟩
  | .hbm, ⟨48, _⟩ => ⟨S2048x2816, .f32⟩
  | .hbm, ⟨49, _⟩ => ⟨S_, .f32⟩
  | .hbm, ⟨50, _⟩ => ⟨S2048x5632, .f32⟩
  | .hbm, ⟨51, _⟩ => ⟨S_, .f32⟩
  | .hbm, ⟨52, _⟩ => ⟨S2048x5632, .f32⟩
  | .hbm, ⟨53, _⟩ => ⟨S2048x5632, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S_, .f32⟩
  | .hbm, ⟨63, _⟩ => ⟨S2048, .f32⟩
  | .hbm, ⟨64, _⟩ => ⟨S2048x1, .f32⟩
  | .hbm, ⟨65, _⟩ => ⟨S2048x1024, .f32⟩
  | .hbm, ⟨66, _⟩ => ⟨S2048x1024, .f32⟩
  | .hbm, ⟨67, _⟩ => ⟨S2048x1, .f32⟩
  | .hbm, ⟨68, _⟩ => ⟨S_, .f32⟩
  | .hbm, ⟨69, _⟩ => ⟨S2048x1, .f32⟩
  | .hbm, ⟨70, _⟩ => ⟨S2048x1, .f32⟩
  | .hbm, ⟨71, _⟩ => ⟨S_, .f32⟩
  | .hbm, ⟨72, _⟩ => ⟨S2048, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x5632, .bf16⟩
  | .hbm, ⟨80, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v24 : Ref sig .tc := ⟨.hbm, 48, rfl⟩
abbrev main_cst_3 : Ref sig .tc := ⟨.hbm, 49, rfl⟩
abbrev main_v25 : Ref sig .tc := ⟨.hbm, 50, rfl⟩
abbrev main_cst_4 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_5 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_6 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_v41 : Ref sig .tc := ⟨.hbm, 70, rfl⟩
abbrev main_cst_8 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩

abbrev nD : Nat := 1
abbrev τ : Topo := Topo.v7x

variable {F : FTy → Type} [FloatOps F]
-- ==== InProjBwdKernel.lean ====
abbrev S2048x512 : Shape := ⟨2, ![2048, 512]⟩
abbrev S2048x256 : Shape := ⟨2, ![2048, 256]⟩
abbrev S2048x1024 : Shape := ⟨2, ![2048, 1024]⟩
abbrev S2048x2048 : Shape := ⟨2, ![2048, 2048]⟩
abbrev S1x1024 : Shape := ⟨2, ![1, 1024]⟩
abbrev S1024x3840 : Shape := ⟨2, ![1024, 3840]⟩
abbrev S8x128 : Shape := ⟨2, ![8, 128]⟩
abbrev S3840x1024 : Shape := ⟨2, ![3840, 1024]⟩
abbrev S1x3840 : Shape := ⟨2, ![1, 3840]⟩
abbrev S512x512 : Shape := ⟨2, ![512, 512]⟩
abbrev S512x256 : Shape := ⟨2, ![512, 256]⟩
abbrev S512x1024 : Shape := ⟨2, ![512, 1024]⟩
abbrev S512x2048 : Shape := ⟨2, ![512, 2048]⟩
abbrev S1x512 : Shape := ⟨2, ![1, 512]⟩
abbrev S512 : Shape := ⟨1, ![512]⟩
abbrev S256x1024 : Shape := ⟨2, ![256, 1024]⟩
abbrev S1x256 : Shape := ⟨2, ![1, 256]⟩
abbrev S256 : Shape := ⟨1, ![256]⟩
abbrev S1024x1024 : Shape := ⟨2, ![1024, 1024]⟩
abbrev S1024 : Shape := ⟨1, ![1024]⟩
abbrev S1x2048 : Shape := ⟨2, ![1, 2048]⟩
abbrev S2048 : Shape := ⟨1, ![2048]⟩
abbrev S512x1 : Shape := ⟨2, ![512, 1]⟩

abbrev nBuf : Space → Nat
  | .hbm => 14
  | .vmem => 19
  | .smem => 0
  | _ => 0

abbrev bufTy : (tb : Table) → Fin (tcTables nBuf tb) → BufTy
  | .hbm, ⟨0, _⟩ => ⟨S2048x512, .bf16⟩
  | .hbm, ⟨1, _⟩ => ⟨S2048x256, .f32⟩
  | .hbm, ⟨2, _⟩ => ⟨S2048x1024, .bf16⟩
  | .hbm, ⟨3, _⟩ => ⟨S2048x2048, .bf16⟩
  | .hbm, ⟨4, _⟩ => ⟨S2048x1024, .f32⟩
  | .hbm, ⟨5, _⟩ => ⟨S2048x1024, .f32⟩
  | .hbm, ⟨6, _⟩ => ⟨S1x1024, .f32⟩
  | .hbm, ⟨7, _⟩ => ⟨S1024x3840, .f32⟩
  | .hbm, ⟨8, _⟩ => ⟨S8x128, .f32⟩
  | .hbm, ⟨9, _⟩ => ⟨S1024x3840, .bf16⟩
  | .hbm, ⟨10, _⟩ => ⟨S3840x1024, .bf16⟩
  | .hbm, ⟨11, _⟩ => ⟨S2048x1024, .f32⟩
  | .hbm, ⟨12, _⟩ => ⟨S1x1024, .f32⟩
  | .hbm, ⟨13, _⟩ => ⟨S1x3840, .f32⟩
  | .local _ .vmem, ⟨0, _⟩ => ⟨S512x512, .bf16⟩
  | .local _ .vmem, ⟨1, _⟩ => ⟨S512x512, .bf16⟩
  | .local _ .vmem, ⟨2, _⟩ => ⟨S512x256, .f32⟩
  | .local _ .vmem, ⟨3, _⟩ => ⟨S512x256, .f32⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S3840x1024, .bf16⟩
  | .local _ .vmem, ⟨14, _⟩ => ⟨S8x128, .f32⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S1x3840, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3840x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x3840 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== InProjBwdReferenceIdeal.lean ====
abbrev S2048x512 : Shape := ⟨2, ![2048, 512]⟩
abbrev S2048x256 : Shape := ⟨2, ![2048, 256]⟩
abbrev S2048x1024 : Shape := ⟨2, ![2048, 1024]⟩
abbrev S2048x2048 : Shape := ⟨2, ![2048, 2048]⟩
abbrev S1x1024 : Shape := ⟨2, ![1, 1024]⟩
abbrev S1024x3840 : Shape := ⟨2, ![1024, 3840]⟩
abbrev S8x128 : Shape := ⟨2, ![8, 128]⟩
abbrev S2048x3840 : Shape := ⟨2, ![2048, 3840]⟩
abbrev S_ : Shape := ⟨0, ![]⟩
abbrev S1x3840 : Shape := ⟨2, ![1, 3840]⟩
abbrev S2048 : Shape := ⟨1, ![2048]⟩
abbrev S2048x1 : Shape := ⟨2, ![2048, 1]⟩
abbrev S3840 : Shape := ⟨1, ![3840]⟩
abbrev S1024 : Shape := ⟨1, ![1024]⟩

abbrev nBuf : Space → Nat
  | .hbm => 65
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x256, .f32⟩
  | .hbm, ⟨2, _⟩ => ⟨S2048x1024, .bf16⟩
  | .hbm, ⟨3, _⟩ => ⟨S2048x2048, .bf16⟩
  | .hbm, ⟨4, _⟩ => ⟨S2048x1024, .f32⟩
  | .hbm, ⟨5, _⟩ => ⟨S2048x1024, .f32⟩
  | .hbm, ⟨6, _⟩ => ⟨S1x1024, .f32⟩
  | .hbm, ⟨7, _⟩ => ⟨S1024x3840, .f32⟩
  | .hbm, ⟨8, _⟩ => ⟨S8x128, .f32⟩
  | .hbm, ⟨9, _⟩ => ⟨S2048x512, .f32⟩
  | .hbm, ⟨10, _⟩ => ⟨S2048x1024, .f32⟩
  | .hbm, ⟨11, _⟩ => ⟨S2048x2048, .f32⟩
  | .hbm, ⟨12, _⟩ => ⟨S2048x3840, .f32⟩
  | .hbm, ⟨13, _⟩ => ⟨S_, .f32⟩
  | .hbm, ⟨14, _⟩ => ⟨S1x3840, .f32⟩
  | .hbm, ⟨15, _⟩ => ⟨S2048x1024, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x3840, .f32⟩
  | .hbm, ⟨35, _⟩ => ⟨S2048x3840, .f32⟩
  | .hbm, ⟨36, _⟩ => ⟨S2048x3840, .f32⟩
  | .hbm, ⟨37, _⟩ => ⟨S_, .f32⟩
  | .hbm, ⟨38, _⟩ => ⟨S3840, .f32⟩
  | .hbm, ⟨39, _⟩ => ⟨S1x3840, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S2048, .f32⟩
  | .hbm, ⟨50, _⟩ => ⟨S2048x1, .f32⟩
  | .hbm, ⟨51, _⟩ => ⟨S2048x1024, .f32⟩
  | .hbm, ⟨52, _⟩ => ⟨S2048x1024, .f32⟩
  | .hbm, ⟨53, _⟩ => ⟨S2048x1, .f32⟩
  | .hbm, ⟨54, _⟩ => ⟨S_, .f32⟩
  | .hbm, ⟨55, _⟩ => ⟨S2048x1, .f32⟩
  | .hbm, ⟨56, _⟩ => ⟨S2048x1, .f32⟩
  | .hbm, ⟨57, _⟩ => ⟨S_, .f32⟩
  | .hbm, ⟨58, _⟩ => ⟨S2048, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]
-- ==== FfnOutLossKernel.lean ====
abbrev S2048x1024 : Shape := ⟨2, ![2048, 1024]⟩
abbrev S2048x2816 : Shape := ⟨2, ![2048, 2816]⟩
abbrev S2816x1024 : Shape := ⟨2, ![2816, 1024]⟩
abbrev S1x1024 : Shape := ⟨2, ![1, 1024]⟩
abbrev S1x128 : Shape := ⟨2, ![1, 128]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x2816, .bf16⟩
  | .hbm, ⟨2, _⟩ => ⟨S2816x1024, .f32⟩
  | .hbm, ⟨3, _⟩ => ⟨S1x1024, .f32⟩
  | .hbm, ⟨4, _⟩ => ⟨S2048x1024, .f32⟩
  | .hbm, ⟨5, _⟩ => ⟨S2816x1024, .bf16⟩
  | .hbm, ⟨6, _⟩ => ⟨S2048x1024, .f32⟩
  | .hbm, ⟨7, _⟩ => ⟨S2048x1024, .bf16⟩
  | .hbm, ⟨8, _⟩ => ⟨S1x1024, .f32⟩
  | .hbm, ⟨9, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x2816, .bf16⟩
  | .local _ .vmem, ⟨3, _⟩ => ⟨S256x2816, .bf16⟩
  | .local _ .vmem, ⟨4, _⟩ => ⟨S2816x1024, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnOutLossReferenceIdeal.lean ====
abbrev S2048x1024 : Shape := ⟨2, ![2048, 1024]⟩
abbrev S2048x2816 : Shape := ⟨2, ![2048, 2816]⟩
abbrev S2816x1024 : Shape := ⟨2, ![2816, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2816, .bf16⟩
  | .hbm, ⟨2, _⟩ => ⟨S2816x1024, .f32⟩
  | .hbm, ⟨3, _⟩ => ⟨S1x1024, .f32⟩
  | .hbm, ⟨4, _⟩ => ⟨S2048x1024, .f32⟩
  | .hbm, ⟨5, _⟩ => ⟨S2048x2816, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2048, .f32⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S2048, .f32⟩
  | .hbm, ⟨59, _⟩ => ⟨S2048x1, .f32⟩
  | .hbm, ⟨60, _⟩ => ⟨S2048x1024, .f32⟩
  | .hbm, ⟨61, _⟩ => ⟨S2048x1024, .f32⟩
  | .hbm, ⟨62, _⟩ => ⟨S2048x1, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S_, .f32⟩
  | .hbm, ⟨67, _⟩ => ⟨S2048, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .bf16⟩
  | .hbm, ⟨74, _⟩ => ⟨S1x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== InProjKernel.lean ====
abbrev S2048x1024 : Shape := ⟨2, ![2048, 1024]⟩
abbrev S1x1024 : Shape := ⟨2, ![1, 1024]⟩
abbrev S1024x3840 : Shape := ⟨2, ![1024, 3840]⟩
abbrev S1x3840 : Shape := ⟨2, ![1, 3840]⟩
abbrev S3840x1024 : Shape := ⟨2, ![3840, 1024]⟩
abbrev S2048x768 : Shape := ⟨2, ![2048, 768]⟩
abbrev S2048x2048 : Shape := ⟨2, ![2048, 2048]⟩
abbrev S512x1024 : Shape := ⟨2, ![512, 1024]⟩
abbrev S512x768 : Shape := ⟨2, ![512, 768]⟩
abbrev S512x2048 : Shape := ⟨2, ![512, 2048]⟩
abbrev S512 : Shape := ⟨1, ![512]⟩
abbrev S512x1 : Shape := ⟨2, ![512, 1]⟩
abbrev S768x1024 : Shape := ⟨2, ![768, 1024]⟩
abbrev S1x768 : Shape := ⟨2, ![1, 768]⟩
abbrev S1024x1024 : Shape := ⟨2, ![1024, 1024]⟩
abbrev S1x2048 : Shape := ⟨2, ![1, 2048]⟩

abbrev nBuf : Space → Nat
  | .hbm => 10
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x3840, .f32⟩
  | .hbm, ⟨3, _⟩ => ⟨S1x3840, .f32⟩
  | .hbm, ⟨4, _⟩ => ⟨S1024x3840, .bf16⟩
  | .hbm, ⟨5, _⟩ => ⟨S3840x1024, .bf16⟩
  | .hbm, ⟨6, _⟩ => ⟨S2048x1024, .bf16⟩
  | .hbm, ⟨7, _⟩ => ⟨S2048x768, .bf16⟩
  | .hbm, ⟨8, _⟩ => ⟨S2048x1024, .bf16⟩
  | .hbm, ⟨9, _⟩ => ⟨S2048x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3840x1024, .bf16⟩
  | .local _ .vmem, ⟨4, _⟩ => ⟨S1x3840, .f32⟩
  | .local _ .vmem, ⟨5, _⟩ => ⟨S512x1024, .bf16⟩
  | .local _ .vmem, ⟨6, _⟩ => ⟨S512x1024, .bf16⟩
  | .local _ .vmem, ⟨7, _⟩ => ⟨S512x768, .bf16⟩
  | .local _ .vmem, ⟨8, _⟩ => ⟨S512x768, .bf16⟩
  | .local _ .vmem, ⟨9, _⟩ => ⟨S512x1024, .bf16⟩
  | .local _ .vmem, ⟨10, _⟩ => ⟨S512x1024, .bf16⟩
  | .local _ .vmem, ⟨11, _⟩ => ⟨S512x2048, .bf16⟩
  | .local _ .vmem, ⟨12, _⟩ => ⟨S512x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3840x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3840 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InProjReferenceIdeal.lean ====
abbrev S2048x1024 : Shape := ⟨2, ![2048, 1024]⟩
abbrev S1x1024 : Shape := ⟨2, ![1, 1024]⟩
abbrev S1024x3840 : Shape := ⟨2, ![1024, 3840]⟩
abbrev S1x3840 : Shape := ⟨2, ![1, 3840]⟩
abbrev S_ : Shape := ⟨0, ![]⟩
abbrev S2048 : Shape := ⟨1, ![2048]⟩
abbrev S2048x1 : Shape := ⟨2, ![2048, 1]⟩
abbrev S2048x3840 : Shape := ⟨2, ![2048, 3840]⟩
abbrev S2048x768 : Shape := ⟨2, ![2048, 768]⟩
abbrev S2048x2048 : Shape := ⟨2, ![2048, 2048]⟩

abbrev nBuf : Space → Nat
  | .hbm => 42
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x3840, .f32⟩
  | .hbm, ⟨3, _⟩ => ⟨S1x3840, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x3840, .f32⟩
  | .hbm, ⟨20, _⟩ => ⟨S2048x3840, .f32⟩
  | .hbm, ⟨21, _⟩ => ⟨S2048x3840, .f32⟩
  | .hbm, ⟨22, _⟩ => ⟨S2048x3840, .bf16⟩
  | .hbm, ⟨23, _⟩ => ⟨S2048x1024, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .bf16⟩
  | .hbm, ⟨39, _⟩ => ⟨S2048x768, .bf16⟩
  | .hbm, ⟨40, _⟩ => ⟨S2048x1024, .bf16⟩
  | .hbm, ⟨41, _⟩ => ⟨S2048x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== FfnInFirstKernel.lean ====
abbrev S2048x1024 : Shape := ⟨2, ![2048, 1024]⟩
abbrev S1x1024 : Shape := ⟨2, ![1, 1024]⟩
abbrev S1024x5632 : Shape := ⟨2, ![1024, 5632]⟩
abbrev S8x128 : Shape := ⟨2, ![8, 128]⟩
abbrev S1024x4x1408 : Shape := ⟨3, ![1024, 4, 1408]⟩
abbrev S4x1024x1408 : Shape := ⟨3, ![4, 1024, 1408]⟩
abbrev S2048x5632 : Shape := ⟨2, ![2048, 5632]⟩
abbrev S2048x2816 : Shape := ⟨2, ![2048, 2816]⟩
abbrev S512x1024 : Shape := ⟨2, ![512, 1024]⟩
abbrev S1x1024x1408 : Shape := ⟨3, ![1, 1024, 1408]⟩
abbrev S512x2816 : Shape := ⟨2, ![512, 2816]⟩
abbrev S512x1408 : Shape := ⟨2, ![512, 1408]⟩
abbrev S512 : Shape := ⟨1, ![512]⟩
abbrev S512x1 : Shape := ⟨2, ![512, 1]⟩
abbrev S1024x1408 : Shape := ⟨2, ![1024, 1408]⟩
abbrev S2048x1408 : Shape := ⟨2, ![2048, 1408]⟩

abbrev nBuf : Space → Nat
  | .hbm => 12
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .f32⟩
  | .hbm, ⟨3, _⟩ => ⟨S8x128, .f32⟩
  | .hbm, ⟨4, _⟩ => ⟨S1024x5632, .bf16⟩
  | .hbm, ⟨5, _⟩ => ⟨S1024x4x1408, .bf16⟩
  | .hbm, ⟨6, _⟩ => ⟨S4x1024x1408, .bf16⟩
  | .hbm, ⟨7, _⟩ => ⟨S2048x1024, .bf16⟩
  | .hbm, ⟨8, _⟩ => ⟨S2048x5632, .bf16⟩
  | .hbm, ⟨9, _⟩ => ⟨S2048x2816, .bf16⟩
  | .hbm, ⟨10, _⟩ => ⟨S2048x2816, .bf16⟩
  | .hbm, ⟨11, _⟩ => ⟨S2048x1408, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S8x128, .f32⟩
  | .local _ .vmem, ⟨6, _⟩ => ⟨S512x1024, .bf16⟩
  | .local _ .vmem, ⟨7, _⟩ => ⟨S512x1024, .bf16⟩
  | .local _ .vmem, ⟨8, _⟩ => ⟨S512x2816, .bf16⟩
  | .local _ .vmem, ⟨9, _⟩ => ⟨S512x2816, .bf16⟩
  | .local _ .vmem, ⟨10, _⟩ => ⟨S512x1408, .bf16⟩
  | .local _ .vmem, ⟨11, _⟩ => ⟨S512x1408, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnInFirstReferenceIdeal.lean ====
abbrev S2048x1024 : Shape := ⟨2, ![2048, 1024]⟩
abbrev S1x1024 : Shape := ⟨2, ![1, 1024]⟩
abbrev S1024x5632 : Shape := ⟨2, ![1024, 5632]⟩
abbrev S8x128 : Shape := ⟨2, ![8, 128]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S2048x2816 : Shape := ⟨2, ![2048, 2816]⟩
abbrev S2048x1408 : Shape := ⟨2, ![2048, 1408]⟩

abbrev nBuf : Space → Nat
  | .hbm => 41
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5632, .f32⟩
  | .hbm, ⟨3, _⟩ => ⟨S8x128, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x5632, .f32⟩
  | .hbm, ⟨20, _⟩ => ⟨S2048x2816, .f32⟩
  | .hbm, ⟨21, _⟩ => ⟨S2048x2816, .f32⟩
  | .hbm, ⟨22, _⟩ => ⟨S2048x1024, .bf16⟩
  | .hbm, ⟨23, _⟩ => ⟨S2048x1408, .f32⟩
  | .hbm, ⟨24, _⟩ => ⟨S2048x1408, .f32⟩
  | .hbm, ⟨25, _⟩ => ⟨S2048x2816, .f32⟩
  | .hbm, ⟨26, _⟩ => ⟨S2048x2816, .bf16⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S_, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x1408, .f32⟩
  | .hbm, ⟨40, _⟩ => ⟨S2048x1408, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== FfnInSecondKernel.lean ====
abbrev S2048x1024 : Shape := ⟨2, ![2048, 1024]⟩
abbrev S1024x5632 : Shape := ⟨2, ![1024, 5632]⟩
abbrev S2048x5632 : Shape := ⟨2, ![2048, 5632]⟩
abbrev S2048x2816 : Shape := ⟨2, ![2048, 2816]⟩
abbrev S8x128 : Shape := ⟨2, ![8, 128]⟩
abbrev S1024x4x1408 : Shape := ⟨3, ![1024, 4, 1408]⟩
abbrev S4x1024x1408 : Shape := ⟨3, ![4, 1024, 1408]⟩
abbrev S512x1024 : Shape := ⟨2, ![512, 1024]⟩
abbrev S1x1024x1408 : Shape := ⟨3, ![1, 1024, 1408]⟩
abbrev S512x2816 : Shape := ⟨2, ![512, 2816]⟩
abbrev S512x1408 : Shape := ⟨2, ![512, 1408]⟩
abbrev S1024x1408 : Shape := ⟨2, ![1024, 1408]⟩

abbrev nBuf : Space → Nat
  | .hbm => 10
  | .vmem => 9
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .f32⟩
  | .hbm, ⟨2, _⟩ => ⟨S2048x5632, .bf16⟩
  | .hbm, ⟨3, _⟩ => ⟨S2048x2816, .bf16⟩
  | .hbm, ⟨4, _⟩ => ⟨S8x128, .f32⟩
  | .hbm, ⟨5, _⟩ => ⟨S1024x5632, .bf16⟩
  | .hbm, ⟨6, _⟩ => ⟨S1024x4x1408, .bf16⟩
  | .hbm, ⟨7, _⟩ => ⟨S4x1024x1408, .bf16⟩
  | .hbm, ⟨8, _⟩ => ⟨S2048x5632, .bf16⟩
  | .hbm, ⟨9, _⟩ => ⟨S2048x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S8x128, .f32⟩
  | .local _ .vmem, ⟨5, _⟩ => ⟨S512x2816, .bf16⟩
  | .local _ .vmem, ⟨6, _⟩ => ⟨S512x2816, .bf16⟩
  | .local _ .vmem, ⟨7, _⟩ => ⟨S512x1408, .bf16⟩
  | .local _ .vmem, ⟨8, _⟩ => ⟨S512x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnInSecondReferenceIdeal.lean ====
abbrev S2048x1024 : Shape := ⟨2, ![2048, 1024]⟩
abbrev S1024x5632 : Shape := ⟨2, ![1024, 5632]⟩
abbrev S2048x5632 : Shape := ⟨2, ![2048, 5632]⟩
abbrev S2048x2816 : Shape := ⟨2, ![2048, 2816]⟩
abbrev S8x128 : Shape := ⟨2, ![8, 128]⟩
abbrev S2048x1408 : Shape := ⟨2, ![2048, 1408]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .f32⟩
  | .hbm, ⟨2, _⟩ => ⟨S2048x5632, .bf16⟩
  | .hbm, ⟨3, _⟩ => ⟨S2048x2816, .bf16⟩
  | .hbm, ⟨4, _⟩ => ⟨S8x128, .f32⟩
  | .hbm, ⟨5, _⟩ => ⟨S2048x1024, .f32⟩
  | .hbm, ⟨6, _⟩ => ⟨S2048x5632, .f32⟩
  | .hbm, ⟨7, _⟩ => ⟨S2048x2816, .f32⟩
  | .hbm, ⟨8, _⟩ => ⟨S2048x2816, .f32⟩
  | .hbm, ⟨9, _⟩ => ⟨S2048x2816, .bf16⟩
  | .hbm, ⟨10, _⟩ => ⟨S2048x1408, .f32⟩
  | .hbm, ⟨11, _⟩ => ⟨S2048x1408, .bf16⟩
  | .hbm, ⟨12, _⟩ => ⟨S2048x1408, .f32⟩
  | .hbm, ⟨13, _⟩ => ⟨S2048x1408, .bf16⟩
  | .hbm, ⟨14, _⟩ => ⟨S2048x5632, .bf16⟩
  | .hbm, ⟨15, _⟩ => ⟨S2048x1408, .bf16⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S_, .f32⟩
  | .hbm, ⟨21, _⟩ => ⟨S2048x2816, .f32⟩
  | .hbm, ⟨22, _⟩ => ⟨S2048x2816, .f32⟩
  | .hbm, ⟨23, _⟩ => ⟨S_, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S2048x1408, .f32⟩
  | .hbm, ⟨29, _⟩ => ⟨S2048x1408, .bf16⟩
  | .hbm, ⟨30, _⟩ => ⟨S2048x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]
-- ==== MixOutFirstKernel.lean ====
abbrev S2048x1024 : Shape := ⟨2, ![2048, 1024]⟩
abbrev S2048x512 : Shape := ⟨2, ![2048, 512]⟩
abbrev S2048x2048 : Shape := ⟨2, ![2048, 2048]⟩
abbrev S512x1024 : Shape := ⟨2, ![512, 1024]⟩
abbrev S1x1024 : Shape := ⟨2, ![1, 1024]⟩
abbrev S1024x1024 : Shape := ⟨2, ![1024, 1024]⟩
abbrev S8x128 : Shape := ⟨2, ![8, 128]⟩
abbrev S512x4x256 : Shape := ⟨3, ![512, 4, 256]⟩
abbrev S4x512x256 : Shape := ⟨3, ![4, 512, 256]⟩
abbrev S512x512 : Shape := ⟨2, ![512, 512]⟩
abbrev S512x2048 : Shape := ⟨2, ![512, 2048]⟩
abbrev S1x512x256 : Shape := ⟨3, ![1, 512, 256]⟩
abbrev S512x256 : Shape := ⟨2, ![512, 256]⟩

abbrev nBuf : Space → Nat
  | .hbm => 24
  | .vmem => 21
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x512, .bf16⟩
  | .hbm, ⟨3, _⟩ => ⟨S2048x2048, .bf16⟩
  | .hbm, ⟨4, _⟩ => ⟨S512x1024, .f32⟩
  | .hbm, ⟨5, _⟩ => ⟨S512x1024, .f32⟩
  | .hbm, ⟨6, _⟩ => ⟨S1x1024, .f32⟩
  | .hbm, ⟨7, _⟩ => ⟨S1024x1024, .f32⟩
  | .hbm, ⟨8, _⟩ => ⟨S8x128, .f32⟩
  | .hbm, ⟨9, _⟩ => ⟨S512x1024, .bf16⟩
  | .hbm, ⟨10, _⟩ => ⟨S512x4x256, .bf16⟩
  | .hbm, ⟨11, _⟩ => ⟨S4x512x256, .bf16⟩
  | .hbm, ⟨12, _⟩ => ⟨S512x1024, .bf16⟩
  | .hbm, ⟨13, _⟩ => ⟨S512x4x256, .bf16⟩
  | .hbm, ⟨14, _⟩ => ⟨S4x512x256, .bf16⟩
  | .hbm, ⟨15, _⟩ => ⟨S1024x1024, .bf16⟩
  | .hbm, ⟨16, _⟩ => ⟨S2048x1024, .bf16⟩
  | .hbm, ⟨17, _⟩ => ⟨S2048x1024, .bf16⟩
  | .hbm, ⟨18, _⟩ => ⟨S2048x1024, .bf16⟩
  | .hbm, ⟨19, _⟩ => ⟨S2048x1024, .f32⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S4x512x256, .bf16⟩
  | .local _ .vmem, ⟨9, _⟩ => ⟨S4x512x256, .bf16⟩
  | .local _ .vmem, ⟨10, _⟩ => ⟨S1x1024, .f32⟩
  | .local _ .vmem, ⟨11, _⟩ => ⟨S1024x1024, .bf16⟩
  | .local _ .vmem, ⟨12, _⟩ => ⟨S8x128, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_12 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixOutFirstReferenceIdeal.lean ====
abbrev S2048x1024 : Shape := ⟨2, ![2048, 1024]⟩
abbrev S2048x512 : Shape := ⟨2, ![2048, 512]⟩
abbrev S2048x2048 : Shape := ⟨2, ![2048, 2048]⟩
abbrev S512x1024 : Shape := ⟨2, ![512, 1024]⟩
abbrev S1x1024 : Shape := ⟨2, ![1, 1024]⟩
abbrev S1024x1024 : Shape := ⟨2, ![1024, 1024]⟩
abbrev S8x128 : Shape := ⟨2, ![8, 128]⟩
abbrev S1024 : Shape := ⟨1, ![1024]⟩
abbrev S2048x2x1024 : Shape := ⟨3, ![2048, 2, 1024]⟩
abbrev S_ : Shape := ⟨0, ![]⟩
abbrev S2048x1x1024 : Shape := ⟨3, ![2048, 1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x512, .bf16⟩
  | .hbm, ⟨3, _⟩ => ⟨S2048x2048, .bf16⟩
  | .hbm, ⟨4, _⟩ => ⟨S512x1024, .f32⟩
  | .hbm, ⟨5, _⟩ => ⟨S512x1024, .f32⟩
  | .hbm, ⟨6, _⟩ => ⟨S1x1024, .f32⟩
  | .hbm, ⟨7, _⟩ => ⟨S1024x1024, .f32⟩
  | .hbm, ⟨8, _⟩ => ⟨S8x128, .f32⟩
  | .hbm, ⟨9, _⟩ => ⟨S2048x512, .f32⟩
  | .hbm, ⟨10, _⟩ => ⟨S2048x1024, .f32⟩
  | .hbm, ⟨11, _⟩ => ⟨S2048x512, .f32⟩
  | .hbm, ⟨12, _⟩ => ⟨S2048x1024, .f32⟩
  | .hbm, ⟨13, _⟩ => ⟨S1024, .f32⟩
  | .hbm, ⟨14, _⟩ => ⟨S1x1024, .f32⟩
  | .hbm, ⟨15, _⟩ => ⟨S2048x1024, .f32⟩
  | .hbm, ⟨16, _⟩ => ⟨S2048x1024, .f32⟩
  | .hbm, ⟨17, _⟩ => ⟨S2048x2048, .f32⟩
  | .hbm, ⟨18, _⟩ => ⟨S2048x2x1024, .f32⟩
  | .hbm, ⟨19, _⟩ => ⟨S2048x2x1024, .f32⟩
  | .hbm, ⟨20, _⟩ => ⟨S2048x2x1024, .f32⟩
  | .hbm, ⟨21, _⟩ => ⟨S_, .f32⟩
  | .hbm, ⟨22, _⟩ => ⟨S2048x2x1024, .f32⟩
  | .hbm, ⟨23, _⟩ => ⟨S2048x2x1024, .f32⟩
  | .hbm, ⟨24, _⟩ => ⟨S_, .f32⟩
  | .hbm, ⟨25, _⟩ => ⟨S2048x2x1024, .f32⟩
  | .hbm, ⟨26, _⟩ => ⟨S2048x2x1024, .f32⟩
  | .hbm, ⟨27, _⟩ => ⟨S2048x1x1024, .f32⟩
  | .hbm, ⟨28, _⟩ => ⟨S2048x1024, .f32⟩
  | .hbm, ⟨29, _⟩ => ⟨S2048x1024, .f32⟩
  | .hbm, ⟨30, _⟩ => ⟨S2048x1x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .bf16⟩
  | .hbm, ⟨35, _⟩ => ⟨S2048x1024, .bf16⟩
  | .hbm, ⟨36, _⟩ => ⟨S2048x1024, .bf16⟩
  | .hbm, ⟨37, _⟩ => ⟨S2048x1024, .f32⟩
  | .hbm, ⟨38, _⟩ => ⟨S2048x1024, .f32⟩
  | .hbm, ⟨39, _⟩ => ⟨S1024x1024, .bf16⟩
  | .hbm, ⟨40, _⟩ => ⟨S1024x1024, .bf16⟩
  | .hbm, ⟨41, _⟩ => ⟨S1024x1024, .bf16⟩
  | .hbm, ⟨42, _⟩ => ⟨S1024x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== MixOutSecondKernel.lean ====
abbrev S2048x1024 : Shape := ⟨2, ![2048, 1024]⟩
abbrev S2048x512 : Shape := ⟨2, ![2048, 512]⟩
abbrev S2048x2048 : Shape := ⟨2, ![2048, 2048]⟩
abbrev S512x1024 : Shape := ⟨2, ![512, 1024]⟩
abbrev S1x1024 : Shape := ⟨2, ![1, 1024]⟩
abbrev S1024x1024 : Shape := ⟨2, ![1024, 1024]⟩
abbrev S8x128 : Shape := ⟨2, ![8, 128]⟩
abbrev S512x4x256 : Shape := ⟨3, ![512, 4, 256]⟩
abbrev S4x512x256 : Shape := ⟨3, ![4, 512, 256]⟩
abbrev S512x512 : Shape := ⟨2, ![512, 512]⟩
abbrev S512x2048 : Shape := ⟨2, ![512, 2048]⟩
abbrev S1x512x256 : Shape := ⟨3, ![1, 512, 256]⟩
abbrev S512x256 : Shape := ⟨2, ![512, 256]⟩

abbrev nBuf : Space → Nat
  | .hbm => 24
  | .vmem => 21
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x512, .bf16⟩
  | .hbm, ⟨3, _⟩ => ⟨S2048x2048, .bf16⟩
  | .hbm, ⟨4, _⟩ => ⟨S512x1024, .f32⟩
  | .hbm, ⟨5, _⟩ => ⟨S512x1024, .f32⟩
  | .hbm, ⟨6, _⟩ => ⟨S1x1024, .f32⟩
  | .hbm, ⟨7, _⟩ => ⟨S1024x1024, .f32⟩
  | .hbm, ⟨8, _⟩ => ⟨S8x128, .f32⟩
  | .hbm, ⟨9, _⟩ => ⟨S2048x1024, .bf16⟩
  | .hbm, ⟨10, _⟩ => ⟨S2048x1024, .bf16⟩
  | .hbm, ⟨11, _⟩ => ⟨S2048x1024, .bf16⟩
  | .hbm, ⟨12, _⟩ => ⟨S2048x1024, .f32⟩
  | .hbm, ⟨13, _⟩ => ⟨S512x1024, .bf16⟩
  | .hbm, ⟨14, _⟩ => ⟨S512x4x256, .bf16⟩
  | .hbm, ⟨15, _⟩ => ⟨S4x512x256, .bf16⟩
  | .hbm, ⟨16, _⟩ => ⟨S512x1024, .bf16⟩
  | .hbm, ⟨17, _⟩ => ⟨S512x4x256, .bf16⟩
  | .hbm, ⟨18, _⟩ => ⟨S4x512x256, .bf16⟩
  | .hbm, ⟨19, _⟩ => ⟨S1024x1024, .bf16⟩
  | .hbm, ⟨20, _⟩ => ⟨S2048x1024, .bf16⟩
  | .hbm, ⟨21, _⟩ => ⟨S2048x1024, .bf16⟩
  | .hbm, ⟨22, _⟩ => ⟨S2048x1024, .bf16⟩
  | .hbm, ⟨23, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S512x2048, .bf16⟩
  | .local _ .vmem, ⟨8, _⟩ => ⟨S4x512x256, .bf16⟩
  | .local _ .vmem, ⟨9, _⟩ => ⟨S4x512x256, .bf16⟩
  | .local _ .vmem, ⟨10, _⟩ => ⟨S1x1024, .f32⟩
  | .local _ .vmem, ⟨11, _⟩ => ⟨S1024x1024, .bf16⟩
  | .local _ .vmem, ⟨12, _⟩ => ⟨S8x128, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .f32⟩
  | .local _ .vmem, ⟨20, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev main_v7_3 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixOutSecondReferenceIdeal.lean ====
abbrev S2048x1024 : Shape := ⟨2, ![2048, 1024]⟩
abbrev S2048x512 : Shape := ⟨2, ![2048, 512]⟩
abbrev S2048x2048 : Shape := ⟨2, ![2048, 2048]⟩
abbrev S512x1024 : Shape := ⟨2, ![512, 1024]⟩
abbrev S1x1024 : Shape := ⟨2, ![1, 1024]⟩
abbrev S1024x1024 : Shape := ⟨2, ![1024, 1024]⟩
abbrev S8x128 : Shape := ⟨2, ![8, 128]⟩
abbrev S1024 : Shape := ⟨1, ![1024]⟩
abbrev S2048x2x1024 : Shape := ⟨3, ![2048, 2, 1024]⟩
abbrev S_ : Shape := ⟨0, ![]⟩
abbrev S2048x1x1024 : Shape := ⟨3, ![2048, 1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x512, .bf16⟩
  | .hbm, ⟨2, _⟩ => ⟨S2048x512, .bf16⟩
  | .hbm, ⟨3, _⟩ => ⟨S2048x2048, .bf16⟩
  | .hbm, ⟨4, _⟩ => ⟨S512x1024, .f32⟩
  | .hbm, ⟨5, _⟩ => ⟨S512x1024, .f32⟩
  | .hbm, ⟨6, _⟩ => ⟨S1x1024, .f32⟩
  | .hbm, ⟨7, _⟩ => ⟨S1024x1024, .f32⟩
  | .hbm, ⟨8, _⟩ => ⟨S8x128, .f32⟩
  | .hbm, ⟨9, _⟩ => ⟨S2048x1024, .bf16⟩
  | .hbm, ⟨10, _⟩ => ⟨S2048x1024, .bf16⟩
  | .hbm, ⟨11, _⟩ => ⟨S2048x1024, .bf16⟩
  | .hbm, ⟨12, _⟩ => ⟨S2048x1024, .f32⟩
  | .hbm, ⟨13, _⟩ => ⟨S2048x512, .f32⟩
  | .hbm, ⟨14, _⟩ => ⟨S2048x1024, .f32⟩
  | .hbm, ⟨15, _⟩ => ⟨S2048x512, .f32⟩
  | .hbm, ⟨16, _⟩ => ⟨S2048x1024, .f32⟩
  | .hbm, ⟨17, _⟩ => ⟨S1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x2048, .f32⟩
  | .hbm, ⟨22, _⟩ => ⟨S2048x2x1024, .f32⟩
  | .hbm, ⟨23, _⟩ => ⟨S2048x2x1024, .f32⟩
  | .hbm, ⟨24, _⟩ => ⟨S2048x2x1024, .f32⟩
  | .hbm, ⟨25, _⟩ => ⟨S_, .f32⟩
  | .hbm, ⟨26, _⟩ => ⟨S2048x2x1024, .f32⟩
  | .hbm, ⟨27, _⟩ => ⟨S2048x2x1024, .f32⟩
  | .hbm, ⟨28, _⟩ => ⟨S_, .f32⟩
  | .hbm, ⟨29, _⟩ => ⟨S2048x2x1024, .f32⟩
  | .hbm, ⟨30, _⟩ => ⟨S2048x2x1024, .f32⟩
  | .hbm, ⟨31, _⟩ => ⟨S2048x1x1024, .f32⟩
  | .hbm, ⟨32, _⟩ => ⟨S2048x1024, .f32⟩
  | .hbm, ⟨33, _⟩ => ⟨S2048x1024, .f32⟩
  | .hbm, ⟨34, _⟩ => ⟨S2048x1x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .bf16⟩
  | .hbm, ⟨39, _⟩ => ⟨S2048x1024, .bf16⟩
  | .hbm, ⟨40, _⟩ => ⟨S2048x1024, .bf16⟩
  | .hbm, ⟨41, _⟩ => ⟨S2048x1024, .f32⟩
  | .hbm, ⟨42, _⟩ => ⟨S2048x1024, .f32⟩
  | .hbm, ⟨43, _⟩ => ⟨S1024x1024, .bf16⟩
  | .hbm, ⟨44, _⟩ => ⟨S1024x1024, .bf16⟩
  | .hbm, ⟨45, _⟩ => ⟨S2048x1024, .bf16⟩
  | .hbm, ⟨46, _⟩ => ⟨S1024x1024, .bf16⟩
  | .hbm, ⟨47, _⟩ => ⟨S1024x1024, .bf16⟩
  | .hbm, ⟨48, _⟩ => ⟨S2048x1024, .bf16⟩
  | .hbm, ⟨49, _⟩ => ⟨S1024x1024, .bf16⟩
  | .hbm, ⟨50, _⟩ => ⟨S1024x1024, .bf16⟩
  | .hbm, ⟨51, _⟩ => ⟨S2048x1024, .bf16⟩
  | .hbm, ⟨52, _⟩ => ⟨S1024x1024, .f32⟩
  | .hbm, ⟨53, _⟩ => ⟨S1024x1024, .f32⟩
  | .hbm, ⟨54, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== AttnFwdKernel.lean ====
abbrev S2048x768 : Shape := ⟨2, ![2048, 768]⟩
abbrev S1x8 : Shape := ⟨2, ![1, 8]⟩
abbrev S2048x512 : Shape := ⟨2, ![2048, 512]⟩
abbrev S2048x8 : Shape := ⟨2, ![2048, 8]⟩
abbrev S32x512x256 : Shape := ⟨3, ![32, 512, 256]⟩
abbrev S256x512 : Shape := ⟨2, ![256, 512]⟩
abbrev S256x8 : Shape := ⟨2, ![256, 8]⟩
abbrev S4x512x256 : Shape := ⟨3, ![4, 512, 256]⟩
abbrev S512x256 : Shape := ⟨2, ![512, 256]⟩
abbrev S256x64 : Shape := ⟨2, ![256, 64]⟩
abbrev S128x64 : Shape := ⟨2, ![128, 64]⟩
abbrev S128x256 : Shape := ⟨2, ![128, 256]⟩
abbrev S1x128x256 : Shape := ⟨3, ![1, 128, 256]⟩
abbrev S1x512x256 : Shape := ⟨3, ![1, 512, 256]⟩
abbrev S512x1 : Shape := ⟨2, ![512, 1]⟩
abbrev S1x1 : Shape := ⟨2, ![1, 1]⟩
abbrev S512 : Shape := ⟨1, ![512]⟩
abbrev S128x1 : Shape := ⟨2, ![128, 1]⟩

abbrev nBuf : Space → Nat
  | .hbm => 5
  | .vmem => 8
  | .smem => 1
  | _ => 0

abbrev bufTy : (tb : Table) → Fin (tcTables nBuf tb) → BufTy
  | .hbm, ⟨0, _⟩ => ⟨S2048x768, .bf16⟩
  | .hbm, ⟨1, _⟩ => ⟨S1x8, .f32⟩
  | .hbm, ⟨2, _⟩ => ⟨S2048x512, .bf16⟩
  | .hbm, ⟨3, _⟩ => ⟨S2048x8, .f32⟩
  | .hbm, ⟨4, _⟩ => ⟨S32x512x256, .bf16⟩
  | .local _ .vmem, ⟨0, _⟩ => ⟨S2048x768, .bf16⟩
  | .local _ .vmem, ⟨1, _⟩ => ⟨S256x512, .bf16⟩
  | .local _ .vmem, ⟨2, _⟩ => ⟨S256x512, .bf16⟩
  | .local _ .vmem, ⟨3, _⟩ => ⟨S256x8, .f32⟩
  | .local _ .vmem, ⟨4, _⟩ => ⟨S256x8, .f32⟩
  | .local _ .vmem, ⟨5, _⟩ => ⟨S4x512x256, .bf16⟩
  | .local _ .vmem, ⟨6, _⟩ => ⟨S4x512x256, .bf16⟩
  | .local _ .vmem, ⟨7, _⟩ => ⟨S4x512x256, .f32⟩
  | .local _ .smem, ⟨0, _⟩ => ⟨S1x8, .f32⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c1_i32 : BitVec 32 := 1#32
  let v2 : BitVec 32 := Scalar.subi v1 c1_i32
  let c0_i32_0 : BitVec 32 := 0#32
  let v3 : BitVec 32 := Scalar.maxsi v2 c0_i32_0
  let c128_i32 : BitVec 32 := 128#32
  let v4 : BitVec 32 := Scalar.muli v3 c128_i32
  v4
def k0_mult2 (i : grid0.Coords) : BitVec 32 :=
  let arg0 : BitVec 32 := BitVec.ofNat 32 (i 0).val
  let c2_i32_3 : BitVec 32 := 2#32
  let v20 : BitVec 32 := Scalar.muli arg0 c2_i32_3
  let c1_i32_4 : BitVec 32 := 1#32
  let v21 : BitVec 32 := Scalar.addi v20 c1_i32_4
  let c1_i32_5 : BitVec 32 := 1#32
  let v22 : BitVec 32 := Scalar.subi v21 c1_i32_5
  let c0_i32_6 : BitVec 32 := 0#32
  let v23 : BitVec 32 := Scalar.maxsi v22 c0_i32_6
  let c128_i32_7 : BitVec 32 := 128#32
  let v24 : BitVec 32 := Scalar.muli v23 c128_i32_7
  v24
def k0_mult3 (i : grid0.Coords) : BitVec 32 :=
  let arg0 : BitVec 32 := BitVec.ofNat 32 (i 0).val
  let c2_i32_11 : BitVec 32 := 2#32
  let v40 : BitVec 32 := Scalar.muli arg0 c2_i32_11
  let c0_i32_12 : BitVec 32 := 0#32
  let v41 : BitVec 32 := Scalar.addi v40 c0_i32_12
  let c128_i32_13 : BitVec 32 := 128#32
  let v42 : BitVec 32 := Scalar.muli v41 c128_i32_13
  v42
def k0_off1 (i : grid0.Coords) (c0_i32 : BitVec 32) : Fin 2 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let c1_i32 : BitVec 32 := 1#32
  let v2 : BitVec 32 := Scalar.subi v1 c1_i32
  let c0_i32_0 : BitVec 32 := 0#32
  let v3 : BitVec 32 := Scalar.maxsi v2 c0_i32_0
  let c128_i32 : BitVec 32 := 128#32
  let v4 : BitVec 32 := Scalar.muli v3 c128_i32
  let v5 : BitVec 32 := v4
  let v44 : Index := Scalar.indexCast v5
  let c512 : Index := 512#32
  ![v44.toNat, 512]
def k0_off2 (i : grid0.Coords) (c0_i32_12 : BitVec 32) : Fin 2 → Nat :=
  let arg0 : BitVec 32 := BitVec.ofNat 32 (i 0).val
  let c2_i32_11 : BitVec 32 := 2#32
  let v40 : BitVec 32 := Scalar.muli arg0 c2_i32_11
  let v41 : BitVec 32 := Scalar.addi v40 c0_i32_12
  let c128_i32_13 : BitVec 32 := 128#32
  let v42 : BitVec 32 := Scalar.muli v41 c128_i32_13
  let v43 : BitVec 32 := v42
  let v46 : Index := Scalar.indexCast v43
  let c0 : Index := 0#32
  ![v46.toNat, 0]
def k0_off3 (i : grid0.Coords) (c0_i32_12 : BitVec 32) : Fin 2 → Nat :=
  let arg0 : BitVec 32 := BitVec.ofNat 32 (i 0).val
  let c2_i32_11 : BitVec 32 := 2#32
  let v40 : BitVec 32 := Scalar.muli arg0 c2_i32_11
  let v41 : BitVec 32 := Scalar.addi v40 c0_i32_12
  let c128_i32_13 : BitVec 32 := 128#32
  let v42 : BitVec 32 := Scalar.muli v41 c128_i32_13
  let v43 : BitVec 32 := v42
  let v52 : Index := Scalar.indexCast v43
  let c64 : Index := 64#32
  ![v52.toNat, 64]
def k0_off4 (i : grid0.Coords) (c0_i32_12 : BitVec 32) : Fin 2 → Nat :=
  let arg0 : BitVec 32 := BitVec.ofNat 32 (i 0).val
  let c2_i32_11 : BitVec 32 := 2#32
  let v40 : BitVec 32 := Scalar.muli arg0 c2_i32_11
  let v41 : BitVec 32 := Scalar.addi v40 c0_i32_12
  let c128_i32_13 : BitVec 32 := 128#32
  let v42 : BitVec 32 := Scalar.muli v41 c128_i32_13
  let v43 : BitVec 32 := v42
  let v58 : Index := Scalar.indexCast v43
  let c128_20 : Index := 128#32
  ![v58.toNat, 128]
def k0_off5 (i : grid0.Coords) (c0_i32_12 : BitVec 32) : Fin 2 → Nat :=
  let arg0 : BitVec 32 := BitVec.ofNat 32 (i 0).val
  let c2_i32_11 : BitVec 32 := 2#32
  let v40 : BitVec 32 := Scalar.muli arg0 c2_i32_11
  let v41 : BitVec 32 := Scalar.addi v40 c0_i32_12
  let c128_i32_13 : BitVec 32 := 128#32
  let v42 : BitVec 32 := Scalar.muli v41 c128_i32_13
  let v43 : BitVec 32 := v42
  let v64 : Index := Scalar.indexCast v43
  let c192 : Index := 192#32
  ![v64.toNat, 192]
def k0_mult4 (i : grid0.Coords) : BitVec 32 :=
  let arg0 : BitVec 32 := BitVec.ofNat 32 (i 0).val
  let c2_i32_27 : BitVec 32 := 2#32
  let v70 : BitVec 32 := Scalar.muli arg0 c2_i32_27
  let c0_i32_28 : BitVec 32 := 0#32
  let v71 : BitVec 32 := Scalar.addi v70 c0_i32_28
  let c128_i32_29 : BitVec 32 := 128#32
  let v72 : BitVec 32 := Scalar.muli v71 c128_i32_29
  v72
def k0_off6 (i : grid0.Coords) (c0_i32 : BitVec 32) : Fin 2 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let c1_i32 : BitVec 32 := 1#32
  let v2 : BitVec 32 := Scalar.subi v1 c1_i32
  let c0_i32_0 : BitVec 32 := 0#32
  let v3 : BitVec 32 := Scalar.maxsi v2 c0_i32_0
  let c128_i32 : BitVec 32 := 128#32
  let v4 : BitVec 32 := Scalar.muli v3 c128_i32
  let v5 : BitVec 32 := v4
  let v74 : Index := Scalar.indexCast v5
  let c576 : Index := 576#32
  ![v74.toNat, 576]
def k0_off7 (i : grid0.Coords) (c0_i32_28 : BitVec 32) : Fin 2 → Nat :=
  let arg0 : BitVec 32 := BitVec.ofNat 32 (i 0).val
  let c2_i32_27 : BitVec 32 := 2#32
  let v70 : BitVec 32 := Scalar.muli arg0 c2_i32_27
  let v71 : BitVec 32 := Scalar.addi v70 c0_i32_28
  let c128_i32_29 : BitVec 32 := 128#32
  let v72 : BitVec 32 := Scalar.muli v71 c128_i32_29
  let v73 : BitVec 32 := v72
  let v76 : Index := Scalar.indexCast v73
  let c256_30 : Index := 256#32
  ![v76.toNat, 256]
def k0_off8 (i : grid0.Coords) (c0_i32_28 : BitVec 32) : Fin 2 → Nat :=
  let arg0 : BitVec 32 := BitVec.ofNat 32 (i 0).val
  let c2_i32_27 : BitVec 32 := 2#32
  let v70 : BitVec 32 := Scalar.muli arg0 c2_i32_27
  let v71 : BitVec 32 := Scalar.addi v70 c0_i32_28
  let c128_i32_29 : BitVec 32 := 128#32
  let v72 : BitVec 32 := Scalar.muli v71 c128_i32_29
  let v73 : BitVec 32 := v72
  let v82 : Index := Scalar.indexCast v73
  let c320 : Index := 320#32
  ![v82.toNat, 320]
def k0_off9 (i : grid0.Coords) (c0_i32_28 : BitVec 32) : Fin 2 → Nat :=
  let arg0 : BitVec 32 := BitVec.ofNat 32 (i 0).val
  let c2_i32_27 : BitVec 32 := 2#32
  let v70 : BitVec 32 := Scalar.muli arg0 c2_i32_27
  let v71 : BitVec 32 := Scalar.addi v70 c0_i32_28
  let c128_i32_29 : BitVec 32 := 128#32
  let v72 : BitVec 32 := Scalar.muli v71 c128_i32_29
  let v73 : BitVec 32 := v72
  let v88 : Index := Scalar.indexCast v73
  let c384_38 : Index := 384#32
  ![v88.toNat, 384]
def k0_off10 (i : grid0.Coords) (c0_i32_28 : BitVec 32) : Fin 2 → Nat :=
  let arg0 : BitVec 32 := BitVec.ofNat 32 (i 0).val
  let c2_i32_27 : BitVec 32 := 2#32
  let v70 : BitVec 32 := Scalar.muli arg0 c2_i32_27
  let v71 : BitVec 32 := Scalar.addi v70 c0_i32_28
  let c128_i32_29 : BitVec 32 := 128#32
  let v72 : BitVec 32 := Scalar.muli v71 c128_i32_29
  let v73 : BitVec 32 := v72
  let v94 : Index := Scalar.indexCast v73
  let c448 : Index := 448#32
  ![v94.toNat, 448]
def k0_mult5 (i : grid0.Coords) : BitVec 32 :=
  let arg0 : BitVec 32 := BitVec.ofNat 32 (i 0).val
  let c2_i32_47 : BitVec 32 := 2#32
  let v100 : BitVec 32 := Scalar.muli arg0 c2_i32_47
  let c1_i32_48 : BitVec 32 := 1#32
  let v101 : BitVec 32 := Scalar.addi v100 c1_i32_48
  let c128_i32_49 : BitVec 32 := 128#32
  let v102 : BitVec 32 := Scalar.muli v101 c128_i32_49
  v102
def k0_mult6 (i : grid0.Coords) : BitVec 32 :=
  let arg0 : BitVec 32 := BitVec.ofNat 32 (i 0).val
  let c2_i32_70 : BitVec 32 := 2#32
  let v130 : BitVec 32 := Scalar.muli arg0 c2_i32_70
  let c1_i32_71 : BitVec 32 := 1#32
  let v131 : BitVec 32 := Scalar.addi v130 c1_i32_71
  let c128_i32_72 : BitVec 32 := 128#32
  let v132 : BitVec 32 := Scalar.muli v131 c128_i32_72
  v132
def k0_off11 (i : grid0.Coords) (c0_i32 : BitVec 32) : Fin 2 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let c1_i32 : BitVec 32 := 1#32
  let v2 : BitVec 32 := Scalar.subi v1 c1_i32
  let c0_i32_0 : BitVec 32 := 0#32
  let v3 : BitVec 32 := Scalar.maxsi v2 c0_i32_0
  let c128_i32 : BitVec 32 := 128#32
  let v4 : BitVec 32 := Scalar.muli v3 c128_i32
  let v5 : BitVec 32 := v4
  let v348 : Index := Scalar.indexCast v5
  let c640 : Index := 640#32
  ![v348.toNat, 640]
def k0_off12 (i : grid0.Coords) (c0_i32 : BitVec 32) : Fin 2 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let c1_i32 : BitVec 32 := 1#32
  let v2 : BitVec 32 := Scalar.subi v1 c1_i32
  let c0_i32_0 : BitVec 32 := 0#32
  let v3 : BitVec 32 := Scalar.maxsi v2 c0_i32_0
  let c128_i32 : BitVec 32 := 128#32
  let v4 : BitVec 32 := Scalar.muli v3 c128_i32
  let v5 : BitVec 32 := v4
  let v378 : Index := Scalar.indexCast v5
  let c704 : Index := 704#32
  ![v378.toNat, 704]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AttnFwdKernelIdeal.lean ====
variable {F : FTy → Type} [FloatOps F] [Named F]
def κ : String → Option EReal := fun
  | "mask" => some ⊥
  | _ => none
-- ==== AttnFwdReferenceIdeal.lean ====
abbrev S2048x768 : Shape := ⟨2, ![2048, 768]⟩
abbrev S1x8 : Shape := ⟨2, ![1, 8]⟩
abbrev S1x2048x768 : Shape := ⟨3, ![1, 2048, 768]⟩
abbrev S1x2048x512 : Shape := ⟨3, ![1, 2048, 512]⟩
abbrev S1x2048x8x64 : Shape := ⟨4, ![1, 2048, 8, 64]⟩
abbrev S1x2048x128 : Shape := ⟨3, ![1, 2048, 128]⟩
abbrev S1x2048x2x64 : Shape := ⟨4, ![1, 2048, 2, 64]⟩
abbrev S8 : Shape := ⟨1, ![8]⟩
abbrev S1x16x128x2x4x64 : Shape := ⟨6, ![1, 16, 128, 2, 4, 64]⟩
abbrev S_ : Shape := ⟨0, ![]⟩
abbrev S1x2176x2x64 : Shape := ⟨4, ![1, 2176, 2, 64]⟩
abbrev S1x16x128x2x64 : Shape := ⟨5, ![1, 16, 128, 2, 64]⟩
abbrev S1x16x256x2x64 : Shape := ⟨5, ![1, 16, 256, 2, 64]⟩
abbrev S1x16x2x256x128x4 : Shape := ⟨6, ![1, 16, 2, 256, 128, 4]⟩
abbrev S1x16x2x4x128x256 : Shape := ⟨6, ![1, 16, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x16x1x1x128x256 : Shape := ⟨6, ![1, 16, 1, 1, 128, 256]⟩
abbrev S1x1x2x4x1x1 : Shape := ⟨6, ![1, 1, 2, 4, 1, 1]⟩
abbrev S1x16x2x4x128x1 : Shape := ⟨6, ![1, 16, 2, 4, 128, 1]⟩
abbrev S1x16x2x4x128x257 : Shape := ⟨6, ![1, 16, 2, 4, 128, 257]⟩
abbrev S1x16x2x4x128 : Shape := ⟨5, ![1, 16, 2, 4, 128]⟩
abbrev S1x16x2x64x4x128 : Shape := ⟨6, ![1, 16, 2, 64, 4, 128]⟩
abbrev S2048x512 : Shape := ⟨2, ![2048, 512]⟩

abbrev nBuf : Space → Nat
  | .hbm => 97
  | .vmem => 0
  | .smem => 0
  | _ => 0

abbrev bufTy : (tb : Table) → Fin (tcTables nBuf tb) → BufTy
  | .hbm, ⟨0, _⟩ => ⟨S2048x768, .bf16⟩
  | .hbm, ⟨1, _⟩ => ⟨S1x8, .f32⟩
  | .hbm, ⟨2, _⟩ => ⟨S2048x768, .f32⟩
  | .hbm, ⟨3, _⟩ => ⟨S1x2048x768, .f32⟩
  | .hbm, ⟨4, _⟩ => ⟨S1x2048x512, .f32⟩
  | .hbm, ⟨5, _⟩ => ⟨S1x2048x8x64, .f32⟩
  | .hbm, ⟨6, _⟩ => ⟨S1x2048x128, .f32⟩
  | .hbm, ⟨7, _⟩ => ⟨S1x2048x2x64, .f32⟩
  | .hbm, ⟨8, _⟩ => ⟨S1x2048x128, .f32⟩
  | .hbm, ⟨9, _⟩ => ⟨S1x2048x2x64, .f32⟩
  | .hbm, ⟨10, _⟩ => ⟨S8, .f32⟩
  | .hbm, ⟨11, _⟩ => ⟨S1x16x128x2x4x64, .f32⟩
  | .hbm, ⟨12, _⟩ => ⟨S_, .i32⟩
  | .hbm, ⟨13, _⟩ => ⟨S_, .f32⟩
  | .hbm, ⟨14, _⟩ => ⟨S1x2176x2x64, .f32⟩
  | .hbm, ⟨15, _⟩ => ⟨S1x2048x2x64, .f32⟩
  | .hbm, ⟨16, _⟩ => ⟨S1x16x128x2x64, .f32⟩
  | .hbm, ⟨17, _⟩ => ⟨S1x16x128x2x64, .f32⟩
  | .hbm, ⟨18, _⟩ => ⟨S1x16x256x2x64, .f32⟩
  | .hbm, ⟨19, _⟩ => ⟨S_, .i32⟩
  | .hbm, ⟨20, _⟩ => ⟨S_, .f32⟩
  | .hbm, ⟨21, _⟩ => ⟨S1x2176x2x64, .f32⟩
  | .hbm, ⟨22, _⟩ => ⟨S1x2048x2x64, .f32⟩
  | .hbm, ⟨23, _⟩ => ⟨S1x16x128x2x64, .f32⟩
  | .hbm, ⟨24, _⟩ => ⟨S1x16x128x2x64, .f32⟩
  | .hbm, ⟨25, _⟩ => ⟨S1x16x256x2x64, .f32⟩
  | .hbm, ⟨26, _⟩ => ⟨S1x16x2x256x128x4, .f32⟩
  | .hbm, ⟨27, _⟩ => ⟨S1x16x2x4x128x256, .f32⟩
  | .hbm, ⟨28, _⟩ => ⟨S_, .f32⟩
  | .hbm, ⟨29, _⟩ => ⟨S1x16x2x4x128x256, .f32⟩
  | .hbm, ⟨30, _⟩ => ⟨S1x16x2x4x128x256, .f32⟩
  | .hbm, ⟨31, _⟩ => ⟨S128, .i32⟩
  | .hbm, ⟨32, _⟩ => ⟨S128x1, .i32⟩
  | .hbm, ⟨33, _⟩ => ⟨S256, .i32⟩
  | .hbm, ⟨34, _⟩ => ⟨S1x256, .i32⟩
  | .hbm, ⟨35, _⟩ => ⟨S_, .i32⟩
  | .hbm, ⟨36, _⟩ => ⟨S128x1, .i32⟩
  | .hbm, ⟨37, _⟩ => ⟨S128x1, .i32⟩
  | .hbm, ⟨38, _⟩ => ⟨S128x256, .i32⟩
  | .hbm, ⟨39, _⟩ => ⟨S128x256, .i32⟩
  | .hbm, ⟨40, _⟩ => ⟨S128x256, .i32⟩
  | .hbm, ⟨41, _⟩ => ⟨S16, .i32⟩
  | .hbm, ⟨42, _⟩ => ⟨S16x1x1, .i32⟩
  | .hbm, ⟨43, _⟩ => ⟨S_, .i32⟩
  | .hbm, ⟨44, _⟩ => ⟨S16x1x1, .i32⟩
  | .hbm, ⟨45, _⟩ => ⟨S16x1x1, .i32⟩
  | .hbm, ⟨46, _⟩ => ⟨S_, .i32⟩
  | .hbm, ⟨47, _⟩ => ⟨S16x1x1, .i32⟩
  | .hbm, ⟨48, _⟩ => ⟨S16x1x1, .i32⟩
  | .hbm, ⟨49, _⟩ => ⟨S1x1x256, .i32⟩
  | .hbm, ⟨50, _⟩ => ⟨S16x1x256, .i32⟩
  | .hbm, ⟨51, _⟩ => ⟨S16x1x256, .i32⟩
  | .hbm, ⟨52, _⟩ => ⟨S16x1x256, .i32⟩
  | .hbm, ⟨53, _⟩ => ⟨S_, .i32⟩
  | .hbm, ⟨54, _⟩ => ⟨S128x256, .i32⟩
  | .hbm, ⟨55, _⟩ => ⟨S128x256, .i1⟩
  | .hbm, ⟨56, _⟩ => ⟨S1x128x256, .i1⟩
  | .hbm, ⟨57, _⟩ => ⟨S_, .i32⟩
  | .hbm, ⟨58, _⟩ => ⟨S128x256, .i32⟩
  | .hbm, ⟨59, _⟩ => ⟨S128x256, .i1⟩
  | .hbm, ⟨60, _⟩ => ⟨S1x128x256, .i1⟩
  | .hbm, ⟨61, _⟩ => ⟨S1x128x256, .i1⟩
  | .hbm, ⟨62, _⟩ => ⟨S_, .i32⟩
  | .hbm, ⟨63, _⟩ => ⟨S16x1x256, .i32⟩
  | .hbm, ⟨64, _⟩ => ⟨S16x1x256, .i1⟩
  | .hbm, ⟨65, _⟩ => ⟨S16x128x256, .i1⟩
  | .hbm, ⟨66, _⟩ => ⟨S16x128x256, .i1⟩
  | .hbm, ⟨67, _⟩ => ⟨S16x128x256, .i1⟩
  | .hbm, ⟨68, _⟩ => ⟨S1x16x1x1x128x256, .i1⟩
  | .hbm, ⟨69, _⟩ => ⟨S_, .f32⟩
  | .hbm, ⟨70, _⟩ => ⟨S_, .f32⟩
  | .hbm, ⟨71, _⟩ => ⟨S1x16x2x4x128x256, .i1⟩
  | .hbm, ⟨72, _⟩ => ⟨S1x16x2x4x128x256, .f32⟩
  | .hbm, ⟨73, _⟩ => ⟨S1x16x2x4x128x256, .f32⟩
  | .hbm, ⟨74, _⟩ => ⟨S1x1x2x4x1x1, .f32⟩
  | .hbm, ⟨75, _⟩ => ⟨S1x16x2x4x128x1, .f32⟩
  | .hbm, ⟨76, _⟩ => ⟨S1x16x2x4x128x257, .f32⟩
  | .hbm, ⟨77, _⟩ => ⟨S_, .f32⟩
  | .hbm, ⟨78, _⟩ => ⟨S1x16x2x4x128, .f32⟩
  | .hbm, ⟨79, _⟩ => ⟨S_, .f32⟩
  | .hbm, ⟨80, _⟩ => ⟨S1x16x2x4x128, .f32⟩
  | .hbm, ⟨81, _⟩ => ⟨S1x16x2x4x128, .f32⟩
  | .hbm, ⟨82, _⟩ => ⟨S1x16x2x4x128x1, .f32⟩
  | .hbm, ⟨83, _⟩ => ⟨S1x16x2x4x128x257, .f32⟩
  | .hbm, ⟨84, _⟩ => ⟨S1x16x2x4x128x257, .f32⟩
  | .hbm, ⟨85, _⟩ => ⟨S1x16x2x4x128x257, .f32⟩
  | .hbm, ⟨86, _⟩ => ⟨S_, .f32⟩
  | .hbm, ⟨87, _⟩ => ⟨S1x16x2x4x128, .f32⟩
  | .hbm, ⟨88, _⟩ => ⟨S1x16x2x4x128x1, .f32⟩
  | .hbm, ⟨89, _⟩ => ⟨S1x16x2x4x128x257, .f32⟩
  | .hbm, ⟨90, _⟩ => ⟨S1x16x2x4x128x257, .f32⟩
  | .hbm, ⟨91, _⟩ => ⟨S1x16x2x4x128x256, .f32⟩
  | .hbm, ⟨92, _⟩ => ⟨S1x16x2x64x4x128, .f32⟩
  | .hbm, ⟨93, _⟩ => ⟨S1x16x128x2x4x64, .f32⟩
  | .hbm, ⟨94, _⟩ => ⟨S1x2048x512, .f32⟩
  | .hbm, ⟨95, _⟩ => ⟨S2048x512, .f32⟩
  | .hbm, ⟨96, _⟩ => ⟨S2048x512, .bf16⟩
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_call0_v0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c_0 : Ref sig .tc := ⟨.hbm, 19, rfl⟩
abbrev main_call1_v0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c_1 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_2 : Ref sig .tc := ⟨.hbm, 43, rfl⟩
abbrev main_v35 : Ref sig .tc := ⟨.hbm, 44, rfl⟩
abbrev main_v36 : Ref sig .tc := ⟨.hbm, 45, rfl⟩
abbrev main_c_3 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_c_4 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_c_5 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_c_6 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_7 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_8 : Ref sig .tc := ⟨.hbm, 77, rfl⟩
abbrev main_v60 : Ref sig .tc := ⟨.hbm, 78, rfl⟩
abbrev main_cst_9 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_10 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩

abbrev nD : Nat := 1
abbrev τ : Topo := Topo.v7x

variable {F : FTy → Type} [FloatOps F]
-- ==== Proof.Mix.Math.lean ====
module

/-
The gradients of the gated merge, as plain functions of the arguments' entries over the extended reals: the
gradient of the merged activation, of the two branches, of the gates' logits, of the branches' inputs and of the
convolution branch's bias.
-/
public import Idealize.ShloMosaic.Lib.Pointwise

@[expose] public section

noncomputable section

namespace Cert.MixMath
open Idealize.ShloMosaic

/-- The merged activation's gradient: the residual stream's times the output projection's transpose. -/
def dm (x : Fin 2048 → Fin 1024 → EReal) (wo : Fin 1024 → Fin 1024 → EReal) (t : Fin 2048) (d : Fin 1024) : EReal :=
  ∑ k, x t k * wo d k

/-- The sigmoid gate of a logit. -/
def gate (g : EReal) : EReal := Ideal.div 1 (1 + Ideal.exp (-g))

/-- A branch's gradient: the merged activation's times the branch's gate. -/
def dBranch (x : Fin 2048 → Fin 1024 → EReal) (wo : Fin 1024 → Fin 1024 → EReal) (g : Fin 2048 → Fin 1024 → EReal)
    (t : Fin 2048) (d : Fin 1024) : EReal :=
  dm x wo t d * gate (g t d)

/-- The gradient of a gate's logit: the branch's gradient times the branch, times one less the gate. -/
def dLogit (x : Fin 2048 → Fin 1024 → EReal) (wo : Fin 1024 → Fin 1024 → EReal) (g y : Fin 2048 → Fin 1024 → EReal)
    (t : Fin 2048) (d : Fin 1024) : EReal :=
  dBranch x wo g t d * y t d * (1 - gate (g t d))

/-- The gradient of a branch's input: the branch's gradient times the branch's weight transposed. -/
def dInput (x : Fin 2048 → Fin 1024 → EReal) (wo : Fin 1024 → Fin 1024 → EReal) (g : Fin 2048 → Fin 1024 → EReal)
    (w : Fin 512 → Fin 1024 → EReal) (t : Fin 2048) (a : Fin 512) : EReal :=
  ∑ d, dBranch x wo g t d * w a d

/-- The gradient of the bias: the branch's gradient summed over the rows. -/
def dBias (x : Fin 2048 → Fin 1024 → EReal) (wo : Fin 1024 → Fin 1024 → EReal) (g : Fin 2048 → Fin 1024 → EReal)
    (d : Fin 1024) : EReal :=
  ∑ t, dBranch x wo g t d

/-- A branch: its input times its weight. -/
def branch (o : Fin 2048 → Fin 512 → EReal) (w : Fin 512 → Fin 1024 → EReal) (t : Fin 2048) (d : Fin 1024) : EReal :=
  ∑ k, o t k * w k d

/-- A column of the two gates side by side is one of the first gate's or one of the second's. -/
theorem lo (d : Fin 1024) : d.val < 2048 := by omega
theorem hi (d : Fin 1024) : 1024 + d.val < 2048 := by omega
theorem halves (d : Fin 2048) : (∃ e : Fin 1024, d = ⟨e.val, lo e⟩) ∨ ∃ e : Fin 1024, d = ⟨1024 + e.val, hi e⟩ := by
  by_cases h : d.val < 1024
  · exact .inl ⟨⟨d.val, h⟩, rfl⟩
  · exact .inr ⟨⟨d.val - 1024, by omega⟩, Fin.ext (show d.val = 1024 + (d.val - 1024) by omega)⟩

/-- A sum over the columns is the sum over the four shards of the columns of each. -/
theorem sum_shards (f : Fin 1024 → EReal) :
    ∑ d, f d = (((∑ k : Fin 256, f ⟨k, by omega⟩) + ∑ k : Fin 256, f ⟨256 + k, by omega⟩)
      + ∑ k : Fin 256, f ⟨512 + k, by omega⟩) + ∑ k : Fin 256, f ⟨768 + k, by omega⟩ := by
  have h := Fin.sum_univ_add (a := 768) (b := 256) f
  have h' := Fin.sum_univ_add (a := 512) (b := 256) fun i => f (Fin.castAdd 256 i)
  have h'' := Fin.sum_univ_add (a := 256) (b := 256) fun i => f (Fin.castAdd 256 (Fin.castAdd 256 i))
  refine h.trans ?_
  rw [show ∑ i : Fin 768, f (Fin.castAdd 256 i) = _ from h', show ∑ i : Fin 512, f (Fin.castAdd 256 (Fin.castAdd 256 i)) = _ from h'']
  rfl

/-- A sum over the rows is the sum over the four row blocks of the rows of each. -/
theorem sum_blocks (f : Fin 2048 → EReal) :
    ∑ t, f t = ∑ b : Fin 4, ∑ r : Fin 512, f ⟨512 * b.val + r.val, by omega⟩ := by
  rw [← (finProdFinEquiv (m := 4) (n := 512)).sum_comp f, Fintype.sum_prod_type]
  refine Finset.sum_congr rfl fun b _ => Finset.sum_congr rfl fun r _ => congrArg f (Fin.ext ?_)
  show r.val + 512 * b.val = 512 * b.val + r.val
  omega

end Cert.MixMath

end
-- ==== Proof.Mix.Staged.lean ====
module

/-
What the gated merge's backward kernel is given: the host's lines before it, entry by entry over the extended
reals, and each window's block as rows of the staged array.
-/
public import proofs.«01_k».proof.Proof.Gen.MixKernelIdeal.Value
public import proofs.«01_k».proof.Proof.Mix.Math
public import Idealize.ShloMosaic.Lib.Pipeline.ValueKit

@[expose] public section

set_option maxRecDepth 16384

noncomputable section

namespace Cert.MixKernelIdeal.Mix
open Cert.MixKernelIdeal Cert.MixKernelIdeal.Gen Cert.MixMath
open Idealize.ShloMosaic Idealize.ShloMosaic.TcCoe Idealize.ShloMosaic.Tactic
open Idealize.ShloMosaic.StableHlo

variable (m : (ℓ : Loc nD τ sig) → Buf (Elt Ideal) ℓ)

/-- The arguments' entries: the residual stream's gradient, -/
abbrev X (c : Dev nD) (t : Fin 2048) (d : Fin 1024) : EReal := m ((c : Thread nD τ).loc main_arg0) (ix2 t d)
/-- the gates' logits of the attention branch -/
abbrev G0 (c : Dev nD) (t : Fin 2048) (d : Fin 1024) : EReal := m ((c : Thread nD τ).loc main_arg1) (ix2 t ⟨d.val, by omega⟩)
/-- and of the convolution branch, -/
abbrev G1 (c : Dev nD) (t : Fin 2048) (d : Fin 1024) : EReal := m ((c : Thread nD τ).loc main_arg1) (ix2 t ⟨1024 + d.val, by omega⟩)
/-- the attention's output, -/
abbrev O (c : Dev nD) (t : Fin 2048) (k : Fin 512) : EReal := m ((c : Thread nD τ).loc main_arg2) (ix2 t k)
/-- the convolution's output, -/
abbrev C (c : Dev nD) (t : Fin 2048) (k : Fin 512) : EReal := m ((c : Thread nD τ).loc main_arg3) (ix2 t k)
/-- the attention branch's weight, -/
abbrev WA (c : Dev nD) (k : Fin 512) (d : Fin 1024) : EReal := m ((c : Thread nD τ).loc main_arg4) (ix2 k d)
/-- the convolution branch's weight -/
abbrev WC (c : Dev nD) (k : Fin 512) (d : Fin 1024) : EReal := m ((c : Thread nD τ).loc main_arg5) (ix2 k d)
/-- and bias, -/
abbrev B (c : Dev nD) (d : Fin 1024) : EReal := m ((c : Thread nD τ).loc main_arg6) (ix2 0 d)
/-- and the output projection. -/
abbrev WO (c : Dev nD) (k d : Fin 1024) : EReal := m ((c : Thread nD τ).loc main_arg7) (ix2 k d)

/-- The two branches as the forward pass left them. -/
abbrev YA (c : Dev nD) (t : Fin 2048) (d : Fin 1024) : EReal := branch (O m c) (WA m c) t d
abbrev YC (c : Dev nD) (t : Fin 2048) (d : Fin 1024) : EReal := branch (C m c) (WC m c) t d + B m c d

theorem V_ya (c : Dev nD) (t : Fin 2048) (d : Fin 1024) : V m c main_v8 (ix2 t d) = YA m c t d := by
  unfold V; after_results_simp; unfold YA branch; pointwise

theorem V_yc (c : Dev nD) (t : Fin 2048) (d : Fin 1024) : V m c main_v9 (ix2 t d) = YC m c t d := by
  unfold V; after_results_simp; unfold YC branch; pointwise

theorem V_wo (c : Dev nD) (k d : Fin 1024) : V m c main_v10 (ix2 k d) = WO m c k d := by
  unfold V; after_results_simp; pointwise

theorem V_wa (c : Dev nD) (s : Fin 4) (k : Fin 512) (x : Fin 256) :
    V m c main_v13 (ix3 s k x) = WA m c k ⟨256 * s.val + x.val, by omega⟩ := by
  unfold V; after_results_simp; pointwise
  blk_ext

theorem V_wc (c : Dev nD) (s : Fin 4) (k : Fin 512) (x : Fin 256) :
    V m c main_v16 (ix3 s k x) = WC m c k ⟨256 * s.val + x.val, by omega⟩ := by
  unfold V; after_results_simp; pointwise
  blk_ext

end Cert.MixKernelIdeal.Mix

end
-- ==== Proof.Mix.Blocks.lean ====
module

/-
Each window's block at a grid point, as entries of the arguments: rows `512·t …` of the row-blocked operands, the
weights whole.
-/
public import proofs.«01_k».proof.Proof.Mix.Staged

@[expose] public section

set_option maxRecDepth 16384

noncomputable section

namespace Cert.MixKernelIdeal.Mix
open Cert.MixKernelIdeal Cert.MixKernelIdeal.Gen Cert.MixMath
open Idealize.ShloMosaic Idealize.ShloMosaic.TcCoe Idealize.ShloMosaic.Tactic
open Idealize.ShloMosaic.StableHlo

variable (m : (ℓ : Loc nD τ sig) → Buf (Elt Ideal) ℓ)

/-- Where the windows' blocks lie, decided over the grid. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0, 0] ∧ win0_6.index t = ![0, 0, 0]
    ∧ win0_8.index t = ![t.val, 0] ∧ win0_9.index t = ![t.val, 0] ∧ win0_10.index t = ![t.val, 0]
    ∧ win0_11.index t = ![t.val, 0] ∧ win0_12.index t = ![t.val, 0] ∧ win0_13.index t = ![0, 0] := by
  decide +kernel

/-- Row `r` of block `t`. -/
abbrev row (t : Fin cfg0.N) (r : Fin 512) : Fin 2048 :=
  ⟨512 * t.val + r.val, by have : t.val < 4 := lt_of_lt_of_eq t.isLt (show cfg0.N = 4 from N_0); omega⟩

theorem blk_x (c : Dev nD) (t : Fin cfg0.N) (r : Fin 512) (k : Fin 1024) : iblk m c 0 t (ix2 r k) = X m c (row t r) k := by
  refine Eq.trans (?_ : _ = V m c main_arg0 (ix2 (row t r) k)) (by rw [V_main_arg0])
  blk_ext [iblk, idx t]

theorem blk_g0 (c : Dev nD) (t : Fin cfg0.N) (r : Fin 512) (k : Fin 1024) (h) :
    iblk m c 1 t (ix2 r ⟨k.val, h⟩) = G0 m c (row t r) k := by
  refine Eq.trans (?_ : _ = V m c main_arg1 (ix2 (row t r) ⟨k.val, by omega⟩)) (by rw [V_main_arg1])
  blk_ext [iblk, idx t]

theorem blk_g1 (c : Dev nD) (t : Fin cfg0.N) (r : Fin 512) (k : Fin 1024) (h) :
    iblk m c 1 t (ix2 r ⟨1024 + k.val, h⟩) = G1 m c (row t r) k := by
  refine Eq.trans (?_ : _ = V m c main_arg1 (ix2 (row t r) ⟨1024 + k.val, by omega⟩)) (by rw [V_main_arg1])
  blk_ext [iblk, idx t]

theorem blk_ya (c : Dev nD) (t : Fin cfg0.N) (r : Fin 512) (k : Fin 1024) : iblk m c 2 t (ix2 r k) = YA m c (row t r) k := by
  refine Eq.trans (?_ : _ = V m c main_v8 (ix2 (row t r) k)) (V_ya m c _ k)
  blk_ext [iblk, idx t]

theorem blk_yc (c : Dev nD) (t : Fin cfg0.N) (r : Fin 512) (k : Fin 1024) : iblk m c 3 t (ix2 r k) = YC m c (row t r) k := by
  refine Eq.trans (?_ : _ = V m c main_v9 (ix2 (row t r) k)) (V_yc m c _ k)
  blk_ext [iblk, idx t]

theorem blk_wo (c : Dev nD) (t : Fin cfg0.N) (k d : Fin 1024) : iblk m c 4 t (ix2 k d) = WO m c k d := by
  refine Eq.trans (?_ : _ = V m c main_v10 (ix2 k d)) (V_wo m c k d)
  blk_ext [iblk, idx t]

theorem blk_wa (c : Dev nD) (t : Fin cfg0.N) (s : Fin 4) (k : Fin 512) (x : Fin 256) :
    iblk m c 5 t (ix3 s k x) = WA m c k ⟨256 * s.val + x.val, by omega⟩ := by
  refine Eq.trans (?_ : _ = V m c main_v13 (ix3 s k x)) (V_wa m c s k x)
  blk_ext [iblk, idx t]

theorem blk_wc (c : Dev nD) (t : Fin cfg0.N) (s : Fin 4) (k : Fin 512) (x : Fin 256) :
    iblk m c 6 t (ix3 s k x) = WC m c k ⟨256 * s.val + x.val, by omega⟩ := by
  refine Eq.trans (?_ : _ = V m c main_v16 (ix3 s k x)) (V_wc m c s k x)
  blk_ext [iblk, idx t]

end Cert.MixKernelIdeal.Mix

end
-- ==== Proof.Mix.Kernel.lean ====
module

/-
What the gated merge's backward kernel leaves in each result: at every grid point the block it writes is the plain
gradient at that block's rows, the blocks cover the result, and the bias's row is the sum over the four points.
-/
public import proofs.«01_k».proof.Proof.Mix.Blocks

public section

set_option maxRecDepth 16384

noncomputable section

namespace Cert.MixKernelIdeal.Mix
open Cert.MixKernelIdeal Cert.MixKernelIdeal.Gen Cert.MixMath
open Idealize.ShloMosaic Idealize.ShloMosaic.TcCoe Idealize.ShloMosaic.Tactic
open Idealize.ShloMosaic.StableHlo

variable (m : (ℓ : Loc nD τ sig) → Buf (Elt Ideal) ℓ)

/-- The body's sigmoid is the gate. -/
theorem gate_eq (g : EReal) : Ideal.div 1 (1 + Ideal.exp (0 - g)) = gate g := by
  rw [gate, sub_eq_add_neg, zero_add]

/-- One column of the attention branch's gradient as the body holds it, -/
theorem col0 (c : Dev nD) (t : Fin cfg0.N) (r : Fin 512) (d : Fin 1024) (h) :
    (∑ x, X m c (row t r) x * WO m c d x) * gate (iblk m c 1 t (ix2 r ⟨d.val, h⟩)) = dBranch (X m c) (WO m c) (G0 m c) (row t r) d := by
  rw [blk_g0]; rfl

/-- and of the convolution branch's. -/
theorem col1 (c : Dev nD) (t : Fin cfg0.N) (r : Fin 512) (d : Fin 1024) (h) :
    (∑ x, X m c (row t r) x * WO m c d x) * gate (iblk m c 1 t (ix2 r ⟨1024 + d.val, h⟩)) = dBranch (X m c) (WO m c) (G1 m c) (row t r) d := by
  rw [blk_g1]; rfl

/-- A term of a branch's input gradient: the column at its place in the shard, times the weight's entry there. -/
theorem term_eq {f : Fin 1024 → EReal} {g : Fin 1024 → EReal} {p : EReal} {d d' : Fin 1024} (h : p = f d) (e : d' = d) :
    p * g d' = f d * g d := by
  rw [h, e]

/-- The attention branch's gradient, block by block, -/
theorem out8 (c : Dev nD) (t : Fin cfg0.N) (r : Fin 512) (d : Fin 1024) :
    (outsAt0 m c t.val t.isLt).1 (ix2 r d) = dBranch (X m c) (WO m c) (G0 m c) (row t r) d := by
  by_cases h0 : t.val % 4 = 0
  · rw [outsAt0_A m c t h0]; frame_out
    unfold_payloads; pointwise
    simp only [blk_x, blk_wo, blk_g0, gate_eq]
    rfl
  · rw [outsAt0_B m c t h0]; frame_out
    unfold_payloads; pointwise
    simp only [blk_x, blk_wo, blk_g0, gate_eq]
    rfl

/-- and the convolution branch's. -/
theorem out9 (c : Dev nD) (t : Fin cfg0.N) (r : Fin 512) (d : Fin 1024) :
    (outsAt0 m c t.val t.isLt).2.1 (ix2 r d) = dBranch (X m c) (WO m c) (G1 m c) (row t r) d := by
  by_cases h0 : t.val % 4 = 0
  · rw [outsAt0_A m c t h0]; frame_out
    unfold_payloads; pointwise
    simp only [blk_x, blk_wo, blk_g1, gate_eq]
    rfl
  · rw [outsAt0_B m c t h0]; frame_out
    unfold_payloads; pointwise
    simp only [blk_x, blk_wo, blk_g1, gate_eq]
    rfl

/-- The logits' gradient, in the columns of the attention branch's gate -/
theorem out10_lo (c : Dev nD) (t : Fin cfg0.N) (r : Fin 512) (d : Fin 1024) :
    (outsAt0 m c t.val t.isLt).2.2.1 (ix2 r ⟨d.val, by omega⟩) = dLogit (X m c) (WO m c) (G0 m c) (YA m c) (row t r) d := by
  have e : (ix2 r ⟨d.val, by omega⟩ : S512x2048.Idx) = (Rect.unit (s := S512x2048) ![0, 0] ![512, 1024] (by decide)).emb (ix2 r d) := by
    blk_ext
  have hn : (ix2 r ⟨d.val, by omega⟩ : S512x2048.Idx) ∉ (Rect.unit (s := S512x2048) ![0, 1024] ![512, 1024] (by decide)).set := by
    intro h
    have h1 : 1024 ≤ d.val := (Rect.mem_set_unit.mp h 1).1
    omega
  by_cases h0 : t.val % 4 = 0
  · rw [outsAt0_A m c t h0]; frame_out
    rw [View.canon_cons_of_not_mem, e, View.canon_cons_emb]
    · unfold_payloads; pointwise
      simp only [blk_x, blk_wo, blk_g0, blk_ya, gate_eq]
      rfl
    · exact hn
  · rw [outsAt0_B m c t h0]; frame_out
    rw [View.canon_cons_of_not_mem, e, View.canon_cons_emb]
    · unfold_payloads; pointwise
      simp only [blk_x, blk_wo, blk_g0, blk_ya, gate_eq]
      rfl
    · exact hn

/-- and of the convolution branch's. -/
theorem out10_hi (c : Dev nD) (t : Fin cfg0.N) (r : Fin 512) (d : Fin 1024) :
    (outsAt0 m c t.val t.isLt).2.2.1 (ix2 r ⟨1024 + d.val, by omega⟩) = dLogit (X m c) (WO m c) (G1 m c) (YC m c) (row t r) d := by
  have e : (ix2 r ⟨1024 + d.val, by omega⟩ : S512x2048.Idx) = (Rect.unit (s := S512x2048) ![0, 1024] ![512, 1024] (by decide)).emb (ix2 r d) := by
    blk_ext
  by_cases h0 : t.val % 4 = 0
  · rw [outsAt0_A m c t h0]; frame_out
    rw [e, View.canon_cons_emb]
    unfold_payloads; pointwise
    simp only [blk_x, blk_wo, blk_g1, blk_yc, gate_eq]
    rfl
  · rw [outsAt0_B m c t h0]; frame_out
    rw [e, View.canon_cons_emb]
    unfold_payloads; pointwise
    simp only [blk_x, blk_wo, blk_g1, blk_yc, gate_eq]
    rfl

/-- The attention's output's gradient, its four shards of the columns together, -/
theorem out11 (c : Dev nD) (t : Fin cfg0.N) (r a : Fin 512) :
    (outsAt0 m c t.val t.isLt).2.2.2.1 (ix2 r a) = dInput (X m c) (WO m c) (G0 m c) (WA m c) (row t r) a := by
  unfold dInput; rw [sum_shards]
  by_cases h0 : t.val % 4 = 0
  · rw [outsAt0_A m c t h0]; frame_out
    unfold_payloads; pointwise
    simp only [blk_x, blk_wo, blk_wa, gate_eq]
    refine congrArg₂ _ (congrArg₂ _ (congrArg₂ _ ?_ ?_) ?_) ?_ <;> refine Finset.sum_congr rfl fun k _ => ?_
    · exact term_eq (f := fun d => dBranch (X m c) (WO m c) (G0 m c) (row t r) d) (g := fun d => WA m c a d) (col0 m c t r ⟨k, by omega⟩ _) (Fin.ext (Nat.zero_add _))
    · exact term_eq (f := fun d => dBranch (X m c) (WO m c) (G0 m c) (row t r) d) (g := fun d => WA m c a d) (col0 m c t r ⟨256 + k, by omega⟩ _) rfl
    · exact term_eq (f := fun d => dBranch (X m c) (WO m c) (G0 m c) (row t r) d) (g := fun d => WA m c a d) (col0 m c t r ⟨512 + k, by omega⟩ _) rfl
    · exact term_eq (f := fun d => dBranch (X m c) (WO m c) (G0 m c) (row t r) d) (g := fun d => WA m c a d) (col0 m c t r ⟨768 + k, by omega⟩ _) rfl
  · rw [outsAt0_B m c t h0]; frame_out
    unfold_payloads; pointwise
    simp only [blk_x, blk_wo, blk_wa, gate_eq]
    refine congrArg₂ _ (congrArg₂ _ (congrArg₂ _ ?_ ?_) ?_) ?_ <;> refine Finset.sum_congr rfl fun k _ => ?_
    · exact term_eq (f := fun d => dBranch (X m c) (WO m c) (G0 m c) (row t r) d) (g := fun d => WA m c a d) (col0 m c t r ⟨k, by omega⟩ _) (Fin.ext (Nat.zero_add _))
    · exact term_eq (f := fun d => dBranch (X m c) (WO m c) (G0 m c) (row t r) d) (g := fun d => WA m c a d) (col0 m c t r ⟨256 + k, by omega⟩ _) rfl
    · exact term_eq (f := fun d => dBranch (X m c) (WO m c) (G0 m c) (row t r) d) (g := fun d => WA m c a d) (col0 m c t r ⟨512 + k, by omega⟩ _) rfl
    · exact term_eq (f := fun d => dBranch (X m c) (WO m c) (G0 m c) (row t r) d) (g := fun d => WA m c a d) (col0 m c t r ⟨768 + k, by omega⟩ _) rfl

/-- and the convolution's. -/
theorem out12 (c : Dev nD) (t : Fin cfg0.N) (r a : Fin 512) :
    (outsAt0 m c t.val t.isLt).2.2.2.2.1 (ix2 r a) = dInput (X m c) (WO m c) (G1 m c) (WC m c) (row t r) a := by
  unfold dInput; rw [sum_shards]
  by_cases h0 : t.val % 4 = 0
  · rw [outsAt0_A m c t h0]; frame_out
    unfold_payloads; pointwise
    simp only [blk_x, blk_wo, blk_wc, gate_eq]
    refine congrArg₂ _ (congrArg₂ _ (congrArg₂ _ ?_ ?_) ?_) ?_ <;> refine Finset.sum_congr rfl fun k _ => ?_
    · exact term_eq (f := fun d => dBranch (X m c) (WO m c) (G1 m c) (row t r) d) (g := fun d => WC m c a d) (col1 m c t r ⟨k, by omega⟩ _) (Fin.ext (Nat.zero_add _))
    · exact term_eq (f := fun d => dBranch (X m c) (WO m c) (G1 m c) (row t r) d) (g := fun d => WC m c a d) (col1 m c t r ⟨256 + k, by omega⟩ _) rfl
    · exact term_eq (f := fun d => dBranch (X m c) (WO m c) (G1 m c) (row t r) d) (g := fun d => WC m c a d) (col1 m c t r ⟨512 + k, by omega⟩ _) rfl
    · exact term_eq (f := fun d => dBranch (X m c) (WO m c) (G1 m c) (row t r) d) (g := fun d => WC m c a d) (col1 m c t r ⟨768 + k, by omega⟩ _) rfl
  · rw [outsAt0_B m c t h0]; frame_out
    unfold_payloads; pointwise
    simp only [blk_x, blk_wo, blk_wc, gate_eq]
    refine congrArg₂ _ (congrArg₂ _ (congrArg₂ _ ?_ ?_) ?_) ?_ <;> refine Finset.sum_congr rfl fun k _ => ?_
    · exact term_eq (f := fun d => dBranch (X m c) (WO m c) (G1 m c) (row t r) d) (g := fun d => WC m c a d) (col1 m c t r ⟨k, by omega⟩ _) (Fin.ext (Nat.zero_add _))
    · exact term_eq (f := fun d => dBranch (X m c) (WO m c) (G1 m c) (row t r) d) (g := fun d => WC m c a d) (col1 m c t r ⟨256 + k, by omega⟩ _) rfl
    · exact term_eq (f := fun d => dBranch (X m c) (WO m c) (G1 m c) (row t r) d) (g := fun d => WC m c a d) (col1 m c t r ⟨512 + k, by omega⟩ _) rfl
    · exact term_eq (f := fun d => dBranch (X m c) (WO m c) (G1 m c) (row t r) d) (g := fun d => WC m c a d) (col1 m c t r ⟨768 + k, by omega⟩ _) rfl

/-- The bias's part of one grid point: its block's rows. -/
def biasTerm (c : Dev nD) (n : Nat) (j : S1x1024.Idx) : EReal :=
  ∑ r : Fin 512, dBranch (X m c) (WO m c) (G1 m c) ⟨(512 * n + r.val) % 2048, Nat.mod_lt _ (by omega)⟩ (j 1)

theorem bias_row (c : Dev nD) (t : Fin cfg0.N) (d : Fin 1024) :
    ∑ r : Fin 512, dBranch (X m c) (WO m c) (G1 m c) (row t r) d = biasTerm m c t.val (ix2 0 d) := by
  refine Finset.sum_congr rfl fun r _ => congrArg (dBranch (X m c) (WO m c) (G1 m c) · d) (Fin.ext ?_)
  have : t.val < 4 := lt_of_lt_of_eq t.isLt (show cfg0.N = 4 from N_0)
  exact (Nat.mod_eq_of_lt (by omega)).symm

/-- The bias's row after a point: the terms of the points so far. -/
theorem out13 (c : Dev nD) (t : Fin cfg0.N) (j : S1x1024.Idx) :
    (outsAt0 m c t.val t.isLt).2.2.2.2.2 j = 0 + ∑ k ∈ Finset.range (t.val + 1), biasTerm m c k j := by
  refine Pipeline.eq_sum_of_reset_step_apply_single (fun n h => (outsAt0 m c n h).2.2.2.2.2) 4 (fun _ => 0) (biasTerm m c) ?_ ?_ (le_of_eq N_0) t j
  · intro t h0 j
    obtain ⟨d, rfl⟩ : ∃ d : Fin 1024, j = ix2 0 d := ⟨j 1, (eq_ix2 j).trans (congrArg (ix2 · (j 1)) (Subsingleton.elim _ _))⟩
    show (outsAt0 m c t.val t.isLt).2.2.2.2.2 _ = _
    rw [outsAt0_A m c t h0, ← bias_row, zero_add]; frame_out
    unfold_payloads; pointwise
    simp only [blk_x, blk_wo, blk_g1, gate_eq]
    rfl
  · intro t h0 j
    obtain ⟨d, rfl⟩ : ∃ d : Fin 1024, j = ix2 0 d := ⟨j 1, (eq_ix2 j).trans (congrArg (ix2 · (j 1)) (Subsingleton.elim _ _))⟩
    show (outsAt0 m c t.val t.isLt).2.2.2.2.2 _ = _
    rw [outsAt0_B m c t h0, ← bias_row]; frame_out
    unfold_payloads; pointwise
    simp only [blk_x, blk_wo, blk_g1, gate_eq]
    rfl

/-- The attention branch's gradient. -/
theorem final8 (c : Dev nD) : (dats m 0 c).arrAt 8 cfg0.N = fun j => dBranch (X m c) (WO m c) (G0 m c) (j 0) (j 1) := by
  refine (dats m 0 c).arrAt_eq_of_covers 8 _ (by decide +kernel) fun t hf y => ?_
  blk_simp
  rw [after0_8]
  obtain ⟨r, d, rfl⟩ : ∃ (r : Fin 512) (d : Fin 1024), y = ix2 r d := ⟨y 0, y 1, eq_ix2 y⟩
  have e : (((cfg0.win 8).blk t).view.emb (ix2 r d)) = ix2 (row t r) d := by
    blk_ext [idx t]
  rw [e]
  exact out8 m c t r d

/-- The convolution branch's gradient. -/
theorem final9 (c : Dev nD) : (dats m 0 c).arrAt 9 cfg0.N = fun j => dBranch (X m c) (WO m c) (G1 m c) (j 0) (j 1) := by
  refine (dats m 0 c).arrAt_eq_of_covers 9 _ (by decide +kernel) fun t hf y => ?_
  blk_simp
  rw [after0_9]
  obtain ⟨r, d, rfl⟩ : ∃ (r : Fin 512) (d : Fin 1024), y = ix2 r d := ⟨y 0, y 1, eq_ix2 y⟩
  have e : (((cfg0.win 9).blk t).view.emb (ix2 r d)) = ix2 (row t r) d := by
    blk_ext [idx t]
  rw [e]
  exact out9 m c t r d

/-- The gates' logits' gradient, both branches' side by side. -/
@[expose] def logits (c : Dev nD) (t : Fin 2048) (d : Fin 2048) : EReal :=
  if h : d.val < 1024 then dLogit (X m c) (WO m c) (G0 m c) (YA m c) t ⟨d.val, h⟩
  else dLogit (X m c) (WO m c) (G1 m c) (YC m c) t ⟨d.val - 1024, by omega⟩

theorem out10 (c : Dev nD) (t : Fin cfg0.N) (r : Fin 512) (d : Fin 2048) :
    (outsAt0 m c t.val t.isLt).2.2.1 (ix2 r d) = logits m c (row t r) d := by
  unfold logits
  split
  · exact out10_lo m c t r ⟨d.val, by omega⟩
  · refine Eq.trans ?_ (out10_hi m c t r ⟨d.val - 1024, by omega⟩)
    exact congrArg (fun d => (outsAt0 m c t.val t.isLt).2.2.1 (ix2 r d)) (Fin.ext (show d.val = 1024 + (d.val - 1024) by omega))

/-- The gates' logits' gradient. -/
theorem final10 (c : Dev nD) : (dats m 0 c).arrAt 10 cfg0.N = fun j => logits m c (j 0) (j 1) := by
  refine (dats m 0 c).arrAt_eq_of_covers 10 _ (by decide +kernel) fun t hf y => ?_
  blk_simp
  rw [after0_10]
  obtain ⟨r, d, rfl⟩ : ∃ (r : Fin 512) (d : Fin 2048), y = ix2 r d := ⟨y 0, y 1, eq_ix2 y⟩
  have e : (((cfg0.win 10).blk t).view.emb (ix2 r d)) = ix2 (row t r) d := by
    blk_ext [idx t]
  rw [e]
  exact out10 m c t r d

/-- The attention's output's gradient. -/
theorem final11 (c : Dev nD) : (dats m 0 c).arrAt 11 cfg0.N = fun j => dInput (X m c) (WO m c) (G0 m c) (WA m c) (j 0) (j 1) := by
  refine (dats m 0 c).arrAt_eq_of_covers 11 _ (by decide +kernel) fun t hf y => ?_
  blk_simp
  rw [after0_11]
  obtain ⟨r, d, rfl⟩ : ∃ (r : Fin 512) (d : Fin 512), y = ix2 r d := ⟨y 0, y 1, eq_ix2 y⟩
  have e : (((cfg0.win 11).blk t).view.emb (ix2 r d)) = ix2 (row t r) d := by
    blk_ext [idx t]
  rw [e]
  exact out11 m c t r d

/-- The convolution's output's gradient. -/
theorem final12 (c : Dev nD) : (dats m 0 c).arrAt 12 cfg0.N = fun j => dInput (X m c) (WO m c) (G1 m c) (WC m c) (j 0) (j 1) := by
  refine (dats m 0 c).arrAt_eq_of_covers 12 _ (by decide +kernel) fun t hf y => ?_
  blk_simp
  rw [after0_12]
  obtain ⟨r, d, rfl⟩ : ∃ (r : Fin 512) (d : Fin 512), y = ix2 r d := ⟨y 0, y 1, eq_ix2 y⟩
  have e : (((cfg0.win 12).blk t).view.emb (ix2 r d)) = ix2 (row t r) d := by
    blk_ext [idx t]
  rw [e]
  exact out12 m c t r d

/-- The last grid point. -/
abbrev tLast : Fin cfg0.N := ⟨3, lt_of_lt_of_eq (by decide) N_0.symm⟩

/-- The bias's gradient. -/
theorem final13 (c : Dev nD) : (dats m 0 c).arrAt 13 cfg0.N = fun j => dBias (X m c) (WO m c) (G1 m c) (j 1) := by
  refine (dats m 0 c).arrAt_eq_of_after_last 13 tLast (by decide +kernel) _ fun j => ?_
  blk_simp
  rw [after0_13]
  obtain ⟨d, rfl⟩ : ∃ d : Fin 1024, j = ix2 0 d := ⟨j 1, (eq_ix2 j).trans (congrArg (ix2 · (j 1)) (Subsingleton.elim _ _))⟩
  refine (out13 m c tLast _).trans ?_
  unfold dBias
  rw [zero_add, sum_blocks, Finset.sum_range]
  refine Finset.sum_congr rfl fun b _ => Finset.sum_congr rfl fun r _ => congrArg (dBranch (X m c) (WO m c) (G1 m c) · d) (Fin.ext ?_)
  have hb : b.val < 4 := b.isLt
  exact Nat.mod_eq_of_lt (by omega)

end Cert.MixKernelIdeal.Mix

end
-- ==== Proof.Mix.Reference.lean ====
module

/-
The gated merge's reference read entry by entry: each of its results' composed terms is the plain gradient.
-/
public import proofs.«01_k».proof.Proof.Gen.MixReferenceIdeal.Run
public import proofs.«01_k».proof.Proof.Mix.Math

public section

set_option maxRecDepth 16384

noncomputable section

namespace Cert.MixReferenceIdeal.Mix
open Cert.MixReferenceIdeal Cert.MixReferenceIdeal.Gen Cert.MixReferenceIdeal.Value Cert.MixMath
open Idealize.ShloMosaic Idealize.ShloMosaic.TcCoe Idealize.ShloMosaic.Tactic
open Idealize.ShloMosaic.StableHlo Idealize.SL.Sem

variable (m : (ℓ : Loc nD τ sig) → Buf (Elt Ideal) ℓ)

/-- The arguments' entries, as on the kernel's side. -/
abbrev X (c : Dev nD) (t : Fin 2048) (d : Fin 1024) : EReal := m ((c : Thread nD τ).loc main_arg0) (ix2 t d)
abbrev G0 (c : Dev nD) (t : Fin 2048) (d : Fin 1024) : EReal := m ((c : Thread nD τ).loc main_arg1) (ix2 t ⟨d.val, by omega⟩)
abbrev G1 (c : Dev nD) (t : Fin 2048) (d : Fin 1024) : EReal := m ((c : Thread nD τ).loc main_arg1) (ix2 t ⟨1024 + d.val, by omega⟩)
abbrev O (c : Dev nD) (t : Fin 2048) (k : Fin 512) : EReal := m ((c : Thread nD τ).loc main_arg2) (ix2 t k)
abbrev C (c : Dev nD) (t : Fin 2048) (k : Fin 512) : EReal := m ((c : Thread nD τ).loc main_arg3) (ix2 t k)
abbrev WA (c : Dev nD) (k : Fin 512) (d : Fin 1024) : EReal := m ((c : Thread nD τ).loc main_arg4) (ix2 k d)
abbrev WC (c : Dev nD) (k : Fin 512) (d : Fin 1024) : EReal := m ((c : Thread nD τ).loc main_arg5) (ix2 k d)
abbrev B (c : Dev nD) (d : Fin 1024) : EReal := m ((c : Thread nD τ).loc main_arg6) (ix2 0 d)
abbrev WO (c : Dev nD) (k d : Fin 1024) : EReal := m ((c : Thread nD τ).loc main_arg7) (ix2 k d)
/-- The two branches. -/
abbrev YA (c : Dev nD) (t : Fin 2048) (d : Fin 1024) : EReal := branch (O m c) (WA m c) t d
abbrev YC (c : Dev nD) (t : Fin 2048) (d : Fin 1024) : EReal := branch (C m c) (WC m c) t d + B m c d

/-- The gates' logits' gradient, both branches' side by side. -/
@[expose] def logits (c : Dev nD) (t : Fin 2048) (d : Fin 2048) : EReal :=
  if h : d.val < 1024 then dLogit (X m c) (WO m c) (G0 m c) (YA m c) t ⟨d.val, h⟩
  else dLogit (X m c) (WO m c) (G1 m c) (YC m c) t ⟨d.val - 1024, by omega⟩

set_option maxHeartbeats 2000000 in
/-- Every run of the reference ends with each result at the plain gradient, and the arguments as they were. -/
theorem run_entries (ρ : Dev nD → PrngReg) :
    θ_run defs (onTc (τ := τ) (main (F := Ideal))) ⟨m, fun _ => 0, ρ⟩ fun r => ∀ c : Dev nD,
      r.2.mem ((c.tc : Thread nD τ).loc main_v46) = (fun j => dBranch (X m c) (WO m c) (G0 m c) (j 0) (j 1))
      ∧ r.2.mem ((c.tc : Thread nD τ).loc main_v47) = (fun j => dBranch (X m c) (WO m c) (G1 m c) (j 0) (j 1))
      ∧ r.2.mem ((c.tc : Thread nD τ).loc main_v48) = (fun j => logits m c (j 0) (j 1))
      ∧ r.2.mem ((c.tc : Thread nD τ).loc main_v49) = (fun j => dInput (X m c) (WO m c) (G0 m c) (WA m c) (j 0) (j 1))
      ∧ r.2.mem ((c.tc : Thread nD τ).loc main_v50) = (fun j => dInput (X m c) (WO m c) (G1 m c) (WC m c) (j 0) (j 1))
      ∧ r.2.mem ((c.tc : Thread nD τ).loc main_v43) = (fun j => dBias (X m c) (WO m c) (G1 m c) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (run m ρ)
  obtain ⟨h0, h1, h2, h3, h4, h5, ha⟩ := h c
  refine ⟨h0.trans (funext fun j => ?_), h1.trans (funext fun j => ?_), h2.trans (funext fun j => ?_), h3.trans (funext fun j => ?_),
    h4.trans (funext fun j => ?_), h5.trans (funext fun j => ?_), ha⟩
  · obtain ⟨t, d, rfl⟩ : ∃ (t : Fin 2048) (d : Fin 1024), j = ix2 t d := ⟨j 0, j 1, eq_ix2 j⟩
    pointwise
    exact mul_comm _ _
  · obtain ⟨t, d, rfl⟩ : ∃ (t : Fin 2048) (d : Fin 1024), j = ix2 t d := ⟨j 0, j 1, eq_ix2 j⟩
    pointwise
    exact mul_comm _ _
  · clear h h0 h1 h2 h3 h4 h5 ha
    obtain ⟨t, d, rfl⟩ : ∃ (t : Fin 2048) (d : Fin 2048), j = ix2 t d := ⟨j 0, j 1, eq_ix2 j⟩
    rcases halves d with ⟨d, rfl⟩ | ⟨d, rfl⟩
    · pointwise
      clear * -
      have h1 : d.val / 1024 = 0 := Nat.div_eq_of_lt d.isLt
      have h2 : d.val % 1024 = d.val := Nat.mod_eq_of_lt d.isLt
      have h3 : d.val / 1024 * 1024 + d.val % 1024 = d.val := Nat.div_add_mod' _ _
      simp only [h3]
      rw [dif_neg (by omega), dif_pos (by omega), zero_add]
      simp only [h2]
      rw [mul_mul_mul_comm, ← mul_assoc, logits, dif_pos d.isLt]
      rfl
    · pointwise
      clear * -
      have h1 : (1024 + d.val) / 1024 = 1 := by omega
      have h3 : (1024 + d.val) / 1024 * 1024 + d.val = 1024 + d.val := by omega
      simp only [h3]
      rw [dif_pos (by omega), dif_neg (by omega), add_zero, mul_mul_mul_comm, ← mul_assoc, logits, dif_neg (Nat.not_lt.mpr (Nat.le_add_right _ _))]
      have e : (⟨1024 + d.val - 1024, by omega⟩ : Fin 1024) = d := Fin.ext (Nat.add_sub_cancel_left _ _)
      simp only [e]
      rfl
  · obtain ⟨t, d, rfl⟩ : ∃ (t : Fin 2048) (d : Fin 512), j = ix2 t d := ⟨j 0, j 1, eq_ix2 j⟩
    pointwise
    exact Finset.sum_congr rfl fun k _ => congrArg (· * _) (mul_comm _ _)
  · obtain ⟨t, d, rfl⟩ : ∃ (t : Fin 2048) (d : Fin 512), j = ix2 t d := ⟨j 0, j 1, eq_ix2 j⟩
    pointwise
    exact Finset.sum_congr rfl fun k _ => congrArg (· * _) (mul_comm _ _)
  · clear h h0 h1 h2 h3 h4 h5 ha
    obtain ⟨d, rfl⟩ : ∃ d : Fin 1024, j = ix2 0 d := ⟨j 1, (eq_ix2 j).trans (congrArg (ix2 · (j 1)) (Subsingleton.elim _ _))⟩
    pointwise
    simp only [Finset.univ_unique, Finset.sum_singleton]
    exact Finset.sum_congr rfl fun k _ => mul_comm _ _

end Cert.MixReferenceIdeal.Mix

end
-- ==== Proof.Mix.Claim.lean ====
module

/-
The value claim of the gated merge's gradient: the kernel's results and the reference's are the same plain
functions of the arguments' entries.
-/
public import proofs.«01_k».proof.Defs
public import proofs.«01_k».proof.Proof.Mix.Kernel
public import proofs.«01_k».proof.Proof.Mix.Reference

public section

set_option maxRecDepth 16384

noncomputable section

namespace Cert.Mix
open Idealize.ShloMosaic Idealize.SL.Sem
open Cert.MixMath

open Cert.MixKernelIdeal.Mix in
/-- The gates' logits' gradient, read alike on both sides. -/
theorem logits_eq (m m' c) (h0 : MixReferenceIdeal.Mix.X m' c = X m c) (h1 : MixReferenceIdeal.Mix.G0 m' c = G0 m c)
    (h2 : MixReferenceIdeal.Mix.G1 m' c = G1 m c) (h3 : MixReferenceIdeal.Mix.YA m' c = YA m c)
    (h4 : MixReferenceIdeal.Mix.YC m' c = YC m c) (h5 : MixReferenceIdeal.Mix.WO m' c = WO m c) :
    MixReferenceIdeal.Mix.logits m' c = logits m c := by
  funext t d
  unfold MixReferenceIdeal.Mix.logits logits
  rw [h0, h1, h2, h3, h4, h5]

theorem algebraic : Cert.algebraic_MixKernelIdeal_MixReferenceIdeal := by
  intro m g m' g' _ hargs
  refine ⟨fun c => (MixKernelIdeal.Gen.dats m 0 c).arrAt 8 MixKernelIdeal.cfg0.N,
    fun c => (MixKernelIdeal.Gen.dats m 0 c).arrAt 9 MixKernelIdeal.cfg0.N,
    fun c => (MixKernelIdeal.Gen.dats m 0 c).arrAt 10 MixKernelIdeal.cfg0.N,
    fun c => (MixKernelIdeal.Gen.dats m 0 c).arrAt 11 MixKernelIdeal.cfg0.N,
    fun c => (MixKernelIdeal.Gen.dats m 0 c).arrAt 12 MixKernelIdeal.cfg0.N,
    fun c => (MixKernelIdeal.Gen.dats m 0 c).arrAt 13 MixKernelIdeal.cfg0.N, ?_, ?_⟩
  · exact MixKernelIdeal.Value.run_blocks m g
  · refine (θ_run MixReferenceIdeal.defs _ _).mono (fun r h c => ?_) (MixReferenceIdeal.Mix.run_entries m' g')
    obtain ⟨r0, r1, r2, r3, r4, r5, ra⟩ := h c
    obtain ⟨a0, a1, a2, a3, a4, a5, a6, a7⟩ := hargs c
    have e0 : MixReferenceIdeal.Mix.X m' c = MixKernelIdeal.Mix.X m c := funext₂ fun t d => congrFun a0 _
    have e1 : MixReferenceIdeal.Mix.G0 m' c = MixKernelIdeal.Mix.G0 m c := funext₂ fun t d => congrFun a1 _
    have e2 : MixReferenceIdeal.Mix.G1 m' c = MixKernelIdeal.Mix.G1 m c := funext₂ fun t d => congrFun a1 _
    have e3 : MixReferenceIdeal.Mix.O m' c = MixKernelIdeal.Mix.O m c := funext₂ fun t d => congrFun a2 _
    have e4 : MixReferenceIdeal.Mix.C m' c = MixKernelIdeal.Mix.C m c := funext₂ fun t d => congrFun a3 _
    have e5 : MixReferenceIdeal.Mix.WA m' c = MixKernelIdeal.Mix.WA m c := funext₂ fun t d => congrFun a4 _
    have e6 : MixReferenceIdeal.Mix.WC m' c = MixKernelIdeal.Mix.WC m c := funext₂ fun t d => congrFun a5 _
    have e7 : MixReferenceIdeal.Mix.B m' c = MixKernelIdeal.Mix.B m c := funext fun d => congrFun a6 _
    have e8 : MixReferenceIdeal.Mix.WO m' c = MixKernelIdeal.Mix.WO m c := funext₂ fun t d => congrFun a7 _
    have e9 : MixReferenceIdeal.Mix.YA m' c = MixKernelIdeal.Mix.YA m c := by
      unfold MixReferenceIdeal.Mix.YA MixKernelIdeal.Mix.YA; rw [e3, e5]
    have e10 : MixReferenceIdeal.Mix.YC m' c = MixKernelIdeal.Mix.YC m c := by
      unfold MixReferenceIdeal.Mix.YC MixKernelIdeal.Mix.YC; rw [e4, e6, e7]
    rw [e0, e1, e8] at r0
    rw [e0, e2, e8] at r1
    rw [logits_eq m m' c e0 e1 e2 e9 e10 e8] at r2
    rw [e0, e1, e5, e8] at r3
    rw [e0, e2, e6, e8] at r4
    rw [e0, e2, e8] at r5
    exact ⟨r0.trans (MixKernelIdeal.Mix.final8 m c).symm, r1.trans (MixKernelIdeal.Mix.final9 m c).symm,
      r2.trans (MixKernelIdeal.Mix.final10 m c).symm, r3.trans (MixKernelIdeal.Mix.final11 m c).symm,
      r4.trans (MixKernelIdeal.Mix.final12 m c).symm, r5.trans (MixKernelIdeal.Mix.final13 m c).symm, ra⟩

/-- The reference's frame: its run changes no argument, and it has no semaphore. -/
theorem frame_reference : Cert.quiescent_MixReferenceIdeal := fun m ρ _ =>
  (θ_run Cert.MixReferenceIdeal.defs _ _).mono (fun r h => ⟨fun c => (h c).2.2.2.2.2.2,
      Idealize.ShloMosaic.sem_eq_zero_of_no_sems (by decide) r.2⟩)
    (Cert.MixReferenceIdeal.Value.run (F := Ideal) m ρ)

end Cert.Mix

end
-- ==== Proof.GradFfnIn.Kernel.lean ====
module

/-
What the weight-gradient kernel of the feed-forward's first product leaves in its result: `h2ᵀ · dgu`, its 5632 columns
cut into the four shards that the mesh's devices keep. The kernel transposes a block of 512 columns of `h2` once, at
the first of four grid points, and multiplies it by one shard's columns at each.
-/
public import proofs.«01_k».proof.Proof.Gen.GradFfnInKernelIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.GradFfnInKernelIdeal.Entries
open Cert.GradFfnInKernelIdeal Cert.GradFfnInKernelIdeal.Gen
open Idealize.ShloMosaic Idealize.ShloMosaic.TcCoe Idealize.ShloMosaic.Tactic
open Idealize.ShloMosaic.StableHlo

variable (m : (ℓ : Loc nD τ sig) → Buf (Elt Ideal) ℓ)

/-- The normed hidden state and the incoming gradient, as launched. -/
abbrev A (c : Dev nD) (t : Fin 2048) (i : Fin 1024) : EReal := m ((c : Thread nD τ).loc main_arg0) (ix2 t i)
abbrev B (c : Dev nD) (t : Fin 2048) (d : Fin 5632) : EReal := m ((c : Thread nD τ).loc main_arg1) (ix2 t d)

/-- Where the windows' blocks lie, decided over the grid. -/
theorem idx : ∀ t : Fin cfg0.N, win0_0.index t = ![0, t.val / 4] ∧ win0_1.index t = ![0, t.val % 4]
    ∧ win0_2.index t = ![t.val % 4, t.val / 4, 0] := by
  decide +kernel

theorem N_eq : cfg0.N = 8 := N_0

/-- Row `r` of block `n / 4`, at the `n`-th grid point, -/
abbrev row (n : ℕ) (hn : n < cfg0.N) (r : Fin 512) : Fin 1024 := ⟨512 * (n / 4) + r.val, by have := N_eq; omega⟩

/-- its shard, -/
abbrev shard (t : Fin cfg0.N) : Fin 4 := ⟨t.val % 4, by omega⟩

/-- and column `x` of a shard. -/
abbrev col (s : Fin 4) (x : Fin 1408) : Fin 5632 := ⟨1408 * s.val + x.val, by omega⟩

theorem blk_a (c : Dev nD) (t : Fin cfg0.N) (k : Fin 2048) (r : Fin 512) :
    iblk m c 0 t (ix2 k r) = A m c k (row t.val t.isLt r) := by
  refine Eq.trans (?_ : _ = V m c main_arg0 (ix2 k (row t.val t.isLt r))) (by rw [V_main_arg0])
  blk_ext [iblk, idx t]

theorem blk_b (c : Dev nD) (t : Fin cfg0.N) (k : Fin 2048) (x : Fin 1408) :
    iblk m c 1 t (ix2 k x) = B m c k (col (shard t) x) := by
  refine Eq.trans (?_ : _ = V m c main_arg1 (ix2 k (col (shard t) x))) (by rw [V_main_arg1])
  blk_ext [iblk, idx t]

/-- The scratch holds the transposed block, from the first of its four grid points to the last. -/
theorem scratch (c : Dev nD) (r : Fin 512) (k : Fin 2048) : ∀ (n : ℕ) (hn : n < cfg0.N),
    (outsAt0 m c n hn).2 (ix2 r k) = A m c k (row n hn r) := by
  intro n
  induction n with
  | zero =>
    intro hn
    rw [outsAt0_A m c ⟨0, hn⟩ (Nat.zero_mod 4)]
    unfold sout0_A_0; frame_out
    unfold_payloads; pointwise
    exact blk_a m c ⟨0, hn⟩ k r
  | succ n ih =>
    intro hn
    by_cases h0 : (n + 1) % 4 = 0
    · rw [outsAt0_A m c ⟨n + 1, hn⟩ h0]
      unfold sout0_A_0; frame_out
      unfold_payloads; pointwise
      exact blk_a m c ⟨n + 1, hn⟩ k r
    · rw [outsAt0_B m c ⟨n + 1, hn⟩ h0]
      refine (ih (Nat.lt_of_succ_lt hn)).trans (congrArg (A m c k) (Fin.ext ?_))
      show 512 * (n / 4) + r.val = 512 * ((n + 1) / 4) + r.val
      omega

/-- The product, one shard's columns a grid point, -/
theorem out2 (c : Dev nD) (t : Fin cfg0.N) (r : Fin 512) (x : Fin 1408) :
    (outsAt0 m c t.val t.isLt).1 (ix3 0 r x) = ∑ k, A m c k (row t.val t.isLt r) * B m c k (col (shard t) x) := by
  by_cases h0 : t.val % 4 = 0
  · rw [outsAt0_A m c t h0]; frame_out
    unfold_payloads; pointwise
    simp only [blk_a, blk_b]
  · rw [outsAt0_B m c t h0]; frame_out
    unfold_payloads; pointwise
    have hp : row (t.val - 1) (by omega) r = row t.val t.isLt r := by
      refine Fin.ext ?_
      show 512 * ((t.val - 1) / 4) + r.val = 512 * (t.val / 4) + r.val
      omega
    simp only [read_unread_whole, scratch, blk_b, hp]

/-- and as one array. -/
theorem final2 (c : Dev nD) : (dats m 0 c).arrAt 2 cfg0.N = fun j => ∑ k, A m c k (j 1) * B m c k (col (j 0) (j 2)) := by
  refine (dats m 0 c).arrAt_eq_of_covers 2 _ (by decide +kernel) fun t hf y => ?_
  blk_simp
  rw [after0_2]
  obtain ⟨r, x, rfl⟩ : ∃ (r : Fin 512) (x : Fin 1408), y = ix3 0 r x :=
    ⟨y 1, y 2, (eq_ix3 y).trans (congrArg (ix3 · (y 1) (y 2)) (Subsingleton.elim _ _))⟩
  have e : (((cfg0.win 2).blk t).view.emb (ix3 0 r x)) = ix3 (shard t) (row t.val t.isLt r) x := by blk_ext [idx t]
  rw [e]
  exact out2 m c t r x

end Cert.GradFfnInKernelIdeal.Entries

end
-- ==== Proof.GradFfnIn.Claim.lean ====
module

/-
The value claim of the weight gradient of the feed-forward's first product: kernel and reference are both
`∑ t, h2 t i · dgu t d`, column `1408 s + x` of it at `(s, i, x)`.
-/
public import proofs.«01_k».proof.Defs
public import proofs.«01_k».proof.Proof.GradFfnIn.Kernel
public import proofs.«01_k».proof.Proof.Gen.GradFfnInReferenceIdeal.Run

public section

set_option maxRecDepth 16384

noncomputable section

namespace Cert.GradFfnIn
open Idealize.ShloMosaic Idealize.ShloMosaic.TcCoe Idealize.SL.Sem

section Reference
open Cert.GradFfnInReferenceIdeal
variable (m : (ℓ : Loc nD τ sig) → Buf (Elt Ideal) ℓ) (ρ : Dev nD → PrngReg)

/-- The normed hidden state and the incoming gradient, as launched. -/
abbrev A (c : Dev nD) (t : Fin 2048) (i : Fin 1024) : EReal := m ((c : Thread nD τ).loc main_arg0) (ix2 t i)
abbrev B (c : Dev nD) (t : Fin 2048) (d : Fin 5632) : EReal := m ((c : Thread nD τ).loc main_arg1) (ix2 t d)

/-- A term of the product, its column found at its number. -/
theorem term_eq (c : Dev nD) (k : Fin 2048) (i) (d d' : Fin 5632) (h : d.val = d'.val) :
    B m c k d * A m c k i = A m c k i * B m c k d' := by
  rw [mul_comm, Fin.ext h]

/-- The reference's result, entry by entry. -/
theorem run_entries : θ_run defs (onTc (τ := τ) (main (F := Ideal))) ⟨m, fun _ => 0, ρ⟩ (fun r => ∀ c : Dev nD,
    r.2.mem ((c : Thread nD τ).loc main_v15) = (fun j => ∑ k, A m c k (j 1) * B m c k (GradFfnInKernelIdeal.Entries.col (j 0) (j 2)))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) := by
  refine (θ_run defs _ _).mono (fun r h c => ⟨(h c).1.trans ?_, (h c).2⟩) (Value.run (F := Ideal) m ρ)
  clear h
  funext j
  obtain ⟨s, i, x, rfl⟩ : ∃ (s : Fin 4) (i : Fin 1024) (x : Fin 1408), j = ix3 s i x := ⟨j 0, j 1, j 2, eq_ix3 j⟩
  fin_cases s
  all_goals
    pointwise
    exact Finset.sum_congr rfl fun k _ => term_eq m c k i _ _ (by simp)

end Reference

theorem algebraic : Cert.algebraic_GradFfnInKernelIdeal_GradFfnInReferenceIdeal := by
  intro m g m' g' _ hargs
  refine ⟨fun c => (GradFfnInKernelIdeal.Gen.dats m 0 c).arrAt 2 GradFfnInKernelIdeal.cfg0.N, ?_, ?_⟩
  · exact GradFfnInKernelIdeal.Value.run_blocks m g
  · refine (θ_run GradFfnInReferenceIdeal.defs _ _).mono (fun r h c => ?_) (run_entries m' g')
    obtain ⟨r0, ra⟩ := h c
    obtain ⟨a0, a1, a2⟩ := hargs c
    have e0 : A m' c = GradFfnInKernelIdeal.Entries.A m c := funext₂ fun t d => congrFun a0 _
    have e1 : B m' c = GradFfnInKernelIdeal.Entries.B m c := funext₂ fun t d => congrFun a1 _
    rw [e0, e1] at r0
    exact ⟨r0.trans (GradFfnInKernelIdeal.Entries.final2 m c).symm, ra⟩

/-- The reference's frame: its run changes no argument, and it has no semaphore. -/
theorem frame_reference : Cert.quiescent_GradFfnInReferenceIdeal := fun m ρ _ =>
  (θ_run Cert.GradFfnInReferenceIdeal.defs _ _).mono (fun r h => ⟨fun c => (h c).2,
      Idealize.ShloMosaic.sem_eq_zero_of_no_sems (by decide) r.2⟩)
    (Cert.GradFfnInReferenceIdeal.Value.run (F := Ideal) m ρ)

end Cert.GradFfnIn

end
-- ==== Proof.GradFfnDown.Kernel.lean ====
module

/-
What the down projection's weight-gradient kernel leaves in its result: each grid point writes the rows of
`actᵀ · dx2` that belong to its 256 columns of `act`, and the blocks cover the result.
-/
public import proofs.«01_k».proof.Proof.Gen.GradFfnDownKernelIdeal.Value
public import Idealize.ShloMosaic.Lib.Pointwise
public import Idealize.ShloMosaic.Lib.Pipeline.ValueKit

@[expose] public section

set_option maxRecDepth 16384

noncomputable section

namespace Cert.GradFfnDownKernelIdeal.Entries
open Cert.GradFfnDownKernelIdeal Cert.GradFfnDownKernelIdeal.Gen
open Idealize.ShloMosaic Idealize.ShloMosaic.TcCoe Idealize.ShloMosaic.Tactic
open Idealize.ShloMosaic.StableHlo

variable (m : (ℓ : Loc nD τ sig) → Buf (Elt Ideal) ℓ)

/-- The activations and the incoming gradient, as launched. -/
abbrev A (c : Dev nD) (t : Fin 2048) (i : Fin 2816) : EReal := m ((c : Thread nD τ).loc main_arg0) (ix2 t i)
abbrev B (c : Dev nD) (t : Fin 2048) (d : Fin 1024) : EReal := m ((c : Thread nD τ).loc main_arg1) (ix2 t d)

/-- Where the windows' blocks lie, decided over the grid. -/
theorem idx : ∀ t : Fin cfg0.N, win0_0.index t = ![0, t.val] ∧ win0_1.index t = ![0, 0] ∧ win0_2.index t = ![0, t.val, 0] := by
  decide +kernel

/-- Column `r` of block `t`. -/
abbrev row (t : Fin cfg0.N) (r : Fin 256) : Fin 2816 :=
  ⟨256 * t.val + r.val, by have : t.val < 11 := lt_of_lt_of_eq t.isLt (show cfg0.N = 11 from N_0); omega⟩

theorem blk_a (c : Dev nD) (t : Fin cfg0.N) (k : Fin 2048) (r : Fin 256) : iblk m c 0 t (ix2 k r) = A m c k (row t r) := by
  refine Eq.trans (?_ : _ = V m c main_arg0 (ix2 k (row t r))) (by rw [V_main_arg0])
  blk_ext [iblk, idx t]

theorem blk_b (c : Dev nD) (t : Fin cfg0.N) (k : Fin 2048) (d : Fin 1024) : iblk m c 1 t (ix2 k d) = B m c k d := by
  refine Eq.trans (?_ : _ = V m c main_arg1 (ix2 k d)) (by rw [V_main_arg1])
  blk_ext [iblk, idx t]

/-- The product, block by block, -/
theorem out2 (c : Dev nD) (t : Fin cfg0.N) (r : Fin 256) (d : Fin 1024) :
    outsAt0 m c t (ix3 0 r d) = ∑ k, A m c k (row t r) * B m c k d := by
  unfold outsAt0; frame_out
  unfold_payloads; pointwise
  simp only [blk_a, blk_b]

/-- and as one array. -/
theorem final2 (c : Dev nD) : (dats m 0 c).arrAt 2 cfg0.N = fun j => ∑ k, A m c k (j 1) * B m c k (j 2) := by
  refine (dats m 0 c).arrAt_eq_of_covers 2 _ (by decide +kernel) fun t hf y => ?_
  blk_simp
  rw [after0_2]
  obtain ⟨r, d, rfl⟩ : ∃ (r : Fin 256) (d : Fin 1024), y = ix3 0 r d :=
    ⟨y 1, y 2, (eq_ix3 y).trans (congrArg (ix3 · (y 1) (y 2)) (Subsingleton.elim _ _))⟩
  have e : (((cfg0.win 2).blk t).view.emb (ix3 0 r d)) = ix3 0 (row t r) d := by blk_ext [idx t]
  rw [e]
  exact out2 m c t r d

end Cert.GradFfnDownKernelIdeal.Entries

end
-- ==== Proof.GradFfnDown.Claim.lean ====
module

/-
The value claim of the down projection's weight gradient: kernel and reference are both `∑ t, act t i · dx2 t d`.
-/
public import proofs.«01_k».proof.Defs
public import proofs.«01_k».proof.Proof.GradFfnDown.Kernel
public import proofs.«01_k».proof.Proof.Gen.GradFfnDownReferenceIdeal.Run

public section

set_option maxRecDepth 16384

noncomputable section

namespace Cert.GradFfnDown
open Idealize.ShloMosaic Idealize.ShloMosaic.TcCoe Idealize.SL.Sem

section Reference
open Cert.GradFfnDownReferenceIdeal
variable (m : (ℓ : Loc nD τ sig) → Buf (Elt Ideal) ℓ) (ρ : Dev nD → PrngReg)

/-- The activations and the incoming gradient, as launched. -/
abbrev A (c : Dev nD) (t : Fin 2048) (i : Fin 2816) : EReal := m ((c : Thread nD τ).loc main_arg0) (ix2 t i)
abbrev B (c : Dev nD) (t : Fin 2048) (d : Fin 1024) : EReal := m ((c : Thread nD τ).loc main_arg1) (ix2 t d)

/-- The reference's result, entry by entry. -/
theorem run_entries : θ_run defs (onTc (τ := τ) (main (F := Ideal))) ⟨m, fun _ => 0, ρ⟩ (fun r => ∀ c : Dev nD,
    r.2.mem ((c : Thread nD τ).loc main_v7) = (fun j => ∑ k, A m c k (j 1) * B m c k (j 2))
    ∧ r.2.mem ((c : Thread nD τ).loc main_arg0) = m ((c : Thread nD τ).loc main_arg0)
    ∧ r.2.mem ((c : Thread nD τ).loc main_arg1) = m ((c : Thread nD τ).loc main_arg1)) := by
  refine (θ_run defs _ _).mono (fun r h c => ⟨(h c).1.trans ?_, (h c).2⟩) (Value.run (F := Ideal) m ρ)
  clear h
  funext j
  obtain ⟨i, d, rfl⟩ : ∃ (i : Fin 2816) (d : Fin 1024), j = ix3 0 i d :=
    ⟨j 1, j 2, (eq_ix3 j).trans (congrArg (ix3 · (j 1) (j 2)) (Subsingleton.elim _ _))⟩
  pointwise
  exact Finset.sum_congr rfl fun k _ => mul_comm _ _

end Reference

theorem algebraic : Cert.algebraic_GradFfnDownKernelIdeal_GradFfnDownReferenceIdeal := by
  intro m g m' g' _ hargs
  refine ⟨fun c => (GradFfnDownKernelIdeal.Gen.dats m 0 c).arrAt 2 GradFfnDownKernelIdeal.cfg0.N, ?_, ?_⟩
  · exact GradFfnDownKernelIdeal.Value.run_blocks m g
  · refine (θ_run GradFfnDownReferenceIdeal.defs _ _).mono (fun r h c => ?_) (run_entries m' g')
    obtain ⟨r0, ra⟩ := h c
    obtain ⟨a0, a1⟩ := hargs c
    have e0 : A m' c = GradFfnDownKernelIdeal.Entries.A m c := funext₂ fun t d => congrFun a0 _
    have e1 : B m' c = GradFfnDownKernelIdeal.Entries.B m c := funext₂ fun t d => congrFun a1 _
    rw [e0, e1] at r0
    exact ⟨r0.trans (GradFfnDownKernelIdeal.Entries.final2 m c).symm, ra⟩

/-- The reference's frame: its run changes no argument, and it has no semaphore. -/
theorem frame_reference : Cert.quiescent_GradFfnDownReferenceIdeal := fun m ρ _ =>
  (θ_run Cert.GradFfnDownReferenceIdeal.defs _ _).mono (fun r h => ⟨fun c => (h c).2,
      Idealize.ShloMosaic.sem_eq_zero_of_no_sems (by decide) r.2⟩)
    (Cert.GradFfnDownReferenceIdeal.Value.run (F := Ideal) m ρ)

end Cert.GradFfnDown

end
-- ==== Proof.GradOut.Kernel.lean ====
module

/-
What the output projection's weight-gradient kernel leaves in its result: each grid point writes the rows of
`mgᵀ · dx1` that belong to its 512 columns of `mg`, and the blocks cover the result.
-/
public import proofs.«01_k».proof.Proof.Gen.GradOutKernelIdeal.Value
public import Idealize.ShloMosaic.Lib.Pointwise
public import Idealize.ShloMosaic.Lib.Pipeline.ValueKit

@[expose] public section

set_option maxRecDepth 16384

noncomputable section

namespace Cert.GradOutKernelIdeal.Entries
open Cert.GradOutKernelIdeal Cert.GradOutKernelIdeal.Gen
open Idealize.ShloMosaic Idealize.ShloMosaic.TcCoe Idealize.ShloMosaic.Tactic
open Idealize.ShloMosaic.StableHlo

variable (m : (ℓ : Loc nD τ sig) → Buf (Elt Ideal) ℓ)

/-- The merged branch and the incoming gradient, as launched. -/
abbrev A (c : Dev nD) (t : Fin 2048) (i : Fin 1024) : EReal := m ((c : Thread nD τ).loc main_arg0) (ix2 t i)
abbrev B (c : Dev nD) (t : Fin 2048) (d : Fin 1024) : EReal := m ((c : Thread nD τ).loc main_arg1) (ix2 t d)

/-- Where the windows' blocks lie, decided over the grid. -/
theorem idx : ∀ t : Fin cfg0.N, win0_0.index t = ![0, t.val] ∧ win0_1.index t = ![0, 0] ∧ win0_2.index t = ![0, t.val, 0] := by
  decide +kernel

/-- Column `r` of block `t`. -/
abbrev row (t : Fin cfg0.N) (r : Fin 512) : Fin 1024 :=
  ⟨512 * t.val + r.val, by have : t.val < 2 := lt_of_lt_of_eq t.isLt (show cfg0.N = 2 from N_0); omega⟩

theorem blk_a (c : Dev nD) (t : Fin cfg0.N) (k : Fin 2048) (r : Fin 512) : iblk m c 0 t (ix2 k r) = A m c k (row t r) := by
  refine Eq.trans (?_ : _ = V m c main_arg0 (ix2 k (row t r))) (by rw [V_main_arg0])
  blk_ext [iblk, idx t]

theorem blk_b (c : Dev nD) (t : Fin cfg0.N) (k : Fin 2048) (d : Fin 1024) : iblk m c 1 t (ix2 k d) = B m c k d := by
  refine Eq.trans (?_ : _ = V m c main_arg1 (ix2 k d)) (by rw [V_main_arg1])
  blk_ext [iblk, idx t]

/-- The product, block by block, -/
theorem out2 (c : Dev nD) (t : Fin cfg0.N) (r : Fin 512) (d : Fin 1024) :
    outsAt0 m c t (ix3 0 r d) = ∑ k, A m c k (row t r) * B m c k d := by
  unfold outsAt0; frame_out
  unfold_payloads; pointwise
  simp only [blk_a, blk_b]

/-- and as one array. -/
theorem final2 (c : Dev nD) : (dats m 0 c).arrAt 2 cfg0.N = fun j => ∑ k, A m c k (j 1) * B m c k (j 2) := by
  refine (dats m 0 c).arrAt_eq_of_covers 2 _ (by decide +kernel) fun t hf y => ?_
  blk_simp
  rw [after0_2]
  obtain ⟨r, d, rfl⟩ : ∃ (r : Fin 512) (d : Fin 1024), y = ix3 0 r d :=
    ⟨y 1, y 2, (eq_ix3 y).trans (congrArg (ix3 · (y 1) (y 2)) (Subsingleton.elim _ _))⟩
  have e : (((cfg0.win 2).blk t).view.emb (ix3 0 r d)) = ix3 0 (row t r) d := by blk_ext [idx t]
  rw [e]
  exact out2 m c t r d

end Cert.GradOutKernelIdeal.Entries

end
-- ==== Proof.GradOut.Claim.lean ====
module

/-
The value claim of the output projection's weight gradient: kernel and reference are both `∑ t, mg t i · dx1 t d`.
-/
public import proofs.«01_k».proof.Defs
public import proofs.«01_k».proof.Proof.GradOut.Kernel
public import proofs.«01_k».proof.Proof.Gen.GradOutReferenceIdeal.Run

public section

set_option maxRecDepth 16384

noncomputable section

namespace Cert.GradOut
open Idealize.ShloMosaic Idealize.ShloMosaic.TcCoe Idealize.SL.Sem

section Reference
open Cert.GradOutReferenceIdeal
variable (m : (ℓ : Loc nD τ sig) → Buf (Elt Ideal) ℓ) (ρ : Dev nD → PrngReg)

/-- The merged branch and the incoming gradient, as launched. -/
abbrev A (c : Dev nD) (t : Fin 2048) (i : Fin 1024) : EReal := m ((c : Thread nD τ).loc main_arg0) (ix2 t i)
abbrev B (c : Dev nD) (t : Fin 2048) (d : Fin 1024) : EReal := m ((c : Thread nD τ).loc main_arg1) (ix2 t d)

/-- The reference's result, entry by entry. -/
theorem run_entries : θ_run defs (onTc (τ := τ) (main (F := Ideal))) ⟨m, fun _ => 0, ρ⟩ (fun r => ∀ c : Dev nD,
    r.2.mem ((c : Thread nD τ).loc main_v7) = (fun j => ∑ k, A m c k (j 1) * B m c k (j 2))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) := by
  refine (θ_run defs _ _).mono (fun r h c => ⟨(h c).1.trans ?_, (h c).2⟩) (Value.run (F := Ideal) m ρ)
  clear h
  funext j
  obtain ⟨i, d, rfl⟩ : ∃ (i : Fin 1024) (d : Fin 1024), j = ix3 0 i d :=
    ⟨j 1, j 2, (eq_ix3 j).trans (congrArg (ix3 · (j 1) (j 2)) (Subsingleton.elim _ _))⟩
  pointwise
  exact Finset.sum_congr rfl fun k _ => mul_comm _ _

end Reference

theorem algebraic : Cert.algebraic_GradOutKernelIdeal_GradOutReferenceIdeal := by
  intro m g m' g' _ hargs
  refine ⟨fun c => (GradOutKernelIdeal.Gen.dats m 0 c).arrAt 2 GradOutKernelIdeal.cfg0.N, ?_, ?_⟩
  · exact GradOutKernelIdeal.Value.run_blocks m g
  · refine (θ_run GradOutReferenceIdeal.defs _ _).mono (fun r h c => ?_) (run_entries m' g')
    obtain ⟨r0, ra⟩ := h c
    obtain ⟨a0, a1, a2⟩ := hargs c
    have e0 : A m' c = GradOutKernelIdeal.Entries.A m c := funext₂ fun t d => congrFun a0 _
    have e1 : B m' c = GradOutKernelIdeal.Entries.B m c := funext₂ fun t d => congrFun a1 _
    rw [e0, e1] at r0
    exact ⟨r0.trans (GradOutKernelIdeal.Entries.final2 m c).symm, ra⟩

/-- The reference's frame: its run changes no argument, and it has no semaphore. -/
theorem frame_reference : Cert.quiescent_GradOutReferenceIdeal := fun m ρ _ =>
  (θ_run Cert.GradOutReferenceIdeal.defs _ _).mono (fun r h => ⟨fun c => (h c).2,
      Idealize.ShloMosaic.sem_eq_zero_of_no_sems (by decide) r.2⟩)
    (Cert.GradOutReferenceIdeal.Value.run (F := Ideal) m ρ)

end Cert.GradOut

end
-- ==== Proof.GradBranch.Kernel.lean ====
module

/-
What the weight-gradient kernel of a branch's output projection leaves in its result: `oᵀ · dy`, its 1024 columns cut
into the four shards that the mesh's devices keep.
-/
public import proofs.«01_k».proof.Proof.Gen.GradBranchKernelIdeal.Value
public import Idealize.ShloMosaic.Lib.Pointwise
public import Idealize.ShloMosaic.Lib.Pipeline.ValueKit

@[expose] public section

set_option maxRecDepth 16384

noncomputable section

namespace Cert.GradBranchKernelIdeal.Entries
open Cert.GradBranchKernelIdeal Cert.GradBranchKernelIdeal.Gen
open Idealize.ShloMosaic Idealize.ShloMosaic.TcCoe Idealize.ShloMosaic.Tactic
open Idealize.ShloMosaic.StableHlo

variable (m : (ℓ : Loc nD τ sig) → Buf (Elt Ideal) ℓ)

/-- The branch and the incoming gradient, as launched. -/
abbrev A (c : Dev nD) (t : Fin 2048) (i : Fin 512) : EReal := m ((c : Thread nD τ).loc main_arg0) (ix2 t i)
abbrev B (c : Dev nD) (t : Fin 2048) (d : Fin 1024) : EReal := m ((c : Thread nD τ).loc main_arg1) (ix2 t d)

/-- Where the windows' blocks lie, decided over the grid. -/
theorem idx : ∀ t : Fin cfg0.N, win0_0.index t = ![0, 0] ∧ win0_1.index t = ![0, 0] ∧ win0_2.index t = ![0, 0, 0] := by
  decide +kernel

/-- Column `x` of shard `s`. -/
abbrev col (s : Fin 4) (x : Fin 256) : Fin 1024 := ⟨256 * s.val + x.val, by omega⟩

theorem blk_a (c : Dev nD) (t : Fin cfg0.N) (k : Fin 2048) (r : Fin 512) : iblk m c 0 t (ix2 k r) = A m c k r := by
  refine Eq.trans (?_ : _ = V m c main_arg0 (ix2 k r)) (by rw [V_main_arg0])
  blk_ext [iblk, idx t]

theorem blk_b (c : Dev nD) (t : Fin cfg0.N) (k : Fin 2048) (d : Fin 1024) : iblk m c 1 t (ix2 k d) = B m c k d := by
  refine Eq.trans (?_ : _ = V m c main_arg1 (ix2 k d)) (by rw [V_main_arg1])
  blk_ext [iblk, idx t]

/-- The two blocks' entries at a grid point, -/
abbrev P (c : Dev nD) (t : Fin cfg0.N) (k : Fin 2048) (r : Fin 512) : EReal := iblk m c 0 t (ix2 k r)
abbrev Q (c : Dev nD) (t : Fin cfg0.N) (k : Fin 2048) (d : Fin 1024) : EReal := iblk m c 1 t (ix2 k d)

/-- and a term of the product, found at its numbers. -/
theorem term_eq (c : Dev nD) (t : Fin cfg0.N) (k : Fin 2048) (r r' : Fin 512) (d d' : Fin 1024) (hr : r.val = r'.val)
    (hd : d.val = d'.val) : P m c t k r * Q m c t k d = A m c k r' * B m c k d' := by
  rw [P, Q, blk_a, blk_b, Fin.ext hr, Fin.ext hd]

/-- The product, one store a shard, -/
theorem out2 (c : Dev nD) (t : Fin cfg0.N) (s : Fin 4) (r : Fin 512) (x : Fin 256) :
    outsAt0 m c t (ix3 s r x) = ∑ k, A m c k r * B m c k (col s x) := by
  unfold outsAt0; frame_out
  canon_tiles z h
  all_goals
    unfold_payloads; pointwise
    refine Finset.sum_congr rfl fun k _ => term_eq m c t k _ _ _ _ ?_ ?_
  all_goals simp at *; omega

/-- and as one array. -/
theorem final2 (c : Dev nD) : (dats m 0 c).arrAt 2 cfg0.N = fun j => ∑ k, A m c k (j 1) * B m c k (col (j 0) (j 2)) := by
  refine (dats m 0 c).arrAt_eq_of_covers 2 _ (by decide +kernel) fun t hf y => ?_
  blk_simp
  rw [after0_2]
  obtain ⟨s, r, x, rfl⟩ : ∃ (s : Fin 4) (r : Fin 512) (x : Fin 256), y = ix3 s r x := ⟨y 0, y 1, y 2, eq_ix3 y⟩
  have e : (((cfg0.win 2).blk t).view.emb (ix3 s r x)) = ix3 s r x := by blk_ext [idx t]
  rw [e]
  exact out2 m c t s r x

end Cert.GradBranchKernelIdeal.Entries

end
-- ==== Proof.GradBranch.Claim.lean ====
module

/-
The value claim of the weight gradient of a branch's output projection: kernel and reference are both `∑ t, o t i · dy t d`,
column `256 s + x` of it at `(s, i, x)`.
-/
public import proofs.«01_k».proof.Defs
public import proofs.«01_k».proof.Proof.GradBranch.Kernel
public import proofs.«01_k».proof.Proof.Gen.GradBranchReferenceIdeal.Run

public section

set_option maxRecDepth 16384

noncomputable section

namespace Cert.GradBranch
open Idealize.ShloMosaic Idealize.ShloMosaic.TcCoe Idealize.SL.Sem

section Reference
open Cert.GradBranchReferenceIdeal
variable (m : (ℓ : Loc nD τ sig) → Buf (Elt Ideal) ℓ) (ρ : Dev nD → PrngReg)

/-- The branch and the incoming gradient, as launched. -/
abbrev A (c : Dev nD) (t : Fin 2048) (i : Fin 512) : EReal := m ((c : Thread nD τ).loc main_arg0) (ix2 t i)
abbrev B (c : Dev nD) (t : Fin 2048) (d : Fin 1024) : EReal := m ((c : Thread nD τ).loc main_arg1) (ix2 t d)

/-- A term of the product, its column found at its number. -/
theorem term_eq (c : Dev nD) (k : Fin 2048) (i) (d d' : Fin 1024) (h : d.val = d'.val) :
    B m c k d * A m c k i = A m c k i * B m c k d' := by
  rw [mul_comm, Fin.ext h]

/-- The reference's result, entry by entry. -/
theorem run_entries : θ_run defs (onTc (τ := τ) (main (F := Ideal))) ⟨m, fun _ => 0, ρ⟩ (fun r => ∀ c : Dev nD,
    r.2.mem ((c : Thread nD τ).loc main_v15) = (fun j => ∑ k, A m c k (j 1) * B m c k (GradBranchKernelIdeal.Entries.col (j 0) (j 2)))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) := by
  refine (θ_run defs _ _).mono (fun r h c => ⟨(h c).1.trans ?_, (h c).2⟩) (Value.run (F := Ideal) m ρ)
  clear h
  funext j
  obtain ⟨s, i, x, rfl⟩ : ∃ (s : Fin 4) (i : Fin 512) (x : Fin 256), j = ix3 s i x := ⟨j 0, j 1, j 2, eq_ix3 j⟩
  fin_cases s
  all_goals
    pointwise
    exact Finset.sum_congr rfl fun k _ => term_eq m c k i _ _ (by simp)

end Reference

theorem algebraic : Cert.algebraic_GradBranchKernelIdeal_GradBranchReferenceIdeal := by
  intro m g m' g' _ hargs
  refine ⟨fun c => (GradBranchKernelIdeal.Gen.dats m 0 c).arrAt 2 GradBranchKernelIdeal.cfg0.N, ?_, ?_⟩
  · exact GradBranchKernelIdeal.Value.run_blocks m g
  · refine (θ_run GradBranchReferenceIdeal.defs _ _).mono (fun r h c => ?_) (run_entries m' g')
    obtain ⟨r0, ra⟩ := h c
    obtain ⟨a0, a1, a2⟩ := hargs c
    have e0 : A m' c = GradBranchKernelIdeal.Entries.A m c := funext₂ fun t d => congrFun a0 _
    have e1 : B m' c = GradBranchKernelIdeal.Entries.B m c := funext₂ fun t d => congrFun a1 _
    rw [e0, e1] at r0
    exact ⟨r0.trans (GradBranchKernelIdeal.Entries.final2 m c).symm, ra⟩

/-- The reference's frame: its run changes no argument, and it has no semaphore. -/
theorem frame_reference : Cert.quiescent_GradBranchReferenceIdeal := fun m ρ _ =>
  (θ_run Cert.GradBranchReferenceIdeal.defs _ _).mono (fun r h => ⟨fun c => (h c).2,
      Idealize.ShloMosaic.sem_eq_zero_of_no_sems (by decide) r.2⟩)
    (Cert.GradBranchReferenceIdeal.Value.run (F := Ideal) m ρ)

end Cert.GradBranch

end
-- ==== Proof.GradIn.Kernel.lean ====
module

/-
What the weight-gradient kernel of the input projection leaves in its result: `dprojᵀ · h`, where `dproj` is the four
incoming gradients side by side. Each grid point takes 512 columns of `h` and stores the product 256 rows at a time.
-/
public import proofs.«01_k».proof.Proof.Gen.GradInKernelIdeal.Value
public import Idealize.ShloMosaic.Lib.Pointwise
public import Idealize.ShloMosaic.Lib.Pipeline.ValueKit

@[expose] public section

set_option maxRecDepth 16384

noncomputable section

/-- The four incoming gradients side by side: `dq`, `dkv`, `dglu`, `dgl`. -/
def Cert.GradIn.beside (dq : Fin 512 → EReal) (dkv : Fin 256 → EReal) (dglu : Fin 1024 → EReal) (dgl : Fin 2048 → EReal)
    (p : Fin 3840) : EReal :=
  if h : p.val < 512 then dq ⟨p.val, h⟩
  else if h : p.val - 512 < 256 then dkv ⟨p.val - 512, h⟩
  else if h : p.val - 512 - 256 < 1024 then dglu ⟨p.val - 512 - 256, h⟩
  else dgl ⟨p.val - 512 - 256 - 1024, by omega⟩

namespace Cert.GradInKernelIdeal.Entries
open Cert.GradInKernelIdeal Cert.GradInKernelIdeal.Gen Cert.GradIn
open Idealize.ShloMosaic Idealize.ShloMosaic.TcCoe Idealize.ShloMosaic.Tactic
open Idealize.ShloMosaic.StableHlo

variable (m : (ℓ : Loc nD τ sig) → Buf (Elt Ideal) ℓ)

/-- The normed input and the four incoming gradients, as launched. -/
abbrev H (c : Dev nD) (k : Fin 2048) (d : Fin 1024) : EReal := m ((c : Thread nD τ).loc main_arg0) (ix2 k d)
abbrev DQ (c : Dev nD) (k : Fin 2048) (j : Fin 512) : EReal := m ((c : Thread nD τ).loc main_arg1) (ix2 k j)
abbrev DKV (c : Dev nD) (k : Fin 2048) (j : Fin 256) : EReal := m ((c : Thread nD τ).loc main_arg2) (ix2 k j)
abbrev DGLU (c : Dev nD) (k : Fin 2048) (j : Fin 1024) : EReal := m ((c : Thread nD τ).loc main_arg3) (ix2 k j)
abbrev DGL (c : Dev nD) (k : Fin 2048) (j : Fin 2048) : EReal := m ((c : Thread nD τ).loc main_arg4) (ix2 k j)

/-- The incoming gradient of the whole projection. -/
abbrev DP (c : Dev nD) (k : Fin 2048) : Fin 3840 → EReal := beside (DQ m c k) (DKV m c k) (DGLU m c k) (DGL m c k)

/-- Where the windows' blocks lie, decided over the grid. -/
theorem idx : ∀ t : Fin cfg0.N, win0_0.index t = ![0, t.val] ∧ win0_1.index t = ![0, 0] ∧ win0_2.index t = ![0, 0]
    ∧ win0_3.index t = ![0, 0] ∧ win0_4.index t = ![0, 0] ∧ win0_5.index t = ![0, t.val] := by
  decide +kernel

/-- Column `r` of block `t`. -/
abbrev col (t : Fin cfg0.N) (r : Fin 512) : Fin 1024 :=
  ⟨512 * t.val + r.val, by have : t.val < 2 := lt_of_lt_of_eq t.isLt (show cfg0.N = 2 from N_0); omega⟩

/-- The blocks' entries at a grid point. -/
abbrev PH (c : Dev nD) (t : Fin cfg0.N) (k : Fin 2048) (r : Fin 512) : EReal := iblk m c 0 t (ix2 k r)
abbrev PQ (c : Dev nD) (t : Fin cfg0.N) (k : Fin 2048) (j : Fin 512) : EReal := iblk m c 1 t (ix2 k j)
abbrev PKV (c : Dev nD) (t : Fin cfg0.N) (k : Fin 2048) (j : Fin 256) : EReal := iblk m c 2 t (ix2 k j)
abbrev PGLU (c : Dev nD) (t : Fin cfg0.N) (k : Fin 2048) (j : Fin 1024) : EReal := iblk m c 3 t (ix2 k j)
abbrev PGL (c : Dev nD) (t : Fin cfg0.N) (k : Fin 2048) (j : Fin 2048) : EReal := iblk m c 4 t (ix2 k j)

theorem blk_h (c : Dev nD) (t : Fin cfg0.N) (k : Fin 2048) (r : Fin 512) : iblk m c 0 t (ix2 k r) = H m c k (col t r) := by
  refine Eq.trans (?_ : _ = V m c main_arg0 (ix2 k (col t r))) (by rw [V_main_arg0])
  blk_ext [iblk, idx t]

theorem blk_q (c : Dev nD) (t : Fin cfg0.N) (k : Fin 2048) (j : Fin 512) : iblk m c 1 t (ix2 k j) = DQ m c k j := by
  refine Eq.trans (?_ : _ = V m c main_arg1 (ix2 k j)) (by rw [V_main_arg1])
  blk_ext [iblk, idx t]

theorem blk_kv (c : Dev nD) (t : Fin cfg0.N) (k : Fin 2048) (j : Fin 256) : iblk m c 2 t (ix2 k j) = DKV m c k j := by
  refine Eq.trans (?_ : _ = V m c main_arg2 (ix2 k j)) (by rw [V_main_arg2])
  blk_ext [iblk, idx t]

theorem blk_glu (c : Dev nD) (t : Fin cfg0.N) (k : Fin 2048) (j : Fin 1024) : iblk m c 3 t (ix2 k j) = DGLU m c k j := by
  refine Eq.trans (?_ : _ = V m c main_arg3 (ix2 k j)) (by rw [V_main_arg3])
  blk_ext [iblk, idx t]

theorem blk_gl (c : Dev nD) (t : Fin cfg0.N) (k : Fin 2048) (j : Fin 2048) : iblk m c 4 t (ix2 k j) = DGL m c k j := by
  refine Eq.trans (?_ : _ = V m c main_arg4 (ix2 k j)) (by rw [V_main_arg4])
  blk_ext [iblk, idx t]

/-- A term of the product in the rows of `dq`, -/
theorem term_q (c : Dev nD) (t : Fin cfg0.N) (k : Fin 2048) (p : Fin 3840) (j r r' : Fin 512) (hp : p.val = j.val) (hr : r.val = r'.val) :
    PQ m c t k j * PH m c t k r = DP m c k p * H m c k (col t r') := by
  rw [PQ, PH, blk_q, blk_h, Fin.ext hr, DP, beside, dif_pos (by omega)]
  exact congrArg (DQ m c k · * _) (Fin.ext hp.symm)

/-- of `dkv`, -/
theorem term_kv (c : Dev nD) (t : Fin cfg0.N) (k : Fin 2048) (p : Fin 3840) (j : Fin 256) (r r' : Fin 512) (hp : p.val = 512 + j.val)
    (hr : r.val = r'.val) : PKV m c t k j * PH m c t k r = DP m c k p * H m c k (col t r') := by
  rw [PKV, PH, blk_kv, blk_h, Fin.ext hr, DP, beside, dif_neg (by omega), dif_pos (by omega)]
  exact congrArg (DKV m c k · * _) (Fin.ext (by show j.val = p.val - 512; omega))

/-- of `dglu` -/
theorem term_glu (c : Dev nD) (t : Fin cfg0.N) (k : Fin 2048) (p : Fin 3840) (j : Fin 1024) (r r' : Fin 512) (hp : p.val = 768 + j.val)
    (hr : r.val = r'.val) : PGLU m c t k j * PH m c t k r = DP m c k p * H m c k (col t r') := by
  rw [PGLU, PH, blk_glu, blk_h, Fin.ext hr, DP, beside, dif_neg (by omega), dif_neg (by omega), dif_pos (by omega)]
  exact congrArg (DGLU m c k · * _) (Fin.ext (by show j.val = p.val - 512 - 256; omega))

/-- and of `dgl`. -/
theorem term_gl (c : Dev nD) (t : Fin cfg0.N) (k : Fin 2048) (p : Fin 3840) (j : Fin 2048) (r r' : Fin 512) (hp : p.val = 1792 + j.val)
    (hr : r.val = r'.val) : PGL m c t k j * PH m c t k r = DP m c k p * H m c k (col t r') := by
  rw [PGL, PH, blk_gl, blk_h, Fin.ext hr, DP, beside, dif_neg (by omega), dif_neg (by omega), dif_neg (by omega)]
  exact congrArg (DGL m c k · * _) (Fin.ext (by show j.val = p.val - 512 - 256 - 1024; omega))

set_option maxHeartbeats 1000000 in
/-- The product, one store for each 256 rows, -/
theorem out5 (c : Dev nD) (t : Fin cfg0.N) (p : Fin 3840) (r : Fin 512) :
    out0_5 (iblk m c 0 t) (iblk m c 1 t) (iblk m c 2 t) (iblk m c 3 t) (iblk m c 4 t) (ix2 p r)
      = ∑ k, DP m c k p * H m c k (col t r) := by
  unfold out0_5
  canon_tiles z h
  all_goals
    unfold_payloads; pointwise
    first
      | refine Finset.sum_congr rfl fun k _ => term_gl m c t k _ _ _ _ ?_ ?_
      | refine Finset.sum_congr rfl fun k _ => term_glu m c t k _ _ _ _ ?_ ?_
      | refine Finset.sum_congr rfl fun k _ => term_kv m c t k _ _ _ _ ?_ ?_
      | refine Finset.sum_congr rfl fun k _ => term_q m c t k _ _ _ _ ?_ ?_
  all_goals simp at *; omega

/-- and as one array. -/
theorem final5 (c : Dev nD) : (dats m 0 c).arrAt 5 cfg0.N = fun j => ∑ k, DP m c k (j 0) * H m c k (j 1) := by
  refine (dats m 0 c).arrAt_eq_of_covers 5 _ (by decide +kernel) fun t hf y => ?_
  blk_simp
  rw [after0_5]
  obtain ⟨p, r, rfl⟩ : ∃ (p : Fin 3840) (r : Fin 512), y = ix2 p r := ⟨y 0, y 1, eq_ix2 y⟩
  have e : (((cfg0.win 5).blk t).view.emb (ix2 p r)) = ix2 p (col t r) := by blk_ext [idx t]
  rw [e]
  exact out5 m c t p r

end Cert.GradInKernelIdeal.Entries

end
-- ==== Proof.GradIn.Claim.lean ====
module

/-
The value claim of the input projection's weight gradient: kernel and reference are both `∑ t, dproj t p · h t d`.
-/
public import proofs.«01_k».proof.Defs
public import proofs.«01_k».proof.Proof.GradIn.Kernel
public import proofs.«01_k».proof.Proof.Gen.GradInReferenceIdeal.Run

public section

set_option maxRecDepth 16384

noncomputable section

namespace Cert.GradIn
open Idealize.ShloMosaic Idealize.ShloMosaic.TcCoe Idealize.SL.Sem

section Reference
open Cert.GradInReferenceIdeal
variable (m : (ℓ : Loc nD τ sig) → Buf (Elt Ideal) ℓ) (ρ : Dev nD → PrngReg)

/-- The normed input and the four incoming gradients, as launched. -/
abbrev H (c : Dev nD) (k : Fin 2048) (d : Fin 1024) : EReal := m ((c : Thread nD τ).loc main_arg0) (ix2 k d)
abbrev DQ (c : Dev nD) (k : Fin 2048) (j : Fin 512) : EReal := m ((c : Thread nD τ).loc main_arg1) (ix2 k j)
abbrev DKV (c : Dev nD) (k : Fin 2048) (j : Fin 256) : EReal := m ((c : Thread nD τ).loc main_arg2) (ix2 k j)
abbrev DGLU (c : Dev nD) (k : Fin 2048) (j : Fin 1024) : EReal := m ((c : Thread nD τ).loc main_arg3) (ix2 k j)
abbrev DGL (c : Dev nD) (k : Fin 2048) (j : Fin 2048) : EReal := m ((c : Thread nD τ).loc main_arg4) (ix2 k j)

/-- The incoming gradient of the whole projection. -/
abbrev DP (c : Dev nD) (k : Fin 2048) : Fin 3840 → EReal := beside (DQ m c k) (DKV m c k) (DGLU m c k) (DGL m c k)

/-- The reference's result, entry by entry. -/
theorem run_entries : θ_run defs (onTc (τ := τ) (main (F := Ideal))) ⟨m, fun _ => 0, ρ⟩ (fun r => ∀ c : Dev nD,
    r.2.mem ((c : Thread nD τ).loc main_v10) = (fun j => ∑ k, DP m c k (j 0) * H m c k (j 1))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) := by
  refine (θ_run defs _ _).mono (fun r h c => ⟨(h c).1.trans ?_, (h c).2⟩) (Value.run (F := Ideal) m ρ)
  clear h
  funext j
  obtain ⟨p, d, rfl⟩ : ∃ (p : Fin 3840) (d : Fin 1024), j = ix2 p d := ⟨j 0, j 1, eq_ix2 j⟩
  pointwise
  rfl

end Reference

theorem algebraic : Cert.algebraic_GradInKernelIdeal_GradInReferenceIdeal := by
  intro m g m' g' _ hargs
  refine ⟨fun c => (GradInKernelIdeal.Gen.dats m 0 c).arrAt 5 GradInKernelIdeal.cfg0.N, ?_, ?_⟩
  · exact GradInKernelIdeal.Value.run_blocks m g
  · refine (θ_run GradInReferenceIdeal.defs _ _).mono (fun r h c => ?_) (run_entries m' g')
    obtain ⟨r0, ra⟩ := h c
    obtain ⟨a0, a1, a2, a3, a4⟩ := hargs c
    have e0 : H m' c = GradInKernelIdeal.Entries.H m c := funext₂ fun t d => congrFun a0 _
    have e1 : DQ m' c = GradInKernelIdeal.Entries.DQ m c := funext₂ fun t d => congrFun a1 _
    have e2 : DKV m' c = GradInKernelIdeal.Entries.DKV m c := funext₂ fun t d => congrFun a2 _
    have e3 : DGLU m' c = GradInKernelIdeal.Entries.DGLU m c := funext₂ fun t d => congrFun a3 _
    have e4 : DGL m' c = GradInKernelIdeal.Entries.DGL m c := funext₂ fun t d => congrFun a4 _
    have e5 : DP m' c = GradInKernelIdeal.Entries.DP m c := by
      unfold DP GradInKernelIdeal.Entries.DP; rw [e1, e2, e3, e4]
    rw [e0, e5] at r0
    exact ⟨r0.trans (GradInKernelIdeal.Entries.final5 m c).symm, ra⟩

/-- The reference's frame: its run changes no argument, and it has no semaphore. -/
theorem frame_reference : Cert.quiescent_GradInReferenceIdeal := fun m ρ _ =>
  (θ_run Cert.GradInReferenceIdeal.defs _ _).mono (fun r h => ⟨fun c => (h c).2,
      Idealize.ShloMosaic.sem_eq_zero_of_no_sems (by decide) r.2⟩)
    (Cert.GradInReferenceIdeal.Value.run (F := Ideal) m ρ)

end Cert.GradIn

end
-- ==== Proof.Norm.lean ====
module

/-
The root-mean-square norm over real entries, embedded in the extended reals: its scale, and the two ways of writing its
derivative.  The kernels write `ρ · (d i - x i ρ · mean (d · x ρ))`, with `d` the gradient times the gain; differentiating
the norm's own lines gives `d i ρ + 2 x i · b`, where `b` carries the derivative `- ρ / (2 v)` of the scale.
-/
public import Mathlib.Data.EReal.Operations
public import Mathlib.Algebra.BigOperators.Fin
public import Idealize.ShloMosaic.PureOps.Ideal

@[expose] public section

noncomputable section

namespace Cert.Norm
open Idealize.ShloMosaic

/-- An extended real that is a real number. -/
def Finite (x : EReal) : Prop := ∃ a : ℝ, x = (a : EReal)

theorem Finite.add {x y : EReal} : Finite x → Finite y → Finite (x + y) := by
  rintro ⟨a, rfl⟩ ⟨b, rfl⟩; exact ⟨a + b, (EReal.coe_add a b).symm⟩

theorem Finite.sub {x y : EReal} : Finite x → Finite y → Finite (x - y) := by
  rintro ⟨a, rfl⟩ ⟨b, rfl⟩; exact ⟨a - b, (EReal.coe_sub a b).symm⟩

theorem Finite.mul {x y : EReal} : Finite x → Finite y → Finite (x * y) := by
  rintro ⟨a, rfl⟩ ⟨b, rfl⟩; exact ⟨a * b, (EReal.coe_mul a b).symm⟩

/-- A family of real numbers, embedded. -/
theorem lift {ι : Type*} (f : ι → EReal) (h : ∀ i, Finite (f i)) : ∃ a : ι → ℝ, f = fun i => (a i : EReal) :=
  ⟨fun i => (h i).choose, funext fun i => (h i).choose_spec⟩

/-- A sum of real numbers, embedded. -/
theorem coe_sum {ι : Type*} (s : Finset ι) (a : ι → ℝ) : ((∑ i ∈ s, a i : ℝ) : EReal) = ∑ i ∈ s, (a i : EReal) := by
  classical
  induction s using Finset.induction_on with
  | empty => simp
  | insert i s hi ih => rw [Finset.sum_insert hi, Finset.sum_insert hi, EReal.coe_add, ih]

theorem Finite.sum {ι : Type*} {s : Finset ι} {f : ι → EReal} (h : ∀ i, Finite (f i)) : Finite (∑ i ∈ s, f i) := by
  obtain ⟨a, rfl⟩ := lift f h
  exact ⟨_, (coe_sum s a).symm⟩

/-- The words `1024.0`, `1e-5` (the nearest single-precision number), `-0.5`, `0.5`, `2.0` and `1 / 1024`, read as real
numbers, and the word of infinity. -/
theorem word_width : Ideal.ofBits .f32 0x44800000#32 = ((1024 : ℝ) : EReal) := by
  simp [Ideal.ofBits, Ideal.ieee, -EReal.coe_mul]; norm_num

/-- The constant that the norms add to the mean square. -/
def eps : ℝ := 10995116 * (2 : ℝ) ^ (-40 : ℤ)

theorem eps_pos : 0 < eps := by unfold eps; positivity

theorem word_eps : Ideal.ofBits .f32 0x3727c5ac#32 = (eps : EReal) := by
  simp [Ideal.ofBits, Ideal.ieee, eps, -EReal.coe_mul]

theorem word_neg_half : Ideal.ofBits .f32 0xbf000000#32 = ((-(1 / 2) : ℝ) : EReal) := by
  simp [Ideal.ofBits, Ideal.ieee, -EReal.coe_mul, -EReal.coe_neg]; norm_num

theorem word_half : Ideal.ofBits .f32 0x3f000000#32 = ((1 / 2 : ℝ) : EReal) := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

theorem word_inv_width : Ideal.ofBits .f32 0x3a800000#32 = ((1 / 1024 : ℝ) : EReal) := by
  simp [Ideal.ofBits, Ideal.ieee, -EReal.coe_mul]; norm_num

theorem word_inf : Ideal.ofBits .f32 0x7f800000#32 = ⊤ := by
  simp [Ideal.ofBits, Ideal.ieee]

/-- An entry whose absolute value is below infinity is finite. -/
theorem finite_of_abs {x : EReal} (h : Ideal.cmp .olt (max x (-x)) ⊤ = 1#1) : Finite x := by
  have h' : max x (-x) < ⊤ := by
    by_contra hn
    simp [Ideal.cmp, hn] at h
  obtain ⟨h1, h2⟩ := max_lt_iff.mp h'
  refine ⟨x.toReal, (EReal.coe_toReal h1.ne fun hb => ?_).symm⟩
  rw [hb, EReal.neg_bot] at h2
  exact absurd h2 (lt_irrefl _)

/-- The mean square plus the constant, the scale and the norm of a row, as the programs write them. -/
def meanSq (x : Fin 1024 → EReal) : EReal :=
  Ideal.div (∑ j, x j * x j) (Ideal.ofBits .f32 0x44800000#32) + Ideal.ofBits .f32 0x3727c5ac#32

def rms (x : Fin 1024 → EReal) : EReal := Ideal.rsqrt (meanSq x)

def normed (x g : Fin 1024 → EReal) (i : Fin 1024) : EReal := x i * rms x * g i

/-- The mean square of a row plus `e`, over the real numbers. -/
def sq {n : ℕ} (x : Fin n → ℝ) (N e : ℝ) : ℝ := (∑ j, x j * x j) * (1 / N) + e

theorem sq_pos {n : ℕ} (x : Fin n → ℝ) {N e : ℝ} (hN : 0 < N) (he : 0 < e) : 0 < sq x N e :=
  add_pos_of_nonneg_of_pos (mul_nonneg (Finset.sum_nonneg fun j _ => mul_self_nonneg _) (by positivity)) he

theorem sq_coe {n : ℕ} (x : Fin n → ℝ) {N e : ℝ} (hN : 0 < N) :
    Ideal.div (∑ j, (x j : EReal) * (x j : EReal)) (N : EReal) + (e : EReal) = (sq x N e : EReal) := by
  rw [Ideal.div_coe hN.ne', sq, EReal.coe_add, EReal.coe_mul, coe_sum]
  simp only [EReal.coe_mul]

/-- The scale of a row, a positive real number. -/
def scale {n : ℕ} (x : Fin n → ℝ) (N e : ℝ) : ℝ := (Real.sqrt (sq x N e))⁻¹

theorem rsqrt_coe {n : ℕ} (x : Fin n → ℝ) {N e : ℝ} (hN : 0 < N) (he : 0 < e) :
    Ideal.rsqrt (sq x N e : EReal) = (scale x N e : EReal) := by
  have h := sq_pos x hN he
  rw [Ideal.rsqrt_coe, if_neg (not_lt.mpr h.le), if_neg h.ne', scale]

theorem scale_sq {n : ℕ} (x : Fin n → ℝ) {N e : ℝ} (hN : 0 < N) (he : 0 < e) :
    scale x N e / sq x N e = scale x N e * (scale x N e * scale x N e) := by
  have h := sq_pos x hN he
  have hs : Real.sqrt (sq x N e) * Real.sqrt (sq x N e) = sq x N e := Real.mul_self_sqrt h.le
  rw [scale]
  generalize Real.sqrt (sq x N e) = s at hs ⊢
  rw [← hs, div_eq_mul_inv, mul_inv]

/-- The two ways of writing the norm's derivative, at one entry of a row. -/
theorem backward_real {n : ℕ} (x d : Fin n → ℝ) {N e : ℝ} (hN : 0 < N) (he : 0 < e) (i : Fin n) :
    (scale x N e : EReal) * ((d i : EReal) - (x i : EReal) * (scale x N e : EReal)
        * Ideal.div (∑ j, (d j : EReal) * ((x j : EReal) * (scale x N e : EReal))) (N : EReal))
      = (d i : EReal) * (scale x N e : EReal)
        + (x i : EReal) * Ideal.div ((∑ j, (x j : EReal) * (d j : EReal))
            * (((-(1 / 2) : ℝ) : EReal) * Ideal.div (scale x N e : EReal) (sq x N e : EReal))) (N : EReal)
        + Ideal.div ((∑ j, (x j : EReal) * (d j : EReal))
            * (((-(1 / 2) : ℝ) : EReal) * Ideal.div (scale x N e : EReal) (sq x N e : EReal))) (N : EReal) * (x i : EReal) := by
  have h := sq_pos x hN he
  have hs := scale_sq x hN he
  rw [Ideal.div_coe hN.ne', Ideal.div_coe hN.ne', Ideal.div_coe h.ne']
  have e1 : ∑ j, (d j : EReal) * ((x j : EReal) * (scale x N e : EReal)) = ((∑ j, x j * d j) * scale x N e : ℝ) := by
    rw [Finset.sum_mul, coe_sum]
    exact Finset.sum_congr rfl fun j _ => by rw [← EReal.coe_mul, ← EReal.coe_mul]; congr 1; ring
  have e2 : ∑ j, (x j : EReal) * (d j : EReal) = ((∑ j, x j * d j : ℝ) : EReal) := by
    rw [coe_sum]; simp only [EReal.coe_mul]
  rw [e1, e2]
  generalize ∑ j, x j * d j = S
  generalize scale x N e = r at *
  generalize sq x N e = v at *
  norm_cast
  rw [show r * (1 / v) = r * (r * r) from by rw [← hs]; ring]
  ring

/-- The mean square and the scale of a finite row. -/
theorem meanSq_coe (x : Fin 1024 → ℝ) : meanSq (fun j => (x j : EReal)) = (sq x 1024 eps : EReal) := by
  rw [meanSq, word_width, word_eps, sq_coe x (by norm_num)]

theorem rms_coe (x : Fin 1024 → ℝ) : rms (fun j => (x j : EReal)) = (scale x 1024 eps : EReal) := by
  rw [rms, meanSq_coe, rsqrt_coe x (by norm_num) eps_pos]

theorem Finite.rms {x : Fin 1024 → EReal} (h : ∀ i, Finite (x i)) : Finite (rms x) := by
  obtain ⟨a, rfl⟩ := lift x h
  exact ⟨_, rms_coe a⟩

/-- The gradient of a row through its norm as the kernels write it, from the gradient `d` of the norm's result, -/
def back (x g d : Fin 1024 → EReal) (i : Fin 1024) : EReal :=
  rms x * (d i * g i - x i * rms x * Ideal.div (∑ j, d j * g j * (x j * rms x)) (Ideal.ofBits .f32 0x44800000#32))

/-- the derivative of the mean square, -/
def slope (x g d : Fin 1024 → EReal) : EReal :=
  Ideal.div ((∑ j, x j * (d j * g j)) * (Ideal.ofBits .f32 0xbf000000#32 * Ideal.div (rms x) (meanSq x)))
    (Ideal.ofBits .f32 0x44800000#32)

/-- and as differentiating the norm's lines writes it. -/
def backward (x g d : Fin 1024 → EReal) (i : Fin 1024) : EReal :=
  d i * g i * rms x + x i * slope x g d + slope x g d * x i

theorem backward_eq {x g d : Fin 1024 → EReal} (hx : ∀ i, Finite (x i)) (hg : ∀ i, Finite (g i)) (hd : ∀ i, Finite (d i)) :
    backward x g d = back x g d := by
  funext i
  obtain ⟨a, rfl⟩ := lift x hx
  obtain ⟨b, hb⟩ := lift (fun i => d i * g i) fun i => (hd i).mul (hg i)
  have hb' : ∀ i, d i * g i = (b i : EReal) := fun i => congrFun hb i
  unfold backward back slope
  simp only [hb', rms_coe, meanSq_coe, word_width, word_neg_half]
  exact (backward_real a b (by norm_num) eps_pos i).symm

/-- A sum over the rows is the sum over the eight row blocks of the rows of each. -/
theorem sum_blocks (f : Fin 2048 → EReal) :
    ∑ t, f t = ∑ b : Fin 8, ∑ r : Fin 256, f ⟨256 * b.val + r.val, by omega⟩ := by
  rw [← (finProdFinEquiv (m := 8) (n := 256)).sum_comp f, Fintype.sum_prod_type]
  refine Finset.sum_congr rfl fun b _ => Finset.sum_congr rfl fun r _ => congrArg f (Fin.ext ?_)
  show r.val + 256 * b.val = 256 * b.val + r.val
  omega

end Cert.Norm

end
-- ==== Proof.FfnBwd.Math.lean ====
module

/-
The feed-forward's backward pass over the extended reals, as the kernel writes it and as differentiating the
forward lines does, and where the two are equal.
-/
public import proofs.«01_k».proof.Proof.Norm

@[expose] public section

noncomputable section

namespace Cert.FfnBwd
open Idealize.ShloMosaic Cert.Norm

section Forms
variable (y x : Fin 2048 → Fin 1024 → EReal) (g : Fin 1024 → EReal) (wi : Fin 1024 → Fin 5632 → EReal)
  (wd : Fin 2816 → Fin 1024 → EReal)

/-- The first product of the feed-forward: the normed row times a column. -/
def product (t : Fin 2048) (p : Fin 5632) : EReal := ∑ i, normed (x t) g i * wi i p

/-- Its two halves: the gate's and the other factor's. -/
def gate (t : Fin 2048) (f : Fin 2816) : EReal := product x g wi t ⟨f.val, by omega⟩
def up (t : Fin 2048) (f : Fin 2816) : EReal := product x g wi t ⟨2816 + f.val, by omega⟩

/-- The sigmoid as the kernel writes it. -/
def sigmoid (a : EReal) : EReal := Ideal.div 1 (1 + Ideal.exp (0 - a))

/-- The gradient of the gated product: the incoming gradient times the second weight. -/
def dAct (t : Fin 2048) (f : Fin 2816) : EReal := ∑ d, y t d * wd f d

/-- The gradients of the two halves as the kernel writes them, -/
def dGate (t : Fin 2048) (f : Fin 2816) : EReal :=
  dAct y wd t f * up x g wi t f * sigmoid (gate x g wi t f) * (1 + gate x g wi t f * (1 - sigmoid (gate x g wi t f)))
def dUp (t : Fin 2048) (f : Fin 2816) : EReal := dAct y wd t f * gate x g wi t f * sigmoid (gate x g wi t f)

/-- side by side. -/
def dProduct (t : Fin 2048) (p : Fin 5632) : EReal :=
  if h : p.val < 2816 then dGate y x g wi wd t ⟨p.val, h⟩ else dUp y x g wi wd t ⟨p.val - 2816, by omega⟩

/-- The two parts of the product's gradient. -/
theorem dProduct_gate (t : Fin 2048) (p : Fin 5632) (f : Fin 2816) (h : p.val = f.val) :
    dProduct y x g wi wd t p = dGate y x g wi wd t f := by
  unfold dProduct
  rw [dif_pos (by omega)]
  exact congrArg _ (Fin.ext h)

theorem dProduct_up (t : Fin 2048) (p : Fin 5632) (f : Fin 2816) (h : p.val = 2816 + f.val) :
    dProduct y x g wi wd t p = dUp y x g wi wd t f := by
  unfold dProduct
  rw [dif_neg (by omega)]
  exact congrArg _ (Fin.ext (by show p.val - 2816 = f.val; omega))

/-- The gradient of the normed row, -/
def dNormed (t : Fin 2048) (i : Fin 1024) : EReal := ∑ p, dProduct y x g wi wd t p * wi i p

/-- of the residual stream, -/
def dStream (t : Fin 2048) (i : Fin 1024) : EReal := y t i + back (x t) g (dNormed y x g wi wd t) i

/-- and of the gain, a row's part and the sum over the rows. -/
def gainPart (t : Fin 2048) (i : Fin 1024) : EReal := dNormed y x g wi wd t i * (x t i * rms (x t))
def dGain (i : Fin 1024) : EReal := ∑ t, gainPart y x g wi wd t i

/-- The gate's gradient as differentiating the forward lines writes it. -/
def dGateR (t : Fin 2048) (f : Fin 2816) : EReal :=
  dAct y wd t f * up x g wi t f * Ideal.logistic (gate x g wi t f)
    + gate x g wi t f * (dAct y wd t f * up x g wi t f) * (Ideal.logistic (gate x g wi t f) * (1 - Ideal.logistic (gate x g wi t f)))
def dUpR (t : Fin 2048) (f : Fin 2816) : EReal := gate x g wi t f * Ideal.logistic (gate x g wi t f) * dAct y wd t f

/-- From these, the results as differentiating writes them. -/
def dProductR (t : Fin 2048) (p : Fin 5632) : EReal :=
  (if h : 2816 ≤ p.val ∧ p.val - 2816 < 2816 then dUpR y x g wi wd t ⟨p.val - 2816, h.2⟩ else 0)
    + if h : p.val < 2816 then dGateR y x g wi wd t ⟨p.val, h⟩ else 0
def dNormedR (t : Fin 2048) (i : Fin 1024) : EReal := ∑ p, dProductR y x g wi wd t p * wi i p
def dStreamR (t : Fin 2048) (i : Fin 1024) : EReal := y t i + backward (x t) g (dNormedR y x g wi wd t) i
def dGainR (i : Fin 1024) : EReal := ∑ t, x t i * rms (x t) * dNormedR y x g wi wd t i
end Forms

/-! ## The shards of the weight -/

/-- A sum over four runs of the same length, the second and third exchanged. -/
theorem sum_quarters {n : ℕ} (f : Fin (n + n + n + n) → EReal) :
    ∑ p, f p = ∑ x : Fin n, f ⟨x.val, by omega⟩ + ∑ x : Fin n, f ⟨n + n + x.val, by omega⟩
      + ∑ x : Fin n, f ⟨n + x.val, by omega⟩ + ∑ x : Fin n, f ⟨n + n + n + x.val, by omega⟩ := by
  rw [Fin.sum_univ_add, Fin.sum_univ_add, Fin.sum_univ_add, add_right_comm (∑ i, _)]
  rfl

/-- A sum over all columns is the sum over the four shards. -/
theorem sum_shards (f : Fin 5632 → EReal) :
    ∑ p, f p = ∑ x : Fin 1408, f ⟨x.val, by omega⟩ + ∑ x : Fin 1408, f ⟨2816 + x.val, by omega⟩
      + ∑ x : Fin 1408, f ⟨1408 + x.val, by omega⟩ + ∑ x : Fin 1408, f ⟨4224 + x.val, by omega⟩ :=
  sum_quarters (n := 1408) f

/-- The normed row's gradient, shard by shard in the kernel's order. -/
theorem dNormed_shards (y x : Fin 2048 → Fin 1024 → EReal) (g : Fin 1024 → EReal) (wi : Fin 1024 → Fin 5632 → EReal)
    (wd : Fin 2816 → Fin 1024 → EReal) (t : Fin 2048) (i : Fin 1024) :
    dNormed y x g wi wd t i
      = ∑ f : Fin 1408, dGate y x g wi wd t ⟨f.val, by omega⟩ * wi i ⟨f.val, by omega⟩
        + ∑ f : Fin 1408, dUp y x g wi wd t ⟨f.val, by omega⟩ * wi i ⟨2816 + f.val, by omega⟩
        + ∑ f : Fin 1408, dGate y x g wi wd t ⟨1408 + f.val, by omega⟩ * wi i ⟨1408 + f.val, by omega⟩
        + ∑ f : Fin 1408, dUp y x g wi wd t ⟨1408 + f.val, by omega⟩ * wi i ⟨4224 + f.val, by omega⟩ := by
  refine (sum_shards fun p => dProduct y x g wi wd t p * wi i p).trans ?_
  refine congrArg₂ (· + ·) (congrArg₂ (· + ·) (congrArg₂ (· + ·) ?_ ?_) ?_) ?_ <;>
    refine Finset.sum_congr rfl fun f _ => congrArg (· * wi i _) ?_
  · exact dProduct_gate y x g wi wd t _ _ rfl
  · exact dProduct_up y x g wi wd t _ _ rfl
  · exact dProduct_gate y x g wi wd t _ _ rfl
  · exact dProduct_up y x g wi wd t _ _ (by show 4224 + f.val = 2816 + (1408 + f.val); omega)

/-! ## On real numbers -/

theorem sigmoid_eq (a : EReal) : sigmoid a = Ideal.logistic a := by
  rw [sigmoid, Ideal.logistic, zero_sub]

theorem finite_logistic (b : ℝ) : Finite (Ideal.logistic (b : EReal)) := by
  have h : (1 + Real.exp (-b)) ≠ 0 := (add_pos one_pos (Real.exp_pos _)).ne'
  refine ⟨1 / (1 + Real.exp (-b)), ?_⟩
  rw [Ideal.logistic, ← EReal.coe_neg, Ideal.exp_coe, ← EReal.coe_one, ← EReal.coe_add, Ideal.div_coe h, ← EReal.coe_mul, one_mul]

section Finite
variable {y x : Fin 2048 → Fin 1024 → EReal} {g : Fin 1024 → EReal} {wi : Fin 1024 → Fin 5632 → EReal}
  {wd : Fin 2816 → Fin 1024 → EReal} (hy : ∀ t i, Finite (y t i)) (hx : ∀ t i, Finite (x t i)) (hg : ∀ i, Finite (g i))
  (hi : ∀ i p, Finite (wi i p)) (hd : ∀ f d, Finite (wd f d))
include hx hg hi

theorem finite_product (t : Fin 2048) (p : Fin 5632) : Finite (product x g wi t p) :=
  Finite.sum fun i => (((hx t i).mul (Finite.rms (hx t))).mul (hg i)).mul (hi i p)

include hy hd

theorem dGate_eq (t : Fin 2048) (f : Fin 2816) : dGateR y x g wi wd t f = dGate y x g wi wd t f := by
  obtain ⟨a, ha⟩ : Finite (dAct y wd t f) := Finite.sum fun d => (hy t d).mul (hd f d)
  obtain ⟨u, hu⟩ : Finite (up x g wi t f) := finite_product hx hg hi t _
  obtain ⟨b, hb⟩ : Finite (gate x g wi t f) := finite_product hx hg hi t _
  obtain ⟨s, hs⟩ := finite_logistic b
  rw [dGateR, dGate, sigmoid_eq, ha, hu, hb, hs]
  rw [← EReal.coe_one]
  simp only [← EReal.coe_mul, ← EReal.coe_add, ← EReal.coe_sub]
  exact congrArg _ (by ring)

theorem dUp_eq (t : Fin 2048) (f : Fin 2816) : dUpR y x g wi wd t f = dUp y x g wi wd t f := by
  rw [dUpR, dUp, sigmoid_eq, mul_comm, mul_assoc]

theorem finite_dNormed (t : Fin 2048) (i : Fin 1024) : Finite (dNormed y x g wi wd t i) := by
  have ha (f) : Finite (dAct y wd t f) := Finite.sum fun d => (hy t d).mul (hd f d)
  have hu (f) : Finite (up x g wi t f) := finite_product hx hg hi t _
  have hb (f) : Finite (gate x g wi t f) := finite_product hx hg hi t _
  have hs (f) : Finite (sigmoid (gate x g wi t f)) := by
    obtain ⟨b, e⟩ := hb f
    rw [sigmoid_eq, e]
    exact finite_logistic b
  have one : Finite 1 := ⟨1, rfl⟩
  refine Finite.sum fun p => Finite.mul ?_ (hi i p)
  unfold dProduct
  split_ifs
  · exact (((ha _).mul (hu _)).mul (hs _)).mul (one.add ((hb _).mul (one.sub (hs _))))
  · exact ((ha _).mul (hb _)).mul (hs _)
theorem dProduct_eq : dProductR y x g wi wd = dProduct y x g wi wd := by
  funext t p
  unfold dProductR
  by_cases h : p.val < 2816
  · rw [dif_neg (by omega), dif_pos h, zero_add, dGate_eq hy hx hg hi hd, dProduct_gate y x g wi wd t p ⟨p.val, h⟩ rfl]
  · rw [dif_pos ⟨by omega, by omega⟩, dif_neg h, add_zero, dUp_eq hy hx hg hi hd,
      dProduct_up y x g wi wd t p ⟨p.val - 2816, by omega⟩ (by show p.val = 2816 + (p.val - 2816); omega)]

theorem dNormed_eq : dNormedR y x g wi wd = dNormed y x g wi wd := by
  funext t i
  rw [dNormedR, dNormed, dProduct_eq hy hx hg hi hd]

theorem dStream_eq : dStreamR y x g wi wd = dStream y x g wi wd := by
  funext t i
  rw [dStreamR, dStream, dNormed_eq hy hx hg hi hd, backward_eq (hx t) hg (finite_dNormed hy hx hg hi hd t)]

theorem dGain_eq : dGainR y x g wi wd = dGain y x g wi wd := by
  funext i
  rw [dGainR, dGain, dNormed_eq hy hx hg hi hd]
  exact Finset.sum_congr rfl fun t _ => mul_comm _ _
end Finite

end Cert.FfnBwd

end
-- ==== Proof.FfnBwd.Kernel.lean ====
module

/-
What the feed-forward's backward kernel leaves in its results.
-/
public import proofs.«01_k».proof.Proof.Gen.FfnBwdKernelIdeal.Value
public import proofs.«01_k».proof.Proof.FfnBwd.Math
public import Idealize.ShloMosaic.Lib.Pointwise
public import Idealize.ShloMosaic.Lib.Pipeline.ValueKit

@[expose] public section

set_option maxRecDepth 16384

noncomputable section

namespace Cert.FfnBwdKernelIdeal.Entries
open Cert.FfnBwdKernelIdeal Cert.FfnBwdKernelIdeal.Gen Cert.Norm Cert.FfnBwd
open Idealize.ShloMosaic Idealize.ShloMosaic.TcCoe Idealize.ShloMosaic.Tactic
open Idealize.ShloMosaic.StableHlo

variable (m : (ℓ : Loc nD τ sig) → Buf (Elt Ideal) ℓ)

/-- The residual stream's gradient and the input, the gain and the two weights, as launched. -/
abbrev Y (c : Dev nD) (t : Fin 2048) (i : Fin 1024) : EReal := m ((c : Thread nD τ).loc main_arg0) (ix2 t i)
abbrev X (c : Dev nD) (t : Fin 2048) (i : Fin 1024) : EReal := m ((c : Thread nD τ).loc main_arg1) (ix2 t i)
abbrev G (c : Dev nD) (i : Fin 1024) : EReal := m ((c : Thread nD τ).loc main_arg2) (ix2 0 i)
abbrev WI (c : Dev nD) (i : Fin 1024) (p : Fin 5632) : EReal := m ((c : Thread nD τ).loc main_arg3) (ix2 i p)
abbrev WD (c : Dev nD) (f : Fin 2816) (d : Fin 1024) : EReal := m ((c : Thread nD τ).loc main_arg4) (ix2 f d)

/-- The feed-forward's first product as the forward pass left it. -/
abbrev GU (c : Dev nD) (t : Fin 2048) (p : Fin 5632) : EReal := product (X m c) (G m c) (WI m c) t p

theorem V_y (c : Dev nD) (t : Fin 2048) (i : Fin 1024) : V m c main_v16 (ix2 t i) = Y m c t i := by
  unfold V; after_results_simp; pointwise

theorem V_wd (c : Dev nD) (f : Fin 2816) (d : Fin 1024) : V m c main_v18 (ix2 f d) = WD m c f d := by
  unfold V; after_results_simp; pointwise

theorem V_wi (c : Dev nD) (s : Fin 4) (i : Fin 1024) (x : Fin 1408) :
    V m c main_v21 (ix3 s i x) = WI m c i ⟨1408 * s.val + x.val, by omega⟩ := by
  unfold V; after_results_simp; pointwise
  blk_ext

/-- Its columns lie by shard: the gate's half `k`, then the up half `k`. -/
theorem V_gu (c : Dev nD) (t : Fin 2048) (k a : Fin 2) (x : Fin 1408) :
    V m c main_v17 (ix2 t ⟨2816 * k.val + 1408 * a.val + x.val, by omega⟩) = GU m c t ⟨2816 * a.val + 1408 * k.val + x.val, by omega⟩ := by
  unfold V; after_results_simp; pointwise
  refine Eq.trans (?_ : _ = product (X m c) (G m c) (WI m c) t ⟨(2816 * k.val + 1408 * a.val + x.val) / 1408 % 2 * 2816 + (2816 * k.val + 1408 * a.val + x.val) / 2816 * 1408
    + (2816 * k.val + 1408 * a.val + x.val) % 1408, by omega⟩) (congrArg _ (Fin.ext ?_))
  · rfl
  · show (2816 * k.val + 1408 * a.val + x.val) / 1408 % 2 * 2816 + (2816 * k.val + 1408 * a.val + x.val) / 2816 * 1408
    + (2816 * k.val + 1408 * a.val + x.val) % 1408 = 2816 * a.val + 1408 * k.val + x.val
    omega

/-- Where the windows' blocks lie, decided over the grid. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0, 0]
    ∧ win0_7.index t = ![t.val, 0] ∧ win0_8.index t = ![t.val, 0] ∧ win0_9.index t = ![t.val, 0] ∧ win0_10.index t = ![0, 0] := by
  decide +kernel

/-- Row `r` of block `t`. -/
abbrev row (t : Fin cfg0.N) (r : Fin 256) : Fin 2048 :=
  ⟨256 * t.val + r.val, by have : t.val < 8 := lt_of_lt_of_eq t.isLt (show cfg0.N = 8 from N_0); omega⟩

theorem blk_y (c : Dev nD) (t : Fin cfg0.N) (r : Fin 256) (i : Fin 1024) : iblk m c 0 t (ix2 r i) = Y m c (row t r) i := by
  refine Eq.trans (?_ : _ = V m c main_arg0 (ix2 (row t r) i)) (by rw [V_main_arg0])
  blk_ext [iblk, idx t]

theorem blk_yb (c : Dev nD) (t : Fin cfg0.N) (r : Fin 256) (i : Fin 1024) : iblk m c 1 t (ix2 r i) = Y m c (row t r) i := by
  refine Eq.trans (?_ : _ = V m c main_v16 (ix2 (row t r) i)) (V_y m c _ i)
  blk_ext [iblk, idx t]

theorem blk_gu (c : Dev nD) (t : Fin cfg0.N) (r : Fin 256) (k a : Fin 2) (x : Fin 1408) (p : Fin 5632)
    (h : p.val = 2816 * k.val + 1408 * a.val + x.val) :
    iblk m c 2 t (ix2 r p) = GU m c (row t r) ⟨2816 * a.val + 1408 * k.val + x.val, by omega⟩ := by
  refine (congrArg (fun p => iblk m c 2 t (ix2 r p)) (Fin.ext h : p = ⟨2816 * k.val + 1408 * a.val + x.val, by omega⟩)).trans ?_
  refine Eq.trans (?_ : _ = V m c main_v17 (ix2 (row t r) ⟨2816 * k.val + 1408 * a.val + x.val, by omega⟩)) (V_gu m c _ k a x)
  blk_ext [iblk, idx t]

/-- The first product's quarters in a block: the gate's half 0, the up half 0, the gate's half 1, the up half 1. -/
theorem blk_gate0 (c : Dev nD) (t : Fin cfg0.N) (r : Fin 256) (x : Nat) (hx : x < 1408) (h : x < 5632) :
    iblk m c 2 t (ix2 r ⟨x, h⟩) = gate (X m c) (G m c) (WI m c) (row t r) ⟨x, by omega⟩ :=
  (blk_gu m c t r 0 0 ⟨x, hx⟩ _ (by simp)).trans (congrArg _ (Fin.ext (by simp)))

theorem blk_up0 (c : Dev nD) (t : Fin cfg0.N) (r : Fin 256) (x : Nat) (hx : x < 1408) (h : 1408 + x < 5632) :
    iblk m c 2 t (ix2 r ⟨1408 + x, h⟩) = up (X m c) (G m c) (WI m c) (row t r) ⟨x, by omega⟩ :=
  (blk_gu m c t r 0 1 ⟨x, hx⟩ _ (by simp)).trans (congrArg _ (Fin.ext (by simp)))

theorem blk_gate1 (c : Dev nD) (t : Fin cfg0.N) (r : Fin 256) (x : Nat) (hx : x < 1408) (h : 2816 + x < 5632) :
    iblk m c 2 t (ix2 r ⟨2816 + x, h⟩) = gate (X m c) (G m c) (WI m c) (row t r) ⟨1408 + x, by omega⟩ :=
  (blk_gu m c t r 1 0 ⟨x, hx⟩ _ (by simp)).trans (congrArg _ (Fin.ext (by simp)))

theorem blk_up1 (c : Dev nD) (t : Fin cfg0.N) (r : Fin 256) (x : Nat) (hx : x < 1408) (h : 4224 + x < 5632) :
    iblk m c 2 t (ix2 r ⟨4224 + x, h⟩) = up (X m c) (G m c) (WI m c) (row t r) ⟨1408 + x, by omega⟩ :=
  (blk_gu m c t r 1 1 ⟨x, hx⟩ _ (by simp)).trans (congrArg _ (Fin.ext (by simp; omega)))

theorem blk_x (c : Dev nD) (t : Fin cfg0.N) (r : Fin 256) (i : Fin 1024) : iblk m c 3 t (ix2 r i) = X m c (row t r) i := by
  refine Eq.trans (?_ : _ = V m c main_arg1 (ix2 (row t r) i)) (by rw [V_main_arg1])
  blk_ext [iblk, idx t]

theorem blk_g (c : Dev nD) (t : Fin cfg0.N) (i : Fin 1024) : iblk m c 4 t (ix2 0 i) = G m c i := by
  refine Eq.trans (?_ : _ = V m c main_arg2 (ix2 0 i)) (by rw [V_main_arg2])
  blk_ext [iblk, idx t]

theorem blk_wd (c : Dev nD) (t : Fin cfg0.N) (f : Fin 2816) (d : Fin 1024) : iblk m c 5 t (ix2 f d) = WD m c f d := by
  refine Eq.trans (?_ : _ = V m c main_v18 (ix2 f d)) (V_wd m c f d)
  blk_ext [iblk, idx t]

theorem blk_wi (c : Dev nD) (t : Fin cfg0.N) (s : Fin 4) (i : Fin 1024) (x : Fin 1408) :
    iblk m c 6 t (ix3 s i x) = WI m c i ⟨1408 * s.val + x.val, by omega⟩ := by
  refine Eq.trans (?_ : _ = V m c main_v21 (ix3 s i x)) (V_wi m c s i x)
  blk_ext [iblk, idx t]

/-- The weight's four shards. -/
theorem blk_wi0 (c : Dev nD) (t : Fin cfg0.N) (i : Fin 1024) (x : Fin 1408) :
    iblk m c 6 t (ix3 0 i x) = WI m c i ⟨x.val, by omega⟩ :=
  (blk_wi m c t 0 i x).trans (congrArg _ (Fin.ext (by simp)))

theorem blk_wi1 (c : Dev nD) (t : Fin cfg0.N) (i : Fin 1024) (x : Fin 1408) :
    iblk m c 6 t (ix3 1 i x) = WI m c i ⟨1408 + x.val, by omega⟩ :=
  (blk_wi m c t 1 i x).trans (congrArg _ (Fin.ext (by simp)))

theorem blk_wi2 (c : Dev nD) (t : Fin cfg0.N) (i : Fin 1024) (x : Fin 1408) :
    iblk m c 6 t (ix3 2 i x) = WI m c i ⟨2816 + x.val, by omega⟩ :=
  (blk_wi m c t 2 i x).trans (congrArg _ (Fin.ext (by simp)))

theorem blk_wi3 (c : Dev nD) (t : Fin cfg0.N) (i : Fin 1024) (x : Fin 1408) :
    iblk m c 6 t (ix3 3 i x) = WI m c i ⟨4224 + x.val, by omega⟩ :=
  (blk_wi m c t 3 i x).trans (congrArg _ (Fin.ext (by simp)))

set_option maxHeartbeats 2000000 in
/-- The gradient of the first product, quarter by quarter, -/
theorem out7 (c : Dev nD) (t : Fin cfg0.N) (r : Fin 256) (p : Fin 5632) :
    (outsAt0 m c t.val t.isLt).1 (ix2 r p) = dProduct (Y m c) (X m c) (G m c) (WI m c) (WD m c) (row t r) p := by
  by_cases hm : t.val % 8 = 0
  · rw [outsAt0_A m c t hm]; frame_out
    canon_tiles z h <;> obtain ⟨a, q, rfl⟩ : ∃ (a : Fin 256) (q : Fin 1408), z = ix2 a q := ⟨z 0, z 1, eq_ix2 z⟩ <;>
      obtain rfl : r = a := Fin.ext h0
    · have hp : p.val = 4224 + q.val := h1
      refine Eq.trans ?_ (dProduct_up (Y m c) (X m c) (G m c) (WI m c) (WD m c) _ p ⟨1408 + q.val, by omega⟩ (by first | exact hp | (show p.val = 2816 + (1408 + q.val); omega))).symm
      unfold_payloads; pointwise
      simp only [blk_yb, blk_wd, blk_gate0, blk_gate1, blk_up0, blk_up1, Fin.is_lt]
      rfl
    · have hp : p.val = 1408 + q.val := h1
      refine Eq.trans ?_ (dProduct_gate (Y m c) (X m c) (G m c) (WI m c) (WD m c) _ p ⟨1408 + q.val, by omega⟩ (by first | exact hp | (show p.val = 2816 + (1408 + q.val); omega))).symm
      unfold_payloads; pointwise
      simp only [blk_yb, blk_wd, blk_gate0, blk_gate1, blk_up0, blk_up1, Fin.is_lt]
      rfl
    · have hp : p.val = 2816 + q.val := h1
      refine Eq.trans ?_ (dProduct_up (Y m c) (X m c) (G m c) (WI m c) (WD m c) _ p ⟨q.val, by omega⟩ (by first | exact hp | (show p.val = 2816 + (1408 + q.val); omega))).symm
      unfold_payloads; pointwise
      simp only [blk_yb, blk_wd, blk_gate0, blk_gate1, blk_up0, blk_up1, Fin.is_lt]
      rfl
    · have hp : p.val = q.val := h1
      refine Eq.trans ?_ (dProduct_gate (Y m c) (X m c) (G m c) (WI m c) (WD m c) _ p ⟨q.val, by omega⟩ (by first | exact hp | (show p.val = 2816 + (1408 + q.val); omega))).symm
      unfold_payloads; pointwise
      simp only [blk_yb, blk_wd, blk_gate0, blk_gate1, blk_up0, blk_up1, Fin.is_lt]
      rfl
  · rw [outsAt0_B m c t hm]; frame_out
    canon_tiles z h <;> obtain ⟨a, q, rfl⟩ : ∃ (a : Fin 256) (q : Fin 1408), z = ix2 a q := ⟨z 0, z 1, eq_ix2 z⟩ <;>
      obtain rfl : r = a := Fin.ext h0
    · have hp : p.val = 4224 + q.val := h1
      refine Eq.trans ?_ (dProduct_up (Y m c) (X m c) (G m c) (WI m c) (WD m c) _ p ⟨1408 + q.val, by omega⟩ (by first | exact hp | (show p.val = 2816 + (1408 + q.val); omega))).symm
      unfold_payloads; pointwise
      simp only [blk_yb, blk_wd, blk_gate0, blk_gate1, blk_up0, blk_up1, Fin.is_lt]
      rfl
    · have hp : p.val = 1408 + q.val := h1
      refine Eq.trans ?_ (dProduct_gate (Y m c) (X m c) (G m c) (WI m c) (WD m c) _ p ⟨1408 + q.val, by omega⟩ (by first | exact hp | (show p.val = 2816 + (1408 + q.val); omega))).symm
      unfold_payloads; pointwise
      simp only [blk_yb, blk_wd, blk_gate0, blk_gate1, blk_up0, blk_up1, Fin.is_lt]
      rfl
    · have hp : p.val = 2816 + q.val := h1
      refine Eq.trans ?_ (dProduct_up (Y m c) (X m c) (G m c) (WI m c) (WD m c) _ p ⟨q.val, by omega⟩ (by first | exact hp | (show p.val = 2816 + (1408 + q.val); omega))).symm
      unfold_payloads; pointwise
      simp only [blk_yb, blk_wd, blk_gate0, blk_gate1, blk_up0, blk_up1, Fin.is_lt]
      rfl
    · have hp : p.val = q.val := h1
      refine Eq.trans ?_ (dProduct_gate (Y m c) (X m c) (G m c) (WI m c) (WD m c) _ p ⟨q.val, by omega⟩ (by first | exact hp | (show p.val = 2816 + (1408 + q.val); omega))).symm
      unfold_payloads; pointwise
      simp only [blk_yb, blk_wd, blk_gate0, blk_gate1, blk_up0, blk_up1, Fin.is_lt]
      rfl

/-- the gradient of the residual stream, -/
theorem out8 (c : Dev nD) (t : Fin cfg0.N) (r : Fin 256) (i : Fin 1024) :
    (outsAt0 m c t.val t.isLt).2.1 (ix2 r i) = dStream (Y m c) (X m c) (G m c) (WI m c) (WD m c) (row t r) i := by
  unfold dStream back
  by_cases hm : t.val % 8 = 0
  · rw [outsAt0_A m c t hm]; frame_out
    unfold_payloads; pointwise
    simp only [blk_y, blk_yb, blk_wd, blk_gate0, blk_gate1, blk_up0, blk_up1, blk_x, blk_g, blk_wi0, blk_wi1, blk_wi2, blk_wi3, Fin.is_lt, dNormed_shards]
    rfl
  · rw [outsAt0_B m c t hm]; frame_out
    unfold_payloads; pointwise
    simp only [blk_y, blk_yb, blk_wd, blk_gate0, blk_gate1, blk_up0, blk_up1, blk_x, blk_g, blk_wi0, blk_wi1, blk_wi2, blk_wi3, Fin.is_lt, dNormed_shards]
    rfl

/-- once more in the shorter format, -/
theorem out9 (c : Dev nD) (t : Fin cfg0.N) (r : Fin 256) (i : Fin 1024) :
    (outsAt0 m c t.val t.isLt).2.2.1 (ix2 r i) = dStream (Y m c) (X m c) (G m c) (WI m c) (WD m c) (row t r) i := by
  unfold dStream back
  by_cases hm : t.val % 8 = 0
  · rw [outsAt0_A m c t hm]; frame_out
    unfold_payloads; pointwise
    simp only [blk_y, blk_yb, blk_wd, blk_gate0, blk_gate1, blk_up0, blk_up1, blk_x, blk_g, blk_wi0, blk_wi1, blk_wi2, blk_wi3, Fin.is_lt, dNormed_shards]
    rfl
  · rw [outsAt0_B m c t hm]; frame_out
    unfold_payloads; pointwise
    simp only [blk_y, blk_yb, blk_wd, blk_gate0, blk_gate1, blk_up0, blk_up1, blk_x, blk_g, blk_wi0, blk_wi1, blk_wi2, blk_wi3, Fin.is_lt, dNormed_shards]
    rfl

/-- and a point's part of the gain's gradient. -/
def gainTerm (c : Dev nD) (n : Nat) (j : S1x1024.Idx) : EReal :=
  ∑ r : Fin 256, gainPart (Y m c) (X m c) (G m c) (WI m c) (WD m c) ⟨(256 * n + r.val) % 2048, Nat.mod_lt _ (by omega)⟩ (j 1)

theorem gain_row (c : Dev nD) (t : Fin cfg0.N) (i : Fin 1024) :
    ∑ r : Fin 256, gainPart (Y m c) (X m c) (G m c) (WI m c) (WD m c) (row t r) i = gainTerm m c t.val (ix2 0 i) := by
  refine Finset.sum_congr rfl fun r _ => congrArg (gainPart (Y m c) (X m c) (G m c) (WI m c) (WD m c) · i) (Fin.ext ?_)
  have : t.val < 8 := lt_of_lt_of_eq t.isLt (show cfg0.N = 8 from N_0)
  exact (Nat.mod_eq_of_lt (by omega)).symm

/-- The gain's row after a point: the terms of the points so far. -/
theorem out10 (c : Dev nD) (t : Fin cfg0.N) (j : S1x1024.Idx) :
    (outsAt0 m c t.val t.isLt).2.2.2 j = 0 + ∑ k ∈ Finset.range (t.val + 1), gainTerm m c k j := by
  refine Pipeline.eq_sum_of_reset_step_apply_single (fun n h => (outsAt0 m c n h).2.2.2) 8 (fun _ => 0) (gainTerm m c) ?_ ?_ (le_of_eq N_0) t j
  · intro t hm j
    obtain ⟨i, rfl⟩ : ∃ i : Fin 1024, j = ix2 0 i := ⟨j 1, (eq_ix2 j).trans (congrArg (ix2 · (j 1)) (Subsingleton.elim _ _))⟩
    show (outsAt0 m c t.val t.isLt).2.2.2 _ = _
    rw [outsAt0_A m c t hm, ← gain_row, zero_add]; frame_out
    unfold_payloads; pointwise
    simp only [gainPart, blk_y, blk_yb, blk_wd, blk_gate0, blk_gate1, blk_up0, blk_up1, blk_x, blk_g, blk_wi0, blk_wi1, blk_wi2, blk_wi3, Fin.is_lt, dNormed_shards]
    rfl
  · intro t hm j
    obtain ⟨i, rfl⟩ : ∃ i : Fin 1024, j = ix2 0 i := ⟨j 1, (eq_ix2 j).trans (congrArg (ix2 · (j 1)) (Subsingleton.elim _ _))⟩
    show (outsAt0 m c t.val t.isLt).2.2.2 _ = _
    rw [outsAt0_B m c t hm, ← gain_row]; frame_out
    unfold_payloads; pointwise
    simp only [gainPart, blk_y, blk_yb, blk_wd, blk_gate0, blk_gate1, blk_up0, blk_up1, blk_x, blk_g, blk_wi0, blk_wi1, blk_wi2, blk_wi3, Fin.is_lt, dNormed_shards]
    rfl

/-- The results as whole arrays: the first product's gradient, -/
theorem final7 (c : Dev nD) : (dats m 0 c).arrAt 7 cfg0.N = fun j => dProduct (Y m c) (X m c) (G m c) (WI m c) (WD m c) (j 0) (j 1) := by
  refine (dats m 0 c).arrAt_eq_of_covers 7 _ (by decide +kernel) fun t hf y => ?_
  blk_simp
  rw [after0_7]
  obtain ⟨r, p, rfl⟩ : ∃ (r : Fin 256) (p : Fin 5632), y = ix2 r p := ⟨y 0, y 1, eq_ix2 y⟩
  have e : (((cfg0.win 7).blk t).view.emb (ix2 r p)) = ix2 (row t r) p := by blk_ext [idx t]
  rw [e]
  exact out7 m c t r p

/-- the residual stream's, -/
theorem final8 (c : Dev nD) : (dats m 0 c).arrAt 8 cfg0.N = fun j => dStream (Y m c) (X m c) (G m c) (WI m c) (WD m c) (j 0) (j 1) := by
  refine (dats m 0 c).arrAt_eq_of_covers 8 _ (by decide +kernel) fun t hf y => ?_
  blk_simp
  rw [after0_8]
  obtain ⟨r, p, rfl⟩ : ∃ (r : Fin 256) (p : Fin 1024), y = ix2 r p := ⟨y 0, y 1, eq_ix2 y⟩
  have e : (((cfg0.win 8).blk t).view.emb (ix2 r p)) = ix2 (row t r) p := by blk_ext [idx t]
  rw [e]
  exact out8 m c t r p

/-- the same in the shorter format, -/
theorem final9 (c : Dev nD) : (dats m 0 c).arrAt 9 cfg0.N = fun j => dStream (Y m c) (X m c) (G m c) (WI m c) (WD m c) (j 0) (j 1) := by
  refine (dats m 0 c).arrAt_eq_of_covers 9 _ (by decide +kernel) fun t hf y => ?_
  blk_simp
  rw [after0_9]
  obtain ⟨r, p, rfl⟩ : ∃ (r : Fin 256) (p : Fin 1024), y = ix2 r p := ⟨y 0, y 1, eq_ix2 y⟩
  have e : (((cfg0.win 9).blk t).view.emb (ix2 r p)) = ix2 (row t r) p := by blk_ext [idx t]
  rw [e]
  exact out9 m c t r p

/-- The grid's last point. -/
abbrev tLast : Fin cfg0.N := ⟨7, lt_of_lt_of_eq (by decide) N_0.symm⟩

/-- and the gain's. -/
theorem final10 (c : Dev nD) : (dats m 0 c).arrAt 10 cfg0.N = fun j => dGain (Y m c) (X m c) (G m c) (WI m c) (WD m c) (j 1) := by
  refine (dats m 0 c).arrAt_eq_of_after_last 10 tLast (by decide +kernel) _ fun j => ?_
  blk_simp
  rw [after0_10]
  obtain ⟨i, rfl⟩ : ∃ i : Fin 1024, j = ix2 0 i := ⟨j 1, (eq_ix2 j).trans (congrArg (ix2 · (j 1)) (Subsingleton.elim _ _))⟩
  refine (out10 m c tLast _).trans ?_
  unfold dGain
  rw [zero_add, sum_blocks, Finset.sum_range]
  refine Finset.sum_congr rfl fun b _ => Finset.sum_congr rfl fun r _ => congrArg (gainPart (Y m c) (X m c) (G m c) (WI m c) (WD m c) · i) (Fin.ext ?_)
  have hb : b.val < 8 := b.isLt
  exact Nat.mod_eq_of_lt (by omega)

end Cert.FfnBwdKernelIdeal.Entries

end
-- ==== Proof.FfnBwd.Pre.lean ====
module

/-
What the precondition of the feed-forward's backward says: every argument is finite, entry by entry.
-/
public import proofs.«01_k».proof.Defs
public import proofs.«01_k».proof.Proof.Norm
public import proofs.«01_k».proof.Proof.FfnBwd.Kernel

public section

noncomputable section

namespace Cert.FfnBwd
open Idealize.ShloMosaic Idealize.ShloMosaic.TcCoe Cert.Norm Cert.FfnBwdKernelIdeal Cert.FfnBwdKernelIdeal.Entries

instance facts_pre : Cert.Pre_ffn_bwd_finite.Facts where
  bcast_S_S2048x1024 := by decide
  bcast_S_S1x1024 := by decide
  bcast_S_S1024x5632 := by decide
  bcast_S_S2816x1024 := by decide

variable {m : (ℓ : Loc nD τ sig) → Buf (Elt Ideal) ℓ}

theorem finite_args (h : Cert.Pre_FfnBwdKernelIdeal_ffn_bwd_finite m) (c : Dev nD) :
    (∀ t i, Finite (Y m c t i)) ∧ (∀ t i, Finite (X m c t i)) ∧ (∀ i, Finite (G m c i)) ∧ (∀ i p, Finite (WI m c i p))
      ∧ ∀ f d, Finite (WD m c f d) := by
  obtain ⟨h0, h1, h2, h3, h4⟩ := h c
  exact ⟨fun t i => finite_of_abs (word_inf ▸ congrFun h0 (ix2 t i)), fun t i => finite_of_abs (word_inf ▸ congrFun h1 (ix2 t i)),
    fun i => finite_of_abs (word_inf ▸ congrFun h2 (ix2 0 i)), fun i p => finite_of_abs (word_inf ▸ congrFun h3 (ix2 i p)),
    fun f d => finite_of_abs (word_inf ▸ congrFun h4 (ix2 f d))⟩

end Cert.FfnBwd

end
-- ==== Proof.FfnBwd.Reference.lean ====
module

/-
The results of the reference of the feed-forward's backward, entry by entry.
-/
public import proofs.«01_k».proof.Proof.FfnBwd.Math
public import proofs.«01_k».proof.Proof.Gen.FfnBwdReferenceIdeal.Run
public import Idealize.ShloMosaic.Lib.Pointwise

@[expose] public section

set_option maxRecDepth 16384

noncomputable section

namespace Cert.FfnBwd
open Cert.FfnBwdReferenceIdeal
open Idealize.ShloMosaic Idealize.ShloMosaic.TcCoe Idealize.ShloMosaic.Tactic Idealize.SL.Sem

variable (m : (ℓ : Loc nD τ sig) → Buf (Elt Ideal) ℓ) (ρ : Dev nD → PrngReg)

/-- The arguments' entries, as launched. -/
abbrev Y (c : Dev nD) (t : Fin 2048) (i : Fin 1024) : EReal := m ((c : Thread nD τ).loc main_arg0) (ix2 t i)
abbrev X (c : Dev nD) (t : Fin 2048) (i : Fin 1024) : EReal := m ((c : Thread nD τ).loc main_arg1) (ix2 t i)
abbrev G (c : Dev nD) (i : Fin 1024) : EReal := m ((c : Thread nD τ).loc main_arg2) (ix2 0 i)
abbrev WI (c : Dev nD) (i : Fin 1024) (p : Fin 5632) : EReal := m ((c : Thread nD τ).loc main_arg3) (ix2 i p)
abbrev WD (c : Dev nD) (f : Fin 2816) (d : Fin 1024) : EReal := m ((c : Thread nD τ).loc main_arg4) (ix2 f d)

/-- The gradient of the first product, -/
theorem entry49 (c : Dev nD) (t : Fin 2048) (i : Fin 5632) : Value.res_main_v49 m c (ix2 t i) = dProductR (Y m c) (X m c) (G m c) (WI m c) (WD m c) t i := by
  unfold Value.res_main_v49
  pointwise
  rfl

/-- of the residual stream, -/
theorem entry48 (c : Dev nD) (t : Fin 2048) (i : Fin 1024) : Value.res_main_v48 m c (ix2 t i) = dStreamR (Y m c) (X m c) (G m c) (WI m c) (WD m c) t i := by
  unfold Value.res_main_v48
  pointwise
  simp only [Finset.univ_unique, Finset.sum_singleton]
  rfl

/-- the same in the shorter format, -/
theorem entry50 (c : Dev nD) (t : Fin 2048) (i : Fin 1024) : Value.res_main_v50 m c (ix2 t i) = dStreamR (Y m c) (X m c) (G m c) (WI m c) (WD m c) t i := by
  unfold Value.res_main_v50
  pointwise
  simp only [Finset.univ_unique, Finset.sum_singleton]
  rfl

/-- and of the gain. -/
theorem entry31 (c : Dev nD) (i : Fin 1024) : Value.res_main_v31 m c (ix2 0 i) = dGainR (Y m c) (X m c) (G m c) (WI m c) (WD m c) i := by
  unfold Value.res_main_v31
  pointwise
  rfl

end Cert.FfnBwd

end
-- ==== Proof.FfnBwd.Claim.lean ====
module

/-
The value claim of the feed-forward's backward: where the arguments are finite, kernel and reference give the same
gradients of the first product, of the residual stream and of the gain.
-/
public import proofs.«01_k».proof.Defs
public import proofs.«01_k».proof.Proof.FfnBwd.Kernel
public import proofs.«01_k».proof.Proof.FfnBwd.Pre
public import proofs.«01_k».proof.Proof.FfnBwd.Reference

public section

set_option maxRecDepth 16384

noncomputable section

namespace Cert.FfnBwd
open Idealize.ShloMosaic Idealize.ShloMosaic.TcCoe Idealize.SL.Sem

section Reference
open Cert.FfnBwdReferenceIdeal
variable (m : (ℓ : Loc nD τ sig) → Buf (Elt Ideal) ℓ) (ρ : Dev nD → PrngReg)

set_option maxHeartbeats 2000000 in
/-- The reference's results, entry by entry. -/
theorem run_entries : θ_run defs (onTc (τ := τ) (main (F := Ideal))) ⟨m, fun _ => 0, ρ⟩ (fun r => ∀ c : Dev nD,
    r.2.mem ((c : Thread nD τ).loc main_v49) = (fun j => dProductR (Y m c) (X m c) (G m c) (WI m c) (WD m c) (j 0) (j 1))
    ∧ r.2.mem ((c : Thread nD τ).loc main_v48) = (fun j => dStreamR (Y m c) (X m c) (G m c) (WI m c) (WD m c) (j 0) (j 1))
    ∧ r.2.mem ((c : Thread nD τ).loc main_v50) = (fun j => dStreamR (Y m c) (X m c) (G m c) (WI m c) (WD m c) (j 0) (j 1))
    ∧ r.2.mem ((c : Thread nD τ).loc main_v31) = (fun j => dGainR (Y m c) (X m c) (G m c) (WI m c) (WD m c) (j 1))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) := by
  refine (θ_run defs _ _).mono (fun r h c => ⟨(h c).1.trans ?_, (h c).2.1.trans ?_, (h c).2.2.1.trans ?_, (h c).2.2.2.1.trans ?_, (h c).2.2.2.2⟩) (Value.run (F := Ideal) m ρ) <;> clear h
  · funext j
    obtain ⟨t, i, rfl⟩ : ∃ (t : Fin 2048) (i : Fin 5632), j = ix2 t i := ⟨j 0, j 1, eq_ix2 j⟩
    exact entry49 m c t i
  · funext j
    obtain ⟨t, i, rfl⟩ : ∃ (t : Fin 2048) (i : Fin 1024), j = ix2 t i := ⟨j 0, j 1, eq_ix2 j⟩
    exact entry48 m c t i
  · funext j
    obtain ⟨t, i, rfl⟩ : ∃ (t : Fin 2048) (i : Fin 1024), j = ix2 t i := ⟨j 0, j 1, eq_ix2 j⟩
    exact entry50 m c t i
  · funext j
    obtain ⟨i, rfl⟩ : ∃ i : Fin 1024, j = ix2 0 i := ⟨j 1, (eq_ix2 j).trans (congrArg (ix2 · (j 1)) (Subsingleton.elim _ _))⟩
    exact entry31 m c i

end Reference

theorem algebraic : Cert.algebraic_FfnBwdKernelIdeal_FfnBwdReferenceIdeal_pre_ffn_bwd_finite := by
  intro m g m' g' hpre hargs
  refine ⟨fun c => (FfnBwdKernelIdeal.Gen.dats m 0 c).arrAt 7 FfnBwdKernelIdeal.cfg0.N, fun c => (FfnBwdKernelIdeal.Gen.dats m 0 c).arrAt 8 FfnBwdKernelIdeal.cfg0.N, fun c => (FfnBwdKernelIdeal.Gen.dats m 0 c).arrAt 9 FfnBwdKernelIdeal.cfg0.N, fun c => (FfnBwdKernelIdeal.Gen.dats m 0 c).arrAt 10 FfnBwdKernelIdeal.cfg0.N, ?_, ?_⟩
  · exact FfnBwdKernelIdeal.Value.run_blocks m g
  · refine (θ_run FfnBwdReferenceIdeal.defs _ _).mono (fun r h c => ?_) (run_entries m' g')
    obtain ⟨r7, r8, r9, r10, ra⟩ := h c
    obtain ⟨a0, a1, a2, a3, a4⟩ := hargs c
    have eY : Y m' c = FfnBwdKernelIdeal.Entries.Y m c := funext₂ fun t d => congrFun a0 _
    have eX : X m' c = FfnBwdKernelIdeal.Entries.X m c := funext₂ fun t d => congrFun a1 _
    have eG : G m' c = FfnBwdKernelIdeal.Entries.G m c := funext fun t => congrFun a2 _
    have eWI : WI m' c = FfnBwdKernelIdeal.Entries.WI m c := funext₂ fun t d => congrFun a3 _
    have eWD : WD m' c = FfnBwdKernelIdeal.Entries.WD m c := funext₂ fun t d => congrFun a4 _
    obtain ⟨hy, hx, hg, hi, hd⟩ := finite_args hpre c
    rw [eY, eX, eG, eWI, eWD, dProduct_eq hy hx hg hi hd] at r7
    rw [eY, eX, eG, eWI, eWD, dStream_eq hy hx hg hi hd] at r8
    rw [eY, eX, eG, eWI, eWD, dStream_eq hy hx hg hi hd] at r9
    rw [eY, eX, eG, eWI, eWD, dGain_eq hy hx hg hi hd] at r10
    exact ⟨r7.trans (FfnBwdKernelIdeal.Entries.final7 m c).symm, r8.trans (FfnBwdKernelIdeal.Entries.final8 m c).symm, r9.trans (FfnBwdKernelIdeal.Entries.final9 m c).symm, r10.trans (FfnBwdKernelIdeal.Entries.final10 m c).symm, ra⟩

/-- The reference's frame: its run changes no argument, and it has no semaphore. -/
theorem frame_reference : Cert.quiescent_FfnBwdReferenceIdeal := fun m ρ _ =>
  (θ_run Cert.FfnBwdReferenceIdeal.defs _ _).mono (fun r h => ⟨fun c => (h c).2.2.2.2,
      Idealize.ShloMosaic.sem_eq_zero_of_no_sems (by decide) r.2⟩)
    (Cert.FfnBwdReferenceIdeal.Value.run (F := Ideal) m ρ)

end Cert.FfnBwd

end
-- ==== Proof.InProjBwd.Math.lean ====
module

/-
The input projection's backward pass over the extended reals, as the kernel writes it and as differentiating the
forward lines does, and where the two are equal.
-/
public import proofs.«01_k».proof.Proof.Norm

@[expose] public section

noncomputable section

namespace Cert.InProjBwd
open Idealize.ShloMosaic Cert.Norm

section Forms
variable (dq : Fin 2048 → Fin 512 → EReal) (dkv : Fin 2048 → Fin 256 → EReal) (dglu : Fin 2048 → Fin 1024 → EReal)
  (dgl : Fin 2048 → Fin 2048 → EReal) (x y : Fin 2048 → Fin 1024 → EReal) (g : Fin 1024 → EReal) (w : Fin 1024 → Fin 3840 → EReal)

/-- The gradient of the projection: the four incoming gradients side by side. -/
def dProj (t : Fin 2048) (p : Fin 3840) : EReal :=
  if h : p.val < 512 then dq t ⟨p.val, h⟩
  else if h : p.val - 512 < 256 then dkv t ⟨p.val - 512, h⟩
  else if h : p.val - 512 - 256 < 1024 then dglu t ⟨p.val - 512 - 256, h⟩
  else dgl t ⟨p.val - 512 - 256 - 1024, by omega⟩

/-- The gradient of the normed row, -/
def dNormed (t : Fin 2048) (i : Fin 1024) : EReal := ∑ p, dProj dq dkv dglu dgl t p * w i p

/-- of the input, with the residual stream's, -/
def dInput (t : Fin 2048) (i : Fin 1024) : EReal := y t i + back (x t) g (dNormed dq dkv dglu dgl w t) i

/-- of the gain, a row's part and the sum over the rows, -/
def gainPart (t : Fin 2048) (i : Fin 1024) : EReal := dNormed dq dkv dglu dgl w t i * (x t i * rms (x t))
def dGain (i : Fin 1024) : EReal := ∑ t, gainPart dq dkv dglu dgl x w t i

/-- and of the bias. -/
def dBias (p : Fin 3840) : EReal := ∑ t, dProj dq dkv dglu dgl t p

/-- The input's and the gain's as differentiating the forward lines writes them. -/
def dInputR (t : Fin 2048) (i : Fin 1024) : EReal := y t i + backward (x t) g (dNormed dq dkv dglu dgl w t) i
def dGainR (i : Fin 1024) : EReal := ∑ t, x t i * rms (x t) * dNormed dq dkv dglu dgl w t i

theorem dProj_q (t : Fin 2048) (p : Fin 3840) (j : Fin 512) (h : p.val = j.val) : dProj dq dkv dglu dgl t p = dq t j := by
  rw [dProj, dif_pos (by omega)]
  exact congrArg _ (Fin.ext h)

theorem dProj_kv (t : Fin 2048) (p : Fin 3840) (j : Fin 256) (h : p.val = 512 + j.val) : dProj dq dkv dglu dgl t p = dkv t j := by
  rw [dProj, dif_neg (by omega), dif_pos (by omega)]
  exact congrArg _ (Fin.ext (by show p.val - 512 = j.val; omega))

theorem dProj_glu (t : Fin 2048) (p : Fin 3840) (j : Fin 1024) (h : p.val = 768 + j.val) : dProj dq dkv dglu dgl t p = dglu t j := by
  rw [dProj, dif_neg (by omega), dif_neg (by omega), dif_pos (by omega)]
  exact congrArg _ (Fin.ext (by show p.val - 512 - 256 = j.val; omega))

theorem dProj_gl (t : Fin 2048) (p : Fin 3840) (j : Fin 2048) (h : p.val = 1792 + j.val) : dProj dq dkv dglu dgl t p = dgl t j := by
  rw [dProj, dif_neg (by omega), dif_neg (by omega), dif_neg (by omega)]
  exact congrArg _ (Fin.ext (by show p.val - 512 - 256 - 1024 = j.val; omega))

end Forms

/-- A sum over four runs. -/
theorem sum_runs {a b c d : ℕ} (f : Fin (a + b + c + d) → EReal) :
    ∑ p, f p = ∑ j : Fin a, f ⟨j.val, by omega⟩ + ∑ j : Fin b, f ⟨a + j.val, by omega⟩
      + ∑ j : Fin c, f ⟨a + b + j.val, by omega⟩ + ∑ j : Fin d, f ⟨a + b + c + j.val, by omega⟩ := by
  rw [Fin.sum_univ_add, Fin.sum_univ_add, Fin.sum_univ_add]
  rfl

/-- A sum over the projection's columns is the sum over its four parts. -/
theorem sum_parts (f : Fin 3840 → EReal) :
    ∑ p, f p = ∑ j : Fin 512, f ⟨j.val, by omega⟩ + ∑ j : Fin 256, f ⟨512 + j.val, by omega⟩
      + ∑ j : Fin 1024, f ⟨768 + j.val, by omega⟩ + ∑ j : Fin 2048, f ⟨1792 + j.val, by omega⟩ :=
  sum_runs (a := 512) (b := 256) (c := 1024) (d := 2048) f

/-- The normed row's gradient, part by part. -/
theorem dNormed_parts (dq : Fin 2048 → Fin 512 → EReal) (dkv : Fin 2048 → Fin 256 → EReal) (dglu : Fin 2048 → Fin 1024 → EReal)
    (dgl : Fin 2048 → Fin 2048 → EReal) (w : Fin 1024 → Fin 3840 → EReal) (t : Fin 2048) (i : Fin 1024) :
    dNormed dq dkv dglu dgl w t i
      = ∑ j, dq t j * w i ⟨j.val, by omega⟩ + ∑ j, dkv t j * w i ⟨512 + j.val, by omega⟩
        + ∑ j, dglu t j * w i ⟨768 + j.val, by omega⟩ + ∑ j, dgl t j * w i ⟨1792 + j.val, by omega⟩ := by
  refine (sum_parts fun p => dProj dq dkv dglu dgl t p * w i p).trans ?_
  refine congrArg₂ (· + ·) (congrArg₂ (· + ·) (congrArg₂ (· + ·) ?_ ?_) ?_) ?_ <;>
    refine Finset.sum_congr rfl fun f _ => congrArg (· * w i _) ?_
  · exact dProj_q dq dkv dglu dgl t _ _ rfl
  · exact dProj_kv dq dkv dglu dgl t _ _ rfl
  · exact dProj_glu dq dkv dglu dgl t _ _ rfl
  · exact dProj_gl dq dkv dglu dgl t _ _ rfl

section Finite
variable {dq : Fin 2048 → Fin 512 → EReal} {dkv : Fin 2048 → Fin 256 → EReal} {dglu : Fin 2048 → Fin 1024 → EReal}
  {dgl : Fin 2048 → Fin 2048 → EReal} {x y : Fin 2048 → Fin 1024 → EReal} {g : Fin 1024 → EReal} {w : Fin 1024 → Fin 3840 → EReal}
  (hq : ∀ t j, Finite (dq t j)) (hkv : ∀ t j, Finite (dkv t j)) (hglu : ∀ t j, Finite (dglu t j)) (hgl : ∀ t j, Finite (dgl t j))
  (hx : ∀ t i, Finite (x t i)) (hg : ∀ i, Finite (g i)) (hw : ∀ i p, Finite (w i p))
include hq hkv hglu hgl hw

theorem finite_dNormed (t : Fin 2048) (i : Fin 1024) : Finite (dNormed dq dkv dglu dgl w t i) := by
  refine Finite.sum fun p => Finite.mul ?_ (hw i p)
  unfold dProj
  split_ifs
  · exact hq t _
  · exact hkv t _
  · exact hglu t _
  · exact hgl t _

include hx hg

theorem dInput_eq : dInputR dq dkv dglu dgl x y g w = dInput dq dkv dglu dgl x y g w := by
  funext t i
  rw [dInputR, dInput, backward_eq (hx t) hg (finite_dNormed hq hkv hglu hgl hw t)]
end Finite

theorem dGain_eq (dq : Fin 2048 → Fin 512 → EReal) (dkv : Fin 2048 → Fin 256 → EReal) (dglu : Fin 2048 → Fin 1024 → EReal)
    (dgl : Fin 2048 → Fin 2048 → EReal) (x : Fin 2048 → Fin 1024 → EReal) (w : Fin 1024 → Fin 3840 → EReal) :
    dGainR dq dkv dglu dgl x w = dGain dq dkv dglu dgl x w :=
  funext fun _ => Finset.sum_congr rfl fun _ _ => mul_comm _ _

end Cert.InProjBwd

end
-- ==== Proof.InProjBwd.Kernel.lean ====
module

/-
What the input projection's backward kernel leaves in its results: the gradient of the input, of the norm's gain and of
the bias. Each grid point takes 512 rows; the gain's and the bias's rows gather the points' parts.
-/
public import proofs.«01_k».proof.Proof.Gen.InProjBwdKernelIdeal.Value
public import proofs.«01_k».proof.Proof.InProjBwd.Math
public import Idealize.ShloMosaic.Lib.Pointwise
public import Idealize.ShloMosaic.Lib.Pipeline.ValueKit

@[expose] public section

set_option maxRecDepth 16384

noncomputable section

namespace Cert.InProjBwdKernelIdeal.Entries
open Cert.InProjBwdKernelIdeal Cert.InProjBwdKernelIdeal.Gen Cert.Norm Cert.InProjBwd
open Idealize.ShloMosaic Idealize.ShloMosaic.TcCoe Idealize.ShloMosaic.Tactic
open Idealize.ShloMosaic.StableHlo

variable (m : (ℓ : Loc nD τ sig) → Buf (Elt Ideal) ℓ)

/-- The incoming gradients, the input, the residual stream's gradient, the gain and the weight, as launched. -/
abbrev Q (c : Dev nD) (t : Fin 2048) (j : Fin 512) : EReal := m ((c : Thread nD τ).loc main_arg0) (ix2 t j)
abbrev KV (c : Dev nD) (t : Fin 2048) (j : Fin 256) : EReal := m ((c : Thread nD τ).loc main_arg1) (ix2 t j)
abbrev GLU (c : Dev nD) (t : Fin 2048) (j : Fin 1024) : EReal := m ((c : Thread nD τ).loc main_arg2) (ix2 t j)
abbrev GT (c : Dev nD) (t : Fin 2048) (j : Fin 2048) : EReal := m ((c : Thread nD τ).loc main_arg3) (ix2 t j)
abbrev X (c : Dev nD) (t : Fin 2048) (j : Fin 1024) : EReal := m ((c : Thread nD τ).loc main_arg4) (ix2 t j)
abbrev Y (c : Dev nD) (t : Fin 2048) (j : Fin 1024) : EReal := m ((c : Thread nD τ).loc main_arg5) (ix2 t j)
abbrev G (c : Dev nD) (i : Fin 1024) : EReal := m ((c : Thread nD τ).loc main_arg6) (ix2 0 i)
abbrev W (c : Dev nD) (i : Fin 1024) (p : Fin 3840) : EReal := m ((c : Thread nD τ).loc main_arg7) (ix2 i p)

/-- The weight as the kernel takes it: transposed. -/
theorem V_w (c : Dev nD) (p : Fin 3840) (i : Fin 1024) : V m c main_v1 (ix2 p i) = W m c i p := by
  unfold V; after_results_simp; pointwise

/-- Where the windows' blocks lie, decided over the grid. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![0, 0] ∧ win0_7.index t = ![0, 0] ∧ win0_9.index t = ![t.val, 0] ∧ win0_10.index t = ![0, 0] ∧ win0_11.index t = ![0, 0] := by
  decide +kernel

/-- Row `r` of block `t`. -/
abbrev row (t : Fin cfg0.N) (r : Fin 512) : Fin 2048 :=
  ⟨512 * t.val + r.val, by have : t.val < 4 := lt_of_lt_of_eq t.isLt (show cfg0.N = 4 from N_0); omega⟩

theorem blk_q (c : Dev nD) (t : Fin cfg0.N) (r : Fin 512) (j : Fin 512) : iblk m c 0 t (ix2 r j) = Q m c (row t r) j := by
  refine Eq.trans (?_ : _ = V m c main_arg0 (ix2 (row t r) j)) (by rw [V_main_arg0])
  blk_ext [iblk, idx t]

theorem blk_kv (c : Dev nD) (t : Fin cfg0.N) (r : Fin 512) (j : Fin 256) : iblk m c 1 t (ix2 r j) = KV m c (row t r) j := by
  refine Eq.trans (?_ : _ = V m c main_arg1 (ix2 (row t r) j)) (by rw [V_main_arg1])
  blk_ext [iblk, idx t]

theorem blk_glu (c : Dev nD) (t : Fin cfg0.N) (r : Fin 512) (j : Fin 1024) : iblk m c 2 t (ix2 r j) = GLU m c (row t r) j := by
  refine Eq.trans (?_ : _ = V m c main_arg2 (ix2 (row t r) j)) (by rw [V_main_arg2])
  blk_ext [iblk, idx t]

theorem blk_gl (c : Dev nD) (t : Fin cfg0.N) (r : Fin 512) (j : Fin 2048) : iblk m c 3 t (ix2 r j) = GT m c (row t r) j := by
  refine Eq.trans (?_ : _ = V m c main_arg3 (ix2 (row t r) j)) (by rw [V_main_arg3])
  blk_ext [iblk, idx t]

theorem blk_x (c : Dev nD) (t : Fin cfg0.N) (r : Fin 512) (j : Fin 1024) : iblk m c 4 t (ix2 r j) = X m c (row t r) j := by
  refine Eq.trans (?_ : _ = V m c main_arg4 (ix2 (row t r) j)) (by rw [V_main_arg4])
  blk_ext [iblk, idx t]

theorem blk_y (c : Dev nD) (t : Fin cfg0.N) (r : Fin 512) (j : Fin 1024) : iblk m c 5 t (ix2 r j) = Y m c (row t r) j := by
  refine Eq.trans (?_ : _ = V m c main_arg5 (ix2 (row t r) j)) (by rw [V_main_arg5])
  blk_ext [iblk, idx t]

theorem blk_g (c : Dev nD) (t : Fin cfg0.N) (i : Fin 1024) : iblk m c 6 t (ix2 0 i) = G m c i := by
  refine Eq.trans (?_ : _ = V m c main_arg6 (ix2 0 i)) (by rw [V_main_arg6])
  blk_ext [iblk, idx t]

theorem blk_w (c : Dev nD) (t : Fin cfg0.N) (p : Fin 3840) (i : Fin 1024) : iblk m c 7 t (ix2 p i) = W m c i p := by
  refine Eq.trans (?_ : _ = V m c main_v1 (ix2 p i)) (V_w m c p i)
  blk_ext [iblk, idx t]

/-- The gradient of the input, -/
theorem out9 (c : Dev nD) (t : Fin cfg0.N) (r : Fin 512) (i : Fin 1024) :
    (outsAt0 m c t.val t.isLt).1 (ix2 r i) = dInput (Q m c) (KV m c) (GLU m c) (GT m c) (X m c) (Y m c) (G m c) (W m c) (row t r) i := by
  unfold dInput back
  by_cases hm : t.val % 4 = 0
  · rw [outsAt0_A m c t hm]; frame_out
    unfold_payloads; pointwise
    simp only [blk_q, blk_kv, blk_glu, blk_gl, blk_x, blk_y, blk_g, blk_w, dNormed_parts]
    rfl
  · rw [outsAt0_B m c t hm]; frame_out
    unfold_payloads; pointwise
    simp only [blk_q, blk_kv, blk_glu, blk_gl, blk_x, blk_y, blk_g, blk_w, dNormed_parts]
    rfl

/-- a point's part of the gain's gradient, -/
def gainTerm (c : Dev nD) (n : Nat) (j : S1x1024.Idx) : EReal :=
  ∑ r : Fin 512, gainPart (Q m c) (KV m c) (GLU m c) (GT m c) (X m c) (W m c) ⟨(512 * n + r.val) % 2048, Nat.mod_lt _ (by omega)⟩ (j 1)

theorem row_eq (t : Fin cfg0.N) (r : Fin 512) :
    (⟨(512 * t.val + r.val) % 2048, Nat.mod_lt _ (by omega)⟩ : Fin 2048) = row t r := by
  have : t.val < 4 := lt_of_lt_of_eq t.isLt (show cfg0.N = 4 from N_0)
  exact Fin.ext (Nat.mod_eq_of_lt (by omega))

/-- the gain's row after a point: the terms of the points so far; -/
theorem out10 (c : Dev nD) (t : Fin cfg0.N) (j : S1x1024.Idx) :
    (outsAt0 m c t.val t.isLt).2.1 j = 0 + ∑ k ∈ Finset.range (t.val + 1), gainTerm m c k j := by
  refine Pipeline.eq_sum_of_reset_step_apply_single (fun n h => (outsAt0 m c n h).2.1) 4 (fun _ => 0) (gainTerm m c) ?_ ?_ (le_of_eq N_0) t j
  · intro t hm j
    obtain ⟨i, rfl⟩ : ∃ i : Fin 1024, j = ix2 0 i := ⟨j 1, (eq_ix2 j).trans (congrArg (ix2 · (j 1)) (Subsingleton.elim _ _))⟩
    show (outsAt0 m c t.val t.isLt).2.1 _ = _
    unfold gainTerm
    simp only [row_eq]
    rw [outsAt0_A m c t hm, zero_add]; frame_out
    unfold_payloads; pointwise
    simp only [gainPart, blk_q, blk_kv, blk_glu, blk_gl, blk_x, blk_y, blk_g, blk_w, dNormed_parts]
    rfl
  · intro t hm j
    obtain ⟨i, rfl⟩ : ∃ i : Fin 1024, j = ix2 0 i := ⟨j 1, (eq_ix2 j).trans (congrArg (ix2 · (j 1)) (Subsingleton.elim _ _))⟩
    show (outsAt0 m c t.val t.isLt).2.1 _ = _
    unfold gainTerm
    simp only [row_eq]
    rw [outsAt0_B m c t hm]; frame_out
    unfold_payloads; pointwise
    simp only [gainPart, blk_q, blk_kv, blk_glu, blk_gl, blk_x, blk_y, blk_g, blk_w, dNormed_parts]
    rfl

end Cert.InProjBwdKernelIdeal.Entries

end
-- ==== Proof.InProjBwd.Bias.lean ====
module

/-
What the input projection's backward kernel leaves in the bias's row.
-/
public import proofs.«01_k».proof.Proof.InProjBwd.Kernel
public import proofs.«01_k».proof.Proof.Mix.Math
public import Idealize.ShloMosaic.Lib.Pointwise
public import Idealize.ShloMosaic.Lib.Pipeline.ValueKit
public import Idealize.ShloMosaic.Lib.Pipeline.ReadBack

@[expose] public section

set_option maxRecDepth 16384

noncomputable section

namespace Cert.InProjBwdKernelIdeal.Entries
open Cert.InProjBwdKernelIdeal Cert.InProjBwdKernelIdeal.Gen Cert.Norm Cert.InProjBwd
open Idealize.ShloMosaic Idealize.ShloMosaic.TcCoe Idealize.ShloMosaic.Tactic
open Idealize.ShloMosaic.StableHlo

variable (m : (ℓ : Loc nD τ sig) → Buf (Elt Ideal) ℓ)

/-- A column before a slice of the row is not in the slice. -/
theorem not_slice {o n : Nat} (hb : ∀ a, (![0, o] : Fin 2 → Nat) a + (![1, n] : Fin 2 → Nat) a ≤ S1x3840.size a) (q : Fin 3840) (h : q.val < o) :
    (ix2 0 q : S1x3840.Idx) ∉ (Rect.unit (s := S1x3840) ![0, o] ![1, n] hb).set := by
  intro hq
  have h1 : o ≤ q.val := (Rect.mem_set_unit.mp hq 1).1
  omega

/-- A point's part of the bias's gradient, -/
def biasTerm (c : Dev nD) (n : Nat) (j : S1x3840.Idx) : EReal :=
  ∑ r : Fin 512, dProj (Q m c) (KV m c) (GLU m c) (GT m c) ⟨(512 * n + r.val) % 2048, Nat.mod_lt _ (by omega)⟩ (j 1)

theorem bias_q_A (c : Dev nD) (t : Fin cfg0.N) (hm : t.val % 4 = 0) (j : Fin 512) :
    (outsAt0 m c t.val t.isLt).2.2 (ix2 0 ⟨j.val, by omega⟩)
      = ∑ r : Fin 512, Q m c (row t r) j := by
  have e : (ix2 0 ⟨j.val, by omega⟩ : S1x3840.Idx) = (Rect.unit (s := S1x3840) ![0, 0] ![1, 512] (by decide)).emb (ix2 0 j) := by
    blk_ext
  rw [outsAt0_A m c t hm]; frame_open; simp (disch := decide) only [↓ View.readCov_skip, ↓ View.readCov_cons_toLoadRect, ↓ View.readCov_fill]; frame_out
  refine (View.canon_cons_of_not_mem ⟨_, _⟩ _ ?_).trans ?_
  · exact not_slice (o := 1792) (n := 2048) (by decide) _ (by show j.val < 1792; omega)
  refine (View.canon_cons_of_not_mem ⟨_, _⟩ _ ?_).trans ?_
  · exact not_slice (o := 768) (n := 1024) (by decide) _ (by show j.val < 768; omega)
  refine (View.canon_cons_of_not_mem ⟨_, _⟩ _ ?_).trans ?_
  · exact not_slice (o := 512) (n := 256) (by decide) _ (by show j.val < 512; omega)
  conv_lhs => rw [e, View.canon_cons_emb]
  unfold_payloads; pointwise
  simp only [blk_q]

theorem bias_kv_A (c : Dev nD) (t : Fin cfg0.N) (hm : t.val % 4 = 0) (j : Fin 256) :
    (outsAt0 m c t.val t.isLt).2.2 (ix2 0 ⟨512 + j.val, by omega⟩)
      = ∑ r : Fin 512, KV m c (row t r) j := by
  have e : (ix2 0 ⟨512 + j.val, by omega⟩ : S1x3840.Idx) = (Rect.unit (s := S1x3840) ![0, 512] ![1, 256] (by decide)).emb (ix2 0 j) := by
    blk_ext
  rw [outsAt0_A m c t hm]; frame_open; simp (disch := decide) only [↓ View.readCov_skip, ↓ View.readCov_cons_toLoadRect, ↓ View.readCov_fill]; frame_out
  refine (View.canon_cons_of_not_mem ⟨_, _⟩ _ ?_).trans ?_
  · exact not_slice (o := 1792) (n := 2048) (by decide) _ (by show 512 + j.val < 1792; omega)
  refine (View.canon_cons_of_not_mem ⟨_, _⟩ _ ?_).trans ?_
  · exact not_slice (o := 768) (n := 1024) (by decide) _ (by show 512 + j.val < 768; omega)
  conv_lhs => rw [e, View.canon_cons_emb]
  unfold_payloads; pointwise
  simp only [blk_kv]

theorem bias_glu_A (c : Dev nD) (t : Fin cfg0.N) (hm : t.val % 4 = 0) (j : Fin 1024) :
    (outsAt0 m c t.val t.isLt).2.2 (ix2 0 ⟨768 + j.val, by omega⟩)
      = ∑ r : Fin 512, GLU m c (row t r) j := by
  have e : (ix2 0 ⟨768 + j.val, by omega⟩ : S1x3840.Idx) = (Rect.unit (s := S1x3840) ![0, 768] ![1, 1024] (by decide)).emb (ix2 0 j) := by
    blk_ext
  rw [outsAt0_A m c t hm]; frame_open; simp (disch := decide) only [↓ View.readCov_skip, ↓ View.readCov_cons_toLoadRect, ↓ View.readCov_fill]; frame_out
  refine (View.canon_cons_of_not_mem ⟨_, _⟩ _ ?_).trans ?_
  · exact not_slice (o := 1792) (n := 2048) (by decide) _ (by show 768 + j.val < 1792; omega)
  conv_lhs => rw [e, View.canon_cons_emb]
  unfold_payloads; pointwise
  simp only [blk_glu]

theorem bias_gl_A (c : Dev nD) (t : Fin cfg0.N) (hm : t.val % 4 = 0) (j : Fin 2048) :
    (outsAt0 m c t.val t.isLt).2.2 (ix2 0 ⟨1792 + j.val, by omega⟩)
      = ∑ r : Fin 512, GT m c (row t r) j := by
  have e : (ix2 0 ⟨1792 + j.val, by omega⟩ : S1x3840.Idx) = (Rect.unit (s := S1x3840) ![0, 1792] ![1, 2048] (by decide)).emb (ix2 0 j) := by
    blk_ext
  rw [outsAt0_A m c t hm]; frame_open; simp (disch := decide) only [↓ View.readCov_skip, ↓ View.readCov_cons_toLoadRect, ↓ View.readCov_fill]; frame_out
  conv_lhs => rw [e, View.canon_cons_emb]
  unfold_payloads; pointwise
  simp only [blk_gl]

theorem bias_q_B (c : Dev nD) (t : Fin cfg0.N) (hm : ¬t.val % 4 = 0) (j : Fin 512) :
    (outsAt0 m c t.val t.isLt).2.2 (ix2 0 ⟨j.val, by omega⟩)
      = (outsAt0 m c (t.val - 1) (Nat.lt_of_le_of_lt (Nat.sub_le _ _) t.isLt)).2.2 (ix2 0 ⟨j.val, by omega⟩) + ∑ r : Fin 512, Q m c (row t r) j := by
  have e : (ix2 0 ⟨j.val, by omega⟩ : S1x3840.Idx) = (Rect.unit (s := S1x3840) ![0, 0] ![1, 512] (by decide)).emb (ix2 0 j) := by
    blk_ext
  rw [outsAt0_B m c t hm]; frame_out
  refine (View.canon_cons_of_not_mem ⟨_, _⟩ _ ?_).trans ?_
  · exact not_slice (o := 1792) (n := 2048) (by decide) _ (by show j.val < 1792; omega)
  refine (View.canon_cons_of_not_mem ⟨_, _⟩ _ ?_).trans ?_
  · exact not_slice (o := 768) (n := 1024) (by decide) _ (by show j.val < 768; omega)
  refine (View.canon_cons_of_not_mem ⟨_, _⟩ _ ?_).trans ?_
  · exact not_slice (o := 512) (n := 256) (by decide) _ (by show j.val < 512; omega)
  conv_lhs => rw [e, View.canon_cons_emb]
  unfold_payloads; pointwise
  simp only [blk_q]

theorem bias_kv_B (c : Dev nD) (t : Fin cfg0.N) (hm : ¬t.val % 4 = 0) (j : Fin 256) :
    (outsAt0 m c t.val t.isLt).2.2 (ix2 0 ⟨512 + j.val, by omega⟩)
      = (outsAt0 m c (t.val - 1) (Nat.lt_of_le_of_lt (Nat.sub_le _ _) t.isLt)).2.2 (ix2 0 ⟨512 + j.val, by omega⟩) + ∑ r : Fin 512, KV m c (row t r) j := by
  have e : (ix2 0 ⟨512 + j.val, by omega⟩ : S1x3840.Idx) = (Rect.unit (s := S1x3840) ![0, 512] ![1, 256] (by decide)).emb (ix2 0 j) := by
    blk_ext
  rw [outsAt0_B m c t hm]; frame_out
  refine (View.canon_cons_of_not_mem ⟨_, _⟩ _ ?_).trans ?_
  · exact not_slice (o := 1792) (n := 2048) (by decide) _ (by show 512 + j.val < 1792; omega)
  refine (View.canon_cons_of_not_mem ⟨_, _⟩ _ ?_).trans ?_
  · exact not_slice (o := 768) (n := 1024) (by decide) _ (by show 512 + j.val < 768; omega)
  conv_lhs => rw [e, View.canon_cons_emb]
  unfold_payloads; pointwise
  simp only [blk_kv]

theorem bias_glu_B (c : Dev nD) (t : Fin cfg0.N) (hm : ¬t.val % 4 = 0) (j : Fin 1024) :
    (outsAt0 m c t.val t.isLt).2.2 (ix2 0 ⟨768 + j.val, by omega⟩)
      = (outsAt0 m c (t.val - 1) (Nat.lt_of_le_of_lt (Nat.sub_le _ _) t.isLt)).2.2 (ix2 0 ⟨768 + j.val, by omega⟩) + ∑ r : Fin 512, GLU m c (row t r) j := by
  have e : (ix2 0 ⟨768 + j.val, by omega⟩ : S1x3840.Idx) = (Rect.unit (s := S1x3840) ![0, 768] ![1, 1024] (by decide)).emb (ix2 0 j) := by
    blk_ext
  rw [outsAt0_B m c t hm]; frame_out
  refine (View.canon_cons_of_not_mem ⟨_, _⟩ _ ?_).trans ?_
  · exact not_slice (o := 1792) (n := 2048) (by decide) _ (by show 768 + j.val < 1792; omega)
  conv_lhs => rw [e, View.canon_cons_emb]
  unfold_payloads; pointwise
  simp only [blk_glu]

theorem bias_gl_B (c : Dev nD) (t : Fin cfg0.N) (hm : ¬t.val % 4 = 0) (j : Fin 2048) :
    (outsAt0 m c t.val t.isLt).2.2 (ix2 0 ⟨1792 + j.val, by omega⟩)
      = (outsAt0 m c (t.val - 1) (Nat.lt_of_le_of_lt (Nat.sub_le _ _) t.isLt)).2.2 (ix2 0 ⟨1792 + j.val, by omega⟩) + ∑ r : Fin 512, GT m c (row t r) j := by
  have e : (ix2 0 ⟨1792 + j.val, by omega⟩ : S1x3840.Idx) = (Rect.unit (s := S1x3840) ![0, 1792] ![1, 2048] (by decide)).emb (ix2 0 j) := by
    blk_ext
  rw [outsAt0_B m c t hm]; frame_out
  conv_lhs => rw [e, View.canon_cons_emb]
  unfold_payloads; pointwise
  simp only [blk_gl]

/-- What holds in each of the four runs of columns holds in every column. -/
theorem col (P : Fin 3840 → Prop) (hq : ∀ j : Fin 512, P ⟨j.val, by omega⟩) (hkv : ∀ j : Fin 256, P ⟨512 + j.val, by omega⟩)
    (hglu : ∀ j : Fin 1024, P ⟨768 + j.val, by omega⟩) (hgl : ∀ j : Fin 2048, P ⟨1792 + j.val, by omega⟩) (p : Fin 3840) : P p := by
  by_cases h0 : p.val < 512
  · exact hq ⟨p.val, h0⟩
  by_cases h1 : p.val < 768
  · have := hkv ⟨p.val - 512, by omega⟩
    rwa [show (⟨512 + (p.val - 512), by omega⟩ : Fin 3840) = p from Fin.ext (by show 512 + (p.val - 512) = p.val; omega)] at this
  by_cases h2 : p.val < 1792
  · have := hglu ⟨p.val - 768, by omega⟩
    rwa [show (⟨768 + (p.val - 768), by omega⟩ : Fin 3840) = p from Fin.ext (by show 768 + (p.val - 768) = p.val; omega)] at this
  have := hgl ⟨p.val - 1792, by omega⟩
  rwa [show (⟨1792 + (p.val - 1792), by omega⟩ : Fin 3840) = p from Fin.ext (by show 1792 + (p.val - 1792) = p.val; omega)] at this

/-- The row of the bias after the first point, and after a later one. -/
theorem bias_first (c : Dev nD) (t : Fin cfg0.N) (hm : t.val % 4 = 0) (p : Fin 3840) :
    (outsAt0 m c t.val t.isLt).2.2 (ix2 0 p) = ∑ r : Fin 512, dProj (Q m c) (KV m c) (GLU m c) (GT m c) (row t r) p :=
  col (fun p => (outsAt0 m c t.val t.isLt).2.2 (ix2 0 p) = ∑ r : Fin 512, dProj (Q m c) (KV m c) (GLU m c) (GT m c) (row t r) p)
    (fun j => (bias_q_A m c t hm j).trans (congrArg id (Finset.sum_congr rfl fun r _ => (dProj_q _ _ _ _ (row t r) _ j rfl).symm)))
    (fun j => (bias_kv_A m c t hm j).trans (congrArg id (Finset.sum_congr rfl fun r _ => (dProj_kv _ _ _ _ (row t r) _ j rfl).symm)))
    (fun j => (bias_glu_A m c t hm j).trans (congrArg id (Finset.sum_congr rfl fun r _ => (dProj_glu _ _ _ _ (row t r) _ j rfl).symm)))
    (fun j => (bias_gl_A m c t hm j).trans (congrArg id (Finset.sum_congr rfl fun r _ => (dProj_gl _ _ _ _ (row t r) _ j rfl).symm))) p

theorem bias_next (c : Dev nD) (t : Fin cfg0.N) (hm : ¬t.val % 4 = 0) (p : Fin 3840) :
    (outsAt0 m c t.val t.isLt).2.2 (ix2 0 p)
      = (outsAt0 m c (t.val - 1) (Nat.lt_of_le_of_lt (Nat.sub_le _ _) t.isLt)).2.2 (ix2 0 p) + ∑ r : Fin 512, dProj (Q m c) (KV m c) (GLU m c) (GT m c) (row t r) p :=
  col (fun p => (outsAt0 m c t.val t.isLt).2.2 (ix2 0 p) = (outsAt0 m c (t.val - 1) (Nat.lt_of_le_of_lt (Nat.sub_le _ _) t.isLt)).2.2 (ix2 0 p) + ∑ r : Fin 512, dProj (Q m c) (KV m c) (GLU m c) (GT m c) (row t r) p)
    (fun j => (bias_q_B m c t hm j).trans (congrArg (_ + ·) (Finset.sum_congr rfl fun r _ => (dProj_q _ _ _ _ (row t r) _ j rfl).symm)))
    (fun j => (bias_kv_B m c t hm j).trans (congrArg (_ + ·) (Finset.sum_congr rfl fun r _ => (dProj_kv _ _ _ _ (row t r) _ j rfl).symm)))
    (fun j => (bias_glu_B m c t hm j).trans (congrArg (_ + ·) (Finset.sum_congr rfl fun r _ => (dProj_glu _ _ _ _ (row t r) _ j rfl).symm)))
    (fun j => (bias_gl_B m c t hm j).trans (congrArg (_ + ·) (Finset.sum_congr rfl fun r _ => (dProj_gl _ _ _ _ (row t r) _ j rfl).symm))) p

/-- The bias's row after a point: the terms of the points so far. -/
theorem out11 (c : Dev nD) (t : Fin cfg0.N) (j : S1x3840.Idx) :
    (outsAt0 m c t.val t.isLt).2.2 j = 0 + ∑ k ∈ Finset.range (t.val + 1), biasTerm m c k j := by
  refine Pipeline.eq_sum_of_reset_step_apply_single (fun n h => (outsAt0 m c n h).2.2) 4 (fun _ => 0) (biasTerm m c) ?_ ?_ (le_of_eq N_0) t j
  · intro t hm j
    obtain ⟨i, rfl⟩ : ∃ i : Fin 3840, j = ix2 0 i := ⟨j 1, (eq_ix2 j).trans (congrArg (ix2 · (j 1)) (Subsingleton.elim _ _))⟩
    show (outsAt0 m c t.val t.isLt).2.2 _ = _
    unfold biasTerm
    simp only [row_eq]
    exact (bias_first m c t hm i).trans (zero_add _).symm
  · intro t hm j
    obtain ⟨i, rfl⟩ : ∃ i : Fin 3840, j = ix2 0 i := ⟨j 1, (eq_ix2 j).trans (congrArg (ix2 · (j 1)) (Subsingleton.elim _ _))⟩
    show (outsAt0 m c t.val t.isLt).2.2 _ = _
    unfold biasTerm
    simp only [row_eq]
    exact (bias_next m c t hm i)

/-- The gradient of the input as a whole array, -/
theorem final9 (c : Dev nD) : (dats m 0 c).arrAt 9 cfg0.N = fun j => dInput (Q m c) (KV m c) (GLU m c) (GT m c) (X m c) (Y m c) (G m c) (W m c) (j 0) (j 1) := by
  refine (dats m 0 c).arrAt_eq_of_covers 9 _ (by decide +kernel) fun t hf y => ?_
  blk_simp
  rw [after0_9]
  obtain ⟨r, p, rfl⟩ : ∃ (r : Fin 512) (p : Fin 1024), y = ix2 r p := ⟨y 0, y 1, eq_ix2 y⟩
  have e : (((cfg0.win 9).blk t).view.emb (ix2 r p)) = ix2 (row t r) p := by blk_ext [idx t]
  rw [e]
  exact out9 m c t r p

/-- The grid's last point. -/
abbrev tLast : Fin cfg0.N := ⟨3, lt_of_lt_of_eq (by decide) N_0.symm⟩

/-- the gain's, -/
theorem final10 (c : Dev nD) : (dats m 0 c).arrAt 10 cfg0.N = fun j => dGain (Q m c) (KV m c) (GLU m c) (GT m c) (X m c) (W m c) (j 1) := by
  refine (dats m 0 c).arrAt_eq_of_after_last 10 tLast (by decide +kernel) _ fun j => ?_
  blk_simp
  rw [after0_10]
  obtain ⟨i, rfl⟩ : ∃ i : Fin 1024, j = ix2 0 i := ⟨j 1, (eq_ix2 j).trans (congrArg (ix2 · (j 1)) (Subsingleton.elim _ _))⟩
  refine (out10 m c tLast _).trans ?_
  unfold dGain
  rw [zero_add, Cert.MixMath.sum_blocks, Finset.sum_range]
  refine Finset.sum_congr rfl fun b _ => Finset.sum_congr rfl fun r _ => congrArg (gainPart (Q m c) (KV m c) (GLU m c) (GT m c) (X m c) (W m c) · i) (Fin.ext ?_)
  have hb : b.val < 4 := b.isLt
  exact Nat.mod_eq_of_lt (by omega)

/-- and the bias's. -/
theorem final11 (c : Dev nD) : (dats m 0 c).arrAt 11 cfg0.N = fun j => dBias (Q m c) (KV m c) (GLU m c) (GT m c) (j 1) := by
  refine (dats m 0 c).arrAt_eq_of_after_last 11 tLast (by decide +kernel) _ fun j => ?_
  blk_simp
  rw [after0_11]
  obtain ⟨i, rfl⟩ : ∃ i : Fin 3840, j = ix2 0 i := ⟨j 1, (eq_ix2 j).trans (congrArg (ix2 · (j 1)) (Subsingleton.elim _ _))⟩
  refine (out11 m c tLast _).trans ?_
  unfold dBias
  rw [zero_add, Cert.MixMath.sum_blocks, Finset.sum_range]
  refine Finset.sum_congr rfl fun b _ => Finset.sum_congr rfl fun r _ => congrArg (dProj (Q m c) (KV m c) (GLU m c) (GT m c) · i) (Fin.ext ?_)
  have hb : b.val < 4 := b.isLt
  exact Nat.mod_eq_of_lt (by omega)

end Cert.InProjBwdKernelIdeal.Entries

end
-- ==== Proof.InProjBwd.Pre.lean ====
module

/-
What the precondition of the input projection's backward says: the arguments it multiplies are finite, entry by entry.
-/
public import proofs.«01_k».proof.Defs
public import proofs.«01_k».proof.Proof.Norm
public import proofs.«01_k».proof.Proof.InProjBwd.Kernel

public section

noncomputable section

namespace Cert.InProjBwd
open Idealize.ShloMosaic Idealize.ShloMosaic.TcCoe Cert.Norm Cert.InProjBwdKernelIdeal Cert.InProjBwdKernelIdeal.Entries

instance facts_pre : Cert.Pre_in_proj_bwd_finite.Facts where
  bitsLt_bf16_f32 := by decide
  bcast_S_S2048x512 := by decide
  bcast_S_S2048x256 := by decide
  bcast_S_S2048x1024 := by decide
  bcast_S_S2048x2048 := by decide
  bcast_S_S1x1024 := by decide
  bcast_S_S1024x3840 := by decide

variable {m : (ℓ : Loc nD τ sig) → Buf (Elt Ideal) ℓ}

theorem finite_args (h : Cert.Pre_InProjBwdKernelIdeal_in_proj_bwd_finite m) (c : Dev nD) :
    (∀ t j, Finite (Q m c t j)) ∧ (∀ t j, Finite (KV m c t j)) ∧ (∀ t j, Finite (GLU m c t j)) ∧ (∀ t j, Finite (GT m c t j))
      ∧ (∀ t j, Finite (X m c t j)) ∧ (∀ i, Finite (G m c i)) ∧ ∀ i p, Finite (W m c i p) := by
  obtain ⟨h0, h1, h2, h3, h4, h5, h6⟩ := h c
  exact ⟨fun t j => finite_of_abs (word_inf ▸ congrFun h0 (ix2 t j)), fun t j => finite_of_abs (word_inf ▸ congrFun h1 (ix2 t j)),
    fun t j => finite_of_abs (word_inf ▸ congrFun h2 (ix2 t j)), fun t j => finite_of_abs (word_inf ▸ congrFun h3 (ix2 t j)),
    fun t j => finite_of_abs (word_inf ▸ congrFun h4 (ix2 t j)), fun i => finite_of_abs (word_inf ▸ congrFun h5 (ix2 0 i)),
    fun i p => finite_of_abs (word_inf ▸ congrFun h6 (ix2 i p))⟩

end Cert.InProjBwd

end
-- ==== Proof.InProjBwd.Reference.lean ====
module

/-
The gradient of the input in the reference of the input projection's backward, entry by entry.
-/
public import proofs.«01_k».proof.Proof.InProjBwd.Math
public import proofs.«01_k».proof.Proof.Gen.InProjBwdReferenceIdeal.Run
public import Idealize.ShloMosaic.Lib.Pointwise

@[expose] public section

set_option maxRecDepth 16384

noncomputable section

namespace Cert.InProjBwd
open Cert.InProjBwdReferenceIdeal
open Idealize.ShloMosaic Idealize.ShloMosaic.TcCoe Idealize.ShloMosaic.Tactic Idealize.SL.Sem

variable (m : (ℓ : Loc nD τ sig) → Buf (Elt Ideal) ℓ) (ρ : Dev nD → PrngReg)

/-- The arguments' entries, as launched. -/
abbrev Q (c : Dev nD) (t : Fin 2048) (j : Fin 512) : EReal := m ((c : Thread nD τ).loc main_arg0) (ix2 t j)
abbrev KV (c : Dev nD) (t : Fin 2048) (j : Fin 256) : EReal := m ((c : Thread nD τ).loc main_arg1) (ix2 t j)
abbrev GLU (c : Dev nD) (t : Fin 2048) (j : Fin 1024) : EReal := m ((c : Thread nD τ).loc main_arg2) (ix2 t j)
abbrev GT (c : Dev nD) (t : Fin 2048) (j : Fin 2048) : EReal := m ((c : Thread nD τ).loc main_arg3) (ix2 t j)
abbrev X (c : Dev nD) (t : Fin 2048) (j : Fin 1024) : EReal := m ((c : Thread nD τ).loc main_arg4) (ix2 t j)
abbrev Y (c : Dev nD) (t : Fin 2048) (j : Fin 1024) : EReal := m ((c : Thread nD τ).loc main_arg5) (ix2 t j)
abbrev G (c : Dev nD) (i : Fin 1024) : EReal := m ((c : Thread nD τ).loc main_arg6) (ix2 0 i)
abbrev W (c : Dev nD) (i : Fin 1024) (p : Fin 3840) : EReal := m ((c : Thread nD τ).loc main_arg7) (ix2 i p)

set_option maxHeartbeats 1000000 in
theorem entry45 (c : Dev nD) (t : Fin 2048) (i : Fin 1024) : Value.res_main_v45 m c (ix2 t i) = dInputR (Q m c) (KV m c) (GLU m c) (GT m c) (X m c) (Y m c) (G m c) (W m c) t i := by
  unfold Value.res_main_v45
  pointwise
  simp only [Finset.univ_unique, Finset.sum_singleton]
  rfl

end Cert.InProjBwd

end
-- ==== Proof.InProjBwd.Claim.lean ====
module

/-
The value claim of the input projection's backward: where the arguments are finite, kernel and reference give the same
gradients of the input, of the gain and of the bias.
-/
public import proofs.«01_k».proof.Defs
public import proofs.«01_k».proof.Proof.InProjBwd.Bias
public import proofs.«01_k».proof.Proof.InProjBwd.Pre
public import proofs.«01_k».proof.Proof.InProjBwd.Reference

public section

set_option maxRecDepth 16384

noncomputable section

namespace Cert.InProjBwd
open Idealize.ShloMosaic Idealize.ShloMosaic.TcCoe Idealize.ShloMosaic.Tactic Idealize.SL.Sem

section Reference
open Cert.InProjBwdReferenceIdeal
variable (m : (ℓ : Loc nD τ sig) → Buf (Elt Ideal) ℓ) (ρ : Dev nD → PrngReg)

set_option maxHeartbeats 2000000 in
/-- The reference's results, entry by entry. -/
theorem run_entries : θ_run defs (onTc (τ := τ) (main (F := Ideal))) ⟨m, fun _ => 0, ρ⟩ (fun r => ∀ c : Dev nD,
    r.2.mem ((c : Thread nD τ).loc main_v45) = (fun j => dInputR (Q m c) (KV m c) (GLU m c) (GT m c) (X m c) (Y m c) (G m c) (W m c) (j 0) (j 1))
    ∧ r.2.mem ((c : Thread nD τ).loc main_v28) = (fun j => dGainR (Q m c) (KV m c) (GLU m c) (GT m c) (X m c) (W m c) (j 1))
    ∧ r.2.mem ((c : Thread nD τ).loc main_v24) = (fun j => dBias (Q m c) (KV m c) (GLU m c) (GT m c) (j 1))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)) := by
  refine (θ_run defs _ _).mono (fun r h c => ⟨(h c).1.trans ?_, (h c).2.1.trans ?_, (h c).2.2.1.trans ?_, (h c).2.2.2⟩) (Value.run (F := Ideal) m ρ) <;> clear h
  · funext j
    obtain ⟨t, i, rfl⟩ : ∃ (t : Fin 2048) (i : Fin 1024), j = ix2 t i := ⟨j 0, j 1, eq_ix2 j⟩
    exact entry45 m c t i
  · funext j
    obtain ⟨i, rfl⟩ : ∃ i : Fin 1024, j = ix2 0 i := ⟨j 1, (eq_ix2 j).trans (congrArg (ix2 · (j 1)) (Subsingleton.elim _ _))⟩
    pointwise
    rfl
  · funext j
    obtain ⟨i, rfl⟩ : ∃ i : Fin 3840, j = ix2 0 i := ⟨j 1, (eq_ix2 j).trans (congrArg (ix2 · (j 1)) (Subsingleton.elim _ _))⟩
    pointwise
    rfl

end Reference

theorem algebraic : Cert.algebraic_InProjBwdKernelIdeal_InProjBwdReferenceIdeal_pre_in_proj_bwd_finite := by
  intro m g m' g' hpre hargs
  refine ⟨fun c => (InProjBwdKernelIdeal.Gen.dats m 0 c).arrAt 9 InProjBwdKernelIdeal.cfg0.N, fun c => (InProjBwdKernelIdeal.Gen.dats m 0 c).arrAt 10 InProjBwdKernelIdeal.cfg0.N, fun c => (InProjBwdKernelIdeal.Gen.dats m 0 c).arrAt 11 InProjBwdKernelIdeal.cfg0.N, ?_, ?_⟩
  · exact InProjBwdKernelIdeal.Value.run_blocks m g
  · refine (θ_run InProjBwdReferenceIdeal.defs _ _).mono (fun r h c => ?_) (run_entries m' g')
    obtain ⟨r9, r10, r11, ra⟩ := h c
    obtain ⟨a0, a1, a2, a3, a4, a5, a6, a7, -⟩ := hargs c
    have eQ : Q m' c = InProjBwdKernelIdeal.Entries.Q m c := funext₂ fun t d => congrFun a0 _
    have eKV : KV m' c = InProjBwdKernelIdeal.Entries.KV m c := funext₂ fun t d => congrFun a1 _
    have eGLU : GLU m' c = InProjBwdKernelIdeal.Entries.GLU m c := funext₂ fun t d => congrFun a2 _
    have eGT : GT m' c = InProjBwdKernelIdeal.Entries.GT m c := funext₂ fun t d => congrFun a3 _
    have eX : X m' c = InProjBwdKernelIdeal.Entries.X m c := funext₂ fun t d => congrFun a4 _
    have eY : Y m' c = InProjBwdKernelIdeal.Entries.Y m c := funext₂ fun t d => congrFun a5 _
    have eG : G m' c = InProjBwdKernelIdeal.Entries.G m c := funext fun t => congrFun a6 _
    have eW : W m' c = InProjBwdKernelIdeal.Entries.W m c := funext₂ fun t d => congrFun a7 _
    obtain ⟨hq, hkv, hglu, hgl, hx, hg, hw⟩ := finite_args hpre c
    rw [eQ, eKV, eGLU, eGT, eX, eY, eG, eW, dInput_eq hq hkv hglu hgl hx hg hw] at r9
    rw [eQ, eKV, eGLU, eGT, eX, eW, dGain_eq] at r10
    rw [eQ, eKV, eGLU, eGT] at r11
    exact ⟨r9.trans (InProjBwdKernelIdeal.Entries.final9 m c).symm, r10.trans (InProjBwdKernelIdeal.Entries.final10 m c).symm, r11.trans (InProjBwdKernelIdeal.Entries.final11 m c).symm, ra⟩

/-- The reference's frame: its run changes no argument, and it has no semaphore. -/
theorem frame_reference : Cert.quiescent_InProjBwdReferenceIdeal := fun m ρ _ =>
  (θ_run Cert.InProjBwdReferenceIdeal.defs _ _).mono (fun r h => ⟨fun c => (h c).2.2.2,
      Idealize.ShloMosaic.sem_eq_zero_of_no_sems (by decide) r.2⟩)
    (Cert.InProjBwdReferenceIdeal.Value.run (F := Ideal) m ρ)

end Cert.InProjBwd

end
-- ==== Proof.FfnOutLoss.Math.lean ====
module

/-
The end of the step over the extended reals, as the kernel writes it and as differentiating the forward lines does: the
second product of the feed-forward with the residual, the norm, the loss, and the gradients of the norm's input and gain.
-/
public import proofs.«01_k».proof.Proof.Norm

@[expose] public section

noncomputable section

namespace Cert.FfnOutLoss
open Idealize.ShloMosaic Cert.Norm

section Forms
variable (x : Fin 2048 → Fin 1024 → EReal) (a : Fin 2048 → Fin 2816 → EReal) (w : Fin 2816 → Fin 1024 → EReal)
  (g : Fin 1024 → EReal) (y : Fin 2048 → Fin 1024 → EReal)

/-- The block's result, -/
def stream (t : Fin 2048) (d : Fin 1024) : EReal := x t d + ∑ f, a t f * w f d

/-- its distance from the target after the norm, -/
def err (t : Fin 2048) (d : Fin 1024) : EReal := normed (stream x a w t) g d - y t d

/-- a row's mean square distance. -/
def rowLoss (t : Fin 2048) : EReal :=
  Ideal.div (∑ d, err x a w g y t d * err x a w g y t d) (Ideal.ofBits .f32 0x44800000#32)

/-- The loss, and as the kernel gathers it: the halves of eight blocks' sums. -/
def lossR : EReal := Ideal.ofBits .f32 0x3f000000#32 * ∑ t, rowLoss x a w g y t
def loss : EReal := ∑ b : Fin 8, Ideal.ofBits .f32 0x3f000000#32 * ∑ r : Fin 256, rowLoss x a w g y ⟨256 * b.val + r.val, by omega⟩

/-- The gradient of the normed row as the kernel writes it, and as differentiating the loss does. -/
def dNormed (t : Fin 2048) (d : Fin 1024) : EReal := err x a w g y t d * Ideal.ofBits .f32 0x3a800000#32
def dNormedR (t : Fin 2048) (d : Fin 1024) : EReal :=
  Ideal.div (Ideal.ofBits .f32 0x3f000000#32) (Ideal.ofBits .f32 0x44800000#32)
    * (Ideal.ofBits .f32 0x40000000#32 * err x a w g y t d)

/-- The gradient of the norm's input, -/
def dStream (t : Fin 2048) (i : Fin 1024) : EReal := back (stream x a w t) g (dNormed x a w g y t) i
def dStreamR (t : Fin 2048) (i : Fin 1024) : EReal := backward (stream x a w t) g (dNormedR x a w g y t) i

/-- and of the gain, a row's part and the sum over the rows. -/
def gainPart (t : Fin 2048) (i : Fin 1024) : EReal := dNormed x a w g y t i * (stream x a w t i * rms (stream x a w t))
def dGain (i : Fin 1024) : EReal := ∑ t, gainPart x a w g y t i
def dGainR (i : Fin 1024) : EReal := ∑ t, stream x a w t i * rms (stream x a w t) * dNormedR x a w g y t i

/-- The two gradients of the normed row are the same product. -/
theorem dNormed_eq : dNormedR x a w g y = dNormed x a w g y := by
  funext t d
  rw [dNormedR, dNormed, word_half, word_width, word_two, word_inv_width, Ideal.div_coe (by norm_num), ← mul_assoc,
    ← EReal.coe_mul, ← EReal.coe_mul, mul_comm]
  congr 2
  norm_num

theorem dGain_eq : dGainR x a w g y = dGain x a w g y := by
  funext i
  unfold dGainR dGain
  rw [dNormed_eq]
  exact Finset.sum_congr rfl fun _ _ => mul_comm _ _

end Forms

/-- Halving real numbers block by block or at the end. -/
theorem half_blocks {f : Fin 2048 → EReal} (h : ∀ t, Finite (f t)) :
    Ideal.ofBits .f32 0x3f000000#32 * ∑ t, f t
      = ∑ b : Fin 8, Ideal.ofBits .f32 0x3f000000#32 * ∑ r : Fin 256, f ⟨256 * b.val + r.val, by omega⟩ := by
  obtain ⟨u, rfl⟩ := lift f h
  rw [sum_blocks, word_half]
  simp only [← coe_sum, ← EReal.coe_mul]
  rw [Finset.mul_sum]

section Finite
variable {x : Fin 2048 → Fin 1024 → EReal} {a : Fin 2048 → Fin 2816 → EReal} {w : Fin 2816 → Fin 1024 → EReal}
  {g : Fin 1024 → EReal} {y : Fin 2048 → Fin 1024 → EReal}
  (hx : ∀ t d, Finite (x t d)) (ha : ∀ t f, Finite (a t f)) (hw : ∀ f d, Finite (w f d)) (hg : ∀ d, Finite (g d))
  (hy : ∀ t d, Finite (y t d))
include hx ha hw

theorem finite_stream (t : Fin 2048) (d : Fin 1024) : Finite (stream x a w t d) :=
  (hx t d).add (Finite.sum fun f => (ha t f).mul (hw f d))

include hg hy

theorem finite_err (t : Fin 2048) (d : Fin 1024) : Finite (err x a w g y t d) :=
  (((finite_stream hx ha hw t d).mul (Finite.rms (finite_stream hx ha hw t))).mul (hg d)).sub (hy t d)

theorem dStream_eq : dStreamR x a w g y = dStream x a w g y := by
  funext t i
  have hd : ∀ d, Finite (dNormed x a w g y t d) := fun d => (finite_err hx ha hw hg hy t d).mul ⟨_, word_inv_width⟩
  rw [dStreamR, dStream, dNormed_eq, backward_eq (finite_stream hx ha hw t) hg hd]

theorem loss_eq : lossR x a w g y = loss x a w g y := by
  refine half_blocks fun t => ?_
  rw [rowLoss, word_width, Ideal.div_coe (by norm_num)]
  exact (Finite.sum fun d => (finite_err hx ha hw hg hy t d).mul (finite_err hx ha hw hg hy t d)).mul ⟨_, rfl⟩

end Finite

end Cert.FfnOutLoss

end
-- ==== Proof.FfnOutLoss.Kernel.lean ====
module

/-
What the last forward kernel leaves in its results: the loss, and the gradients of the last norm's input and gain. Each
grid point takes 256 rows; the gain's row and the loss gather the points' parts.
-/
public import proofs.«01_k».proof.Proof.Gen.FfnOutLossKernelIdeal.Value
public import proofs.«01_k».proof.Proof.FfnOutLoss.Math
public import Idealize.ShloMosaic.Lib.Pointwise
public import Idealize.ShloMosaic.Lib.Pipeline.ValueKit

@[expose] public section

set_option maxRecDepth 16384

noncomputable section

namespace Cert.FfnOutLossKernelIdeal.Entries
open Cert.FfnOutLossKernelIdeal Cert.FfnOutLossKernelIdeal.Gen Cert.Norm Cert.FfnOutLoss
open Idealize.ShloMosaic Idealize.ShloMosaic.TcCoe Idealize.ShloMosaic.Tactic
open Idealize.ShloMosaic.StableHlo

variable (m : (ℓ : Loc nD τ sig) → Buf (Elt Ideal) ℓ)

/-- The residual stream, the activations, the weight, the gain and the target, as launched. -/
abbrev X (c : Dev nD) (t : Fin 2048) (d : Fin 1024) : EReal := m ((c : Thread nD τ).loc main_arg0) (ix2 t d)
abbrev AC (c : Dev nD) (t : Fin 2048) (f : Fin 2816) : EReal := m ((c : Thread nD τ).loc main_arg1) (ix2 t f)
abbrev W (c : Dev nD) (f : Fin 2816) (d : Fin 1024) : EReal := m ((c : Thread nD τ).loc main_arg2) (ix2 f d)
abbrev G (c : Dev nD) (d : Fin 1024) : EReal := m ((c : Thread nD τ).loc main_arg3) (ix2 0 d)
abbrev Y (c : Dev nD) (t : Fin 2048) (d : Fin 1024) : EReal := m ((c : Thread nD τ).loc main_arg4) (ix2 t d)

/-- The weight as the kernel takes it. -/
theorem V_w (c : Dev nD) (f : Fin 2816) (d : Fin 1024) : V m c main_v0 (ix2 f d) = W m c f d := by
  unfold V; after_results_simp; pointwise

/-- Where the windows' blocks lie, decided over the grid. -/
theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] ∧ win0_6.index t = ![t.val, 0] ∧ win0_7.index t = ![0, 0] ∧ win0_8.index t = ![0, 0] := by
  decide +kernel

/-- Row `r` of block `t`. -/
abbrev row (t : Fin cfg0.N) (r : Fin 256) : Fin 2048 :=
  ⟨256 * t.val + r.val, by have : t.val < 8 := lt_of_lt_of_eq t.isLt (show cfg0.N = 8 from N_0); omega⟩

theorem blk_x (c : Dev nD) (t : Fin cfg0.N) (r : Fin 256) (j : Fin 1024) : iblk m c 0 t (ix2 r j) = X m c (row t r) j := by
  refine Eq.trans (?_ : _ = V m c main_arg0 (ix2 (row t r) j)) (by rw [V_main_arg0])
  blk_ext [iblk, idx t]

theorem blk_a (c : Dev nD) (t : Fin cfg0.N) (r : Fin 256) (j : Fin 2816) : iblk m c 1 t (ix2 r j) = AC m c (row t r) j := by
  refine Eq.trans (?_ : _ = V m c main_arg1 (ix2 (row t r) j)) (by rw [V_main_arg1])
  blk_ext [iblk, idx t]

theorem blk_y (c : Dev nD) (t : Fin cfg0.N) (r : Fin 256) (j : Fin 1024) : iblk m c 4 t (ix2 r j) = Y m c (row t r) j := by
  refine Eq.trans (?_ : _ = V m c main_arg4 (ix2 (row t r) j)) (by rw [V_main_arg4])
  blk_ext [iblk, idx t]

theorem blk_g (c : Dev nD) (t : Fin cfg0.N) (d : Fin 1024) : iblk m c 3 t (ix2 0 d) = G m c d := by
  refine Eq.trans (?_ : _ = V m c main_arg3 (ix2 0 d)) (by rw [V_main_arg3])
  blk_ext [iblk, idx t]

theorem blk_w (c : Dev nD) (t : Fin cfg0.N) (f : Fin 2816) (d : Fin 1024) : iblk m c 2 t (ix2 f d) = W m c f d := by
  refine Eq.trans (?_ : _ = V m c main_v0 (ix2 f d)) (V_w m c f d)
  blk_ext [iblk, idx t]

/-- The gradient of the norm's input, -/
theorem out5 (c : Dev nD) (t : Fin cfg0.N) (r : Fin 256) (i : Fin 1024) :
    (outsAt0 m c t.val t.isLt).1 (ix2 r i) = dStream (X m c) (AC m c) (W m c) (G m c) (Y m c) (row t r) i := by
  unfold dStream back
  by_cases hm : t.val % 8 = 0
  · rw [outsAt0_A m c t hm]; frame_out
    unfold_payloads; pointwise
    simp only [blk_x, blk_a, blk_w, blk_g, blk_y]
    rfl
  · rw [outsAt0_B m c t hm]; frame_out
    unfold_payloads; pointwise
    simp only [blk_x, blk_a, blk_w, blk_g, blk_y]
    rfl

/-- once more in the shorter format, -/
theorem out6 (c : Dev nD) (t : Fin cfg0.N) (r : Fin 256) (i : Fin 1024) :
    (outsAt0 m c t.val t.isLt).2.1 (ix2 r i) = dStream (X m c) (AC m c) (W m c) (G m c) (Y m c) (row t r) i := by
  unfold dStream back
  by_cases hm : t.val % 8 = 0
  · rw [outsAt0_A m c t hm]; frame_out
    unfold_payloads; pointwise
    simp only [blk_x, blk_a, blk_w, blk_g, blk_y]
    rfl
  · rw [outsAt0_B m c t hm]; frame_out
    unfold_payloads; pointwise
    simp only [blk_x, blk_a, blk_w, blk_g, blk_y]
    rfl

/-- a point's parts of the gain's gradient and of the loss, -/
def gainTerm (c : Dev nD) (n : Nat) (j : S1x1024.Idx) : EReal :=
  ∑ r : Fin 256, gainPart (X m c) (AC m c) (W m c) (G m c) (Y m c) ⟨(256 * n + r.val) % 2048, Nat.mod_lt _ (by omega)⟩ (j 1)

def lossTerm (c : Dev nD) (n : Nat) (_ : S1x128.Idx) : EReal :=
  Ideal.ofBits .f32 0x3f000000#32 * ∑ r : Fin 256, rowLoss (X m c) (AC m c) (W m c) (G m c) (Y m c) ⟨(256 * n + r.val) % 2048, Nat.mod_lt _ (by omega)⟩

theorem row_eq (t : Fin cfg0.N) (r : Fin 256) :
    (⟨(256 * t.val + r.val) % 2048, Nat.mod_lt _ (by omega)⟩ : Fin 2048) = row t r := by
  have : t.val < 8 := lt_of_lt_of_eq t.isLt (show cfg0.N = 8 from N_0)
  exact Fin.ext (Nat.mod_eq_of_lt (by omega))

/-- the gain's row after a point: the terms of the points so far; -/
theorem out7 (c : Dev nD) (t : Fin cfg0.N) (j : S1x1024.Idx) :
    (outsAt0 m c t.val t.isLt).2.2.1 j = 0 + ∑ k ∈ Finset.range (t.val + 1), gainTerm m c k j := by
  refine Pipeline.eq_sum_of_reset_step_apply_single (fun n h => (outsAt0 m c n h).2.2.1) 8 (fun _ => 0) (gainTerm m c) ?_ ?_ (le_of_eq N_0) t j
  · intro t hm j
    obtain ⟨i, rfl⟩ : ∃ i : Fin 1024, j = ix2 0 i := ⟨j 1, (eq_ix2 j).trans (congrArg (ix2 · (j 1)) (Subsingleton.elim _ _))⟩
    show (outsAt0 m c t.val t.isLt).2.2.1 _ = _
    unfold gainTerm
    simp only [row_eq]
    rw [outsAt0_A m c t hm, zero_add]; frame_out
    unfold_payloads; pointwise
    simp only [gainPart, blk_x, blk_a, blk_w, blk_g, blk_y]
    rfl
  · intro t hm j
    obtain ⟨i, rfl⟩ : ∃ i : Fin 1024, j = ix2 0 i := ⟨j 1, (eq_ix2 j).trans (congrArg (ix2 · (j 1)) (Subsingleton.elim _ _))⟩
    show (outsAt0 m c t.val t.isLt).2.2.1 _ = _
    unfold gainTerm
    simp only [row_eq]
    rw [outsAt0_B m c t hm]; frame_out
    unfold_payloads; pointwise
    simp only [gainPart, blk_x, blk_a, blk_w, blk_g, blk_y]
    rfl

/-- and so the loss. -/
theorem out8 (c : Dev nD) (t : Fin cfg0.N) (j : S1x128.Idx) :
    (outsAt0 m c t.val t.isLt).2.2.2 j = 0 + ∑ k ∈ Finset.range (t.val + 1), lossTerm m c k j := by
  refine Pipeline.eq_sum_of_reset_step_apply_single (fun n h => (outsAt0 m c n h).2.2.2) 8 (fun _ => 0) (lossTerm m c) ?_ ?_ (le_of_eq N_0) t j
  · intro t hm j
    obtain ⟨i, rfl⟩ : ∃ i : Fin 128, j = ix2 0 i := ⟨j 1, (eq_ix2 j).trans (congrArg (ix2 · (j 1)) (Subsingleton.elim _ _))⟩
    show (outsAt0 m c t.val t.isLt).2.2.2 _ = _
    unfold lossTerm
    simp only [row_eq]
    rw [outsAt0_A m c t hm, zero_add]; frame_out
    unfold_payloads; pointwise
    simp only [rowLoss, blk_x, blk_a, blk_w, blk_g, blk_y]
    rfl
  · intro t hm j
    obtain ⟨i, rfl⟩ : ∃ i : Fin 128, j = ix2 0 i := ⟨j 1, (eq_ix2 j).trans (congrArg (ix2 · (j 1)) (Subsingleton.elim _ _))⟩
    show (outsAt0 m c t.val t.isLt).2.2.2 _ = _
    unfold lossTerm
    simp only [row_eq]
    rw [outsAt0_B m c t hm]; frame_out
    unfold_payloads; pointwise
    simp only [rowLoss, blk_x, blk_a, blk_w, blk_g, blk_y]
    rfl

/-- The results as whole arrays: the gradient of the norm's input, -/
theorem final5 (c : Dev nD) : (dats m 0 c).arrAt 5 cfg0.N = fun j => dStream (X m c) (AC m c) (W m c) (G m c) (Y m c) (j 0) (j 1) := by
  refine (dats m 0 c).arrAt_eq_of_covers 5 _ (by decide +kernel) fun t hf y => ?_
  blk_simp
  rw [after0_5]
  obtain ⟨r, p, rfl⟩ : ∃ (r : Fin 256) (p : Fin 1024), y = ix2 r p := ⟨y 0, y 1, eq_ix2 y⟩
  have e : (((cfg0.win 5).blk t).view.emb (ix2 r p)) = ix2 (row t r) p := by blk_ext [idx t]
  rw [e]
  exact out5 m c t r p

/-- the same in the shorter format, -/
theorem final6 (c : Dev nD) : (dats m 0 c).arrAt 6 cfg0.N = fun j => dStream (X m c) (AC m c) (W m c) (G m c) (Y m c) (j 0) (j 1) := by
  refine (dats m 0 c).arrAt_eq_of_covers 6 _ (by decide +kernel) fun t hf y => ?_
  blk_simp
  rw [after0_6]
  obtain ⟨r, p, rfl⟩ : ∃ (r : Fin 256) (p : Fin 1024), y = ix2 r p := ⟨y 0, y 1, eq_ix2 y⟩
  have e : (((cfg0.win 6).blk t).view.emb (ix2 r p)) = ix2 (row t r) p := by blk_ext [idx t]
  rw [e]
  exact out6 m c t r p

/-- The grid's last point. -/
abbrev tLast : Fin cfg0.N := ⟨7, lt_of_lt_of_eq (by decide) N_0.symm⟩

/-- the gain's gradient, -/
theorem final7 (c : Dev nD) : (dats m 0 c).arrAt 7 cfg0.N = fun j => dGain (X m c) (AC m c) (W m c) (G m c) (Y m c) (j 1) := by
  refine (dats m 0 c).arrAt_eq_of_after_last 7 tLast (by decide +kernel) _ fun j => ?_
  blk_simp
  rw [after0_7]
  obtain ⟨i, rfl⟩ : ∃ i : Fin 1024, j = ix2 0 i := ⟨j 1, (eq_ix2 j).trans (congrArg (ix2 · (j 1)) (Subsingleton.elim _ _))⟩
  refine (out7 m c tLast _).trans ?_
  unfold dGain
  rw [zero_add, sum_blocks, Finset.sum_range]
  refine Finset.sum_congr rfl fun b _ => Finset.sum_congr rfl fun r _ => congrArg (gainPart (X m c) (AC m c) (W m c) (G m c) (Y m c) · i) (Fin.ext ?_)
  have hb : b.val < 8 := b.isLt
  exact Nat.mod_eq_of_lt (by omega)

/-- and the loss. -/
theorem final8 (c : Dev nD) : (dats m 0 c).arrAt 8 cfg0.N = fun _ => loss (X m c) (AC m c) (W m c) (G m c) (Y m c) := by
  refine (dats m 0 c).arrAt_eq_of_after_last 8 tLast (by decide +kernel) _ fun j => ?_
  blk_simp
  rw [after0_8]
  refine (out8 m c tLast _).trans ?_
  unfold loss
  rw [zero_add, Finset.sum_range]
  refine Finset.sum_congr rfl fun b _ => congrArg (_ * ·) (Finset.sum_congr rfl fun r _ => congrArg (rowLoss (X m c) (AC m c) (W m c) (G m c) (Y m c)) (Fin.ext ?_))
  have hb : b.val < 8 := b.isLt
  exact Nat.mod_eq_of_lt (by omega)

end Cert.FfnOutLossKernelIdeal.Entries

end
-- ==== Proof.FfnOutLoss.Pre.lean ====
module

/-
What the precondition of the last forward kernel says: every argument is finite, entry by entry.
-/
public import proofs.«01_k».proof.Defs
public import proofs.«01_k».proof.Proof.Norm
public import proofs.«01_k».proof.Proof.FfnOutLoss.Kernel

public section

noncomputable section

namespace Cert.FfnOutLoss
open Idealize.ShloMosaic Idealize.ShloMosaic.TcCoe Cert.Norm Cert.FfnOutLossKernelIdeal Cert.FfnOutLossKernelIdeal.Entries

instance facts_pre : Cert.Pre_ffn_out_loss_finite.Facts where
  bcast_S_S2048x1024 := by decide
  bitsLt_bf16_f32 := by decide
  bcast_S_S2048x2816 := by decide
  bcast_S_S2816x1024 := by decide
  bcast_S_S1x1024 := by decide

variable {m : (ℓ : Loc nD τ sig) → Buf (Elt Ideal) ℓ}

theorem finite_args (h : Cert.Pre_FfnOutLossKernelIdeal_ffn_out_loss_finite m) (c : Dev nD) :
    (∀ t d, Finite (X m c t d)) ∧ (∀ t f, Finite (AC m c t f)) ∧ (∀ f d, Finite (W m c f d)) ∧ (∀ d, Finite (G m c d))
      ∧ ∀ t d, Finite (Y m c t d) := by
  obtain ⟨h0, h1, h2, h3, h4⟩ := h c
  exact ⟨fun t d => finite_of_abs (word_inf ▸ congrFun h0 (ix2 t d)), fun t f => finite_of_abs (word_inf ▸ congrFun h1 (ix2 t f)),
    fun f d => finite_of_abs (word_inf ▸ congrFun h2 (ix2 f d)), fun d => finite_of_abs (word_inf ▸ congrFun h3 (ix2 0 d)),
    fun t d => finite_of_abs (word_inf ▸ congrFun h4 (ix2 t d))⟩

end Cert.FfnOutLoss

end
-- ==== Proof.FfnOutLoss.Reference.lean ====
module

/-
The gradient of the last norm's input in the reference, entry by entry.
-/
public import proofs.«01_k».proof.Proof.FfnOutLoss.Math
public import proofs.«01_k».proof.Proof.Gen.FfnOutLossReferenceIdeal.Run
public import Idealize.ShloMosaic.Lib.Pointwise

@[expose] public section

set_option maxRecDepth 16384

noncomputable section

namespace Cert.FfnOutLoss
open Cert.FfnOutLossReferenceIdeal
open Idealize.ShloMosaic Idealize.ShloMosaic.TcCoe Idealize.ShloMosaic.Tactic Idealize.SL.Sem

variable (m : (ℓ : Loc nD τ sig) → Buf (Elt Ideal) ℓ) (ρ : Dev nD → PrngReg)

/-- The arguments' entries, as launched. -/
abbrev X (c : Dev nD) (t : Fin 2048) (d : Fin 1024) : EReal := m ((c : Thread nD τ).loc main_arg0) (ix2 t d)
abbrev AC (c : Dev nD) (t : Fin 2048) (f : Fin 2816) : EReal := m ((c : Thread nD τ).loc main_arg1) (ix2 t f)
abbrev W (c : Dev nD) (f : Fin 2816) (d : Fin 1024) : EReal := m ((c : Thread nD τ).loc main_arg2) (ix2 f d)
abbrev G (c : Dev nD) (d : Fin 1024) : EReal := m ((c : Thread nD τ).loc main_arg3) (ix2 0 d)
abbrev Y (c : Dev nD) (t : Fin 2048) (d : Fin 1024) : EReal := m ((c : Thread nD τ).loc main_arg4) (ix2 t d)

set_option maxHeartbeats 1000000 in
/-- The gradient of the norm's input, -/
theorem entry51 (c : Dev nD) (t : Fin 2048) (i : Fin 1024) : Value.res_main_v51 m c (ix2 t i) = dStreamR (X m c) (AC m c) (W m c) (G m c) (Y m c) t i := by
  unfold Value.res_main_v51
  pointwise
  simp only [Finset.univ_unique, Finset.sum_singleton]
  rfl

set_option maxHeartbeats 1000000 in
/-- and in the shorter format. -/
theorem entry52 (c : Dev nD) (t : Fin 2048) (i : Fin 1024) : Value.res_main_v52 m c (ix2 t i) = dStreamR (X m c) (AC m c) (W m c) (G m c) (Y m c) t i := by
  unfold Value.res_main_v52
  pointwise
  simp only [Finset.univ_unique, Finset.sum_singleton]
  rfl

end Cert.FfnOutLoss

end
-- ==== Proof.FfnOutLoss.Claim.lean ====
module

/-
The value claim of the end of the step: where the arguments are finite, kernel and reference give the same loss and the
same gradients of the last norm's input and gain.
-/
public import proofs.«01_k».proof.Defs
public import proofs.«01_k».proof.Proof.FfnOutLoss.Kernel
public import proofs.«01_k».proof.Proof.FfnOutLoss.Pre
public import proofs.«01_k».proof.Proof.FfnOutLoss.Reference

public section

set_option maxRecDepth 16384

noncomputable section

namespace Cert.FfnOutLoss
open Idealize.ShloMosaic Idealize.ShloMosaic.TcCoe Idealize.ShloMosaic.Tactic Idealize.SL.Sem

section Reference
open Cert.FfnOutLossReferenceIdeal
variable (m : (ℓ : Loc nD τ sig) → Buf (Elt Ideal) ℓ) (ρ : Dev nD → PrngReg)

set_option maxHeartbeats 2000000 in
/-- The reference's results, entry by entry. -/
theorem run_entries : θ_run defs (onTc (τ := τ) (main (F := Ideal))) ⟨m, fun _ => 0, ρ⟩ (fun r => ∀ c : Dev nD,
    r.2.mem ((c : Thread nD τ).loc main_v51) = (fun j => dStreamR (X m c) (AC m c) (W m c) (G m c) (Y m c) (j 0) (j 1))
    ∧ r.2.mem ((c : Thread nD τ).loc main_v52) = (fun j => dStreamR (X m c) (AC m c) (W m c) (G m c) (Y m c) (j 0) (j 1))
    ∧ r.2.mem ((c : Thread nD τ).loc main_v35) = (fun j => dGainR (X m c) (AC m c) (W m c) (G m c) (Y m c) (j 1))
    ∧ r.2.mem ((c : Thread nD τ).loc main_v53) = (fun _ => lossR (X m c) (AC m c) (W m c) (G m c) (Y m c))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) := by
  refine (θ_run defs _ _).mono (fun r h c => ⟨(h c).1.trans ?_, (h c).2.1.trans ?_, (h c).2.2.1.trans ?_, (h c).2.2.2.1.trans ?_, (h c).2.2.2.2⟩) (Value.run (F := Ideal) m ρ) <;> clear h
  · funext j
    obtain ⟨t, i, rfl⟩ : ∃ (t : Fin 2048) (i : Fin 1024), j = ix2 t i := ⟨j 0, j 1, eq_ix2 j⟩
    exact entry51 m c t i
  · funext j
    obtain ⟨t, i, rfl⟩ : ∃ (t : Fin 2048) (i : Fin 1024), j = ix2 t i := ⟨j 0, j 1, eq_ix2 j⟩
    exact entry52 m c t i
  · funext j
    obtain ⟨i, rfl⟩ : ∃ i : Fin 1024, j = ix2 0 i := ⟨j 1, (eq_ix2 j).trans (congrArg (ix2 · (j 1)) (Subsingleton.elim _ _))⟩
    pointwise
    rfl
  · funext j
    obtain ⟨i, rfl⟩ : ∃ i : Fin 128, j = ix2 0 i := ⟨j 1, (eq_ix2 j).trans (congrArg (ix2 · (j 1)) (Subsingleton.elim _ _))⟩
    pointwise
    rfl

end Reference

theorem algebraic : Cert.algebraic_FfnOutLossKernelIdeal_FfnOutLossReferenceIdeal_pre_ffn_out_loss_finite := by
  intro m g m' g' hpre hargs
  refine ⟨fun c => (FfnOutLossKernelIdeal.Gen.dats m 0 c).arrAt 5 FfnOutLossKernelIdeal.cfg0.N, fun c => (FfnOutLossKernelIdeal.Gen.dats m 0 c).arrAt 6 FfnOutLossKernelIdeal.cfg0.N, fun c => (FfnOutLossKernelIdeal.Gen.dats m 0 c).arrAt 7 FfnOutLossKernelIdeal.cfg0.N, fun c => (FfnOutLossKernelIdeal.Gen.dats m 0 c).arrAt 8 FfnOutLossKernelIdeal.cfg0.N, ?_, ?_⟩
  · exact FfnOutLossKernelIdeal.Value.run_blocks m g
  · refine (θ_run FfnOutLossReferenceIdeal.defs _ _).mono (fun r h c => ?_) (run_entries m' g')
    obtain ⟨r5, r6, r7, r8, ra⟩ := h c
    obtain ⟨a0, a1, a2, a3, a4⟩ := hargs c
    have eX : X m' c = FfnOutLossKernelIdeal.Entries.X m c := funext₂ fun t d => congrFun a0 _
    have eAC : AC m' c = FfnOutLossKernelIdeal.Entries.AC m c := funext₂ fun t d => congrFun a1 _
    have eW : W m' c = FfnOutLossKernelIdeal.Entries.W m c := funext₂ fun t d => congrFun a2 _
    have eG : G m' c = FfnOutLossKernelIdeal.Entries.G m c := funext fun t => congrFun a3 _
    have eY : Y m' c = FfnOutLossKernelIdeal.Entries.Y m c := funext₂ fun t d => congrFun a4 _
    obtain ⟨hx, ha, hw, hg, hy⟩ := finite_args hpre c
    rw [eX, eAC, eW, eG, eY, dStream_eq hx ha hw hg hy] at r5
    rw [eX, eAC, eW, eG, eY, dStream_eq hx ha hw hg hy] at r6
    rw [eX, eAC, eW, eG, eY, dGain_eq] at r7
    rw [eX, eAC, eW, eG, eY, loss_eq hx ha hw hg hy] at r8
    exact ⟨r5.trans (FfnOutLossKernelIdeal.Entries.final5 m c).symm, r6.trans (FfnOutLossKernelIdeal.Entries.final6 m c).symm, r7.trans (FfnOutLossKernelIdeal.Entries.final7 m c).symm, r8.trans (FfnOutLossKernelIdeal.Entries.final8 m c).symm, ra⟩

/-- The reference's frame: its run changes no argument, and it has no semaphore. -/
theorem frame_reference : Cert.quiescent_FfnOutLossReferenceIdeal := fun m ρ _ =>
  (θ_run Cert.FfnOutLossReferenceIdeal.defs _ _).mono (fun r h => ⟨fun c => (h c).2.2.2.2,
      Idealize.ShloMosaic.sem_eq_zero_of_no_sems (by decide) r.2⟩)
    (Cert.FfnOutLossReferenceIdeal.Value.run (F := Ideal) m ρ)

end Cert.FfnOutLoss

end
-- ==== Proof.InProj.Kernel.lean ====
module

/-
What the input projection's kernel leaves in its results: the normed input, and the three groups of columns of
`rmsnorm x · w_in + b_in`, 512 rows a grid point.
-/
public import proofs.«01_k».proof.Proof.Gen.InProjKernelIdeal.Value
public import proofs.«01_k».proof.Proof.Norm
public import Idealize.ShloMosaic.Lib.Pointwise
public import Idealize.ShloMosaic.Lib.Pipeline.ValueKit

@[expose] public section

set_option maxRecDepth 16384

noncomputable section

namespace Cert.InProj
open Cert.Norm

/-- The projection of a normed row, and its three groups of columns. -/
def proj (x : Fin 2048 → Fin 1024 → EReal) (g : Fin 1024 → EReal) (w : Fin 1024 → Fin 3840 → EReal) (b : Fin 3840 → EReal)
    (t : Fin 2048) (p : Fin 3840) : EReal :=
  ∑ i, normed (x t) g i * w i p + b p

variable (x : Fin 2048 → Fin 1024 → EReal) (g : Fin 1024 → EReal) (w : Fin 1024 → Fin 3840 → EReal) (b : Fin 3840 → EReal)

/-- The normed input, every row. -/
def hidden (t : Fin 2048) (i : Fin 1024) : EReal := normed (x t) g i

def qkv (t : Fin 2048) (p : Fin 768) : EReal := proj x g w b t ⟨p.val, by omega⟩
def glu (t : Fin 2048) (p : Fin 1024) : EReal := proj x g w b t ⟨768 + p.val, by omega⟩
def logits (t : Fin 2048) (p : Fin 2048) : EReal := proj x g w b t ⟨1792 + p.val, by omega⟩

end Cert.InProj

namespace Cert.InProjKernelIdeal.Entries
open Cert.InProjKernelIdeal Cert.InProjKernelIdeal.Gen Cert.Norm Cert.InProj
open Idealize.ShloMosaic Idealize.ShloMosaic.TcCoe Idealize.ShloMosaic.Tactic
open Idealize.ShloMosaic.StableHlo

variable (m : (ℓ : Loc nD τ sig) → Buf (Elt Ideal) ℓ)

/-- The input, the gain, the projection and its bias, as launched. -/
abbrev X (c : Dev nD) (t : Fin 2048) (i : Fin 1024) : EReal := m ((c : Thread nD τ).loc main_arg0) (ix2 t i)
abbrev G (c : Dev nD) (i : Fin 1024) : EReal := m ((c : Thread nD τ).loc main_arg1) (ix2 0 i)
abbrev W (c : Dev nD) (i : Fin 1024) (p : Fin 3840) : EReal := m ((c : Thread nD τ).loc main_arg2) (ix2 i p)
abbrev B (c : Dev nD) (p : Fin 3840) : EReal := m ((c : Thread nD τ).loc main_arg3) (ix2 0 p)

theorem V_w (c : Dev nD) (p : Fin 3840) (i : Fin 1024) : V m c main_v1 (ix2 p i) = W m c i p := by
  unfold V; after_results_simp; pointwise

/-- Where the windows' blocks lie, decided over the grid. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] := by
  decide +kernel

/-- Row `r` of block `t`. -/
abbrev row (t : Fin cfg0.N) (r : Fin 512) : Fin 2048 :=
  ⟨512 * t.val + r.val, by have : t.val < 4 := lt_of_lt_of_eq t.isLt (show cfg0.N = 4 from N_0); omega⟩

theorem blk_x (c : Dev nD) (t : Fin cfg0.N) (r : Fin 512) (i : Fin 1024) : iblk m c 0 t (ix2 r i) = X m c (row t r) i := by
  refine Eq.trans (?_ : _ = V m c main_arg0 (ix2 (row t r) i)) (by rw [V_main_arg0])
  blk_ext [iblk, idx t]

theorem blk_g (c : Dev nD) (t : Fin cfg0.N) (i : Fin 1024) : iblk m c 1 t (ix2 0 i) = G m c i := by
  refine Eq.trans (?_ : _ = V m c main_arg1 (ix2 0 i)) (by rw [V_main_arg1])
  blk_ext [iblk, idx t]

theorem blk_w (c : Dev nD) (t : Fin cfg0.N) (p : Fin 3840) (i : Fin 1024) : iblk m c 2 t (ix2 p i) = W m c i p := by
  refine Eq.trans (?_ : _ = V m c main_v1 (ix2 p i)) (V_w m c p i)
  blk_ext [iblk, idx t]

theorem blk_b (c : Dev nD) (t : Fin cfg0.N) (p : Fin 3840) : iblk m c 3 t (ix2 0 p) = B m c p := by
  refine Eq.trans (?_ : _ = V m c main_arg3 (ix2 0 p)) (by rw [V_main_arg3])
  blk_ext [iblk, idx t]

/-- The normed input, block by block, -/
theorem out4 (c : Dev nD) (t : Fin cfg0.N) (r : Fin 512) (i : Fin 1024) :
    out0_4 (iblk m c 0 t) (iblk m c 1 t) (iblk m c 2 t) (iblk m c 3 t) (ix2 r i) = hidden (X m c) (G m c) (row t r) i := by
  unfold out0_4; frame_out
  unfold_payloads; pointwise
  simp only [blk_x, blk_g]
  rfl

/-- and as one array. -/
theorem final4 (c : Dev nD) : (dats m 0 c).arrAt 4 cfg0.N = fun j => hidden (X m c) (G m c) (j 0) (j 1) := by
  refine (dats m 0 c).arrAt_eq_of_covers 4 _ (by decide +kernel) fun t hf y => ?_
  blk_simp
  rw [after0_4]
  obtain ⟨r, p, rfl⟩ : ∃ (r : Fin 512) (p : Fin 1024), y = ix2 r p := ⟨y 0, y 1, eq_ix2 y⟩
  have e : (((cfg0.win 4).blk t).view.emb (ix2 r p)) = ix2 (row t r) p := by blk_ext [idx t]
  rw [e]
  exact out4 m c t r p

/-- The queries, keys and values, block by block, -/
theorem out5 (c : Dev nD) (t : Fin cfg0.N) (r : Fin 512) (p : Fin 768) :
    out0_5 (iblk m c 0 t) (iblk m c 1 t) (iblk m c 2 t) (iblk m c 3 t) (ix2 r p) = qkv (X m c) (G m c) (W m c) (B m c) (row t r) p := by
  unfold out0_5; frame_out
  unfold_payloads; pointwise
  simp only [blk_x, blk_g, blk_w, blk_b]
  rfl

/-- and as one array. -/
theorem final5 (c : Dev nD) : (dats m 0 c).arrAt 5 cfg0.N = fun j => qkv (X m c) (G m c) (W m c) (B m c) (j 0) (j 1) := by
  refine (dats m 0 c).arrAt_eq_of_covers 5 _ (by decide +kernel) fun t hf y => ?_
  blk_simp
  rw [after0_5]
  obtain ⟨r, p, rfl⟩ : ∃ (r : Fin 512) (p : Fin 768), y = ix2 r p := ⟨y 0, y 1, eq_ix2 y⟩
  have e : (((cfg0.win 5).blk t).view.emb (ix2 r p)) = ix2 (row t r) p := by blk_ext [idx t]
  rw [e]
  exact out5 m c t r p

/-- The gated linear unit's input, block by block, -/
theorem out6 (c : Dev nD) (t : Fin cfg0.N) (r : Fin 512) (p : Fin 1024) :
    out0_6 (iblk m c 0 t) (iblk m c 1 t) (iblk m c 2 t) (iblk m c 3 t) (ix2 r p) = glu (X m c) (G m c) (W m c) (B m c) (row t r) p := by
  unfold out0_6; frame_out
  unfold_payloads; pointwise
  simp only [blk_x, blk_g, blk_w, blk_b]
  rfl

/-- and as one array. -/
theorem final6 (c : Dev nD) : (dats m 0 c).arrAt 6 cfg0.N = fun j => glu (X m c) (G m c) (W m c) (B m c) (j 0) (j 1) := by
  refine (dats m 0 c).arrAt_eq_of_covers 6 _ (by decide +kernel) fun t hf y => ?_
  blk_simp
  rw [after0_6]
  obtain ⟨r, p, rfl⟩ : ∃ (r : Fin 512) (p : Fin 1024), y = ix2 r p := ⟨y 0, y 1, eq_ix2 y⟩
  have e : (((cfg0.win 6).blk t).view.emb (ix2 r p)) = ix2 (row t r) p := by blk_ext [idx t]
  rw [e]
  exact out6 m c t r p

/-- The gates' logits, block by block, -/
theorem out7 (c : Dev nD) (t : Fin cfg0.N) (r : Fin 512) (p : Fin 2048) :
    out0_7 (iblk m c 0 t) (iblk m c 1 t) (iblk m c 2 t) (iblk m c 3 t) (ix2 r p) = logits (X m c) (G m c) (W m c) (B m c) (row t r) p := by
  unfold out0_7; frame_out
  unfold_payloads; pointwise
  simp only [blk_x, blk_g, blk_w, blk_b]
  rfl

/-- and as one array. -/
theorem final7 (c : Dev nD) : (dats m 0 c).arrAt 7 cfg0.N = fun j => logits (X m c) (G m c) (W m c) (B m c) (j 0) (j 1) := by
  refine (dats m 0 c).arrAt_eq_of_covers 7 _ (by decide +kernel) fun t hf y => ?_
  blk_simp
  rw [after0_7]
  obtain ⟨r, p, rfl⟩ : ∃ (r : Fin 512) (p : Fin 2048), y = ix2 r p := ⟨y 0, y 1, eq_ix2 y⟩
  have e : (((cfg0.win 7).blk t).view.emb (ix2 r p)) = ix2 (row t r) p := by blk_ext [idx t]
  rw [e]
  exact out7 m c t r p

end Cert.InProjKernelIdeal.Entries

end
-- ==== Proof.InProj.Claim.lean ====
module

/-
The value claim of the input projection: kernel and reference both give `rmsnorm x` and the columns of
`rmsnorm x · w_in + b_in`.
-/
public import proofs.«01_k».proof.Defs
public import proofs.«01_k».proof.Proof.InProj.Kernel
public import proofs.«01_k».proof.Proof.Gen.InProjReferenceIdeal.Run

public section

set_option maxRecDepth 16384

noncomputable section

namespace Cert.InProj
open Idealize.ShloMosaic Idealize.ShloMosaic.TcCoe Idealize.SL.Sem

section Reference
open Cert.InProjReferenceIdeal
variable (m : (ℓ : Loc nD τ sig) → Buf (Elt Ideal) ℓ) (ρ : Dev nD → PrngReg)

/-- The arguments' entries, as launched. -/
abbrev X (c : Dev nD) (t : Fin 2048) (i : Fin 1024) : EReal := m ((c : Thread nD τ).loc main_arg0) (ix2 t i)
abbrev G (c : Dev nD) (i : Fin 1024) : EReal := m ((c : Thread nD τ).loc main_arg1) (ix2 0 i)
abbrev W (c : Dev nD) (i : Fin 1024) (p : Fin 3840) : EReal := m ((c : Thread nD τ).loc main_arg2) (ix2 i p)
abbrev B (c : Dev nD) (p : Fin 3840) : EReal := m ((c : Thread nD τ).loc main_arg3) (ix2 0 p)

set_option maxHeartbeats 2000000 in
/-- The reference's results, entry by entry. -/
theorem run_entries : θ_run defs (onTc (τ := τ) (main (F := Ideal))) ⟨m, fun _ => 0, ρ⟩ (fun r => ∀ c : Dev nD,
    r.2.mem ((c : Thread nD τ).loc main_v28) = (fun j => hidden (X m c) (G m c) (j 0) (j 1))
    ∧ r.2.mem ((c : Thread nD τ).loc main_v29) = (fun j => qkv (X m c) (G m c) (W m c) (B m c) (j 0) (j 1))
    ∧ r.2.mem ((c : Thread nD τ).loc main_v30) = (fun j => glu (X m c) (G m c) (W m c) (B m c) (j 0) (j 1))
    ∧ r.2.mem ((c : Thread nD τ).loc main_v31) = (fun j => logits (X m c) (G m c) (W m c) (B m c) (j 0) (j 1))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) := by
  refine (θ_run defs _ _).mono (fun r h c => ⟨(h c).1.trans ?_, (h c).2.1.trans ?_, (h c).2.2.1.trans ?_, (h c).2.2.2.1.trans ?_, (h c).2.2.2.2⟩) (Value.run (F := Ideal) m ρ) <;> clear h
  · funext j
    obtain ⟨t, i, rfl⟩ : ∃ (t : Fin 2048) (i : Fin 1024), j = ix2 t i := ⟨j 0, j 1, eq_ix2 j⟩
    pointwise
    rfl
  · funext j
    obtain ⟨t, i, rfl⟩ : ∃ (t : Fin 2048) (i : Fin 768), j = ix2 t i := ⟨j 0, j 1, eq_ix2 j⟩
    pointwise
    rfl
  · funext j
    obtain ⟨t, i, rfl⟩ : ∃ (t : Fin 2048) (i : Fin 1024), j = ix2 t i := ⟨j 0, j 1, eq_ix2 j⟩
    pointwise
    rfl
  · funext j
    obtain ⟨t, i, rfl⟩ : ∃ (t : Fin 2048) (i : Fin 2048), j = ix2 t i := ⟨j 0, j 1, eq_ix2 j⟩
    pointwise
    rfl

end Reference

theorem algebraic : Cert.algebraic_InProjKernelIdeal_InProjReferenceIdeal := by
  intro m g m' g' _ hargs
  refine ⟨fun c => (InProjKernelIdeal.Gen.dats m 0 c).arrAt 4 InProjKernelIdeal.cfg0.N, fun c => (InProjKernelIdeal.Gen.dats m 0 c).arrAt 5 InProjKernelIdeal.cfg0.N, fun c => (InProjKernelIdeal.Gen.dats m 0 c).arrAt 6 InProjKernelIdeal.cfg0.N, fun c => (InProjKernelIdeal.Gen.dats m 0 c).arrAt 7 InProjKernelIdeal.cfg0.N, ?_, ?_⟩
  · exact InProjKernelIdeal.Value.run_blocks m g
  · refine (θ_run InProjReferenceIdeal.defs _ _).mono (fun r h c => ?_) (run_entries m' g')
    obtain ⟨r4, r5, r6, r7, ra⟩ := h c
    obtain ⟨a0, a1, a2, a3⟩ := hargs c
    have eX : X m' c = InProjKernelIdeal.Entries.X m c := funext₂ fun t d => congrFun a0 _
    have eG : G m' c = InProjKernelIdeal.Entries.G m c := funext fun t => congrFun a1 _
    have eW : W m' c = InProjKernelIdeal.Entries.W m c := funext₂ fun t d => congrFun a2 _
    have eB : B m' c = InProjKernelIdeal.Entries.B m c := funext fun t => congrFun a3 _
    rw [eX, eG] at r4
    rw [eX, eG, eW, eB] at r5
    rw [eX, eG, eW, eB] at r6
    rw [eX, eG, eW, eB] at r7
    exact ⟨r4.trans (InProjKernelIdeal.Entries.final4 m c).symm, r5.trans (InProjKernelIdeal.Entries.final5 m c).symm, r6.trans (InProjKernelIdeal.Entries.final6 m c).symm, r7.trans (InProjKernelIdeal.Entries.final7 m c).symm, ra⟩

/-- The reference's frame: its run changes no argument, and it has no semaphore. -/
theorem frame_reference : Cert.quiescent_InProjReferenceIdeal := fun m ρ _ =>
  (θ_run Cert.InProjReferenceIdeal.defs _ _).mono (fun r h => ⟨fun c => (h c).2.2.2.2,
      Idealize.ShloMosaic.sem_eq_zero_of_no_sems (by decide) r.2⟩)
    (Cert.InProjReferenceIdeal.Value.run (F := Ideal) m ρ)

end Cert.InProj

end
-- ==== Proof.SwiGlu.lean ====
module

/-
The feed-forward's first product and its gated activation, as plain functions of the arguments' entries over the extended
reals. The product's columns are kept half by half: the gate's first half beside the other factor's first half, then
the second halves.
-/
public import Idealize.ShloMosaic.PureOps.Ideal

@[expose] public section

noncomputable section

namespace Cert.SwiGlu
open Idealize.ShloMosaic

variable (h : Fin 2048 → Fin 1024 → EReal) (w : Fin 1024 → Fin 5632 → EReal)

/-- The product's two parts: the gate's and the other factor's. -/
def gate (t : Fin 2048) (f : Fin 2816) : EReal := ∑ i, h t i * w i ⟨f.val, by omega⟩
def up (t : Fin 2048) (f : Fin 2816) : EReal := ∑ i, h t i * w i ⟨2816 + f.val, by omega⟩

/-- The gated activation. -/
def act (t : Fin 2048) (f : Fin 2816) : EReal := gate h w t f * Ideal.div 1 (1 + Ideal.exp (-gate h w t f)) * up h w t f

/-- Its first half of columns. -/
def firstAct (t : Fin 2048) (q : Fin 1408) : EReal := act h w t ⟨q.val, by omega⟩

/-- The first halves of the two parts side by side, and the second halves. -/
def first (t : Fin 2048) (p : Fin 2816) : EReal := if h' : p.val < 1408 then gate h w t ⟨p.val, p.isLt⟩ else up h w t ⟨p.val - 1408, by omega⟩
def second (t : Fin 2048) (p : Fin 2816) : EReal := if h' : p.val < 1408 then gate h w t ⟨1408 + p.val, by omega⟩ else up h w t p

theorem first_gate (t : Fin 2048) (p : Fin 2816) (q : Fin 1408) (e : p.val = q.val) : first h w t p = gate h w t ⟨q.val, by omega⟩ := by
  rw [first, dif_pos (by omega)]; exact congrArg _ (Fin.ext e)

theorem first_up (t : Fin 2048) (p : Fin 2816) (q : Fin 1408) (e : p.val = 1408 + q.val) : first h w t p = up h w t ⟨q.val, by omega⟩ := by
  rw [first, dif_neg (by omega)]; exact congrArg _ (Fin.ext (show p.val - 1408 = q.val by omega))

theorem second_gate (t : Fin 2048) (p : Fin 2816) (q : Fin 1408) (e : p.val = q.val) : second h w t p = gate h w t ⟨1408 + q.val, by omega⟩ := by
  rw [second, dif_pos (by omega)]; exact congrArg _ (Fin.ext (show 1408 + p.val = 1408 + q.val by omega))

theorem second_up (t : Fin 2048) (p : Fin 2816) (q : Fin 1408) (e : p.val = 1408 + q.val) : second h w t p = up h w t ⟨1408 + q.val, by omega⟩ := by
  rw [second, dif_neg (by omega)]; exact congrArg _ (Fin.ext e)

/-- The second call's results: what the first call left, and beside it the second halves. -/
def kept (b : Fin 2048 → Fin 5632 → EReal) (t : Fin 2048) (p : Fin 5632) : EReal :=
  if e : p.val < 2816 then b t p else second h w t ⟨p.val - 2816, by omega⟩
def activation (b : Fin 2048 → Fin 2816 → EReal) (t : Fin 2048) (f : Fin 2816) : EReal :=
  if f.val < 1408 then b t f else act h w t f

end Cert.SwiGlu

end
-- ==== Proof.FfnInFirst.Kernel.lean ====
module

/-
What the first call of the feed-forward's first product leaves in its results: the normed rows, and the first halves of the
product and of the activation.
-/
public import proofs.«01_k».proof.Proof.Gen.FfnInFirstKernelIdeal.Frame
public import proofs.«01_k».proof.Proof.Norm
public import proofs.«01_k».proof.Proof.SwiGlu
public import Idealize.ShloMosaic.Lib.Pointwise
public import Idealize.ShloMosaic.Lib.Pipeline.ValueKit
public import Idealize.ShloMosaic.Lib.Pipeline.ValueKit.Partial

@[expose] public section

set_option maxRecDepth 16384

noncomputable section

namespace Cert.FfnInFirstKernelIdeal.Entries
open Cert.FfnInFirstKernelIdeal Cert.FfnInFirstKernelIdeal.Gen Cert.SwiGlu Cert.Norm
open Idealize.ShloMosaic Idealize.ShloMosaic.TcCoe Idealize.ShloMosaic.Tactic
open Idealize.ShloMosaic.StableHlo Idealize.SL.Sem

variable (m : (ℓ : Loc nD τ sig) → Buf (Elt Ideal) ℓ)

/-- The residual stream, the gain and the weight, as launched, and the normed rows. -/
abbrev X (c : Dev nD) (t : Fin 2048) (i : Fin 1024) : EReal := m ((c : Thread nD τ).loc main_arg0) (ix2 t i)
abbrev G (c : Dev nD) (i : Fin 1024) : EReal := m ((c : Thread nD τ).loc main_arg1) (ix2 0 i)
abbrev W (c : Dev nD) (i : Fin 1024) (p : Fin 5632) : EReal := m ((c : Thread nD τ).loc main_arg2) (ix2 i p)
abbrev H (c : Dev nD) (t : Fin 2048) (i : Fin 1024) : EReal := normed (X m c t) (G m c) i

/-- The weight as the kernel takes it, shard by shard. -/
theorem V_w (c : Dev nD) (s : Fin 4) (i : Fin 1024) (x : Fin 1408) :
    V m c main_v2 (ix3 s i x) = W m c i ⟨1408 * s.val + x.val, by omega⟩ := by
  unfold V V0; simp only [List.flatten_cons, List.flatten_nil, List.append_nil, List.cons_append, List.nil_append]; after_results_simp; pointwise
  blk_ext

/-- Where the windows' blocks lie, decided over the grid. -/
theorem idx : ∀ t : Fin cfg0.N, win0_0.index t = ![t.val, 0] ∧ win0_1.index t = ![0, 0] ∧ win0_2.index t = ![0, 0, 0]
    ∧ win0_3.index t = ![2, 0, 0] ∧ win0_5.index t = ![t.val, 0] ∧ win0_6.index t = ![t.val, 0] ∧ win0_7.index t = ![t.val, 0] := by
  decide +kernel

/-- Row `r` of block `t`. -/
abbrev row (t : Fin cfg0.N) (r : Fin 512) : Fin 2048 :=
  ⟨512 * t.val + r.val, by have : t.val < 4 := lt_of_lt_of_eq t.isLt (show cfg0.N = 4 from N_0); omega⟩

theorem blk_x (c : Dev nD) (t : Fin cfg0.N) (r : Fin 512) (i : Fin 1024) : iblk m c 0 t (ix2 r i) = X m c (row t r) i := by
  refine Eq.trans (?_ : _ = V m c main_arg0 (ix2 (row t r) i)) (by rw [V_main_arg0])
  blk_ext [iblk, idx t]

theorem blk_g (c : Dev nD) (t : Fin cfg0.N) (i : Fin 1024) : iblk m c 1 t (ix2 0 i) = G m c i := by
  refine Eq.trans (?_ : _ = V m c main_arg1 (ix2 0 i)) (by rw [V_main_arg1])
  blk_ext [iblk, idx t]

theorem blk_gate (c : Dev nD) (t : Fin cfg0.N) (i : Fin 1024) (x : Fin 1408) :
    iblk m c 2 t (ix3 0 i x) = W m c i ⟨x.val, by omega⟩ := by
  refine Eq.trans (?_ : _ = V m c main_v2 (ix3 0 i x)) ((V_w m c 0 i x).trans (congrArg _ (Fin.ext (by simp))))
  blk_ext [iblk, idx t]

theorem blk_up (c : Dev nD) (t : Fin cfg0.N) (i : Fin 1024) (x : Fin 1408) :
    iblk m c 3 t (ix3 0 i x) = W m c i ⟨2816 + x.val, by omega⟩ := by
  refine Eq.trans (?_ : _ = V m c main_v2 (ix3 2 i x)) ((V_w m c 2 i x).trans (congrArg _ (Fin.ext (by simp))))
  blk_ext [iblk, idx t]

/-- The body's outputs at a grid point: the normed rows, -/
theorem out5 (c : Dev nD) (t : Fin cfg0.N) (r : Fin 512) (i : Fin 1024) :
    out0_5 (iblk m c 0 t) (iblk m c 1 t) (iblk m c 2 t) (iblk m c 3 t) (iblk m c 4 t) (ix2 r i) = H m c (row t r) i := by
  unfold out0_5; frame_out
  unfold_payloads; pointwise
  simp only [blk_x, blk_g]
  rfl

/-- the first halves of the product, -/
theorem out6 (c : Dev nD) (t : Fin cfg0.N) (r : Fin 512) (p : Fin 2816) :
    out0_6 (iblk m c 0 t) (iblk m c 1 t) (iblk m c 2 t) (iblk m c 3 t) (iblk m c 4 t) (ix2 r p) = first (H m c) (W m c) (row t r) p := by
  unfold out0_6; frame_out
  canon_tiles z h <;> obtain ⟨a, q, rfl⟩ : ∃ (a : Fin 512) (q : Fin 1408), z = ix2 a q := ⟨z 0, z 1, eq_ix2 z⟩ <;>
    obtain rfl : r = a := Fin.ext h0
  · rw [first_up _ _ _ p q h1]
    unfold_payloads; pointwise
    simp only [blk_x, blk_g, blk_up]
    rfl
  · rw [first_gate _ _ _ p q h1]
    unfold_payloads; pointwise
    simp only [blk_x, blk_g, blk_gate]
    rfl

/-- and of the activation. -/
theorem out7 (c : Dev nD) (t : Fin cfg0.N) (r : Fin 512) (q : Fin 1408) :
    out0_7 (iblk m c 0 t) (iblk m c 1 t) (iblk m c 2 t) (iblk m c 3 t) (iblk m c 4 t) (ix2 r q)
      = firstAct (H m c) (W m c) (row t r) q := by
  unfold out0_7; frame_out
  unfold_payloads; pointwise
  simp only [blk_x, blk_g, blk_gate, blk_up, zero_sub]
  rfl

/-- The results as whole arrays: the normed rows, -/
theorem final5 (c : Dev nD) : (dats m 0 c).arrAt 5 cfg0.N = fun j => H m c (j 0) (j 1) := by
  refine (dats m 0 c).arrAt_eq_of_covers 5 _ (by decide +kernel) fun t hf y => ?_
  blk_simp
  rw [after0_5]
  obtain ⟨r, p, rfl⟩ : ∃ (r : Fin 512) (p : Fin 1024), y = ix2 r p := ⟨y 0, y 1, eq_ix2 y⟩
  have e : (((cfg0.win 5).blk t).view.emb (ix2 r p)) = ix2 (row t r) p := by blk_ext [idx t]
  rw [e]
  exact out5 m c t r p

/-- (the first halves, read at a column of the whole array) -/
def wide (c : Dev nD) (t : Fin 2048) (p : Fin 5632) : EReal := if h : p.val < 2816 then first (H m c) (W m c) t ⟨p.val, h⟩ else 0

/-- the product where the call writes it, its first half of columns, -/
theorem final6 (c : Dev nD) (t : Fin 2048) (p : Fin 2816) :
    (dats m 0 c).arrAt 6 cfg0.N (ix2 t ⟨p.val, by omega⟩) = first (H m c) (W m c) t p := by
  have e := (dats m 0 c).arrAt_eq_of_coversWhere 6
    (fun j => wide m c (j 0) (j 1)) (P := fun j => (j 1).val < 2816)
    (fun β => β (1 : Fin 2) < 1) (by decide +kernel) (fun t hf y => ?_) (fun j => by blk_simp [Pipeline.Window.cell_apply]; omega)
  · rw [e]
    show (if p.val < 2816 then wide m c t ⟨p.val, _⟩ else _) = _
    rw [if_pos p.isLt, wide, dif_pos p.isLt]
  · blk_simp
    rw [after0_6]
    obtain ⟨r, p, rfl⟩ : ∃ (r : Fin 512) (p : Fin 2816), y = ix2 r p := ⟨y 0, y 1, eq_ix2 y⟩
    have e : (((cfg0.win 6).blk t).view.emb (ix2 r p)) = ix2 (row t r) ⟨p.val, by omega⟩ := by blk_ext [idx t]
    rw [e]
    refine (out6 m c t r p).trans ?_
    show _ = wide m c (row t r) ⟨p.val, by omega⟩
    rw [wide, dif_pos p.isLt]

/-- and the activation likewise. -/
theorem final7 (c : Dev nD) (t : Fin 2048) (q : Fin 1408) :
    (dats m 0 c).arrAt 7 cfg0.N (ix2 t ⟨q.val, by omega⟩) = firstAct (H m c) (W m c) t q := by
  have e := (dats m 0 c).arrAt_eq_of_coversWhere 7 (fun j => act (H m c) (W m c) (j 0) (j 1)) (P := fun j => (j 1).val < 1408)
    (fun β => β (1 : Fin 2) < 1) (by decide +kernel) (fun t hf y => ?_) (fun j => by blk_simp [Pipeline.Window.cell_apply]; omega)
  · rw [e]
    show (if q.val < 1408 then act (H m c) (W m c) t ⟨q.val, _⟩ else _) = _
    rw [if_pos q.isLt]
    rfl
  · blk_simp
    rw [after0_7]
    obtain ⟨r, p, rfl⟩ : ∃ (r : Fin 512) (p : Fin 1408), y = ix2 r p := ⟨y 0, y 1, eq_ix2 y⟩
    have e : (((cfg0.win 7).blk t).view.emb (ix2 r p)) = ix2 (row t r) ⟨p.val, by omega⟩ := by blk_ext [idx t]
    rw [e]
    exact out7 m c t r p

variable (ρ : Dev nD → PrngReg)

/-- The host's slices after the call: what the call wrote of the product, -/
theorem after_v4 (c : Dev nD) : Pipeline.afterTail₀ cfgs (dats m) 0 (V0 m) [hostOps1] c main_v4 = fun j => first (H m c) (W m c) (j 0) (j 1) := by
  have e := Pipeline.Dat.withArrays_arrAt (dats m 0 c) launch₀0.sharedIn (V0 m c) (A_eq m c) 6
  unfold Pipeline.afterTail₀
  simp only [List.flatten_cons, List.flatten_nil, List.append_nil, List.cons_append, List.nil_append]
  after_results_simp
  funext j
  obtain ⟨t, p, rfl⟩ : ∃ (t : Fin 2048) (p : Fin 2816), j = ix2 t p := ⟨j 0, j 1, eq_ix2 j⟩
  pointwise
  exact (congrFun e _).trans (final6 m c t p)

/-- and of the activation. -/
theorem after_v5 (c : Dev nD) : Pipeline.afterTail₀ cfgs (dats m) 0 (V0 m) [hostOps1] c main_v5
    = fun j => firstAct (H m c) (W m c) (j 0) (j 1) := by
  have e := Pipeline.Dat.withArrays_arrAt (dats m 0 c) launch₀0.sharedIn (V0 m c) (A_eq m c) 7
  unfold Pipeline.afterTail₀
  simp only [List.flatten_cons, List.flatten_nil, List.append_nil, List.cons_append, List.nil_append]
  after_results_simp
  funext j
  obtain ⟨t, p, rfl⟩ : ∃ (t : Fin 2048) (p : Fin 1408), j = ix2 t p := ⟨j 0, j 1, eq_ix2 j⟩
  pointwise
  exact (congrFun e _).trans (final7 m c t p)

/-- Every run ends with the three results so, and the arguments as they were. -/
theorem run_entries : θ_run defs (onTc (τ := τ) (main (F := Ideal))) ⟨m, fun _ => 0, ρ⟩ (fun r => ∀ c : Dev nD,
    r.2.mem ((c.tc : Thread nD τ).loc main_v3_0) = (fun j => H m c (j 0) (j 1))
    ∧ r.2.mem ((c.tc : Thread nD τ).loc main_v4) = (fun j => first (H m c) (W m c) (j 0) (j 1))
    ∧ r.2.mem ((c.tc : Thread nD τ).loc main_v5) = (fun j => firstAct (H m c) (W m c) (j 0) (j 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun _ h c => ⟨((h.2 c).1 5).trans (final5 m c),
      ((h.2 c).2 main_v4 (Pipeline.mem_restRefs_of main_v4 (by decide) (by decide))).trans (after_v4 m c),
      ((h.2 c).2 main_v5 (Pipeline.mem_restRefs_of main_v5 (by decide) (by decide))).trans (after_v5 m c), h.1 c⟩)
    (θ_run_and (unchanged m ρ) (run_main m ρ))

end Cert.FfnInFirstKernelIdeal.Entries

end
-- ==== Proof.FfnInFirst.Claim.lean ====
module

/-
The first call of the feed-forward's first product: its three results are the reference's over the extended reals.
-/
public import proofs.«01_k».proof.Defs
public import proofs.«01_k».proof.Proof.FfnInFirst.Kernel
public import proofs.«01_k».proof.Proof.Gen.FfnInFirstReferenceIdeal.Run

public section

set_option maxRecDepth 16384

noncomputable section

namespace Cert.FfnInFirst
open Idealize.ShloMosaic Idealize.ShloMosaic.TcCoe Idealize.SL.Sem Idealize.ShloMosaic.Tactic Idealize.ShloMosaic.StableHlo

section Reference
open Cert.FfnInFirstReferenceIdeal
variable (m : (ℓ : Loc nD τ sig) → Buf (Elt Ideal) ℓ) (ρ : Dev nD → PrngReg)

/-- The arguments' entries, as launched. -/
abbrev X (c : Dev nD) (t : Fin 2048) (i : Fin 1024) : EReal := m ((c : Thread nD τ).loc main_arg0) (ix2 t i)
abbrev G (c : Dev nD) (i : Fin 1024) : EReal := m ((c : Thread nD τ).loc main_arg1) (ix2 0 i)
abbrev W (c : Dev nD) (i : Fin 1024) (p : Fin 5632) : EReal := m ((c : Thread nD τ).loc main_arg2) (ix2 i p)
/-- The normed rows. -/
abbrev H (c : Dev nD) (t : Fin 2048) (i : Fin 1024) : EReal := Norm.normed (X m c t) (G m c) i

/-- The reference's results, entry by entry. -/
theorem run_entries : θ_run defs (onTc (τ := τ) (main (F := Ideal))) ⟨m, fun _ => 0, ρ⟩ (fun r => ∀ c : Dev nD,
    r.2.mem ((c : Thread nD τ).loc main_v15) = (fun j => H m c (j 0) (j 1))
    ∧ r.2.mem ((c : Thread nD τ).loc main_v19) = (fun j => SwiGlu.first (H m c) (W m c) (j 0) (j 1))
    ∧ r.2.mem ((c : Thread nD τ).loc main_v25) = (fun j => SwiGlu.firstAct (H m c) (W m c) (j 0) (j 1))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) := by
  refine (θ_run defs _ _).mono (fun r h c => ⟨(h c).1.trans ?_, (h c).2.1.trans ?_, (h c).2.2.1.trans ?_, (h c).2.2.2⟩) (Value.run (F := Ideal) m ρ) <;> clear h
  · funext j
    obtain ⟨t, i, rfl⟩ : ∃ (t : Fin 2048) (i : Fin 1024), j = ix2 t i := ⟨j 0, j 1, eq_ix2 j⟩
    pointwise

    rfl
  · funext j
    obtain ⟨t, p, rfl⟩ : ∃ (t : Fin 2048) (p : Fin 2816), j = ix2 t p := ⟨j 0, j 1, eq_ix2 j⟩
    pointwise
    show _ = SwiGlu.first (H m c) (W m c) t p
    unfold SwiGlu.first
    split
    · rfl
    · rfl
  · funext j
    obtain ⟨t, q, rfl⟩ : ∃ (t : Fin 2048) (q : Fin 1408), j = ix2 t q := ⟨j 0, j 1, eq_ix2 j⟩
    pointwise
    rfl

end Reference

theorem algebraic : Cert.algebraic_FfnInFirstKernelIdeal_FfnInFirstReferenceIdeal := by
  intro m g m' g' _ hargs
  refine ⟨fun c => (fun j => FfnInFirstKernelIdeal.Entries.H m c (j 0) (j 1)), fun c => (fun j => SwiGlu.first (FfnInFirstKernelIdeal.Entries.H m c) (FfnInFirstKernelIdeal.Entries.W m c) (j 0) (j 1)), fun c => (fun j => SwiGlu.firstAct (FfnInFirstKernelIdeal.Entries.H m c) (FfnInFirstKernelIdeal.Entries.W m c) (j 0) (j 1)), ?_, ?_⟩
  · exact FfnInFirstKernelIdeal.Entries.run_entries m g
  · refine (θ_run FfnInFirstReferenceIdeal.defs _ _).mono (fun r h c => ?_) (run_entries m' g')
    obtain ⟨r5, r6, r7, ra⟩ := h c
    obtain ⟨a0, a1, a2, -⟩ := hargs c
    have eX : X m' c = FfnInFirstKernelIdeal.Entries.X m c := funext₂ fun t d => congrFun a0 _
    have eG : G m' c = FfnInFirstKernelIdeal.Entries.G m c := funext fun t => congrFun a1 _
    have eW : W m' c = FfnInFirstKernelIdeal.Entries.W m c := funext₂ fun t d => congrFun a2 _
    have eH : H m' c = FfnInFirstKernelIdeal.Entries.H m c := funext₂ fun t i => by unfold H FfnInFirstKernelIdeal.Entries.H; rw [eX, eG]
    rw [eH] at r5
    rw [eH, eW] at r6
    rw [eH, eW] at r7
    exact ⟨r5, r6, r7, ra⟩

/-- The reference's frame: its run changes no argument, and it has no semaphore. -/
theorem frame_reference : Cert.quiescent_FfnInFirstReferenceIdeal := fun m ρ _ =>
  (θ_run Cert.FfnInFirstReferenceIdeal.defs _ _).mono (fun r h => ⟨fun c => (h c).2.2.2,
      Idealize.ShloMosaic.sem_eq_zero_of_no_sems (by decide) r.2⟩)
    (Cert.FfnInFirstReferenceIdeal.Value.run (F := Ideal) m ρ)

end Cert.FfnInFirst

end
-- ==== Proof.FfnInSecond.Kernel.lean ====
module

/-
What the second call of the feed-forward's first product leaves in its results: the first call's halves as they were, and
beside them the second halves of the product and of the activation.
-/
public import proofs.«01_k».proof.Proof.Gen.FfnInSecondKernelIdeal.Value
public import proofs.«01_k».proof.Proof.SwiGlu
public import Idealize.ShloMosaic.Lib.Pointwise
public import Idealize.ShloMosaic.Lib.Pipeline.ValueKit
public import Idealize.ShloMosaic.Lib.Pipeline.ValueKit.Partial

@[expose] public section

set_option maxRecDepth 16384

noncomputable section

namespace Cert.FfnInSecondKernelIdeal.Entries
open Cert.FfnInSecondKernelIdeal Cert.FfnInSecondKernelIdeal.Gen Cert.SwiGlu
open Idealize.ShloMosaic Idealize.ShloMosaic.TcCoe Idealize.ShloMosaic.Tactic
open Idealize.ShloMosaic.StableHlo

variable (m : (ℓ : Loc nD τ sig) → Buf (Elt Ideal) ℓ)

/-- The normed rows, the weight, and the two arrays the first call began, as launched. -/
abbrev H (c : Dev nD) (t : Fin 2048) (i : Fin 1024) : EReal := m ((c : Thread nD τ).loc main_arg0) (ix2 t i)
abbrev W (c : Dev nD) (i : Fin 1024) (p : Fin 5632) : EReal := m ((c : Thread nD τ).loc main_arg1) (ix2 i p)
abbrev GU (c : Dev nD) (t : Fin 2048) (p : Fin 5632) : EReal := m ((c : Thread nD τ).loc main_arg2) (ix2 t p)
abbrev AC (c : Dev nD) (t : Fin 2048) (f : Fin 2816) : EReal := m ((c : Thread nD τ).loc main_arg3) (ix2 t f)

/-- The weight as the kernel takes it, shard by shard, -/
theorem V_w (c : Dev nD) (s : Fin 4) (i : Fin 1024) (x : Fin 1408) :
    V m c main_v2 (ix3 s i x) = W m c i ⟨1408 * s.val + x.val, by omega⟩ := by
  unfold V; after_results_simp; pointwise
  blk_ext

/-- and the two arrays begun. -/
theorem V_gu (c : Dev nD) (t : Fin 2048) (p : Fin 5632) : V m c main_v3_0 (ix2 t p) = GU m c t p := by
  unfold V; after_results_simp; pointwise
  rfl

theorem V_ac (c : Dev nD) (t : Fin 2048) (f : Fin 2816) : V m c main_v3_1 (ix2 t f) = AC m c t f := by
  unfold V; after_results_simp; pointwise
  rfl

/-- Where the windows' blocks lie, decided over the grid. -/
theorem idx : ∀ t : Fin cfg0.N, win0_0.index t = ![t.val, 0] ∧ win0_1.index t = ![1, 0, 0] ∧ win0_2.index t = ![3, 0, 0]
    ∧ win0_4.index t = ![t.val, 1] ∧ win0_5.index t = ![t.val, 1] := by
  decide +kernel

/-- Row `r` of block `t`. -/
abbrev row (t : Fin cfg0.N) (r : Fin 512) : Fin 2048 :=
  ⟨512 * t.val + r.val, by have : t.val < 4 := lt_of_lt_of_eq t.isLt (show cfg0.N = 4 from N_0); omega⟩

theorem blk_h (c : Dev nD) (t : Fin cfg0.N) (r : Fin 512) (i : Fin 1024) : iblk m c 0 t (ix2 r i) = H m c (row t r) i := by
  refine Eq.trans (?_ : _ = V m c main_arg0 (ix2 (row t r) i)) (by rw [V_main_arg0])
  blk_ext [iblk, idx t]

theorem blk_gate (c : Dev nD) (t : Fin cfg0.N) (i : Fin 1024) (x : Fin 1408) :
    iblk m c 1 t (ix3 0 i x) = W m c i ⟨1408 + x.val, by omega⟩ := by
  refine Eq.trans (?_ : _ = V m c main_v2 (ix3 1 i x)) ((V_w m c 1 i x).trans (congrArg _ (Fin.ext (by simp))))
  blk_ext [iblk, idx t]

theorem blk_up (c : Dev nD) (t : Fin cfg0.N) (i : Fin 1024) (x : Fin 1408) :
    iblk m c 2 t (ix3 0 i x) = W m c i ⟨4224 + x.val, by omega⟩ := by
  refine Eq.trans (?_ : _ = V m c main_v2 (ix3 3 i x)) ((V_w m c 3 i x).trans (congrArg _ (Fin.ext (by simp))))
  blk_ext [iblk, idx t]

/-- The second halves, block by block: of the product, -/
theorem out4 (c : Dev nD) (t : Fin cfg0.N) (r : Fin 512) (p : Fin 2816) :
    (outsAt0 m c t).1 (ix2 r p) = second (H m c) (W m c) (row t r) p := by
  unfold outsAt0; frame_out
  canon_tiles z h <;> obtain ⟨a, q, rfl⟩ : ∃ (a : Fin 512) (q : Fin 1408), z = ix2 a q := ⟨z 0, z 1, eq_ix2 z⟩ <;>
    obtain rfl : r = a := Fin.ext h0
  · rw [second_up _ _ _ p q h1]
    unfold_payloads; pointwise
    simp only [blk_h, blk_up]
    refine Finset.sum_congr rfl fun i _ => congrArg (_ * W m c i ·) (Fin.ext ?_)
    show 4224 + q.val = 2816 + (1408 + q.val)
    omega
  · rw [second_gate _ _ _ p q h1]
    unfold_payloads; pointwise
    simp only [blk_h, blk_gate]
    rfl

/-- and of the activation. -/
theorem out5 (c : Dev nD) (t : Fin cfg0.N) (r : Fin 512) (q : Fin 1408) :
    (outsAt0 m c t).2 (ix2 r q) = act (H m c) (W m c) (row t r) ⟨1408 + q.val, by omega⟩ := by
  have e : up (H m c) (W m c) (row t r) ⟨1408 + q.val, by omega⟩ = ∑ i, H m c (row t r) i * W m c i ⟨4224 + q.val, by omega⟩ :=
    Finset.sum_congr rfl fun i _ => congrArg (_ * W m c i ·) (Fin.ext (show 2816 + (1408 + q.val) = 4224 + q.val by omega))
  unfold act outsAt0; frame_out
  rw [e]
  unfold_payloads; pointwise
  simp only [blk_h, blk_gate, blk_up, zero_sub]
  rfl

/-- The results as whole arrays: the product, -/
theorem final4 (c : Dev nD) : (dats m 0 c).arrAt 4 cfg0.N = fun j => kept (H m c) (W m c) (GU m c) (j 0) (j 1) := by
  refine ((dats m 0 c).arrAt_eq_of_coversWhere 4 (fun j => kept (H m c) (W m c) (GU m c) (j 0) (j 1)) (P := fun j => 2816 ≤ (j 1).val)
    (fun β => 1 ≤ β (1 : Fin 2)) (by decide +kernel) (fun t hf y => ?_) (fun j => by blk_simp [Pipeline.Window.cell_apply]; omega)).trans ?_
  · blk_simp
    rw [after0_4]
    obtain ⟨r, p, rfl⟩ : ∃ (r : Fin 512) (p : Fin 2816), y = ix2 r p := ⟨y 0, y 1, eq_ix2 y⟩
    have e : (((cfg0.win 4).blk t).view.emb (ix2 r p)) = ix2 (row t r) ⟨2816 + p.val, by omega⟩ := by blk_ext [idx t]
    rw [e]
    refine (out4 m c t r p).trans ?_
    show _ = kept (H m c) (W m c) (GU m c) (row t r) ⟨2816 + p.val, by omega⟩
    rw [kept, dif_neg (by simp)]
    exact congrArg _ (Fin.ext (show p.val = 2816 + p.val - 2816 by omega))
  · funext j
    obtain ⟨t, p, rfl⟩ : ∃ (t : Fin 2048) (p : Fin 5632), j = ix2 t p := ⟨j 0, j 1, eq_ix2 j⟩
    split
    · rfl
    · rename_i h
      have h' : p.val < 2816 := not_le.mp h
      show _ = kept (H m c) (W m c) (GU m c) t p
      rw [kept, dif_pos h']
      exact V_gu m c t p

/-- and the activation. -/
theorem final5 (c : Dev nD) : (dats m 0 c).arrAt 5 cfg0.N = fun j => activation (H m c) (W m c) (AC m c) (j 0) (j 1) := by
  refine ((dats m 0 c).arrAt_eq_of_coversWhere 5 (fun j => activation (H m c) (W m c) (AC m c) (j 0) (j 1)) (P := fun j => 1408 ≤ (j 1).val)
    (fun β => 1 ≤ β (1 : Fin 2)) (by decide +kernel) (fun t hf y => ?_) (fun j => by blk_simp [Pipeline.Window.cell_apply]; omega)).trans ?_
  · blk_simp
    rw [after0_5]
    obtain ⟨r, p, rfl⟩ : ∃ (r : Fin 512) (p : Fin 1408), y = ix2 r p := ⟨y 0, y 1, eq_ix2 y⟩
    have e : (((cfg0.win 5).blk t).view.emb (ix2 r p)) = ix2 (row t r) ⟨1408 + p.val, by omega⟩ := by blk_ext [idx t]
    rw [e]
    refine (out5 m c t r p).trans ?_
    show _ = activation (H m c) (W m c) (AC m c) (row t r) ⟨1408 + p.val, by omega⟩
    rw [activation, if_neg (by simp)]
  · funext j
    obtain ⟨t, p, rfl⟩ : ∃ (t : Fin 2048) (p : Fin 2816), j = ix2 t p := ⟨j 0, j 1, eq_ix2 j⟩
    split
    · rfl
    · rename_i h
      have h' : p.val < 1408 := not_le.mp h
      show _ = activation (H m c) (W m c) (AC m c) t p
      rw [activation, if_pos h']
      exact V_ac m c t p

end Cert.FfnInSecondKernelIdeal.Entries

end
-- ==== Proof.FfnInSecond.Claim.lean ====
module

/-
The second call of the feed-forward's first product: its two results are the reference's over the extended reals.
-/
public import proofs.«01_k».proof.Defs
public import proofs.«01_k».proof.Proof.FfnInSecond.Kernel
public import proofs.«01_k».proof.Proof.Gen.FfnInSecondReferenceIdeal.Run

public section

set_option maxRecDepth 16384

noncomputable section

namespace Cert.FfnInSecond
open Idealize.ShloMosaic Idealize.ShloMosaic.TcCoe Idealize.SL.Sem Idealize.ShloMosaic.Tactic Idealize.ShloMosaic.StableHlo

section Reference
open Cert.FfnInSecondReferenceIdeal
variable (m : (ℓ : Loc nD τ sig) → Buf (Elt Ideal) ℓ) (ρ : Dev nD → PrngReg)

/-- The arguments' entries, as launched. -/
abbrev H (c : Dev nD) (t : Fin 2048) (i : Fin 1024) : EReal := m ((c : Thread nD τ).loc main_arg0) (ix2 t i)
abbrev W (c : Dev nD) (i : Fin 1024) (p : Fin 5632) : EReal := m ((c : Thread nD τ).loc main_arg1) (ix2 i p)
abbrev GU (c : Dev nD) (t : Fin 2048) (p : Fin 5632) : EReal := m ((c : Thread nD τ).loc main_arg2) (ix2 t p)
abbrev AC (c : Dev nD) (t : Fin 2048) (f : Fin 2816) : EReal := m ((c : Thread nD τ).loc main_arg3) (ix2 t f)

/-- The reference's results, entry by entry. -/
theorem run_entries : θ_run defs (onTc (τ := τ) (main (F := Ideal))) ⟨m, fun _ => 0, ρ⟩ (fun r => ∀ c : Dev nD,
    r.2.mem ((c : Thread nD τ).loc main_v9) = (fun j => SwiGlu.kept (H m c) (W m c) (GU m c) (j 0) (j 1))
    ∧ r.2.mem ((c : Thread nD τ).loc main_v17) = (fun j => SwiGlu.activation (H m c) (W m c) (AC m c) (j 0) (j 1))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)) := by
  refine (θ_run defs _ _).mono (fun r h c => ⟨(h c).1.trans ?_, (h c).2.1.trans ?_, (h c).2.2⟩) (Value.run (F := Ideal) m ρ) <;> clear h
  · funext j
    obtain ⟨t, p, rfl⟩ : ∃ (t : Fin 2048) (p : Fin 5632), j = ix2 t p := ⟨j 0, j 1, eq_ix2 j⟩
    pointwise
    show _ = SwiGlu.kept (H m c) (W m c) (GU m c) t p
    unfold SwiGlu.kept SwiGlu.second
    split
    · rfl
    · split
      · rfl
      · rename_i h h'
        have e : 1408 + (p.val - 2816 - 1408) = p.val - 2816 := by omega
        simp only [e]
        rfl
  · funext j
    obtain ⟨t, f, rfl⟩ : ∃ (t : Fin 2048) (f : Fin 2816), j = ix2 t f := ⟨j 0, j 1, eq_ix2 j⟩
    pointwise
    show _ = SwiGlu.activation (H m c) (W m c) (AC m c) t f
    unfold SwiGlu.activation
    split
    · rfl
    · rename_i h
      have e : 1408 + (f.val - 1408) = f.val := by omega
      simp only [e]
      rfl

end Reference

theorem algebraic : Cert.algebraic_FfnInSecondKernelIdeal_FfnInSecondReferenceIdeal := by
  intro m g m' g' _ hargs
  refine ⟨fun c => (FfnInSecondKernelIdeal.Gen.dats m 0 c).arrAt 4 FfnInSecondKernelIdeal.cfg0.N, fun c => (FfnInSecondKernelIdeal.Gen.dats m 0 c).arrAt 5 FfnInSecondKernelIdeal.cfg0.N, ?_, ?_⟩
  · exact FfnInSecondKernelIdeal.Value.run_blocks m g
  · refine (θ_run FfnInSecondReferenceIdeal.defs _ _).mono (fun r h c => ?_) (run_entries m' g')
    obtain ⟨r4, r5, ra⟩ := h c
    obtain ⟨a0, a1, a2, a3, -⟩ := hargs c
    have eH : H m' c = FfnInSecondKernelIdeal.Entries.H m c := funext₂ fun t d => congrFun a0 _
    have eW : W m' c = FfnInSecondKernelIdeal.Entries.W m c := funext₂ fun t d => congrFun a1 _
    have eGU : GU m' c = FfnInSecondKernelIdeal.Entries.GU m c := funext₂ fun t d => congrFun a2 _
    have eAC : AC m' c = FfnInSecondKernelIdeal.Entries.AC m c := funext₂ fun t d => congrFun a3 _
    rw [eH, eW, eGU] at r4
    rw [eH, eW, eAC] at r5
    exact ⟨r4.trans (FfnInSecondKernelIdeal.Entries.final4 m c).symm, r5.trans (FfnInSecondKernelIdeal.Entries.final5 m c).symm, ra⟩

/-- The reference's frame: its run changes no argument, and it has no semaphore. -/
theorem frame_reference : Cert.quiescent_FfnInSecondReferenceIdeal := fun m ρ _ =>
  (θ_run Cert.FfnInSecondReferenceIdeal.defs _ _).mono (fun r h => ⟨fun c => (h c).2.2,
      Idealize.ShloMosaic.sem_eq_zero_of_no_sems (by decide) r.2⟩)
    (Cert.FfnInSecondReferenceIdeal.Value.run (F := Ideal) m ρ)

end Cert.FfnInSecond

end
-- ==== Proof.MixOut.lean ====
module

/-
The gated merge of the two branches and its projection onto the residual stream, as plain functions of the arguments'
entries over the extended reals.
-/
public import proofs.«01_k».proof.Proof.Mix.Math
public import Mathlib.Tactic.SplitIfs

@[expose] public section

noncomputable section

namespace Cert.MixOut
open Cert.MixMath Idealize.ShloMosaic

/-- The branches added, each weighted by its gate, -/
def merged (g0 g1 ya yc : Fin 2048 → Fin 1024 → EReal) (t : Fin 2048) (d : Fin 1024) : EReal :=
  gate (g0 t d) * ya t d + gate (g1 t d) * yc t d

/-- and the residual stream with the merge's projection added. -/
def stream (x g0 g1 ya yc : Fin 2048 → Fin 1024 → EReal) (wo : Fin 1024 → Fin 1024 → EReal) (t : Fin 2048) (d : Fin 1024) : EReal :=
  x t d + ∑ k, merged g0 g1 ya yc t k * wo k d

/-- A result of the first call: the first 1024 rows. -/
def top (y : Fin 2048 → Fin 1024 → EReal) (t d : Fin 1024) : EReal := y ⟨t.val, by omega⟩ d

/-- A result of the second call: the first 1024 rows as the first call left them, the others computed. -/
def kept (b y : Fin 2048 → Fin 1024 → EReal) (t : Fin 2048) (d : Fin 1024) : EReal := if t.val < 1024 then b t d else y t d

/-- The kernel's sigmoid is the gate. -/
theorem gate_eq (g : EReal) : Ideal.div 1 (1 + Ideal.exp (0 - g)) = gate g := by
  rw [gate, sub_eq_add_neg, zero_add]

/-- Four shards of 256 columns side by side are the columns. -/
theorem pick (f : Fin 1024 → EReal) (d : Fin 1024) :
    (if h : d.val < 256 then f ⟨256 * (0 : Fin 4).val + d.val, by omega⟩ else if h : d.val - 256 < 256 then f ⟨256 * (1 : Fin 4).val + (d.val - 256), by omega⟩
      else if h : d.val - 256 - 256 < 256 then f ⟨256 * (2 : Fin 4).val + (d.val - 256 - 256), by omega⟩
      else f ⟨256 * (3 : Fin 4).val + (d.val - 256 - 256 - 256), by omega⟩) = f d := by
  have h0 : (0 : Fin 4).val = 0 := rfl
  have h1 : (1 : Fin 4).val = 1 := rfl
  have h2 : (2 : Fin 4).val = 2 := rfl
  have h3 : (3 : Fin 4).val = 3 := rfl
  split_ifs <;> exact congrArg f (Fin.ext (by simp only [h0, h1, h2, h3]; omega))

end Cert.MixOut

end
-- ==== Proof.MixOutFirst.Blocks.lean ====
module

/-
What the first call of the forward pass's gated merge is given: the host's lines before it, entry by entry over the extended
reals, and each window's block as rows of the staged array.
-/
public import proofs.«01_k».proof.Proof.Gen.MixOutFirstKernelIdeal.Frame
public import proofs.«01_k».proof.Proof.MixOut
public import Idealize.ShloMosaic.Lib.Pointwise
public import Idealize.ShloMosaic.Lib.Pipeline.ValueKit
public import Idealize.ShloMosaic.Lib.Pipeline.ValueKit.Partial

@[expose] public section

set_option maxRecDepth 16384

noncomputable section

namespace Cert.MixOutFirstKernelIdeal.Entries
open Cert.MixOutFirstKernelIdeal Cert.MixOutFirstKernelIdeal.Gen Cert.MixMath Cert.MixOut
open Idealize.ShloMosaic Idealize.ShloMosaic.TcCoe Idealize.ShloMosaic.Tactic
open Idealize.ShloMosaic.StableHlo Idealize.SL.Sem

variable (m : (ℓ : Loc nD τ sig) → Buf (Elt Ideal) ℓ)

/-- The arguments' entries: the residual stream, the branches' inputs, the two gates' logits, the branches' weights and bias,
    and the output projection. -/
abbrev X (c : Dev nD) (t : Fin 2048) (d : Fin 1024) : EReal := m ((c : Thread nD τ).loc main_arg0) (ix2 t d)
abbrev O (c : Dev nD) (t : Fin 2048) (k : Fin 512) : EReal := m ((c : Thread nD τ).loc main_arg1) (ix2 t k)
abbrev C (c : Dev nD) (t : Fin 2048) (k : Fin 512) : EReal := m ((c : Thread nD τ).loc main_arg2) (ix2 t k)
abbrev G0 (c : Dev nD) (t : Fin 2048) (d : Fin 1024) : EReal := m ((c : Thread nD τ).loc main_arg3) (ix2 t ⟨d.val, by omega⟩)
abbrev G1 (c : Dev nD) (t : Fin 2048) (d : Fin 1024) : EReal := m ((c : Thread nD τ).loc main_arg3) (ix2 t ⟨1024 + d.val, by omega⟩)
abbrev WA (c : Dev nD) (k : Fin 512) (d : Fin 1024) : EReal := m ((c : Thread nD τ).loc main_arg4) (ix2 k d)
abbrev WC (c : Dev nD) (k : Fin 512) (d : Fin 1024) : EReal := m ((c : Thread nD τ).loc main_arg5) (ix2 k d)
abbrev B (c : Dev nD) (d : Fin 1024) : EReal := m ((c : Thread nD τ).loc main_arg6) (ix2 0 d)
abbrev WO (c : Dev nD) (k d : Fin 1024) : EReal := m ((c : Thread nD τ).loc main_arg7) (ix2 k d)

/-- The two branches. -/
abbrev YA (c : Dev nD) (t : Fin 2048) (d : Fin 1024) : EReal := branch (O m c) (WA m c) t d
abbrev YC (c : Dev nD) (t : Fin 2048) (d : Fin 1024) : EReal := branch (C m c) (WC m c) t d + B m c d

/-- The merge and the residual stream after it. -/
abbrev MG (c : Dev nD) (t : Fin 2048) (d : Fin 1024) : EReal := merged (G0 m c) (G1 m c) (YA m c) (YC m c) t d
abbrev X1 (c : Dev nD) (t : Fin 2048) (d : Fin 1024) : EReal := stream (X m c) (G0 m c) (G1 m c) (YA m c) (YC m c) (WO m c) t d

/-- The weights as the kernel takes them. -/
theorem V_wa (c : Dev nD) (s : Fin 4) (k : Fin 512) (x : Fin 256) :
    V m c main_v2 (ix3 s k x) = WA m c k ⟨256 * s.val + x.val, by omega⟩ := by
  unfold V V0; simp only [List.flatten_cons, List.flatten_nil, List.append_nil, List.cons_append, List.nil_append]; after_results_simp; pointwise
  blk_ext

theorem V_wc (c : Dev nD) (s : Fin 4) (k : Fin 512) (x : Fin 256) :
    V m c main_v5 (ix3 s k x) = WC m c k ⟨256 * s.val + x.val, by omega⟩ := by
  unfold V V0; simp only [List.flatten_cons, List.flatten_nil, List.append_nil, List.cons_append, List.nil_append]; after_results_simp; pointwise
  blk_ext

theorem V_wo (c : Dev nD) (k d : Fin 1024) : V m c main_v6 (ix2 k d) = WO m c k d := by
  unfold V V0; simp only [List.flatten_cons, List.flatten_nil, List.append_nil, List.cons_append, List.nil_append]; after_results_simp; pointwise

/-- Where the windows' blocks lie, decided over the grid. -/
theorem idx : ∀ t : Fin cfg0.N, win0_0.index t = ![t.val, 0] ∧ win0_1.index t = ![t.val, 0] ∧ win0_2.index t = ![t.val, 0] ∧ win0_3.index t = ![t.val, 0] ∧ win0_9.index t = ![t.val, 0] ∧ win0_10.index t = ![t.val, 0] ∧ win0_11.index t = ![t.val, 0] ∧ win0_12.index t = ![t.val, 0]
    ∧ win0_4.index t = ![0, 0, 0] ∧ win0_5.index t = ![0, 0, 0] ∧ win0_6.index t = ![0, 0] ∧ win0_7.index t = ![0, 0] := by
  decide +kernel

/-- Row `r` of block `t`. -/
abbrev row (t : Fin cfg0.N) (r : Fin 512) : Fin 2048 :=
  ⟨512 * t.val + r.val, by have : t.val < 2 := lt_of_lt_of_eq t.isLt (show cfg0.N = 2 from N_0); omega⟩

theorem blk_x (c : Dev nD) (t : Fin cfg0.N) (r : Fin 512) (k : Fin 1024) : iblk m c 0 t (ix2 r k) = X m c (row t r) k := by
  refine Eq.trans (?_ : _ = V m c main_arg0 (ix2 (row t r) k)) (by rw [V_main_arg0])
  blk_ext [iblk, idx t]

theorem blk_o (c : Dev nD) (t : Fin cfg0.N) (r : Fin 512) (k : Fin 512) : iblk m c 1 t (ix2 r k) = O m c (row t r) k := by
  refine Eq.trans (?_ : _ = V m c main_arg1 (ix2 (row t r) k)) (by rw [V_main_arg1])
  blk_ext [iblk, idx t]

theorem blk_c (c : Dev nD) (t : Fin cfg0.N) (r : Fin 512) (k : Fin 512) : iblk m c 2 t (ix2 r k) = C m c (row t r) k := by
  refine Eq.trans (?_ : _ = V m c main_arg2 (ix2 (row t r) k)) (by rw [V_main_arg2])
  blk_ext [iblk, idx t]

theorem blk_g0 (c : Dev nD) (t : Fin cfg0.N) (r : Fin 512) (k : Fin 1024) (h) :
    iblk m c 3 t (ix2 r ⟨k.val, h⟩) = G0 m c (row t r) k := by
  refine Eq.trans (?_ : _ = V m c main_arg3 (ix2 (row t r) ⟨k.val, by omega⟩)) (by rw [V_main_arg3])
  blk_ext [iblk, idx t]

theorem blk_g1 (c : Dev nD) (t : Fin cfg0.N) (r : Fin 512) (k : Fin 1024) (h) :
    iblk m c 3 t (ix2 r ⟨1024 + k.val, h⟩) = G1 m c (row t r) k := by
  refine Eq.trans (?_ : _ = V m c main_arg3 (ix2 (row t r) ⟨1024 + k.val, by omega⟩)) (by rw [V_main_arg3])
  blk_ext [iblk, idx t]

theorem blk_wa (c : Dev nD) (t : Fin cfg0.N) (s : Fin 4) (k : Fin 512) (x : Fin 256) :
    iblk m c 4 t (ix3 s k x) = WA m c k ⟨256 * s.val + x.val, by omega⟩ := by
  refine Eq.trans (?_ : _ = V m c main_v2 (ix3 s k x)) (V_wa m c s k x)
  blk_ext [iblk, idx t]

theorem blk_wc (c : Dev nD) (t : Fin cfg0.N) (s : Fin 4) (k : Fin 512) (x : Fin 256) :
    iblk m c 5 t (ix3 s k x) = WC m c k ⟨256 * s.val + x.val, by omega⟩ := by
  refine Eq.trans (?_ : _ = V m c main_v5 (ix3 s k x)) (V_wc m c s k x)
  blk_ext [iblk, idx t]

theorem blk_b (c : Dev nD) (t : Fin cfg0.N) (d : Fin 1024) : iblk m c 6 t (ix2 0 d) = B m c d := by
  refine Eq.trans (?_ : _ = V m c main_arg6 (ix2 0 d)) (by rw [V_main_arg6])
  blk_ext [iblk, idx t]

theorem blk_wo (c : Dev nD) (t : Fin cfg0.N) (k d : Fin 1024) : iblk m c 7 t (ix2 k d) = WO m c k d := by
  refine Eq.trans (?_ : _ = V m c main_v6 (ix2 k d)) (V_wo m c k d)
  blk_ext [iblk, idx t]

end Cert.MixOutFirstKernelIdeal.Entries

end
-- ==== Proof.MixOutFirst.Kernel.lean ====
module

/-
What the first call of the forward pass's gated merge leaves in its results: the first 1024 rows of the two branches, of their
gated merge and of the residual stream after it.
-/
public import proofs.«01_k».proof.Proof.MixOutFirst.Blocks

@[expose] public section

set_option maxRecDepth 16384

noncomputable section

namespace Cert.MixOutFirstKernelIdeal.Entries
open Cert.MixOutFirstKernelIdeal Cert.MixOutFirstKernelIdeal.Gen Cert.MixMath Cert.MixOut
open Idealize.ShloMosaic Idealize.ShloMosaic.TcCoe Idealize.ShloMosaic.Tactic
open Idealize.ShloMosaic.StableHlo Idealize.SL.Sem

variable (m : (ℓ : Loc nD τ sig) → Buf (Elt Ideal) ℓ)

/-- The merge at a row, its two branches found. -/
theorem merge_eq (c : Dev nD) (t : Fin 2048) (d : Fin 1024) {a b : EReal} (ha : a = YA m c t d) (hb : b = branch (C m c) (WC m c) t d) :
    gate (G0 m c t d) * a + gate (G1 m c t d) * (b + B m c d) = MG m c t d := by
  rw [ha, hb]; rfl

/-- The attention's branch, block by block, -/
theorem out9 (c : Dev nD) (t : Fin cfg0.N) (r : Fin 512) (d : Fin 1024) :
    out0_9 (iblk m c 0 t) (iblk m c 1 t) (iblk m c 2 t) (iblk m c 3 t) (iblk m c 4 t) (iblk m c 5 t) (iblk m c 6 t) (iblk m c 7 t) (iblk m c 8 t) (ix2 r d) = YA m c (row t r) d := by
  unfold out0_9; frame_out
  unfold_payloads; pointwise
  simp only [blk_o, blk_wa]
  exact pick (branch (O m c) (WA m c) (row t r)) d

/-- the convolution's branch, -/
theorem out10 (c : Dev nD) (t : Fin cfg0.N) (r : Fin 512) (d : Fin 1024) :
    out0_10 (iblk m c 0 t) (iblk m c 1 t) (iblk m c 2 t) (iblk m c 3 t) (iblk m c 4 t) (iblk m c 5 t) (iblk m c 6 t) (iblk m c 7 t) (iblk m c 8 t) (ix2 r d) = YC m c (row t r) d := by
  unfold out0_10; frame_out
  unfold_payloads; pointwise
  simp only [blk_b, blk_c, blk_wc]
  exact congrArg (· + B m c d) (pick (branch (C m c) (WC m c) (row t r)) d)

/-- their merge, -/
theorem out11 (c : Dev nD) (t : Fin cfg0.N) (r : Fin 512) (d : Fin 1024) :
    out0_11 (iblk m c 0 t) (iblk m c 1 t) (iblk m c 2 t) (iblk m c 3 t) (iblk m c 4 t) (iblk m c 5 t) (iblk m c 6 t) (iblk m c 7 t) (iblk m c 8 t) (ix2 r d) = MG m c (row t r) d := by
  unfold out0_11; frame_out
  unfold_payloads; pointwise
  simp only [blk_b, blk_g0, blk_g1, gate_eq, blk_o, blk_c, blk_wa, blk_wc]
  refine merge_eq m c (row t r) d ?_ ?_
  · exact pick (branch (O m c) (WA m c) (row t r)) d
  · exact pick (branch (C m c) (WC m c) (row t r)) d

/-- and the residual stream. -/
theorem out12 (c : Dev nD) (t : Fin cfg0.N) (r : Fin 512) (d : Fin 1024) :
    out0_12 (iblk m c 0 t) (iblk m c 1 t) (iblk m c 2 t) (iblk m c 3 t) (iblk m c 4 t) (iblk m c 5 t) (iblk m c 6 t) (iblk m c 7 t) (iblk m c 8 t) (ix2 r d) = X1 m c (row t r) d := by
  unfold out0_12; frame_out
  unfold_payloads; pointwise
  simp only [blk_b, blk_g0, blk_g1, gate_eq, blk_x, blk_wo, blk_o, blk_c, blk_wa, blk_wc]
  refine congrArg (X m c (row t r) d + ·) (Finset.sum_congr rfl fun k _ => congrArg (· * WO m c k d) (merge_eq m c (row t r) k ?_ ?_))
  · exact pick (branch (O m c) (WA m c) (row t r)) k
  · exact pick (branch (C m c) (WC m c) (row t r)) k

/-- Where the call writes it, the attention branch. -/
theorem final9 (c : Dev nD) (t : Fin 1024) (d : Fin 1024) :
    (dats m 0 c).arrAt 9 cfg0.N (ix2 ⟨t.val, by omega⟩ d) = YA m c ⟨t.val, by omega⟩ d := by
  have e := (dats m 0 c).arrAt_eq_of_coversWhere 9 (fun j => YA m c (j 0) (j 1)) (P := fun j => (j 0).val < 1024)
    (fun β => β (0 : Fin 2) < 2) (by decide +kernel) (fun t hf y => ?_) (fun j => by blk_simp [Pipeline.Window.cell_apply]; omega)
  · rw [e]
    show (if t.val < 1024 then YA m c ⟨t.val, _⟩ d else _) = _
    rw [if_pos t.isLt]
  · blk_simp
    rw [after0_9]
    obtain ⟨r, d, rfl⟩ : ∃ (r : Fin 512) (d : Fin 1024), y = ix2 r d := ⟨y 0, y 1, eq_ix2 y⟩
    have e : (((cfg0.win 9).blk t).view.emb (ix2 r d)) = ix2 (row t r) d := by blk_ext [idx t]
    rw [e]
    exact out9 m c t r d

/-- Where the call writes it, the convolution branch. -/
theorem final10 (c : Dev nD) (t : Fin 1024) (d : Fin 1024) :
    (dats m 0 c).arrAt 10 cfg0.N (ix2 ⟨t.val, by omega⟩ d) = YC m c ⟨t.val, by omega⟩ d := by
  have e := (dats m 0 c).arrAt_eq_of_coversWhere 10 (fun j => YC m c (j 0) (j 1)) (P := fun j => (j 0).val < 1024)
    (fun β => β (0 : Fin 2) < 2) (by decide +kernel) (fun t hf y => ?_) (fun j => by blk_simp [Pipeline.Window.cell_apply]; omega)
  · rw [e]
    show (if t.val < 1024 then YC m c ⟨t.val, _⟩ d else _) = _
    rw [if_pos t.isLt]
  · blk_simp
    rw [after0_10]
    obtain ⟨r, d, rfl⟩ : ∃ (r : Fin 512) (d : Fin 1024), y = ix2 r d := ⟨y 0, y 1, eq_ix2 y⟩
    have e : (((cfg0.win 10).blk t).view.emb (ix2 r d)) = ix2 (row t r) d := by blk_ext [idx t]
    rw [e]
    exact out10 m c t r d

/-- Where the call writes it, the merge. -/
theorem final11 (c : Dev nD) (t : Fin 1024) (d : Fin 1024) :
    (dats m 0 c).arrAt 11 cfg0.N (ix2 ⟨t.val, by omega⟩ d) = MG m c ⟨t.val, by omega⟩ d := by
  have e := (dats m 0 c).arrAt_eq_of_coversWhere 11 (fun j => MG m c (j 0) (j 1)) (P := fun j => (j 0).val < 1024)
    (fun β => β (0 : Fin 2) < 2) (by decide +kernel) (fun t hf y => ?_) (fun j => by blk_simp [Pipeline.Window.cell_apply]; omega)
  · rw [e]
    show (if t.val < 1024 then MG m c ⟨t.val, _⟩ d else _) = _
    rw [if_pos t.isLt]
  · blk_simp
    rw [after0_11]
    obtain ⟨r, d, rfl⟩ : ∃ (r : Fin 512) (d : Fin 1024), y = ix2 r d := ⟨y 0, y 1, eq_ix2 y⟩
    have e : (((cfg0.win 11).blk t).view.emb (ix2 r d)) = ix2 (row t r) d := by blk_ext [idx t]
    rw [e]
    exact out11 m c t r d

/-- Where the call writes it, the residual stream. -/
theorem final12 (c : Dev nD) (t : Fin 1024) (d : Fin 1024) :
    (dats m 0 c).arrAt 12 cfg0.N (ix2 ⟨t.val, by omega⟩ d) = X1 m c ⟨t.val, by omega⟩ d := by
  have e := (dats m 0 c).arrAt_eq_of_coversWhere 12 (fun j => X1 m c (j 0) (j 1)) (P := fun j => (j 0).val < 1024)
    (fun β => β (0 : Fin 2) < 2) (by decide +kernel) (fun t hf y => ?_) (fun j => by blk_simp [Pipeline.Window.cell_apply]; omega)
  · rw [e]
    show (if t.val < 1024 then X1 m c ⟨t.val, _⟩ d else _) = _
    rw [if_pos t.isLt]
  · blk_simp
    rw [after0_12]
    obtain ⟨r, d, rfl⟩ : ∃ (r : Fin 512) (d : Fin 1024), y = ix2 r d := ⟨y 0, y 1, eq_ix2 y⟩
    have e : (((cfg0.win 12).blk t).view.emb (ix2 r d)) = ix2 (row t r) d := by blk_ext [idx t]
    rw [e]
    exact out12 m c t r d

variable (ρ : Dev nD → PrngReg)

/-- The host's slices after the call: the rows that it wrote. -/
theorem after_v8 (c : Dev nD) : Pipeline.afterTail₀ cfgs (dats m) 0 (V0 m) [hostOps1] c main_v8 = fun j => top (YA m c) (j 0) (j 1) := by
  have e := Pipeline.Dat.withArrays_arrAt (dats m 0 c) launch0.to₀.sharedIn (V0 m c) (A_eq m c) 9
  unfold Pipeline.afterTail₀
  simp only [List.flatten_cons, List.flatten_nil, List.append_nil, List.cons_append, List.nil_append]
  after_results_simp
  funext j
  obtain ⟨t, d, rfl⟩ : ∃ (t d : Fin 1024), j = ix2 t d := ⟨j 0, j 1, eq_ix2 j⟩
  pointwise
  exact (congrFun e _).trans (final9 m c t d)

theorem after_v9 (c : Dev nD) : Pipeline.afterTail₀ cfgs (dats m) 0 (V0 m) [hostOps1] c main_v9 = fun j => top (YC m c) (j 0) (j 1) := by
  have e := Pipeline.Dat.withArrays_arrAt (dats m 0 c) launch0.to₀.sharedIn (V0 m c) (A_eq m c) 10
  unfold Pipeline.afterTail₀
  simp only [List.flatten_cons, List.flatten_nil, List.append_nil, List.cons_append, List.nil_append]
  after_results_simp
  funext j
  obtain ⟨t, d, rfl⟩ : ∃ (t d : Fin 1024), j = ix2 t d := ⟨j 0, j 1, eq_ix2 j⟩
  pointwise
  exact (congrFun e _).trans (final10 m c t d)

theorem after_v10 (c : Dev nD) : Pipeline.afterTail₀ cfgs (dats m) 0 (V0 m) [hostOps1] c main_v10 = fun j => top (MG m c) (j 0) (j 1) := by
  have e := Pipeline.Dat.withArrays_arrAt (dats m 0 c) launch0.to₀.sharedIn (V0 m c) (A_eq m c) 11
  unfold Pipeline.afterTail₀
  simp only [List.flatten_cons, List.flatten_nil, List.append_nil, List.cons_append, List.nil_append]
  after_results_simp
  funext j
  obtain ⟨t, d, rfl⟩ : ∃ (t d : Fin 1024), j = ix2 t d := ⟨j 0, j 1, eq_ix2 j⟩
  pointwise
  exact (congrFun e _).trans (final11 m c t d)

theorem after_v11 (c : Dev nD) : Pipeline.afterTail₀ cfgs (dats m) 0 (V0 m) [hostOps1] c main_v11 = fun j => top (X1 m c) (j 0) (j 1) := by
  have e := Pipeline.Dat.withArrays_arrAt (dats m 0 c) launch0.to₀.sharedIn (V0 m c) (A_eq m c) 12
  unfold Pipeline.afterTail₀
  simp only [List.flatten_cons, List.flatten_nil, List.append_nil, List.cons_append, List.nil_append]
  after_results_simp
  funext j
  obtain ⟨t, d, rfl⟩ : ∃ (t d : Fin 1024), j = ix2 t d := ⟨j 0, j 1, eq_ix2 j⟩
  pointwise
  exact (congrFun e _).trans (final12 m c t d)

/-- Every run ends with the four results so, and the arguments as they were. -/
theorem run_entries : θ_run defs (onTc (τ := τ) (main (F := Ideal))) ⟨m, fun _ => 0, ρ⟩ (fun r => ∀ c : Dev nD,
    r.2.mem ((c.tc : Thread nD τ).loc main_v8) = (fun j => top (YA m c) (j 0) (j 1))
    ∧ r.2.mem ((c.tc : Thread nD τ).loc main_v9) = (fun j => top (YC m c) (j 0) (j 1))
    ∧ r.2.mem ((c.tc : Thread nD τ).loc main_v10) = (fun j => top (MG m c) (j 0) (j 1))
    ∧ r.2.mem ((c.tc : Thread nD τ).loc main_v11) = (fun j => top (X1 m c) (j 0) (j 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)) :=
  (θ_run defs _ _).mono (fun _ h c => ⟨((h.2 c).2 main_v8 (Pipeline.mem_restRefs_of main_v8 (by decide) (by decide))).trans (after_v8 m c),
      ((h.2 c).2 main_v9 (Pipeline.mem_restRefs_of main_v9 (by decide) (by decide))).trans (after_v9 m c),
      ((h.2 c).2 main_v10 (Pipeline.mem_restRefs_of main_v10 (by decide) (by decide))).trans (after_v10 m c),
      ((h.2 c).2 main_v11 (Pipeline.mem_restRefs_of main_v11 (by decide) (by decide))).trans (after_v11 m c), h.1 c⟩)
    (θ_run_and (unchanged m ρ) (run_main m ρ))

end Cert.MixOutFirstKernelIdeal.Entries

end
-- ==== Proof.MixOutFirst.Claim.lean ====
module

/-
The first call of the forward pass's gated merge: its four results are the reference's over the extended reals.
-/
public import proofs.«01_k».proof.Defs
public import proofs.«01_k».proof.Proof.MixOutFirst.Kernel
public import proofs.«01_k».proof.Proof.Gen.MixOutFirstReferenceIdeal.Run

public section

set_option maxRecDepth 16384

noncomputable section

namespace Cert.MixOutFirst
open Idealize.ShloMosaic Idealize.ShloMosaic.TcCoe Idealize.SL.Sem Cert.MixMath Idealize.ShloMosaic.Tactic Idealize.ShloMosaic.StableHlo

section Reference
open Cert.MixOutFirstReferenceIdeal
variable (m : (ℓ : Loc nD τ sig) → Buf (Elt Ideal) ℓ) (ρ : Dev nD → PrngReg)

/-- The arguments' entries, as launched. -/
abbrev X (c : Dev nD) (t : Fin 2048) (d : Fin 1024) : EReal := m ((c : Thread nD τ).loc main_arg0) (ix2 t d)
abbrev O (c : Dev nD) (t : Fin 2048) (k : Fin 512) : EReal := m ((c : Thread nD τ).loc main_arg1) (ix2 t k)
abbrev C (c : Dev nD) (t : Fin 2048) (k : Fin 512) : EReal := m ((c : Thread nD τ).loc main_arg2) (ix2 t k)
abbrev G0 (c : Dev nD) (t : Fin 2048) (d : Fin 1024) : EReal := m ((c : Thread nD τ).loc main_arg3) (ix2 t ⟨d.val, by omega⟩)
abbrev G1 (c : Dev nD) (t : Fin 2048) (d : Fin 1024) : EReal := m ((c : Thread nD τ).loc main_arg3) (ix2 t ⟨1024 + d.val, by omega⟩)
abbrev WA (c : Dev nD) (k : Fin 512) (d : Fin 1024) : EReal := m ((c : Thread nD τ).loc main_arg4) (ix2 k d)
abbrev WC (c : Dev nD) (k : Fin 512) (d : Fin 1024) : EReal := m ((c : Thread nD τ).loc main_arg5) (ix2 k d)
abbrev B (c : Dev nD) (d : Fin 1024) : EReal := m ((c : Thread nD τ).loc main_arg6) (ix2 0 d)
abbrev WO (c : Dev nD) (k d : Fin 1024) : EReal := m ((c : Thread nD τ).loc main_arg7) (ix2 k d)

/-- The two branches, their merge, and the residual stream after it. -/
abbrev YA (c : Dev nD) (t : Fin 2048) (d : Fin 1024) : EReal := branch (O m c) (WA m c) t d
abbrev YC (c : Dev nD) (t : Fin 2048) (d : Fin 1024) : EReal := branch (C m c) (WC m c) t d + B m c d
abbrev MG (c : Dev nD) (t : Fin 2048) (d : Fin 1024) : EReal := MixOut.merged (G0 m c) (G1 m c) (YA m c) (YC m c) t d
abbrev X1 (c : Dev nD) (t : Fin 2048) (d : Fin 1024) : EReal := MixOut.stream (X m c) (G0 m c) (G1 m c) (YA m c) (YC m c) (WO m c) t d

set_option maxHeartbeats 2000000 in
/-- The reference's results, entry by entry. -/
theorem run_entries : θ_run defs (onTc (τ := τ) (main (F := Ideal))) ⟨m, fun _ => 0, ρ⟩ (fun r => ∀ c : Dev nD,
    r.2.mem ((c : Thread nD τ).loc main_v28) = (fun j => MixOut.top (YA m c) (j 0) (j 1))
    ∧ r.2.mem ((c : Thread nD τ).loc main_v29) = (fun j => MixOut.top (YC m c) (j 0) (j 1))
    ∧ r.2.mem ((c : Thread nD τ).loc main_v30) = (fun j => MixOut.top (MG m c) (j 0) (j 1))
    ∧ r.2.mem ((c : Thread nD τ).loc main_v31) = (fun j => MixOut.top (X1 m c) (j 0) (j 1))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)) := by
  refine (θ_run defs _ _).mono (fun r h c => ⟨(h c).1.trans ?_, (h c).2.1.trans ?_, (h c).2.2.1.trans ?_, (h c).2.2.2.1.trans ?_, (h c).2.2.2.2⟩) (Value.run (F := Ideal) m ρ) <;> clear h
  · funext j
    obtain ⟨t, d, rfl⟩ : ∃ (t : Fin 1024) (d : Fin 1024), j = ix2 t d := ⟨j 0, j 1, eq_ix2 j⟩
    pointwise
    rfl
  · funext j
    obtain ⟨t, d, rfl⟩ : ∃ (t : Fin 1024) (d : Fin 1024), j = ix2 t d := ⟨j 0, j 1, eq_ix2 j⟩
    pointwise
    rfl
  · funext j
    obtain ⟨t, d, rfl⟩ : ∃ (t : Fin 1024) (d : Fin 1024), j = ix2 t d := ⟨j 0, j 1, eq_ix2 j⟩
    pointwise
    rfl
  · funext j
    obtain ⟨t, d, rfl⟩ : ∃ (t : Fin 1024) (d : Fin 1024), j = ix2 t d := ⟨j 0, j 1, eq_ix2 j⟩
    pointwise
    rfl

end Reference

theorem algebraic : Cert.algebraic_MixOutFirstKernelIdeal_MixOutFirstReferenceIdeal := by
  intro m g m' g' _ hargs
  refine ⟨fun c => (fun j => MixOut.top (MixOutFirstKernelIdeal.Entries.YA m c) (j 0) (j 1)), fun c => (fun j => MixOut.top (MixOutFirstKernelIdeal.Entries.YC m c) (j 0) (j 1)), fun c => (fun j => MixOut.top (MixOutFirstKernelIdeal.Entries.MG m c) (j 0) (j 1)), fun c => (fun j => MixOut.top (MixOutFirstKernelIdeal.Entries.X1 m c) (j 0) (j 1)), ?_, ?_⟩
  · exact MixOutFirstKernelIdeal.Entries.run_entries m g
  · refine (θ_run MixOutFirstReferenceIdeal.defs _ _).mono (fun r h c => ?_) (run_entries m' g')
    obtain ⟨r9, r10, r11, r12, ra⟩ := h c
    obtain ⟨a0, a1, a2, a3, a4, a5, a6, a7, -⟩ := hargs c
    have eX : X m' c = MixOutFirstKernelIdeal.Entries.X m c := funext₂ fun t d => congrFun a0 _
    have eO : O m' c = MixOutFirstKernelIdeal.Entries.O m c := funext₂ fun t d => congrFun a1 _
    have eC : C m' c = MixOutFirstKernelIdeal.Entries.C m c := funext₂ fun t d => congrFun a2 _
    have eG0 : G0 m' c = MixOutFirstKernelIdeal.Entries.G0 m c := funext₂ fun t d => congrFun a3 _
    have eG1 : G1 m' c = MixOutFirstKernelIdeal.Entries.G1 m c := funext₂ fun t d => congrFun a3 _
    have eWA : WA m' c = MixOutFirstKernelIdeal.Entries.WA m c := funext₂ fun t d => congrFun a4 _
    have eWC : WC m' c = MixOutFirstKernelIdeal.Entries.WC m c := funext₂ fun t d => congrFun a5 _
    have eB : B m' c = MixOutFirstKernelIdeal.Entries.B m c := funext fun t => congrFun a6 _
    have eWO : WO m' c = MixOutFirstKernelIdeal.Entries.WO m c := funext₂ fun t d => congrFun a7 _
    have eYA : YA m' c = MixOutFirstKernelIdeal.Entries.YA m c := by unfold YA MixOutFirstKernelIdeal.Entries.YA; rw [eO, eWA]
    have eYC : YC m' c = MixOutFirstKernelIdeal.Entries.YC m c := by unfold YC MixOutFirstKernelIdeal.Entries.YC; rw [eC, eWC, eB]
    have eMG : MG m' c = MixOutFirstKernelIdeal.Entries.MG m c := by unfold MG MixOutFirstKernelIdeal.Entries.MG; rw [eG0, eG1, eYA, eYC]
    have eX1 : X1 m' c = MixOutFirstKernelIdeal.Entries.X1 m c := by unfold X1 MixOutFirstKernelIdeal.Entries.X1; rw [eX, eG0, eG1, eYA, eYC, eWO]
    rw [eYA] at r9
    rw [eYC] at r10
    rw [eMG] at r11
    rw [eX1] at r12
    exact ⟨r9, r10, r11, r12, ra⟩

/-- The reference's frame: its run changes no argument, and it has no semaphore. -/
theorem frame_reference : Cert.quiescent_MixOutFirstReferenceIdeal := fun m ρ _ =>
  (θ_run Cert.MixOutFirstReferenceIdeal.defs _ _).mono (fun r h => ⟨fun c => (h c).2.2.2.2,
      Idealize.ShloMosaic.sem_eq_zero_of_no_sems (by decide) r.2⟩)
    (Cert.MixOutFirstReferenceIdeal.Value.run (F := Ideal) m ρ)

end Cert.MixOutFirst

end
-- ==== Proof.MixOutSecond.Blocks.lean ====
module

/-
What the second call of the forward pass's gated merge is given: the host's lines before it, entry by entry over the extended
reals, and each window's block as rows of the staged array.
-/
public import proofs.«01_k».proof.Proof.Gen.MixOutSecondKernelIdeal.Value
public import proofs.«01_k».proof.Proof.MixOut
public import Idealize.ShloMosaic.Lib.Pointwise
public import Idealize.ShloMosaic.Lib.Pipeline.ValueKit
public import Idealize.ShloMosaic.Lib.Pipeline.ValueKit.Partial

@[expose] public section

set_option maxRecDepth 16384

noncomputable section

namespace Cert.MixOutSecondKernelIdeal.Entries
open Cert.MixOutSecondKernelIdeal Cert.MixOutSecondKernelIdeal.Gen Cert.MixMath Cert.MixOut
open Idealize.ShloMosaic Idealize.ShloMosaic.TcCoe Idealize.ShloMosaic.Tactic
open Idealize.ShloMosaic.StableHlo Idealize.SL.Sem

variable (m : (ℓ : Loc nD τ sig) → Buf (Elt Ideal) ℓ)

/-- The arguments' entries: the residual stream, the branches' inputs, the two gates' logits, the branches' weights and bias,
    and the output projection. -/
abbrev X (c : Dev nD) (t : Fin 2048) (d : Fin 1024) : EReal := m ((c : Thread nD τ).loc main_arg0) (ix2 t d)
abbrev O (c : Dev nD) (t : Fin 2048) (k : Fin 512) : EReal := m ((c : Thread nD τ).loc main_arg1) (ix2 t k)
abbrev C (c : Dev nD) (t : Fin 2048) (k : Fin 512) : EReal := m ((c : Thread nD τ).loc main_arg2) (ix2 t k)
abbrev G0 (c : Dev nD) (t : Fin 2048) (d : Fin 1024) : EReal := m ((c : Thread nD τ).loc main_arg3) (ix2 t ⟨d.val, by omega⟩)
abbrev G1 (c : Dev nD) (t : Fin 2048) (d : Fin 1024) : EReal := m ((c : Thread nD τ).loc main_arg3) (ix2 t ⟨1024 + d.val, by omega⟩)
abbrev WA (c : Dev nD) (k : Fin 512) (d : Fin 1024) : EReal := m ((c : Thread nD τ).loc main_arg4) (ix2 k d)
abbrev WC (c : Dev nD) (k : Fin 512) (d : Fin 1024) : EReal := m ((c : Thread nD τ).loc main_arg5) (ix2 k d)
abbrev B (c : Dev nD) (d : Fin 1024) : EReal := m ((c : Thread nD τ).loc main_arg6) (ix2 0 d)
abbrev WO (c : Dev nD) (k d : Fin 1024) : EReal := m ((c : Thread nD τ).loc main_arg7) (ix2 k d)

/-- The two branches. -/
abbrev YA (c : Dev nD) (t : Fin 2048) (d : Fin 1024) : EReal := branch (O m c) (WA m c) t d
abbrev YC (c : Dev nD) (t : Fin 2048) (d : Fin 1024) : EReal := branch (C m c) (WC m c) t d + B m c d

/-- The merge and the residual stream after it. -/
abbrev MG (c : Dev nD) (t : Fin 2048) (d : Fin 1024) : EReal := merged (G0 m c) (G1 m c) (YA m c) (YC m c) t d
abbrev X1 (c : Dev nD) (t : Fin 2048) (d : Fin 1024) : EReal := stream (X m c) (G0 m c) (G1 m c) (YA m c) (YC m c) (WO m c) t d

/-- The weights as the kernel takes them. -/
theorem V_wa (c : Dev nD) (s : Fin 4) (k : Fin 512) (x : Fin 256) :
    V m c main_v2 (ix3 s k x) = WA m c k ⟨256 * s.val + x.val, by omega⟩ := by
  unfold V; after_results_simp; pointwise
  blk_ext

theorem V_wc (c : Dev nD) (s : Fin 4) (k : Fin 512) (x : Fin 256) :
    V m c main_v5 (ix3 s k x) = WC m c k ⟨256 * s.val + x.val, by omega⟩ := by
  unfold V; after_results_simp; pointwise
  blk_ext

theorem V_wo (c : Dev nD) (k d : Fin 1024) : V m c main_v6 (ix2 k d) = WO m c k d := by
  unfold V; after_results_simp; pointwise

/-- Where the windows' blocks lie, decided over the grid. -/
theorem idx : ∀ t : Fin cfg0.N, win0_0.index t = ![2 + t.val, 0] ∧ win0_1.index t = ![2 + t.val, 0] ∧ win0_2.index t = ![2 + t.val, 0] ∧ win0_3.index t = ![2 + t.val, 0] ∧ win0_9.index t = ![2 + t.val, 0] ∧ win0_10.index t = ![2 + t.val, 0] ∧ win0_11.index t = ![2 + t.val, 0] ∧ win0_12.index t = ![2 + t.val, 0]
    ∧ win0_4.index t = ![0, 0, 0] ∧ win0_5.index t = ![0, 0, 0] ∧ win0_6.index t = ![0, 0] ∧ win0_7.index t = ![0, 0] := by
  decide +kernel

/-- Row `r` of block `t`. -/
abbrev row (t : Fin cfg0.N) (r : Fin 512) : Fin 2048 :=
  ⟨1024 + 512 * t.val + r.val, by have : t.val < 2 := lt_of_lt_of_eq t.isLt (show cfg0.N = 2 from N_0); omega⟩

theorem blk_x (c : Dev nD) (t : Fin cfg0.N) (r : Fin 512) (k : Fin 1024) : iblk m c 0 t (ix2 r k) = X m c (row t r) k := by
  refine Eq.trans (?_ : _ = V m c main_arg0 (ix2 (row t r) k)) (by rw [V_main_arg0])
  blk_ext [iblk, idx t]

theorem blk_o (c : Dev nD) (t : Fin cfg0.N) (r : Fin 512) (k : Fin 512) : iblk m c 1 t (ix2 r k) = O m c (row t r) k := by
  refine Eq.trans (?_ : _ = V m c main_arg1 (ix2 (row t r) k)) (by rw [V_main_arg1])
  blk_ext [iblk, idx t]

theorem blk_c (c : Dev nD) (t : Fin cfg0.N) (r : Fin 512) (k : Fin 512) : iblk m c 2 t (ix2 r k) = C m c (row t r) k := by
  refine Eq.trans (?_ : _ = V m c main_arg2 (ix2 (row t r) k)) (by rw [V_main_arg2])
  blk_ext [iblk, idx t]

theorem blk_g0 (c : Dev nD) (t : Fin cfg0.N) (r : Fin 512) (k : Fin 1024) (h) :
    iblk m c 3 t (ix2 r ⟨k.val, h⟩) = G0 m c (row t r) k := by
  refine Eq.trans (?_ : _ = V m c main_arg3 (ix2 (row t r) ⟨k.val, by omega⟩)) (by rw [V_main_arg3])
  blk_ext [iblk, idx t]

theorem blk_g1 (c : Dev nD) (t : Fin cfg0.N) (r : Fin 512) (k : Fin 1024) (h) :
    iblk m c 3 t (ix2 r ⟨1024 + k.val, h⟩) = G1 m c (row t r) k := by
  refine Eq.trans (?_ : _ = V m c main_arg3 (ix2 (row t r) ⟨1024 + k.val, by omega⟩)) (by rw [V_main_arg3])
  blk_ext [iblk, idx t]

theorem blk_wa (c : Dev nD) (t : Fin cfg0.N) (s : Fin 4) (k : Fin 512) (x : Fin 256) :
    iblk m c 4 t (ix3 s k x) = WA m c k ⟨256 * s.val + x.val, by omega⟩ := by
  refine Eq.trans (?_ : _ = V m c main_v2 (ix3 s k x)) (V_wa m c s k x)
  blk_ext [iblk, idx t]

theorem blk_wc (c : Dev nD) (t : Fin cfg0.N) (s : Fin 4) (k : Fin 512) (x : Fin 256) :
    iblk m c 5 t (ix3 s k x) = WC m c k ⟨256 * s.val + x.val, by omega⟩ := by
  refine Eq.trans (?_ : _ = V m c main_v5 (ix3 s k x)) (V_wc m c s k x)
  blk_ext [iblk, idx t]

theorem blk_b (c : Dev nD) (t : Fin cfg0.N) (d : Fin 1024) : iblk m c 6 t (ix2 0 d) = B m c d := by
  refine Eq.trans (?_ : _ = V m c main_arg6 (ix2 0 d)) (by rw [V_main_arg6])
  blk_ext [iblk, idx t]

theorem blk_wo (c : Dev nD) (t : Fin cfg0.N) (k d : Fin 1024) : iblk m c 7 t (ix2 k d) = WO m c k d := by
  refine Eq.trans (?_ : _ = V m c main_v6 (ix2 k d)) (V_wo m c k d)
  blk_ext [iblk, idx t]

/-- What the first call left, as launched, -/
abbrev YA0 (c : Dev nD) (t : Fin 2048) (d : Fin 1024) : EReal := m ((c : Thread nD τ).loc main_arg9) (ix2 t d)
abbrev YC0 (c : Dev nD) (t : Fin 2048) (d : Fin 1024) : EReal := m ((c : Thread nD τ).loc main_arg10) (ix2 t d)
abbrev MG0 (c : Dev nD) (t : Fin 2048) (d : Fin 1024) : EReal := m ((c : Thread nD τ).loc main_arg11) (ix2 t d)
abbrev X10 (c : Dev nD) (t : Fin 2048) (d : Fin 1024) : EReal := m ((c : Thread nD τ).loc main_arg12) (ix2 t d)

/-- and as the second takes it. -/
theorem V_ya (c : Dev nD) : V m c main_v7_0 = m ((c : Thread nD τ).loc main_arg9) := by
  unfold V; after_results_simp; rfl
theorem V_yc (c : Dev nD) : V m c main_v7_1 = m ((c : Thread nD τ).loc main_arg10) := by
  unfold V; after_results_simp; rfl
theorem V_mg (c : Dev nD) : V m c main_v7_2 = m ((c : Thread nD τ).loc main_arg11) := by
  unfold V; after_results_simp; rfl
theorem V_x1 (c : Dev nD) : V m c main_v7_3 = m ((c : Thread nD τ).loc main_arg12) := by
  unfold V; after_results_simp; rfl

end Cert.MixOutSecondKernelIdeal.Entries

end
-- ==== Proof.MixOutSecond.Kernel.lean ====
module

/-
What the second call of the forward pass's gated merge leaves in its results: the first 1024 rows as they were, the others of
the two branches, of their gated merge and of the residual stream after it.
-/
public import proofs.«01_k».proof.Proof.MixOutSecond.Blocks

@[expose] public section

set_option maxRecDepth 16384

noncomputable section

namespace Cert.MixOutSecondKernelIdeal.Entries
open Cert.MixOutSecondKernelIdeal Cert.MixOutSecondKernelIdeal.Gen Cert.MixMath Cert.MixOut
open Idealize.ShloMosaic Idealize.ShloMosaic.TcCoe Idealize.ShloMosaic.Tactic
open Idealize.ShloMosaic.StableHlo Idealize.SL.Sem

variable (m : (ℓ : Loc nD τ sig) → Buf (Elt Ideal) ℓ)

/-- The merge at a row, its two branches found. -/
theorem merge_eq (c : Dev nD) (t : Fin 2048) (d : Fin 1024) {a b : EReal} (ha : a = YA m c t d) (hb : b = branch (C m c) (WC m c) t d) :
    gate (G0 m c t d) * a + gate (G1 m c t d) * (b + B m c d) = MG m c t d := by
  rw [ha, hb]; rfl

/-- The attention's branch, block by block, -/
theorem out9 (c : Dev nD) (t : Fin cfg0.N) (r : Fin 512) (d : Fin 1024) :
    (outsAt0 m c t).1 (ix2 r d) = YA m c (row t r) d := by
  unfold outsAt0; frame_out
  unfold_payloads; pointwise
  simp only [blk_o, blk_wa]
  exact pick (branch (O m c) (WA m c) (row t r)) d

/-- the convolution's branch, -/
theorem out10 (c : Dev nD) (t : Fin cfg0.N) (r : Fin 512) (d : Fin 1024) :
    (outsAt0 m c t).2.1 (ix2 r d) = YC m c (row t r) d := by
  unfold outsAt0; frame_out
  unfold_payloads; pointwise
  simp only [blk_b, blk_c, blk_wc]
  exact congrArg (· + B m c d) (pick (branch (C m c) (WC m c) (row t r)) d)

/-- their merge, -/
theorem out11 (c : Dev nD) (t : Fin cfg0.N) (r : Fin 512) (d : Fin 1024) :
    (outsAt0 m c t).2.2.1 (ix2 r d) = MG m c (row t r) d := by
  unfold outsAt0; frame_out
  unfold_payloads; pointwise
  simp only [blk_b, blk_g0, blk_g1, gate_eq, blk_o, blk_c, blk_wa, blk_wc]
  refine merge_eq m c (row t r) d ?_ ?_
  · exact pick (branch (O m c) (WA m c) (row t r)) d
  · exact pick (branch (C m c) (WC m c) (row t r)) d

/-- and the residual stream. -/
theorem out12 (c : Dev nD) (t : Fin cfg0.N) (r : Fin 512) (d : Fin 1024) :
    (outsAt0 m c t).2.2.2 (ix2 r d) = X1 m c (row t r) d := by
  unfold outsAt0; frame_out
  unfold_payloads; pointwise
  simp only [blk_b, blk_g0, blk_g1, gate_eq, blk_x, blk_wo, blk_o, blk_c, blk_wa, blk_wc]
  refine congrArg (X m c (row t r) d + ·) (Finset.sum_congr rfl fun k _ => congrArg (· * WO m c k d) (merge_eq m c (row t r) k ?_ ?_))
  · exact pick (branch (O m c) (WA m c) (row t r)) k
  · exact pick (branch (C m c) (WC m c) (row t r)) k

/-- As one array, the attention branch. -/
theorem final9 (c : Dev nD) : (dats m 0 c).arrAt 9 cfg0.N = fun j => kept (YA0 m c) (YA m c) (j 0) (j 1) := by
  refine ((dats m 0 c).arrAt_eq_of_coversWhere 9 (fun j => kept (YA0 m c) (YA m c) (j 0) (j 1)) (P := fun j => 1024 ≤ (j 0).val)
    (fun β => 2 ≤ β (0 : Fin 2)) (by decide +kernel) (fun t hf y => ?_) (fun j => by blk_simp [Pipeline.Window.cell_apply]; omega)).trans ?_
  · blk_simp
    rw [after0_9]
    obtain ⟨r, d, rfl⟩ : ∃ (r : Fin 512) (d : Fin 1024), y = ix2 r d := ⟨y 0, y 1, eq_ix2 y⟩
    have e : (((cfg0.win 9).blk t).view.emb (ix2 r d)) = ix2 (row t r) d := by blk_ext [idx t]
    rw [e]
    refine (out9 m c t r d).trans ?_
    show _ = kept (YA0 m c) (YA m c) (row t r) d
    rw [kept, if_neg (show ¬ (1024 + 512 * t.val + r.val < 1024) by omega)]
  · funext j
    obtain ⟨t, d, rfl⟩ : ∃ (t : Fin 2048) (d : Fin 1024), j = ix2 t d := ⟨j 0, j 1, eq_ix2 j⟩
    split
    · rfl
    · rename_i h
      have h' : t.val < 1024 := not_le.mp h
      show _ = kept (YA0 m c) (YA m c) t d
      rw [kept, if_pos h']
      exact congrFun (V_ya m c) _

/-- As one array, the convolution branch. -/
theorem final10 (c : Dev nD) : (dats m 0 c).arrAt 10 cfg0.N = fun j => kept (YC0 m c) (YC m c) (j 0) (j 1) := by
  refine ((dats m 0 c).arrAt_eq_of_coversWhere 10 (fun j => kept (YC0 m c) (YC m c) (j 0) (j 1)) (P := fun j => 1024 ≤ (j 0).val)
    (fun β => 2 ≤ β (0 : Fin 2)) (by decide +kernel) (fun t hf y => ?_) (fun j => by blk_simp [Pipeline.Window.cell_apply]; omega)).trans ?_
  · blk_simp
    rw [after0_10]
    obtain ⟨r, d, rfl⟩ : ∃ (r : Fin 512) (d : Fin 1024), y = ix2 r d := ⟨y 0, y 1, eq_ix2 y⟩
    have e : (((cfg0.win 10).blk t).view.emb (ix2 r d)) = ix2 (row t r) d := by blk_ext [idx t]
    rw [e]
    refine (out10 m c t r d).trans ?_
    show _ = kept (YC0 m c) (YC m c) (row t r) d
    rw [kept, if_neg (show ¬ (1024 + 512 * t.val + r.val < 1024) by omega)]
  · funext j
    obtain ⟨t, d, rfl⟩ : ∃ (t : Fin 2048) (d : Fin 1024), j = ix2 t d := ⟨j 0, j 1, eq_ix2 j⟩
    split
    · rfl
    · rename_i h
      have h' : t.val < 1024 := not_le.mp h
      show _ = kept (YC0 m c) (YC m c) t d
      rw [kept, if_pos h']
      exact congrFun (V_yc m c) _

/-- As one array, the merge. -/
theorem final11 (c : Dev nD) : (dats m 0 c).arrAt 11 cfg0.N = fun j => kept (MG0 m c) (MG m c) (j 0) (j 1) := by
  refine ((dats m 0 c).arrAt_eq_of_coversWhere 11 (fun j => kept (MG0 m c) (MG m c) (j 0) (j 1)) (P := fun j => 1024 ≤ (j 0).val)
    (fun β => 2 ≤ β (0 : Fin 2)) (by decide +kernel) (fun t hf y => ?_) (fun j => by blk_simp [Pipeline.Window.cell_apply]; omega)).trans ?_
  · blk_simp
    rw [after0_11]
    obtain ⟨r, d, rfl⟩ : ∃ (r : Fin 512) (d : Fin 1024), y = ix2 r d := ⟨y 0, y 1, eq_ix2 y⟩
    have e : (((cfg0.win 11).blk t).view.emb (ix2 r d)) = ix2 (row t r) d := by blk_ext [idx t]
    rw [e]
    refine (out11 m c t r d).trans ?_
    show _ = kept (MG0 m c) (MG m c) (row t r) d
    rw [kept, if_neg (show ¬ (1024 + 512 * t.val + r.val < 1024) by omega)]
  · funext j
    obtain ⟨t, d, rfl⟩ : ∃ (t : Fin 2048) (d : Fin 1024), j = ix2 t d := ⟨j 0, j 1, eq_ix2 j⟩
    split
    · rfl
    · rename_i h
      have h' : t.val < 1024 := not_le.mp h
      show _ = kept (MG0 m c) (MG m c) t d
      rw [kept, if_pos h']
      exact congrFun (V_mg m c) _

/-- As one array, the residual stream. -/
theorem final12 (c : Dev nD) : (dats m 0 c).arrAt 12 cfg0.N = fun j => kept (X10 m c) (X1 m c) (j 0) (j 1) := by
  refine ((dats m 0 c).arrAt_eq_of_coversWhere 12 (fun j => kept (X10 m c) (X1 m c) (j 0) (j 1)) (P := fun j => 1024 ≤ (j 0).val)
    (fun β => 2 ≤ β (0 : Fin 2)) (by decide +kernel) (fun t hf y => ?_) (fun j => by blk_simp [Pipeline.Window.cell_apply]; omega)).trans ?_
  · blk_simp
    rw [after0_12]
    obtain ⟨r, d, rfl⟩ : ∃ (r : Fin 512) (d : Fin 1024), y = ix2 r d := ⟨y 0, y 1, eq_ix2 y⟩
    have e : (((cfg0.win 12).blk t).view.emb (ix2 r d)) = ix2 (row t r) d := by blk_ext [idx t]
    rw [e]
    refine (out12 m c t r d).trans ?_
    show _ = kept (X10 m c) (X1 m c) (row t r) d
    rw [kept, if_neg (show ¬ (1024 + 512 * t.val + r.val < 1024) by omega)]
  · funext j
    obtain ⟨t, d, rfl⟩ : ∃ (t : Fin 2048) (d : Fin 1024), j = ix2 t d := ⟨j 0, j 1, eq_ix2 j⟩
    split
    · rfl
    · rename_i h
      have h' : t.val < 1024 := not_le.mp h
      show _ = kept (X10 m c) (X1 m c) t d
      rw [kept, if_pos h']
      exact congrFun (V_x1 m c) _

end Cert.MixOutSecondKernelIdeal.Entries

end
-- ==== Proof.MixOutSecond.Claim.lean ====
module

/-
The second call of the forward pass's gated merge: its four results are the reference's over the extended reals.
-/
public import proofs.«01_k».proof.Defs
public import proofs.«01_k».proof.Proof.MixOutSecond.Kernel
public import proofs.«01_k».proof.Proof.Gen.MixOutSecondReferenceIdeal.Run

public section

set_option maxRecDepth 16384

noncomputable section

namespace Cert.MixOutSecond
open Idealize.ShloMosaic Idealize.ShloMosaic.TcCoe Idealize.SL.Sem Cert.MixMath Idealize.ShloMosaic.Tactic Idealize.ShloMosaic.StableHlo

section Reference
open Cert.MixOutSecondReferenceIdeal
variable (m : (ℓ : Loc nD τ sig) → Buf (Elt Ideal) ℓ) (ρ : Dev nD → PrngReg)

/-- The arguments' entries, as launched. -/
abbrev X (c : Dev nD) (t : Fin 2048) (d : Fin 1024) : EReal := m ((c : Thread nD τ).loc main_arg0) (ix2 t d)
abbrev O (c : Dev nD) (t : Fin 2048) (k : Fin 512) : EReal := m ((c : Thread nD τ).loc main_arg1) (ix2 t k)
abbrev C (c : Dev nD) (t : Fin 2048) (k : Fin 512) : EReal := m ((c : Thread nD τ).loc main_arg2) (ix2 t k)
abbrev G0 (c : Dev nD) (t : Fin 2048) (d : Fin 1024) : EReal := m ((c : Thread nD τ).loc main_arg3) (ix2 t ⟨d.val, by omega⟩)
abbrev G1 (c : Dev nD) (t : Fin 2048) (d : Fin 1024) : EReal := m ((c : Thread nD τ).loc main_arg3) (ix2 t ⟨1024 + d.val, by omega⟩)
abbrev WA (c : Dev nD) (k : Fin 512) (d : Fin 1024) : EReal := m ((c : Thread nD τ).loc main_arg4) (ix2 k d)
abbrev WC (c : Dev nD) (k : Fin 512) (d : Fin 1024) : EReal := m ((c : Thread nD τ).loc main_arg5) (ix2 k d)
abbrev B (c : Dev nD) (d : Fin 1024) : EReal := m ((c : Thread nD τ).loc main_arg6) (ix2 0 d)
abbrev WO (c : Dev nD) (k d : Fin 1024) : EReal := m ((c : Thread nD τ).loc main_arg7) (ix2 k d)
abbrev YA0 (c : Dev nD) (t : Fin 2048) (d : Fin 1024) : EReal := m ((c : Thread nD τ).loc main_arg9) (ix2 t d)
abbrev YC0 (c : Dev nD) (t : Fin 2048) (d : Fin 1024) : EReal := m ((c : Thread nD τ).loc main_arg10) (ix2 t d)
abbrev MG0 (c : Dev nD) (t : Fin 2048) (d : Fin 1024) : EReal := m ((c : Thread nD τ).loc main_arg11) (ix2 t d)
abbrev X10 (c : Dev nD) (t : Fin 2048) (d : Fin 1024) : EReal := m ((c : Thread nD τ).loc main_arg12) (ix2 t d)

/-- The two branches, their merge, and the residual stream after it. -/
abbrev YA (c : Dev nD) (t : Fin 2048) (d : Fin 1024) : EReal := branch (O m c) (WA m c) t d
abbrev YC (c : Dev nD) (t : Fin 2048) (d : Fin 1024) : EReal := branch (C m c) (WC m c) t d + B m c d
abbrev MG (c : Dev nD) (t : Fin 2048) (d : Fin 1024) : EReal := MixOut.merged (G0 m c) (G1 m c) (YA m c) (YC m c) t d
abbrev X1 (c : Dev nD) (t : Fin 2048) (d : Fin 1024) : EReal := MixOut.stream (X m c) (G0 m c) (G1 m c) (YA m c) (YC m c) (WO m c) t d

set_option maxHeartbeats 2000000 in
/-- The reference's results, entry by entry. -/
theorem run_entries : θ_run defs (onTc (τ := τ) (main (F := Ideal))) ⟨m, fun _ => 0, ρ⟩ (fun r => ∀ c : Dev nD,
    r.2.mem ((c : Thread nD τ).loc main_v30) = (fun j => MixOut.kept (YA0 m c) (YA m c) (j 0) (j 1))
    ∧ r.2.mem ((c : Thread nD τ).loc main_v33) = (fun j => MixOut.kept (YC0 m c) (YC m c) (j 0) (j 1))
    ∧ r.2.mem ((c : Thread nD τ).loc main_v36) = (fun j => MixOut.kept (MG0 m c) (MG m c) (j 0) (j 1))
    ∧ r.2.mem ((c : Thread nD τ).loc main_v39) = (fun j => MixOut.kept (X10 m c) (X1 m c) (j 0) (j 1))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12)) := by
  refine (θ_run defs _ _).mono (fun r h c => ⟨(h c).1.trans ?_, (h c).2.1.trans ?_, (h c).2.2.1.trans ?_, (h c).2.2.2.1.trans ?_, (h c).2.2.2.2⟩) (Value.run (F := Ideal) m ρ) <;> clear h
  · funext j
    obtain ⟨t, d, rfl⟩ : ∃ (t : Fin 2048) (d : Fin 1024), j = ix2 t d := ⟨j 0, j 1, eq_ix2 j⟩
    pointwise
    show _ = MixOut.kept (YA0 m c) (YA m c) t d
    unfold MixOut.kept
    split
    · rfl
    · rename_i h
      have e : 1024 + (t.val - 1024) = t.val := by omega
      simp only [e]
      rfl
  · funext j
    obtain ⟨t, d, rfl⟩ : ∃ (t : Fin 2048) (d : Fin 1024), j = ix2 t d := ⟨j 0, j 1, eq_ix2 j⟩
    pointwise
    show _ = MixOut.kept (YC0 m c) (YC m c) t d
    unfold MixOut.kept
    split
    · rfl
    · rename_i h
      have e : 1024 + (t.val - 1024) = t.val := by omega
      simp only [e]
      rfl
  · funext j
    obtain ⟨t, d, rfl⟩ : ∃ (t : Fin 2048) (d : Fin 1024), j = ix2 t d := ⟨j 0, j 1, eq_ix2 j⟩
    pointwise
    show _ = MixOut.kept (MG0 m c) (MG m c) t d
    unfold MixOut.kept
    split
    · rfl
    · rename_i h
      have e : 1024 + (t.val - 1024) = t.val := by omega
      simp only [e]
      rfl
  · funext j
    obtain ⟨t, d, rfl⟩ : ∃ (t : Fin 2048) (d : Fin 1024), j = ix2 t d := ⟨j 0, j 1, eq_ix2 j⟩
    pointwise
    show _ = MixOut.kept (X10 m c) (X1 m c) t d
    unfold MixOut.kept
    split
    · rfl
    · rename_i h
      have e : 1024 + (t.val - 1024) = t.val := by omega
      simp only [e]
      rfl

end Reference

theorem algebraic : Cert.algebraic_MixOutSecondKernelIdeal_MixOutSecondReferenceIdeal := by
  intro m g m' g' _ hargs
  refine ⟨fun c => (MixOutSecondKernelIdeal.Gen.dats m 0 c).arrAt 9 MixOutSecondKernelIdeal.cfg0.N, fun c => (MixOutSecondKernelIdeal.Gen.dats m 0 c).arrAt 10 MixOutSecondKernelIdeal.cfg0.N, fun c => (MixOutSecondKernelIdeal.Gen.dats m 0 c).arrAt 11 MixOutSecondKernelIdeal.cfg0.N, fun c => (MixOutSecondKernelIdeal.Gen.dats m 0 c).arrAt 12 MixOutSecondKernelIdeal.cfg0.N, ?_, ?_⟩
  · exact MixOutSecondKernelIdeal.Value.run_blocks m g
  · refine (θ_run MixOutSecondReferenceIdeal.defs _ _).mono (fun r h c => ?_) (run_entries m' g')
    obtain ⟨r9, r10, r11, r12, ra⟩ := h c
    obtain ⟨a0, a1, a2, a3, a4, a5, a6, a7, -, a9, a10, a11, a12⟩ := hargs c
    have eX : X m' c = MixOutSecondKernelIdeal.Entries.X m c := funext₂ fun t d => congrFun a0 _
    have eO : O m' c = MixOutSecondKernelIdeal.Entries.O m c := funext₂ fun t d => congrFun a1 _
    have eC : C m' c = MixOutSecondKernelIdeal.Entries.C m c := funext₂ fun t d => congrFun a2 _
    have eG0 : G0 m' c = MixOutSecondKernelIdeal.Entries.G0 m c := funext₂ fun t d => congrFun a3 _
    have eG1 : G1 m' c = MixOutSecondKernelIdeal.Entries.G1 m c := funext₂ fun t d => congrFun a3 _
    have eWA : WA m' c = MixOutSecondKernelIdeal.Entries.WA m c := funext₂ fun t d => congrFun a4 _
    have eWC : WC m' c = MixOutSecondKernelIdeal.Entries.WC m c := funext₂ fun t d => congrFun a5 _
    have eB : B m' c = MixOutSecondKernelIdeal.Entries.B m c := funext fun t => congrFun a6 _
    have eWO : WO m' c = MixOutSecondKernelIdeal.Entries.WO m c := funext₂ fun t d => congrFun a7 _
    have eYA0 : YA0 m' c = MixOutSecondKernelIdeal.Entries.YA0 m c := funext₂ fun t d => congrFun a9 _
    have eYC0 : YC0 m' c = MixOutSecondKernelIdeal.Entries.YC0 m c := funext₂ fun t d => congrFun a10 _
    have eMG0 : MG0 m' c = MixOutSecondKernelIdeal.Entries.MG0 m c := funext₂ fun t d => congrFun a11 _
    have eX10 : X10 m' c = MixOutSecondKernelIdeal.Entries.X10 m c := funext₂ fun t d => congrFun a12 _
    have eYA : YA m' c = MixOutSecondKernelIdeal.Entries.YA m c := by unfold YA MixOutSecondKernelIdeal.Entries.YA; rw [eO, eWA]
    have eYC : YC m' c = MixOutSecondKernelIdeal.Entries.YC m c := by unfold YC MixOutSecondKernelIdeal.Entries.YC; rw [eC, eWC, eB]
    have eMG : MG m' c = MixOutSecondKernelIdeal.Entries.MG m c := by unfold MG MixOutSecondKernelIdeal.Entries.MG; rw [eG0, eG1, eYA, eYC]
    have eX1 : X1 m' c = MixOutSecondKernelIdeal.Entries.X1 m c := by unfold X1 MixOutSecondKernelIdeal.Entries.X1; rw [eX, eG0, eG1, eYA, eYC, eWO]
    rw [eYA, eYA0] at r9
    rw [eYC, eYC0] at r10
    rw [eMG, eMG0] at r11
    rw [eX1, eX10] at r12
    exact ⟨r9.trans (MixOutSecondKernelIdeal.Entries.final9 m c).symm, r10.trans (MixOutSecondKernelIdeal.Entries.final10 m c).symm, r11.trans (MixOutSecondKernelIdeal.Entries.final11 m c).symm, r12.trans (MixOutSecondKernelIdeal.Entries.final12 m c).symm, ra⟩

/-- The reference's frame: its run changes no argument, and it has no semaphore. -/
theorem frame_reference : Cert.quiescent_MixOutSecondReferenceIdeal := fun m ρ _ =>
  (θ_run Cert.MixOutSecondReferenceIdeal.defs _ _).mono (fun r h => ⟨fun c => (h c).2.2.2.2,
      Idealize.ShloMosaic.sem_eq_zero_of_no_sems (by decide) r.2⟩)
    (Cert.MixOutSecondReferenceIdeal.Value.run (F := Ideal) m ρ)

end Cert.MixOutSecond

end
-- ==== Proof.Attention.lean ====
module

/-
A row of attention with a sink over the extended reals: scores `s`, of which a masked one is `⊥`, the sink's score `z`,
values `v`. The row is the values' mean weighted by `exp (s k - M)`, where `M` is the greatest score and the sink's weight
counts in the mass only. A masked key weighs nothing, so its value does not matter, and neither does the keys' order. The
sink may as well stand behind the scores as one more key whose weight is then dropped.
-/
public import Mathlib.Data.EReal.Operations
public import Mathlib.Algebra.BigOperators.Fin
public import Idealize.ShloMosaic.PureOps.Ideal
public import proofs.«01_k».proof.Proof.Norm

@[expose] public section

noncomputable section

namespace Cert.Attention
open Idealize.ShloMosaic Cert.Norm

/-- The greatest of the scores and the sink's. -/
def top {n : ℕ} (s : Fin n → EReal) (z : EReal) : EReal := max (Finset.univ.fold max ⊥ s) z

/-- A key's weight, -/
def weight {n : ℕ} (s : Fin n → EReal) (z : EReal) (k : Fin n) : EReal := Ideal.exp (s k - top s z)

/-- all the weights with the sink's, -/
def mass {n : ℕ} (s : Fin n → EReal) (z : EReal) : EReal := ∑ k, weight s z k + Ideal.exp (z - top s z)

/-- and the weighted mean of the values. -/
def att {n : ℕ} (s : Fin n → EReal) (z : EReal) (v : Fin n → EReal) : EReal :=
  ∑ k, weight s z k * Ideal.div 1 (mass s z) * v k

theorem exp_nonneg (x : EReal) : 0 ≤ Ideal.exp x := by
  induction x with
  | bot => exact le_refl _
  | top => exact le_top
  | coe r => exact EReal.coe_nonneg.2 (Real.exp_pos r).le

theorem weight_bot {n : ℕ} {s : Fin n → EReal} {z : EReal} {k : Fin n} (h : s k = ⊥) : weight s z k = 0 := by
  rw [weight, h, sub_eq_add_neg, EReal.bot_add, Ideal.exp_bot]

theorem top_perm {n : ℕ} (σ : Equiv.Perm (Fin n)) (s : Fin n → EReal) (z : EReal) : top (s ∘ σ) z = top s z := by
  unfold top
  congr 1
  conv_rhs => rw [← Finset.univ_map_equiv_to_embedding σ, Finset.fold_map]
  rfl

/-- The order of the keys, and a masked key's value, do not matter. -/
theorem att_perm {n : ℕ} (σ : Equiv.Perm (Fin n)) {s s' v v' : Fin n → EReal} (z : EReal) (hs : ∀ k, s k = s' (σ k))
    (hv : ∀ k, s k = ⊥ ∨ v k = v' (σ k)) : att s z v = att s' z v' := by
  obtain rfl : s = s' ∘ σ := funext hs
  have hw : ∀ k, weight (s' ∘ σ) z k = weight s' z (σ k) := fun k => by rw [weight, top_perm]; rfl
  have hm : mass (s' ∘ σ) z = mass s' z := by
    rw [mass, mass, top_perm]
    congr 1
    simp only [hw]
    exact Equiv.sum_comp σ (weight s' z)
  unfold att
  rw [hm, ← Equiv.sum_comp σ fun k => weight s' z k * Ideal.div 1 (mass s' z) * v' k]
  refine Finset.sum_congr rfl fun k _ => ?_
  rcases hv k with h | h
  · rw [weight_bot h, ← hw, weight_bot h]; simp only [zero_mul]
  · rw [hw, h]

/-- Where no score is `⊤` and the sink's is a real number, the mass is not zero. -/
theorem mass_ne_zero {n : ℕ} {s : Fin n → EReal} {z : EReal} (hs : ∀ k, s k ≠ ⊤) (hz : Finite z) : mass s z ≠ 0 := by
  obtain ⟨a, rfl⟩ := hz
  have ht : top s a < ⊤ := max_lt ((Finset.fold_max_lt _).2 ⟨bot_lt_top, fun k _ => lt_top_iff_ne_top.2 (hs k)⟩) (EReal.coe_lt_top a)
  have hb : ⊥ < top s a := lt_max_of_lt_right (EReal.bot_lt_coe a)
  obtain ⟨b, hb⟩ : ∃ b : ℝ, top s a = b := ⟨(top s a).toReal, (EReal.coe_toReal ht.ne hb.ne').symm⟩
  refine (lt_of_lt_of_le ?_ (le_add_of_nonneg_left (Finset.sum_nonneg fun k _ => exp_nonneg _))).ne'
  rw [hb, ← EReal.coe_sub, Ideal.exp_coe]
  exact EReal.coe_pos.2 (Real.exp_pos _)

theorem div_eq {x y : EReal} (h : y ≠ 0) : Ideal.div x y = x * Ideal.div 1 y := by
  rw [Ideal.div, Ideal.div, if_neg h, if_neg h, one_mul]

theorem top_behind {n : ℕ} (t : Fin (n + 1) → EReal) :
    max ⊥ (Finset.univ.fold max ⊥ t) = top (fun k : Fin n => t k.castSucc) (t (Fin.last n)) := by
  rw [max_eq_right bot_le, Fin.univ_castSuccEmb, Finset.fold_cons, Finset.fold_map, max_comm]
  rfl

/-- The sink as one more key: the weights over the sum, the last one dropped. -/
theorem att_behind {n : ℕ} (t : Fin (n + 1) → EReal) (v : Fin n → EReal)
    (hm : mass (fun k : Fin n => t k.castSucc) (t (Fin.last n)) ≠ 0) :
    ∑ k : Fin n, v k * Ideal.div (Ideal.exp (t k.castSucc - max ⊥ (Finset.univ.fold max ⊥ t)))
        (∑ i, Ideal.exp (t i - max ⊥ (Finset.univ.fold max ⊥ t)))
      = att (fun k : Fin n => t k.castSucc) (t (Fin.last n)) v := by
  rw [top_behind, Fin.sum_univ_castSucc]
  refine Finset.sum_congr rfl fun k _ => ?_
  rw [mul_comm]
  exact congrArg (· * v k) (div_eq hm)

/-- The score of the key `j` for the row `r` of head `h`: the scaled product, masked outside the 128 positions up to the
row's own. -/
def score (A : Fin 2048 → Fin 768 → EReal) (r : Fin 2048) (h : Fin 8) (j : ℕ) : EReal :=
  if hj : j < 2048 ∧ j ≤ r.val ∧ r.val < j + 128 then
    (∑ e : Fin 64, A r ⟨64 * h.val + e.val, by omega⟩ * A ⟨j, hj.1⟩ ⟨512 + 64 * (h.val / 4) + e.val, by omega⟩)
      * Ideal.ofBits .f32 0x3E000000#32
  else ⊥

/-- An entry of the value of the key `j`. -/
def value (A : Fin 2048 → Fin 768 → EReal) (h : Fin 8) (e : Fin 64) (j : ℕ) : EReal :=
  if hj : j < 2048 then A ⟨j, hj⟩ ⟨640 + 64 * (h.val / 4) + e.val, by omega⟩ else 0

/-- The attention's entry: the keys of the row's block of 128 and of the block before it; the first block's rows see the
first two. -/
def attended (A : Fin 2048 → Fin 768 → EReal) (Z : Fin 8 → EReal) (r : Fin 2048) (h : Fin 8) (e : Fin 64) : EReal :=
  att (fun k : Fin 256 => score A r h (128 * (r.val / 128 - 1) + k.val)) (Z h)
    fun k : Fin 256 => value A h e (128 * (r.val / 128 - 1) + k.val)

/-- The same with the block before the first one read as masked keys. -/
theorem attended_eq (A : Fin 2048 → Fin 768 → EReal) (Z : Fin 8 → EReal) (r : Fin 2048) (h : Fin 8) (e : Fin 64)
    {s v : Fin 256 → EReal}
    (hs : ∀ k : Fin 256, s k = if 128 ≤ 128 * (r.val / 128) + k.val then score A r h (128 * (r.val / 128) + k.val - 128) else ⊥)
    (hv : ∀ k : Fin 256, 128 ≤ 128 * (r.val / 128) + k.val → v k = value A h e (128 * (r.val / 128) + k.val - 128)) :
    att s (Z h) v = attended A Z r h e := by
  symm
  by_cases hb : r.val / 128 = 0
  · refine att_perm (Equiv.addRight (128 : Fin 256)) _ (fun k => ?_) fun k => ?_
    · have hk : ((Equiv.addRight (128 : Fin 256)) k).val = (k.val + 128) % 256 := rfl
      rw [hs, hk, hb]
      by_cases hk' : k.val < 128
      · rw [if_pos (by omega)]; congr 1; omega
      · rw [if_neg (by omega), score, dif_neg (by omega)]
    · have hk : ((Equiv.addRight (128 : Fin 256)) k).val = (k.val + 128) % 256 := rfl
      by_cases hk' : k.val < 128
      · right; rw [hv _ (by rw [hk]; omega), hk, hb]; congr 1; omega
      · left; rw [score, dif_neg (by omega)]
  · refine att_perm (Equiv.refl _) _ (fun k => ?_) fun k => Or.inr ?_
    · rw [hs, Equiv.refl_apply, if_pos (by omega)]; congr 1; omega
    · rw [Equiv.refl_apply, hv _ (by omega)]; congr 1; omega

theorem score_ne_top {A : Fin 2048 → Fin 768 → EReal} (hA : ∀ r j, Finite (A r j)) (r : Fin 2048) (h : Fin 8) (j : ℕ) :
    score A r h j ≠ ⊤ := by
  unfold score
  split
  · obtain ⟨a, ha⟩ : Finite (Ideal.ofBits .f32 0x3E000000#32) := ⟨_, by simp [Ideal.ofBits, Ideal.ieee, -EReal.coe_mul]; rfl⟩
    obtain ⟨b, hb⟩ := (Finite.sum fun e => (hA r _).mul (hA ⟨j, _⟩ _)).mul ⟨a, ha⟩
    rw [hb]
    exact EReal.coe_ne_top b
  · exact bot_ne_top

end Cert.Attention

end
-- ==== Proof.AttnFwd.Scores.lean ====
module

/-
The scores of the forward attention's kernel: its products of the rows with the keys, as its scratch holds them.
-/
public import proofs.«01_k».proof.Proof.Attention
public import proofs.«01_k».proof.Proof.Gen.AttnFwdKernelIdeal.Value
public import Idealize.ShloMosaic.Lib.Pointwise
public import Idealize.ShloMosaic.Lib.WholeRead
public import Idealize.ShloMosaic.Lib.Pipeline.ValueKit

@[expose] public section

set_option maxRecDepth 16384

noncomputable section

namespace Cert.AttnFwdKernelIdeal.Entries
open Cert.AttnFwdKernelIdeal Cert.AttnFwdKernelIdeal.Gen Cert.Attention
open Idealize.ShloMosaic Idealize.ShloMosaic.TcCoe Idealize.ShloMosaic.Tactic
open Idealize.ShloMosaic.StableHlo

theorem points (t : Fin cfg0.N) : t.val < 8 := lt_of_lt_of_eq t.isLt (show cfg0.N = 8 from N_0)

/-- Where the loads of the rows and of the keys begin. -/
theorem off1 (t : Fin cfg0.N) : k0_off1 (grid0.coords t) 0#32 = ![128 * (2 * t.val + 0 - 1), 512] ∧ k0_off1 (grid0.coords t) 1#32 = ![128 * (2 * t.val + 1 - 1), 512] := by
  revert t
  decide +kernel

theorem off2 (t : Fin cfg0.N) : k0_off2 (grid0.coords t) 0#32 = ![128 * (2 * t.val + 0), 0] ∧ k0_off2 (grid0.coords t) 1#32 = ![128 * (2 * t.val + 1), 0] := by
  revert t
  decide +kernel

theorem off3 (t : Fin cfg0.N) : k0_off3 (grid0.coords t) 0#32 = ![128 * (2 * t.val + 0), 64] ∧ k0_off3 (grid0.coords t) 1#32 = ![128 * (2 * t.val + 1), 64] := by
  revert t
  decide +kernel

theorem off4 (t : Fin cfg0.N) : k0_off4 (grid0.coords t) 0#32 = ![128 * (2 * t.val + 0), 128] ∧ k0_off4 (grid0.coords t) 1#32 = ![128 * (2 * t.val + 1), 128] := by
  revert t
  decide +kernel

theorem off5 (t : Fin cfg0.N) : k0_off5 (grid0.coords t) 0#32 = ![128 * (2 * t.val + 0), 192] ∧ k0_off5 (grid0.coords t) 1#32 = ![128 * (2 * t.val + 1), 192] := by
  revert t
  decide +kernel

theorem off6 (t : Fin cfg0.N) : k0_off6 (grid0.coords t) 0#32 = ![128 * (2 * t.val + 0 - 1), 576] ∧ k0_off6 (grid0.coords t) 1#32 = ![128 * (2 * t.val + 1 - 1), 576] := by
  revert t
  decide +kernel

theorem off7 (t : Fin cfg0.N) : k0_off7 (grid0.coords t) 0#32 = ![128 * (2 * t.val + 0), 256] ∧ k0_off7 (grid0.coords t) 1#32 = ![128 * (2 * t.val + 1), 256] := by
  revert t
  decide +kernel

theorem off8 (t : Fin cfg0.N) : k0_off8 (grid0.coords t) 0#32 = ![128 * (2 * t.val + 0), 320] ∧ k0_off8 (grid0.coords t) 1#32 = ![128 * (2 * t.val + 1), 320] := by
  revert t
  decide +kernel

theorem off9 (t : Fin cfg0.N) : k0_off9 (grid0.coords t) 0#32 = ![128 * (2 * t.val + 0), 384] ∧ k0_off9 (grid0.coords t) 1#32 = ![128 * (2 * t.val + 1), 384] := by
  revert t
  decide +kernel

theorem off10 (t : Fin cfg0.N) : k0_off10 (grid0.coords t) 0#32 = ![128 * (2 * t.val + 0), 448] ∧ k0_off10 (grid0.coords t) 1#32 = ![128 * (2 * t.val + 1), 448] := by
  revert t
  decide +kernel

theorem off11 (t : Fin cfg0.N) : k0_off11 (grid0.coords t) 0#32 = ![128 * (2 * t.val + 0 - 1), 640] ∧ k0_off11 (grid0.coords t) 1#32 = ![128 * (2 * t.val + 1 - 1), 640] := by
  revert t
  decide +kernel

theorem off12 (t : Fin cfg0.N) : k0_off12 (grid0.coords t) 0#32 = ![128 * (2 * t.val + 0 - 1), 704] ∧ k0_off12 (grid0.coords t) 1#32 = ![128 * (2 * t.val + 1 - 1), 704] := by
  revert t
  decide +kernel

/-- A load of a band of the projection, -/
abbrev band (t : Fin cfg0.N) (X : S2048x768.Idx → EReal) (n : ℕ) (o : Fin S2048x768.rank → ℕ)
    (hb : ∀ x, o x + (![n, 64] : Fin S2048x768.rank → ℕ) x ≤ S2048x768.size x) : (⟨2, ![n, 64]⟩ : Shape).Idx → EReal :=
  View.readAt (Elt Ideal) (ms0_1 t).view (Rect.unit (s := S2048x768) o ![n, 64] hb).toLoadRect ((hs0_1 t).unread X)

/-- entry by entry. -/
theorem load_at {n : ℕ} (t : Fin cfg0.N) (X : S2048x768.Idx → EReal) {o : Fin S2048x768.rank → ℕ} {r0 c0 : ℕ} (ho : o = ![r0, c0])
    (hb : ∀ x, o x + (![n, 64] : Fin S2048x768.rank → ℕ) x ≤ S2048x768.size x) (i : Fin n) (e : Fin 64) (r : Fin 2048) (d : Fin 768)
    (hr : r.val = r0 + i.val) (hd : d.val = c0 + e.val) :
    band t X n o hb (ix2 i e) = X (ix2 r d) := by
  subst ho
  refine (Memref.IsWhole.readAt_unread (Val := Elt Ideal) (hs0_1 t) X _ _).trans (congrArg X (funext fun x => Fin.ext ?_))
  match x with
  | ⟨0, _⟩ => exact (hr.trans (congrArg (r0 + ·) (one_mul _).symm)).symm
  | ⟨1, _⟩ => exact (hd.trans (congrArg (c0 + ·) (one_mul _).symm)).symm

/-- A score's product: the row `i` of the slot `n` with its key `k`. A slot has one half of the block of rows and one of
the two groups of heads; its rows are those of the four heads one after the other. -/
def raw (X : S2048x768.Idx → EReal) (t : Fin cfg0.N) (n : Fin 4) (i : Fin 512) (k : Fin 256) : EReal :=
  ∑ e : Fin 64, X (ix2 ⟨128 * (2 * t.val + n.val / 2) + i.val % 128, by have := points t; omega⟩
      ⟨64 * (4 * (n.val % 2) + i.val / 128) + e.val, by omega⟩)
    * X (ix2 ⟨128 * (2 * t.val + n.val / 2 - 1) + k.val, by have := points t; omega⟩
      ⟨512 + 64 * (n.val % 2) + e.val, by omega⟩)

theorem raw_tile (t : Fin cfg0.N) (X : S2048x768.Idx → EReal) {o p : Fin S2048x768.rank → ℕ} {r0 c0 r1 c1 : ℕ} (ho : o = ![r0, c0])
    (hp : p = ![r1, c1]) (hb : ∀ x, o x + (![128, 64] : Fin S2048x768.rank → ℕ) x ≤ S2048x768.size x)
    (hb' : ∀ x, p x + (![256, 64] : Fin S2048x768.rank → ℕ) x ≤ S2048x768.size x) (a : Fin 128) (b : Fin 256) (n : Fin 4) (i : Fin 512)
    (k : Fin 256) (e0 : r0 + a.val = 128 * (2 * t.val + n.val / 2) + i.val % 128)
    (e1 : c0 = 64 * (4 * (n.val % 2) + i.val / 128)) (e2 : r1 + b.val = 128 * (2 * t.val + n.val / 2 - 1) + k.val)
    (e3 : c1 = 512 + 64 * (n.val % 2)) :
    ∑ x : Fin 64, band t X 128 o hb (ix2 a x) * band t X 256 p hb' (ix2 b x)
      = raw X t n i k := by
  refine Finset.sum_congr rfl fun x _ => ?_
  have := points t
  exact congrArg₂ (· * ·) (load_at t X ho hb a x ⟨128 * (2 * t.val + n.val / 2) + i.val % 128, by omega⟩
      ⟨64 * (4 * (n.val % 2) + i.val / 128) + x.val, by omega⟩ e0.symm (by rw [e1]))
    (load_at t X hp hb' b x ⟨128 * (2 * t.val + n.val / 2 - 1) + k.val, by omega⟩
      ⟨512 + 64 * (n.val % 2) + x.val, by omega⟩ e2.symm (by rw [e3]))

set_option maxHeartbeats 1000000 in
/-- The scratch's scores, one store for each half, group and head. -/
theorem scores_at (c : Dev nD) (t : Fin cfg0.N) (X : S2048x768.Idx → EReal) (n : Fin 4) (i : Fin 512) (k : Fin 256) :
    View.canon (kernelRun0_A.sl.HS0_16 (F := Ideal) c (grid0.coords t) (ms0_1 t) (hs0_1 t) X) (ix3 n i k) = raw X t n i k := by
  unfold kernelRun0_A.sl.HS0_16
  canon_tiles z h
  all_goals
    unfold_payloads
    pointwise
    change n.val = _ at h0
    change i.val = _ at h1
    change k.val = _ at h2
  · exact raw_tile t X (off10 t).2 (off6 t).2 _ _ (z 1) (z 2) n i k (by omega) (by omega) (by omega) (by omega)
  · exact raw_tile t X (off9 t).2 (off6 t).2 _ _ (z 1) (z 2) n i k (by omega) (by omega) (by omega) (by omega)
  · exact raw_tile t X (off8 t).2 (off6 t).2 _ _ (z 1) (z 2) n i k (by omega) (by omega) (by omega) (by omega)
  · exact raw_tile t X (off7 t).2 (off6 t).2 _ _ (z 1) (z 2) n i k (by omega) (by omega) (by omega) (by omega)
  · exact raw_tile t X (off5 t).2 (off1 t).2 _ _ (z 1) (z 2) n i k (by omega) (by omega) (by omega) (by omega)
  · exact raw_tile t X (off4 t).2 (off1 t).2 _ _ (z 1) (z 2) n i k (by omega) (by omega) (by omega) (by omega)
  · exact raw_tile t X (off3 t).2 (off1 t).2 _ _ (z 1) (z 2) n i k (by omega) (by omega) (by omega) (by omega)
  · exact raw_tile t X (off2 t).2 (off1 t).2 _ _ (z 1) (z 2) n i k (by omega) (by omega) (by omega) (by omega)
  · exact raw_tile t X (off10 t).1 (off6 t).1 _ _ (z 1) (z 2) n i k (by omega) (by omega) (by omega) (by omega)
  · exact raw_tile t X (off9 t).1 (off6 t).1 _ _ (z 1) (z 2) n i k (by omega) (by omega) (by omega) (by omega)
  · exact raw_tile t X (off8 t).1 (off6 t).1 _ _ (z 1) (z 2) n i k (by omega) (by omega) (by omega) (by omega)
  · exact raw_tile t X (off7 t).1 (off6 t).1 _ _ (z 1) (z 2) n i k (by omega) (by omega) (by omega) (by omega)
  · exact raw_tile t X (off5 t).1 (off1 t).1 _ _ (z 1) (z 2) n i k (by omega) (by omega) (by omega) (by omega)
  · exact raw_tile t X (off4 t).1 (off1 t).1 _ _ (z 1) (z 2) n i k (by omega) (by omega) (by omega) (by omega)
  · exact raw_tile t X (off3 t).1 (off1 t).1 _ _ (z 1) (z 2) n i k (by omega) (by omega) (by omega) (by omega)
  · exact raw_tile t X (off2 t).1 (off1 t).1 _ _ (z 1) (z 2) n i k (by omega) (by omega) (by omega) (by omega)
end Cert.AttnFwdKernelIdeal.Entries
end
-- ==== Proof.AttnFwd.Probs.lean ====
module

/-
The probabilities of the forward attention's kernel: each slot's masked scores under the softmax with the sink, as the kernel
keeps them for its second products.
-/
public import proofs.«01_k».proof.Proof.AttnFwd.Scores

@[expose] public section

set_option maxRecDepth 16384

noncomputable section

namespace Cert.AttnFwdKernelIdeal.Entries
open Cert.AttnFwdKernelIdeal Cert.AttnFwdKernelIdeal.Gen Cert.Attention
open Idealize.ShloMosaic Idealize.ShloMosaic.TcCoe Idealize.ShloMosaic.Tactic
open Idealize.ShloMosaic.StableHlo

/-- A masked score, -/
def kept (M : IVec S512x256 1) (S : FVec Ideal S1x512x256 .f32) (i : Fin 512) (k : Fin 256) : EReal :=
  Scalar.select (M (ix2 i k)) (S (ix3 0 i k) * Ideal.ofBits .f32 0x3E000000#32) ⊥

/-- the sink of the row's head, -/
def sinkOf (z0 z1 z2 z3 : EReal) (i : Fin 512) : EReal :=
  Scalar.select (IntOp.cmpi .eq (IntOp.shrui .vector (BitVec.ofNat 32 i.val) 7#32) 3#32) z3
    (Scalar.select (IntOp.cmpi .eq (IntOp.shrui .vector (BitVec.ofNat 32 i.val) 7#32) 2#32) z2
      (Scalar.select (IntOp.cmpi .eq (IntOp.shrui .vector (BitVec.ofNat 32 i.val) 7#32) 1#32) z1 z0))

/-- and the probability. -/
theorem prob_at (M : IVec S512x256 1) (S : FVec Ideal S1x512x256 .f32) (z0 z1 z2 z3 : EReal) (i : Fin 512) (k : Fin 256) :
    k0_pay26 (F := Ideal) (k0_pay21 M S) z0 z1 z2 z3 (ix3 0 i k)
      = weight (kept M S i) (sinkOf z0 z1 z2 z3 i) k * Ideal.div 1 (mass (kept M S i) (sinkOf z0 z1 z2 z3 i)) := by
  unfold_payloads
  pointwise
  have hbot : Ideal.ofBits .f32 0xFF800000#32 = (⊥ : EReal) := by simp [Ideal.ofBits, Ideal.ieee]
  have hmask : Named.named (F := Ideal) (φ := .f32) κ "mask" 0xF149F2CA#32 = (⊥ : EReal) := rfl
  rw [hbot, hmask]
  rfl

/-- The row of a slot, and its head. -/
abbrev row (t : Fin cfg0.N) (n : Fin 4) (i : Fin 512) : Fin 2048 :=
  ⟨128 * (2 * t.val + n.val / 2) + i.val % 128, by have := points t; omega⟩

abbrev head (n : Fin 4) (i : Fin 512) : Fin 8 := ⟨4 * (n.val % 2) + i.val / 128, by omega⟩

theorem sinkOf_eq (Z : S1x8.Idx → EReal) (n : Fin 4) (i : Fin 512) :
    sinkOf (Z (ix2 0 ⟨4 * (n.val % 2), by omega⟩)) (Z (ix2 0 ⟨4 * (n.val % 2) + 1, by omega⟩))
      (Z (ix2 0 ⟨4 * (n.val % 2) + 2, by omega⟩)) (Z (ix2 0 ⟨4 * (n.val % 2) + 3, by omega⟩)) i = Z (ix2 0 (head n i)) := by
  have h : ∀ i : Fin 512, IntOp.shrui .vector (BitVec.ofNat 32 i.val) 7#32 = BitVec.ofNat 32 (i.val / 128) := by decide +kernel
  unfold sinkOf head
  rw [h]
  have key : ∀ (u : ℕ) (hu : u < 4),
      Scalar.select (IntOp.cmpi .eq (BitVec.ofNat 32 u) 3#32) (Z (ix2 0 ⟨4 * (n.val % 2) + 3, by omega⟩))
        (Scalar.select (IntOp.cmpi .eq (BitVec.ofNat 32 u) 2#32) (Z (ix2 0 ⟨4 * (n.val % 2) + 2, by omega⟩))
          (Scalar.select (IntOp.cmpi .eq (BitVec.ofNat 32 u) 1#32) (Z (ix2 0 ⟨4 * (n.val % 2) + 1, by omega⟩))
            (Z (ix2 0 ⟨4 * (n.val % 2), by omega⟩)))) = Z (ix2 0 ⟨4 * (n.val % 2) + u, by omega⟩) := by
    intro u hu
    have : u = 0 ∨ u = 1 ∨ u = 2 ∨ u = 3 := by omega
    rcases this with rfl | rfl | rfl | rfl <;> rfl
  exact key _ (by omega)

/-- The mask of a half of the block: a key within the 128 positions up to the row's own. -/
def inBand (t : Fin cfg0.N) (s : ℕ) (i : Fin 512) (k : Fin 256) : Prop :=
  128 * (2 * t.val + s - 1) + k.val ≤ 128 * (2 * t.val + s) + i.val % 128
    ∧ 128 * (2 * t.val + s) + i.val % 128 < 128 * (2 * t.val + s - 1) + k.val + 128

instance (t : Fin cfg0.N) (s : ℕ) (i : Fin 512) (k : Fin 256) : Decidable (inBand t s i k) := by
  unfold inBand
  infer_instance

/-- The comparisons of the positions. -/
theorem compare_at (a b : ℕ) (ha : a < 4096) (hb : 128 ≤ b + 128) (hb' : b < 4096) (q k : ℕ) (hq : q < 128) (hk : k < 256) :
    IntOp.andi (IntOp.cmpi .sle (IntOp.addi (BitVec.ofNat 32 a) (BitVec.ofNat 32 k)) (IntOp.addi (BitVec.ofNat 32 b) (BitVec.ofNat 32 q)))
      (IntOp.cmpi .sgt (IntOp.addi (BitVec.ofNat 32 a) (BitVec.ofNat 32 k))
        (IntOp.subi (IntOp.addi (BitVec.ofNat 32 b) (BitVec.ofNat 32 q)) 128#32))
      = if a + k ≤ b + q ∧ b + q < a + k + 128 then 1#1 else 0#1 := by
  have e1 : (BitVec.ofNat 32 a + BitVec.ofNat 32 k).toInt = (a : Int) + k := by
    simp only [BitVec.toInt_eq_toNat_cond, BitVec.toNat_add, BitVec.toNat_ofNat]
    omega
  have e2 : (BitVec.ofNat 32 b + BitVec.ofNat 32 q).toInt = (b : Int) + q := by
    simp only [BitVec.toInt_eq_toNat_cond, BitVec.toNat_add, BitVec.toNat_ofNat]
    omega
  have e3 : (BitVec.ofNat 32 b + BitVec.ofNat 32 q - 128#32).toInt = (b : Int) + q - 128 := by
    simp only [BitVec.toInt_eq_toNat_cond, BitVec.toNat_sub, BitVec.toNat_add, BitVec.toNat_ofNat]
    omega
  simp only [IntOp.andi, IntOp.cmpi, IntOp.subi, IntOp.addi, BitVec.sle, BitVec.slt, e1, e2, e3]
  by_cases h : a + k ≤ b + q ∧ b + q < a + k + 128
  · rw [if_pos h, decide_eq_true (by omega), decide_eq_true (by omega)]
    rfl
  · rw [if_neg h]
    rcases not_and_or.mp h with h1 | h1
    · rw [decide_eq_false (p := (a : Int) + k ≤ (b : Int) + q) (by omega)]
      exact BitVec.zero_and
    · rw [decide_eq_false (p := (b : Int) + q - 128 < (a : Int) + k) (by omega)]
      exact BitVec.and_zero

theorem low7 : ∀ i : Fin 512, IntOp.andi (BitVec.ofNat 32 i.val) 127#32 = BitVec.ofNat 32 (i.val % 128) := by decide +kernel

theorem mask_first (t : Fin cfg0.N) (i : Fin 512) (k : Fin 256) :
    k0_pay3 (grid0.coords t) (ix2 i k) = if inBand t 0 i k then 1#1 else 0#1 := by
  have hA : ∀ t : Fin cfg0.N, Scalar.muli (Scalar.maxsi (Scalar.subi (Scalar.addi (Scalar.muli (BitVec.ofNat 32 (grid0.coords t 0).val)
      2#32) 0#32) 1#32) 0#32) 128#32 = BitVec.ofNat 32 (128 * (2 * t.val + 0 - 1)) := by decide +kernel
  have hB : ∀ t : Fin cfg0.N, Scalar.muli (Scalar.addi (Scalar.muli (BitVec.ofNat 32 (grid0.coords t 0).val) 2#32) 0#32) 128#32
      = BitVec.ofNat 32 (128 * (2 * t.val + 0)) := by decide +kernel
  have ht := points t
  unfold k0_pay3
  pointwise
  rw [hA, hB, low7]
  exact compare_at _ _ (by omega) (by omega) (by omega) _ _ (by omega) k.isLt

theorem mask_second (t : Fin cfg0.N) (i : Fin 512) (k : Fin 256) :
    k0_pay4 (grid0.coords t) (ix2 i k) = if inBand t 1 i k then 1#1 else 0#1 := by
  have hA : ∀ t : Fin cfg0.N, Scalar.muli (Scalar.maxsi (Scalar.subi (Scalar.addi (Scalar.muli (BitVec.ofNat 32 (grid0.coords t 0).val)
      2#32) 1#32) 1#32) 0#32) 128#32 = BitVec.ofNat 32 (128 * (2 * t.val + 1 - 1)) := by decide +kernel
  have hB : ∀ t : Fin cfg0.N, Scalar.muli (Scalar.addi (Scalar.muli (BitVec.ofNat 32 (grid0.coords t 0).val) 2#32) 1#32) 128#32
      = BitVec.ofNat 32 (128 * (2 * t.val + 1)) := by decide +kernel
  have ht := points t
  unfold k0_pay4
  pointwise
  rw [hA, hB, low7]
  exact compare_at _ _ (by omega) (by omega) (by omega) _ _ (by omega) k.isLt

/-- The scores of a slot's row. -/
abbrev scored (X : S2048x768.Idx → EReal) (t : Fin cfg0.N) (n : Fin 4) (i : Fin 512) (k : Fin 256) : EReal :=
  score (fun r j => X (ix2 r j)) (row t n i) (head n i) (128 * ((row t n i).val / 128 - 1) + k.val)

theorem kept_eq (X : S2048x768.Idx → EReal) (t : Fin cfg0.N) (n : Fin 4) (M : IVec S512x256 1) (S : FVec Ideal S1x512x256 .f32)
    (hM : ∀ i k, M (ix2 i k) = if inBand t (n.val / 2) i k then 1#1 else 0#1) (hS : ∀ i k, S (ix3 0 i k) = raw X t n i k)
    (i : Fin 512) : kept M S i = scored X t n i := by
  funext k
  have ht := points t
  have hr : (row t n i).val / 128 = 2 * t.val + n.val / 2 := by
    show (128 * (2 * t.val + n.val / 2) + i.val % 128) / 128 = _
    omega
  have hv : (row t n i).val = 128 * (2 * t.val + n.val / 2) + i.val % 128 := rfl
  unfold kept scored score
  rw [hM, hS, hr]
  by_cases h : inBand t (n.val / 2) i k
  · rw [if_pos h]
    unfold inBand at h
    rw [dif_pos (by omega)]
    refine congrArg (· * _) (Finset.sum_congr rfl fun x _ => congrArg₂ (· * ·) rfl (congrArg X (congrArg₂ ix2 rfl (Fin.ext ?_))))
    show 512 + 64 * (n.val % 2) + x.val = 512 + 64 * ((4 * (n.val % 2) + i.val / 128) / 4) + x.val
    omega
  · rw [if_neg h]
    unfold inBand at h
    rw [dif_neg (by omega)]
    rfl

/-- The probability of a slot's row and key. -/
def share (X : S2048x768.Idx → EReal) (Z : S1x8.Idx → EReal) (t : Fin cfg0.N) (n : Fin 4) (i : Fin 512) (k : Fin 256) : EReal :=
  weight (scored X t n i) (Z (ix2 0 (head n i))) k * Ideal.div 1 (mass (scored X t n i) (Z (ix2 0 (head n i))))

theorem slot_at (X : S2048x768.Idx → EReal) (Z : S1x8.Idx → EReal) (t : Fin cfg0.N) (n : Fin 4) (M : IVec S512x256 1)
    (S : FVec Ideal S1x512x256 .f32) {z0 z1 z2 z3 : EReal}
    (hM : ∀ i k, M (ix2 i k) = if inBand t (n.val / 2) i k then 1#1 else 0#1) (hS : ∀ i k, S (ix3 0 i k) = raw X t n i k)
    (h0 : z0 = Z (ix2 0 ⟨4 * (n.val % 2), by omega⟩)) (h1 : z1 = Z (ix2 0 ⟨4 * (n.val % 2) + 1, by omega⟩))
    (h2 : z2 = Z (ix2 0 ⟨4 * (n.val % 2) + 2, by omega⟩)) (h3 : z3 = Z (ix2 0 ⟨4 * (n.val % 2) + 3, by omega⟩))
    (i : Fin 512) (k : Fin 256) : k0_pay26 (F := Ideal) (k0_pay21 M S) z0 z1 z2 z3 (ix3 0 i k) = share X Z t n i k := by
  subst h0 h1 h2 h3
  rw [prob_at, sinkOf_eq, kept_eq X t n M S hM hS]
  rfl

end Cert.AttnFwdKernelIdeal.Entries
end
-- ==== Proof.AttnFwd.Kernel.lean ====
module

/-
The results of the forward attention's kernel, entry by entry: the probabilities by the values, one store for each half of the
block of rows and each head, and the array the blocks leave.
-/
public import proofs.«01_k».proof.Proof.AttnFwd.Probs

@[expose] public section

set_option maxRecDepth 16384

noncomputable section

namespace Cert.AttnFwdKernelIdeal.Entries
open Cert.AttnFwdKernelIdeal Cert.AttnFwdKernelIdeal.Gen Cert.Attention
open Idealize.ShloMosaic Idealize.ShloMosaic.TcCoe Idealize.ShloMosaic.Tactic
open Idealize.ShloMosaic.StableHlo

/-- A load of one slot of a buffer of four, entry by entry. -/
theorem canon_slot {e : EltTy} (L : List (View.Piece (Elt Ideal) S4x512x256 e)) (n : Fin 4) (o : Fin S4x512x256.rank → ℕ)
    (a : ℕ) (ho : o = ![n.val, a, 0]) (w : ℕ)
    (hb : ∀ x, o x + (![1, w, 256] : Fin S4x512x256.rank → ℕ) x ≤ S4x512x256.size x) (i : Fin w) (k : Fin 256) (i' : Fin 512)
    (hi : i'.val = a + i.val) :
    View.canon L ((Rect.unit (s := S4x512x256) o ![1, w, 256] hb).toLoadRect.idx
      (ix3 0 i k : (⟨3, ![1, w, 256]⟩ : Shape).Idx)) = View.canon L (ix3 n i' k) := by
  subst ho
  refine congrArg (View.canon L) (funext fun x => Fin.ext ?_)
  match x with
  | ⟨0, _⟩ => rfl
  | ⟨1, _⟩ => exact ((congrArg (a + ·) (one_mul _)).trans hi.symm)
  | ⟨2, _⟩ => exact (zero_add _).trans (one_mul _)

/-- A load of one sink. -/
theorem sink_at (t : Fin cfg0.N) (Z : S1x8.Idx → EReal) (u : Fin 8) (o : Fin S1x8.rank → ℕ) (ho : o = ![0, u.val])
    (hb : ∀ x, o x + (S1x1.size : Fin S1x8.rank → ℕ) x ≤ S1x8.size x) (hp) :
    View.readAt (Elt Ideal) (ms0_0 t).view (Rect.unit (s := S1x8) o S1x1.size hb).toLoadRect ((hs0_0 t).unread Z)
      (Shape.Idx.first hp) = Z (ix2 0 u) := by
  subst ho
  refine (Memref.IsWhole.readAt_unread (Val := Elt Ideal) (hs0_0 t) Z _ _).trans (congrArg Z (funext fun x => Fin.ext ?_))
  match x with
  | ⟨0, _⟩ => rfl
  | ⟨1, _⟩ => rfl

theorem slot0_scores (c : Dev nD) (t : Fin cfg0.N) (X : S2048x768.Idx → EReal) (i : Fin 512) (k : Fin 256) :
    kernelRun0_A.sl.v160 (F := Ideal) c (grid0.coords t) (ms0_1 t) (hs0_1 t) scM0_0 X (ix3 0 i k) = raw X t 0 i k := by
  unfold kernelRun0_A.sl.v160
  rw [View.readCov_eq_canon']
  exact (canon_slot _ 0 _ 0 rfl 512 _ i k i (zero_add _).symm).trans (scores_at c t X 0 i k)

theorem slot1_scores (c : Dev nD) (t : Fin cfg0.N) (X : S2048x768.Idx → EReal) (i : Fin 512) (k : Fin 256) :
    kernelRun0_A.sl.v207 (F := Ideal) c (grid0.coords t) (ms0_1 t) (hs0_1 t) scM0_0 X (ix3 0 i k) = raw X t 1 i k := by
  unfold kernelRun0_A.sl.v207
  rw [View.readCov_eq_canon']
  exact (canon_slot _ 1 _ 0 rfl 512 _ i k i (zero_add _).symm).trans (scores_at c t X 1 i k)

theorem slot2_scores (c : Dev nD) (t : Fin cfg0.N) (X : S2048x768.Idx → EReal) (i : Fin 512) (k : Fin 256) :
    kernelRun0_A.sl.v254 (F := Ideal) c (grid0.coords t) (ms0_1 t) (hs0_1 t) scM0_0 X (ix3 0 i k) = raw X t 2 i k := by
  unfold kernelRun0_A.sl.v254
  rw [View.readCov_eq_canon']
  exact (canon_slot _ 2 _ 0 rfl 512 _ i k i (zero_add _).symm).trans (scores_at c t X 2 i k)

theorem slot3_scores (c : Dev nD) (t : Fin cfg0.N) (X : S2048x768.Idx → EReal) (i : Fin 512) (k : Fin 256) :
    kernelRun0_A.sl.v301 (F := Ideal) c (grid0.coords t) (ms0_1 t) (hs0_1 t) scM0_0 X (ix3 0 i k) = raw X t 3 i k := by
  unfold kernelRun0_A.sl.v301
  rw [View.readCov_eq_canon']
  exact (canon_slot _ 3 _ 0 rfl 512 _ i k i (zero_add _).symm).trans (scores_at c t X 3 i k)

set_option maxHeartbeats 1000000 in
/-- The kept probabilities, one store for each slot. -/
theorem probs_at (c : Dev nD) (t : Fin cfg0.N) (Z : S1x8.Idx → EReal) (X : S2048x768.Idx → EReal) (n : Fin 4) (i : Fin 512)
    (k : Fin 256) :
    View.canon (kernelRun0_A.sl.H4_4 (F := Ideal) c (grid0.coords t) (ms0_0 t) (hs0_0 t) (ms0_1 t) (hs0_1 t) scM0_0 Z X)
      (ix3 n i k) = share X Z t n i k := by
  unfold kernelRun0_A.sl.H4_4
  canon_tiles z h
  · have hz : z = ix3 0 i k := funext fun x => Fin.ext (by
      match x with
      | ⟨0, _⟩ => exact Nat.lt_one_iff.1 z0_lt
      | ⟨1, _⟩ => exact h1.symm
      | ⟨2, _⟩ => exact h2.symm)
    obtain rfl : n = 3 := Fin.ext (by change n.val = _ at h0; show n.val = 3; omega)
    rw [hz]
    exact slot_at X Z t 3 (k0_pay4 (grid0.coords t)) _ (mask_second t) (slot3_scores c t X)
      (sink_at t Z 4 _ rfl _ _) (sink_at t Z 5 _ rfl _ _) (sink_at t Z 6 _ rfl _ _) (sink_at t Z 7 _ rfl _ _) i k
  · have hz : z = ix3 0 i k := funext fun x => Fin.ext (by
      match x with
      | ⟨0, _⟩ => exact Nat.lt_one_iff.1 z0_lt
      | ⟨1, _⟩ => exact h1.symm
      | ⟨2, _⟩ => exact h2.symm)
    obtain rfl : n = 2 := Fin.ext (by change n.val = _ at h0; show n.val = 2; omega)
    rw [hz]
    exact slot_at X Z t 2 (k0_pay4 (grid0.coords t)) _ (mask_second t) (slot2_scores c t X)
      (sink_at t Z 0 _ rfl _ _) (sink_at t Z 1 _ rfl _ _) (sink_at t Z 2 _ rfl _ _) (sink_at t Z 3 _ rfl _ _) i k
  · have hz : z = ix3 0 i k := funext fun x => Fin.ext (by
      match x with
      | ⟨0, _⟩ => exact Nat.lt_one_iff.1 z0_lt
      | ⟨1, _⟩ => exact h1.symm
      | ⟨2, _⟩ => exact h2.symm)
    obtain rfl : n = 1 := Fin.ext (by change n.val = _ at h0; show n.val = 1; omega)
    rw [hz]
    exact slot_at X Z t 1 (k0_pay3 (grid0.coords t)) _ (mask_first t) (slot1_scores c t X)
      (sink_at t Z 4 _ rfl _ _) (sink_at t Z 5 _ rfl _ _) (sink_at t Z 6 _ rfl _ _) (sink_at t Z 7 _ rfl _ _) i k
  · have hz : z = ix3 0 i k := funext fun x => Fin.ext (by
      match x with
      | ⟨0, _⟩ => exact Nat.lt_one_iff.1 z0_lt
      | ⟨1, _⟩ => exact h1.symm
      | ⟨2, _⟩ => exact h2.symm)
    obtain rfl : n = 0 := Fin.ext (by change n.val = _ at h0; show n.val = 0; omega)
    rw [hz]
    exact slot_at X Z t 0 (k0_pay3 (grid0.coords t)) _ (mask_first t) (slot0_scores c t X)
      (sink_at t Z 0 _ rfl _ _) (sink_at t Z 1 _ rfl _ _) (sink_at t Z 2 _ rfl _ _) (sink_at t Z 3 _ rfl _ _) i k

variable (m : (ℓ : Loc nD τ sig) → Buf (Elt Ideal) ℓ)

/-- The projection's and the sinks' entries, as launched. -/
abbrev A (c : Dev nD) (r : Fin 2048) (j : Fin 768) : EReal := m ((c : Thread nD τ).loc main_arg0) (ix2 r j)
abbrev Z (c : Dev nD) (h : Fin 8) : EReal := m ((c : Thread nD τ).loc main_arg1) (ix2 0 h)

/-- Where the windows' blocks lie, decided over the grid. -/
theorem idx : ∀ t : Fin cfg0.N, win0_0.index t = ![0, 0] ∧ win0_1.index t = ![0, 0] ∧ win0_2.index t = ![t.val, 0] := by
  decide +kernel

theorem blk_z (c : Dev nD) (t : Fin cfg0.N) (h : Fin 8) : iblk m c 0 t (ix2 0 h) = Z m c h := by
  refine Eq.trans (?_ : _ = V m c main_arg1 (ix2 0 h)) (by rw [V_main_arg1])
  blk_ext [iblk, idx t]

theorem blk_a (c : Dev nD) (t : Fin cfg0.N) (r : Fin 2048) (j : Fin 768) : iblk m c 1 t (ix2 r j) = A m c r j := by
  refine Eq.trans (?_ : _ = V m c main_arg0 (ix2 r j)) (by rw [V_main_arg0])
  blk_ext [iblk, idx t]

/-- A store's product: the probabilities by the values. -/
theorem att_tile (t : Fin cfg0.N) (X : S2048x768.Idx → EReal) (Z : S1x8.Idx → EReal) (n : Fin 4) (i : Fin 512) (e : Fin 64)
    (r : Fin 2048) (h : Fin 8) (hr : r.val = (row t n i).val) (hh : h.val = (head n i).val) {f g : Fin 256 → EReal}
    (hf : ∀ k, f k = share X Z t n i k)
    (hg : ∀ k : Fin 256, g k = X (ix2 ⟨128 * (2 * t.val + n.val / 2 - 1) + k.val, by have := points t; omega⟩
      ⟨640 + 64 * (n.val % 2) + e.val, by omega⟩)) :
    (∑ k : Fin 256, f k * g k : EReal) = attended (fun r j => X (ix2 r j)) (fun h => Z (ix2 0 h)) r h e := by
  obtain rfl : r = row t n i := Fin.ext hr
  obtain rfl : h = head n i := Fin.ext hh
  have ht := points t
  unfold attended att
  refine Finset.sum_congr rfl fun k _ => ?_
  rw [hf, hg]
  refine congrArg₂ (· * ·) rfl ?_
  unfold value
  have hd : (row t n i).val / 128 = 2 * t.val + n.val / 2 := by
    show (128 * (2 * t.val + n.val / 2) + i.val % 128) / 128 = _
    omega
  rw [hd]
  beta_reduce
  rw [dif_pos (by omega)]
  refine congrArg X (congrArg₂ ix2 rfl (Fin.ext ?_))
  show 640 + 64 * (n.val % 2) + e.val = 640 + 64 * ((4 * (n.val % 2) + i.val / 128) / 4) + e.val
  omega

/-- A load of the kept probabilities. -/
theorem probs_load (c : Dev nD) (t : Fin cfg0.N) (Z : S1x8.Idx → EReal) (X : S2048x768.Idx → EReal) (n : Fin 4)
    (o : Fin S4x512x256.rank → ℕ) (a : ℕ) (ho : o = ![n.val, a, 0])
    (hb : ∀ x, o x + (![1, 128, 256] : Fin S4x512x256.rank → ℕ) x ≤ S4x512x256.size x) (i : Fin 128) (k : Fin 256) (i' : Fin 512)
    (hi : i'.val = a + i.val) :
    (ms0_4 t).view.readCov (kernelRun0_A.sl.H4_4 (F := Ideal) c (grid0.coords t) (ms0_0 t) (hs0_0 t) (ms0_1 t) (hs0_1 t) scM0_0 Z X)
      (Rect.unit (s := S4x512x256) o ![1, 128, 256] hb).toLoadRect (ix3 0 i k : (⟨3, ![1, 128, 256]⟩ : Shape).Idx)
      = share X Z t n i' k := by
  rw [View.readCov_eq_canon']
  exact (canon_slot _ n o a ho 128 hb i k i' hi).trans (probs_at c t Z X n i' k)

set_option maxHeartbeats 2000000 in
/-- The block's entries. -/
theorem out2 (c : Dev nD) (t : Fin cfg0.N) (Z : S1x8.Idx → EReal) (X : S2048x768.Idx → EReal) (p : Fin 256) (d : Fin 512)
    (r : Fin 2048) (h : Fin 8) (e : Fin 64) (hr : r.val = 256 * t.val + p.val) (hd : d.val = 64 * h.val + e.val) :
    out0_A_2 (F := Ideal) c (grid0.coords t) (ms0_0 t) (hs0_0 t) (ms0_1 t) (hs0_1 t) (ms0_2 t) (hs0_2 t) (ms0_3 t) (hs0_3 t) (ms0_4 t)
      (hs0_4 t) scM0_0 (Memref.isWhole_whole _) Z X (ix2 p d)
      = attended (fun r j => X (ix2 r j)) (fun h => Z (ix2 0 h)) r h e := by
  unfold out0_A_2
  rw [View.read_writes_junk_eq_canon]
  unfold kernelRun0_A
  dsimp only
  unfold kernelRun0_A.sl.r_22 kernelRun0_A.sl.r_23 kernelRun0_A.sl.r_24 kernelRun0_A.sl.r_26 kernelRun0_A.sl.r_27 kernelRun0_A.sl.r_28 kernelRun0_A.sl.v357 kernelRun0_A.sl.v364 kernelRun0_A.sl.v371 kernelRun0_A.sl.v380 kernelRun0_A.sl.v387 kernelRun0_A.sl.v394 kernelRun0_A.sl.v401 kernelRun0_A.sl.v410 kernelRun0_A.sl.v417 kernelRun0_A.sl.v424 kernelRun0_A.sl.v431 kernelRun0_A.sl.v440 kernelRun0_A.sl.v447 kernelRun0_A.sl.v454 kernelRun0_A.sl.v461
  canon_tiles z y
  all_goals
    change p.val = _ at y0
    change d.val = _ at y1
    have hh := h.isLt
    have he := e.isLt
  · obtain rfl : e = z 1 := Fin.ext (by omega)
    obtain rfl : h = 7 := Fin.ext (by show h.val = 7; omega)
    unfold_payloads
    pointwise
    have z0 : (z 0).val < 128 := z0_lt
    exact att_tile t X Z 3 ⟨384 + (z 0).val, by omega⟩ (z 1) r 7
      (by show r.val = 128 * (2 * t.val + 1) + (384 + (z 0).val) % 128; omega)
      (by show 7 = 4 + (384 + (z 0).val) / 128; omega)
      (fun k => probs_load c t Z X 3 _ 384 rfl _ (z 0) k _ rfl)
      (fun k => load_at t X (off12 t).2 _ k (z 1) _ _ rfl rfl)
  · obtain rfl : e = z 1 := Fin.ext (by omega)
    obtain rfl : h = 6 := Fin.ext (by show h.val = 6; omega)
    unfold_payloads
    pointwise
    have z0 : (z 0).val < 128 := z0_lt
    exact att_tile t X Z 3 ⟨256 + (z 0).val, by omega⟩ (z 1) r 6
      (by show r.val = 128 * (2 * t.val + 1) + (256 + (z 0).val) % 128; omega)
      (by show 6 = 4 + (256 + (z 0).val) / 128; omega)
      (fun k => probs_load c t Z X 3 _ 256 rfl _ (z 0) k _ rfl)
      (fun k => load_at t X (off12 t).2 _ k (z 1) _ _ rfl rfl)
  · obtain rfl : e = z 1 := Fin.ext (by omega)
    obtain rfl : h = 5 := Fin.ext (by show h.val = 5; omega)
    unfold_payloads
    pointwise
    have z0 : (z 0).val < 128 := z0_lt
    exact att_tile t X Z 3 ⟨128 + (z 0).val, by omega⟩ (z 1) r 5
      (by show r.val = 128 * (2 * t.val + 1) + (128 + (z 0).val) % 128; omega)
      (by show 5 = 4 + (128 + (z 0).val) / 128; omega)
      (fun k => probs_load c t Z X 3 _ 128 rfl _ (z 0) k _ rfl)
      (fun k => load_at t X (off12 t).2 _ k (z 1) _ _ rfl rfl)
  · obtain rfl : e = z 1 := Fin.ext (by omega)
    obtain rfl : h = 4 := Fin.ext (by show h.val = 4; omega)
    unfold_payloads
    pointwise
    have z0 : (z 0).val < 128 := z0_lt
    exact att_tile t X Z 3 ⟨0 + (z 0).val, by omega⟩ (z 1) r 4
      (by show r.val = 128 * (2 * t.val + 1) + (0 + (z 0).val) % 128; omega)
      (by show 4 = 4 + (0 + (z 0).val) / 128; omega)
      (fun k => probs_load c t Z X 3 _ 0 rfl _ (z 0) k _ rfl)
      (fun k => load_at t X (off12 t).2 _ k (z 1) _ _ rfl rfl)
  · obtain rfl : e = z 1 := Fin.ext (by omega)
    obtain rfl : h = 3 := Fin.ext (by show h.val = 3; omega)
    unfold_payloads
    pointwise
    have z0 : (z 0).val < 128 := z0_lt
    exact att_tile t X Z 2 ⟨384 + (z 0).val, by omega⟩ (z 1) r 3
      (by show r.val = 128 * (2 * t.val + 1) + (384 + (z 0).val) % 128; omega)
      (by show 3 = 0 + (384 + (z 0).val) / 128; omega)
      (fun k => probs_load c t Z X 2 _ 384 rfl _ (z 0) k _ rfl)
      (fun k => load_at t X (off11 t).2 _ k (z 1) _ _ rfl rfl)
  · obtain rfl : e = z 1 := Fin.ext (by omega)
    obtain rfl : h = 2 := Fin.ext (by show h.val = 2; omega)
    unfold_payloads
    pointwise
    have z0 : (z 0).val < 128 := z0_lt
    exact att_tile t X Z 2 ⟨256 + (z 0).val, by omega⟩ (z 1) r 2
      (by show r.val = 128 * (2 * t.val + 1) + (256 + (z 0).val) % 128; omega)
      (by show 2 = 0 + (256 + (z 0).val) / 128; omega)
      (fun k => probs_load c t Z X 2 _ 256 rfl _ (z 0) k _ rfl)
      (fun k => load_at t X (off11 t).2 _ k (z 1) _ _ rfl rfl)
  · obtain rfl : e = z 1 := Fin.ext (by omega)
    obtain rfl : h = 1 := Fin.ext (by show h.val = 1; omega)
    unfold_payloads
    pointwise
    have z0 : (z 0).val < 128 := z0_lt
    exact att_tile t X Z 2 ⟨128 + (z 0).val, by omega⟩ (z 1) r 1
      (by show r.val = 128 * (2 * t.val + 1) + (128 + (z 0).val) % 128; omega)
      (by show 1 = 0 + (128 + (z 0).val) / 128; omega)
      (fun k => probs_load c t Z X 2 _ 128 rfl _ (z 0) k _ rfl)
      (fun k => load_at t X (off11 t).2 _ k (z 1) _ _ rfl rfl)
  · obtain rfl : e = z 1 := Fin.ext (by omega)
    obtain rfl : h = 0 := Fin.ext (by show h.val = 0; omega)
    unfold_payloads
    pointwise
    have z0 : (z 0).val < 128 := z0_lt
    exact att_tile t X Z 2 ⟨0 + (z 0).val, by omega⟩ (z 1) r 0
      (by show r.val = 128 * (2 * t.val + 1) + (0 + (z 0).val) % 128; omega)
      (by show 0 = 0 + (0 + (z 0).val) / 128; omega)
      (fun k => probs_load c t Z X 2 _ 0 rfl _ (z 0) k _ rfl)
      (fun k => load_at t X (off11 t).2 _ k (z 1) _ _ rfl rfl)
  · obtain rfl : e = z 1 := Fin.ext (by omega)
    obtain rfl : h = 7 := Fin.ext (by show h.val = 7; omega)
    unfold_payloads
    pointwise
    have z0 : (z 0).val < 128 := z0_lt
    exact att_tile t X Z 1 ⟨384 + (z 0).val, by omega⟩ (z 1) r 7
      (by show r.val = 128 * (2 * t.val + 0) + (384 + (z 0).val) % 128; omega)
      (by show 7 = 4 + (384 + (z 0).val) / 128; omega)
      (fun k => probs_load c t Z X 1 _ 384 rfl _ (z 0) k _ rfl)
      (fun k => load_at t X (off12 t).1 _ k (z 1) _ _ rfl rfl)
  · obtain rfl : e = z 1 := Fin.ext (by omega)
    obtain rfl : h = 6 := Fin.ext (by show h.val = 6; omega)
    unfold_payloads
    pointwise
    have z0 : (z 0).val < 128 := z0_lt
    exact att_tile t X Z 1 ⟨256 + (z 0).val, by omega⟩ (z 1) r 6
      (by show r.val = 128 * (2 * t.val + 0) + (256 + (z 0).val) % 128; omega)
      (by show 6 = 4 + (256 + (z 0).val) / 128; omega)
      (fun k => probs_load c t Z X 1 _ 256 rfl _ (z 0) k _ rfl)
      (fun k => load_at t X (off12 t).1 _ k (z 1) _ _ rfl rfl)
  · obtain rfl : e = z 1 := Fin.ext (by omega)
    obtain rfl : h = 5 := Fin.ext (by show h.val = 5; omega)
    unfold_payloads
    pointwise
    have z0 : (z 0).val < 128 := z0_lt
    exact att_tile t X Z 1 ⟨128 + (z 0).val, by omega⟩ (z 1) r 5
      (by show r.val = 128 * (2 * t.val + 0) + (128 + (z 0).val) % 128; omega)
      (by show 5 = 4 + (128 + (z 0).val) / 128; omega)
      (fun k => probs_load c t Z X 1 _ 128 rfl _ (z 0) k _ rfl)
      (fun k => load_at t X (off12 t).1 _ k (z 1) _ _ rfl rfl)
  · obtain rfl : e = z 1 := Fin.ext (by omega)
    obtain rfl : h = 4 := Fin.ext (by show h.val = 4; omega)
    unfold_payloads
    pointwise
    have z0 : (z 0).val < 128 := z0_lt
    exact att_tile t X Z 1 ⟨0 + (z 0).val, by omega⟩ (z 1) r 4
      (by show r.val = 128 * (2 * t.val + 0) + (0 + (z 0).val) % 128; omega)
      (by show 4 = 4 + (0 + (z 0).val) / 128; omega)
      (fun k => probs_load c t Z X 1 _ 0 rfl _ (z 0) k _ rfl)
      (fun k => load_at t X (off12 t).1 _ k (z 1) _ _ rfl rfl)
  · obtain rfl : e = z 1 := Fin.ext (by omega)
    obtain rfl : h = 3 := Fin.ext (by show h.val = 3; omega)
    unfold_payloads
    pointwise
    have z0 : (z 0).val < 128 := z0_lt
    exact att_tile t X Z 0 ⟨384 + (z 0).val, by omega⟩ (z 1) r 3
      (by show r.val = 128 * (2 * t.val + 0) + (384 + (z 0).val) % 128; omega)
      (by show 3 = 0 + (384 + (z 0).val) / 128; omega)
      (fun k => probs_load c t Z X 0 _ 384 rfl _ (z 0) k _ rfl)
      (fun k => load_at t X (off11 t).1 _ k (z 1) _ _ rfl rfl)
  · obtain rfl : e = z 1 := Fin.ext (by omega)
    obtain rfl : h = 2 := Fin.ext (by show h.val = 2; omega)
    unfold_payloads
    pointwise
    have z0 : (z 0).val < 128 := z0_lt
    exact att_tile t X Z 0 ⟨256 + (z 0).val, by omega⟩ (z 1) r 2
      (by show r.val = 128 * (2 * t.val + 0) + (256 + (z 0).val) % 128; omega)
      (by show 2 = 0 + (256 + (z 0).val) / 128; omega)
      (fun k => probs_load c t Z X 0 _ 256 rfl _ (z 0) k _ rfl)
      (fun k => load_at t X (off11 t).1 _ k (z 1) _ _ rfl rfl)
  · obtain rfl : e = z 1 := Fin.ext (by omega)
    obtain rfl : h = 1 := Fin.ext (by show h.val = 1; omega)
    unfold_payloads
    pointwise
    have z0 : (z 0).val < 128 := z0_lt
    exact att_tile t X Z 0 ⟨128 + (z 0).val, by omega⟩ (z 1) r 1
      (by show r.val = 128 * (2 * t.val + 0) + (128 + (z 0).val) % 128; omega)
      (by show 1 = 0 + (128 + (z 0).val) / 128; omega)
      (fun k => probs_load c t Z X 0 _ 128 rfl _ (z 0) k _ rfl)
      (fun k => load_at t X (off11 t).1 _ k (z 1) _ _ rfl rfl)
  · obtain rfl : e = z 1 := Fin.ext (by omega)
    obtain rfl : h = 0 := Fin.ext (by show h.val = 0; omega)
    unfold_payloads
    pointwise
    have z0 : (z 0).val < 128 := z0_lt
    exact att_tile t X Z 0 ⟨0 + (z 0).val, by omega⟩ (z 1) r 0
      (by show r.val = 128 * (2 * t.val + 0) + (0 + (z 0).val) % 128; omega)
      (by show 0 = 0 + (0 + (z 0).val) / 128; omega)
      (fun k => probs_load c t Z X 0 _ 0 rfl _ (z 0) k _ rfl)
      (fun k => load_at t X (off11 t).1 _ k (z 1) _ _ rfl rfl)

/-- The head that a column of the result belongs to, and its place in that head. -/
def headOf (d : Fin 512) : Fin 8 := ⟨d.val / 64, Nat.div_lt_of_lt_mul d.isLt⟩

@[inherit_doc headOf]
def placeOf (d : Fin 512) : Fin 64 := ⟨d.val % 64, Nat.mod_lt _ (by decide)⟩

variable (m : (ℓ : Loc nD τ sig) → Buf (Elt Ideal) ℓ)

/-- The array that the blocks leave. -/
theorem final2 (c : Dev nD) : (dats m 0 c).arrAt 2 cfg0.N = fun j => attended (A m c) (Z m c) (j 0)
    (headOf (j 1)) (placeOf (j 1)) := by
  refine (dats m 0 c).arrAt_eq_of_covers 2 _ (by decide +kernel) fun t hf y => ?_
  blk_simp
  rw [after0_2]
  obtain ⟨p, d, rfl⟩ : ∃ (p : Fin 256) (d : Fin 512), y = ix2 p d := ⟨y 0, y 1, eq_ix2 y⟩
  have ht : t.val < 8 := t.isLt
  have hp := p.isLt
  have e : (((cfg0.win 2).blk t).view.emb (ix2 p d)) = ix2 (⟨256 * t.val + p.val, by omega⟩ : Fin 2048) d := by
    blk_ext [idx t]
  rw [e]
  refine (out2 c t _ _ p d ⟨256 * t.val + p.val, by omega⟩ (headOf d) (placeOf d) rfl
    (Nat.div_add_mod d.val 64).symm).trans ?_
  rw [show (fun (r : Fin 2048) (j : Fin 768) => iblk m c 1 t (ix2 r j)) = A m c from funext₂ fun r j => blk_a m c t r j,
    show (fun h : Fin 8 => iblk m c 0 t (ix2 0 h)) = Z m c from funext fun h => blk_z m c t h]
  rfl

end Cert.AttnFwdKernelIdeal.Entries
end
-- ==== Proof.AttnFwd.Pre.lean ====
module

/-
What the precondition of the forward attention says: the projected queries, keys and values and the sinks are finite, entry
by entry.
-/
public import proofs.«01_k».proof.Defs
public import proofs.«01_k».proof.Proof.Norm
public import proofs.«01_k».proof.Proof.AttnFwd.Kernel

public section

noncomputable section

namespace Cert.AttnFwd
open Idealize.ShloMosaic Idealize.ShloMosaic.TcCoe Cert.Norm Cert.AttnFwdKernelIdeal Cert.AttnFwdKernelIdeal.Entries

instance facts_pre : Cert.Pre_attn_fwd_finite.Facts where
  bitsLt_bf16_f32 := by decide
  bcast_S_S2048x768 := by decide
  bcast_S_S1x8 := by decide

variable {m : (ℓ : Loc nD τ sig) → Buf (Elt Ideal) ℓ}

theorem finite_args (h : Cert.Pre_AttnFwdKernelIdeal_attn_fwd_finite m) (c : Dev nD) :
    (∀ r j, Finite (A m c r j)) ∧ ∀ u, Finite (Z m c u) := by
  obtain ⟨h0, h1⟩ := h c
  exact ⟨fun r j => finite_of_abs (word_inf ▸ congrFun h0 (ix2 r j)), fun u => finite_of_abs (word_inf ▸ congrFun h1 (ix2 0 u))⟩

end Cert.AttnFwd

end
-- ==== Proof.AttnFwd.Reference.lean ====
module

/-
The results of the reference of the forward attention, entry by entry. Its keys are laid out block by block, each block of 128
behind the one before it, and the first one behind padding, which the mask takes out; the sink stands behind the scores.
-/
public import proofs.«01_k».proof.Proof.Attention
public import proofs.«01_k».proof.Proof.Gen.AttnFwdReferenceIdeal
public import Idealize.ShloMosaic.Lib.Pointwise
public import Idealize.ShloMosaic.Lib.KernelVsHost

@[expose] public section

set_option maxRecDepth 16384

noncomputable section

namespace Cert.AttnFwd
open Cert.AttnFwdReferenceIdeal Cert.AttnFwdReferenceIdeal.Gen Cert.Attention Cert.Norm
open Idealize.ShloMosaic Idealize.ShloMosaic.TcCoe Idealize.ShloMosaic.Tactic Idealize.SL.Sem

/-- The reference's lines: the keys' blocks, -/
def keyBand (a : FVec Ideal S2048x768 .bf16) : FVec Ideal S1x16x256x2x64 .f32 :=
  concatenate S1x16x256x2x64 2 [⟨S1x16x128x2x64, (shapeCast _ (extractStridedSlice S1x2048x2x64 ![0, 0, 0, 0] (pad
    S1x2176x2x64 ![0, 128, 0, 0] ![0, 0, 0, 0] ![0, 0, 0, 0] (shapeCast _ (extractStridedSlice S1x2048x128 ![0, 0, 512]
    (broadcastInDim S1x2048x768 ![1, 2] bcast_S2048x768_S1x2048x768_1_2 (extf .f32 a bitsLt_bf16_f32))
    slices_S1x2048x768_S1x2048x128_0_0_512) shapeCasts_S1x2048x128_S1x2048x2x64) (sitofp .f32 (constantI S_ 32 0#32))
    pads_S1x2048x2x64_S1x2176x2x64_000_12800_000_000 h_S_) slices_S1x2176x2x64_S1x2048x2x64_0_0_0_0)
    shapeCasts_S1x2048x2x64_S1x16x128x2x64)⟩, ⟨S1x16x128x2x64, (shapeCast _ (shapeCast _ (extractStridedSlice
    S1x2048x128 ![0, 0, 512] (broadcastInDim S1x2048x768 ![1, 2] bcast_S2048x768_S1x2048x768_1_2 (extf .f32 a
    bitsLt_bf16_f32)) slices_S1x2048x768_S1x2048x128_0_0_512) shapeCasts_S1x2048x128_S1x2048x2x64)
    shapeCasts_S1x2048x2x64_S1x16x128x2x64)⟩] concatenates_S1x16x128x2x64_S1x16x128x2x64_S1x16x256x2x64_d2

/-- the values', -/
def valueBand (a : FVec Ideal S2048x768 .bf16) : FVec Ideal S1x16x256x2x64 .f32 :=
  concatenate S1x16x256x2x64 2 [⟨S1x16x128x2x64, (shapeCast _ (extractStridedSlice S1x2048x2x64 ![0, 0, 0, 0] (pad
    S1x2176x2x64 ![0, 128, 0, 0] ![0, 0, 0, 0] ![0, 0, 0, 0] (shapeCast _ (extractStridedSlice S1x2048x128 ![0, 0, 640]
    (broadcastInDim S1x2048x768 ![1, 2] bcast_S2048x768_S1x2048x768_1_2 (extf .f32 a bitsLt_bf16_f32))
    slices_S1x2048x768_S1x2048x128_0_0_640) shapeCasts_S1x2048x128_S1x2048x2x64) (sitofp .f32 (constantI S_ 32 0#32))
    pads_S1x2048x2x64_S1x2176x2x64_000_12800_000_000 h_S_) slices_S1x2176x2x64_S1x2048x2x64_0_0_0_0)
    shapeCasts_S1x2048x2x64_S1x16x128x2x64)⟩, ⟨S1x16x128x2x64, (shapeCast _ (shapeCast _ (extractStridedSlice
    S1x2048x128 ![0, 0, 640] (broadcastInDim S1x2048x768 ![1, 2] bcast_S2048x768_S1x2048x768_1_2 (extf .f32 a
    bitsLt_bf16_f32)) slices_S1x2048x768_S1x2048x128_0_0_640) shapeCasts_S1x2048x128_S1x2048x2x64)
    shapeCasts_S1x2048x2x64_S1x16x128x2x64)⟩] concatenates_S1x16x128x2x64_S1x16x128x2x64_S1x16x256x2x64_d2

/-- the mask, -/
def mask : IVec S1x16x2x4x128x256 1 :=
  broadcastInDim S1x16x2x4x128x256 ![0, 1, 2, 3, 4, 5] bcast_S1x16x1x1x128x256_S1x16x2x4x128x256_0_1_2_3_4_5
    (broadcastInDim S1x16x1x1x128x256 ![1, 4, 5] bcast_S16x128x256_S1x16x1x1x128x256_1_4_5 (andi (broadcastInDim
    S16x128x256 ![0, 1, 2] bcast_S1x128x256_S16x128x256_0_1_2 (andi (broadcastInDim S1x128x256 ![1, 2]
    bcast_S128x256_S1x128x256_1_2 (cmpi .sge (subi (broadcastInDim S128x256 ![0, 1] bcast_S128x1_S128x256_0_1 (addi
    (broadcastInDim S128x1 ![0] bcast_S128_S128x1_0 (iotaInDim S128 32 0)) (broadcastInDim S128x1 ![] bcast_S_S128x1
    (constantI S_ 32 128#32)))) (broadcastInDim S128x256 ![0, 1] bcast_S1x256_S128x256_0_1 (broadcastInDim S1x256 ![1]
    bcast_S256_S1x256_1 (iotaInDim S256 32 0)))) (broadcastInDim S128x256 ![] bcast_S_S128x256 (constantI S_ 32
    0#32)))) (broadcastInDim S1x128x256 ![1, 2] bcast_S128x256_S1x128x256_1_2 (cmpi .slt (subi (broadcastInDim S128x256
    ![0, 1] bcast_S128x1_S128x256_0_1 (addi (broadcastInDim S128x1 ![0] bcast_S128_S128x1_0 (iotaInDim S128 32 0))
    (broadcastInDim S128x1 ![] bcast_S_S128x1 (constantI S_ 32 128#32)))) (broadcastInDim S128x256 ![0, 1]
    bcast_S1x256_S128x256_0_1 (broadcastInDim S1x256 ![1] bcast_S256_S1x256_1 (iotaInDim S256 32 0)))) (broadcastInDim
    S128x256 ![] bcast_S_S128x256 (constantI S_ 32 128#32)))))) (broadcastInDim S16x128x256 ![0, 1, 2]
    bcast_S16x1x256_S16x128x256_0_1_2 (cmpi .sge (addi (broadcastInDim S16x1x256 ![0, 1, 2]
    bcast_S16x1x1_S16x1x256_0_1_2 (subi (muli (broadcastInDim S16x1x1 ![0] bcast_S16_S16x1x1_0 (iotaInDim S16 32 0))
    (broadcastInDim S16x1x1 ![] bcast_S_S16x1x1 (constantI S_ 32 128#32))) (broadcastInDim S16x1x1 ![] bcast_S_S16x1x1
    (constantI S_ 32 128#32)))) (broadcastInDim S16x1x256 ![0, 1, 2] bcast_S1x1x256_S16x1x256_0_1_2 (broadcastInDim
    S1x1x256 ![1, 2] bcast_S1x256_S1x1x256_1_2 (broadcastInDim S1x256 ![1] bcast_S256_S1x256_1 (iotaInDim S256 32
    0))))) (broadcastInDim S16x1x256 ![] bcast_S_S16x1x256 (constantI S_ 32 0#32))))))

/-- the masked scores, -/
def masked (a : FVec Ideal S2048x768 .bf16) : FVec Ideal S1x16x2x4x128x256 .f32 :=
  select mask (mulf (transpose S1x16x2x4x128x256 [0, 1, 2, 5, 4, 3] (Host.dotGeneral
    dot_S1x16x256x2x64_S1x16x128x2x4x64_S1x16x2x256x128x4_4_5_2_24_013_013 none (keyBand a) (shapeCast _ (shapeCast _
    (extractStridedSlice S1x2048x512 ![0, 0, 0] (broadcastInDim S1x2048x768 ![1, 2] bcast_S2048x768_S1x2048x768_1_2
    (extf .f32 a bitsLt_bf16_f32)) slices_S1x2048x768_S1x2048x512_0_0_0) shapeCasts_S1x2048x512_S1x2048x8x64)
    shapeCasts_S1x2048x8x64_S1x16x128x2x4x64)) transposes_S1x16x2x256x128x4_S1x16x2x4x128x256_0_1_2_5_4_3)
    (broadcastInDim S1x16x2x4x128x256 ![] bcast_S_S1x16x2x4x128x256 (constant S_ .f32 0x3E000000#32))) (broadcastInDim
    S1x16x2x4x128x256 ![] bcast_S_S1x16x2x4x128x256 (id (constant S_ .f32 0xFF800000#32)))

/-- the sink of every row, -/
def sinkColumn (z : FVec Ideal S1x8 .f32) : FVec Ideal S1x16x2x4x128x1 .f32 :=
  broadcastInDim S1x16x2x4x128x1 ![0, 1, 2, 3, 4, 5] bcast_S1x1x2x4x1x1_S1x16x2x4x128x1_0_1_2_3_4_5 (shapeCast _
    (shapeCast _ z shapeCasts_S1x8_S8) shapeCasts_S8_S1x1x2x4x1x1)

/-- the scores with the sink behind them, -/
def rows (a : FVec Ideal S2048x768 .bf16) (z : FVec Ideal S1x8 .f32) : FVec Ideal S1x16x2x4x128x257 .f32 :=
  concatenate S1x16x2x4x128x257 5 [⟨S1x16x2x4x128x256, (masked a)⟩, ⟨S1x16x2x4x128x1, (sinkColumn z)⟩]
    concatenates_S1x16x2x4x128x256_S1x16x2x4x128x1_S1x16x2x4x128x257_d5

/-- the greatest of each row, -/
def peak (R : FVec Ideal S1x16x2x4x128x257 .f32) : FVec Ideal S1x16x2x4x128 .f32 :=
  maximumf (broadcastInDim S1x16x2x4x128 ![] bcast_S_S1x16x2x4x128 (constant S_ .f32 0xFF800000#32)) (Host.reduce
    FloatOps.maximumf R (constant S_ .f32 0xFF800000#32) reducesTo_S1x16x2x4x128x257_S1x16x2x4x128_d5 h_S_)

/-- the weights, -/
def weights (R : FVec Ideal S1x16x2x4x128x257 .f32) : FVec Ideal S1x16x2x4x128x257 .f32 :=
  Host.exp (subf R (broadcastInDim S1x16x2x4x128x257 ![0, 1, 2, 3, 4, 5]
    bcast_S1x16x2x4x128x1_S1x16x2x4x128x257_0_1_2_3_4_5 (broadcastInDim S1x16x2x4x128x1 ![0, 1, 2, 3, 4]
    bcast_S1x16x2x4x128_S1x16x2x4x128x1_0_1_2_3_4 (peak R))))

/-- their sum, -/
def total (R : FVec Ideal S1x16x2x4x128x257 .f32) : FVec Ideal S1x16x2x4x128 .f32 :=
  Host.reduceAdd (weights R) (constant S_ .f32 0x00000000#32) reducesTo_S1x16x2x4x128x257_S1x16x2x4x128_d5 h_S_

/-- their quotients without the sink's, -/
def shares (R : FVec Ideal S1x16x2x4x128x257 .f32) : FVec Ideal S1x16x2x4x128x256 .f32 :=
  extractStridedSlice S1x16x2x4x128x256 ![0, 0, 0, 0, 0, 0] (Host.divf (weights R) (broadcastInDim S1x16x2x4x128x257 ![0,
    1, 2, 3, 4, 5] bcast_S1x16x2x4x128x1_S1x16x2x4x128x257_0_1_2_3_4_5 (broadcastInDim S1x16x2x4x128x1 ![0, 1, 2, 3, 4]
    bcast_S1x16x2x4x128_S1x16x2x4x128x1_0_1_2_3_4 (total R)))) slices_S1x16x2x4x128x257_S1x16x2x4x128x256_0_0_0_0_0_0

/-- and the attention. -/
def result (a : FVec Ideal S2048x768 .bf16) (z : FVec Ideal S1x8 .f32) : FVec Ideal S2048x512 .bf16 :=
  truncf .bf16 (shapeCast _ (shapeCast _ (transpose S1x16x128x2x4x64 [0, 1, 5, 2, 4, 3] (Host.dotGeneral
    dot_S1x16x256x2x64_S1x16x2x4x128x256_S1x16x2x64x4x128_2_5_4_34_013_012 none (valueBand a) (shares (rows a z)))
    transposes_S1x16x2x64x4x128_S1x16x128x2x4x64_0_1_5_2_4_3) shapeCasts_S1x16x128x2x4x64_S1x2048x512)
    shapeCasts_S1x2048x512_S2048x512) bitsLt_bf16_f32

variable (a : FVec Ideal S2048x768 .bf16) (z : FVec Ideal S1x8 .f32) (R : FVec Ideal S1x16x2x4x128x257 .f32)

/-- The key at place `k` of block `b`, -/
theorem keyBand_at (b : Fin 16) (k : Fin 256) (g : Fin 2) (e : Fin 64) (h : 128 ≤ 128 * b.val + k.val) :
    keyBand a (ix5 0 b k g e) = a (ix2 ⟨128 * b.val + k.val - 128, by omega⟩ ⟨512 + 64 * g.val + e.val, by omega⟩) := by
  unfold keyBand
  pointwise
  by_cases hk : k.val < 128
  · rw [dif_pos hk, dif_pos (by omega)]
    congr 2 <;> exact Fin.ext (by simp only []; omega)
  · rw [dif_neg hk]
    congr 2 <;> exact Fin.ext (by simp only []; omega)

/-- and the value. -/
theorem valueBand_at (b : Fin 16) (k : Fin 256) (g : Fin 2) (e : Fin 64) (h : 128 ≤ 128 * b.val + k.val) :
    valueBand a (ix5 0 b k g e) = a (ix2 ⟨128 * b.val + k.val - 128, by omega⟩ ⟨640 + 64 * g.val + e.val, by omega⟩) := by
  unfold valueBand
  pointwise
  by_cases hk : k.val < 128
  · rw [dif_pos hk, dif_pos (by omega)]
    congr 2 <;> exact Fin.ext (by simp only []; omega)
  · rw [dif_neg hk]
    congr 2 <;> exact Fin.ext (by simp only []; omega)

/-- The mask: a key within the 128 positions up to the row's own, and not in the padding. -/
theorem mask_at (b : Fin 16) (g : Fin 2) (hh : Fin 4) (q : Fin 128) (k : Fin 256) :
    mask (ix6 0 b g hh q k) = if 128 ≤ 128 * b.val + k.val ∧ q.val < k.val ∧ k.val ≤ q.val + 128 then 1#1 else 0#1 := by
  unfold mask
  pointwise
  have hb := b.isLt
  have hq := q.isLt
  have hk := k.isLt
  have e1 : ((BitVec.ofNat 32 q.val + 128#32 - BitVec.ofNat 32 k.val).toInt = (q.val : Int) + 128 - k.val) := by
    simp only [BitVec.toInt_eq_toNat_cond, BitVec.toNat_sub, BitVec.toNat_add, BitVec.toNat_ofNat]
    omega
  have e2 : ((BitVec.ofNat 32 b.val * 128#32 - 128#32 + BitVec.ofNat 32 k.val).toInt = (b.val : Int) * 128 - 128 + k.val) := by
    simp only [BitVec.toInt_eq_toNat_cond, BitVec.toNat_sub, BitVec.toNat_add, BitVec.toNat_mul, BitVec.toNat_ofNat]
    omega
  simp only [IntOp.andi, IntOp.cmpi, IntOp.subi, IntOp.addi, IntOp.muli, BitVec.sle, BitVec.slt, e1, e2]
  have c0 : (0#32).toInt = 0 := rfl
  have c1 : (128#32).toInt = 128 := rfl
  rw [c0, c1]
  by_cases h : 128 ≤ 128 * b.val + k.val ∧ q.val < k.val ∧ k.val ≤ q.val + 128
  · rw [if_pos h, decide_eq_true (by omega), decide_eq_true (by omega), decide_eq_true (by omega)]
    rfl
  · rw [if_neg h]
    rcases not_and_or.mp h with h1 | h1
    · rw [decide_eq_false (p := (0 : Int) ≤ (b.val : Int) * 128 - 128 + k.val) (by omega)]
      exact BitVec.and_zero
    · rcases not_and_or.mp h1 with h2 | h2
      · rw [decide_eq_false (p := (q.val : Int) + 128 - k.val < 128) (by omega)]
        show (_ &&& 0#1) &&& _ = 0#1
        rw [BitVec.and_zero, BitVec.zero_and]
      · rw [decide_eq_false (p := (0 : Int) ≤ (q.val : Int) + 128 - k.val) (by omega)]
        show (0#1 &&& _) &&& _ = 0#1
        rw [BitVec.zero_and, BitVec.zero_and]

theorem masked_at (b : Fin 16) (g : Fin 2) (hh : Fin 4) (q : Fin 128) (k : Fin 256) :
    masked a (ix6 0 b g hh q k) = if mask (ix6 0 b g hh q k) = 1#1 then (∑ e, keyBand a (ix5 0 b k g e) *
      a (ix2 ⟨128 * b.val + q.val, by omega⟩ ⟨64 * (4 * g.val + hh.val) + e.val, by omega⟩)) * Ideal.ofBits .f32 0x3E000000#32 else ⊥ := by
  unfold masked
  pointwise
  have hbot : id (constant S_ .f32 0xFF800000#32 : FVec Ideal S_ .f32) ix0 = (⊥ : EReal) := by
    show Ideal.ofBits .f32 0xFF800000#32 = ⊥
    simp [Ideal.ofBits, Ideal.ieee]
  rw [hbot]
  have hs : ∀ x : Fin 64, (⟨g.val * 256 + hh.val * 64 + x.val, by omega⟩ : Fin 768) = ⟨64 * (4 * g.val + hh.val) + x.val, by omega⟩ :=
    fun x => Fin.ext (by simp only []; omega)
  have hr : (⟨b.val * 128 + q.val, by omega⟩ : Fin 2048) = ⟨128 * b.val + q.val, by omega⟩ := Fin.ext (by simp only []; omega)
  simp only [hs, hr]
  rfl

theorem sinkColumn_at (b : Fin 16) (g : Fin 2) (hh : Fin 4) (q : Fin 128) :
    sinkColumn z (ix6 0 b g hh q 0) = z (ix2 0 ⟨4 * g.val + hh.val, by omega⟩) := by
  unfold sinkColumn
  pointwise
  congr 2
  exact Fin.ext (by simp only []; omega)

theorem rows_at (b : Fin 16) (g : Fin 2) (hh : Fin 4) (q : Fin 128) (k : Fin 257) :
    rows a z (ix6 0 b g hh q k) = if h : k.val < 256 then masked a (ix6 0 b g hh q ⟨k.val, h⟩) else sinkColumn z (ix6 0 b g hh q 0) := by
  unfold rows
  pointwise
  by_cases h : k.val < 256
  · rw [dif_pos h, dif_pos h]
  · rw [dif_neg h, dif_neg h]
    congr 2
    exact Fin.ext (by simp only [Fin.val_zero]; omega)

theorem rows_key (b : Fin 16) (g : Fin 2) (hh : Fin 4) (q : Fin 128) (k : Fin 256) :
    rows a z (ix6 0 b g hh q k.castSucc) = masked a (ix6 0 b g hh q k) := by
  rw [rows_at, dif_pos (show k.castSucc.val < 256 from k.isLt)]
  rfl

theorem rows_sink (b : Fin 16) (g : Fin 2) (hh : Fin 4) (q : Fin 128) :
    rows a z (ix6 0 b g hh q (Fin.last 256)) = sinkColumn z (ix6 0 b g hh q 0) := by
  rw [rows_at, dif_neg (show ¬ (Fin.last 256).val < 256 by simp)]

/-- The sums and maxima over the last axis: its entries by their place. -/
theorem reduces_last : S1x16x2x4x128x257.Reduces [5] S1x16x2x4x128 := by decide

theorem lift_last (b : Fin 16) (g : Fin 2) (hh : Fin 4) (q : Fin 128) (i : Fin 257) :
    reduces_last.lift (ix5 0 b g hh q) i = ix6 0 b g hh q i := by
  funext x
  apply Fin.ext
  match x with
  | ⟨0, _⟩ => rfl
  | ⟨1, _⟩ => rfl
  | ⟨2, _⟩ => rfl
  | ⟨3, _⟩ => rfl
  | ⟨4, _⟩ => rfl
  | ⟨5, _⟩ => rfl

theorem peak_at (b : Fin 16) (g : Fin 2) (hh : Fin 4) (q : Fin 128) :
    peak R (ix5 0 b g hh q) = max ⊥ (Finset.univ.fold max ⊥ fun i => R (ix6 0 b g hh q i)) := by
  unfold peak
  have hbot : Ideal.ofBits .f32 0xFF800000#32 = (⊥ : EReal) := by simp [Ideal.ofBits, Ideal.ieee]
  have h2 := Ideal.multiReduction_maximumf_single R 0xFF800000#32 reduces_last (.inl rfl) rfl (ix5 0 b g hh q)
  rw [← Idealize.ShloMosaic.hostReduce_maximumf_eq_multiReduction R 0xFF800000#32 reducesTo_S1x16x2x4x128x257_S1x16x2x4x128_d5 h_S_
    reduces_last (.inl rfl) rfl] at h2
  have h3 : (R ∘ reduces_last.lift (ix5 0 b g hh q)) = fun i => R (ix6 0 b g hh q i) :=
    funext fun i => congrArg R (lift_last b g hh q i)
  rw [h3] at h2
  have hmax : ∀ (A B : FVec Ideal S1x16x2x4x128 .f32) (j : S1x16x2x4x128.Idx), maximumf A B j = max (A j) (B j) := fun _ _ _ => rfl
  rw [hmax, h2]
  have hw : (FloatOps.ofBits .f32 0xFF800000#32 : Ideal .f32) = (⊥ : EReal) := hbot
  rw [hw]
  refine congrArg (max · _) ?_
  pointwise
  exact hbot

theorem weights_at (b : Fin 16) (g : Fin 2) (hh : Fin 4) (q : Fin 128) (i : Fin 257) :
    weights R (ix6 0 b g hh q i) = Ideal.exp (R (ix6 0 b g hh q i) - peak R (ix5 0 b g hh q)) := by
  unfold weights
  pointwise

theorem total_at (b : Fin 16) (g : Fin 2) (hh : Fin 4) (q : Fin 128) :
    total R (ix5 0 b g hh q) = ∑ i, weights R (ix6 0 b g hh q i) := by
  unfold total
  refine (Host.reduceAdd_apply _ _ _ _ _).trans ?_
  refine (Ideal.hostReduceAdd_single _ reduces_last _ _ _).trans ?_
  have h0 : (constant S_ .f32 0x00000000#32 : FVec Ideal S_ .f32) (Shape.Idx.first h_S_) = (0 : EReal) := Ideal.ofBits_zero_f32
  rw [h0, zero_add]
  refine Finset.sum_congr rfl fun i _ => congrArg (weights R) ?_
  exact lift_last b g hh q i

theorem shares_at (b : Fin 16) (g : Fin 2) (hh : Fin 4) (q : Fin 128) (k : Fin 256) :
    shares R (ix6 0 b g hh q k) = Ideal.div (weights R (ix6 0 b g hh q k.castSucc)) (total R (ix5 0 b g hh q)) := by
  unfold shares
  pointwise
  rfl

theorem result_at (r : Fin 2048) (d : Fin 512) (b : Fin 16) (q : Fin 128) (g : Fin 2) (hh : Fin 4) (e : Fin 64)
   (hr : r.val = 128 * b.val + q.val) (hd : d.val = 64 * (4 * g.val + hh.val) + e.val) :
    result a z (ix2 r d) = ∑ k : Fin 256, valueBand a (ix5 0 b k g e) * shares (rows a z) (ix6 0 b g hh q k) := by
  unfold result
  pointwise
  have eb : (⟨r.val / 128, by omega⟩ : Fin 16) = b := Fin.ext (by simp only []; omega)
  have eq' : (⟨r.val % 128, by omega⟩ : Fin 128) = q := Fin.ext (by simp only []; omega)
  have eg : (⟨d.val / 256, by omega⟩ : Fin 2) = g := Fin.ext (by simp only []; omega)
  have eh : (⟨d.val / 64 % 4, by omega⟩ : Fin 4) = hh := Fin.ext (by simp only []; omega)
  have ee : (⟨d.val % 64, by omega⟩ : Fin 64) = e := Fin.ext (by simp only []; omega)
  rw [eb, eq', eg, eh, ee]

/-- The result's entry is the attention's. -/
theorem result_attended (ha : ∀ r j, Finite (a (ix2 r j))) (hz : ∀ h, Finite (z (ix2 0 h))) (r : Fin 2048) (d : Fin 512)
    (h : Fin 8) (e : Fin 64) (hd : d.val = 64 * h.val + e.val) :
    result a z (ix2 r d) = attended (fun r j => a (ix2 r j)) (fun h => z (ix2 0 h)) r h e := by
  have hr := r.isLt
  have hh := h.isLt
  let b : Fin 16 := ⟨r.val / 128, by omega⟩
  let q : Fin 128 := ⟨r.val % 128, by omega⟩
  let g : Fin 2 := ⟨h.val / 4, by omega⟩
  let l : Fin 4 := ⟨h.val % 4, by omega⟩
  have hsink : rows a z (ix6 0 b g l q (Fin.last 256)) = z (ix2 0 h) := by
    rw [rows_sink, sinkColumn_at]
    exact congrArg (fun x => z (ix2 0 x)) (Fin.ext (show 4 * (h.val / 4) + h.val % 4 = h.val by omega))
  have hkey : ∀ k : Fin 256, rows a z (ix6 0 b g l q k.castSucc) = if 128 ≤ 128 * (r.val / 128) + k.val then
      score (fun r j => a (ix2 r j)) r h (128 * (r.val / 128) + k.val - 128) else ⊥ := fun k => by
    rw [rows_key, masked_at, mask_at]
    have hk := k.isLt
    by_cases h1 : 128 ≤ 128 * (r.val / 128) + k.val
    · rw [if_pos h1]
      unfold score
      by_cases h2 : r.val % 128 < k.val ∧ k.val ≤ r.val % 128 + 128
      · rw [if_pos (show 128 ≤ 128 * b.val + k.val ∧ q.val < k.val ∧ k.val ≤ q.val + 128 from ⟨h1, h2⟩), if_pos rfl,
          dif_pos (by omega)]
        refine congrArg (· * _) (Finset.sum_congr rfl fun x _ => ?_)
        rw [keyBand_at a b k g x h1, mul_comm]
        refine congrArg₂ (· * ·) (congrArg a (congrArg₂ ix2 (Fin.ext ?_) (Fin.ext ?_)))
          (congrArg a (congrArg₂ ix2 (Fin.ext ?_) (Fin.ext ?_)))
        · show 128 * (r.val / 128) + r.val % 128 = r.val
          omega
        · show 64 * (4 * (h.val / 4) + h.val % 4) + x.val = 64 * h.val + x.val
          omega
        · rfl
        · rfl
      · rw [if_neg (show ¬ (128 ≤ 128 * b.val + k.val ∧ q.val < k.val ∧ k.val ≤ q.val + 128) from fun y => h2 y.2), if_neg (by decide),
          dif_neg (by omega)]
    · rw [if_neg (show ¬ (128 ≤ 128 * b.val + k.val ∧ q.val < k.val ∧ k.val ≤ q.val + 128) from fun y => h1 y.1), if_neg (by decide),
        if_neg h1]
  have hm : mass (fun k : Fin 256 => rows a z (ix6 0 b g l q k.castSucc)) (rows a z (ix6 0 b g l q (Fin.last 256))) ≠ 0 := by
    rw [hsink]
    refine mass_ne_zero (fun k => ?_) (hz h)
    rw [hkey]
    split
    · exact score_ne_top (fun r j => ha r j) _ _ _
    · exact bot_ne_top
  rw [result_at a z r d b q g l e (show r.val = 128 * (r.val / 128) + r.val % 128 by omega)
    (show d.val = 64 * (4 * (h.val / 4) + h.val % 4) + e.val by omega)]
  simp only [shares_at, total_at, weights_at, peak_at]
  rw [att_behind (fun i => rows a z (ix6 0 b g l q i)) (fun k => valueBand a (ix5 0 b k g e)) hm, hsink]
  refine attended_eq _ (fun h => z (ix2 0 h)) r h e hkey fun k h1 => ?_
  rw [valueBand_at a b k g e h1, value, dif_pos (by omega)]

end Cert.AttnFwd

end
-- ==== Proof.AttnFwd.Claim.lean ====
module

/-
The value claim of the forward attention: where the arguments are finite, kernel and reference give the same array. The mask's
literal in the kernel is named: it stands for minus infinity.
-/
public import proofs.«01_k».proof.Defs
public import proofs.«01_k».proof.Proof.AttnFwd.Kernel
public import proofs.«01_k».proof.Proof.AttnFwd.Pre
public import proofs.«01_k».proof.Proof.AttnFwd.Reference
public import proofs.«01_k».proof.Proof.Gen.AttnFwdKernelIdeal.Value
public import proofs.«01_k».proof.Proof.Gen.AttnFwdReferenceIdeal.Run

public section

set_option maxRecDepth 16384

noncomputable section

namespace Cert.AttnFwd
open Idealize.ShloMosaic Idealize.ShloMosaic.TcCoe Idealize.ShloMosaic.Tactic Idealize.SL.Sem Cert.Attention

/-- The reference's last line is its lines put together. -/
theorem result_run (m : (ℓ : Loc AttnFwdReferenceIdeal.nD AttnFwdReferenceIdeal.τ AttnFwdReferenceIdeal.sig) →
    Buf (Elt Ideal) ℓ) (c : Dev AttnFwdReferenceIdeal.nD) : AttnFwdReferenceIdeal.Value.res_main_v76 (F := Ideal) m c =
      result (m ((c : Thread AttnFwdReferenceIdeal.nD AttnFwdReferenceIdeal.τ).loc AttnFwdReferenceIdeal.main_arg0))
        (m ((c : Thread AttnFwdReferenceIdeal.nD AttnFwdReferenceIdeal.τ).loc AttnFwdReferenceIdeal.main_arg1)) := rfl

/-- The named constant is the value that the table gives it. -/
theorem preserves : Cert.preserves_AttnFwdKernel_AttnFwdKernelIdeal :=
  IdealRules.named_const.statement Cert.AttnFwdKernelIdeal.κ "mask" .f32 0xF149F2CA#32 ⊥ rfl

theorem algebraic : Cert.algebraic_AttnFwdKernelIdeal_AttnFwdReferenceIdeal_pre_attn_fwd_finite := by
  intro m g m' g' hpre hargs
  refine ⟨fun c => (AttnFwdKernelIdeal.Gen.dats m 0 c).arrAt 2 AttnFwdKernelIdeal.cfg0.N, ?_, ?_⟩
  · exact (θ_run AttnFwdKernelIdeal.defs _ _).mono (fun r h c => ⟨(h c).1, (h c).2.2.2⟩)
      (AttnFwdKernelIdeal.Value.run_blocks m g)
  · refine (θ_run AttnFwdReferenceIdeal.defs _ _).mono (fun r h c => ⟨(h c).1.trans ?_, (h c).2⟩)
      (AttnFwdReferenceIdeal.Value.run (F := Ideal) m' g')
    obtain ⟨a0, a1⟩ := hargs c
    obtain ⟨ha, hz⟩ := finite_args hpre c
    rw [result_run, a0, a1]
    refine Eq.trans ?_ (AttnFwdKernelIdeal.Entries.final2 m c).symm
    funext j
    obtain ⟨r, d, rfl⟩ : ∃ (r : Fin 2048) (d : Fin 512), j = ix2 r d := ⟨j 0, j 1, eq_ix2 j⟩
    exact result_attended _ _ ha hz r d _ _ (Nat.div_add_mod d.val 64).symm

/-- The reference's frame: its run changes no argument, and it has no semaphore. -/
theorem frame_reference : Cert.quiescent_AttnFwdReferenceIdeal := fun m ρ _ =>
  (θ_run Cert.AttnFwdReferenceIdeal.defs _ _).mono (fun r h => ⟨fun c => (h c).2,
      Idealize.ShloMosaic.sem_eq_zero_of_no_sems (by decide) r.2⟩)
    (Cert.AttnFwdReferenceIdeal.Value.run (F := Ideal) m ρ)

end Cert.AttnFwd

end
-- ==== Proof.lean ====
module

/-
The proof of `Cert.Claim`, call by call: the frames of the kernel at both readings and of its reference, and the
equality of the kernel's results with the reference's over the extended reals.
-/
public import proofs.«01_k».proof.Defs
public import proofs.«01_k».proof.Proof.Gen.MixKernel.Frame
public import proofs.«01_k».proof.Proof.Gen.MixKernelIdeal.Frame
public import proofs.«01_k».proof.Proof.Mix.Claim
public import proofs.«01_k».proof.Proof.Gen.GradFfnInKernel.Frame
public import proofs.«01_k».proof.Proof.Gen.GradFfnInKernelIdeal.Frame
public import proofs.«01_k».proof.Proof.GradFfnIn.Claim
public import proofs.«01_k».proof.Proof.Gen.GradFfnDownKernel.Frame
public import proofs.«01_k».proof.Proof.Gen.GradFfnDownKernelIdeal.Frame
public import proofs.«01_k».proof.Proof.GradFfnDown.Claim
public import proofs.«01_k».proof.Proof.Gen.GradOutKernel.Frame
public import proofs.«01_k».proof.Proof.Gen.GradOutKernelIdeal.Frame
public import proofs.«01_k».proof.Proof.GradOut.Claim
public import proofs.«01_k».proof.Proof.Gen.GradBranchKernel.Frame
public import proofs.«01_k».proof.Proof.Gen.GradBranchKernelIdeal.Frame
public import proofs.«01_k».proof.Proof.GradBranch.Claim
public import proofs.«01_k».proof.Proof.Gen.GradInKernel.Frame
public import proofs.«01_k».proof.Proof.Gen.GradInKernelIdeal.Frame
public import proofs.«01_k».proof.Proof.GradIn.Claim
public import proofs.«01_k».proof.Proof.Gen.FfnBwdKernel.Frame
public import proofs.«01_k».proof.Proof.Gen.FfnBwdKernelIdeal.Frame
public import proofs.«01_k».proof.Proof.FfnBwd.Claim
public import proofs.«01_k».proof.Proof.Gen.InProjBwdKernel.Frame
public import proofs.«01_k».proof.Proof.Gen.InProjBwdKernelIdeal.Frame
public import proofs.«01_k».proof.Proof.InProjBwd.Claim
public import proofs.«01_k».proof.Proof.Gen.FfnOutLossKernel.Frame
public import proofs.«01_k».proof.Proof.Gen.FfnOutLossKernelIdeal.Frame
public import proofs.«01_k».proof.Proof.FfnOutLoss.Claim
public import proofs.«01_k».proof.Proof.Gen.InProjKernel.Frame
public import proofs.«01_k».proof.Proof.Gen.InProjKernelIdeal.Frame
public import proofs.«01_k».proof.Proof.InProj.Claim
public import proofs.«01_k».proof.Proof.Gen.FfnInFirstKernel.Frame
public import proofs.«01_k».proof.Proof.Gen.FfnInFirstKernelIdeal.Frame
public import proofs.«01_k».proof.Proof.FfnInFirst.Claim
public import proofs.«01_k».proof.Proof.Gen.FfnInSecondKernel.Frame
public import proofs.«01_k».proof.Proof.Gen.FfnInSecondKernelIdeal.Frame
public import proofs.«01_k».proof.Proof.FfnInSecond.Claim
public import proofs.«01_k».proof.Proof.Gen.MixOutFirstKernel.Frame
public import proofs.«01_k».proof.Proof.Gen.MixOutFirstKernelIdeal.Frame
public import proofs.«01_k».proof.Proof.MixOutFirst.Claim
public import proofs.«01_k».proof.Proof.Gen.MixOutSecondKernel.Frame
public import proofs.«01_k».proof.Proof.Gen.MixOutSecondKernelIdeal.Frame
public import proofs.«01_k».proof.Proof.MixOutSecond.Claim
public import proofs.«01_k».proof.Proof.Gen.AttnFwdKernel.Frame
public import proofs.«01_k».proof.Proof.Gen.AttnFwdKernelIdeal.Frame
public import proofs.«01_k».proof.Proof.AttnFwd.Claim

public section

noncomputable section

namespace Cert.Proof
open Idealize.ShloMosaic Idealize.SL.Sem

theorem claim : Cert.Claim := ⟨Cert.MixKernel.Gen.facts, Cert.MixKernelIdeal.Gen.facts, Cert.MixReferenceIdeal.Gen.facts,
  Cert.GradFfnInKernel.Gen.facts, Cert.GradFfnInKernelIdeal.Gen.facts, Cert.GradFfnInReferenceIdeal.Gen.facts,
  Cert.GradFfnDownKernel.Gen.facts, Cert.GradFfnDownKernelIdeal.Gen.facts, Cert.GradFfnDownReferenceIdeal.Gen.facts,
  Cert.GradOutKernel.Gen.facts, Cert.GradOutKernelIdeal.Gen.facts, Cert.GradOutReferenceIdeal.Gen.facts,
  Cert.GradBranchKernel.Gen.facts, Cert.GradBranchKernelIdeal.Gen.facts, Cert.GradBranchReferenceIdeal.Gen.facts,
  Cert.GradInKernel.Gen.facts, Cert.GradInKernelIdeal.Gen.facts, Cert.GradInReferenceIdeal.Gen.facts,
  Cert.FfnBwdKernel.Gen.facts, Cert.FfnBwdKernelIdeal.Gen.facts, Cert.FfnBwdReferenceIdeal.Gen.facts,
  Cert.InProjBwdKernel.Gen.facts, Cert.InProjBwdKernelIdeal.Gen.facts, Cert.InProjBwdReferenceIdeal.Gen.facts,
  Cert.FfnOutLossKernel.Gen.facts, Cert.FfnOutLossKernelIdeal.Gen.facts, Cert.FfnOutLossReferenceIdeal.Gen.facts,
  Cert.InProjKernel.Gen.facts, Cert.InProjKernelIdeal.Gen.facts, Cert.InProjReferenceIdeal.Gen.facts,
  Cert.FfnInFirstKernel.Gen.facts, Cert.FfnInFirstKernelIdeal.Gen.facts, Cert.FfnInFirstReferenceIdeal.Gen.facts,
  Cert.FfnInSecondKernel.Gen.facts, Cert.FfnInSecondKernelIdeal.Gen.facts, Cert.FfnInSecondReferenceIdeal.Gen.facts,
  Cert.MixOutFirstKernel.Gen.facts, Cert.MixOutFirstKernelIdeal.Gen.facts, Cert.MixOutFirstReferenceIdeal.Gen.facts,
  Cert.MixOutSecondKernel.Gen.facts, Cert.MixOutSecondKernelIdeal.Gen.facts, Cert.MixOutSecondReferenceIdeal.Gen.facts,
  Cert.AttnFwdKernel.Gen.facts, Cert.AttnFwdKernelIdeal.Gen.facts, Cert.AttnFwdReferenceIdeal.Gen.facts, Cert.FfnBwd.facts_pre, Cert.InProjBwd.facts_pre, Cert.FfnOutLoss.facts_pre, Cert.AttnFwd.facts_pre,
  fun m ρ _ => Cert.MixKernel.Gen.frame m ρ, fun m ρ _ => Cert.MixKernelIdeal.Gen.frame m ρ, Cert.Mix.frame_reference,
  fun m ρ _ => Cert.GradFfnInKernel.Gen.frame m ρ, fun m ρ _ => Cert.GradFfnInKernelIdeal.Gen.frame m ρ, Cert.GradFfnIn.frame_reference,
  fun m ρ _ => Cert.GradFfnDownKernel.Gen.frame m ρ, fun m ρ _ => Cert.GradFfnDownKernelIdeal.Gen.frame m ρ, Cert.GradFfnDown.frame_reference,
  fun m ρ _ => Cert.GradOutKernel.Gen.frame m ρ, fun m ρ _ => Cert.GradOutKernelIdeal.Gen.frame m ρ, Cert.GradOut.frame_reference,
  fun m ρ _ => Cert.GradBranchKernel.Gen.frame m ρ, fun m ρ _ => Cert.GradBranchKernelIdeal.Gen.frame m ρ, Cert.GradBranch.frame_reference,
  fun m ρ _ => Cert.GradInKernel.Gen.frame m ρ, fun m ρ _ => Cert.GradInKernelIdeal.Gen.frame m ρ, Cert.GradIn.frame_reference,
  fun m ρ _ => Cert.FfnBwdKernel.Gen.frame m ρ, fun m ρ _ => Cert.FfnBwdKernelIdeal.Gen.frame m ρ, fun m ρ _ => Cert.FfnBwdKernelIdeal.Gen.frame m ρ, Cert.FfnBwd.frame_reference, fun m ρ _ => Cert.FfnBwd.frame_reference m ρ trivial,
  fun m ρ _ => Cert.InProjBwdKernel.Gen.frame m ρ, fun m ρ _ => Cert.InProjBwdKernelIdeal.Gen.frame m ρ, fun m ρ _ => Cert.InProjBwdKernelIdeal.Gen.frame m ρ, Cert.InProjBwd.frame_reference, fun m ρ _ => Cert.InProjBwd.frame_reference m ρ trivial,
  fun m ρ _ => Cert.FfnOutLossKernel.Gen.frame m ρ, fun m ρ _ => Cert.FfnOutLossKernelIdeal.Gen.frame m ρ, fun m ρ _ => Cert.FfnOutLossKernelIdeal.Gen.frame m ρ, Cert.FfnOutLoss.frame_reference, fun m ρ _ => Cert.FfnOutLoss.frame_reference m ρ trivial,
  fun m ρ _ => Cert.InProjKernel.Gen.frame m ρ, fun m ρ _ => Cert.InProjKernelIdeal.Gen.frame m ρ, Cert.InProj.frame_reference,
  fun m ρ _ => Cert.FfnInFirstKernel.Gen.frame m ρ, fun m ρ _ => Cert.FfnInFirstKernelIdeal.Gen.frame m ρ, Cert.FfnInFirst.frame_reference,
  fun m ρ _ => Cert.FfnInSecondKernel.Gen.frame m ρ, fun m ρ _ => Cert.FfnInSecondKernelIdeal.Gen.frame m ρ, Cert.FfnInSecond.frame_reference,
  fun m ρ _ => Cert.MixOutFirstKernel.Gen.frame m ρ, fun m ρ _ => Cert.MixOutFirstKernelIdeal.Gen.frame m ρ, Cert.MixOutFirst.frame_reference,
  fun m ρ _ => Cert.MixOutSecondKernel.Gen.frame m ρ, fun m ρ _ => Cert.MixOutSecondKernelIdeal.Gen.frame m ρ, Cert.MixOutSecond.frame_reference,
  fun m ρ _ => Cert.AttnFwdKernel.Gen.frame m ρ, fun m ρ _ => Cert.AttnFwdKernelIdeal.Gen.frame m ρ, fun m ρ _ => Cert.AttnFwdKernelIdeal.Gen.frame m ρ, Cert.AttnFwd.frame_reference, fun m ρ _ => Cert.AttnFwd.frame_reference m ρ trivial,
  trivial, Cert.Mix.algebraic,
  trivial, Cert.GradFfnIn.algebraic,
  trivial, Cert.GradFfnDown.algebraic,
  trivial, Cert.GradOut.algebraic,
  trivial, Cert.GradBranch.algebraic,
  trivial, Cert.GradIn.algebraic,
  trivial, Cert.FfnBwd.algebraic,
  trivial, Cert.InProjBwd.algebraic,
  trivial, Cert.FfnOutLoss.algebraic,
  trivial, Cert.InProj.algebraic,
  trivial, Cert.FfnInFirst.algebraic,
  trivial, Cert.FfnInSecond.algebraic,
  trivial, Cert.MixOutFirst.algebraic,
  trivial, Cert.MixOutSecond.algebraic,
  Cert.AttnFwd.preserves, Cert.AttnFwd.algebraic⟩

end Cert.Proof

end
